-- ==== Defs.lean ====
def Pre_BwdQ (m : (ℓ : Loc Cert.BwdQ.nD Cert.BwdQ.τ Cert.BwdQ.sig) → Buf (Elt Bits) ℓ) : Prop :=
  True

def Pre_BwdQIdeal (m : (ℓ : Loc Cert.BwdQIdeal.nD Cert.BwdQIdeal.τ Cert.BwdQIdeal.sig) → Buf (Elt Ideal) ℓ) : Prop :=
  True

def Pre_BwdQIdeal_finite [hPre_finite : Cert.Pre_finite.Facts] (m : (ℓ : Loc Cert.BwdQIdeal.nD Cert.BwdQIdeal.τ Cert.BwdQIdeal.sig) → Buf (Elt Ideal) ℓ) : Prop :=
  ∀ c : Dev Cert.BwdQIdeal.nD,
    (Cert.Pre_finite.fn (F := Ideal) (m ((c.tc : Thread Cert.BwdQIdeal.nD Cert.BwdQIdeal.τ).loc Cert.BwdQIdeal.main_arg0)) (m ((c.tc : Thread Cert.BwdQIdeal.nD Cert.BwdQIdeal.τ).loc Cert.BwdQIdeal.main_arg1)) (m ((c.tc : Thread Cert.BwdQIdeal.nD Cert.BwdQIdeal.τ).loc Cert.BwdQIdeal.main_arg2)) (m ((c.tc : Thread Cert.BwdQIdeal.nD Cert.BwdQIdeal.τ).loc Cert.BwdQIdeal.main_arg3)) (m ((c.tc : Thread Cert.BwdQIdeal.nD Cert.BwdQIdeal.τ).loc Cert.BwdQIdeal.main_arg4))) = (fun _ => 1#1)

def Pre_RefQIdeal (m : (ℓ : Loc Cert.RefQIdeal.nD Cert.RefQIdeal.τ Cert.RefQIdeal.sig) → Buf (Elt Ideal) ℓ) : Prop :=
  True

def Pre_RefQIdeal_finite [hPre_finite : Cert.Pre_finite.Facts] (m : (ℓ : Loc Cert.RefQIdeal.nD Cert.RefQIdeal.τ Cert.RefQIdeal.sig) → Buf (Elt Ideal) ℓ) : Prop :=
  ∀ c : Dev Cert.RefQIdeal.nD,
    (Cert.Pre_finite.fn (F := Ideal) (m ((c.tc : Thread Cert.RefQIdeal.nD Cert.RefQIdeal.τ).loc Cert.RefQIdeal.main_arg0)) (m ((c.tc : Thread Cert.RefQIdeal.nD Cert.RefQIdeal.τ).loc Cert.RefQIdeal.main_arg1)) (m ((c.tc : Thread Cert.RefQIdeal.nD Cert.RefQIdeal.τ).loc Cert.RefQIdeal.main_arg2)) (m ((c.tc : Thread Cert.RefQIdeal.nD Cert.RefQIdeal.τ).loc Cert.RefQIdeal.main_arg3)) (m ((c.tc : Thread Cert.RefQIdeal.nD Cert.RefQIdeal.τ).loc Cert.RefQIdeal.main_arg4))) = (fun _ => 1#1)

def Pre_BwdKv (m : (ℓ : Loc Cert.BwdKv.nD Cert.BwdKv.τ Cert.BwdKv.sig) → Buf (Elt Bits) ℓ) : Prop :=
  True

def Pre_BwdKvIdeal (m : (ℓ : Loc Cert.BwdKvIdeal.nD Cert.BwdKvIdeal.τ Cert.BwdKvIdeal.sig) → Buf (Elt Ideal) ℓ) : Prop :=
  True

def Pre_BwdKvIdeal_finite [hPre_finite : Cert.Pre_finite.Facts] (m : (ℓ : Loc Cert.BwdKvIdeal.nD Cert.BwdKvIdeal.τ Cert.BwdKvIdeal.sig) → Buf (Elt Ideal) ℓ) : Prop :=
  ∀ c : Dev Cert.BwdKvIdeal.nD,
    (Cert.Pre_finite.fn (F := Ideal) (m ((c.tc : Thread Cert.BwdKvIdeal.nD Cert.BwdKvIdeal.τ).loc Cert.BwdKvIdeal.main_arg0)) (m ((c.tc : Thread Cert.BwdKvIdeal.nD Cert.BwdKvIdeal.τ).loc Cert.BwdKvIdeal.main_arg1)) (m ((c.tc : Thread Cert.BwdKvIdeal.nD Cert.BwdKvIdeal.τ).loc Cert.BwdKvIdeal.main_arg2)) (m ((c.tc : Thread Cert.BwdKvIdeal.nD Cert.BwdKvIdeal.τ).loc Cert.BwdKvIdeal.main_arg3)) (m ((c.tc : Thread Cert.BwdKvIdeal.nD Cert.BwdKvIdeal.τ).loc Cert.BwdKvIdeal.main_arg4))) = (fun _ => 1#1)

def Pre_RefKvIdeal (m : (ℓ : Loc Cert.RefKvIdeal.nD Cert.RefKvIdeal.τ Cert.RefKvIdeal.sig) → Buf (Elt Ideal) ℓ) : Prop :=
  True

def Pre_RefKvIdeal_finite [hPre_finite : Cert.Pre_finite.Facts] (m : (ℓ : Loc Cert.RefKvIdeal.nD Cert.RefKvIdeal.τ Cert.RefKvIdeal.sig) → Buf (Elt Ideal) ℓ) : Prop :=
  ∀ c : Dev Cert.RefKvIdeal.nD,
    (Cert.Pre_finite.fn (F := Ideal) (m ((c.tc : Thread Cert.RefKvIdeal.nD Cert.RefKvIdeal.τ).loc Cert.RefKvIdeal.main_arg0)) (m ((c.tc : Thread Cert.RefKvIdeal.nD Cert.RefKvIdeal.τ).loc Cert.RefKvIdeal.main_arg1)) (m ((c.tc : Thread Cert.RefKvIdeal.nD Cert.RefKvIdeal.τ).loc Cert.RefKvIdeal.main_arg2)) (m ((c.tc : Thread Cert.RefKvIdeal.nD Cert.RefKvIdeal.τ).loc Cert.RefKvIdeal.main_arg3)) (m ((c.tc : Thread Cert.RefKvIdeal.nD Cert.RefKvIdeal.τ).loc Cert.RefKvIdeal.main_arg4))) = (fun _ => 1#1)

def Pre_Fwd (m : (ℓ : Loc Cert.Fwd.nD Cert.Fwd.τ Cert.Fwd.sig) → Buf (Elt Bits) ℓ) : Prop :=
  True

def Pre_FwdIdeal (m : (ℓ : Loc Cert.FwdIdeal.nD Cert.FwdIdeal.τ Cert.FwdIdeal.sig) → Buf (Elt Ideal) ℓ) : Prop :=
  True

def Pre_FwdIdeal_finite_fwd [hPre_finite_fwd : Cert.Pre_finite_fwd.Facts] (m : (ℓ : Loc Cert.FwdIdeal.nD Cert.FwdIdeal.τ Cert.FwdIdeal.sig) → Buf (Elt Ideal) ℓ) : Prop :=
  ∀ c : Dev Cert.FwdIdeal.nD,
    (Cert.Pre_finite_fwd.fn (F := Ideal) (m ((c.tc : Thread Cert.FwdIdeal.nD Cert.FwdIdeal.τ).loc Cert.FwdIdeal.main_arg0)) (m ((c.tc : Thread Cert.FwdIdeal.nD Cert.FwdIdeal.τ).loc Cert.FwdIdeal.main_arg1)) (m ((c.tc : Thread Cert.FwdIdeal.nD Cert.FwdIdeal.τ).loc Cert.FwdIdeal.main_arg2)) (m ((c.tc : Thread Cert.FwdIdeal.nD Cert.FwdIdeal.τ).loc Cert.FwdIdeal.main_arg3))) = (fun _ => 1#1)

def Pre_RefFwdIdeal (m : (ℓ : Loc Cert.RefFwdIdeal.nD Cert.RefFwdIdeal.τ Cert.RefFwdIdeal.sig) → Buf (Elt Ideal) ℓ) : Prop :=
  True

def Pre_RefFwdIdeal_finite_fwd [hPre_finite_fwd : Cert.Pre_finite_fwd.Facts] (m : (ℓ : Loc Cert.RefFwdIdeal.nD Cert.RefFwdIdeal.τ Cert.RefFwdIdeal.sig) → Buf (Elt Ideal) ℓ) : Prop :=
  ∀ c : Dev Cert.RefFwdIdeal.nD,
    (Cert.Pre_finite_fwd.fn (F := Ideal) (m ((c.tc : Thread Cert.RefFwdIdeal.nD Cert.RefFwdIdeal.τ).loc Cert.RefFwdIdeal.main_arg0)) (m ((c.tc : Thread Cert.RefFwdIdeal.nD Cert.RefFwdIdeal.τ).loc Cert.RefFwdIdeal.main_arg1)) (m ((c.tc : Thread Cert.RefFwdIdeal.nD Cert.RefFwdIdeal.τ).loc Cert.RefFwdIdeal.main_arg2)) (m ((c.tc : Thread Cert.RefFwdIdeal.nD Cert.RefFwdIdeal.τ).loc Cert.RefFwdIdeal.main_arg3))) = (fun _ => 1#1)

def Pre_DwDown (m : (ℓ : Loc Cert.DwDown.nD Cert.DwDown.τ Cert.DwDown.sig) → Buf (Elt Bits) ℓ) : Prop :=
  True

def Pre_DwDownIdeal (m : (ℓ : Loc Cert.DwDownIdeal.nD Cert.DwDownIdeal.τ Cert.DwDownIdeal.sig) → Buf (Elt Ideal) ℓ) : Prop :=
  True

def Pre_RefDwDownIdeal (m : (ℓ : Loc Cert.RefDwDownIdeal.nD Cert.RefDwDownIdeal.τ Cert.RefDwDownIdeal.sig) → Buf (Elt Ideal) ℓ) : Prop :=
  True

def Pre_Dact (m : (ℓ : Loc Cert.Dact.nD Cert.Dact.τ Cert.Dact.sig) → Buf (Elt Bits) ℓ) : Prop :=
  True

def Pre_DactIdeal (m : (ℓ : Loc Cert.DactIdeal.nD Cert.DactIdeal.τ Cert.DactIdeal.sig) → Buf (Elt Ideal) ℓ) : Prop :=
  True

def Pre_RefDactIdeal (m : (ℓ : Loc Cert.RefDactIdeal.nD Cert.RefDactIdeal.τ Cert.RefDactIdeal.sig) → Buf (Elt Ideal) ℓ) : Prop :=
  True

def Pre_DwUp (m : (ℓ : Loc Cert.DwUp.nD Cert.DwUp.τ Cert.DwUp.sig) → Buf (Elt Bits) ℓ) : Prop :=
  True

def Pre_DwUpIdeal (m : (ℓ : Loc Cert.DwUpIdeal.nD Cert.DwUpIdeal.τ Cert.DwUpIdeal.sig) → Buf (Elt Ideal) ℓ) : Prop :=
  True

def Pre_RefDwUpIdeal (m : (ℓ : Loc Cert.RefDwUpIdeal.nD Cert.RefDwUpIdeal.τ Cert.RefDwUpIdeal.sig) → Buf (Elt Ideal) ℓ) : Prop :=
  True

def Pre_DxUp (m : (ℓ : Loc Cert.DxUp.nD Cert.DxUp.τ Cert.DxUp.sig) → Buf (Elt Bits) ℓ) : Prop :=
  True

def Pre_DxUpIdeal (m : (ℓ : Loc Cert.DxUpIdeal.nD Cert.DxUpIdeal.τ Cert.DxUpIdeal.sig) → Buf (Elt Ideal) ℓ) : Prop :=
  True

def Pre_RefDxUpIdeal (m : (ℓ : Loc Cert.RefDxUpIdeal.nD Cert.RefDxUpIdeal.τ Cert.RefDxUpIdeal.sig) → Buf (Elt Ideal) ℓ) : Prop :=
  True

def Pre_DwOut (m : (ℓ : Loc Cert.DwOut.nD Cert.DwOut.τ Cert.DwOut.sig) → Buf (Elt Bits) ℓ) : Prop :=
  True

def Pre_DwOutIdeal (m : (ℓ : Loc Cert.DwOutIdeal.nD Cert.DwOutIdeal.τ Cert.DwOutIdeal.sig) → Buf (Elt Ideal) ℓ) : Prop :=
  True

def Pre_RefDwOutIdeal (m : (ℓ : Loc Cert.RefDwOutIdeal.nD Cert.RefDwOutIdeal.τ Cert.RefDwOutIdeal.sig) → Buf (Elt Ideal) ℓ) : Prop :=
  True

def Pre_Dmerged (m : (ℓ : Loc Cert.Dmerged.nD Cert.Dmerged.τ Cert.Dmerged.sig) → Buf (Elt Bits) ℓ) : Prop :=
  True

def Pre_DmergedIdeal (m : (ℓ : Loc Cert.DmergedIdeal.nD Cert.DmergedIdeal.τ Cert.DmergedIdeal.sig) → Buf (Elt Ideal) ℓ) : Prop :=
  True

def Pre_RefDmergedIdeal (m : (ℓ : Loc Cert.RefDmergedIdeal.nD Cert.RefDmergedIdeal.τ Cert.RefDmergedIdeal.sig) → Buf (Elt Ideal) ℓ) : Prop :=
  True

def Pre_DwProj (m : (ℓ : Loc Cert.DwProj.nD Cert.DwProj.τ Cert.DwProj.sig) → Buf (Elt Bits) ℓ) : Prop :=
  True

def Pre_DwProjIdeal (m : (ℓ : Loc Cert.DwProjIdeal.nD Cert.DwProjIdeal.τ Cert.DwProjIdeal.sig) → Buf (Elt Ideal) ℓ) : Prop :=
  True

def Pre_RefDwProjIdeal (m : (ℓ : Loc Cert.RefDwProjIdeal.nD Cert.RefDwProjIdeal.τ Cert.RefDwProjIdeal.sig) → Buf (Elt Ideal) ℓ) : Prop :=
  True

def Pre_DyProj (m : (ℓ : Loc Cert.DyProj.nD Cert.DyProj.τ Cert.DyProj.sig) → Buf (Elt Bits) ℓ) : Prop :=
  True

def Pre_DyProjIdeal (m : (ℓ : Loc Cert.DyProjIdeal.nD Cert.DyProjIdeal.τ Cert.DyProjIdeal.sig) → Buf (Elt Ideal) ℓ) : Prop :=
  True

def Pre_RefDyProjIdeal (m : (ℓ : Loc Cert.RefDyProjIdeal.nD Cert.RefDyProjIdeal.τ Cert.RefDyProjIdeal.sig) → Buf (Elt Ideal) ℓ) : Prop :=
  True

def Pre_DyProjB (m : (ℓ : Loc Cert.DyProjB.nD Cert.DyProjB.τ Cert.DyProjB.sig) → Buf (Elt Bits) ℓ) : Prop :=
  True

def Pre_DyProjBIdeal (m : (ℓ : Loc Cert.DyProjBIdeal.nD Cert.DyProjBIdeal.τ Cert.DyProjBIdeal.sig) → Buf (Elt Ideal) ℓ) : Prop :=
  True

def Pre_RefDyProjBIdeal (m : (ℓ : Loc Cert.RefDyProjBIdeal.nD Cert.RefDyProjBIdeal.τ Cert.RefDyProjBIdeal.sig) → Buf (Elt Ideal) ℓ) : Prop :=
  True

def Pre_DwIn (m : (ℓ : Loc Cert.DwIn.nD Cert.DwIn.τ Cert.DwIn.sig) → Buf (Elt Bits) ℓ) : Prop :=
  True

def Pre_DwInIdeal (m : (ℓ : Loc Cert.DwInIdeal.nD Cert.DwInIdeal.τ Cert.DwInIdeal.sig) → Buf (Elt Ideal) ℓ) : Prop :=
  True

def Pre_RefDwInIdeal (m : (ℓ : Loc Cert.RefDwInIdeal.nD Cert.RefDwInIdeal.τ Cert.RefDwInIdeal.sig) → Buf (Elt Ideal) ℓ) : Prop :=
  True

def Pre_DxIn (m : (ℓ : Loc Cert.DxIn.nD Cert.DxIn.τ Cert.DxIn.sig) → Buf (Elt Bits) ℓ) : Prop :=
  True

def Pre_DxInIdeal (m : (ℓ : Loc Cert.DxInIdeal.nD Cert.DxInIdeal.τ Cert.DxInIdeal.sig) → Buf (Elt Ideal) ℓ) : Prop :=
  True

def Pre_RefDxInIdeal (m : (ℓ : Loc Cert.RefDxInIdeal.nD Cert.RefDxInIdeal.τ Cert.RefDxInIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_RefOutProjIdeal (m : (ℓ : Loc Cert.RefOutProjIdeal.nD Cert.RefOutProjIdeal.τ Cert.RefOutProjIdeal.sig) → Buf (Elt Ideal) ℓ) : Prop :=
  True

def Pre_UpGate (m : (ℓ : Loc Cert.UpGate.nD Cert.UpGate.τ Cert.UpGate.sig) → Buf (Elt Bits) ℓ) : Prop :=
  True

def Pre_UpGateIdeal (m : (ℓ : Loc Cert.UpGateIdeal.nD Cert.UpGateIdeal.τ Cert.UpGateIdeal.sig) → Buf (Elt Ideal) ℓ) : Prop :=
  True

def Pre_RefUpGateIdeal (m : (ℓ : Loc Cert.RefUpGateIdeal.nD Cert.RefUpGateIdeal.τ Cert.RefUpGateIdeal.sig) → Buf (Elt Ideal) ℓ) : Prop :=
  True

def Pre_UpVal (m : (ℓ : Loc Cert.UpVal.nD Cert.UpVal.τ Cert.UpVal.sig) → Buf (Elt Bits) ℓ) : Prop :=
  True

def Pre_UpValIdeal (m : (ℓ : Loc Cert.UpValIdeal.nD Cert.UpValIdeal.τ Cert.UpValIdeal.sig) → Buf (Elt Ideal) ℓ) : Prop :=
  True

def Pre_RefUpValIdeal (m : (ℓ : Loc Cert.RefUpValIdeal.nD Cert.RefUpValIdeal.τ Cert.RefUpValIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_RefDownIdeal (m : (ℓ : Loc Cert.RefDownIdeal.nD Cert.RefDownIdeal.τ Cert.RefDownIdeal.sig) → Buf (Elt Ideal) ℓ) : Prop :=
  True

def quiescent_BwdQ [hBwdQ : Cert.BwdQ.Facts] : Prop :=
  ∀ (m : (ℓ : Loc Cert.BwdQ.nD Cert.BwdQ.τ Cert.BwdQ.sig) → Buf (Elt Bits) ℓ) (g : Dev Cert.BwdQ.nD → PrngReg), Pre_BwdQ m →
    θ_run (Cert.BwdQ.defs (F := Bits)) (onTc (τ := Cert.BwdQ.τ) (Cert.BwdQ.main (F := Bits))) ⟨m, fun _ => 0, g⟩ (fun r => (∀ c : Dev Cert.BwdQ.nD,
      r.2.mem ((c.tc : Thread Cert.BwdQ.nD Cert.BwdQ.τ).loc Cert.BwdQ.main_arg0) = m ((c.tc : Thread Cert.BwdQ.nD Cert.BwdQ.τ).loc Cert.BwdQ.main_arg0)
      ∧ r.2.mem ((c.tc : Thread Cert.BwdQ.nD Cert.BwdQ.τ).loc Cert.BwdQ.main_arg1) = m ((c.tc : Thread Cert.BwdQ.nD Cert.BwdQ.τ).loc Cert.BwdQ.main_arg1)
      ∧ r.2.mem ((c.tc : Thread Cert.BwdQ.nD Cert.BwdQ.τ).loc Cert.BwdQ.main_arg2) = m ((c.tc : Thread Cert.BwdQ.nD Cert.BwdQ.τ).loc Cert.BwdQ.main_arg2)
      ∧ r.2.mem ((c.tc : Thread Cert.BwdQ.nD Cert.BwdQ.τ).loc Cert.BwdQ.main_arg3) = m ((c.tc : Thread Cert.BwdQ.nD Cert.BwdQ.τ).loc Cert.BwdQ.main_arg3)
      ∧ r.2.mem ((c.tc : Thread Cert.BwdQ.nD Cert.BwdQ.τ).loc Cert.BwdQ.main_arg4) = m ((c.tc : Thread Cert.BwdQ.nD Cert.BwdQ.τ).loc Cert.BwdQ.main_arg4))
      ∧ r.2.sem = fun _ => 0)

def quiescent_BwdQIdeal [hBwdQIdeal : Cert.BwdQIdeal.Facts] : Prop :=
  ∀ (m : (ℓ : Loc Cert.BwdQIdeal.nD Cert.BwdQIdeal.τ Cert.BwdQIdeal.sig) → Buf (Elt Ideal) ℓ) (g : Dev Cert.BwdQIdeal.nD → PrngReg), Pre_BwdQIdeal m →
    θ_run (Cert.BwdQIdeal.defs (F := Ideal)) (onTc (τ := Cert.BwdQIdeal.τ) (Cert.BwdQIdeal.main (F := Ideal))) ⟨m, fun _ => 0, g⟩ (fun r => (∀ c : Dev Cert.BwdQIdeal.nD,
      r.2.mem ((c.tc : Thread Cert.BwdQIdeal.nD Cert.BwdQIdeal.τ).loc Cert.BwdQIdeal.main_arg0) = m ((c.tc : Thread Cert.BwdQIdeal.nD Cert.BwdQIdeal.τ).loc Cert.BwdQIdeal.main_arg0)
      ∧ r.2.mem ((c.tc : Thread Cert.BwdQIdeal.nD Cert.BwdQIdeal.τ).loc Cert.BwdQIdeal.main_arg1) = m ((c.tc : Thread Cert.BwdQIdeal.nD Cert.BwdQIdeal.τ).loc Cert.BwdQIdeal.main_arg1)
      ∧ r.2.mem ((c.tc : Thread Cert.BwdQIdeal.nD Cert.BwdQIdeal.τ).loc Cert.BwdQIdeal.main_arg2) = m ((c.tc : Thread Cert.BwdQIdeal.nD Cert.BwdQIdeal.τ).loc Cert.BwdQIdeal.main_arg2)
      ∧ r.2.mem ((c.tc : Thread Cert.BwdQIdeal.nD Cert.BwdQIdeal.τ).loc Cert.BwdQIdeal.main_arg3) = m ((c.tc : Thread Cert.BwdQIdeal.nD Cert.BwdQIdeal.τ).loc Cert.BwdQIdeal.main_arg3)
      ∧ r.2.mem ((c.tc : Thread Cert.BwdQIdeal.nD Cert.BwdQIdeal.τ).loc Cert.BwdQIdeal.main_arg4) = m ((c.tc : Thread Cert.BwdQIdeal.nD Cert.BwdQIdeal.τ).loc Cert.BwdQIdeal.main_arg4))
      ∧ r.2.sem = fun _ => 0)

def quiescent_BwdQIdeal_pre_finite [hBwdQIdeal : Cert.BwdQIdeal.Facts] [hPre_finite : Cert.Pre_finite.Facts] : Prop :=
  ∀ (m : (ℓ : Loc Cert.BwdQIdeal.nD Cert.BwdQIdeal.τ Cert.BwdQIdeal.sig) → Buf (Elt Ideal) ℓ) (g : Dev Cert.BwdQIdeal.nD → PrngReg), Pre_BwdQIdeal_finite m →
    θ_run (Cert.BwdQIdeal.defs (F := Ideal)) (onTc (τ := Cert.BwdQIdeal.τ) (Cert.BwdQIdeal.main (F := Ideal))) ⟨m, fun _ => 0, g⟩ (fun r => (∀ c : Dev Cert.BwdQIdeal.nD,
      r.2.mem ((c.tc : Thread Cert.BwdQIdeal.nD Cert.BwdQIdeal.τ).loc Cert.BwdQIdeal.main_arg0) = m ((c.tc : Thread Cert.BwdQIdeal.nD Cert.BwdQIdeal.τ).loc Cert.BwdQIdeal.main_arg0)
      ∧ r.2.mem ((c.tc : Thread Cert.BwdQIdeal.nD Cert.BwdQIdeal.τ).loc Cert.BwdQIdeal.main_arg1) = m ((c.tc : Thread Cert.BwdQIdeal.nD Cert.BwdQIdeal.τ).loc Cert.BwdQIdeal.main_arg1)
      ∧ r.2.mem ((c.tc : Thread Cert.BwdQIdeal.nD Cert.BwdQIdeal.τ).loc Cert.BwdQIdeal.main_arg2) = m ((c.tc : Thread Cert.BwdQIdeal.nD Cert.BwdQIdeal.τ).loc Cert.BwdQIdeal.main_arg2)
      ∧ r.2.mem ((c.tc : Thread Cert.BwdQIdeal.nD Cert.BwdQIdeal.τ).loc Cert.BwdQIdeal.main_arg3) = m ((c.tc : Thread Cert.BwdQIdeal.nD Cert.BwdQIdeal.τ).loc Cert.BwdQIdeal.main_arg3)
      ∧ r.2.mem ((c.tc : Thread Cert.BwdQIdeal.nD Cert.BwdQIdeal.τ).loc Cert.BwdQIdeal.main_arg4) = m ((c.tc : Thread Cert.BwdQIdeal.nD Cert.BwdQIdeal.τ).loc Cert.BwdQIdeal.main_arg4))
      ∧ r.2.sem = fun _ => 0)

def quiescent_RefQIdeal [hRefQIdeal : Cert.RefQIdeal.Facts] : Prop :=
  ∀ (m : (ℓ : Loc Cert.RefQIdeal.nD Cert.RefQIdeal.τ Cert.RefQIdeal.sig) → Buf (Elt Ideal) ℓ) (g : Dev Cert.RefQIdeal.nD → PrngReg), Pre_RefQIdeal m →
    θ_run (Cert.RefQIdeal.defs (F := Ideal)) (onTc (τ := Cert.RefQIdeal.τ) (Cert.RefQIdeal.main (F := Ideal))) ⟨m, fun _ => 0, g⟩ (fun r => (∀ c : Dev Cert.RefQIdeal.nD,
      r.2.mem ((c.tc : Thread Cert.RefQIdeal.nD Cert.RefQIdeal.τ).loc Cert.RefQIdeal.main_arg0) = m ((c.tc : Thread Cert.RefQIdeal.nD Cert.RefQIdeal.τ).loc Cert.RefQIdeal.main_arg0)
      ∧ r.2.mem ((c.tc : Thread Cert.RefQIdeal.nD Cert.RefQIdeal.τ).loc Cert.RefQIdeal.main_arg1) = m ((c.tc : Thread Cert.RefQIdeal.nD Cert.RefQIdeal.τ).loc Cert.RefQIdeal.main_arg1)
      ∧ r.2.mem ((c.tc : Thread Cert.RefQIdeal.nD Cert.RefQIdeal.τ).loc Cert.RefQIdeal.main_arg2) = m ((c.tc : Thread Cert.RefQIdeal.nD Cert.RefQIdeal.τ).loc Cert.RefQIdeal.main_arg2)
      ∧ r.2.mem ((c.tc : Thread Cert.RefQIdeal.nD Cert.RefQIdeal.τ).loc Cert.RefQIdeal.main_arg3) = m ((c.tc : Thread Cert.RefQIdeal.nD Cert.RefQIdeal.τ).loc Cert.RefQIdeal.main_arg3)
      ∧ r.2.mem ((c.tc : Thread Cert.RefQIdeal.nD Cert.RefQIdeal.τ).loc Cert.RefQIdeal.main_arg4) = m ((c.tc : Thread Cert.RefQIdeal.nD Cert.RefQIdeal.τ).loc Cert.RefQIdeal.main_arg4))
      ∧ r.2.sem = fun _ => 0)

def quiescent_RefQIdeal_pre_finite [hRefQIdeal : Cert.RefQIdeal.Facts] [hPre_finite : Cert.Pre_finite.Facts] : Prop :=
  ∀ (m : (ℓ : Loc Cert.RefQIdeal.nD Cert.RefQIdeal.τ Cert.RefQIdeal.sig) → Buf (Elt Ideal) ℓ) (g : Dev Cert.RefQIdeal.nD → PrngReg), Pre_RefQIdeal_finite m →
    θ_run (Cert.RefQIdeal.defs (F := Ideal)) (onTc (τ := Cert.RefQIdeal.τ) (Cert.RefQIdeal.main (F := Ideal))) ⟨m, fun _ => 0, g⟩ (fun r => (∀ c : Dev Cert.RefQIdeal.nD,
      r.2.mem ((c.tc : Thread Cert.RefQIdeal.nD Cert.RefQIdeal.τ).loc Cert.RefQIdeal.main_arg0) = m ((c.tc : Thread Cert.RefQIdeal.nD Cert.RefQIdeal.τ).loc Cert.RefQIdeal.main_arg0)
      ∧ r.2.mem ((c.tc : Thread Cert.RefQIdeal.nD Cert.RefQIdeal.τ).loc Cert.RefQIdeal.main_arg1) = m ((c.tc : Thread Cert.RefQIdeal.nD Cert.RefQIdeal.τ).loc Cert.RefQIdeal.main_arg1)
      ∧ r.2.mem ((c.tc : Thread Cert.RefQIdeal.nD Cert.RefQIdeal.τ).loc Cert.RefQIdeal.main_arg2) = m ((c.tc : Thread Cert.RefQIdeal.nD Cert.RefQIdeal.τ).loc Cert.RefQIdeal.main_arg2)
      ∧ r.2.mem ((c.tc : Thread Cert.RefQIdeal.nD Cert.RefQIdeal.τ).loc Cert.RefQIdeal.main_arg3) = m ((c.tc : Thread Cert.RefQIdeal.nD Cert.RefQIdeal.τ).loc Cert.RefQIdeal.main_arg3)
      ∧ r.2.mem ((c.tc : Thread Cert.RefQIdeal.nD Cert.RefQIdeal.τ).loc Cert.RefQIdeal.main_arg4) = m ((c.tc : Thread Cert.RefQIdeal.nD Cert.RefQIdeal.τ).loc Cert.RefQIdeal.main_arg4))
      ∧ r.2.sem = fun _ => 0)

def quiescent_BwdKv [hBwdKv : Cert.BwdKv.Facts] : Prop :=
  ∀ (m : (ℓ : Loc Cert.BwdKv.nD Cert.BwdKv.τ Cert.BwdKv.sig) → Buf (Elt Bits) ℓ) (g : Dev Cert.BwdKv.nD → PrngReg), Pre_BwdKv m →
    θ_run (Cert.BwdKv.defs (F := Bits)) (onTc (τ := Cert.BwdKv.τ) (Cert.BwdKv.main (F := Bits))) ⟨m, fun _ => 0, g⟩ (fun r => (∀ c : Dev Cert.BwdKv.nD,
      r.2.mem ((c.tc : Thread Cert.BwdKv.nD Cert.BwdKv.τ).loc Cert.BwdKv.main_arg0) = m ((c.tc : Thread Cert.BwdKv.nD Cert.BwdKv.τ).loc Cert.BwdKv.main_arg0)
      ∧ r.2.mem ((c.tc : Thread Cert.BwdKv.nD Cert.BwdKv.τ).loc Cert.BwdKv.main_arg1) = m ((c.tc : Thread Cert.BwdKv.nD Cert.BwdKv.τ).loc Cert.BwdKv.main_arg1)
      ∧ r.2.mem ((c.tc : Thread Cert.BwdKv.nD Cert.BwdKv.τ).loc Cert.BwdKv.main_arg2) = m ((c.tc : Thread Cert.BwdKv.nD Cert.BwdKv.τ).loc Cert.BwdKv.main_arg2)
      ∧ r.2.mem ((c.tc : Thread Cert.BwdKv.nD Cert.BwdKv.τ).loc Cert.BwdKv.main_arg3) = m ((c.tc : Thread Cert.BwdKv.nD Cert.BwdKv.τ).loc Cert.BwdKv.main_arg3)
      ∧ r.2.mem ((c.tc : Thread Cert.BwdKv.nD Cert.BwdKv.τ).loc Cert.BwdKv.main_arg4) = m ((c.tc : Thread Cert.BwdKv.nD Cert.BwdKv.τ).loc Cert.BwdKv.main_arg4))
      ∧ r.2.sem = fun _ => 0)

def quiescent_BwdKvIdeal [hBwdKvIdeal : Cert.BwdKvIdeal.Facts] : Prop :=
  ∀ (m : (ℓ : Loc Cert.BwdKvIdeal.nD Cert.BwdKvIdeal.τ Cert.BwdKvIdeal.sig) → Buf (Elt Ideal) ℓ) (g : Dev Cert.BwdKvIdeal.nD → PrngReg), Pre_BwdKvIdeal m →
    θ_run (Cert.BwdKvIdeal.defs (F := Ideal)) (onTc (τ := Cert.BwdKvIdeal.τ) (Cert.BwdKvIdeal.main (F := Ideal))) ⟨m, fun _ => 0, g⟩ (fun r => (∀ c : Dev Cert.BwdKvIdeal.nD,
      r.2.mem ((c.tc : Thread Cert.BwdKvIdeal.nD Cert.BwdKvIdeal.τ).loc Cert.BwdKvIdeal.main_arg0) = m ((c.tc : Thread Cert.BwdKvIdeal.nD Cert.BwdKvIdeal.τ).loc Cert.BwdKvIdeal.main_arg0)
      ∧ r.2.mem ((c.tc : Thread Cert.BwdKvIdeal.nD Cert.BwdKvIdeal.τ).loc Cert.BwdKvIdeal.main_arg1) = m ((c.tc : Thread Cert.BwdKvIdeal.nD Cert.BwdKvIdeal.τ).loc Cert.BwdKvIdeal.main_arg1)
      ∧ r.2.mem ((c.tc : Thread Cert.BwdKvIdeal.nD Cert.BwdKvIdeal.τ).loc Cert.BwdKvIdeal.main_arg2) = m ((c.tc : Thread Cert.BwdKvIdeal.nD Cert.BwdKvIdeal.τ).loc Cert.BwdKvIdeal.main_arg2)
      ∧ r.2.mem ((c.tc : Thread Cert.BwdKvIdeal.nD Cert.BwdKvIdeal.τ).loc Cert.BwdKvIdeal.main_arg3) = m ((c.tc : Thread Cert.BwdKvIdeal.nD Cert.BwdKvIdeal.τ).loc Cert.BwdKvIdeal.main_arg3)
      ∧ r.2.mem ((c.tc : Thread Cert.BwdKvIdeal.nD Cert.BwdKvIdeal.τ).loc Cert.BwdKvIdeal.main_arg4) = m ((c.tc : Thread Cert.BwdKvIdeal.nD Cert.BwdKvIdeal.τ).loc Cert.BwdKvIdeal.main_arg4))
      ∧ r.2.sem = fun _ => 0)

def quiescent_BwdKvIdeal_pre_finite [hBwdKvIdeal : Cert.BwdKvIdeal.Facts] [hPre_finite : Cert.Pre_finite.Facts] : Prop :=
  ∀ (m : (ℓ : Loc Cert.BwdKvIdeal.nD Cert.BwdKvIdeal.τ Cert.BwdKvIdeal.sig) → Buf (Elt Ideal) ℓ) (g : Dev Cert.BwdKvIdeal.nD → PrngReg), Pre_BwdKvIdeal_finite m →
    θ_run (Cert.BwdKvIdeal.defs (F := Ideal)) (onTc (τ := Cert.BwdKvIdeal.τ) (Cert.BwdKvIdeal.main (F := Ideal))) ⟨m, fun _ => 0, g⟩ (fun r => (∀ c : Dev Cert.BwdKvIdeal.nD,
      r.2.mem ((c.tc : Thread Cert.BwdKvIdeal.nD Cert.BwdKvIdeal.τ).loc Cert.BwdKvIdeal.main_arg0) = m ((c.tc : Thread Cert.BwdKvIdeal.nD Cert.BwdKvIdeal.τ).loc Cert.BwdKvIdeal.main_arg0)
      ∧ r.2.mem ((c.tc : Thread Cert.BwdKvIdeal.nD Cert.BwdKvIdeal.τ).loc Cert.BwdKvIdeal.main_arg1) = m ((c.tc : Thread Cert.BwdKvIdeal.nD Cert.BwdKvIdeal.τ).loc Cert.BwdKvIdeal.main_arg1)
      ∧ r.2.mem ((c.tc : Thread Cert.BwdKvIdeal.nD Cert.BwdKvIdeal.τ).loc Cert.BwdKvIdeal.main_arg2) = m ((c.tc : Thread Cert.BwdKvIdeal.nD Cert.BwdKvIdeal.τ).loc Cert.BwdKvIdeal.main_arg2)
      ∧ r.2.mem ((c.tc : Thread Cert.BwdKvIdeal.nD Cert.BwdKvIdeal.τ).loc Cert.BwdKvIdeal.main_arg3) = m ((c.tc : Thread Cert.BwdKvIdeal.nD Cert.BwdKvIdeal.τ).loc Cert.BwdKvIdeal.main_arg3)
      ∧ r.2.mem ((c.tc : Thread Cert.BwdKvIdeal.nD Cert.BwdKvIdeal.τ).loc Cert.BwdKvIdeal.main_arg4) = m ((c.tc : Thread Cert.BwdKvIdeal.nD Cert.BwdKvIdeal.τ).loc Cert.BwdKvIdeal.main_arg4))
      ∧ r.2.sem = fun _ => 0)

def quiescent_RefKvIdeal [hRefKvIdeal : Cert.RefKvIdeal.Facts] : Prop :=
  ∀ (m : (ℓ : Loc Cert.RefKvIdeal.nD Cert.RefKvIdeal.τ Cert.RefKvIdeal.sig) → Buf (Elt Ideal) ℓ) (g : Dev Cert.RefKvIdeal.nD → PrngReg), Pre_RefKvIdeal m →
    θ_run (Cert.RefKvIdeal.defs (F := Ideal)) (onTc (τ := Cert.RefKvIdeal.τ) (Cert.RefKvIdeal.main (F := Ideal))) ⟨m, fun _ => 0, g⟩ (fun r => (∀ c : Dev Cert.RefKvIdeal.nD,
      r.2.mem ((c.tc : Thread Cert.RefKvIdeal.nD Cert.RefKvIdeal.τ).loc Cert.RefKvIdeal.main_arg0) = m ((c.tc : Thread Cert.RefKvIdeal.nD Cert.RefKvIdeal.τ).loc Cert.RefKvIdeal.main_arg0)
      ∧ r.2.mem ((c.tc : Thread Cert.RefKvIdeal.nD Cert.RefKvIdeal.τ).loc Cert.RefKvIdeal.main_arg1) = m ((c.tc : Thread Cert.RefKvIdeal.nD Cert.RefKvIdeal.τ).loc Cert.RefKvIdeal.main_arg1)
      ∧ r.2.mem ((c.tc : Thread Cert.RefKvIdeal.nD Cert.RefKvIdeal.τ).loc Cert.RefKvIdeal.main_arg2) = m ((c.tc : Thread Cert.RefKvIdeal.nD Cert.RefKvIdeal.τ).loc Cert.RefKvIdeal.main_arg2)
      ∧ r.2.mem ((c.tc : Thread Cert.RefKvIdeal.nD Cert.RefKvIdeal.τ).loc Cert.RefKvIdeal.main_arg3) = m ((c.tc : Thread Cert.RefKvIdeal.nD Cert.RefKvIdeal.τ).loc Cert.RefKvIdeal.main_arg3)
      ∧ r.2.mem ((c.tc : Thread Cert.RefKvIdeal.nD Cert.RefKvIdeal.τ).loc Cert.RefKvIdeal.main_arg4) = m ((c.tc : Thread Cert.RefKvIdeal.nD Cert.RefKvIdeal.τ).loc Cert.RefKvIdeal.main_arg4))
      ∧ r.2.sem = fun _ => 0)

def quiescent_RefKvIdeal_pre_finite [hRefKvIdeal : Cert.RefKvIdeal.Facts] [hPre_finite : Cert.Pre_finite.Facts] : Prop :=
  ∀ (m : (ℓ : Loc Cert.RefKvIdeal.nD Cert.RefKvIdeal.τ Cert.RefKvIdeal.sig) → Buf (Elt Ideal) ℓ) (g : Dev Cert.RefKvIdeal.nD → PrngReg), Pre_RefKvIdeal_finite m →
    θ_run (Cert.RefKvIdeal.defs (F := Ideal)) (onTc (τ := Cert.RefKvIdeal.τ) (Cert.RefKvIdeal.main (F := Ideal))) ⟨m, fun _ => 0, g⟩ (fun r => (∀ c : Dev Cert.RefKvIdeal.nD,
      r.2.mem ((c.tc : Thread Cert.RefKvIdeal.nD Cert.RefKvIdeal.τ).loc Cert.RefKvIdeal.main_arg0) = m ((c.tc : Thread Cert.RefKvIdeal.nD Cert.RefKvIdeal.τ).loc Cert.RefKvIdeal.main_arg0)
      ∧ r.2.mem ((c.tc : Thread Cert.RefKvIdeal.nD Cert.RefKvIdeal.τ).loc Cert.RefKvIdeal.main_arg1) = m ((c.tc : Thread Cert.RefKvIdeal.nD Cert.RefKvIdeal.τ).loc Cert.RefKvIdeal.main_arg1)
      ∧ r.2.mem ((c.tc : Thread Cert.RefKvIdeal.nD Cert.RefKvIdeal.τ).loc Cert.RefKvIdeal.main_arg2) = m ((c.tc : Thread Cert.RefKvIdeal.nD Cert.RefKvIdeal.τ).loc Cert.RefKvIdeal.main_arg2)
      ∧ r.2.mem ((c.tc : Thread Cert.RefKvIdeal.nD Cert.RefKvIdeal.τ).loc Cert.RefKvIdeal.main_arg3) = m ((c.tc : Thread Cert.RefKvIdeal.nD Cert.RefKvIdeal.τ).loc Cert.RefKvIdeal.main_arg3)
      ∧ r.2.mem ((c.tc : Thread Cert.RefKvIdeal.nD Cert.RefKvIdeal.τ).loc Cert.RefKvIdeal.main_arg4) = m ((c.tc : Thread Cert.RefKvIdeal.nD Cert.RefKvIdeal.τ).loc Cert.RefKvIdeal.main_arg4))
      ∧ r.2.sem = fun _ => 0)

def quiescent_Fwd [hFwd : Cert.Fwd.Facts] : Prop :=
  ∀ (m : (ℓ : Loc Cert.Fwd.nD Cert.Fwd.τ Cert.Fwd.sig) → Buf (Elt Bits) ℓ) (g : Dev Cert.Fwd.nD → PrngReg), Pre_Fwd m →
    θ_run (Cert.Fwd.defs (F := Bits)) (onTc (τ := Cert.Fwd.τ) (Cert.Fwd.main (F := Bits))) ⟨m, fun _ => 0, g⟩ (fun r => (∀ c : Dev Cert.Fwd.nD,
      r.2.mem ((c.tc : Thread Cert.Fwd.nD Cert.Fwd.τ).loc Cert.Fwd.main_arg0) = m ((c.tc : Thread Cert.Fwd.nD Cert.Fwd.τ).loc Cert.Fwd.main_arg0)
      ∧ r.2.mem ((c.tc : Thread Cert.Fwd.nD Cert.Fwd.τ).loc Cert.Fwd.main_arg1) = m ((c.tc : Thread Cert.Fwd.nD Cert.Fwd.τ).loc Cert.Fwd.main_arg1)
      ∧ r.2.mem ((c.tc : Thread Cert.Fwd.nD Cert.Fwd.τ).loc Cert.Fwd.main_arg2) = m ((c.tc : Thread Cert.Fwd.nD Cert.Fwd.τ).loc Cert.Fwd.main_arg2)
      ∧ r.2.mem ((c.tc : Thread Cert.Fwd.nD Cert.Fwd.τ).loc Cert.Fwd.main_arg3) = m ((c.tc : Thread Cert.Fwd.nD Cert.Fwd.τ).loc Cert.Fwd.main_arg3))
      ∧ r.2.sem = fun _ => 0)

def quiescent_FwdIdeal [hFwdIdeal : Cert.FwdIdeal.Facts] : Prop :=
  ∀ (m : (ℓ : Loc Cert.FwdIdeal.nD Cert.FwdIdeal.τ Cert.FwdIdeal.sig) → Buf (Elt Ideal) ℓ) (g : Dev Cert.FwdIdeal.nD → PrngReg), Pre_FwdIdeal m →
    θ_run (Cert.FwdIdeal.defs (F := Ideal)) (onTc (τ := Cert.FwdIdeal.τ) (Cert.FwdIdeal.main (F := Ideal))) ⟨m, fun _ => 0, g⟩ (fun r => (∀ c : Dev Cert.FwdIdeal.nD,
      r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
      ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1)
      ∧ r.2.mem ((c.tc : Thread Cert.FwdIdeal.nD Cert.FwdIdeal.τ).loc Cert.FwdIdeal.main_arg2) = m ((c.tc : Thread Cert.FwdIdeal.nD Cert.FwdIdeal.τ).loc Cert.FwdIdeal.main_arg2)
      ∧ r.2.mem ((c.tc : Thread Cert.FwdIdeal.nD Cert.FwdIdeal.τ).loc Cert.FwdIdeal.main_arg3) = m ((c.tc : Thread Cert.FwdIdeal.nD Cert.FwdIdeal.τ).loc Cert.FwdIdeal.main_arg3))
      ∧ r.2.sem = fun _ => 0)

def quiescent_FwdIdeal_pre_finite_fwd [hFwdIdeal : Cert.FwdIdeal.Facts] [hPre_finite_fwd : Cert.Pre_finite_fwd.Facts] : Prop :=
  ∀ (m : (ℓ : Loc Cert.FwdIdeal.nD Cert.FwdIdeal.τ Cert.FwdIdeal.sig) → Buf (Elt Ideal) ℓ) (g : Dev Cert.FwdIdeal.nD → PrngReg), Pre_FwdIdeal_finite_fwd m →
    θ_run (Cert.FwdIdeal.defs (F := Ideal)) (onTc (τ := Cert.FwdIdeal.τ) (Cert.FwdIdeal.main (F := Ideal))) ⟨m, fun _ => 0, g⟩ (fun r => (∀ c : Dev Cert.FwdIdeal.nD,
      r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
      ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1)
      ∧ r.2.mem ((c.tc : Thread Cert.FwdIdeal.nD Cert.FwdIdeal.τ).loc Cert.FwdIdeal.main_arg2) = m ((c.tc : Thread Cert.FwdIdeal.nD Cert.FwdIdeal.τ).loc Cert.FwdIdeal.main_arg2)
      ∧ r.2.mem ((c.tc : Thread Cert.FwdIdeal.nD Cert.FwdIdeal.τ).loc Cert.FwdIdeal.main_arg3) = m ((c.tc : Thread Cert.FwdIdeal.nD Cert.FwdIdeal.τ).loc Cert.FwdIdeal.main_arg3))
      ∧ r.2.sem = fun _ => 0)

def quiescent_RefFwdIdeal [hRefFwdIdeal : Cert.RefFwdIdeal.Facts] : Prop :=
  ∀ (m : (ℓ : Loc Cert.RefFwdIdeal.nD Cert.RefFwdIdeal.τ Cert.RefFwdIdeal.sig) → Buf (Elt Ideal) ℓ) (g : Dev Cert.RefFwdIdeal.nD → PrngReg), Pre_RefFwdIdeal m →
    θ_run (Cert.RefFwdIdeal.defs (F := Ideal)) (onTc (τ := Cert.RefFwdIdeal.τ) (Cert.RefFwdIdeal.main (F := Ideal))) ⟨m, fun _ => 0, g⟩ (fun r => (∀ c : Dev Cert.RefFwdIdeal.nD,
      r.2.mem ((c.tc : Thread Cert.RefFwdIdeal.nD Cert.RefFwdIdeal.τ).loc Cert.RefFwdIdeal.main_arg0) = m ((c.tc : Thread Cert.RefFwdIdeal.nD Cert.RefFwdIdeal.τ).loc Cert.RefFwdIdeal.main_arg0)
      ∧ r.2.mem ((c.tc : Thread Cert.RefFwdIdeal.nD Cert.RefFwdIdeal.τ).loc Cert.RefFwdIdeal.main_arg1) = m ((c.tc : Thread Cert.RefFwdIdeal.nD Cert.RefFwdIdeal.τ).loc Cert.RefFwdIdeal.main_arg1)
      ∧ r.2.mem ((c.tc : Thread Cert.RefFwdIdeal.nD Cert.RefFwdIdeal.τ).loc Cert.RefFwdIdeal.main_arg2) = m ((c.tc : Thread Cert.RefFwdIdeal.nD Cert.RefFwdIdeal.τ).loc Cert.RefFwdIdeal.main_arg2)
      ∧ r.2.mem ((c.tc : Thread Cert.RefFwdIdeal.nD Cert.RefFwdIdeal.τ).loc Cert.RefFwdIdeal.main_arg3) = m ((c.tc : Thread Cert.RefFwdIdeal.nD Cert.RefFwdIdeal.τ).loc Cert.RefFwdIdeal.main_arg3))
      ∧ r.2.sem = fun _ => 0)

def quiescent_RefFwdIdeal_pre_finite_fwd [hRefFwdIdeal : Cert.RefFwdIdeal.Facts] [hPre_finite_fwd : Cert.Pre_finite_fwd.Facts] : Prop :=
  ∀ (m : (ℓ : Loc Cert.RefFwdIdeal.nD Cert.RefFwdIdeal.τ Cert.RefFwdIdeal.sig) → Buf (Elt Ideal) ℓ) (g : Dev Cert.RefFwdIdeal.nD → PrngReg), Pre_RefFwdIdeal_finite_fwd m →
    θ_run (Cert.RefFwdIdeal.defs (F := Ideal)) (onTc (τ := Cert.RefFwdIdeal.τ) (Cert.RefFwdIdeal.main (F := Ideal))) ⟨m, fun _ => 0, g⟩ (fun r => (∀ c : Dev Cert.RefFwdIdeal.nD,
      r.2.mem ((c.tc : Thread Cert.RefFwdIdeal.nD Cert.RefFwdIdeal.τ).loc Cert.RefFwdIdeal.main_arg0) = m ((c.tc : Thread Cert.RefFwdIdeal.nD Cert.RefFwdIdeal.τ).loc Cert.RefFwdIdeal.main_arg0)
      ∧ r.2.mem ((c.tc : Thread Cert.RefFwdIdeal.nD Cert.RefFwdIdeal.τ).loc Cert.RefFwdIdeal.main_arg1) = m ((c.tc : Thread Cert.RefFwdIdeal.nD Cert.RefFwdIdeal.τ).loc Cert.RefFwdIdeal.main_arg1)
      ∧ r.2.mem ((c.tc : Thread Cert.RefFwdIdeal.nD Cert.RefFwdIdeal.τ).loc Cert.RefFwdIdeal.main_arg2) = m ((c.tc : Thread Cert.RefFwdIdeal.nD Cert.RefFwdIdeal.τ).loc Cert.RefFwdIdeal.main_arg2)
      ∧ r.2.mem ((c.tc : Thread Cert.RefFwdIdeal.nD Cert.RefFwdIdeal.τ).loc Cert.RefFwdIdeal.main_arg3) = m ((c.tc : Thread Cert.RefFwdIdeal.nD Cert.RefFwdIdeal.τ).loc Cert.RefFwdIdeal.main_arg3))
      ∧ r.2.sem = fun _ => 0)

def quiescent_DwDown [hDwDown : Cert.DwDown.Facts] : Prop :=
  ∀ (m : (ℓ : Loc Cert.DwDown.nD Cert.DwDown.τ Cert.DwDown.sig) → Buf (Elt Bits) ℓ) (g : Dev Cert.DwDown.nD → PrngReg), Pre_DwDown m →
    θ_run (Cert.DwDown.defs (F := Bits)) (onTc (τ := Cert.DwDown.τ) (Cert.DwDown.main (F := Bits))) ⟨m, fun _ => 0, g⟩ (fun r => (∀ c : Dev Cert.DwDown.nD,
      r.2.mem ((c.tc : Thread Cert.DwDown.nD Cert.DwDown.τ).loc Cert.DwDown.main_arg0) = m ((c.tc : Thread Cert.DwDown.nD Cert.DwDown.τ).loc Cert.DwDown.main_arg0)
      ∧ r.2.mem ((c.tc : Thread Cert.DwDown.nD Cert.DwDown.τ).loc Cert.DwDown.main_arg1) = m ((c.tc : Thread Cert.DwDown.nD Cert.DwDown.τ).loc Cert.DwDown.main_arg1))
      ∧ r.2.sem = fun _ => 0)

def quiescent_DwDownIdeal [hDwDownIdeal : Cert.DwDownIdeal.Facts] : Prop :=
  ∀ (m : (ℓ : Loc Cert.DwDownIdeal.nD Cert.DwDownIdeal.τ Cert.DwDownIdeal.sig) → Buf (Elt Ideal) ℓ) (g : Dev Cert.DwDownIdeal.nD → PrngReg), Pre_DwDownIdeal m →
    θ_run (Cert.DwDownIdeal.defs (F := Ideal)) (onTc (τ := Cert.DwDownIdeal.τ) (Cert.DwDownIdeal.main (F := Ideal))) ⟨m, fun _ => 0, g⟩ (fun r => (∀ c : Dev Cert.DwDownIdeal.nD,
      r.2.mem ((c.tc : Thread Cert.DwDownIdeal.nD Cert.DwDownIdeal.τ).loc Cert.DwDownIdeal.main_arg0) = m ((c.tc : Thread Cert.DwDownIdeal.nD Cert.DwDownIdeal.τ).loc Cert.DwDownIdeal.main_arg0)
      ∧ r.2.mem ((c.tc : Thread Cert.DwDownIdeal.nD Cert.DwDownIdeal.τ).loc Cert.DwDownIdeal.main_arg1) = m ((c.tc : Thread Cert.DwDownIdeal.nD Cert.DwDownIdeal.τ).loc Cert.DwDownIdeal.main_arg1))
      ∧ r.2.sem = fun _ => 0)

def quiescent_RefDwDownIdeal [hRefDwDownIdeal : Cert.RefDwDownIdeal.Facts] : Prop :=
  ∀ (m : (ℓ : Loc Cert.RefDwDownIdeal.nD Cert.RefDwDownIdeal.τ Cert.RefDwDownIdeal.sig) → Buf (Elt Ideal) ℓ) (g : Dev Cert.RefDwDownIdeal.nD → PrngReg), Pre_RefDwDownIdeal m →
    θ_run (Cert.RefDwDownIdeal.defs (F := Ideal)) (onTc (τ := Cert.RefDwDownIdeal.τ) (Cert.RefDwDownIdeal.main (F := Ideal))) ⟨m, fun _ => 0, g⟩ (fun r => (∀ c : Dev Cert.RefDwDownIdeal.nD,
      r.2.mem ((c.tc : Thread Cert.RefDwDownIdeal.nD Cert.RefDwDownIdeal.τ).loc Cert.RefDwDownIdeal.main_arg0) = m ((c.tc : Thread Cert.RefDwDownIdeal.nD Cert.RefDwDownIdeal.τ).loc Cert.RefDwDownIdeal.main_arg0)
      ∧ r.2.mem ((c.tc : Thread Cert.RefDwDownIdeal.nD Cert.RefDwDownIdeal.τ).loc Cert.RefDwDownIdeal.main_arg1) = m ((c.tc : Thread Cert.RefDwDownIdeal.nD Cert.RefDwDownIdeal.τ).loc Cert.RefDwDownIdeal.main_arg1))
      ∧ r.2.sem = fun _ => 0)

def quiescent_Dact [hDact : Cert.Dact.Facts] : Prop :=
  ∀ (m : (ℓ : Loc Cert.Dact.nD Cert.Dact.τ Cert.Dact.sig) → Buf (Elt Bits) ℓ) (g : Dev Cert.Dact.nD → PrngReg), Pre_Dact m →
    θ_run (Cert.Dact.defs (F := Bits)) (onTc (τ := Cert.Dact.τ) (Cert.Dact.main (F := Bits))) ⟨m, fun _ => 0, g⟩ (fun r => (∀ c : Dev Cert.Dact.nD,
      r.2.mem ((c.tc : Thread Cert.Dact.nD Cert.Dact.τ).loc Cert.Dact.main_arg0) = m ((c.tc : Thread Cert.Dact.nD Cert.Dact.τ).loc Cert.Dact.main_arg0)
      ∧ r.2.mem ((c.tc : Thread Cert.Dact.nD Cert.Dact.τ).loc Cert.Dact.main_arg1) = m ((c.tc : Thread Cert.Dact.nD Cert.Dact.τ).loc Cert.Dact.main_arg1))
      ∧ r.2.sem = fun _ => 0)

def quiescent_DactIdeal [hDactIdeal : Cert.DactIdeal.Facts] : Prop :=
  ∀ (m : (ℓ : Loc Cert.DactIdeal.nD Cert.DactIdeal.τ Cert.DactIdeal.sig) → Buf (Elt Ideal) ℓ) (g : Dev Cert.DactIdeal.nD → PrngReg), Pre_DactIdeal m →
    θ_run (Cert.DactIdeal.defs (F := Ideal)) (onTc (τ := Cert.DactIdeal.τ) (Cert.DactIdeal.main (F := Ideal))) ⟨m, fun _ => 0, g⟩ (fun r => (∀ c : Dev Cert.DactIdeal.nD,
      r.2.mem ((c.tc : Thread Cert.DactIdeal.nD Cert.DactIdeal.τ).loc Cert.DactIdeal.main_arg0) = m ((c.tc : Thread Cert.DactIdeal.nD Cert.DactIdeal.τ).loc Cert.DactIdeal.main_arg0)
      ∧ r.2.mem ((c.tc : Thread Cert.DactIdeal.nD Cert.DactIdeal.τ).loc Cert.DactIdeal.main_arg1) = m ((c.tc : Thread Cert.DactIdeal.nD Cert.DactIdeal.τ).loc Cert.DactIdeal.main_arg1))
      ∧ r.2.sem = fun _ => 0)

def quiescent_RefDactIdeal [hRefDactIdeal : Cert.RefDactIdeal.Facts] : Prop :=
  ∀ (m : (ℓ : Loc Cert.RefDactIdeal.nD Cert.RefDactIdeal.τ Cert.RefDactIdeal.sig) → Buf (Elt Ideal) ℓ) (g : Dev Cert.RefDactIdeal.nD → PrngReg), Pre_RefDactIdeal m →
    θ_run (Cert.RefDactIdeal.defs (F := Ideal)) (onTc (τ := Cert.RefDactIdeal.τ) (Cert.RefDactIdeal.main (F := Ideal))) ⟨m, fun _ => 0, g⟩ (fun r => (∀ c : Dev Cert.RefDactIdeal.nD,
      r.2.mem ((c.tc : Thread Cert.RefDactIdeal.nD Cert.RefDactIdeal.τ).loc Cert.RefDactIdeal.main_arg0) = m ((c.tc : Thread Cert.RefDactIdeal.nD Cert.RefDactIdeal.τ).loc Cert.RefDactIdeal.main_arg0)
      ∧ r.2.mem ((c.tc : Thread Cert.RefDactIdeal.nD Cert.RefDactIdeal.τ).loc Cert.RefDactIdeal.main_arg1) = m ((c.tc : Thread Cert.RefDactIdeal.nD Cert.RefDactIdeal.τ).loc Cert.RefDactIdeal.main_arg1))
      ∧ r.2.sem = fun _ => 0)

def quiescent_DwUp [hDwUp : Cert.DwUp.Facts] : Prop :=
  ∀ (m : (ℓ : Loc Cert.DwUp.nD Cert.DwUp.τ Cert.DwUp.sig) → Buf (Elt Bits) ℓ) (g : Dev Cert.DwUp.nD → PrngReg), Pre_DwUp m →
    θ_run (Cert.DwUp.defs (F := Bits)) (onTc (τ := Cert.DwUp.τ) (Cert.DwUp.main (F := Bits))) ⟨m, fun _ => 0, g⟩ (fun r => (∀ c : Dev Cert.DwUp.nD,
      r.2.mem ((c.tc : Thread Cert.DwUp.nD Cert.DwUp.τ).loc Cert.DwUp.main_arg0) = m ((c.tc : Thread Cert.DwUp.nD Cert.DwUp.τ).loc Cert.DwUp.main_arg0)
      ∧ r.2.mem ((c.tc : Thread Cert.DwUp.nD Cert.DwUp.τ).loc Cert.DwUp.main_arg1) = m ((c.tc : Thread Cert.DwUp.nD Cert.DwUp.τ).loc Cert.DwUp.main_arg1))
      ∧ r.2.sem = fun _ => 0)

def quiescent_DwUpIdeal [hDwUpIdeal : Cert.DwUpIdeal.Facts] : Prop :=
  ∀ (m : (ℓ : Loc Cert.DwUpIdeal.nD Cert.DwUpIdeal.τ Cert.DwUpIdeal.sig) → Buf (Elt Ideal) ℓ) (g : Dev Cert.DwUpIdeal.nD → PrngReg), Pre_DwUpIdeal m →
    θ_run (Cert.DwUpIdeal.defs (F := Ideal)) (onTc (τ := Cert.DwUpIdeal.τ) (Cert.DwUpIdeal.main (F := Ideal))) ⟨m, fun _ => 0, g⟩ (fun r => (∀ c : Dev Cert.DwUpIdeal.nD,
      r.2.mem ((c.tc : Thread Cert.DwUpIdeal.nD Cert.DwUpIdeal.τ).loc Cert.DwUpIdeal.main_arg0) = m ((c.tc : Thread Cert.DwUpIdeal.nD Cert.DwUpIdeal.τ).loc Cert.DwUpIdeal.main_arg0)
      ∧ r.2.mem ((c.tc : Thread Cert.DwUpIdeal.nD Cert.DwUpIdeal.τ).loc Cert.DwUpIdeal.main_arg1) = m ((c.tc : Thread Cert.DwUpIdeal.nD Cert.DwUpIdeal.τ).loc Cert.DwUpIdeal.main_arg1))
      ∧ r.2.sem = fun _ => 0)

def quiescent_RefDwUpIdeal [hRefDwUpIdeal : Cert.RefDwUpIdeal.Facts] : Prop :=
  ∀ (m : (ℓ : Loc Cert.RefDwUpIdeal.nD Cert.RefDwUpIdeal.τ Cert.RefDwUpIdeal.sig) → Buf (Elt Ideal) ℓ) (g : Dev Cert.RefDwUpIdeal.nD → PrngReg), Pre_RefDwUpIdeal m →
    θ_run (Cert.RefDwUpIdeal.defs (F := Ideal)) (onTc (τ := Cert.RefDwUpIdeal.τ) (Cert.RefDwUpIdeal.main (F := Ideal))) ⟨m, fun _ => 0, g⟩ (fun r => (∀ c : Dev Cert.RefDwUpIdeal.nD,
      r.2.mem ((c.tc : Thread Cert.RefDwUpIdeal.nD Cert.RefDwUpIdeal.τ).loc Cert.RefDwUpIdeal.main_arg0) = m ((c.tc : Thread Cert.RefDwUpIdeal.nD Cert.RefDwUpIdeal.τ).loc Cert.RefDwUpIdeal.main_arg0)
      ∧ r.2.mem ((c.tc : Thread Cert.RefDwUpIdeal.nD Cert.RefDwUpIdeal.τ).loc Cert.RefDwUpIdeal.main_arg1) = m ((c.tc : Thread Cert.RefDwUpIdeal.nD Cert.RefDwUpIdeal.τ).loc Cert.RefDwUpIdeal.main_arg1))
      ∧ r.2.sem = fun _ => 0)

def quiescent_DxUp [hDxUp : Cert.DxUp.Facts] : Prop :=
  ∀ (m : (ℓ : Loc Cert.DxUp.nD Cert.DxUp.τ Cert.DxUp.sig) → Buf (Elt Bits) ℓ) (g : Dev Cert.DxUp.nD → PrngReg), Pre_DxUp m →
    θ_run (Cert.DxUp.defs (F := Bits)) (onTc (τ := Cert.DxUp.τ) (Cert.DxUp.main (F := Bits))) ⟨m, fun _ => 0, g⟩ (fun r => (∀ c : Dev Cert.DxUp.nD,
      r.2.mem ((c.tc : Thread Cert.DxUp.nD Cert.DxUp.τ).loc Cert.DxUp.main_arg0) = m ((c.tc : Thread Cert.DxUp.nD Cert.DxUp.τ).loc Cert.DxUp.main_arg0)
      ∧ r.2.mem ((c.tc : Thread Cert.DxUp.nD Cert.DxUp.τ).loc Cert.DxUp.main_arg1) = m ((c.tc : Thread Cert.DxUp.nD Cert.DxUp.τ).loc Cert.DxUp.main_arg1)
      ∧ r.2.mem ((c.tc : Thread Cert.DxUp.nD Cert.DxUp.τ).loc Cert.DxUp.main_arg2) = m ((c.tc : Thread Cert.DxUp.nD Cert.DxUp.τ).loc Cert.DxUp.main_arg2))
      ∧ r.2.sem = fun _ => 0)

def quiescent_DxUpIdeal [hDxUpIdeal : Cert.DxUpIdeal.Facts] : Prop :=
  ∀ (m : (ℓ : Loc Cert.DxUpIdeal.nD Cert.DxUpIdeal.τ Cert.DxUpIdeal.sig) → Buf (Elt Ideal) ℓ) (g : Dev Cert.DxUpIdeal.nD → PrngReg), Pre_DxUpIdeal m →
    θ_run (Cert.DxUpIdeal.defs (F := Ideal)) (onTc (τ := Cert.DxUpIdeal.τ) (Cert.DxUpIdeal.main (F := Ideal))) ⟨m, fun _ => 0, g⟩ (fun r => (∀ c : Dev Cert.DxUpIdeal.nD,
      r.2.mem ((c.tc : Thread Cert.DxUpIdeal.nD Cert.DxUpIdeal.τ).loc Cert.DxUpIdeal.main_arg0) = m ((c.tc : Thread Cert.DxUpIdeal.nD Cert.DxUpIdeal.τ).loc Cert.DxUpIdeal.main_arg0)
      ∧ r.2.mem ((c.tc : Thread Cert.DxUpIdeal.nD Cert.DxUpIdeal.τ).loc Cert.DxUpIdeal.main_arg1) = m ((c.tc : Thread Cert.DxUpIdeal.nD Cert.DxUpIdeal.τ).loc Cert.DxUpIdeal.main_arg1)
      ∧ r.2.mem ((c.tc : Thread Cert.DxUpIdeal.nD Cert.DxUpIdeal.τ).loc Cert.DxUpIdeal.main_arg2) = m ((c.tc : Thread Cert.DxUpIdeal.nD Cert.DxUpIdeal.τ).loc Cert.DxUpIdeal.main_arg2))
      ∧ r.2.sem = fun _ => 0)

def quiescent_RefDxUpIdeal [hRefDxUpIdeal : Cert.RefDxUpIdeal.Facts] : Prop :=
  ∀ (m : (ℓ : Loc Cert.RefDxUpIdeal.nD Cert.RefDxUpIdeal.τ Cert.RefDxUpIdeal.sig) → Buf (Elt Ideal) ℓ) (g : Dev Cert.RefDxUpIdeal.nD → PrngReg), Pre_RefDxUpIdeal m →
    θ_run (Cert.RefDxUpIdeal.defs (F := Ideal)) (onTc (τ := Cert.RefDxUpIdeal.τ) (Cert.RefDxUpIdeal.main (F := Ideal))) ⟨m, fun _ => 0, g⟩ (fun r => (∀ c : Dev Cert.RefDxUpIdeal.nD,
      r.2.mem ((c.tc : Thread Cert.RefDxUpIdeal.nD Cert.RefDxUpIdeal.τ).loc Cert.RefDxUpIdeal.main_arg0) = m ((c.tc : Thread Cert.RefDxUpIdeal.nD Cert.RefDxUpIdeal.τ).loc Cert.RefDxUpIdeal.main_arg0)
      ∧ r.2.mem ((c.tc : Thread Cert.RefDxUpIdeal.nD Cert.RefDxUpIdeal.τ).loc Cert.RefDxUpIdeal.main_arg1) = m ((c.tc : Thread Cert.RefDxUpIdeal.nD Cert.RefDxUpIdeal.τ).loc Cert.RefDxUpIdeal.main_arg1)
      ∧ r.2.mem ((c.tc : Thread Cert.RefDxUpIdeal.nD Cert.RefDxUpIdeal.τ).loc Cert.RefDxUpIdeal.main_arg2) = m ((c.tc : Thread Cert.RefDxUpIdeal.nD Cert.RefDxUpIdeal.τ).loc Cert.RefDxUpIdeal.main_arg2))
      ∧ r.2.sem = fun _ => 0)

def quiescent_DwOut [hDwOut : Cert.DwOut.Facts] : Prop :=
  ∀ (m : (ℓ : Loc Cert.DwOut.nD Cert.DwOut.τ Cert.DwOut.sig) → Buf (Elt Bits) ℓ) (g : Dev Cert.DwOut.nD → PrngReg), Pre_DwOut m →
    θ_run (Cert.DwOut.defs (F := Bits)) (onTc (τ := Cert.DwOut.τ) (Cert.DwOut.main (F := Bits))) ⟨m, fun _ => 0, g⟩ (fun r => (∀ c : Dev Cert.DwOut.nD,
      r.2.mem ((c.tc : Thread Cert.DwOut.nD Cert.DwOut.τ).loc Cert.DwOut.main_arg0) = m ((c.tc : Thread Cert.DwOut.nD Cert.DwOut.τ).loc Cert.DwOut.main_arg0)
      ∧ r.2.mem ((c.tc : Thread Cert.DwOut.nD Cert.DwOut.τ).loc Cert.DwOut.main_arg1) = m ((c.tc : Thread Cert.DwOut.nD Cert.DwOut.τ).loc Cert.DwOut.main_arg1))
      ∧ r.2.sem = fun _ => 0)

def quiescent_DwOutIdeal [hDwOutIdeal : Cert.DwOutIdeal.Facts] : Prop :=
  ∀ (m : (ℓ : Loc Cert.DwOutIdeal.nD Cert.DwOutIdeal.τ Cert.DwOutIdeal.sig) → Buf (Elt Ideal) ℓ) (g : Dev Cert.DwOutIdeal.nD → PrngReg), Pre_DwOutIdeal m →
    θ_run (Cert.DwOutIdeal.defs (F := Ideal)) (onTc (τ := Cert.DwOutIdeal.τ) (Cert.DwOutIdeal.main (F := Ideal))) ⟨m, fun _ => 0, g⟩ (fun r => (∀ c : Dev Cert.DwOutIdeal.nD,
      r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
      ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1))
      ∧ r.2.sem = fun _ => 0)

def quiescent_RefDwOutIdeal [hRefDwOutIdeal : Cert.RefDwOutIdeal.Facts] : Prop :=
  ∀ (m : (ℓ : Loc Cert.RefDwOutIdeal.nD Cert.RefDwOutIdeal.τ Cert.RefDwOutIdeal.sig) → Buf (Elt Ideal) ℓ) (g : Dev Cert.RefDwOutIdeal.nD → PrngReg), Pre_RefDwOutIdeal m →
    θ_run (Cert.RefDwOutIdeal.defs (F := Ideal)) (onTc (τ := Cert.RefDwOutIdeal.τ) (Cert.RefDwOutIdeal.main (F := Ideal))) ⟨m, fun _ => 0, g⟩ (fun r => (∀ c : Dev Cert.RefDwOutIdeal.nD,
      r.2.mem ((c.tc : Thread Cert.RefDwOutIdeal.nD Cert.RefDwOutIdeal.τ).loc Cert.RefDwOutIdeal.main_arg0) = m ((c.tc : Thread Cert.RefDwOutIdeal.nD Cert.RefDwOutIdeal.τ).loc Cert.RefDwOutIdeal.main_arg0)
      ∧ r.2.mem ((c.tc : Thread Cert.RefDwOutIdeal.nD Cert.RefDwOutIdeal.τ).loc Cert.RefDwOutIdeal.main_arg1) = m ((c.tc : Thread Cert.RefDwOutIdeal.nD Cert.RefDwOutIdeal.τ).loc Cert.RefDwOutIdeal.main_arg1))
      ∧ r.2.sem = fun _ => 0)

def quiescent_Dmerged [hDmerged : Cert.Dmerged.Facts] : Prop :=
  ∀ (m : (ℓ : Loc Cert.Dmerged.nD Cert.Dmerged.τ Cert.Dmerged.sig) → Buf (Elt Bits) ℓ) (g : Dev Cert.Dmerged.nD → PrngReg), Pre_Dmerged m →
    θ_run (Cert.Dmerged.defs (F := Bits)) (onTc (τ := Cert.Dmerged.τ) (Cert.Dmerged.main (F := Bits))) ⟨m, fun _ => 0, g⟩ (fun r => (∀ c : Dev Cert.Dmerged.nD,
      r.2.mem ((c.tc : Thread Cert.Dmerged.nD Cert.Dmerged.τ).loc Cert.Dmerged.main_arg0) = m ((c.tc : Thread Cert.Dmerged.nD Cert.Dmerged.τ).loc Cert.Dmerged.main_arg0)
      ∧ r.2.mem ((c.tc : Thread Cert.Dmerged.nD Cert.Dmerged.τ).loc Cert.Dmerged.main_arg1) = m ((c.tc : Thread Cert.Dmerged.nD Cert.Dmerged.τ).loc Cert.Dmerged.main_arg1))
      ∧ r.2.sem = fun _ => 0)

def quiescent_DmergedIdeal [hDmergedIdeal : Cert.DmergedIdeal.Facts] : Prop :=
  ∀ (m : (ℓ : Loc Cert.DmergedIdeal.nD Cert.DmergedIdeal.τ Cert.DmergedIdeal.sig) → Buf (Elt Ideal) ℓ) (g : Dev Cert.DmergedIdeal.nD → PrngReg), Pre_DmergedIdeal m →
    θ_run (Cert.DmergedIdeal.defs (F := Ideal)) (onTc (τ := Cert.DmergedIdeal.τ) (Cert.DmergedIdeal.main (F := Ideal))) ⟨m, fun _ => 0, g⟩ (fun r => (∀ c : Dev Cert.DmergedIdeal.nD,
      r.2.mem ((c.tc : Thread Cert.DmergedIdeal.nD Cert.DmergedIdeal.τ).loc Cert.DmergedIdeal.main_arg0) = m ((c.tc : Thread Cert.DmergedIdeal.nD Cert.DmergedIdeal.τ).loc Cert.DmergedIdeal.main_arg0)
      ∧ r.2.mem ((c.tc : Thread Cert.DmergedIdeal.nD Cert.DmergedIdeal.τ).loc Cert.DmergedIdeal.main_arg1) = m ((c.tc : Thread Cert.DmergedIdeal.nD Cert.DmergedIdeal.τ).loc Cert.DmergedIdeal.main_arg1))
      ∧ r.2.sem = fun _ => 0)

def quiescent_RefDmergedIdeal [hRefDmergedIdeal : Cert.RefDmergedIdeal.Facts] : Prop :=
  ∀ (m : (ℓ : Loc Cert.RefDmergedIdeal.nD Cert.RefDmergedIdeal.τ Cert.RefDmergedIdeal.sig) → Buf (Elt Ideal) ℓ) (g : Dev Cert.RefDmergedIdeal.nD → PrngReg), Pre_RefDmergedIdeal m →
    θ_run (Cert.RefDmergedIdeal.defs (F := Ideal)) (onTc (τ := Cert.RefDmergedIdeal.τ) (Cert.RefDmergedIdeal.main (F := Ideal))) ⟨m, fun _ => 0, g⟩ (fun r => (∀ c : Dev Cert.RefDmergedIdeal.nD,
      r.2.mem ((c.tc : Thread Cert.RefDmergedIdeal.nD Cert.RefDmergedIdeal.τ).loc Cert.RefDmergedIdeal.main_arg0) = m ((c.tc : Thread Cert.RefDmergedIdeal.nD Cert.RefDmergedIdeal.τ).loc Cert.RefDmergedIdeal.main_arg0)
      ∧ r.2.mem ((c.tc : Thread Cert.RefDmergedIdeal.nD Cert.RefDmergedIdeal.τ).loc Cert.RefDmergedIdeal.main_arg1) = m ((c.tc : Thread Cert.RefDmergedIdeal.nD Cert.RefDmergedIdeal.τ).loc Cert.RefDmergedIdeal.main_arg1))
      ∧ r.2.sem = fun _ => 0)

def quiescent_DwProj [hDwProj : Cert.DwProj.Facts] : Prop :=
  ∀ (m : (ℓ : Loc Cert.DwProj.nD Cert.DwProj.τ Cert.DwProj.sig) → Buf (Elt Bits) ℓ) (g : Dev Cert.DwProj.nD → PrngReg), Pre_DwProj m →
    θ_run (Cert.DwProj.defs (F := Bits)) (onTc (τ := Cert.DwProj.τ) (Cert.DwProj.main (F := Bits))) ⟨m, fun _ => 0, g⟩ (fun r => (∀ c : Dev Cert.DwProj.nD,
      r.2.mem ((c.tc : Thread Cert.DwProj.nD Cert.DwProj.τ).loc Cert.DwProj.main_arg0) = m ((c.tc : Thread Cert.DwProj.nD Cert.DwProj.τ).loc Cert.DwProj.main_arg0)
      ∧ r.2.mem ((c.tc : Thread Cert.DwProj.nD Cert.DwProj.τ).loc Cert.DwProj.main_arg1) = m ((c.tc : Thread Cert.DwProj.nD Cert.DwProj.τ).loc Cert.DwProj.main_arg1))
      ∧ r.2.sem = fun _ => 0)

def quiescent_DwProjIdeal [hDwProjIdeal : Cert.DwProjIdeal.Facts] : Prop :=
  ∀ (m : (ℓ : Loc Cert.DwProjIdeal.nD Cert.DwProjIdeal.τ Cert.DwProjIdeal.sig) → Buf (Elt Ideal) ℓ) (g : Dev Cert.DwProjIdeal.nD → PrngReg), Pre_DwProjIdeal m →
    θ_run (Cert.DwProjIdeal.defs (F := Ideal)) (onTc (τ := Cert.DwProjIdeal.τ) (Cert.DwProjIdeal.main (F := Ideal))) ⟨m, fun _ => 0, g⟩ (fun r => (∀ c : Dev Cert.DwProjIdeal.nD,
      r.2.mem ((c.tc : Thread Cert.DwProjIdeal.nD Cert.DwProjIdeal.τ).loc Cert.DwProjIdeal.main_arg0) = m ((c.tc : Thread Cert.DwProjIdeal.nD Cert.DwProjIdeal.τ).loc Cert.DwProjIdeal.main_arg0)
      ∧ r.2.mem ((c.tc : Thread Cert.DwProjIdeal.nD Cert.DwProjIdeal.τ).loc Cert.DwProjIdeal.main_arg1) = m ((c.tc : Thread Cert.DwProjIdeal.nD Cert.DwProjIdeal.τ).loc Cert.DwProjIdeal.main_arg1))
      ∧ r.2.sem = fun _ => 0)

def quiescent_RefDwProjIdeal [hRefDwProjIdeal : Cert.RefDwProjIdeal.Facts] : Prop :=
  ∀ (m : (ℓ : Loc Cert.RefDwProjIdeal.nD Cert.RefDwProjIdeal.τ Cert.RefDwProjIdeal.sig) → Buf (Elt Ideal) ℓ) (g : Dev Cert.RefDwProjIdeal.nD → PrngReg), Pre_RefDwProjIdeal m →
    θ_run (Cert.RefDwProjIdeal.defs (F := Ideal)) (onTc (τ := Cert.RefDwProjIdeal.τ) (Cert.RefDwProjIdeal.main (F := Ideal))) ⟨m, fun _ => 0, g⟩ (fun r => (∀ c : Dev Cert.RefDwProjIdeal.nD,
      r.2.mem ((c.tc : Thread Cert.RefDwProjIdeal.nD Cert.RefDwProjIdeal.τ).loc Cert.RefDwProjIdeal.main_arg0) = m ((c.tc : Thread Cert.RefDwProjIdeal.nD Cert.RefDwProjIdeal.τ).loc Cert.RefDwProjIdeal.main_arg0)
      ∧ r.2.mem ((c.tc : Thread Cert.RefDwProjIdeal.nD Cert.RefDwProjIdeal.τ).loc Cert.RefDwProjIdeal.main_arg1) = m ((c.tc : Thread Cert.RefDwProjIdeal.nD Cert.RefDwProjIdeal.τ).loc Cert.RefDwProjIdeal.main_arg1))
      ∧ r.2.sem = fun _ => 0)

def quiescent_DyProj [hDyProj : Cert.DyProj.Facts] : Prop :=
  ∀ (m : (ℓ : Loc Cert.DyProj.nD Cert.DyProj.τ Cert.DyProj.sig) → Buf (Elt Bits) ℓ) (g : Dev Cert.DyProj.nD → PrngReg), Pre_DyProj m →
    θ_run (Cert.DyProj.defs (F := Bits)) (onTc (τ := Cert.DyProj.τ) (Cert.DyProj.main (F := Bits))) ⟨m, fun _ => 0, g⟩ (fun r => (∀ c : Dev Cert.DyProj.nD,
      r.2.mem ((c.tc : Thread Cert.DyProj.nD Cert.DyProj.τ).loc Cert.DyProj.main_arg0) = m ((c.tc : Thread Cert.DyProj.nD Cert.DyProj.τ).loc Cert.DyProj.main_arg0)
      ∧ r.2.mem ((c.tc : Thread Cert.DyProj.nD Cert.DyProj.τ).loc Cert.DyProj.main_arg1) = m ((c.tc : Thread Cert.DyProj.nD Cert.DyProj.τ).loc Cert.DyProj.main_arg1))
      ∧ r.2.sem = fun _ => 0)

def quiescent_DyProjIdeal [hDyProjIdeal : Cert.DyProjIdeal.Facts] : Prop :=
  ∀ (m : (ℓ : Loc Cert.DyProjIdeal.nD Cert.DyProjIdeal.τ Cert.DyProjIdeal.sig) → Buf (Elt Ideal) ℓ) (g : Dev Cert.DyProjIdeal.nD → PrngReg), Pre_DyProjIdeal m →
    θ_run (Cert.DyProjIdeal.defs (F := Ideal)) (onTc (τ := Cert.DyProjIdeal.τ) (Cert.DyProjIdeal.main (F := Ideal))) ⟨m, fun _ => 0, g⟩ (fun r => (∀ c : Dev Cert.DyProjIdeal.nD,
      r.2.mem ((c.tc : Thread Cert.DyProjIdeal.nD Cert.DyProjIdeal.τ).loc Cert.DyProjIdeal.main_arg0) = m ((c.tc : Thread Cert.DyProjIdeal.nD Cert.DyProjIdeal.τ).loc Cert.DyProjIdeal.main_arg0)
      ∧ r.2.mem ((c.tc : Thread Cert.DyProjIdeal.nD Cert.DyProjIdeal.τ).loc Cert.DyProjIdeal.main_arg1) = m ((c.tc : Thread Cert.DyProjIdeal.nD Cert.DyProjIdeal.τ).loc Cert.DyProjIdeal.main_arg1))
      ∧ r.2.sem = fun _ => 0)

def quiescent_RefDyProjIdeal [hRefDyProjIdeal : Cert.RefDyProjIdeal.Facts] : Prop :=
  ∀ (m : (ℓ : Loc Cert.RefDyProjIdeal.nD Cert.RefDyProjIdeal.τ Cert.RefDyProjIdeal.sig) → Buf (Elt Ideal) ℓ) (g : Dev Cert.RefDyProjIdeal.nD → PrngReg), Pre_RefDyProjIdeal m →
    θ_run (Cert.RefDyProjIdeal.defs (F := Ideal)) (onTc (τ := Cert.RefDyProjIdeal.τ) (Cert.RefDyProjIdeal.main (F := Ideal))) ⟨m, fun _ => 0, g⟩ (fun r => (∀ c : Dev Cert.RefDyProjIdeal.nD,
      r.2.mem ((c.tc : Thread Cert.RefDyProjIdeal.nD Cert.RefDyProjIdeal.τ).loc Cert.RefDyProjIdeal.main_arg0) = m ((c.tc : Thread Cert.RefDyProjIdeal.nD Cert.RefDyProjIdeal.τ).loc Cert.RefDyProjIdeal.main_arg0)
      ∧ r.2.mem ((c.tc : Thread Cert.RefDyProjIdeal.nD Cert.RefDyProjIdeal.τ).loc Cert.RefDyProjIdeal.main_arg1) = m ((c.tc : Thread Cert.RefDyProjIdeal.nD Cert.RefDyProjIdeal.τ).loc Cert.RefDyProjIdeal.main_arg1))
      ∧ r.2.sem = fun _ => 0)

def quiescent_DyProjB [hDyProjB : Cert.DyProjB.Facts] : Prop :=
  ∀ (m : (ℓ : Loc Cert.DyProjB.nD Cert.DyProjB.τ Cert.DyProjB.sig) → Buf (Elt Bits) ℓ) (g : Dev Cert.DyProjB.nD → PrngReg), Pre_DyProjB m →
    θ_run (Cert.DyProjB.defs (F := Bits)) (onTc (τ := Cert.DyProjB.τ) (Cert.DyProjB.main (F := Bits))) ⟨m, fun _ => 0, g⟩ (fun r => (∀ c : Dev Cert.DyProjB.nD,
      r.2.mem ((c.tc : Thread Cert.DyProjB.nD Cert.DyProjB.τ).loc Cert.DyProjB.main_arg0) = m ((c.tc : Thread Cert.DyProjB.nD Cert.DyProjB.τ).loc Cert.DyProjB.main_arg0)
      ∧ r.2.mem ((c.tc : Thread Cert.DyProjB.nD Cert.DyProjB.τ).loc Cert.DyProjB.main_arg1) = m ((c.tc : Thread Cert.DyProjB.nD Cert.DyProjB.τ).loc Cert.DyProjB.main_arg1))
      ∧ r.2.sem = fun _ => 0)

def quiescent_DyProjBIdeal [hDyProjBIdeal : Cert.DyProjBIdeal.Facts] : Prop :=
  ∀ (m : (ℓ : Loc Cert.DyProjBIdeal.nD Cert.DyProjBIdeal.τ Cert.DyProjBIdeal.sig) → Buf (Elt Ideal) ℓ) (g : Dev Cert.DyProjBIdeal.nD → PrngReg), Pre_DyProjBIdeal m →
    θ_run (Cert.DyProjBIdeal.defs (F := Ideal)) (onTc (τ := Cert.DyProjBIdeal.τ) (Cert.DyProjBIdeal.main (F := Ideal))) ⟨m, fun _ => 0, g⟩ (fun r => (∀ c : Dev Cert.DyProjBIdeal.nD,
      r.2.mem ((c.tc : Thread Cert.DyProjBIdeal.nD Cert.DyProjBIdeal.τ).loc Cert.DyProjBIdeal.main_arg0) = m ((c.tc : Thread Cert.DyProjBIdeal.nD Cert.DyProjBIdeal.τ).loc Cert.DyProjBIdeal.main_arg0)
      ∧ r.2.mem ((c.tc : Thread Cert.DyProjBIdeal.nD Cert.DyProjBIdeal.τ).loc Cert.DyProjBIdeal.main_arg1) = m ((c.tc : Thread Cert.DyProjBIdeal.nD Cert.DyProjBIdeal.τ).loc Cert.DyProjBIdeal.main_arg1))
      ∧ r.2.sem = fun _ => 0)

def quiescent_RefDyProjBIdeal [hRefDyProjBIdeal : Cert.RefDyProjBIdeal.Facts] : Prop :=
  ∀ (m : (ℓ : Loc Cert.RefDyProjBIdeal.nD Cert.RefDyProjBIdeal.τ Cert.RefDyProjBIdeal.sig) → Buf (Elt Ideal) ℓ) (g : Dev Cert.RefDyProjBIdeal.nD → PrngReg), Pre_RefDyProjBIdeal m →
    θ_run (Cert.RefDyProjBIdeal.defs (F := Ideal)) (onTc (τ := Cert.RefDyProjBIdeal.τ) (Cert.RefDyProjBIdeal.main (F := Ideal))) ⟨m, fun _ => 0, g⟩ (fun r => (∀ c : Dev Cert.RefDyProjBIdeal.nD,
      r.2.mem ((c.tc : Thread Cert.RefDyProjBIdeal.nD Cert.RefDyProjBIdeal.τ).loc Cert.RefDyProjBIdeal.main_arg0) = m ((c.tc : Thread Cert.RefDyProjBIdeal.nD Cert.RefDyProjBIdeal.τ).loc Cert.RefDyProjBIdeal.main_arg0)
      ∧ r.2.mem ((c.tc : Thread Cert.RefDyProjBIdeal.nD Cert.RefDyProjBIdeal.τ).loc Cert.RefDyProjBIdeal.main_arg1) = m ((c.tc : Thread Cert.RefDyProjBIdeal.nD Cert.RefDyProjBIdeal.τ).loc Cert.RefDyProjBIdeal.main_arg1))
      ∧ r.2.sem = fun _ => 0)

def quiescent_DwIn [hDwIn : Cert.DwIn.Facts] : Prop :=
  ∀ (m : (ℓ : Loc Cert.DwIn.nD Cert.DwIn.τ Cert.DwIn.sig) → Buf (Elt Bits) ℓ) (g : Dev Cert.DwIn.nD → PrngReg), Pre_DwIn m →
    θ_run (Cert.DwIn.defs (F := Bits)) (onTc (τ := Cert.DwIn.τ) (Cert.DwIn.main (F := Bits))) ⟨m, fun _ => 0, g⟩ (fun r => (∀ c : Dev Cert.DwIn.nD,
      r.2.mem ((c.tc : Thread Cert.DwIn.nD Cert.DwIn.τ).loc Cert.DwIn.main_arg0) = m ((c.tc : Thread Cert.DwIn.nD Cert.DwIn.τ).loc Cert.DwIn.main_arg0)
      ∧ r.2.mem ((c.tc : Thread Cert.DwIn.nD Cert.DwIn.τ).loc Cert.DwIn.main_arg1) = m ((c.tc : Thread Cert.DwIn.nD Cert.DwIn.τ).loc Cert.DwIn.main_arg1))
      ∧ r.2.sem = fun _ => 0)

def quiescent_DwInIdeal [hDwInIdeal : Cert.DwInIdeal.Facts] : Prop :=
  ∀ (m : (ℓ : Loc Cert.DwInIdeal.nD Cert.DwInIdeal.τ Cert.DwInIdeal.sig) → Buf (Elt Ideal) ℓ) (g : Dev Cert.DwInIdeal.nD → PrngReg), Pre_DwInIdeal m →
    θ_run (Cert.DwInIdeal.defs (F := Ideal)) (onTc (τ := Cert.DwInIdeal.τ) (Cert.DwInIdeal.main (F := Ideal))) ⟨m, fun _ => 0, g⟩ (fun r => (∀ c : Dev Cert.DwInIdeal.nD,
      r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
      ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1))
      ∧ r.2.sem = fun _ => 0)

def quiescent_RefDwInIdeal [hRefDwInIdeal : Cert.RefDwInIdeal.Facts] : Prop :=
  ∀ (m : (ℓ : Loc Cert.RefDwInIdeal.nD Cert.RefDwInIdeal.τ Cert.RefDwInIdeal.sig) → Buf (Elt Ideal) ℓ) (g : Dev Cert.RefDwInIdeal.nD → PrngReg), Pre_RefDwInIdeal m →
    θ_run (Cert.RefDwInIdeal.defs (F := Ideal)) (onTc (τ := Cert.RefDwInIdeal.τ) (Cert.RefDwInIdeal.main (F := Ideal))) ⟨m, fun _ => 0, g⟩ (fun r => (∀ c : Dev Cert.RefDwInIdeal.nD,
      r.2.mem ((c.tc : Thread Cert.RefDwInIdeal.nD Cert.RefDwInIdeal.τ).loc Cert.RefDwInIdeal.main_arg0) = m ((c.tc : Thread Cert.RefDwInIdeal.nD Cert.RefDwInIdeal.τ).loc Cert.RefDwInIdeal.main_arg0)
      ∧ r.2.mem ((c.tc : Thread Cert.RefDwInIdeal.nD Cert.RefDwInIdeal.τ).loc Cert.RefDwInIdeal.main_arg1) = m ((c.tc : Thread Cert.RefDwInIdeal.nD Cert.RefDwInIdeal.τ).loc Cert.RefDwInIdeal.main_arg1))
      ∧ r.2.sem = fun _ => 0)

def quiescent_DxIn [hDxIn : Cert.DxIn.Facts] : Prop :=
  ∀ (m : (ℓ : Loc Cert.DxIn.nD Cert.DxIn.τ Cert.DxIn.sig) → Buf (Elt Bits) ℓ) (g : Dev Cert.DxIn.nD → PrngReg), Pre_DxIn m →
    θ_run (Cert.DxIn.defs (F := Bits)) (onTc (τ := Cert.DxIn.τ) (Cert.DxIn.main (F := Bits))) ⟨m, fun _ => 0, g⟩ (fun r => (∀ c : Dev Cert.DxIn.nD,
      r.2.mem ((c.tc : Thread Cert.DxIn.nD Cert.DxIn.τ).loc Cert.DxIn.main_arg0) = m ((c.tc : Thread Cert.DxIn.nD Cert.DxIn.τ).loc Cert.DxIn.main_arg0)
      ∧ r.2.mem ((c.tc : Thread Cert.DxIn.nD Cert.DxIn.τ).loc Cert.DxIn.main_arg1) = m ((c.tc : Thread Cert.DxIn.nD Cert.DxIn.τ).loc Cert.DxIn.main_arg1)
      ∧ r.2.mem ((c.tc : Thread Cert.DxIn.nD Cert.DxIn.τ).loc Cert.DxIn.main_arg2) = m ((c.tc : Thread Cert.DxIn.nD Cert.DxIn.τ).loc Cert.DxIn.main_arg2))
      ∧ r.2.sem = fun _ => 0)

def quiescent_DxInIdeal [hDxInIdeal : Cert.DxInIdeal.Facts] : Prop :=
  ∀ (m : (ℓ : Loc Cert.DxInIdeal.nD Cert.DxInIdeal.τ Cert.DxInIdeal.sig) → Buf (Elt Ideal) ℓ) (g : Dev Cert.DxInIdeal.nD → PrngReg), Pre_DxInIdeal m →
    θ_run (Cert.DxInIdeal.defs (F := Ideal)) (onTc (τ := Cert.DxInIdeal.τ) (Cert.DxInIdeal.main (F := Ideal))) ⟨m, fun _ => 0, g⟩ (fun r => (∀ c : Dev Cert.DxInIdeal.nD,
      r.2.mem ((c.tc : Thread Cert.DxInIdeal.nD Cert.DxInIdeal.τ).loc Cert.DxInIdeal.main_arg0) = m ((c.tc : Thread Cert.DxInIdeal.nD Cert.DxInIdeal.τ).loc Cert.DxInIdeal.main_arg0)
      ∧ r.2.mem ((c.tc : Thread Cert.DxInIdeal.nD Cert.DxInIdeal.τ).loc Cert.DxInIdeal.main_arg1) = m ((c.tc : Thread Cert.DxInIdeal.nD Cert.DxInIdeal.τ).loc Cert.DxInIdeal.main_arg1)
      ∧ r.2.mem ((c.tc : Thread Cert.DxInIdeal.nD Cert.DxInIdeal.τ).loc Cert.DxInIdeal.main_arg2) = m ((c.tc : Thread Cert.DxInIdeal.nD Cert.DxInIdeal.τ).loc Cert.DxInIdeal.main_arg2))
      ∧ r.2.sem = fun _ => 0)

def quiescent_RefDxInIdeal [hRefDxInIdeal : Cert.RefDxInIdeal.Facts] : Prop :=
  ∀ (m : (ℓ : Loc Cert.RefDxInIdeal.nD Cert.RefDxInIdeal.τ Cert.RefDxInIdeal.sig) → Buf (Elt Ideal) ℓ) (g : Dev Cert.RefDxInIdeal.nD → PrngReg), Pre_RefDxInIdeal m →
    θ_run (Cert.RefDxInIdeal.defs (F := Ideal)) (onTc (τ := Cert.RefDxInIdeal.τ) (Cert.RefDxInIdeal.main (F := Ideal))) ⟨m, fun _ => 0, g⟩ (fun r => (∀ c : Dev Cert.RefDxInIdeal.nD,
      r.2.mem ((c.tc : Thread Cert.RefDxInIdeal.nD Cert.RefDxInIdeal.τ).loc Cert.RefDxInIdeal.main_arg0) = m ((c.tc : Thread Cert.RefDxInIdeal.nD Cert.RefDxInIdeal.τ).loc Cert.RefDxInIdeal.main_arg0)
      ∧ r.2.mem ((c.tc : Thread Cert.RefDxInIdeal.nD Cert.RefDxInIdeal.τ).loc Cert.RefDxInIdeal.main_arg1) = m ((c.tc : Thread Cert.RefDxInIdeal.nD Cert.RefDxInIdeal.τ).loc Cert.RefDxInIdeal.main_arg1)
      ∧ r.2.mem ((c.tc : Thread Cert.RefDxInIdeal.nD Cert.RefDxInIdeal.τ).loc Cert.RefDxInIdeal.main_arg2) = m ((c.tc : Thread Cert.RefDxInIdeal.nD Cert.RefDxInIdeal.τ).loc Cert.RefDxInIdeal.main_arg2))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1))
      ∧ r.2.sem = fun _ => 0)

def quiescent_RefOutProjIdeal [hRefOutProjIdeal : Cert.RefOutProjIdeal.Facts] : Prop :=
  ∀ (m : (ℓ : Loc Cert.RefOutProjIdeal.nD Cert.RefOutProjIdeal.τ Cert.RefOutProjIdeal.sig) → Buf (Elt Ideal) ℓ) (g : Dev Cert.RefOutProjIdeal.nD → PrngReg), Pre_RefOutProjIdeal m →
    θ_run (Cert.RefOutProjIdeal.defs (F := Ideal)) (onTc (τ := Cert.RefOutProjIdeal.τ) (Cert.RefOutProjIdeal.main (F := Ideal))) ⟨m, fun _ => 0, g⟩ (fun r => (∀ c : Dev Cert.RefOutProjIdeal.nD,
      r.2.mem ((c.tc : Thread Cert.RefOutProjIdeal.nD Cert.RefOutProjIdeal.τ).loc Cert.RefOutProjIdeal.main_arg0) = m ((c.tc : Thread Cert.RefOutProjIdeal.nD Cert.RefOutProjIdeal.τ).loc Cert.RefOutProjIdeal.main_arg0)
      ∧ r.2.mem ((c.tc : Thread Cert.RefOutProjIdeal.nD Cert.RefOutProjIdeal.τ).loc Cert.RefOutProjIdeal.main_arg1) = m ((c.tc : Thread Cert.RefOutProjIdeal.nD Cert.RefOutProjIdeal.τ).loc Cert.RefOutProjIdeal.main_arg1))
      ∧ r.2.sem = fun _ => 0)

def quiescent_UpGate [hUpGate : Cert.UpGate.Facts] : Prop :=
  ∀ (m : (ℓ : Loc Cert.UpGate.nD Cert.UpGate.τ Cert.UpGate.sig) → Buf (Elt Bits) ℓ) (g : Dev Cert.UpGate.nD → PrngReg), Pre_UpGate m →
    θ_run (Cert.UpGate.defs (F := Bits)) (onTc (τ := Cert.UpGate.τ) (Cert.UpGate.main (F := Bits))) ⟨m, fun _ => 0, g⟩ (fun r => (∀ c : Dev Cert.UpGate.nD,
      r.2.mem ((c.tc : Thread Cert.UpGate.nD Cert.UpGate.τ).loc Cert.UpGate.main_arg0) = m ((c.tc : Thread Cert.UpGate.nD Cert.UpGate.τ).loc Cert.UpGate.main_arg0)
      ∧ r.2.mem ((c.tc : Thread Cert.UpGate.nD Cert.UpGate.τ).loc Cert.UpGate.main_arg1) = m ((c.tc : Thread Cert.UpGate.nD Cert.UpGate.τ).loc Cert.UpGate.main_arg1))
      ∧ r.2.sem = fun _ => 0)

def quiescent_UpGateIdeal [hUpGateIdeal : Cert.UpGateIdeal.Facts] : Prop :=
  ∀ (m : (ℓ : Loc Cert.UpGateIdeal.nD Cert.UpGateIdeal.τ Cert.UpGateIdeal.sig) → Buf (Elt Ideal) ℓ) (g : Dev Cert.UpGateIdeal.nD → PrngReg), Pre_UpGateIdeal m →
    θ_run (Cert.UpGateIdeal.defs (F := Ideal)) (onTc (τ := Cert.UpGateIdeal.τ) (Cert.UpGateIdeal.main (F := Ideal))) ⟨m, fun _ => 0, g⟩ (fun r => (∀ c : Dev Cert.UpGateIdeal.nD,
      r.2.mem ((c.tc : Thread Cert.UpGateIdeal.nD Cert.UpGateIdeal.τ).loc Cert.UpGateIdeal.main_arg0) = m ((c.tc : Thread Cert.UpGateIdeal.nD Cert.UpGateIdeal.τ).loc Cert.UpGateIdeal.main_arg0)
      ∧ r.2.mem ((c.tc : Thread Cert.UpGateIdeal.nD Cert.UpGateIdeal.τ).loc Cert.UpGateIdeal.main_arg1) = m ((c.tc : Thread Cert.UpGateIdeal.nD Cert.UpGateIdeal.τ).loc Cert.UpGateIdeal.main_arg1))
      ∧ r.2.sem = fun _ => 0)

def quiescent_RefUpGateIdeal [hRefUpGateIdeal : Cert.RefUpGateIdeal.Facts] : Prop :=
  ∀ (m : (ℓ : Loc Cert.RefUpGateIdeal.nD Cert.RefUpGateIdeal.τ Cert.RefUpGateIdeal.sig) → Buf (Elt Ideal) ℓ) (g : Dev Cert.RefUpGateIdeal.nD → PrngReg), Pre_RefUpGateIdeal m →
    θ_run (Cert.RefUpGateIdeal.defs (F := Ideal)) (onTc (τ := Cert.RefUpGateIdeal.τ) (Cert.RefUpGateIdeal.main (F := Ideal))) ⟨m, fun _ => 0, g⟩ (fun r => (∀ c : Dev Cert.RefUpGateIdeal.nD,
      r.2.mem ((c.tc : Thread Cert.RefUpGateIdeal.nD Cert.RefUpGateIdeal.τ).loc Cert.RefUpGateIdeal.main_arg0) = m ((c.tc : Thread Cert.RefUpGateIdeal.nD Cert.RefUpGateIdeal.τ).loc Cert.RefUpGateIdeal.main_arg0)
      ∧ r.2.mem ((c.tc : Thread Cert.RefUpGateIdeal.nD Cert.RefUpGateIdeal.τ).loc Cert.RefUpGateIdeal.main_arg1) = m ((c.tc : Thread Cert.RefUpGateIdeal.nD Cert.RefUpGateIdeal.τ).loc Cert.RefUpGateIdeal.main_arg1))
      ∧ r.2.sem = fun _ => 0)

def quiescent_UpVal [hUpVal : Cert.UpVal.Facts] : Prop :=
  ∀ (m : (ℓ : Loc Cert.UpVal.nD Cert.UpVal.τ Cert.UpVal.sig) → Buf (Elt Bits) ℓ) (g : Dev Cert.UpVal.nD → PrngReg), Pre_UpVal m →
    θ_run (Cert.UpVal.defs (F := Bits)) (onTc (τ := Cert.UpVal.τ) (Cert.UpVal.main (F := Bits))) ⟨m, fun _ => 0, g⟩ (fun r => (∀ c : Dev Cert.UpVal.nD,
      r.2.mem ((c.tc : Thread Cert.UpVal.nD Cert.UpVal.τ).loc Cert.UpVal.main_arg0) = m ((c.tc : Thread Cert.UpVal.nD Cert.UpVal.τ).loc Cert.UpVal.main_arg0)
      ∧ r.2.mem ((c.tc : Thread Cert.UpVal.nD Cert.UpVal.τ).loc Cert.UpVal.main_arg1) = m ((c.tc : Thread Cert.UpVal.nD Cert.UpVal.τ).loc Cert.UpVal.main_arg1))
      ∧ r.2.sem = fun _ => 0)

def quiescent_UpValIdeal [hUpValIdeal : Cert.UpValIdeal.Facts] : Prop :=
  ∀ (m : (ℓ : Loc Cert.UpValIdeal.nD Cert.UpValIdeal.τ Cert.UpValIdeal.sig) → Buf (Elt Ideal) ℓ) (g : Dev Cert.UpValIdeal.nD → PrngReg), Pre_UpValIdeal m →
    θ_run (Cert.UpValIdeal.defs (F := Ideal)) (onTc (τ := Cert.UpValIdeal.τ) (Cert.UpValIdeal.main (F := Ideal))) ⟨m, fun _ => 0, g⟩ (fun r => (∀ c : Dev Cert.UpValIdeal.nD,
      r.2.mem ((c.tc : Thread Cert.UpValIdeal.nD Cert.UpValIdeal.τ).loc Cert.UpValIdeal.main_arg0) = m ((c.tc : Thread Cert.UpValIdeal.nD Cert.UpValIdeal.τ).loc Cert.UpValIdeal.main_arg0)
      ∧ r.2.mem ((c.tc : Thread Cert.UpValIdeal.nD Cert.UpValIdeal.τ).loc Cert.UpValIdeal.main_arg1) = m ((c.tc : Thread Cert.UpValIdeal.nD Cert.UpValIdeal.τ).loc Cert.UpValIdeal.main_arg1))
      ∧ r.2.sem = fun _ => 0)

def quiescent_RefUpValIdeal [hRefUpValIdeal : Cert.RefUpValIdeal.Facts] : Prop :=
  ∀ (m : (ℓ : Loc Cert.RefUpValIdeal.nD Cert.RefUpValIdeal.τ Cert.RefUpValIdeal.sig) → Buf (Elt Ideal) ℓ) (g : Dev Cert.RefUpValIdeal.nD → PrngReg), Pre_RefUpValIdeal m →
    θ_run (Cert.RefUpValIdeal.defs (F := Ideal)) (onTc (τ := Cert.RefUpValIdeal.τ) (Cert.RefUpValIdeal.main (F := Ideal))) ⟨m, fun _ => 0, g⟩ (fun r => (∀ c : Dev Cert.RefUpValIdeal.nD,
      r.2.mem ((c.tc : Thread Cert.RefUpValIdeal.nD Cert.RefUpValIdeal.τ).loc Cert.RefUpValIdeal.main_arg0) = m ((c.tc : Thread Cert.RefUpValIdeal.nD Cert.RefUpValIdeal.τ).loc Cert.RefUpValIdeal.main_arg0)
      ∧ r.2.mem ((c.tc : Thread Cert.RefUpValIdeal.nD Cert.RefUpValIdeal.τ).loc Cert.RefUpValIdeal.main_arg1) = m ((c.tc : Thread Cert.RefUpValIdeal.nD Cert.RefUpValIdeal.τ).loc Cert.RefUpValIdeal.main_arg1))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ r.2.sem = fun _ => 0)

def quiescent_RefDownIdeal [hRefDownIdeal : Cert.RefDownIdeal.Facts] : Prop :=
  ∀ (m : (ℓ : Loc Cert.RefDownIdeal.nD Cert.RefDownIdeal.τ Cert.RefDownIdeal.sig) → Buf (Elt Ideal) ℓ) (g : Dev Cert.RefDownIdeal.nD → PrngReg), Pre_RefDownIdeal m →
    θ_run (Cert.RefDownIdeal.defs (F := Ideal)) (onTc (τ := Cert.RefDownIdeal.τ) (Cert.RefDownIdeal.main (F := Ideal))) ⟨m, fun _ => 0, g⟩ (fun r => (∀ c : Dev Cert.RefDownIdeal.nD,
      r.2.mem ((c.tc : Thread Cert.RefDownIdeal.nD Cert.RefDownIdeal.τ).loc Cert.RefDownIdeal.main_arg0) = m ((c.tc : Thread Cert.RefDownIdeal.nD Cert.RefDownIdeal.τ).loc Cert.RefDownIdeal.main_arg0)
      ∧ r.2.mem ((c.tc : Thread Cert.RefDownIdeal.nD Cert.RefDownIdeal.τ).loc Cert.RefDownIdeal.main_arg1) = m ((c.tc : Thread Cert.RefDownIdeal.nD Cert.RefDownIdeal.τ).loc Cert.RefDownIdeal.main_arg1))
      ∧ r.2.sem = fun _ => 0)

def preserves_BwdQ_BwdQIdeal : Prop :=
  IdealRules.named_const.Statement Cert.BwdQIdeal.κ "s" .f32 0x3DB504F3#32 (((Real.sqrt 128)⁻¹ : ℝ) : EReal)

def algebraic_BwdQIdeal_RefQIdeal_pre_finite [hBwdQIdeal : Cert.BwdQIdeal.Facts] [hRefQIdeal : Cert.RefQIdeal.Facts] [hPre_finite : Cert.Pre_finite.Facts] : Prop :=
  ∀ (m : (ℓ : Loc Cert.BwdQIdeal.nD Cert.BwdQIdeal.τ Cert.BwdQIdeal.sig) → Buf (Elt Ideal) ℓ) (g : Dev Cert.BwdQIdeal.nD → PrngReg)
    (m' : (ℓ : Loc Cert.RefQIdeal.nD Cert.RefQIdeal.τ Cert.RefQIdeal.sig) → Buf (Elt Ideal) ℓ) (g' : Dev Cert.RefQIdeal.nD → PrngReg), Pre_BwdQIdeal_finite m →
    (∀ c : Dev Cert.BwdQIdeal.nD,
      m' ((c.tc : Thread Cert.RefQIdeal.nD Cert.RefQIdeal.τ).loc Cert.RefQIdeal.main_arg0) = m ((c.tc : Thread Cert.BwdQIdeal.nD Cert.BwdQIdeal.τ).loc Cert.BwdQIdeal.main_arg0)
      ∧ m' ((c.tc : Thread Cert.RefQIdeal.nD Cert.RefQIdeal.τ).loc Cert.RefQIdeal.main_arg1) = m ((c.tc : Thread Cert.BwdQIdeal.nD Cert.BwdQIdeal.τ).loc Cert.BwdQIdeal.main_arg1)
      ∧ m' ((c.tc : Thread Cert.RefQIdeal.nD Cert.RefQIdeal.τ).loc Cert.RefQIdeal.main_arg2) = m ((c.tc : Thread Cert.BwdQIdeal.nD Cert.BwdQIdeal.τ).loc Cert.BwdQIdeal.main_arg2)
      ∧ m' ((c.tc : Thread Cert.RefQIdeal.nD Cert.RefQIdeal.τ).loc Cert.RefQIdeal.main_arg3) = m ((c.tc : Thread Cert.BwdQIdeal.nD Cert.BwdQIdeal.τ).loc Cert.BwdQIdeal.main_arg3)
      ∧ m' ((c.tc : Thread Cert.RefQIdeal.nD Cert.RefQIdeal.τ).loc Cert.RefQIdeal.main_arg4) = m ((c.tc : Thread Cert.BwdQIdeal.nD Cert.BwdQIdeal.τ).loc Cert.BwdQIdeal.main_arg4)) →
    ∃ (v0 : (c : Dev Cert.BwdQIdeal.nD) → Buf (Elt Ideal) ((c.tc : Thread Cert.BwdQIdeal.nD Cert.BwdQIdeal.τ).loc Cert.BwdQIdeal.main_v76_0)) (v1 : (c : Dev Cert.BwdQIdeal.nD) → Buf (Elt Ideal) ((c.tc : Thread Cert.BwdQIdeal.nD Cert.BwdQIdeal.τ).loc Cert.BwdQIdeal.main_v76_1)),
      θ_run (Cert.BwdQIdeal.defs (F := Ideal)) (onTc (τ := Cert.BwdQIdeal.τ) (Cert.BwdQIdeal.main (F := Ideal))) ⟨m, fun _ => 0, g⟩ (fun r => ∀ c : Dev Cert.BwdQIdeal.nD,
          r.2.mem ((c.tc : Thread Cert.BwdQIdeal.nD Cert.BwdQIdeal.τ).loc Cert.BwdQIdeal.main_v76_0) = v0 c
          ∧ r.2.mem ((c.tc : Thread Cert.BwdQIdeal.nD Cert.BwdQIdeal.τ).loc Cert.BwdQIdeal.main_v76_1) = v1 c
          ∧ r.2.mem ((c.tc : Thread Cert.BwdQIdeal.nD Cert.BwdQIdeal.τ).loc Cert.BwdQIdeal.main_arg0) = m ((c.tc : Thread Cert.BwdQIdeal.nD Cert.BwdQIdeal.τ).loc Cert.BwdQIdeal.main_arg0)
          ∧ r.2.mem ((c.tc : Thread Cert.BwdQIdeal.nD Cert.BwdQIdeal.τ).loc Cert.BwdQIdeal.main_arg1) = m ((c.tc : Thread Cert.BwdQIdeal.nD Cert.BwdQIdeal.τ).loc Cert.BwdQIdeal.main_arg1)
          ∧ r.2.mem ((c.tc : Thread Cert.BwdQIdeal.nD Cert.BwdQIdeal.τ).loc Cert.BwdQIdeal.main_arg2) = m ((c.tc : Thread Cert.BwdQIdeal.nD Cert.BwdQIdeal.τ).loc Cert.BwdQIdeal.main_arg2)
          ∧ r.2.mem ((c.tc : Thread Cert.BwdQIdeal.nD Cert.BwdQIdeal.τ).loc Cert.BwdQIdeal.main_arg3) = m ((c.tc : Thread Cert.BwdQIdeal.nD Cert.BwdQIdeal.τ).loc Cert.BwdQIdeal.main_arg3)
          ∧ r.2.mem ((c.tc : Thread Cert.BwdQIdeal.nD Cert.BwdQIdeal.τ).loc Cert.BwdQIdeal.main_arg4) = m ((c.tc : Thread Cert.BwdQIdeal.nD Cert.BwdQIdeal.τ).loc Cert.BwdQIdeal.main_arg4))
      ∧ θ_run (Cert.RefQIdeal.defs (F := Ideal)) (onTc (τ := Cert.RefQIdeal.τ) (Cert.RefQIdeal.main (F := Ideal))) ⟨m', fun _ => 0, g'⟩ (fun r => ∀ c : Dev Cert.RefQIdeal.nD,
          r.2.mem ((c.tc : Thread Cert.RefQIdeal.nD Cert.RefQIdeal.τ).loc Cert.RefQIdeal.main_v83) = v0 c
          ∧ r.2.mem ((c.tc : Thread Cert.RefQIdeal.nD Cert.RefQIdeal.τ).loc Cert.RefQIdeal.main_v86) = v1 c
          ∧ r.2.mem ((c.tc : Thread Cert.RefQIdeal.nD Cert.RefQIdeal.τ).loc Cert.RefQIdeal.main_arg0) = m' ((c.tc : Thread Cert.RefQIdeal.nD Cert.RefQIdeal.τ).loc Cert.RefQIdeal.main_arg0)
          ∧ r.2.mem ((c.tc : Thread Cert.RefQIdeal.nD Cert.RefQIdeal.τ).loc Cert.RefQIdeal.main_arg1) = m' ((c.tc : Thread Cert.RefQIdeal.nD Cert.RefQIdeal.τ).loc Cert.RefQIdeal.main_arg1)
          ∧ r.2.mem ((c.tc : Thread Cert.RefQIdeal.nD Cert.RefQIdeal.τ).loc Cert.RefQIdeal.main_arg2) = m' ((c.tc : Thread Cert.RefQIdeal.nD Cert.RefQIdeal.τ).loc Cert.RefQIdeal.main_arg2)
          ∧ r.2.mem ((c.tc : Thread Cert.RefQIdeal.nD Cert.RefQIdeal.τ).loc Cert.RefQIdeal.main_arg3) = m' ((c.tc : Thread Cert.RefQIdeal.nD Cert.RefQIdeal.τ).loc Cert.RefQIdeal.main_arg3)
          ∧ r.2.mem ((c.tc : Thread Cert.RefQIdeal.nD Cert.RefQIdeal.τ).loc Cert.RefQIdeal.main_arg4) = m' ((c.tc : Thread Cert.RefQIdeal.nD Cert.RefQIdeal.τ).loc Cert.RefQIdeal.main_arg4))

def preserves_BwdKv_BwdKvIdeal : Prop :=
  IdealRules.named_const.Statement Cert.BwdKvIdeal.κ "s" .f32 0x3DB504F3#32 (((Real.sqrt 128)⁻¹ : ℝ) : EReal)

def algebraic_BwdKvIdeal_RefKvIdeal_pre_finite [hBwdKvIdeal : Cert.BwdKvIdeal.Facts] [hRefKvIdeal : Cert.RefKvIdeal.Facts] [hPre_finite : Cert.Pre_finite.Facts] : Prop :=
  ∀ (m : (ℓ : Loc Cert.BwdKvIdeal.nD Cert.BwdKvIdeal.τ Cert.BwdKvIdeal.sig) → Buf (Elt Ideal) ℓ) (g : Dev Cert.BwdKvIdeal.nD → PrngReg)
    (m' : (ℓ : Loc Cert.RefKvIdeal.nD Cert.RefKvIdeal.τ Cert.RefKvIdeal.sig) → Buf (Elt Ideal) ℓ) (g' : Dev Cert.RefKvIdeal.nD → PrngReg), Pre_BwdKvIdeal_finite m →
    (∀ c : Dev Cert.BwdKvIdeal.nD,
      m' ((c.tc : Thread Cert.RefKvIdeal.nD Cert.RefKvIdeal.τ).loc Cert.RefKvIdeal.main_arg0) = m ((c.tc : Thread Cert.BwdKvIdeal.nD Cert.BwdKvIdeal.τ).loc Cert.BwdKvIdeal.main_arg0)
      ∧ m' ((c.tc : Thread Cert.RefKvIdeal.nD Cert.RefKvIdeal.τ).loc Cert.RefKvIdeal.main_arg1) = m ((c.tc : Thread Cert.BwdKvIdeal.nD Cert.BwdKvIdeal.τ).loc Cert.BwdKvIdeal.main_arg1)
      ∧ m' ((c.tc : Thread Cert.RefKvIdeal.nD Cert.RefKvIdeal.τ).loc Cert.RefKvIdeal.main_arg2) = m ((c.tc : Thread Cert.BwdKvIdeal.nD Cert.BwdKvIdeal.τ).loc Cert.BwdKvIdeal.main_arg2)
      ∧ m' ((c.tc : Thread Cert.RefKvIdeal.nD Cert.RefKvIdeal.τ).loc Cert.RefKvIdeal.main_arg3) = m ((c.tc : Thread Cert.BwdKvIdeal.nD Cert.BwdKvIdeal.τ).loc Cert.BwdKvIdeal.main_arg3)
      ∧ m' ((c.tc : Thread Cert.RefKvIdeal.nD Cert.RefKvIdeal.τ).loc Cert.RefKvIdeal.main_arg4) = m ((c.tc : Thread Cert.BwdKvIdeal.nD Cert.BwdKvIdeal.τ).loc Cert.BwdKvIdeal.main_arg4)) →
    ∃ (v0 : (c : Dev Cert.BwdKvIdeal.nD) → Buf (Elt Ideal) ((c.tc : Thread Cert.BwdKvIdeal.nD Cert.BwdKvIdeal.τ).loc Cert.BwdKvIdeal.main_v76_0)) (v1 : (c : Dev Cert.BwdKvIdeal.nD) → Buf (Elt Ideal) ((c.tc : Thread Cert.BwdKvIdeal.nD Cert.BwdKvIdeal.τ).loc Cert.BwdKvIdeal.main_v76_1)) (v2 : (c : Dev Cert.BwdKvIdeal.nD) → Buf (Elt Ideal) ((c.tc : Thread Cert.BwdKvIdeal.nD Cert.BwdKvIdeal.τ).loc Cert.BwdKvIdeal.main_v76_2)),
      θ_run (Cert.BwdKvIdeal.defs (F := Ideal)) (onTc (τ := Cert.BwdKvIdeal.τ) (Cert.BwdKvIdeal.main (F := Ideal))) ⟨m, fun _ => 0, g⟩ (fun r => ∀ c : Dev Cert.BwdKvIdeal.nD,
          r.2.mem ((c.tc : Thread Cert.BwdKvIdeal.nD Cert.BwdKvIdeal.τ).loc Cert.BwdKvIdeal.main_v76_0) = v0 c
          ∧ r.2.mem ((c.tc : Thread Cert.BwdKvIdeal.nD Cert.BwdKvIdeal.τ).loc Cert.BwdKvIdeal.main_v76_1) = v1 c
          ∧ r.2.mem ((c.tc : Thread Cert.BwdKvIdeal.nD Cert.BwdKvIdeal.τ).loc Cert.BwdKvIdeal.main_v76_2) = v2 c
          ∧ r.2.mem ((c.tc : Thread Cert.BwdKvIdeal.nD Cert.BwdKvIdeal.τ).loc Cert.BwdKvIdeal.main_arg0) = m ((c.tc : Thread Cert.BwdKvIdeal.nD Cert.BwdKvIdeal.τ).loc Cert.BwdKvIdeal.main_arg0)
          ∧ r.2.mem ((c.tc : Thread Cert.BwdKvIdeal.nD Cert.BwdKvIdeal.τ).loc Cert.BwdKvIdeal.main_arg1) = m ((c.tc : Thread Cert.BwdKvIdeal.nD Cert.BwdKvIdeal.τ).loc Cert.BwdKvIdeal.main_arg1)
          ∧ r.2.mem ((c.tc : Thread Cert.BwdKvIdeal.nD Cert.BwdKvIdeal.τ).loc Cert.BwdKvIdeal.main_arg2) = m ((c.tc : Thread Cert.BwdKvIdeal.nD Cert.BwdKvIdeal.τ).loc Cert.BwdKvIdeal.main_arg2)
          ∧ r.2.mem ((c.tc : Thread Cert.BwdKvIdeal.nD Cert.BwdKvIdeal.τ).loc Cert.BwdKvIdeal.main_arg3) = m ((c.tc : Thread Cert.BwdKvIdeal.nD Cert.BwdKvIdeal.τ).loc Cert.BwdKvIdeal.main_arg3)
          ∧ r.2.mem ((c.tc : Thread Cert.BwdKvIdeal.nD Cert.BwdKvIdeal.τ).loc Cert.BwdKvIdeal.main_arg4) = m ((c.tc : Thread Cert.BwdKvIdeal.nD Cert.BwdKvIdeal.τ).loc Cert.BwdKvIdeal.main_arg4))
      ∧ θ_run (Cert.RefKvIdeal.defs (F := Ideal)) (onTc (τ := Cert.RefKvIdeal.τ) (Cert.RefKvIdeal.main (F := Ideal))) ⟨m', fun _ => 0, g'⟩ (fun r => ∀ c : Dev Cert.RefKvIdeal.nD,
          r.2.mem ((c.tc : Thread Cert.RefKvIdeal.nD Cert.RefKvIdeal.τ).loc Cert.RefKvIdeal.main_v87) = v0 c
          ∧ r.2.mem ((c.tc : Thread Cert.RefKvIdeal.nD Cert.RefKvIdeal.τ).loc Cert.RefKvIdeal.main_v88) = v1 c
          ∧ r.2.mem ((c.tc : Thread Cert.RefKvIdeal.nD Cert.RefKvIdeal.τ).loc Cert.RefKvIdeal.main_v90) = v2 c
          ∧ r.2.mem ((c.tc : Thread Cert.RefKvIdeal.nD Cert.RefKvIdeal.τ).loc Cert.RefKvIdeal.main_arg0) = m' ((c.tc : Thread Cert.RefKvIdeal.nD Cert.RefKvIdeal.τ).loc Cert.RefKvIdeal.main_arg0)
          ∧ r.2.mem ((c.tc : Thread Cert.RefKvIdeal.nD Cert.RefKvIdeal.τ).loc Cert.RefKvIdeal.main_arg1) = m' ((c.tc : Thread Cert.RefKvIdeal.nD Cert.RefKvIdeal.τ).loc Cert.RefKvIdeal.main_arg1)
          ∧ r.2.mem ((c.tc : Thread Cert.RefKvIdeal.nD Cert.RefKvIdeal.τ).loc Cert.RefKvIdeal.main_arg2) = m' ((c.tc : Thread Cert.RefKvIdeal.nD Cert.RefKvIdeal.τ).loc Cert.RefKvIdeal.main_arg2)
          ∧ r.2.mem ((c.tc : Thread Cert.RefKvIdeal.nD Cert.RefKvIdeal.τ).loc Cert.RefKvIdeal.main_arg3) = m' ((c.tc : Thread Cert.RefKvIdeal.nD Cert.RefKvIdeal.τ).loc Cert.RefKvIdeal.main_arg3)
          ∧ r.2.mem ((c.tc : Thread Cert.RefKvIdeal.nD Cert.RefKvIdeal.τ).loc Cert.RefKvIdeal.main_arg4) = m' ((c.tc : Thread Cert.RefKvIdeal.nD Cert.RefKvIdeal.τ).loc Cert.RefKvIdeal.main_arg4))

def preserves_Fwd_FwdIdeal : Prop :=
  IdealRules.named_const.Statement Cert.FwdIdeal.κ "mask" .f32 0xF149F2CA#32 ⊥
  ∧ IdealRules.named_const.Statement Cert.FwdIdeal.κ "s" .f32 0x3DB504F3#32 (((Real.sqrt 128)⁻¹ : ℝ) : EReal)

def algebraic_FwdIdeal_RefFwdIdeal_pre_finite_fwd [hFwdIdeal : Cert.FwdIdeal.Facts] [hRefFwdIdeal : Cert.RefFwdIdeal.Facts] [hPre_finite_fwd : Cert.Pre_finite_fwd.Facts] : Prop :=
  ∀ (m : (ℓ : Loc Cert.FwdIdeal.nD Cert.FwdIdeal.τ Cert.FwdIdeal.sig) → Buf (Elt Ideal) ℓ) (g : Dev Cert.FwdIdeal.nD → PrngReg)
    (m' : (ℓ : Loc Cert.RefFwdIdeal.nD Cert.RefFwdIdeal.τ Cert.RefFwdIdeal.sig) → Buf (Elt Ideal) ℓ) (g' : Dev Cert.RefFwdIdeal.nD → PrngReg), Pre_FwdIdeal_finite_fwd m →
    (∀ c : Dev Cert.FwdIdeal.nD,
      m' ((c.tc : Thread Cert.RefFwdIdeal.nD Cert.RefFwdIdeal.τ).loc Cert.RefFwdIdeal.main_arg0) = m ((c.tc : Thread Cert.FwdIdeal.nD Cert.FwdIdeal.τ).loc Cert.FwdIdeal.main_arg0)
      ∧ m' ((c.tc : Thread Cert.RefFwdIdeal.nD Cert.RefFwdIdeal.τ).loc Cert.RefFwdIdeal.main_arg1) = m ((c.tc : Thread Cert.FwdIdeal.nD Cert.FwdIdeal.τ).loc Cert.FwdIdeal.main_arg1)
      ∧ m' ((c.tc : Thread Cert.RefFwdIdeal.nD Cert.RefFwdIdeal.τ).loc Cert.RefFwdIdeal.main_arg2) = m ((c.tc : Thread Cert.FwdIdeal.nD Cert.FwdIdeal.τ).loc Cert.FwdIdeal.main_arg2)
      ∧ m' ((c.tc : Thread Cert.RefFwdIdeal.nD Cert.RefFwdIdeal.τ).loc Cert.RefFwdIdeal.main_arg3) = m ((c.tc : Thread Cert.FwdIdeal.nD Cert.FwdIdeal.τ).loc Cert.FwdIdeal.main_arg3)) →
    ∃ (v0 : (c : Dev Cert.FwdIdeal.nD) → Buf (Elt Ideal) ((c.tc : Thread Cert.FwdIdeal.nD Cert.FwdIdeal.τ).loc Cert.FwdIdeal.main_v4_0)) (v1 : (c : Dev Cert.FwdIdeal.nD) → Buf (Elt Ideal) ((c.tc : Thread Cert.FwdIdeal.nD Cert.FwdIdeal.τ).loc Cert.FwdIdeal.main_v4_1)) (v2 : (c : Dev Cert.FwdIdeal.nD) → Buf (Elt Ideal) ((c.tc : Thread Cert.FwdIdeal.nD Cert.FwdIdeal.τ).loc Cert.FwdIdeal.main_v4_2)),
      θ_run (Cert.FwdIdeal.defs (F := Ideal)) (onTc (τ := Cert.FwdIdeal.τ) (Cert.FwdIdeal.main (F := Ideal))) ⟨m, fun _ => 0, g⟩ (fun r => ∀ c : Dev Cert.FwdIdeal.nD,
          r.2.mem ((c.tc : Thread Cert.FwdIdeal.nD Cert.FwdIdeal.τ).loc Cert.FwdIdeal.main_v4_0) = v0 c
          ∧ r.2.mem ((c.tc : Thread Cert.FwdIdeal.nD Cert.FwdIdeal.τ).loc Cert.FwdIdeal.main_v4_1) = v1 c
          ∧ r.2.mem ((c.tc : Thread Cert.FwdIdeal.nD Cert.FwdIdeal.τ).loc Cert.FwdIdeal.main_v4_2) = v2 c
          ∧ r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
          ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1)
          ∧ r.2.mem ((c.tc : Thread Cert.FwdIdeal.nD Cert.FwdIdeal.τ).loc Cert.FwdIdeal.main_arg2) = m ((c.tc : Thread Cert.FwdIdeal.nD Cert.FwdIdeal.τ).loc Cert.FwdIdeal.main_arg2)
          ∧ r.2.mem ((c.tc : Thread Cert.FwdIdeal.nD Cert.FwdIdeal.τ).loc Cert.FwdIdeal.main_arg3) = m ((c.tc : Thread Cert.FwdIdeal.nD Cert.FwdIdeal.τ).loc Cert.FwdIdeal.main_arg3))
      ∧ θ_run (Cert.RefFwdIdeal.defs (F := Ideal)) (onTc (τ := Cert.RefFwdIdeal.τ) (Cert.RefFwdIdeal.main (F := Ideal))) ⟨m', fun _ => 0, g'⟩ (fun r => ∀ c : Dev Cert.RefFwdIdeal.nD,
          r.2.mem ((c.tc : Thread Cert.RefFwdIdeal.nD Cert.RefFwdIdeal.τ).loc Cert.RefFwdIdeal.main_v40) = v0 c
          ∧ r.2.mem ((c.tc : Thread Cert.RefFwdIdeal.nD Cert.RefFwdIdeal.τ).loc Cert.RefFwdIdeal.main_v39) = v1 c
          ∧ r.2.mem ((c.tc : Thread Cert.RefFwdIdeal.nD Cert.RefFwdIdeal.τ).loc Cert.RefFwdIdeal.main_v72) = v2 c
          ∧ r.2.mem ((c.tc : Thread Cert.RefFwdIdeal.nD Cert.RefFwdIdeal.τ).loc Cert.RefFwdIdeal.main_arg0) = m' ((c.tc : Thread Cert.RefFwdIdeal.nD Cert.RefFwdIdeal.τ).loc Cert.RefFwdIdeal.main_arg0)
          ∧ r.2.mem ((c.tc : Thread Cert.RefFwdIdeal.nD Cert.RefFwdIdeal.τ).loc Cert.RefFwdIdeal.main_arg1) = m' ((c.tc : Thread Cert.RefFwdIdeal.nD Cert.RefFwdIdeal.τ).loc Cert.RefFwdIdeal.main_arg1)
          ∧ r.2.mem ((c.tc : Thread Cert.RefFwdIdeal.nD Cert.RefFwdIdeal.τ).loc Cert.RefFwdIdeal.main_arg2) = m' ((c.tc : Thread Cert.RefFwdIdeal.nD Cert.RefFwdIdeal.τ).loc Cert.RefFwdIdeal.main_arg2)
          ∧ r.2.mem ((c.tc : Thread Cert.RefFwdIdeal.nD Cert.RefFwdIdeal.τ).loc Cert.RefFwdIdeal.main_arg3) = m' ((c.tc : Thread Cert.RefFwdIdeal.nD Cert.RefFwdIdeal.τ).loc Cert.RefFwdIdeal.main_arg3))

def preserves_DwDown_DwDownIdeal : Prop :=
  True

def algebraic_DwDownIdeal_RefDwDownIdeal [hDwDownIdeal : Cert.DwDownIdeal.Facts] [hRefDwDownIdeal : Cert.RefDwDownIdeal.Facts] : Prop :=
  ∀ (m : (ℓ : Loc Cert.DwDownIdeal.nD Cert.DwDownIdeal.τ Cert.DwDownIdeal.sig) → Buf (Elt Ideal) ℓ) (g : Dev Cert.DwDownIdeal.nD → PrngReg)
    (m' : (ℓ : Loc Cert.RefDwDownIdeal.nD Cert.RefDwDownIdeal.τ Cert.RefDwDownIdeal.sig) → Buf (Elt Ideal) ℓ) (g' : Dev Cert.RefDwDownIdeal.nD → PrngReg), Pre_DwDownIdeal m →
    (∀ c : Dev Cert.DwDownIdeal.nD,
      m' ((c.tc : Thread Cert.RefDwDownIdeal.nD Cert.RefDwDownIdeal.τ).loc Cert.RefDwDownIdeal.main_arg0) = m ((c.tc : Thread Cert.DwDownIdeal.nD Cert.DwDownIdeal.τ).loc Cert.DwDownIdeal.main_arg0)
      ∧ m' ((c.tc : Thread Cert.RefDwDownIdeal.nD Cert.RefDwDownIdeal.τ).loc Cert.RefDwDownIdeal.main_arg1) = m ((c.tc : Thread Cert.DwDownIdeal.nD Cert.DwDownIdeal.τ).loc Cert.DwDownIdeal.main_arg1)) →
    ∃ (v0 : (c : Dev Cert.DwDownIdeal.nD) → Buf (Elt Ideal) ((c.tc : Thread Cert.DwDownIdeal.nD Cert.DwDownIdeal.τ).loc Cert.DwDownIdeal.main_v2)),
      θ_run (Cert.DwDownIdeal.defs (F := Ideal)) (onTc (τ := Cert.DwDownIdeal.τ) (Cert.DwDownIdeal.main (F := Ideal))) ⟨m, fun _ => 0, g⟩ (fun r => ∀ c : Dev Cert.DwDownIdeal.nD,
          r.2.mem ((c.tc : Thread Cert.DwDownIdeal.nD Cert.DwDownIdeal.τ).loc Cert.DwDownIdeal.main_v2) = v0 c
          ∧ r.2.mem ((c.tc : Thread Cert.DwDownIdeal.nD Cert.DwDownIdeal.τ).loc Cert.DwDownIdeal.main_arg0) = m ((c.tc : Thread Cert.DwDownIdeal.nD Cert.DwDownIdeal.τ).loc Cert.DwDownIdeal.main_arg0)
          ∧ r.2.mem ((c.tc : Thread Cert.DwDownIdeal.nD Cert.DwDownIdeal.τ).loc Cert.DwDownIdeal.main_arg1) = m ((c.tc : Thread Cert.DwDownIdeal.nD Cert.DwDownIdeal.τ).loc Cert.DwDownIdeal.main_arg1))
      ∧ θ_run (Cert.RefDwDownIdeal.defs (F := Ideal)) (onTc (τ := Cert.RefDwDownIdeal.τ) (Cert.RefDwDownIdeal.main (F := Ideal))) ⟨m', fun _ => 0, g'⟩ (fun r => ∀ c : Dev Cert.RefDwDownIdeal.nD,
          r.2.mem ((c.tc : Thread Cert.RefDwDownIdeal.nD Cert.RefDwDownIdeal.τ).loc Cert.RefDwDownIdeal.main_v6) = v0 c
          ∧ r.2.mem ((c.tc : Thread Cert.RefDwDownIdeal.nD Cert.RefDwDownIdeal.τ).loc Cert.RefDwDownIdeal.main_arg0) = m' ((c.tc : Thread Cert.RefDwDownIdeal.nD Cert.RefDwDownIdeal.τ).loc Cert.RefDwDownIdeal.main_arg0)
          ∧ r.2.mem ((c.tc : Thread Cert.RefDwDownIdeal.nD Cert.RefDwDownIdeal.τ).loc Cert.RefDwDownIdeal.main_arg1) = m' ((c.tc : Thread Cert.RefDwDownIdeal.nD Cert.RefDwDownIdeal.τ).loc Cert.RefDwDownIdeal.main_arg1))

def preserves_Dact_DactIdeal : Prop :=
  True

def algebraic_DactIdeal_RefDactIdeal [hDactIdeal : Cert.DactIdeal.Facts] [hRefDactIdeal : Cert.RefDactIdeal.Facts] : Prop :=
  ∀ (m : (ℓ : Loc Cert.DactIdeal.nD Cert.DactIdeal.τ Cert.DactIdeal.sig) → Buf (Elt Ideal) ℓ) (g : Dev Cert.DactIdeal.nD → PrngReg)
    (m' : (ℓ : Loc Cert.RefDactIdeal.nD Cert.RefDactIdeal.τ Cert.RefDactIdeal.sig) → Buf (Elt Ideal) ℓ) (g' : Dev Cert.RefDactIdeal.nD → PrngReg), Pre_DactIdeal m →
    (∀ c : Dev Cert.DactIdeal.nD,
      m' ((c.tc : Thread Cert.RefDactIdeal.nD Cert.RefDactIdeal.τ).loc Cert.RefDactIdeal.main_arg0) = m ((c.tc : Thread Cert.DactIdeal.nD Cert.DactIdeal.τ).loc Cert.DactIdeal.main_arg0)
      ∧ m' ((c.tc : Thread Cert.RefDactIdeal.nD Cert.RefDactIdeal.τ).loc Cert.RefDactIdeal.main_arg1) = m ((c.tc : Thread Cert.DactIdeal.nD Cert.DactIdeal.τ).loc Cert.DactIdeal.main_arg1)) →
    ∃ (v0 : (c : Dev Cert.DactIdeal.nD) → Buf (Elt Ideal) ((c.tc : Thread Cert.DactIdeal.nD Cert.DactIdeal.τ).loc Cert.DactIdeal.main_v2)),
      θ_run (Cert.DactIdeal.defs (F := Ideal)) (onTc (τ := Cert.DactIdeal.τ) (Cert.DactIdeal.main (F := Ideal))) ⟨m, fun _ => 0, g⟩ (fun r => ∀ c : Dev Cert.DactIdeal.nD,
          r.2.mem ((c.tc : Thread Cert.DactIdeal.nD Cert.DactIdeal.τ).loc Cert.DactIdeal.main_v2) = v0 c
          ∧ r.2.mem ((c.tc : Thread Cert.DactIdeal.nD Cert.DactIdeal.τ).loc Cert.DactIdeal.main_arg0) = m ((c.tc : Thread Cert.DactIdeal.nD Cert.DactIdeal.τ).loc Cert.DactIdeal.main_arg0)
          ∧ r.2.mem ((c.tc : Thread Cert.DactIdeal.nD Cert.DactIdeal.τ).loc Cert.DactIdeal.main_arg1) = m ((c.tc : Thread Cert.DactIdeal.nD Cert.DactIdeal.τ).loc Cert.DactIdeal.main_arg1))
      ∧ θ_run (Cert.RefDactIdeal.defs (F := Ideal)) (onTc (τ := Cert.RefDactIdeal.τ) (Cert.RefDactIdeal.main (F := Ideal))) ⟨m', fun _ => 0, g'⟩ (fun r => ∀ c : Dev Cert.RefDactIdeal.nD,
          r.2.mem ((c.tc : Thread Cert.RefDactIdeal.nD Cert.RefDactIdeal.τ).loc Cert.RefDactIdeal.main_v4) = v0 c
          ∧ r.2.mem ((c.tc : Thread Cert.RefDactIdeal.nD Cert.RefDactIdeal.τ).loc Cert.RefDactIdeal.main_arg0) = m' ((c.tc : Thread Cert.RefDactIdeal.nD Cert.RefDactIdeal.τ).loc Cert.RefDactIdeal.main_arg0)
          ∧ r.2.mem ((c.tc : Thread Cert.RefDactIdeal.nD Cert.RefDactIdeal.τ).loc Cert.RefDactIdeal.main_arg1) = m' ((c.tc : Thread Cert.RefDactIdeal.nD Cert.RefDactIdeal.τ).loc Cert.RefDactIdeal.main_arg1))

def preserves_DwUp_DwUpIdeal : Prop :=
  True

def algebraic_DwUpIdeal_RefDwUpIdeal [hDwUpIdeal : Cert.DwUpIdeal.Facts] [hRefDwUpIdeal : Cert.RefDwUpIdeal.Facts] : Prop :=
  ∀ (m : (ℓ : Loc Cert.DwUpIdeal.nD Cert.DwUpIdeal.τ Cert.DwUpIdeal.sig) → Buf (Elt Ideal) ℓ) (g : Dev Cert.DwUpIdeal.nD → PrngReg)
    (m' : (ℓ : Loc Cert.RefDwUpIdeal.nD Cert.RefDwUpIdeal.τ Cert.RefDwUpIdeal.sig) → Buf (Elt Ideal) ℓ) (g' : Dev Cert.RefDwUpIdeal.nD → PrngReg), Pre_DwUpIdeal m →
    (∀ c : Dev Cert.DwUpIdeal.nD,
      m' ((c.tc : Thread Cert.RefDwUpIdeal.nD Cert.RefDwUpIdeal.τ).loc Cert.RefDwUpIdeal.main_arg0) = m ((c.tc : Thread Cert.DwUpIdeal.nD Cert.DwUpIdeal.τ).loc Cert.DwUpIdeal.main_arg0)
      ∧ m' ((c.tc : Thread Cert.RefDwUpIdeal.nD Cert.RefDwUpIdeal.τ).loc Cert.RefDwUpIdeal.main_arg1) = m ((c.tc : Thread Cert.DwUpIdeal.nD Cert.DwUpIdeal.τ).loc Cert.DwUpIdeal.main_arg1)) →
    ∃ (v0 : (c : Dev Cert.DwUpIdeal.nD) → Buf (Elt Ideal) ((c.tc : Thread Cert.DwUpIdeal.nD Cert.DwUpIdeal.τ).loc Cert.DwUpIdeal.main_v8)),
      θ_run (Cert.DwUpIdeal.defs (F := Ideal)) (onTc (τ := Cert.DwUpIdeal.τ) (Cert.DwUpIdeal.main (F := Ideal))) ⟨m, fun _ => 0, g⟩ (fun r => ∀ c : Dev Cert.DwUpIdeal.nD,
          r.2.mem ((c.tc : Thread Cert.DwUpIdeal.nD Cert.DwUpIdeal.τ).loc Cert.DwUpIdeal.main_v8) = v0 c
          ∧ r.2.mem ((c.tc : Thread Cert.DwUpIdeal.nD Cert.DwUpIdeal.τ).loc Cert.DwUpIdeal.main_arg0) = m ((c.tc : Thread Cert.DwUpIdeal.nD Cert.DwUpIdeal.τ).loc Cert.DwUpIdeal.main_arg0)
          ∧ r.2.mem ((c.tc : Thread Cert.DwUpIdeal.nD Cert.DwUpIdeal.τ).loc Cert.DwUpIdeal.main_arg1) = m ((c.tc : Thread Cert.DwUpIdeal.nD Cert.DwUpIdeal.τ).loc Cert.DwUpIdeal.main_arg1))
      ∧ θ_run (Cert.RefDwUpIdeal.defs (F := Ideal)) (onTc (τ := Cert.RefDwUpIdeal.τ) (Cert.RefDwUpIdeal.main (F := Ideal))) ⟨m', fun _ => 0, g'⟩ (fun r => ∀ c : Dev Cert.RefDwUpIdeal.nD,
          r.2.mem ((c.tc : Thread Cert.RefDwUpIdeal.nD Cert.RefDwUpIdeal.τ).loc Cert.RefDwUpIdeal.main_v6) = v0 c
          ∧ r.2.mem ((c.tc : Thread Cert.RefDwUpIdeal.nD Cert.RefDwUpIdeal.τ).loc Cert.RefDwUpIdeal.main_arg0) = m' ((c.tc : Thread Cert.RefDwUpIdeal.nD Cert.RefDwUpIdeal.τ).loc Cert.RefDwUpIdeal.main_arg0)
          ∧ r.2.mem ((c.tc : Thread Cert.RefDwUpIdeal.nD Cert.RefDwUpIdeal.τ).loc Cert.RefDwUpIdeal.main_arg1) = m' ((c.tc : Thread Cert.RefDwUpIdeal.nD Cert.RefDwUpIdeal.τ).loc Cert.RefDwUpIdeal.main_arg1))

def preserves_DxUp_DxUpIdeal : Prop :=
  True

def algebraic_DxUpIdeal_RefDxUpIdeal [hDxUpIdeal : Cert.DxUpIdeal.Facts] [hRefDxUpIdeal : Cert.RefDxUpIdeal.Facts] : Prop :=
  ∀ (m : (ℓ : Loc Cert.DxUpIdeal.nD Cert.DxUpIdeal.τ Cert.DxUpIdeal.sig) → Buf (Elt Ideal) ℓ) (g : Dev Cert.DxUpIdeal.nD → PrngReg)
    (m' : (ℓ : Loc Cert.RefDxUpIdeal.nD Cert.RefDxUpIdeal.τ Cert.RefDxUpIdeal.sig) → Buf (Elt Ideal) ℓ) (g' : Dev Cert.RefDxUpIdeal.nD → PrngReg), Pre_DxUpIdeal m →
    (∀ c : Dev Cert.DxUpIdeal.nD,
      m' ((c.tc : Thread Cert.RefDxUpIdeal.nD Cert.RefDxUpIdeal.τ).loc Cert.RefDxUpIdeal.main_arg0) = m ((c.tc : Thread Cert.DxUpIdeal.nD Cert.DxUpIdeal.τ).loc Cert.DxUpIdeal.main_arg0)
      ∧ m' ((c.tc : Thread Cert.RefDxUpIdeal.nD Cert.RefDxUpIdeal.τ).loc Cert.RefDxUpIdeal.main_arg1) = m ((c.tc : Thread Cert.DxUpIdeal.nD Cert.DxUpIdeal.τ).loc Cert.DxUpIdeal.main_arg1)
      ∧ m' ((c.tc : Thread Cert.RefDxUpIdeal.nD Cert.RefDxUpIdeal.τ).loc Cert.RefDxUpIdeal.main_arg2) = m ((c.tc : Thread Cert.DxUpIdeal.nD Cert.DxUpIdeal.τ).loc Cert.DxUpIdeal.main_arg2)) →
    ∃ (v0 : (c : Dev Cert.DxUpIdeal.nD) → Buf (Elt Ideal) ((c.tc : Thread Cert.DxUpIdeal.nD Cert.DxUpIdeal.τ).loc Cert.DxUpIdeal.main_v10)),
      θ_run (Cert.DxUpIdeal.defs (F := Ideal)) (onTc (τ := Cert.DxUpIdeal.τ) (Cert.DxUpIdeal.main (F := Ideal))) ⟨m, fun _ => 0, g⟩ (fun r => ∀ c : Dev Cert.DxUpIdeal.nD,
          r.2.mem ((c.tc : Thread Cert.DxUpIdeal.nD Cert.DxUpIdeal.τ).loc Cert.DxUpIdeal.main_v10) = v0 c
          ∧ r.2.mem ((c.tc : Thread Cert.DxUpIdeal.nD Cert.DxUpIdeal.τ).loc Cert.DxUpIdeal.main_arg0) = m ((c.tc : Thread Cert.DxUpIdeal.nD Cert.DxUpIdeal.τ).loc Cert.DxUpIdeal.main_arg0)
          ∧ r.2.mem ((c.tc : Thread Cert.DxUpIdeal.nD Cert.DxUpIdeal.τ).loc Cert.DxUpIdeal.main_arg1) = m ((c.tc : Thread Cert.DxUpIdeal.nD Cert.DxUpIdeal.τ).loc Cert.DxUpIdeal.main_arg1)
          ∧ r.2.mem ((c.tc : Thread Cert.DxUpIdeal.nD Cert.DxUpIdeal.τ).loc Cert.DxUpIdeal.main_arg2) = m ((c.tc : Thread Cert.DxUpIdeal.nD Cert.DxUpIdeal.τ).loc Cert.DxUpIdeal.main_arg2))
      ∧ θ_run (Cert.RefDxUpIdeal.defs (F := Ideal)) (onTc (τ := Cert.RefDxUpIdeal.τ) (Cert.RefDxUpIdeal.main (F := Ideal))) ⟨m', fun _ => 0, g'⟩ (fun r => ∀ c : Dev Cert.RefDxUpIdeal.nD,
          r.2.mem ((c.tc : Thread Cert.RefDxUpIdeal.nD Cert.RefDxUpIdeal.τ).loc Cert.RefDxUpIdeal.main_v9) = v0 c
          ∧ r.2.mem ((c.tc : Thread Cert.RefDxUpIdeal.nD Cert.RefDxUpIdeal.τ).loc Cert.RefDxUpIdeal.main_arg0) = m' ((c.tc : Thread Cert.RefDxUpIdeal.nD Cert.RefDxUpIdeal.τ).loc Cert.RefDxUpIdeal.main_arg0)
          ∧ r.2.mem ((c.tc : Thread Cert.RefDxUpIdeal.nD Cert.RefDxUpIdeal.τ).loc Cert.RefDxUpIdeal.main_arg1) = m' ((c.tc : Thread Cert.RefDxUpIdeal.nD Cert.RefDxUpIdeal.τ).loc Cert.RefDxUpIdeal.main_arg1)
          ∧ r.2.mem ((c.tc : Thread Cert.RefDxUpIdeal.nD Cert.RefDxUpIdeal.τ).loc Cert.RefDxUpIdeal.main_arg2) = m' ((c.tc : Thread Cert.RefDxUpIdeal.nD Cert.RefDxUpIdeal.τ).loc Cert.RefDxUpIdeal.main_arg2))

def preserves_DwOut_DwOutIdeal : Prop :=
  True

def algebraic_DwOutIdeal_RefDwOutIdeal [hDwOutIdeal : Cert.DwOutIdeal.Facts] [hRefDwOutIdeal : Cert.RefDwOutIdeal.Facts] : Prop :=
  ∀ (m : (ℓ : Loc Cert.DwOutIdeal.nD Cert.DwOutIdeal.τ Cert.DwOutIdeal.sig) → Buf (Elt Ideal) ℓ) (g : Dev Cert.DwOutIdeal.nD → PrngReg)
    (m' : (ℓ : Loc Cert.RefDwOutIdeal.nD Cert.RefDwOutIdeal.τ Cert.RefDwOutIdeal.sig) → Buf (Elt Ideal) ℓ) (g' : Dev Cert.RefDwOutIdeal.nD → PrngReg), Pre_DwOutIdeal m →
    (∀ c : Dev Cert.DwOutIdeal.nD,
      m' ((c.tc : Thread Cert.RefDwOutIdeal.nD Cert.RefDwOutIdeal.τ).loc Cert.RefDwOutIdeal.main_arg0) = m ((c.tc : Thread Cert.DwOutIdeal.nD Cert.DwOutIdeal.τ).loc Cert.DwOutIdeal.main_arg0)
      ∧ m' ((c.tc : Thread Cert.RefDwOutIdeal.nD Cert.RefDwOutIdeal.τ).loc Cert.RefDwOutIdeal.main_arg1) = m ((c.tc : Thread Cert.DwOutIdeal.nD Cert.DwOutIdeal.τ).loc Cert.DwOutIdeal.main_arg1)) →
    ∃ (v0 : (c : Dev Cert.DwOutIdeal.nD) → Buf (Elt Ideal) ((c.tc : Thread Cert.DwOutIdeal.nD Cert.DwOutIdeal.τ).loc Cert.DwOutIdeal.main_v0)),
      θ_run (Cert.DwOutIdeal.defs (F := Ideal)) (onTc (τ := Cert.DwOutIdeal.τ) (Cert.DwOutIdeal.main (F := Ideal))) ⟨m, fun _ => 0, g⟩ (fun r => ∀ c : Dev Cert.DwOutIdeal.nD,
          r.2.mem ((c.tc : Thread Cert.DwOutIdeal.nD Cert.DwOutIdeal.τ).loc Cert.DwOutIdeal.main_v0) = v0 c
          ∧ r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
          ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1))
      ∧ θ_run (Cert.RefDwOutIdeal.defs (F := Ideal)) (onTc (τ := Cert.RefDwOutIdeal.τ) (Cert.RefDwOutIdeal.main (F := Ideal))) ⟨m', fun _ => 0, g'⟩ (fun r => ∀ c : Dev Cert.RefDwOutIdeal.nD,
          r.2.mem ((c.tc : Thread Cert.RefDwOutIdeal.nD Cert.RefDwOutIdeal.τ).loc Cert.RefDwOutIdeal.main_v6) = v0 c
          ∧ r.2.mem ((c.tc : Thread Cert.RefDwOutIdeal.nD Cert.RefDwOutIdeal.τ).loc Cert.RefDwOutIdeal.main_arg0) = m' ((c.tc : Thread Cert.RefDwOutIdeal.nD Cert.RefDwOutIdeal.τ).loc Cert.RefDwOutIdeal.main_arg0)
          ∧ r.2.mem ((c.tc : Thread Cert.RefDwOutIdeal.nD Cert.RefDwOutIdeal.τ).loc Cert.RefDwOutIdeal.main_arg1) = m' ((c.tc : Thread Cert.RefDwOutIdeal.nD Cert.RefDwOutIdeal.τ).loc Cert.RefDwOutIdeal.main_arg1))

def preserves_Dmerged_DmergedIdeal : Prop :=
  True

def algebraic_DmergedIdeal_RefDmergedIdeal [hDmergedIdeal : Cert.DmergedIdeal.Facts] [hRefDmergedIdeal : Cert.RefDmergedIdeal.Facts] : Prop :=
  ∀ (m : (ℓ : Loc Cert.DmergedIdeal.nD Cert.DmergedIdeal.τ Cert.DmergedIdeal.sig) → Buf (Elt Ideal) ℓ) (g : Dev Cert.DmergedIdeal.nD → PrngReg)
    (m' : (ℓ : Loc Cert.RefDmergedIdeal.nD Cert.RefDmergedIdeal.τ Cert.RefDmergedIdeal.sig) → Buf (Elt Ideal) ℓ) (g' : Dev Cert.RefDmergedIdeal.nD → PrngReg), Pre_DmergedIdeal m →
    (∀ c : Dev Cert.DmergedIdeal.nD,
      m' ((c.tc : Thread Cert.RefDmergedIdeal.nD Cert.RefDmergedIdeal.τ).loc Cert.RefDmergedIdeal.main_arg0) = m ((c.tc : Thread Cert.DmergedIdeal.nD Cert.DmergedIdeal.τ).loc Cert.DmergedIdeal.main_arg0)
      ∧ m' ((c.tc : Thread Cert.RefDmergedIdeal.nD Cert.RefDmergedIdeal.τ).loc Cert.RefDmergedIdeal.main_arg1) = m ((c.tc : Thread Cert.DmergedIdeal.nD Cert.DmergedIdeal.τ).loc Cert.DmergedIdeal.main_arg1)) →
    ∃ (v0 : (c : Dev Cert.DmergedIdeal.nD) → Buf (Elt Ideal) ((c.tc : Thread Cert.DmergedIdeal.nD Cert.DmergedIdeal.τ).loc Cert.DmergedIdeal.main_v0)),
      θ_run (Cert.DmergedIdeal.defs (F := Ideal)) (onTc (τ := Cert.DmergedIdeal.τ) (Cert.DmergedIdeal.main (F := Ideal))) ⟨m, fun _ => 0, g⟩ (fun r => ∀ c : Dev Cert.DmergedIdeal.nD,
          r.2.mem ((c.tc : Thread Cert.DmergedIdeal.nD Cert.DmergedIdeal.τ).loc Cert.DmergedIdeal.main_v0) = v0 c
          ∧ r.2.mem ((c.tc : Thread Cert.DmergedIdeal.nD Cert.DmergedIdeal.τ).loc Cert.DmergedIdeal.main_arg0) = m ((c.tc : Thread Cert.DmergedIdeal.nD Cert.DmergedIdeal.τ).loc Cert.DmergedIdeal.main_arg0)
          ∧ r.2.mem ((c.tc : Thread Cert.DmergedIdeal.nD Cert.DmergedIdeal.τ).loc Cert.DmergedIdeal.main_arg1) = m ((c.tc : Thread Cert.DmergedIdeal.nD Cert.DmergedIdeal.τ).loc Cert.DmergedIdeal.main_arg1))
      ∧ θ_run (Cert.RefDmergedIdeal.defs (F := Ideal)) (onTc (τ := Cert.RefDmergedIdeal.τ) (Cert.RefDmergedIdeal.main (F := Ideal))) ⟨m', fun _ => 0, g'⟩ (fun r => ∀ c : Dev Cert.RefDmergedIdeal.nD,
          r.2.mem ((c.tc : Thread Cert.RefDmergedIdeal.nD Cert.RefDmergedIdeal.τ).loc Cert.RefDmergedIdeal.main_v4) = v0 c
          ∧ r.2.mem ((c.tc : Thread Cert.RefDmergedIdeal.nD Cert.RefDmergedIdeal.τ).loc Cert.RefDmergedIdeal.main_arg0) = m' ((c.tc : Thread Cert.RefDmergedIdeal.nD Cert.RefDmergedIdeal.τ).loc Cert.RefDmergedIdeal.main_arg0)
          ∧ r.2.mem ((c.tc : Thread Cert.RefDmergedIdeal.nD Cert.RefDmergedIdeal.τ).loc Cert.RefDmergedIdeal.main_arg1) = m' ((c.tc : Thread Cert.RefDmergedIdeal.nD Cert.RefDmergedIdeal.τ).loc Cert.RefDmergedIdeal.main_arg1))

def preserves_DwProj_DwProjIdeal : Prop :=
  True

def algebraic_DwProjIdeal_RefDwProjIdeal [hDwProjIdeal : Cert.DwProjIdeal.Facts] [hRefDwProjIdeal : Cert.RefDwProjIdeal.Facts] : Prop :=
  ∀ (m : (ℓ : Loc Cert.DwProjIdeal.nD Cert.DwProjIdeal.τ Cert.DwProjIdeal.sig) → Buf (Elt Ideal) ℓ) (g : Dev Cert.DwProjIdeal.nD → PrngReg)
    (m' : (ℓ : Loc Cert.RefDwProjIdeal.nD Cert.RefDwProjIdeal.τ Cert.RefDwProjIdeal.sig) → Buf (Elt Ideal) ℓ) (g' : Dev Cert.RefDwProjIdeal.nD → PrngReg), Pre_DwProjIdeal m →
    (∀ c : Dev Cert.DwProjIdeal.nD,
      m' ((c.tc : Thread Cert.RefDwProjIdeal.nD Cert.RefDwProjIdeal.τ).loc Cert.RefDwProjIdeal.main_arg0) = m ((c.tc : Thread Cert.DwProjIdeal.nD Cert.DwProjIdeal.τ).loc Cert.DwProjIdeal.main_arg0)
      ∧ m' ((c.tc : Thread Cert.RefDwProjIdeal.nD Cert.RefDwProjIdeal.τ).loc Cert.RefDwProjIdeal.main_arg1) = m ((c.tc : Thread Cert.DwProjIdeal.nD Cert.DwProjIdeal.τ).loc Cert.DwProjIdeal.main_arg1)) →
    ∃ (v0 : (c : Dev Cert.DwProjIdeal.nD) → Buf (Elt Ideal) ((c.tc : Thread Cert.DwProjIdeal.nD Cert.DwProjIdeal.τ).loc Cert.DwProjIdeal.main_v0)),
      θ_run (Cert.DwProjIdeal.defs (F := Ideal)) (onTc (τ := Cert.DwProjIdeal.τ) (Cert.DwProjIdeal.main (F := Ideal))) ⟨m, fun _ => 0, g⟩ (fun r => ∀ c : Dev Cert.DwProjIdeal.nD,
          r.2.mem ((c.tc : Thread Cert.DwProjIdeal.nD Cert.DwProjIdeal.τ).loc Cert.DwProjIdeal.main_v0) = v0 c
          ∧ r.2.mem ((c.tc : Thread Cert.DwProjIdeal.nD Cert.DwProjIdeal.τ).loc Cert.DwProjIdeal.main_arg0) = m ((c.tc : Thread Cert.DwProjIdeal.nD Cert.DwProjIdeal.τ).loc Cert.DwProjIdeal.main_arg0)
          ∧ r.2.mem ((c.tc : Thread Cert.DwProjIdeal.nD Cert.DwProjIdeal.τ).loc Cert.DwProjIdeal.main_arg1) = m ((c.tc : Thread Cert.DwProjIdeal.nD Cert.DwProjIdeal.τ).loc Cert.DwProjIdeal.main_arg1))
      ∧ θ_run (Cert.RefDwProjIdeal.defs (F := Ideal)) (onTc (τ := Cert.RefDwProjIdeal.τ) (Cert.RefDwProjIdeal.main (F := Ideal))) ⟨m', fun _ => 0, g'⟩ (fun r => ∀ c : Dev Cert.RefDwProjIdeal.nD,
          r.2.mem ((c.tc : Thread Cert.RefDwProjIdeal.nD Cert.RefDwProjIdeal.τ).loc Cert.RefDwProjIdeal.main_v6) = v0 c
          ∧ r.2.mem ((c.tc : Thread Cert.RefDwProjIdeal.nD Cert.RefDwProjIdeal.τ).loc Cert.RefDwProjIdeal.main_arg0) = m' ((c.tc : Thread Cert.RefDwProjIdeal.nD Cert.RefDwProjIdeal.τ).loc Cert.RefDwProjIdeal.main_arg0)
          ∧ r.2.mem ((c.tc : Thread Cert.RefDwProjIdeal.nD Cert.RefDwProjIdeal.τ).loc Cert.RefDwProjIdeal.main_arg1) = m' ((c.tc : Thread Cert.RefDwProjIdeal.nD Cert.RefDwProjIdeal.τ).loc Cert.RefDwProjIdeal.main_arg1))

def preserves_DyProj_DyProjIdeal : Prop :=
  True

def algebraic_DyProjIdeal_RefDyProjIdeal [hDyProjIdeal : Cert.DyProjIdeal.Facts] [hRefDyProjIdeal : Cert.RefDyProjIdeal.Facts] : Prop :=
  ∀ (m : (ℓ : Loc Cert.DyProjIdeal.nD Cert.DyProjIdeal.τ Cert.DyProjIdeal.sig) → Buf (Elt Ideal) ℓ) (g : Dev Cert.DyProjIdeal.nD → PrngReg)
    (m' : (ℓ : Loc Cert.RefDyProjIdeal.nD Cert.RefDyProjIdeal.τ Cert.RefDyProjIdeal.sig) → Buf (Elt Ideal) ℓ) (g' : Dev Cert.RefDyProjIdeal.nD → PrngReg), Pre_DyProjIdeal m →
    (∀ c : Dev Cert.DyProjIdeal.nD,
      m' ((c.tc : Thread Cert.RefDyProjIdeal.nD Cert.RefDyProjIdeal.τ).loc Cert.RefDyProjIdeal.main_arg0) = m ((c.tc : Thread Cert.DyProjIdeal.nD Cert.DyProjIdeal.τ).loc Cert.DyProjIdeal.main_arg0)
      ∧ m' ((c.tc : Thread Cert.RefDyProjIdeal.nD Cert.RefDyProjIdeal.τ).loc Cert.RefDyProjIdeal.main_arg1) = m ((c.tc : Thread Cert.DyProjIdeal.nD Cert.DyProjIdeal.τ).loc Cert.DyProjIdeal.main_arg1)) →
    ∃ (v0 : (c : Dev Cert.DyProjIdeal.nD) → Buf (Elt Ideal) ((c.tc : Thread Cert.DyProjIdeal.nD Cert.DyProjIdeal.τ).loc Cert.DyProjIdeal.main_v0)),
      θ_run (Cert.DyProjIdeal.defs (F := Ideal)) (onTc (τ := Cert.DyProjIdeal.τ) (Cert.DyProjIdeal.main (F := Ideal))) ⟨m, fun _ => 0, g⟩ (fun r => ∀ c : Dev Cert.DyProjIdeal.nD,
          r.2.mem ((c.tc : Thread Cert.DyProjIdeal.nD Cert.DyProjIdeal.τ).loc Cert.DyProjIdeal.main_v0) = v0 c
          ∧ r.2.mem ((c.tc : Thread Cert.DyProjIdeal.nD Cert.DyProjIdeal.τ).loc Cert.DyProjIdeal.main_arg0) = m ((c.tc : Thread Cert.DyProjIdeal.nD Cert.DyProjIdeal.τ).loc Cert.DyProjIdeal.main_arg0)
          ∧ r.2.mem ((c.tc : Thread Cert.DyProjIdeal.nD Cert.DyProjIdeal.τ).loc Cert.DyProjIdeal.main_arg1) = m ((c.tc : Thread Cert.DyProjIdeal.nD Cert.DyProjIdeal.τ).loc Cert.DyProjIdeal.main_arg1))
      ∧ θ_run (Cert.RefDyProjIdeal.defs (F := Ideal)) (onTc (τ := Cert.RefDyProjIdeal.τ) (Cert.RefDyProjIdeal.main (F := Ideal))) ⟨m', fun _ => 0, g'⟩ (fun r => ∀ c : Dev Cert.RefDyProjIdeal.nD,
          r.2.mem ((c.tc : Thread Cert.RefDyProjIdeal.nD Cert.RefDyProjIdeal.τ).loc Cert.RefDyProjIdeal.main_v4) = v0 c
          ∧ r.2.mem ((c.tc : Thread Cert.RefDyProjIdeal.nD Cert.RefDyProjIdeal.τ).loc Cert.RefDyProjIdeal.main_arg0) = m' ((c.tc : Thread Cert.RefDyProjIdeal.nD Cert.RefDyProjIdeal.τ).loc Cert.RefDyProjIdeal.main_arg0)
          ∧ r.2.mem ((c.tc : Thread Cert.RefDyProjIdeal.nD Cert.RefDyProjIdeal.τ).loc Cert.RefDyProjIdeal.main_arg1) = m' ((c.tc : Thread Cert.RefDyProjIdeal.nD Cert.RefDyProjIdeal.τ).loc Cert.RefDyProjIdeal.main_arg1))

def preserves_DyProjB_DyProjBIdeal : Prop :=
  True

def algebraic_DyProjBIdeal_RefDyProjBIdeal [hDyProjBIdeal : Cert.DyProjBIdeal.Facts] [hRefDyProjBIdeal : Cert.RefDyProjBIdeal.Facts] : Prop :=
  ∀ (m : (ℓ : Loc Cert.DyProjBIdeal.nD Cert.DyProjBIdeal.τ Cert.DyProjBIdeal.sig) → Buf (Elt Ideal) ℓ) (g : Dev Cert.DyProjBIdeal.nD → PrngReg)
    (m' : (ℓ : Loc Cert.RefDyProjBIdeal.nD Cert.RefDyProjBIdeal.τ Cert.RefDyProjBIdeal.sig) → Buf (Elt Ideal) ℓ) (g' : Dev Cert.RefDyProjBIdeal.nD → PrngReg), Pre_DyProjBIdeal m →
    (∀ c : Dev Cert.DyProjBIdeal.nD,
      m' ((c.tc : Thread Cert.RefDyProjBIdeal.nD Cert.RefDyProjBIdeal.τ).loc Cert.RefDyProjBIdeal.main_arg0) = m ((c.tc : Thread Cert.DyProjBIdeal.nD Cert.DyProjBIdeal.τ).loc Cert.DyProjBIdeal.main_arg0)
      ∧ m' ((c.tc : Thread Cert.RefDyProjBIdeal.nD Cert.RefDyProjBIdeal.τ).loc Cert.RefDyProjBIdeal.main_arg1) = m ((c.tc : Thread Cert.DyProjBIdeal.nD Cert.DyProjBIdeal.τ).loc Cert.DyProjBIdeal.main_arg1)) →
    ∃ (v0 : (c : Dev Cert.DyProjBIdeal.nD) → Buf (Elt Ideal) ((c.tc : Thread Cert.DyProjBIdeal.nD Cert.DyProjBIdeal.τ).loc Cert.DyProjBIdeal.main_v0)),
      θ_run (Cert.DyProjBIdeal.defs (F := Ideal)) (onTc (τ := Cert.DyProjBIdeal.τ) (Cert.DyProjBIdeal.main (F := Ideal))) ⟨m, fun _ => 0, g⟩ (fun r => ∀ c : Dev Cert.DyProjBIdeal.nD,
          r.2.mem ((c.tc : Thread Cert.DyProjBIdeal.nD Cert.DyProjBIdeal.τ).loc Cert.DyProjBIdeal.main_v0) = v0 c
          ∧ r.2.mem ((c.tc : Thread Cert.DyProjBIdeal.nD Cert.DyProjBIdeal.τ).loc Cert.DyProjBIdeal.main_arg0) = m ((c.tc : Thread Cert.DyProjBIdeal.nD Cert.DyProjBIdeal.τ).loc Cert.DyProjBIdeal.main_arg0)
          ∧ r.2.mem ((c.tc : Thread Cert.DyProjBIdeal.nD Cert.DyProjBIdeal.τ).loc Cert.DyProjBIdeal.main_arg1) = m ((c.tc : Thread Cert.DyProjBIdeal.nD Cert.DyProjBIdeal.τ).loc Cert.DyProjBIdeal.main_arg1))
      ∧ θ_run (Cert.RefDyProjBIdeal.defs (F := Ideal)) (onTc (τ := Cert.RefDyProjBIdeal.τ) (Cert.RefDyProjBIdeal.main (F := Ideal))) ⟨m', fun _ => 0, g'⟩ (fun r => ∀ c : Dev Cert.RefDyProjBIdeal.nD,
          r.2.mem ((c.tc : Thread Cert.RefDyProjBIdeal.nD Cert.RefDyProjBIdeal.τ).loc Cert.RefDyProjBIdeal.main_v5) = v0 c
          ∧ r.2.mem ((c.tc : Thread Cert.RefDyProjBIdeal.nD Cert.RefDyProjBIdeal.τ).loc Cert.RefDyProjBIdeal.main_arg0) = m' ((c.tc : Thread Cert.RefDyProjBIdeal.nD Cert.RefDyProjBIdeal.τ).loc Cert.RefDyProjBIdeal.main_arg0)
          ∧ r.2.mem ((c.tc : Thread Cert.RefDyProjBIdeal.nD Cert.RefDyProjBIdeal.τ).loc Cert.RefDyProjBIdeal.main_arg1) = m' ((c.tc : Thread Cert.RefDyProjBIdeal.nD Cert.RefDyProjBIdeal.τ).loc Cert.RefDyProjBIdeal.main_arg1))

def preserves_DwIn_DwInIdeal : Prop :=
  True

def algebraic_DwInIdeal_RefDwInIdeal [hDwInIdeal : Cert.DwInIdeal.Facts] [hRefDwInIdeal : Cert.RefDwInIdeal.Facts] : Prop :=
  ∀ (m : (ℓ : Loc Cert.DwInIdeal.nD Cert.DwInIdeal.τ Cert.DwInIdeal.sig) → Buf (Elt Ideal) ℓ) (g : Dev Cert.DwInIdeal.nD → PrngReg)
    (m' : (ℓ : Loc Cert.RefDwInIdeal.nD Cert.RefDwInIdeal.τ Cert.RefDwInIdeal.sig) → Buf (Elt Ideal) ℓ) (g' : Dev Cert.RefDwInIdeal.nD → PrngReg), Pre_DwInIdeal m →
    (∀ c : Dev Cert.DwInIdeal.nD,
      m' ((c.tc : Thread Cert.RefDwInIdeal.nD Cert.RefDwInIdeal.τ).loc Cert.RefDwInIdeal.main_arg0) = m ((c.tc : Thread Cert.DwInIdeal.nD Cert.DwInIdeal.τ).loc Cert.DwInIdeal.main_arg0)
      ∧ m' ((c.tc : Thread Cert.RefDwInIdeal.nD Cert.RefDwInIdeal.τ).loc Cert.RefDwInIdeal.main_arg1) = m ((c.tc : Thread Cert.DwInIdeal.nD Cert.DwInIdeal.τ).loc Cert.DwInIdeal.main_arg1)) →
    ∃ (v0 : (c : Dev Cert.DwInIdeal.nD) → Buf (Elt Ideal) ((c.tc : Thread Cert.DwInIdeal.nD Cert.DwInIdeal.τ).loc Cert.DwInIdeal.main_v14)),
      θ_run (Cert.DwInIdeal.defs (F := Ideal)) (onTc (τ := Cert.DwInIdeal.τ) (Cert.DwInIdeal.main (F := Ideal))) ⟨m, fun _ => 0, g⟩ (fun r => ∀ c : Dev Cert.DwInIdeal.nD,
          r.2.mem ((c.tc : Thread Cert.DwInIdeal.nD Cert.DwInIdeal.τ).loc Cert.DwInIdeal.main_v14) = v0 c
          ∧ r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
          ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1))
      ∧ θ_run (Cert.RefDwInIdeal.defs (F := Ideal)) (onTc (τ := Cert.RefDwInIdeal.τ) (Cert.RefDwInIdeal.main (F := Ideal))) ⟨m', fun _ => 0, g'⟩ (fun r => ∀ c : Dev Cert.RefDwInIdeal.nD,
          r.2.mem ((c.tc : Thread Cert.RefDwInIdeal.nD Cert.RefDwInIdeal.τ).loc Cert.RefDwInIdeal.main_v6) = v0 c
          ∧ r.2.mem ((c.tc : Thread Cert.RefDwInIdeal.nD Cert.RefDwInIdeal.τ).loc Cert.RefDwInIdeal.main_arg0) = m' ((c.tc : Thread Cert.RefDwInIdeal.nD Cert.RefDwInIdeal.τ).loc Cert.RefDwInIdeal.main_arg0)
          ∧ r.2.mem ((c.tc : Thread Cert.RefDwInIdeal.nD Cert.RefDwInIdeal.τ).loc Cert.RefDwInIdeal.main_arg1) = m' ((c.tc : Thread Cert.RefDwInIdeal.nD Cert.RefDwInIdeal.τ).loc Cert.RefDwInIdeal.main_arg1))

def preserves_DxIn_DxInIdeal : Prop :=
  True

def algebraic_DxInIdeal_RefDxInIdeal [hDxInIdeal : Cert.DxInIdeal.Facts] [hRefDxInIdeal : Cert.RefDxInIdeal.Facts] : Prop :=
  ∀ (m : (ℓ : Loc Cert.DxInIdeal.nD Cert.DxInIdeal.τ Cert.DxInIdeal.sig) → Buf (Elt Ideal) ℓ) (g : Dev Cert.DxInIdeal.nD → PrngReg)
    (m' : (ℓ : Loc Cert.RefDxInIdeal.nD Cert.RefDxInIdeal.τ Cert.RefDxInIdeal.sig) → Buf (Elt Ideal) ℓ) (g' : Dev Cert.RefDxInIdeal.nD → PrngReg), Pre_DxInIdeal m →
    (∀ c : Dev Cert.DxInIdeal.nD,
      m' ((c.tc : Thread Cert.RefDxInIdeal.nD Cert.RefDxInIdeal.τ).loc Cert.RefDxInIdeal.main_arg0) = m ((c.tc : Thread Cert.DxInIdeal.nD Cert.DxInIdeal.τ).loc Cert.DxInIdeal.main_arg0)
      ∧ m' ((c.tc : Thread Cert.RefDxInIdeal.nD Cert.RefDxInIdeal.τ).loc Cert.RefDxInIdeal.main_arg1) = m ((c.tc : Thread Cert.DxInIdeal.nD Cert.DxInIdeal.τ).loc Cert.DxInIdeal.main_arg1)
      ∧ m' ((c.tc : Thread Cert.RefDxInIdeal.nD Cert.RefDxInIdeal.τ).loc Cert.RefDxInIdeal.main_arg2) = m ((c.tc : Thread Cert.DxInIdeal.nD Cert.DxInIdeal.τ).loc Cert.DxInIdeal.main_arg2)) →
    ∃ (v0 : (c : Dev Cert.DxInIdeal.nD) → Buf (Elt Ideal) ((c.tc : Thread Cert.DxInIdeal.nD Cert.DxInIdeal.τ).loc Cert.DxInIdeal.main_v16)),
      θ_run (Cert.DxInIdeal.defs (F := Ideal)) (onTc (τ := Cert.DxInIdeal.τ) (Cert.DxInIdeal.main (F := Ideal))) ⟨m, fun _ => 0, g⟩ (fun r => ∀ c : Dev Cert.DxInIdeal.nD,
          r.2.mem ((c.tc : Thread Cert.DxInIdeal.nD Cert.DxInIdeal.τ).loc Cert.DxInIdeal.main_v16) = v0 c
          ∧ r.2.mem ((c.tc : Thread Cert.DxInIdeal.nD Cert.DxInIdeal.τ).loc Cert.DxInIdeal.main_arg0) = m ((c.tc : Thread Cert.DxInIdeal.nD Cert.DxInIdeal.τ).loc Cert.DxInIdeal.main_arg0)
          ∧ r.2.mem ((c.tc : Thread Cert.DxInIdeal.nD Cert.DxInIdeal.τ).loc Cert.DxInIdeal.main_arg1) = m ((c.tc : Thread Cert.DxInIdeal.nD Cert.DxInIdeal.τ).loc Cert.DxInIdeal.main_arg1)
          ∧ r.2.mem ((c.tc : Thread Cert.DxInIdeal.nD Cert.DxInIdeal.τ).loc Cert.DxInIdeal.main_arg2) = m ((c.tc : Thread Cert.DxInIdeal.nD Cert.DxInIdeal.τ).loc Cert.DxInIdeal.main_arg2))
      ∧ θ_run (Cert.RefDxInIdeal.defs (F := Ideal)) (onTc (τ := Cert.RefDxInIdeal.τ) (Cert.RefDxInIdeal.main (F := Ideal))) ⟨m', fun _ => 0, g'⟩ (fun r => ∀ c : Dev Cert.RefDxInIdeal.nD,
          r.2.mem ((c.tc : Thread Cert.RefDxInIdeal.nD Cert.RefDxInIdeal.τ).loc Cert.RefDxInIdeal.main_v9) = v0 c
          ∧ r.2.mem ((c.tc : Thread Cert.RefDxInIdeal.nD Cert.RefDxInIdeal.τ).loc Cert.RefDxInIdeal.main_arg0) = m' ((c.tc : Thread Cert.RefDxInIdeal.nD Cert.RefDxInIdeal.τ).loc Cert.RefDxInIdeal.main_arg0)
          ∧ r.2.mem ((c.tc : Thread Cert.RefDxInIdeal.nD Cert.RefDxInIdeal.τ).loc Cert.RefDxInIdeal.main_arg1) = m' ((c.tc : Thread Cert.RefDxInIdeal.nD Cert.RefDxInIdeal.τ).loc Cert.RefDxInIdeal.main_arg1)
          ∧ r.2.mem ((c.tc : Thread Cert.RefDxInIdeal.nD Cert.RefDxInIdeal.τ).loc Cert.RefDxInIdeal.main_arg2) = m' ((c.tc : Thread Cert.RefDxInIdeal.nD Cert.RefDxInIdeal.τ).loc Cert.RefDxInIdeal.main_arg2))

def preserves_OutProj_OutProjIdeal : Prop :=
  True

def algebraic_OutProjIdeal_RefOutProjIdeal [hOutProjIdeal : Cert.OutProjIdeal.Facts] [hRefOutProjIdeal : Cert.RefOutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.RefOutProjIdeal.nD Cert.RefOutProjIdeal.τ Cert.RefOutProjIdeal.sig) → Buf (Elt Ideal) ℓ) (g' : Dev Cert.RefOutProjIdeal.nD → PrngReg), Pre_OutProjIdeal m →
    (∀ c : Dev Cert.OutProjIdeal.nD,
      m' ((c.tc : Thread Cert.RefOutProjIdeal.nD Cert.RefOutProjIdeal.τ).loc Cert.RefOutProjIdeal.main_arg0) = m ((c.tc : Thread Cert.OutProjIdeal.nD Cert.OutProjIdeal.τ).loc Cert.OutProjIdeal.main_arg0)
      ∧ m' ((c.tc : Thread Cert.RefOutProjIdeal.nD Cert.RefOutProjIdeal.τ).loc Cert.RefOutProjIdeal.main_arg1) = m ((c.tc : Thread Cert.OutProjIdeal.nD Cert.OutProjIdeal.τ).loc Cert.OutProjIdeal.main_arg1)) →
    ∃ (v0 : (c : Dev Cert.OutProjIdeal.nD) → Buf (Elt Ideal) ((c.tc : Thread Cert.OutProjIdeal.nD Cert.OutProjIdeal.τ).loc Cert.OutProjIdeal.main_v0)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v0) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1))
      ∧ θ_run (Cert.RefOutProjIdeal.defs (F := Ideal)) (onTc (τ := Cert.RefOutProjIdeal.τ) (Cert.RefOutProjIdeal.main (F := Ideal))) ⟨m', fun _ => 0, g'⟩ (fun r => ∀ c : Dev Cert.RefOutProjIdeal.nD,
          r.2.mem ((c.tc : Thread Cert.RefOutProjIdeal.nD Cert.RefOutProjIdeal.τ).loc Cert.RefOutProjIdeal.main_v2) = v0 c
          ∧ r.2.mem ((c.tc : Thread Cert.RefOutProjIdeal.nD Cert.RefOutProjIdeal.τ).loc Cert.RefOutProjIdeal.main_arg0) = m' ((c.tc : Thread Cert.RefOutProjIdeal.nD Cert.RefOutProjIdeal.τ).loc Cert.RefOutProjIdeal.main_arg0)
          ∧ r.2.mem ((c.tc : Thread Cert.RefOutProjIdeal.nD Cert.RefOutProjIdeal.τ).loc Cert.RefOutProjIdeal.main_arg1) = m' ((c.tc : Thread Cert.RefOutProjIdeal.nD Cert.RefOutProjIdeal.τ).loc Cert.RefOutProjIdeal.main_arg1))

def preserves_UpGate_UpGateIdeal : Prop :=
  True

def algebraic_UpGateIdeal_RefUpGateIdeal [hUpGateIdeal : Cert.UpGateIdeal.Facts] [hRefUpGateIdeal : Cert.RefUpGateIdeal.Facts] : Prop :=
  ∀ (m : (ℓ : Loc Cert.UpGateIdeal.nD Cert.UpGateIdeal.τ Cert.UpGateIdeal.sig) → Buf (Elt Ideal) ℓ) (g : Dev Cert.UpGateIdeal.nD → PrngReg)
    (m' : (ℓ : Loc Cert.RefUpGateIdeal.nD Cert.RefUpGateIdeal.τ Cert.RefUpGateIdeal.sig) → Buf (Elt Ideal) ℓ) (g' : Dev Cert.RefUpGateIdeal.nD → PrngReg), Pre_UpGateIdeal m →
    (∀ c : Dev Cert.UpGateIdeal.nD,
      m' ((c.tc : Thread Cert.RefUpGateIdeal.nD Cert.RefUpGateIdeal.τ).loc Cert.RefUpGateIdeal.main_arg0) = m ((c.tc : Thread Cert.UpGateIdeal.nD Cert.UpGateIdeal.τ).loc Cert.UpGateIdeal.main_arg0)
      ∧ m' ((c.tc : Thread Cert.RefUpGateIdeal.nD Cert.RefUpGateIdeal.τ).loc Cert.RefUpGateIdeal.main_arg1) = m ((c.tc : Thread Cert.UpGateIdeal.nD Cert.UpGateIdeal.τ).loc Cert.UpGateIdeal.main_arg1)) →
    ∃ (v0 : (c : Dev Cert.UpGateIdeal.nD) → Buf (Elt Ideal) ((c.tc : Thread Cert.UpGateIdeal.nD Cert.UpGateIdeal.τ).loc Cert.UpGateIdeal.main_v6)),
      θ_run (Cert.UpGateIdeal.defs (F := Ideal)) (onTc (τ := Cert.UpGateIdeal.τ) (Cert.UpGateIdeal.main (F := Ideal))) ⟨m, fun _ => 0, g⟩ (fun r => ∀ c : Dev Cert.UpGateIdeal.nD,
          r.2.mem ((c.tc : Thread Cert.UpGateIdeal.nD Cert.UpGateIdeal.τ).loc Cert.UpGateIdeal.main_v6) = v0 c
          ∧ r.2.mem ((c.tc : Thread Cert.UpGateIdeal.nD Cert.UpGateIdeal.τ).loc Cert.UpGateIdeal.main_arg0) = m ((c.tc : Thread Cert.UpGateIdeal.nD Cert.UpGateIdeal.τ).loc Cert.UpGateIdeal.main_arg0)
          ∧ r.2.mem ((c.tc : Thread Cert.UpGateIdeal.nD Cert.UpGateIdeal.τ).loc Cert.UpGateIdeal.main_arg1) = m ((c.tc : Thread Cert.UpGateIdeal.nD Cert.UpGateIdeal.τ).loc Cert.UpGateIdeal.main_arg1))
      ∧ θ_run (Cert.RefUpGateIdeal.defs (F := Ideal)) (onTc (τ := Cert.RefUpGateIdeal.τ) (Cert.RefUpGateIdeal.main (F := Ideal))) ⟨m', fun _ => 0, g'⟩ (fun r => ∀ c : Dev Cert.RefUpGateIdeal.nD,
          r.2.mem ((c.tc : Thread Cert.RefUpGateIdeal.nD Cert.RefUpGateIdeal.τ).loc Cert.RefUpGateIdeal.main_v3) = v0 c
          ∧ r.2.mem ((c.tc : Thread Cert.RefUpGateIdeal.nD Cert.RefUpGateIdeal.τ).loc Cert.RefUpGateIdeal.main_arg0) = m' ((c.tc : Thread Cert.RefUpGateIdeal.nD Cert.RefUpGateIdeal.τ).loc Cert.RefUpGateIdeal.main_arg0)
          ∧ r.2.mem ((c.tc : Thread Cert.RefUpGateIdeal.nD Cert.RefUpGateIdeal.τ).loc Cert.RefUpGateIdeal.main_arg1) = m' ((c.tc : Thread Cert.RefUpGateIdeal.nD Cert.RefUpGateIdeal.τ).loc Cert.RefUpGateIdeal.main_arg1))

def preserves_UpVal_UpValIdeal : Prop :=
  True

def algebraic_UpValIdeal_RefUpValIdeal [hUpValIdeal : Cert.UpValIdeal.Facts] [hRefUpValIdeal : Cert.RefUpValIdeal.Facts] : Prop :=
  ∀ (m : (ℓ : Loc Cert.UpValIdeal.nD Cert.UpValIdeal.τ Cert.UpValIdeal.sig) → Buf (Elt Ideal) ℓ) (g : Dev Cert.UpValIdeal.nD → PrngReg)
    (m' : (ℓ : Loc Cert.RefUpValIdeal.nD Cert.RefUpValIdeal.τ Cert.RefUpValIdeal.sig) → Buf (Elt Ideal) ℓ) (g' : Dev Cert.RefUpValIdeal.nD → PrngReg), Pre_UpValIdeal m →
    (∀ c : Dev Cert.UpValIdeal.nD,
      m' ((c.tc : Thread Cert.RefUpValIdeal.nD Cert.RefUpValIdeal.τ).loc Cert.RefUpValIdeal.main_arg0) = m ((c.tc : Thread Cert.UpValIdeal.nD Cert.UpValIdeal.τ).loc Cert.UpValIdeal.main_arg0)
      ∧ m' ((c.tc : Thread Cert.RefUpValIdeal.nD Cert.RefUpValIdeal.τ).loc Cert.RefUpValIdeal.main_arg1) = m ((c.tc : Thread Cert.UpValIdeal.nD Cert.UpValIdeal.τ).loc Cert.UpValIdeal.main_arg1)) →
    ∃ (v0 : (c : Dev Cert.UpValIdeal.nD) → Buf (Elt Ideal) ((c.tc : Thread Cert.UpValIdeal.nD Cert.UpValIdeal.τ).loc Cert.UpValIdeal.main_v6)),
      θ_run (Cert.UpValIdeal.defs (F := Ideal)) (onTc (τ := Cert.UpValIdeal.τ) (Cert.UpValIdeal.main (F := Ideal))) ⟨m, fun _ => 0, g⟩ (fun r => ∀ c : Dev Cert.UpValIdeal.nD,
          r.2.mem ((c.tc : Thread Cert.UpValIdeal.nD Cert.UpValIdeal.τ).loc Cert.UpValIdeal.main_v6) = v0 c
          ∧ r.2.mem ((c.tc : Thread Cert.UpValIdeal.nD Cert.UpValIdeal.τ).loc Cert.UpValIdeal.main_arg0) = m ((c.tc : Thread Cert.UpValIdeal.nD Cert.UpValIdeal.τ).loc Cert.UpValIdeal.main_arg0)
          ∧ r.2.mem ((c.tc : Thread Cert.UpValIdeal.nD Cert.UpValIdeal.τ).loc Cert.UpValIdeal.main_arg1) = m ((c.tc : Thread Cert.UpValIdeal.nD Cert.UpValIdeal.τ).loc Cert.UpValIdeal.main_arg1))
      ∧ θ_run (Cert.RefUpValIdeal.defs (F := Ideal)) (onTc (τ := Cert.RefUpValIdeal.τ) (Cert.RefUpValIdeal.main (F := Ideal))) ⟨m', fun _ => 0, g'⟩ (fun r => ∀ c : Dev Cert.RefUpValIdeal.nD,
          r.2.mem ((c.tc : Thread Cert.RefUpValIdeal.nD Cert.RefUpValIdeal.τ).loc Cert.RefUpValIdeal.main_v3) = v0 c
          ∧ r.2.mem ((c.tc : Thread Cert.RefUpValIdeal.nD Cert.RefUpValIdeal.τ).loc Cert.RefUpValIdeal.main_arg0) = m' ((c.tc : Thread Cert.RefUpValIdeal.nD Cert.RefUpValIdeal.τ).loc Cert.RefUpValIdeal.main_arg0)
          ∧ r.2.mem ((c.tc : Thread Cert.RefUpValIdeal.nD Cert.RefUpValIdeal.τ).loc Cert.RefUpValIdeal.main_arg1) = m' ((c.tc : Thread Cert.RefUpValIdeal.nD Cert.RefUpValIdeal.τ).loc Cert.RefUpValIdeal.main_arg1))

def preserves_Down_DownIdeal : Prop :=
  True

def algebraic_DownIdeal_RefDownIdeal [hDownIdeal : Cert.DownIdeal.Facts] [hRefDownIdeal : Cert.RefDownIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.RefDownIdeal.nD Cert.RefDownIdeal.τ Cert.RefDownIdeal.sig) → Buf (Elt Ideal) ℓ) (g' : Dev Cert.RefDownIdeal.nD → PrngReg), Pre_DownIdeal m →
    (∀ c : Dev Cert.DownIdeal.nD,
      m' ((c.tc : Thread Cert.RefDownIdeal.nD Cert.RefDownIdeal.τ).loc Cert.RefDownIdeal.main_arg0) = m ((c.tc : Thread Cert.DownIdeal.nD Cert.DownIdeal.τ).loc Cert.DownIdeal.main_arg0)
      ∧ m' ((c.tc : Thread Cert.RefDownIdeal.nD Cert.RefDownIdeal.τ).loc Cert.RefDownIdeal.main_arg1) = m ((c.tc : Thread Cert.DownIdeal.nD Cert.DownIdeal.τ).loc Cert.DownIdeal.main_arg1)) →
    ∃ (v0 : (c : Dev Cert.DownIdeal.nD) → Buf (Elt Ideal) ((c.tc : Thread Cert.DownIdeal.nD Cert.DownIdeal.τ).loc Cert.DownIdeal.main_v2)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v2) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ θ_run (Cert.RefDownIdeal.defs (F := Ideal)) (onTc (τ := Cert.RefDownIdeal.τ) (Cert.RefDownIdeal.main (F := Ideal))) ⟨m', fun _ => 0, g'⟩ (fun r => ∀ c : Dev Cert.RefDownIdeal.nD,
          r.2.mem ((c.tc : Thread Cert.RefDownIdeal.nD Cert.RefDownIdeal.τ).loc Cert.RefDownIdeal.main_v2) = v0 c
          ∧ r.2.mem ((c.tc : Thread Cert.RefDownIdeal.nD Cert.RefDownIdeal.τ).loc Cert.RefDownIdeal.main_arg0) = m' ((c.tc : Thread Cert.RefDownIdeal.nD Cert.RefDownIdeal.τ).loc Cert.RefDownIdeal.main_arg0)
          ∧ r.2.mem ((c.tc : Thread Cert.RefDownIdeal.nD Cert.RefDownIdeal.τ).loc Cert.RefDownIdeal.main_arg1) = m' ((c.tc : Thread Cert.RefDownIdeal.nD Cert.RefDownIdeal.τ).loc Cert.RefDownIdeal.main_arg1))

def Claim : Prop :=
  ∃ (hBwdQ : Cert.BwdQ.Facts) (hBwdQIdeal : Cert.BwdQIdeal.Facts) (hRefQIdeal : Cert.RefQIdeal.Facts) (hBwdKv : Cert.BwdKv.Facts) (hBwdKvIdeal : Cert.BwdKvIdeal.Facts) (hRefKvIdeal : Cert.RefKvIdeal.Facts) (hFwd : Cert.Fwd.Facts) (hFwdIdeal : Cert.FwdIdeal.Facts) (hRefFwdIdeal : Cert.RefFwdIdeal.Facts) (hDwDown : Cert.DwDown.Facts) (hDwDownIdeal : Cert.DwDownIdeal.Facts) (hRefDwDownIdeal : Cert.RefDwDownIdeal.Facts) (hDact : Cert.Dact.Facts) (hDactIdeal : Cert.DactIdeal.Facts) (hRefDactIdeal : Cert.RefDactIdeal.Facts) (hDwUp : Cert.DwUp.Facts) (hDwUpIdeal : Cert.DwUpIdeal.Facts) (hRefDwUpIdeal : Cert.RefDwUpIdeal.Facts) (hDxUp : Cert.DxUp.Facts) (hDxUpIdeal : Cert.DxUpIdeal.Facts) (hRefDxUpIdeal : Cert.RefDxUpIdeal.Facts) (hDwOut : Cert.DwOut.Facts) (hDwOutIdeal : Cert.DwOutIdeal.Facts) (hRefDwOutIdeal : Cert.RefDwOutIdeal.Facts) (hDmerged : Cert.Dmerged.Facts) (hDmergedIdeal : Cert.DmergedIdeal.Facts) (hRefDmergedIdeal : Cert.RefDmergedIdeal.Facts) (hDwProj : Cert.DwProj.Facts) (hDwProjIdeal : Cert.DwProjIdeal.Facts) (hRefDwProjIdeal : Cert.RefDwProjIdeal.Facts) (hDyProj : Cert.DyProj.Facts) (hDyProjIdeal : Cert.DyProjIdeal.Facts) (hRefDyProjIdeal : Cert.RefDyProjIdeal.Facts) (hDyProjB : Cert.DyProjB.Facts) (hDyProjBIdeal : Cert.DyProjBIdeal.Facts) (hRefDyProjBIdeal : Cert.RefDyProjBIdeal.Facts) (hDwIn : Cert.DwIn.Facts) (hDwInIdeal : Cert.DwInIdeal.Facts) (hRefDwInIdeal : Cert.RefDwInIdeal.Facts) (hDxIn : Cert.DxIn.Facts) (hDxInIdeal : Cert.DxInIdeal.Facts) (hRefDxInIdeal : Cert.RefDxInIdeal.Facts) (hOutProj : Cert.OutProj.Facts) (hOutProjIdeal : Cert.OutProjIdeal.Facts) (hRefOutProjIdeal : Cert.RefOutProjIdeal.Facts) (hUpGate : Cert.UpGate.Facts) (hUpGateIdeal : Cert.UpGateIdeal.Facts) (hRefUpGateIdeal : Cert.RefUpGateIdeal.Facts) (hUpVal : Cert.UpVal.Facts) (hUpValIdeal : Cert.UpValIdeal.Facts) (hRefUpValIdeal : Cert.RefUpValIdeal.Facts) (hDown : Cert.Down.Facts) (hDownIdeal : Cert.DownIdeal.Facts) (hRefDownIdeal : Cert.RefDownIdeal.Facts) (hPre_finite : Cert.Pre_finite.Facts) (hPre_finite_fwd : Cert.Pre_finite_fwd.Facts),
    quiescent_BwdQ (hBwdQ := hBwdQ)
    ∧ quiescent_BwdQIdeal (hBwdQIdeal := hBwdQIdeal)
    ∧ quiescent_BwdQIdeal_pre_finite (hBwdQIdeal := hBwdQIdeal) (hPre_finite := hPre_finite)
    ∧ quiescent_RefQIdeal (hRefQIdeal := hRefQIdeal)
    ∧ quiescent_RefQIdeal_pre_finite (hRefQIdeal := hRefQIdeal) (hPre_finite := hPre_finite)
    ∧ quiescent_BwdKv (hBwdKv := hBwdKv)
    ∧ quiescent_BwdKvIdeal (hBwdKvIdeal := hBwdKvIdeal)
    ∧ quiescent_BwdKvIdeal_pre_finite (hBwdKvIdeal := hBwdKvIdeal) (hPre_finite := hPre_finite)
    ∧ quiescent_RefKvIdeal (hRefKvIdeal := hRefKvIdeal)
    ∧ quiescent_RefKvIdeal_pre_finite (hRefKvIdeal := hRefKvIdeal) (hPre_finite := hPre_finite)
    ∧ quiescent_Fwd (hFwd := hFwd)
    ∧ quiescent_FwdIdeal (hFwdIdeal := hFwdIdeal)
    ∧ quiescent_FwdIdeal_pre_finite_fwd (hFwdIdeal := hFwdIdeal) (hPre_finite_fwd := hPre_finite_fwd)
    ∧ quiescent_RefFwdIdeal (hRefFwdIdeal := hRefFwdIdeal)
    ∧ quiescent_RefFwdIdeal_pre_finite_fwd (hRefFwdIdeal := hRefFwdIdeal) (hPre_finite_fwd := hPre_finite_fwd)
    ∧ quiescent_DwDown (hDwDown := hDwDown)
    ∧ quiescent_DwDownIdeal (hDwDownIdeal := hDwDownIdeal)
    ∧ quiescent_RefDwDownIdeal (hRefDwDownIdeal := hRefDwDownIdeal)
    ∧ quiescent_Dact (hDact := hDact)
    ∧ quiescent_DactIdeal (hDactIdeal := hDactIdeal)
    ∧ quiescent_RefDactIdeal (hRefDactIdeal := hRefDactIdeal)
    ∧ quiescent_DwUp (hDwUp := hDwUp)
    ∧ quiescent_DwUpIdeal (hDwUpIdeal := hDwUpIdeal)
    ∧ quiescent_RefDwUpIdeal (hRefDwUpIdeal := hRefDwUpIdeal)
    ∧ quiescent_DxUp (hDxUp := hDxUp)
    ∧ quiescent_DxUpIdeal (hDxUpIdeal := hDxUpIdeal)
    ∧ quiescent_RefDxUpIdeal (hRefDxUpIdeal := hRefDxUpIdeal)
    ∧ quiescent_DwOut (hDwOut := hDwOut)
    ∧ quiescent_DwOutIdeal (hDwOutIdeal := hDwOutIdeal)
    ∧ quiescent_RefDwOutIdeal (hRefDwOutIdeal := hRefDwOutIdeal)
    ∧ quiescent_Dmerged (hDmerged := hDmerged)
    ∧ quiescent_DmergedIdeal (hDmergedIdeal := hDmergedIdeal)
    ∧ quiescent_RefDmergedIdeal (hRefDmergedIdeal := hRefDmergedIdeal)
    ∧ quiescent_DwProj (hDwProj := hDwProj)
    ∧ quiescent_DwProjIdeal (hDwProjIdeal := hDwProjIdeal)
    ∧ quiescent_RefDwProjIdeal (hRefDwProjIdeal := hRefDwProjIdeal)
    ∧ quiescent_DyProj (hDyProj := hDyProj)
    ∧ quiescent_DyProjIdeal (hDyProjIdeal := hDyProjIdeal)
    ∧ quiescent_RefDyProjIdeal (hRefDyProjIdeal := hRefDyProjIdeal)
    ∧ quiescent_DyProjB (hDyProjB := hDyProjB)
    ∧ quiescent_DyProjBIdeal (hDyProjBIdeal := hDyProjBIdeal)
    ∧ quiescent_RefDyProjBIdeal (hRefDyProjBIdeal := hRefDyProjBIdeal)
    ∧ quiescent_DwIn (hDwIn := hDwIn)
    ∧ quiescent_DwInIdeal (hDwInIdeal := hDwInIdeal)
    ∧ quiescent_RefDwInIdeal (hRefDwInIdeal := hRefDwInIdeal)
    ∧ quiescent_DxIn (hDxIn := hDxIn)
    ∧ quiescent_DxInIdeal (hDxInIdeal := hDxInIdeal)
    ∧ quiescent_RefDxInIdeal (hRefDxInIdeal := hRefDxInIdeal)
    ∧ quiescent_OutProj (hOutProj := hOutProj)
    ∧ quiescent_OutProjIdeal (hOutProjIdeal := hOutProjIdeal)
    ∧ quiescent_RefOutProjIdeal (hRefOutProjIdeal := hRefOutProjIdeal)
    ∧ quiescent_UpGate (hUpGate := hUpGate)
    ∧ quiescent_UpGateIdeal (hUpGateIdeal := hUpGateIdeal)
    ∧ quiescent_RefUpGateIdeal (hRefUpGateIdeal := hRefUpGateIdeal)
    ∧ quiescent_UpVal (hUpVal := hUpVal)
    ∧ quiescent_UpValIdeal (hUpValIdeal := hUpValIdeal)
    ∧ quiescent_RefUpValIdeal (hRefUpValIdeal := hRefUpValIdeal)
    ∧ quiescent_Down (hDown := hDown)
    ∧ quiescent_DownIdeal (hDownIdeal := hDownIdeal)
    ∧ quiescent_RefDownIdeal (hRefDownIdeal := hRefDownIdeal)
    ∧ preserves_BwdQ_BwdQIdeal
    ∧ algebraic_BwdQIdeal_RefQIdeal_pre_finite (hBwdQIdeal := hBwdQIdeal) (hRefQIdeal := hRefQIdeal) (hPre_finite := hPre_finite)
    ∧ preserves_BwdKv_BwdKvIdeal
    ∧ algebraic_BwdKvIdeal_RefKvIdeal_pre_finite (hBwdKvIdeal := hBwdKvIdeal) (hRefKvIdeal := hRefKvIdeal) (hPre_finite := hPre_finite)
    ∧ preserves_Fwd_FwdIdeal
    ∧ algebraic_FwdIdeal_RefFwdIdeal_pre_finite_fwd (hFwdIdeal := hFwdIdeal) (hRefFwdIdeal := hRefFwdIdeal) (hPre_finite_fwd := hPre_finite_fwd)
    ∧ preserves_DwDown_DwDownIdeal
    ∧ algebraic_DwDownIdeal_RefDwDownIdeal (hDwDownIdeal := hDwDownIdeal) (hRefDwDownIdeal := hRefDwDownIdeal)
    ∧ preserves_Dact_DactIdeal
    ∧ algebraic_DactIdeal_RefDactIdeal (hDactIdeal := hDactIdeal) (hRefDactIdeal := hRefDactIdeal)
    ∧ preserves_DwUp_DwUpIdeal
    ∧ algebraic_DwUpIdeal_RefDwUpIdeal (hDwUpIdeal := hDwUpIdeal) (hRefDwUpIdeal := hRefDwUpIdeal)
    ∧ preserves_DxUp_DxUpIdeal
    ∧ algebraic_DxUpIdeal_RefDxUpIdeal (hDxUpIdeal := hDxUpIdeal) (hRefDxUpIdeal := hRefDxUpIdeal)
    ∧ preserves_DwOut_DwOutIdeal
    ∧ algebraic_DwOutIdeal_RefDwOutIdeal (hDwOutIdeal := hDwOutIdeal) (hRefDwOutIdeal := hRefDwOutIdeal)
    ∧ preserves_Dmerged_DmergedIdeal
    ∧ algebraic_DmergedIdeal_RefDmergedIdeal (hDmergedIdeal := hDmergedIdeal) (hRefDmergedIdeal := hRefDmergedIdeal)
    ∧ preserves_DwProj_DwProjIdeal
    ∧ algebraic_DwProjIdeal_RefDwProjIdeal (hDwProjIdeal := hDwProjIdeal) (hRefDwProjIdeal := hRefDwProjIdeal)
    ∧ preserves_DyProj_DyProjIdeal
    ∧ algebraic_DyProjIdeal_RefDyProjIdeal (hDyProjIdeal := hDyProjIdeal) (hRefDyProjIdeal := hRefDyProjIdeal)
    ∧ preserves_DyProjB_DyProjBIdeal
    ∧ algebraic_DyProjBIdeal_RefDyProjBIdeal (hDyProjBIdeal := hDyProjBIdeal) (hRefDyProjBIdeal := hRefDyProjBIdeal)
    ∧ preserves_DwIn_DwInIdeal
    ∧ algebraic_DwInIdeal_RefDwInIdeal (hDwInIdeal := hDwInIdeal) (hRefDwInIdeal := hRefDwInIdeal)
    ∧ preserves_DxIn_DxInIdeal
    ∧ algebraic_DxInIdeal_RefDxInIdeal (hDxInIdeal := hDxInIdeal) (hRefDxInIdeal := hRefDxInIdeal)
    ∧ preserves_OutProj_OutProjIdeal
    ∧ algebraic_OutProjIdeal_RefOutProjIdeal (hOutProjIdeal := hOutProjIdeal) (hRefOutProjIdeal := hRefOutProjIdeal)
    ∧ preserves_UpGate_UpGateIdeal
    ∧ algebraic_UpGateIdeal_RefUpGateIdeal (hUpGateIdeal := hUpGateIdeal) (hRefUpGateIdeal := hRefUpGateIdeal)
    ∧ preserves_UpVal_UpValIdeal
    ∧ algebraic_UpValIdeal_RefUpValIdeal (hUpValIdeal := hUpValIdeal) (hRefUpValIdeal := hRefUpValIdeal)
    ∧ preserves_Down_DownIdeal
    ∧ algebraic_DownIdeal_RefDownIdeal (hDownIdeal := hDownIdeal) (hRefDownIdeal := hRefDownIdeal)
-- ==== Pre_finite.lean ====
abbrev S4096x1024 : Shape := ⟨2, ![4096, 1024]⟩
abbrev S4096x8 : Shape := ⟨2, ![4096, 8]⟩
abbrev S_ : Shape := ⟨0, ![]⟩
abbrev S1 : Shape := ⟨1, ![1]⟩
abbrev S5 : Shape := ⟨1, ![5]⟩

class Facts : Prop where
  bitsLt_bf16_f32 : FTy.bits .bf16 < FTy.bits .f32
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S4096x8 : S_.BroadcastsInDim S4096x8 (![] : Fin 0 → Fin S4096x8.rank)
  reducesTo_S4096x8_S_d0_1 : S4096x8.ReducesTo [0, 1] S_
  bcast_S_S1 : S_.BroadcastsInDim S1 (![] : Fin 0 → Fin S1.rank)
  concatenates_S1_S1_S1_S1_S1_S5_d0 : Shape.Concatenates [S1, S1, S1, S1, S1] S5 0

variable [Facts]

def fn_part1 {F : FTy → Type} [FloatOps F] (main_arg4 : FVec F S4096x1024 .bf16) (main_v4 : IVec S_ 1) (main_v9 : IVec S_ 1) (main_v14 : IVec S_ 1) (main_v15 : FVec F S4096x8 .f32) (main_v16 : FVec F S4096x8 .f32) : IVec S5 1 :=
  let main_v17 : IVec S4096x8 1 := cmpf .olt main_v15 main_v16
  let main_c_5 : IVec S_ 1 := constantI S_ 1 1#1
  let main_v18 : IVec S_ 1 := (fun x v => Host.reduce IntOp.andi x v reducesTo_S4096x8_S_d0_1 h_S_) main_v17 main_c_5
  let main_v19 : FVec F S4096x1024 .f32 := (extf .f32 · bitsLt_bf16_f32) main_arg4
  let main_v20 : FVec F S4096x1024 .f32 := Host.absf main_v19
  let main_cst_6 : FVec F S_ .f32 := constant S_ .f32 0x7F800000#32
  let main_v21 : FVec F S4096x1024 .f32 := broadcastInDim S4096x1024 ![] bcast_S_S4096x1024 main_cst_6
  let main_v22 : IVec S4096x1024 1 := cmpf .olt main_v20 main_v21
  let main_c_7 : IVec S_ 1 := constantI S_ 1 1#1
  let main_v23 : IVec S_ 1 := (fun x v => Host.reduce IntOp.andi x v reducesTo_S4096x1024_S_d0_1 h_S_) main_v22 main_c_7
  let main_v24 : IVec S1 1 := broadcastInDim S1 ![] bcast_S_S1 main_v4
  let main_v25 : IVec S1 1 := broadcastInDim S1 ![] bcast_S_S1 main_v9
  let main_v26 : IVec S1 1 := broadcastInDim S1 ![] bcast_S_S1 main_v14
  let main_v27 : IVec S1 1 := broadcastInDim S1 ![] bcast_S_S1 main_v18
  let main_v28 : IVec S1 1 := broadcastInDim S1 ![] bcast_S_S1 main_v23
  let main_v29 : IVec S5 1 := concatenate S5 0 [⟨S1, main_v24⟩, ⟨S1, main_v25⟩, ⟨S1, main_v26⟩, ⟨S1, main_v27⟩, ⟨S1, main_v28⟩] concatenates_S1_S1_S1_S1_S1_S5_d0
  main_v29

def fn {F : FTy → Type} [FloatOps F] (main_arg0 : FVec F S4096x1024 .bf16) (main_arg1 : FVec F S4096x1024 .bf16) (main_arg2 : FVec F S4096x1024 .bf16) (main_arg3 : FVec F S4096x8 .f32) (main_arg4 : FVec F S4096x1024 .bf16) : IVec S5 1 :=
  let main_v0 : FVec F S4096x1024 .f32 := (extf .f32 · bitsLt_bf16_f32) main_arg0
  let main_v1 : FVec F S4096x1024 .f32 := Host.absf main_v0
  let main_cst : FVec F S_ .f32 := constant S_ .f32 0x7F800000#32
  let main_v2 : FVec F S4096x1024 .f32 := broadcastInDim S4096x1024 ![] bcast_S_S4096x1024 main_cst
  let main_v3 : IVec S4096x1024 1 := cmpf .olt main_v1 main_v2
  let main_c : IVec S_ 1 := constantI S_ 1 1#1
  let main_v4 : IVec S_ 1 := (fun x v => Host.reduce IntOp.andi x v reducesTo_S4096x1024_S_d0_1 h_S_) main_v3 main_c
  let main_v5 : FVec F S4096x1024 .f32 := (extf .f32 · bitsLt_bf16_f32) main_arg1
  let main_v6 : FVec F S4096x1024 .f32 := Host.absf main_v5
  let main_cst_0 : FVec F S_ .f32 := constant S_ .f32 0x7F800000#32
  let main_v7 : FVec F S4096x1024 .f32 := broadcastInDim S4096x1024 ![] bcast_S_S4096x1024 main_cst_0
  let main_v8 : IVec S4096x1024 1 := cmpf .olt main_v6 main_v7
  let main_c_1 : IVec S_ 1 := constantI S_ 1 1#1
  let main_v9 : IVec S_ 1 := (fun x v => Host.reduce IntOp.andi x v reducesTo_S4096x1024_S_d0_1 h_S_) main_v8 main_c_1
  let main_v10 : FVec F S4096x1024 .f32 := (extf .f32 · bitsLt_bf16_f32) main_arg2
  let main_v11 : FVec F S4096x1024 .f32 := Host.absf main_v10
  let main_cst_2 : FVec F S_ .f32 := constant S_ .f32 0x7F800000#32
  let main_v12 : FVec F S4096x1024 .f32 := broadcastInDim S4096x1024 ![] bcast_S_S4096x1024 main_cst_2
  let main_v13 : IVec S4096x1024 1 := cmpf .olt main_v11 main_v12
  let main_c_3 : IVec S_ 1 := constantI S_ 1 1#1
  let main_v14 : IVec S_ 1 := (fun x v => Host.reduce IntOp.andi x v reducesTo_S4096x1024_S_d0_1 h_S_) main_v13 main_c_3
  let main_v15 : FVec F S4096x8 .f32 := Host.absf main_arg3
  let main_cst_4 : FVec F S_ .f32 := constant S_ .f32 0x7F800000#32
  let main_v16 : FVec F S4096x8 .f32 := broadcastInDim S4096x8 ![] bcast_S_S4096x8 main_cst_4
  fn_part1 (F := F) main_arg4 main_v4 main_v9 main_v14 main_v15 main_v16
-- ==== Pre_finite_fwd.lean ====
abbrev S4096x1024 : Shape := ⟨2, ![4096, 1024]⟩
abbrev S4096x8 : Shape := ⟨2, ![4096, 8]⟩
abbrev S_ : Shape := ⟨0, ![]⟩
abbrev S1 : Shape := ⟨1, ![1]⟩
abbrev S4 : Shape := ⟨1, ![4]⟩

class Facts : Prop where
  bitsLt_bf16_f32 : FTy.bits .bf16 < FTy.bits .f32
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S4096x8 : S_.BroadcastsInDim S4096x8 (![] : Fin 0 → Fin S4096x8.rank)
  reducesTo_S4096x8_S_d0_1 : S4096x8.ReducesTo [0, 1] S_
  bcast_S_S1 : S_.BroadcastsInDim S1 (![] : Fin 0 → Fin S1.rank)
  concatenates_S1_S1_S1_S1_S4_d0 : Shape.Concatenates [S1, S1, S1, S1] S4 0

variable [Facts]

def fn_part1 {F : FTy → Type} [FloatOps F] (main_v4 : IVec S_ 1) (main_v9 : IVec S_ 1) (main_v14 : IVec S_ 1) (main_v15 : FVec F S4096x8 .f32) (main_v16 : FVec F S4096x8 .f32) : IVec S4 1 :=
  let main_v17 : IVec S4096x8 1 := cmpf .olt main_v15 main_v16
  let main_c_5 : IVec S_ 1 := constantI S_ 1 1#1
  let main_v18 : IVec S_ 1 := (fun x v => Host.reduce IntOp.andi x v reducesTo_S4096x8_S_d0_1 h_S_) main_v17 main_c_5
  let main_v19 : IVec S1 1 := broadcastInDim S1 ![] bcast_S_S1 main_v4
  let main_v20 : IVec S1 1 := broadcastInDim S1 ![] bcast_S_S1 main_v9
  let main_v21 : IVec S1 1 := broadcastInDim S1 ![] bcast_S_S1 main_v14
  let main_v22 : IVec S1 1 := broadcastInDim S1 ![] bcast_S_S1 main_v18
  let main_v23 : IVec S4 1 := concatenate S4 0 [⟨S1, main_v19⟩, ⟨S1, main_v20⟩, ⟨S1, main_v21⟩, ⟨S1, main_v22⟩] concatenates_S1_S1_S1_S1_S4_d0
  main_v23

def fn {F : FTy → Type} [FloatOps F] (main_arg0 : FVec F S4096x1024 .bf16) (main_arg1 : FVec F S4096x1024 .bf16) (main_arg2 : FVec F S4096x1024 .bf16) (main_arg3 : FVec F S4096x8 .f32) : IVec S4 1 :=
  let main_v0 : FVec F S4096x1024 .f32 := (extf .f32 · bitsLt_bf16_f32) main_arg0
  let main_v1 : FVec F S4096x1024 .f32 := Host.absf main_v0
  let main_cst : FVec F S_ .f32 := constant S_ .f32 0x7F800000#32
  let main_v2 : FVec F S4096x1024 .f32 := broadcastInDim S4096x1024 ![] bcast_S_S4096x1024 main_cst
  let main_v3 : IVec S4096x1024 1 := cmpf .olt main_v1 main_v2
  let main_c : IVec S_ 1 := constantI S_ 1 1#1
  let main_v4 : IVec S_ 1 := (fun x v => Host.reduce IntOp.andi x v reducesTo_S4096x1024_S_d0_1 h_S_) main_v3 main_c
  let main_v5 : FVec F S4096x1024 .f32 := (extf .f32 · bitsLt_bf16_f32) main_arg1
  let main_v6 : FVec F S4096x1024 .f32 := Host.absf main_v5
  let main_cst_0 : FVec F S_ .f32 := constant S_ .f32 0x7F800000#32
  let main_v7 : FVec F S4096x1024 .f32 := broadcastInDim S4096x1024 ![] bcast_S_S4096x1024 main_cst_0
  let main_v8 : IVec S4096x1024 1 := cmpf .olt main_v6 main_v7
  let main_c_1 : IVec S_ 1 := constantI S_ 1 1#1
  let main_v9 : IVec S_ 1 := (fun x v => Host.reduce IntOp.andi x v reducesTo_S4096x1024_S_d0_1 h_S_) main_v8 main_c_1
  let main_v10 : FVec F S4096x1024 .f32 := (extf .f32 · bitsLt_bf16_f32) main_arg2
  let main_v11 : FVec F S4096x1024 .f32 := Host.absf main_v10
  let main_cst_2 : FVec F S_ .f32 := constant S_ .f32 0x7F800000#32
  let main_v12 : FVec F S4096x1024 .f32 := broadcastInDim S4096x1024 ![] bcast_S_S4096x1024 main_cst_2
  let main_v13 : IVec S4096x1024 1 := cmpf .olt main_v11 main_v12
  let main_c_3 : IVec S_ 1 := constantI S_ 1 1#1
  let main_v14 : IVec S_ 1 := (fun x v => Host.reduce IntOp.andi x v reducesTo_S4096x1024_S_d0_1 h_S_) main_v13 main_c_3
  let main_v15 : FVec F S4096x8 .f32 := Host.absf main_arg3
  let main_cst_4 : FVec F S_ .f32 := constant S_ .f32 0x7F800000#32
  let main_v16 : FVec F S4096x8 .f32 := broadcastInDim S4096x8 ![] bcast_S_S4096x8 main_cst_4
  fn_part1 (F := F) main_v4 main_v9 main_v14 main_v15 main_v16
-- ==== BwdQ.lean ====
abbrev S4096x1024 : Shape := ⟨2, ![4096, 1024]⟩
abbrev S4096x8 : Shape := ⟨2, ![4096, 8]⟩
abbrev S4096x8x128 : Shape := ⟨3, ![4096, 8, 128]⟩
abbrev S8x4096x4096 : Shape := ⟨3, ![8, 4096, 4096]⟩
abbrev S_ : Shape := ⟨0, ![]⟩
abbrev S8x4096 : Shape := ⟨2, ![8, 4096]⟩
abbrev S8x4096x1 : Shape := ⟨3, ![8, 4096, 1]⟩
abbrev S8x1x4096 : Shape := ⟨3, ![8, 1, 4096]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S8x128x4096 : Shape := ⟨3, ![8, 128, 4096]⟩
abbrev S8x4096x128 : Shape := ⟨3, ![8, 4096, 128]⟩
abbrev S4096x128 : Shape := ⟨2, ![4096, 128]⟩
abbrev S64x1x512 : Shape := ⟨3, ![64, 1, 512]⟩
abbrev S512x128 : Shape := ⟨2, ![512, 128]⟩
abbrev S1x512x128 : Shape := ⟨3, ![1, 512, 128]⟩
abbrev S512 : Shape := ⟨1, ![512]⟩
abbrev S512x1 : Shape := ⟨2, ![512, 1]⟩
abbrev S1x1x512 : Shape := ⟨3, ![1, 1, 512]⟩
abbrev S1x512 : Shape := ⟨2, ![1, 512]⟩
abbrev S512x512 : Shape := ⟨2, ![512, 512]⟩

abbrev nBuf : Space → Nat
  | .hbm => 100
  | .vmem => 19
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .bf16⟩
  | .hbm, ⟨3, _⟩ => ⟨S4096x8, .f32⟩
  | .hbm, ⟨4, _⟩ => ⟨S4096x1024, .bf16⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S4096x8x128, .f32⟩
  | .hbm, ⟨9, _⟩ => ⟨S4096x8x128, .f32⟩
  | .hbm, ⟨10, _⟩ => ⟨S8x4096x4096, .f32⟩
  | .hbm, ⟨11, _⟩ => ⟨S_, .f32⟩
  | .hbm, ⟨12, _⟩ => ⟨S_, .f32⟩
  | .hbm, ⟨13, _⟩ => ⟨S8x4096x4096, .f32⟩
  | .hbm, ⟨14, _⟩ => ⟨S8x4096x4096, .f32⟩
  | .hbm, ⟨15, _⟩ => ⟨S8x4096, .f32⟩
  | .hbm, ⟨16, _⟩ => ⟨S8x4096x1, .f32⟩
  | .hbm, ⟨17, _⟩ => ⟨S8x4096x4096, .f32⟩
  | .hbm, ⟨18, _⟩ => ⟨S8x4096x4096, .f32⟩
  | .hbm, ⟨19, _⟩ => ⟨S8x4096, .f32⟩
  | .hbm, ⟨20, _⟩ => ⟨S8x1x4096, .f32⟩
  | .hbm, ⟨21, _⟩ => ⟨S8x4096x4096, .f32⟩
  | .hbm, ⟨22, _⟩ => ⟨S8x4096x4096, .f32⟩
  | .hbm, ⟨23, _⟩ => ⟨S4096, .i32⟩
  | .hbm, ⟨24, _⟩ => ⟨S4096x1, .i32⟩
  | .hbm, ⟨25, _⟩ => ⟨S4096, .i32⟩
  | .hbm, ⟨26, _⟩ => ⟨S1x4096, .i32⟩
  | .hbm, ⟨27, _⟩ => ⟨S4096x4096, .i32⟩
  | .hbm, ⟨28, _⟩ => ⟨S4096x4096, .i32⟩
  | .hbm, ⟨29, _⟩ => ⟨S4096x4096, .i1⟩
  | .hbm, ⟨30, _⟩ => ⟨S_, .f32⟩
  | .hbm, ⟨31, _⟩ => ⟨S_, .f32⟩
  | .hbm, ⟨32, _⟩ => ⟨S8x4096x4096, .i1⟩
  | .hbm, ⟨33, _⟩ => ⟨S8x4096x4096, .f32⟩
  | .hbm, ⟨34, _⟩ => ⟨S8x4096x4096, .f32⟩
  | .hbm, ⟨35, _⟩ => ⟨S_, .f32⟩
  | .hbm, ⟨36, _⟩ => ⟨S8x4096, .f32⟩
  | .hbm, ⟨37, _⟩ => ⟨S_, .f32⟩
  | .hbm, ⟨38, _⟩ => ⟨S8x4096, .f32⟩
  | .hbm, ⟨39, _⟩ => ⟨S8x4096, .f32⟩
  | .hbm, ⟨40, _⟩ => ⟨S8x4096x1, .f32⟩
  | .hbm, ⟨41, _⟩ => ⟨S8x4096x4096, .f32⟩
  | .hbm, ⟨42, _⟩ => ⟨S8x4096x4096, .f32⟩
  | .hbm, ⟨43, _⟩ => ⟨S8x4096x4096, .f32⟩
  | .hbm, ⟨44, _⟩ => ⟨S_, .f32⟩
  | .hbm, ⟨45, _⟩ => ⟨S8x4096, .f32⟩
  | .hbm, ⟨46, _⟩ => ⟨S8x4096x1, .f32⟩
  | .hbm, ⟨47, _⟩ => ⟨S8x4096x4096, .f32⟩
  | .hbm, ⟨48, _⟩ => ⟨S8x4096x4096, .f32⟩
  | .hbm, ⟨49, _⟩ => ⟨S4096x8x128, .f32⟩
  | .hbm, ⟨50, _⟩ => ⟨S8x128x4096, .f32⟩
  | .hbm, ⟨51, _⟩ => ⟨S4096x8x128, .f32⟩
  | .hbm, ⟨52, _⟩ => ⟨S4096x1024, .f32⟩
  | .hbm, ⟨53, _⟩ => ⟨S4096x8x128, .f32⟩
  | .hbm, ⟨54, _⟩ => ⟨S4096x8x128, .f32⟩
  | .hbm, ⟨55, _⟩ => ⟨S8x4096x4096, .f32⟩
  | .hbm, ⟨56, _⟩ => ⟨S_, .f32⟩
  | .hbm, ⟨57, _⟩ => ⟨S_, .f32⟩
  | .hbm, ⟨58, _⟩ => ⟨S8x4096x4096, .f32⟩
  | .hbm, ⟨59, _⟩ => ⟨S8x4096x4096, .f32⟩
  | .hbm, ⟨60, _⟩ => ⟨S8x4096, .f32⟩
  | .hbm, ⟨61, _⟩ => ⟨S8x4096x1, .f32⟩
  | .hbm, ⟨62, _⟩ => ⟨S8x4096x4096, .f32⟩
  | .hbm, ⟨63, _⟩ => ⟨S8x4096x4096, .f32⟩
  | .hbm, ⟨64, _⟩ => ⟨S8x4096, .f32⟩
  | .hbm, ⟨65, _⟩ => ⟨S8x1x4096, .f32⟩
  | .hbm, ⟨66, _⟩ => ⟨S8x4096x4096, .f32⟩
  | .hbm, ⟨67, _⟩ => ⟨S8x4096x4096, .f32⟩
  | .hbm, ⟨68, _⟩ => ⟨S4096, .i32⟩
  | .hbm, ⟨69, _⟩ => ⟨S4096x1, .i32⟩
  | .hbm, ⟨70, _⟩ => ⟨S4096, .i32⟩
  | .hbm, ⟨71, _⟩ => ⟨S1x4096, .i32⟩
  | .hbm, ⟨72, _⟩ => ⟨S4096x4096, .i32⟩
  | .hbm, ⟨73, _⟩ => ⟨S4096x4096, .i32⟩
  | .hbm, ⟨74, _⟩ => ⟨S4096x4096, .i1⟩
  | .hbm, ⟨75, _⟩ => ⟨S_, .f32⟩
  | .hbm, ⟨76, _⟩ => ⟨S_, .f32⟩
  | .hbm, ⟨77, _⟩ => ⟨S8x4096x4096, .i1⟩
  | .hbm, ⟨78, _⟩ => ⟨S8x4096x4096, .f32⟩
  | .hbm, ⟨79, _⟩ => ⟨S8x4096x4096, .f32⟩
  | .hbm, ⟨80, _⟩ => ⟨S_, .f32⟩
  | .hbm, ⟨81, _⟩ => ⟨S8x4096, .f32⟩
  | .hbm, ⟨82, _⟩ => ⟨S8x4096x1, .f32⟩
  | .hbm, ⟨83, _⟩ => ⟨S8x4096x4096, .f32⟩
  | .hbm, ⟨84, _⟩ => ⟨S8x4096x4096, .f32⟩
  | .hbm, ⟨85, _⟩ => ⟨S8x4096x4096, .f32⟩
  | .hbm, ⟨86, _⟩ => ⟨S_, .f32⟩
  | .hbm, ⟨87, _⟩ => ⟨S8x4096, .f32⟩
  | .hbm, ⟨88, _⟩ => ⟨S8x4096, .f32⟩
  | .hbm, ⟨89, _⟩ => ⟨S8x4096, .f32⟩
  | .hbm, ⟨90, _⟩ => ⟨S8x4096x1, .f32⟩
  | .hbm, ⟨91, _⟩ => ⟨S8x4096x128, .f32⟩
  | .hbm, ⟨92, _⟩ => ⟨S_, .i32⟩
  | .hbm, ⟨93, _⟩ => ⟨S_, .f32⟩
  | .hbm, ⟨94, _⟩ => ⟨S4096x128, .f32⟩
  | .hbm, ⟨95, _⟩ => ⟨S4096x8, .f32⟩
  | .hbm, ⟨96, _⟩ => ⟨S8x4096, .f32⟩
  | .hbm, ⟨97, _⟩ => ⟨S64x1x512, .f32⟩
  | .hbm, ⟨98, _⟩ => ⟨S4096x1024, .bf16⟩
  | .hbm, ⟨99, _⟩ => ⟨S8x4096x128, .f32⟩
  | .local _ .vmem, ⟨0, _⟩ => ⟨S512x128, .bf16⟩
  | .local _ .vmem, ⟨1, _⟩ => ⟨S512x128, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S512x128, .f32⟩
  | .local _ .vmem, ⟨7, _⟩ => ⟨S512x128, .f32⟩
  | .local _ .vmem, ⟨8, _⟩ => ⟨S512x128, .bf16⟩
  | .local _ .vmem, ⟨9, _⟩ => ⟨S512x128, .bf16⟩
  | .local _ .vmem, ⟨10, _⟩ => ⟨S1x512x128, .f32⟩
  | .local _ .vmem, ⟨11, _⟩ => ⟨S1x512x128, .f32⟩
  | .local _ .vmem, ⟨12, _⟩ => ⟨S512x128, .f32⟩
  | .local _ .vmem, ⟨13, _⟩ => ⟨S512x128, .f32⟩
  | .local _ .vmem, ⟨14, _⟩ => ⟨S64x1x512, .f32⟩
  | .local _ .vmem, ⟨15, _⟩ => ⟨S512x128, .bf16⟩
  | .local _ .vmem, ⟨16, _⟩ => ⟨S512x128, .bf16⟩
  | .local _ .vmem, ⟨17, _⟩ => ⟨S1x512x128, .f32⟩
  | .local _ .vmem, ⟨18, _⟩ => ⟨S1x512x128, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst_0 : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_v24 : Ref sig .tc := ⟨.hbm, 34, rfl⟩
abbrev main_cst_1 : Ref sig .tc := ⟨.hbm, 35, rfl⟩
abbrev main_v25 : Ref sig .tc := ⟨.hbm, 36, rfl⟩
abbrev main_cst_2 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_3 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_cst_4 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_cst_5 : Ref sig .tc := ⟨.hbm, 75, rfl⟩
abbrev main_call1_v0 : Ref sig .tc := ⟨.hbm, 76, rfl⟩
abbrev main_call1_v1 : Ref sig .tc := ⟨.hbm, 77, rfl⟩
abbrev main_call1_v2 : Ref sig .tc := ⟨.hbm, 78, rfl⟩
abbrev main_v61 : Ref sig .tc := ⟨.hbm, 79, rfl⟩
abbrev main_cst_6 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_cst_7 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_c : Ref sig .tc := ⟨.hbm, 92, rfl⟩
abbrev main_call2_v0 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76_0 : Ref sig .tc := ⟨.hbm, 98, rfl⟩
abbrev main_v76_1 : Ref sig .tc := ⟨.hbm, 99, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨2, ![8, 8], ![false, false]⟩

@[reducible] def k0_t1_loop (i : grid0.Coords) : Scf.Loop 32 :=
  let c0_i32 : BitVec 32 := 0#32
  let arg1 : BitVec 32 := BitVec.ofNat 32 (i 1).val
  let v23 : BitVec 32 := Scalar.subi arg1 c0_i32
  let c1_i32 : BitVec 32 := 1#32
  let v25 : BitVec 32 := Scalar.divsi v23 c1_i32
  let v26 : BitVec 32 := Scalar.muli v25 c1_i32
  let v27 : BitVec 32 := Scalar.addi c0_i32 v26
  let c1_i32_15 : BitVec 32 := 1#32
  ⟨c0_i32, v27, c1_i32_15⟩
def k0_mult1 (i : grid0.Coords) (k0_t1 : Fin (k0_t1_loop i).trips) : BitVec 32 :=
  let c0_i32 : BitVec 32 := 0#32
  let c1_i32_15 : BitVec 32 := 1#32
  let arg12 : BitVec 32 := Scf.iv c0_i32 c1_i32_15 k0_t1
  let c512_i32_33 : BitVec 32 := 512#32
  let v75 : BitVec 32 := Scalar.muli arg12 c512_i32_33
  v75
def k0_off1 (i : grid0.Coords) (k0_t1 : Fin (k0_t1_loop i).trips) : Fin 2 → Nat :=
  let c0_i32 : BitVec 32 := 0#32
  let c1_i32_15 : BitVec 32 := 1#32
  let arg12 : BitVec 32 := Scf.iv c0_i32 c1_i32_15 k0_t1
  let c512_i32_33 : BitVec 32 := 512#32
  let v75 : BitVec 32 := Scalar.muli arg12 c512_i32_33
  let v76 : BitVec 32 := v75
  let v77 : Index := Scalar.indexCast v76
  let c0_34 : Index := 0#32
  ![v77.toNat, 0]
def k0_off2 (i : grid0.Coords) (k0_t1 : Fin (k0_t1_loop i).trips) : Fin 3 → Nat :=
  let arg0 : BitVec 32 := BitVec.ofNat 32 (i 0).val
  let c8_i32_35 : BitVec 32 := 8#32
  let v79 : BitVec 32 := Scalar.muli arg0 c8_i32_35
  let c0_i32 : BitVec 32 := 0#32
  let c1_i32_15 : BitVec 32 := 1#32
  let arg12 : BitVec 32 := Scf.iv c0_i32 c1_i32_15 k0_t1
  let v80 : BitVec 32 := Scalar.addi v79 arg12
  let v81 : Index := Scalar.indexCast v80
  let c0_36 : Index := 0#32
  let c0_37 : Index := 0#32
  ![v81.toNat, 0, 0]
@[reducible] def k0_t2_loop (i : grid0.Coords) : Scf.Loop 32 :=
  let c0_i32 : BitVec 32 := 0#32
  let arg1 : BitVec 32 := BitVec.ofNat 32 (i 1).val
  let v23 : BitVec 32 := Scalar.subi arg1 c0_i32
  let c1_i32 : BitVec 32 := 1#32
  let v25 : BitVec 32 := Scalar.divsi v23 c1_i32
  let v26 : BitVec 32 := Scalar.muli v25 c1_i32
  let v27 : BitVec 32 := Scalar.addi c0_i32 v26
  let v24 : BitVec 32 := Scalar.addi c0_i32 v23
  let c1_i32_16 : BitVec 32 := 1#32
  ⟨v27, v24, c1_i32_16⟩
def k0_mult2 (i : grid0.Coords) (k0_t2 : Fin (k0_t2_loop i).trips) : BitVec 32 :=
  let c0_i32 : BitVec 32 := 0#32
  let arg1 : BitVec 32 := BitVec.ofNat 32 (i 1).val
  let v23 : BitVec 32 := Scalar.subi arg1 c0_i32
  let c1_i32 : BitVec 32 := 1#32
  let v25 : BitVec 32 := Scalar.divsi v23 c1_i32
  let v26 : BitVec 32 := Scalar.muli v25 c1_i32
  let v27 : BitVec 32 := Scalar.addi c0_i32 v26
  let c1_i32_16 : BitVec 32 := 1#32
  let arg12 : BitVec 32 := Scf.iv v27 c1_i32_16 k0_t2
  let c512_i32_33 : BitVec 32 := 512#32
  let v75 : BitVec 32 := Scalar.muli arg12 c512_i32_33
  v75
def k0_off3 (i : grid0.Coords) (k0_t2 : Fin (k0_t2_loop i).trips) : Fin 2 → Nat :=
  let c0_i32 : BitVec 32 := 0#32
  let arg1 : BitVec 32 := BitVec.ofNat 32 (i 1).val
  let v23 : BitVec 32 := Scalar.subi arg1 c0_i32
  let c1_i32 : BitVec 32 := 1#32
  let v25 : BitVec 32 := Scalar.divsi v23 c1_i32
  let v26 : BitVec 32 := Scalar.muli v25 c1_i32
  let v27 : BitVec 32 := Scalar.addi c0_i32 v26
  let c1_i32_16 : BitVec 32 := 1#32
  let arg12 : BitVec 32 := Scf.iv v27 c1_i32_16 k0_t2
  let c512_i32_33 : BitVec 32 := 512#32
  let v75 : BitVec 32 := Scalar.muli arg12 c512_i32_33
  let v76 : BitVec 32 := v75
  let v77 : Index := Scalar.indexCast v76
  let c0_34 : Index := 0#32
  ![v77.toNat, 0]
def k0_off4 (i : grid0.Coords) (k0_t2 : Fin (k0_t2_loop i).trips) : Fin 3 → Nat :=
  let arg0 : BitVec 32 := BitVec.ofNat 32 (i 0).val
  let c8_i32_35 : BitVec 32 := 8#32
  let v79 : BitVec 32 := Scalar.muli arg0 c8_i32_35
  let c0_i32 : BitVec 32 := 0#32
  let arg1 : BitVec 32 := BitVec.ofNat 32 (i 1).val
  let v23 : BitVec 32 := Scalar.subi arg1 c0_i32
  let c1_i32 : BitVec 32 := 1#32
  let v25 : BitVec 32 := Scalar.divsi v23 c1_i32
  let v26 : BitVec 32 := Scalar.muli v25 c1_i32
  let v27 : BitVec 32 := Scalar.addi c0_i32 v26
  let c1_i32_16 : BitVec 32 := 1#32
  let arg12 : BitVec 32 := Scf.iv v27 c1_i32_16 k0_t2
  let v80 : BitVec 32 := Scalar.addi v79 arg12
  let v81 : Index := Scalar.indexCast v80
  let c0_36 : Index := 0#32
  let c0_37 : Index := 0#32
  ![v81.toNat, 0, 0]
def k0_mult3 (i : grid0.Coords) : BitVec 32 :=
  let arg1 : BitVec 32 := BitVec.ofNat 32 (i 1).val
  let c512_i32 : BitVec 32 := 512#32
  let v30 : BitVec 32 := Scalar.muli arg1 c512_i32
  v30
def k0_off5 (i : grid0.Coords) : Fin 2 → Nat :=
  let arg1 : BitVec 32 := BitVec.ofNat 32 (i 1).val
  let c512_i32 : BitVec 32 := 512#32
  let v30 : BitVec 32 := Scalar.muli arg1 c512_i32
  let v31 : BitVec 32 := v30
  let v32 : Index := Scalar.indexCast v31
  let c0_17 : Index := 0#32
  ![v32.toNat, 0]
def k0_off6 (i : grid0.Coords) : Fin 3 → Nat :=
  let arg0 : BitVec 32 := BitVec.ofNat 32 (i 0).val
  let c8_i32 : BitVec 32 := 8#32
  let v34 : BitVec 32 := Scalar.muli arg0 c8_i32
  let arg1 : BitVec 32 := BitVec.ofNat 32 (i 1).val
  let v35 : BitVec 32 := Scalar.addi v34 arg1
  let v36 : Index := Scalar.indexCast v35
  let c0_18 : Index := 0#32
  let c0_19 : Index := 0#32
  ![v36.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 1 → Memref sig .tc .vmem S64x1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S512x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== BwdQIdeal.lean ====
variable {F : FTy → Type} [FloatOps F] [Named F]
def κ : String → Option EReal := fun
  | "s" => some (((Real.sqrt 128)⁻¹ : ℝ) : EReal)
  | _ => none
-- ==== RefQIdeal.lean ====
abbrev S4096x1024 : Shape := ⟨2, ![4096, 1024]⟩
abbrev S4096x8 : Shape := ⟨2, ![4096, 8]⟩
abbrev S4096x8x128 : Shape := ⟨3, ![4096, 8, 128]⟩
abbrev S8x4096x4096 : Shape := ⟨3, ![8, 4096, 4096]⟩
abbrev S_ : Shape := ⟨0, ![]⟩
abbrev S8x4096 : Shape := ⟨2, ![8, 4096]⟩
abbrev S8x4096x1 : Shape := ⟨3, ![8, 4096, 1]⟩
abbrev S8x1x4096 : Shape := ⟨3, ![8, 1, 4096]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S8x128x4096 : Shape := ⟨3, ![8, 128, 4096]⟩
abbrev S8x4096x128 : Shape := ⟨3, ![8, 4096, 128]⟩

abbrev nBuf : Space → Nat
  | .hbm => 115
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .bf16⟩
  | .hbm, ⟨3, _⟩ => ⟨S4096x8, .f32⟩
  | .hbm, ⟨4, _⟩ => ⟨S4096x1024, .bf16⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S4096x8x128, .f32⟩
  | .hbm, ⟨10, _⟩ => ⟨S4096x8x128, .f32⟩
  | .hbm, ⟨11, _⟩ => ⟨S8x4096x4096, .f32⟩
  | .hbm, ⟨12, _⟩ => ⟨S_, .f32⟩
  | .hbm, ⟨13, _⟩ => ⟨S_, .f32⟩
  | .hbm, ⟨14, _⟩ => ⟨S8x4096x4096, .f32⟩
  | .hbm, ⟨15, _⟩ => ⟨S8x4096x4096, .f32⟩
  | .hbm, ⟨16, _⟩ => ⟨S8x4096, .f32⟩
  | .hbm, ⟨17, _⟩ => ⟨S8x4096x1, .f32⟩
  | .hbm, ⟨18, _⟩ => ⟨S8x4096x4096, .f32⟩
  | .hbm, ⟨19, _⟩ => ⟨S8x4096x4096, .f32⟩
  | .hbm, ⟨20, _⟩ => ⟨S8x4096, .f32⟩
  | .hbm, ⟨21, _⟩ => ⟨S8x1x4096, .f32⟩
  | .hbm, ⟨22, _⟩ => ⟨S8x4096x4096, .f32⟩
  | .hbm, ⟨23, _⟩ => ⟨S8x4096x4096, .f32⟩
  | .hbm, ⟨24, _⟩ => ⟨S4096, .i32⟩
  | .hbm, ⟨25, _⟩ => ⟨S4096x1, .i32⟩
  | .hbm, ⟨26, _⟩ => ⟨S4096, .i32⟩
  | .hbm, ⟨27, _⟩ => ⟨S1x4096, .i32⟩
  | .hbm, ⟨28, _⟩ => ⟨S4096x4096, .i32⟩
  | .hbm, ⟨29, _⟩ => ⟨S4096x4096, .i32⟩
  | .hbm, ⟨30, _⟩ => ⟨S4096x4096, .i1⟩
  | .hbm, ⟨31, _⟩ => ⟨S_, .f32⟩
  | .hbm, ⟨32, _⟩ => ⟨S_, .f32⟩
  | .hbm, ⟨33, _⟩ => ⟨S8x4096x4096, .i1⟩
  | .hbm, ⟨34, _⟩ => ⟨S8x4096x4096, .f32⟩
  | .hbm, ⟨35, _⟩ => ⟨S8x4096x4096, .f32⟩
  | .hbm, ⟨36, _⟩ => ⟨S_, .f32⟩
  | .hbm, ⟨37, _⟩ => ⟨S8x4096x4096, .f32⟩
  | .hbm, ⟨38, _⟩ => ⟨S_, .f32⟩
  | .hbm, ⟨39, _⟩ => ⟨S8x4096, .f32⟩
  | .hbm, ⟨40, _⟩ => ⟨S8x4096x1, .f32⟩
  | .hbm, ⟨41, _⟩ => ⟨S8x4096x4096, .f32⟩
  | .hbm, ⟨42, _⟩ => ⟨S8x4096x4096, .i1⟩
  | .hbm, ⟨43, _⟩ => ⟨S8x4096x4096, .f32⟩
  | .hbm, ⟨44, _⟩ => ⟨S_, .f32⟩
  | .hbm, ⟨45, _⟩ => ⟨S8x4096, .f32⟩
  | .hbm, ⟨46, _⟩ => ⟨S_, .f32⟩
  | .hbm, ⟨47, _⟩ => ⟨S8x4096, .f32⟩
  | .hbm, ⟨48, _⟩ => ⟨S8x4096, .f32⟩
  | .hbm, ⟨49, _⟩ => ⟨S_, .f32⟩
  | .hbm, ⟨50, _⟩ => ⟨S8x4096, .f32⟩
  | .hbm, ⟨51, _⟩ => ⟨S8x4096, .i1⟩
  | .hbm, ⟨52, _⟩ => ⟨S_, .f32⟩
  | .hbm, ⟨53, _⟩ => ⟨S8x4096, .f32⟩
  | .hbm, ⟨54, _⟩ => ⟨S8x4096, .i1⟩
  | .hbm, ⟨55, _⟩ => ⟨S_, .f32⟩
  | .hbm, ⟨56, _⟩ => ⟨S8x4096, .f32⟩
  | .hbm, ⟨57, _⟩ => ⟨S_, .f32⟩
  | .hbm, ⟨58, _⟩ => ⟨S8x4096, .f32⟩
  | .hbm, ⟨59, _⟩ => ⟨S_, .f32⟩
  | .hbm, ⟨60, _⟩ => ⟨S8x4096, .f32⟩
  | .hbm, ⟨61, _⟩ => ⟨S8x4096, .f32⟩
  | .hbm, ⟨62, _⟩ => ⟨S8x4096, .f32⟩
  | .hbm, ⟨63, _⟩ => ⟨S8x4096x1, .f32⟩
  | .hbm, ⟨64, _⟩ => ⟨S8x4096x4096, .f32⟩
  | .hbm, ⟨65, _⟩ => ⟨S8x4096x4096, .f32⟩
  | .hbm, ⟨66, _⟩ => ⟨S8x4096x4096, .f32⟩
  | .hbm, ⟨67, _⟩ => ⟨S_, .f32⟩
  | .hbm, ⟨68, _⟩ => ⟨S8x4096, .f32⟩
  | .hbm, ⟨69, _⟩ => ⟨S8x4096x1, .f32⟩
  | .hbm, ⟨70, _⟩ => ⟨S8x4096x4096, .f32⟩
  | .hbm, ⟨71, _⟩ => ⟨S8x4096x4096, .f32⟩
  | .hbm, ⟨72, _⟩ => ⟨S8x4096x1, .f32⟩
  | .hbm, ⟨73, _⟩ => ⟨S_, .f32⟩
  | .hbm, ⟨74, _⟩ => ⟨S8x4096x1, .f32⟩
  | .hbm, ⟨75, _⟩ => ⟨S8x4096x1, .f32⟩
  | .hbm, ⟨76, _⟩ => ⟨S4096x8x128, .f32⟩
  | .hbm, ⟨77, _⟩ => ⟨S8x128x4096, .f32⟩
  | .hbm, ⟨78, _⟩ => ⟨S4096x8x128, .f32⟩
  | .hbm, ⟨79, _⟩ => ⟨S4096x1024, .f32⟩
  | .hbm, ⟨80, _⟩ => ⟨S4096x8x128, .f32⟩
  | .hbm, ⟨81, _⟩ => ⟨S8x128x4096, .f32⟩
  | .hbm, ⟨82, _⟩ => ⟨S8x4096x4096, .f32⟩
  | .hbm, ⟨83, _⟩ => ⟨S8x4096x4096, .f32⟩
  | .hbm, ⟨84, _⟩ => ⟨S8x4096x4096, .f32⟩
  | .hbm, ⟨85, _⟩ => ⟨S8x4096x4096, .f32⟩
  | .hbm, ⟨86, _⟩ => ⟨S_, .f32⟩
  | .hbm, ⟨87, _⟩ => ⟨S8x4096, .f32⟩
  | .hbm, ⟨88, _⟩ => ⟨S8x4096x1, .f32⟩
  | .hbm, ⟨89, _⟩ => ⟨S8x4096x1, .f32⟩
  | .hbm, ⟨90, _⟩ => ⟨S8x4096x4096, .f32⟩
  | .hbm, ⟨91, _⟩ => ⟨S8x4096x4096, .f32⟩
  | .hbm, ⟨92, _⟩ => ⟨S_, .f32⟩
  | .hbm, ⟨93, _⟩ => ⟨S8x4096, .f32⟩
  | .hbm, ⟨94, _⟩ => ⟨S8x4096x4096, .f32⟩
  | .hbm, ⟨95, _⟩ => ⟨S8x4096x4096, .f32⟩
  | .hbm, ⟨96, _⟩ => ⟨S8x4096x4096, .f32⟩
  | .hbm, ⟨97, _⟩ => ⟨S_, .f32⟩
  | .hbm, ⟨98, _⟩ => ⟨S8x4096x4096, .f32⟩
  | .hbm, ⟨99, _⟩ => ⟨S8x4096x4096, .f32⟩
  | .hbm, ⟨100, _⟩ => ⟨S_, .f32⟩
  | .hbm, ⟨101, _⟩ => ⟨S8x4096, .f32⟩
  | .hbm, ⟨102, _⟩ => ⟨S8x4096x1, .f32⟩
  | .hbm, ⟨103, _⟩ => ⟨S_, .f32⟩
  | .hbm, ⟨104, _⟩ => ⟨S8x4096, .f32⟩
  | .hbm, ⟨105, _⟩ => ⟨S4096x8, .f32⟩
  | .hbm, ⟨106, _⟩ => ⟨S8x4096x4096, .f32⟩
  | .hbm, ⟨107, _⟩ => ⟨S8x4096x4096, .f32⟩
  | .hbm, ⟨108, _⟩ => ⟨S8x4096x128, .f32⟩
  | .hbm, ⟨109, _⟩ => ⟨S4096x8x128, .f32⟩
  | .hbm, ⟨110, _⟩ => ⟨S4096x1024, .f32⟩
  | .hbm, ⟨111, _⟩ => ⟨S4096x1024, .bf16⟩
  | .hbm, ⟨112, _⟩ => ⟨S8x4096, .f32⟩
  | .hbm, ⟨113, _⟩ => ⟨S8x4096x1, .f32⟩
  | .hbm, ⟨114, _⟩ => ⟨S8x4096x128, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_cst_0 : Ref sig .tc := ⟨.hbm, 31, rfl⟩
abbrev main_call0_v0 : Ref sig .tc := ⟨.hbm, 32, rfl⟩
abbrev main_v25_1 : Ref sig .tc := ⟨.hbm, 33, rfl⟩
abbrev main_call0_v2 : Ref sig .tc := ⟨.hbm, 34, rfl⟩
abbrev main_v25_0 : Ref sig .tc := ⟨.hbm, 35, rfl⟩
abbrev main_call0_cst : Ref sig .tc := ⟨.hbm, 36, rfl⟩
abbrev main_v25_2 : Ref sig .tc := ⟨.hbm, 37, rfl⟩
abbrev main_cst_1 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_2 : Ref sig .tc := ⟨.hbm, 44, rfl⟩
abbrev main_v31 : Ref sig .tc := ⟨.hbm, 45, rfl⟩
abbrev main_cst_3 : Ref sig .tc := ⟨.hbm, 46, rfl⟩
abbrev main_v32 : Ref sig .tc := ⟨.hbm, 47, rfl⟩
abbrev main_v33 : Ref sig .tc := ⟨.hbm, 48, rfl⟩
abbrev main_cst_4 : Ref sig .tc := ⟨.hbm, 49, rfl⟩
abbrev main_v34 : Ref sig .tc := ⟨.hbm, 50, rfl⟩
abbrev main_v35 : Ref sig .tc := ⟨.hbm, 51, rfl⟩
abbrev main_cst_5 : Ref sig .tc := ⟨.hbm, 52, rfl⟩
abbrev main_v36 : Ref sig .tc := ⟨.hbm, 53, rfl⟩
abbrev main_v37 : Ref sig .tc := ⟨.hbm, 54, rfl⟩
abbrev main_cst_6 : Ref sig .tc := ⟨.hbm, 55, rfl⟩
abbrev main_v38 : Ref sig .tc := ⟨.hbm, 56, rfl⟩
abbrev main_cst_7 : Ref sig .tc := ⟨.hbm, 57, rfl⟩
abbrev main_v39 : Ref sig .tc := ⟨.hbm, 58, rfl⟩
abbrev main_cst_8 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_9 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_10 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_cst_11 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_cst_12 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_call1_cst : Ref sig .tc := ⟨.hbm, 97, rfl⟩
abbrev main_call1_v0 : Ref sig .tc := ⟨.hbm, 98, rfl⟩
abbrev main_v73 : Ref sig .tc := ⟨.hbm, 99, rfl⟩
abbrev main_cst_13 : Ref sig .tc := ⟨.hbm, 100, rfl⟩
abbrev main_v74 : Ref sig .tc := ⟨.hbm, 101, rfl⟩
abbrev main_v75 : Ref sig .tc := ⟨.hbm, 102, rfl⟩
abbrev main_cst_14 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩

abbrev nD : Nat := 1
abbrev τ : Topo := Topo.v7x

variable {F : FTy → Type} [FloatOps F]
-- ==== BwdKv.lean ====
abbrev S4096x1024 : Shape := ⟨2, ![4096, 1024]⟩
abbrev S4096x8 : Shape := ⟨2, ![4096, 8]⟩
abbrev S4096x8x128 : Shape := ⟨3, ![4096, 8, 128]⟩
abbrev S8x4096x4096 : Shape := ⟨3, ![8, 4096, 4096]⟩
abbrev S_ : Shape := ⟨0, ![]⟩
abbrev S8x4096 : Shape := ⟨2, ![8, 4096]⟩
abbrev S8x4096x1 : Shape := ⟨3, ![8, 4096, 1]⟩
abbrev S8x1x4096 : Shape := ⟨3, ![8, 1, 4096]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S8x128x4096 : Shape := ⟨3, ![8, 128, 4096]⟩
abbrev S8x4096x128 : Shape := ⟨3, ![8, 4096, 128]⟩
abbrev S4096x128 : Shape := ⟨2, ![4096, 128]⟩
abbrev S64x1x512 : Shape := ⟨3, ![64, 1, 512]⟩
abbrev S512x128 : Shape := ⟨2, ![512, 128]⟩
abbrev S1x4096x128 : Shape := ⟨3, ![1, 4096, 128]⟩
abbrev S1x1x512 : Shape := ⟨3, ![1, 1, 512]⟩
abbrev S1x512 : Shape := ⟨2, ![1, 512]⟩
abbrev S512 : Shape := ⟨1, ![512]⟩
abbrev S512x1 : Shape := ⟨2, ![512, 1]⟩
abbrev S1x512x128 : Shape := ⟨3, ![1, 512, 128]⟩
abbrev S512x512 : Shape := ⟨2, ![512, 512]⟩

abbrev nBuf : Space → Nat
  | .hbm => 101
  | .vmem => 20
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .bf16⟩
  | .hbm, ⟨3, _⟩ => ⟨S4096x8, .f32⟩
  | .hbm, ⟨4, _⟩ => ⟨S4096x1024, .bf16⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S4096x8x128, .f32⟩
  | .hbm, ⟨9, _⟩ => ⟨S4096x8x128, .f32⟩
  | .hbm, ⟨10, _⟩ => ⟨S8x4096x4096, .f32⟩
  | .hbm, ⟨11, _⟩ => ⟨S_, .f32⟩
  | .hbm, ⟨12, _⟩ => ⟨S_, .f32⟩
  | .hbm, ⟨13, _⟩ => ⟨S8x4096x4096, .f32⟩
  | .hbm, ⟨14, _⟩ => ⟨S8x4096x4096, .f32⟩
  | .hbm, ⟨15, _⟩ => ⟨S8x4096, .f32⟩
  | .hbm, ⟨16, _⟩ => ⟨S8x4096x1, .f32⟩
  | .hbm, ⟨17, _⟩ => ⟨S8x4096x4096, .f32⟩
  | .hbm, ⟨18, _⟩ => ⟨S8x4096x4096, .f32⟩
  | .hbm, ⟨19, _⟩ => ⟨S8x4096, .f32⟩
  | .hbm, ⟨20, _⟩ => ⟨S8x1x4096, .f32⟩
  | .hbm, ⟨21, _⟩ => ⟨S8x4096x4096, .f32⟩
  | .hbm, ⟨22, _⟩ => ⟨S8x4096x4096, .f32⟩
  | .hbm, ⟨23, _⟩ => ⟨S4096, .i32⟩
  | .hbm, ⟨24, _⟩ => ⟨S4096x1, .i32⟩
  | .hbm, ⟨25, _⟩ => ⟨S4096, .i32⟩
  | .hbm, ⟨26, _⟩ => ⟨S1x4096, .i32⟩
  | .hbm, ⟨27, _⟩ => ⟨S4096x4096, .i32⟩
  | .hbm, ⟨28, _⟩ => ⟨S4096x4096, .i32⟩
  | .hbm, ⟨29, _⟩ => ⟨S4096x4096, .i1⟩
  | .hbm, ⟨30, _⟩ => ⟨S_, .f32⟩
  | .hbm, ⟨31, _⟩ => ⟨S_, .f32⟩
  | .hbm, ⟨32, _⟩ => ⟨S8x4096x4096, .i1⟩
  | .hbm, ⟨33, _⟩ => ⟨S8x4096x4096, .f32⟩
  | .hbm, ⟨34, _⟩ => ⟨S8x4096x4096, .f32⟩
  | .hbm, ⟨35, _⟩ => ⟨S_, .f32⟩
  | .hbm, ⟨36, _⟩ => ⟨S8x4096, .f32⟩
  | .hbm, ⟨37, _⟩ => ⟨S_, .f32⟩
  | .hbm, ⟨38, _⟩ => ⟨S8x4096, .f32⟩
  | .hbm, ⟨39, _⟩ => ⟨S8x4096, .f32⟩
  | .hbm, ⟨40, _⟩ => ⟨S8x4096x1, .f32⟩
  | .hbm, ⟨41, _⟩ => ⟨S8x4096x4096, .f32⟩
  | .hbm, ⟨42, _⟩ => ⟨S8x4096x4096, .f32⟩
  | .hbm, ⟨43, _⟩ => ⟨S8x4096x4096, .f32⟩
  | .hbm, ⟨44, _⟩ => ⟨S_, .f32⟩
  | .hbm, ⟨45, _⟩ => ⟨S8x4096, .f32⟩
  | .hbm, ⟨46, _⟩ => ⟨S8x4096x1, .f32⟩
  | .hbm, ⟨47, _⟩ => ⟨S8x4096x4096, .f32⟩
  | .hbm, ⟨48, _⟩ => ⟨S8x4096x4096, .f32⟩
  | .hbm, ⟨49, _⟩ => ⟨S4096x8x128, .f32⟩
  | .hbm, ⟨50, _⟩ => ⟨S8x128x4096, .f32⟩
  | .hbm, ⟨51, _⟩ => ⟨S4096x8x128, .f32⟩
  | .hbm, ⟨52, _⟩ => ⟨S4096x1024, .f32⟩
  | .hbm, ⟨53, _⟩ => ⟨S4096x8x128, .f32⟩
  | .hbm, ⟨54, _⟩ => ⟨S4096x8x128, .f32⟩
  | .hbm, ⟨55, _⟩ => ⟨S8x4096x4096, .f32⟩
  | .hbm, ⟨56, _⟩ => ⟨S_, .f32⟩
  | .hbm, ⟨57, _⟩ => ⟨S_, .f32⟩
  | .hbm, ⟨58, _⟩ => ⟨S8x4096x4096, .f32⟩
  | .hbm, ⟨59, _⟩ => ⟨S8x4096x4096, .f32⟩
  | .hbm, ⟨60, _⟩ => ⟨S8x4096, .f32⟩
  | .hbm, ⟨61, _⟩ => ⟨S8x4096x1, .f32⟩
  | .hbm, ⟨62, _⟩ => ⟨S8x4096x4096, .f32⟩
  | .hbm, ⟨63, _⟩ => ⟨S8x4096x4096, .f32⟩
  | .hbm, ⟨64, _⟩ => ⟨S8x4096, .f32⟩
  | .hbm, ⟨65, _⟩ => ⟨S8x1x4096, .f32⟩
  | .hbm, ⟨66, _⟩ => ⟨S8x4096x4096, .f32⟩
  | .hbm, ⟨67, _⟩ => ⟨S8x4096x4096, .f32⟩
  | .hbm, ⟨68, _⟩ => ⟨S4096, .i32⟩
  | .hbm, ⟨69, _⟩ => ⟨S4096x1, .i32⟩
  | .hbm, ⟨70, _⟩ => ⟨S4096, .i32⟩
  | .hbm, ⟨71, _⟩ => ⟨S1x4096, .i32⟩
  | .hbm, ⟨72, _⟩ => ⟨S4096x4096, .i32⟩
  | .hbm, ⟨73, _⟩ => ⟨S4096x4096, .i32⟩
  | .hbm, ⟨74, _⟩ => ⟨S4096x4096, .i1⟩
  | .hbm, ⟨75, _⟩ => ⟨S_, .f32⟩
  | .hbm, ⟨76, _⟩ => ⟨S_, .f32⟩
  | .hbm, ⟨77, _⟩ => ⟨S8x4096x4096, .i1⟩
  | .hbm, ⟨78, _⟩ => ⟨S8x4096x4096, .f32⟩
  | .hbm, ⟨79, _⟩ => ⟨S8x4096x4096, .f32⟩
  | .hbm, ⟨80, _⟩ => ⟨S_, .f32⟩
  | .hbm, ⟨81, _⟩ => ⟨S8x4096, .f32⟩
  | .hbm, ⟨82, _⟩ => ⟨S8x4096x1, .f32⟩
  | .hbm, ⟨83, _⟩ => ⟨S8x4096x4096, .f32⟩
  | .hbm, ⟨84, _⟩ => ⟨S8x4096x4096, .f32⟩
  | .hbm, ⟨85, _⟩ => ⟨S8x4096x4096, .f32⟩
  | .hbm, ⟨86, _⟩ => ⟨S_, .f32⟩
  | .hbm, ⟨87, _⟩ => ⟨S8x4096, .f32⟩
  | .hbm, ⟨88, _⟩ => ⟨S8x4096, .f32⟩
  | .hbm, ⟨89, _⟩ => ⟨S8x4096, .f32⟩
  | .hbm, ⟨90, _⟩ => ⟨S8x4096x1, .f32⟩
  | .hbm, ⟨91, _⟩ => ⟨S8x4096x128, .f32⟩
  | .hbm, ⟨92, _⟩ => ⟨S_, .i32⟩
  | .hbm, ⟨93, _⟩ => ⟨S_, .f32⟩
  | .hbm, ⟨94, _⟩ => ⟨S4096x128, .f32⟩
  | .hbm, ⟨95, _⟩ => ⟨S4096x8, .f32⟩
  | .hbm, ⟨96, _⟩ => ⟨S8x4096, .f32⟩
  | .hbm, ⟨97, _⟩ => ⟨S64x1x512, .f32⟩
  | .hbm, ⟨98, _⟩ => ⟨S4096x1024, .bf16⟩
  | .hbm, ⟨99, _⟩ => ⟨S4096x1024, .bf16⟩
  | .hbm, ⟨100, _⟩ => ⟨S64x1x512, .f32⟩
  | .local _ .vmem, ⟨0, _⟩ => ⟨S4096x128, .bf16⟩
  | .local _ .vmem, ⟨1, _⟩ => ⟨S4096x128, .bf16⟩
  | .local _ .vmem, ⟨2, _⟩ => ⟨S512x128, .bf16⟩
  | .local _ .vmem, ⟨3, _⟩ => ⟨S512x128, .bf16⟩
  | .local _ .vmem, ⟨4, _⟩ => ⟨S512x128, .bf16⟩
  | .local _ .vmem, ⟨5, _⟩ => ⟨S512x128, .bf16⟩
  | .local _ .vmem, ⟨6, _⟩ => ⟨S4096x128, .f32⟩
  | .local _ .vmem, ⟨7, _⟩ => ⟨S4096x128, .f32⟩
  | .local _ .vmem, ⟨8, _⟩ => ⟨S4096x128, .bf16⟩
  | .local _ .vmem, ⟨9, _⟩ => ⟨S4096x128, .bf16⟩
  | .local _ .vmem, ⟨10, _⟩ => ⟨S1x4096x128, .f32⟩
  | .local _ .vmem, ⟨11, _⟩ => ⟨S1x4096x128, .f32⟩
  | .local _ .vmem, ⟨12, _⟩ => ⟨S4096x128, .f32⟩
  | .local _ .vmem, ⟨13, _⟩ => ⟨S64x1x512, .f32⟩
  | .local _ .vmem, ⟨14, _⟩ => ⟨S512x128, .bf16⟩
  | .local _ .vmem, ⟨15, _⟩ => ⟨S512x128, .bf16⟩
  | .local _ .vmem, ⟨16, _⟩ => ⟨S512x128, .bf16⟩
  | .local _ .vmem, ⟨17, _⟩ => ⟨S512x128, .bf16⟩
  | .local _ .vmem, ⟨18, _⟩ => ⟨S1x1x512, .f32⟩
  | .local _ .vmem, ⟨19, _⟩ => ⟨S1x1x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst_0 : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_v24 : Ref sig .tc := ⟨.hbm, 34, rfl⟩
abbrev main_cst_1 : Ref sig .tc := ⟨.hbm, 35, rfl⟩
abbrev main_v25 : Ref sig .tc := ⟨.hbm, 36, rfl⟩
abbrev main_cst_2 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_3 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_cst_4 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_cst_5 : Ref sig .tc := ⟨.hbm, 75, rfl⟩
abbrev main_call1_v0 : Ref sig .tc := ⟨.hbm, 76, rfl⟩
abbrev main_call1_v1 : Ref sig .tc := ⟨.hbm, 77, rfl⟩
abbrev main_call1_v2 : Ref sig .tc := ⟨.hbm, 78, rfl⟩
abbrev main_v61 : Ref sig .tc := ⟨.hbm, 79, rfl⟩
abbrev main_cst_6 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_cst_7 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_c : Ref sig .tc := ⟨.hbm, 92, rfl⟩
abbrev main_call2_v0 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76_0 : Ref sig .tc := ⟨.hbm, 98, rfl⟩
abbrev main_v76_1 : Ref sig .tc := ⟨.hbm, 99, rfl⟩
abbrev main_v76_2 : Ref sig .tc := ⟨.hbm, 100, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨2, ![8, 8], ![false, false]⟩

def k0_off1 (i : grid0.Coords) : Fin 3 → Nat :=
  let arg0 : BitVec 32 := BitVec.ofNat 32 (i 0).val
  let c8_i32 : BitVec 32 := 8#32
  let v2 : BitVec 32 := Scalar.muli arg0 c8_i32
  let arg1 : BitVec 32 := BitVec.ofNat 32 (i 1).val
  let v3 : BitVec 32 := Scalar.addi v2 arg1
  let v4 : Index := Scalar.indexCast v3
  let c0_3 : Index := 0#32
  let c0_4 : Index := 0#32
  ![v4.toNat, 0, 0]
def k0_mult1 (i : grid0.Coords) : BitVec 32 :=
  let arg1 : BitVec 32 := BitVec.ofNat 32 (i 1).val
  let c512_i32 : BitVec 32 := 512#32
  let v11 : BitVec 32 := Scalar.muli arg1 c512_i32
  v11
def k0_off2 (i : grid0.Coords) : Fin 2 → Nat :=
  let arg1 : BitVec 32 := BitVec.ofNat 32 (i 1).val
  let c512_i32 : BitVec 32 := 512#32
  let v11 : BitVec 32 := Scalar.muli arg1 c512_i32
  let v12 : BitVec 32 := v11
  let v13 : Index := Scalar.indexCast v12
  let c0_7 : Index := 0#32
  ![v13.toNat, 0]
def k0_off3 (i : grid0.Coords) : Fin 3 → Nat :=
  let c0_12 : Index := 0#32
  let arg1 : BitVec 32 := BitVec.ofNat 32 (i 1).val
  let c512_i32 : BitVec 32 := 512#32
  let v11 : BitVec 32 := Scalar.muli arg1 c512_i32
  let v12 : BitVec 32 := v11
  let v27 : Index := Scalar.indexCast v12
  let c0_13 : Index := 0#32
  ![0, v27.toNat, 0]
@[reducible] def k0_t1_loop (i : grid0.Coords) : Scf.Loop 32 :=
  let arg1 : BitVec 32 := BitVec.ofNat 32 (i 1).val
  let c1_i32 : BitVec 32 := 1#32
  let v10 : BitVec 32 := Scalar.addi arg1 c1_i32
  let c8_i32_24 : BitVec 32 := 8#32
  let v67 : BitVec 32 := Scalar.subi c8_i32_24 v10
  let c1_i32_25 : BitVec 32 := 1#32
  let v69 : BitVec 32 := Scalar.divsi v67 c1_i32_25
  let v70 : BitVec 32 := Scalar.muli v69 c1_i32_25
  let v71 : BitVec 32 := Scalar.addi v10 v70
  let c1_i32_26 : BitVec 32 := 1#32
  ⟨v10, v71, c1_i32_26⟩
def k0_mult2 (i : grid0.Coords) (k0_t1 : Fin (k0_t1_loop i).trips) : BitVec 32 :=
  let arg1 : BitVec 32 := BitVec.ofNat 32 (i 1).val
  let c1_i32 : BitVec 32 := 1#32
  let v10 : BitVec 32 := Scalar.addi arg1 c1_i32
  let c1_i32_26 : BitVec 32 := 1#32
  let arg13 : BitVec 32 := Scf.iv v10 c1_i32_26 k0_t1
  let c512_i32_36 : BitVec 32 := 512#32
  let v83 : BitVec 32 := Scalar.muli arg13 c512_i32_36
  v83
def k0_off4 (i : grid0.Coords) (k0_t1 : Fin (k0_t1_loop i).trips) : Fin 2 → Nat :=
  let arg1 : BitVec 32 := BitVec.ofNat 32 (i 1).val
  let c1_i32 : BitVec 32 := 1#32
  let v10 : BitVec 32 := Scalar.addi arg1 c1_i32
  let c1_i32_26 : BitVec 32 := 1#32
  let arg13 : BitVec 32 := Scf.iv v10 c1_i32_26 k0_t1
  let c512_i32_36 : BitVec 32 := 512#32
  let v83 : BitVec 32 := Scalar.muli arg13 c512_i32_36
  let v84 : BitVec 32 := v83
  let v85 : Index := Scalar.indexCast v84
  let c0_37 : Index := 0#32
  ![v85.toNat, 0]
def k0_off5 (i : grid0.Coords) (k0_t1 : Fin (k0_t1_loop i).trips) : Fin 3 → Nat :=
  let c0_42 : Index := 0#32
  let arg1 : BitVec 32 := BitVec.ofNat 32 (i 1).val
  let c1_i32 : BitVec 32 := 1#32
  let v10 : BitVec 32 := Scalar.addi arg1 c1_i32
  let c1_i32_26 : BitVec 32 := 1#32
  let arg13 : BitVec 32 := Scf.iv v10 c1_i32_26 k0_t1
  let c512_i32_36 : BitVec 32 := 512#32
  let v83 : BitVec 32 := Scalar.muli arg13 c512_i32_36
  let v84 : BitVec 32 := v83
  let v99 : Index := Scalar.indexCast v84
  let c0_43 : Index := 0#32
  ![0, v99.toNat, 0]
@[reducible] def k0_t2_loop (i : grid0.Coords) : Scf.Loop 32 :=
  let arg1 : BitVec 32 := BitVec.ofNat 32 (i 1).val
  let c1_i32 : BitVec 32 := 1#32
  let v10 : BitVec 32 := Scalar.addi arg1 c1_i32
  let c8_i32_24 : BitVec 32 := 8#32
  let v67 : BitVec 32 := Scalar.subi c8_i32_24 v10
  let c1_i32_25 : BitVec 32 := 1#32
  let v69 : BitVec 32 := Scalar.divsi v67 c1_i32_25
  let v70 : BitVec 32 := Scalar.muli v69 c1_i32_25
  let v71 : BitVec 32 := Scalar.addi v10 v70
  let v68 : BitVec 32 := Scalar.addi v10 v67
  let c1_i32_27 : BitVec 32 := 1#32
  ⟨v71, v68, c1_i32_27⟩
def k0_mult3 (i : grid0.Coords) (k0_t2 : Fin (k0_t2_loop i).trips) : BitVec 32 :=
  let arg1 : BitVec 32 := BitVec.ofNat 32 (i 1).val
  let c1_i32 : BitVec 32 := 1#32
  let v10 : BitVec 32 := Scalar.addi arg1 c1_i32
  let c8_i32_24 : BitVec 32 := 8#32
  let v67 : BitVec 32 := Scalar.subi c8_i32_24 v10
  let c1_i32_25 : BitVec 32 := 1#32
  let v69 : BitVec 32 := Scalar.divsi v67 c1_i32_25
  let v70 : BitVec 32 := Scalar.muli v69 c1_i32_25
  let v71 : BitVec 32 := Scalar.addi v10 v70
  let c1_i32_27 : BitVec 32 := 1#32
  let arg13 : BitVec 32 := Scf.iv v71 c1_i32_27 k0_t2
  let c512_i32_36 : BitVec 32 := 512#32
  let v83 : BitVec 32 := Scalar.muli arg13 c512_i32_36
  v83
def k0_off6 (i : grid0.Coords) (k0_t2 : Fin (k0_t2_loop i).trips) : Fin 2 → Nat :=
  let arg1 : BitVec 32 := BitVec.ofNat 32 (i 1).val
  let c1_i32 : BitVec 32 := 1#32
  let v10 : BitVec 32 := Scalar.addi arg1 c1_i32
  let c8_i32_24 : BitVec 32 := 8#32
  let v67 : BitVec 32 := Scalar.subi c8_i32_24 v10
  let c1_i32_25 : BitVec 32 := 1#32
  let v69 : BitVec 32 := Scalar.divsi v67 c1_i32_25
  let v70 : BitVec 32 := Scalar.muli v69 c1_i32_25
  let v71 : BitVec 32 := Scalar.addi v10 v70
  let c1_i32_27 : BitVec 32 := 1#32
  let arg13 : BitVec 32 := Scf.iv v71 c1_i32_27 k0_t2
  let c512_i32_36 : BitVec 32 := 512#32
  let v83 : BitVec 32 := Scalar.muli arg13 c512_i32_36
  let v84 : BitVec 32 := v83
  let v85 : Index := Scalar.indexCast v84
  let c0_37 : Index := 0#32
  ![v85.toNat, 0]
def k0_off7 (i : grid0.Coords) (k0_t2 : Fin (k0_t2_loop i).trips) : Fin 3 → Nat :=
  let c0_42 : Index := 0#32
  let arg1 : BitVec 32 := BitVec.ofNat 32 (i 1).val
  let c1_i32 : BitVec 32 := 1#32
  let v10 : BitVec 32 := Scalar.addi arg1 c1_i32
  let c8_i32_24 : BitVec 32 := 8#32
  let v67 : BitVec 32 := Scalar.subi c8_i32_24 v10
  let c1_i32_25 : BitVec 32 := 1#32
  let v69 : BitVec 32 := Scalar.divsi v67 c1_i32_25
  let v70 : BitVec 32 := Scalar.muli v69 c1_i32_25
  let v71 : BitVec 32 := Scalar.addi v10 v70
  let c1_i32_27 : BitVec 32 := 1#32
  let arg13 : BitVec 32 := Scf.iv v71 c1_i32_27 k0_t2
  let c512_i32_36 : BitVec 32 := 512#32
  let v83 : BitVec 32 := Scalar.muli arg13 c512_i32_36
  let v84 : BitVec 32 := v83
  let v99 : Index := Scalar.indexCast v84
  let c0_43 : Index := 0#32
  ![0, v99.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_10 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

abbrev stage0_0 : Fin 2 → Memref sig .tc .vmem S4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S4096x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x4096x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S4096x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S64x1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S512x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== BwdKvIdeal.lean ====
variable {F : FTy → Type} [FloatOps F] [Named F]
def κ : String → Option EReal := fun
  | "s" => some (((Real.sqrt 128)⁻¹ : ℝ) : EReal)
  | _ => none
-- ==== RefKvIdeal.lean ====
abbrev S4096x1024 : Shape := ⟨2, ![4096, 1024]⟩
abbrev S4096x8 : Shape := ⟨2, ![4096, 8]⟩
abbrev S4096x8x128 : Shape := ⟨3, ![4096, 8, 128]⟩
abbrev S8x4096x4096 : Shape := ⟨3, ![8, 4096, 4096]⟩
abbrev S_ : Shape := ⟨0, ![]⟩
abbrev S8x4096 : Shape := ⟨2, ![8, 4096]⟩
abbrev S8x4096x1 : Shape := ⟨3, ![8, 4096, 1]⟩
abbrev S8x1x4096 : Shape := ⟨3, ![8, 1, 4096]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S8x128x4096 : Shape := ⟨3, ![8, 128, 4096]⟩
abbrev S8x4096x128 : Shape := ⟨3, ![8, 4096, 128]⟩
abbrev S64x1x512 : Shape := ⟨3, ![64, 1, 512]⟩

abbrev nBuf : Space → Nat
  | .hbm => 119
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .bf16⟩
  | .hbm, ⟨3, _⟩ => ⟨S4096x8, .f32⟩
  | .hbm, ⟨4, _⟩ => ⟨S4096x1024, .bf16⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S4096x8x128, .f32⟩
  | .hbm, ⟨10, _⟩ => ⟨S4096x8x128, .f32⟩
  | .hbm, ⟨11, _⟩ => ⟨S8x4096x4096, .f32⟩
  | .hbm, ⟨12, _⟩ => ⟨S_, .f32⟩
  | .hbm, ⟨13, _⟩ => ⟨S_, .f32⟩
  | .hbm, ⟨14, _⟩ => ⟨S8x4096x4096, .f32⟩
  | .hbm, ⟨15, _⟩ => ⟨S8x4096x4096, .f32⟩
  | .hbm, ⟨16, _⟩ => ⟨S8x4096, .f32⟩
  | .hbm, ⟨17, _⟩ => ⟨S8x4096x1, .f32⟩
  | .hbm, ⟨18, _⟩ => ⟨S8x4096x4096, .f32⟩
  | .hbm, ⟨19, _⟩ => ⟨S8x4096x4096, .f32⟩
  | .hbm, ⟨20, _⟩ => ⟨S8x4096, .f32⟩
  | .hbm, ⟨21, _⟩ => ⟨S8x1x4096, .f32⟩
  | .hbm, ⟨22, _⟩ => ⟨S8x4096x4096, .f32⟩
  | .hbm, ⟨23, _⟩ => ⟨S8x4096x4096, .f32⟩
  | .hbm, ⟨24, _⟩ => ⟨S4096, .i32⟩
  | .hbm, ⟨25, _⟩ => ⟨S4096x1, .i32⟩
  | .hbm, ⟨26, _⟩ => ⟨S4096, .i32⟩
  | .hbm, ⟨27, _⟩ => ⟨S1x4096, .i32⟩
  | .hbm, ⟨28, _⟩ => ⟨S4096x4096, .i32⟩
  | .hbm, ⟨29, _⟩ => ⟨S4096x4096, .i32⟩
  | .hbm, ⟨30, _⟩ => ⟨S4096x4096, .i1⟩
  | .hbm, ⟨31, _⟩ => ⟨S_, .f32⟩
  | .hbm, ⟨32, _⟩ => ⟨S_, .f32⟩
  | .hbm, ⟨33, _⟩ => ⟨S8x4096x4096, .i1⟩
  | .hbm, ⟨34, _⟩ => ⟨S8x4096x4096, .f32⟩
  | .hbm, ⟨35, _⟩ => ⟨S8x4096x4096, .f32⟩
  | .hbm, ⟨36, _⟩ => ⟨S_, .f32⟩
  | .hbm, ⟨37, _⟩ => ⟨S8x4096x4096, .f32⟩
  | .hbm, ⟨38, _⟩ => ⟨S_, .f32⟩
  | .hbm, ⟨39, _⟩ => ⟨S8x4096, .f32⟩
  | .hbm, ⟨40, _⟩ => ⟨S8x4096x1, .f32⟩
  | .hbm, ⟨41, _⟩ => ⟨S8x4096x4096, .f32⟩
  | .hbm, ⟨42, _⟩ => ⟨S8x4096x4096, .i1⟩
  | .hbm, ⟨43, _⟩ => ⟨S8x4096x4096, .f32⟩
  | .hbm, ⟨44, _⟩ => ⟨S_, .f32⟩
  | .hbm, ⟨45, _⟩ => ⟨S8x4096, .f32⟩
  | .hbm, ⟨46, _⟩ => ⟨S_, .f32⟩
  | .hbm, ⟨47, _⟩ => ⟨S8x4096, .f32⟩
  | .hbm, ⟨48, _⟩ => ⟨S8x4096, .f32⟩
  | .hbm, ⟨49, _⟩ => ⟨S_, .f32⟩
  | .hbm, ⟨50, _⟩ => ⟨S8x4096, .f32⟩
  | .hbm, ⟨51, _⟩ => ⟨S8x4096, .i1⟩
  | .hbm, ⟨52, _⟩ => ⟨S_, .f32⟩
  | .hbm, ⟨53, _⟩ => ⟨S8x4096, .f32⟩
  | .hbm, ⟨54, _⟩ => ⟨S8x4096, .i1⟩
  | .hbm, ⟨55, _⟩ => ⟨S_, .f32⟩
  | .hbm, ⟨56, _⟩ => ⟨S8x4096, .f32⟩
  | .hbm, ⟨57, _⟩ => ⟨S_, .f32⟩
  | .hbm, ⟨58, _⟩ => ⟨S8x4096, .f32⟩
  | .hbm, ⟨59, _⟩ => ⟨S_, .f32⟩
  | .hbm, ⟨60, _⟩ => ⟨S8x4096, .f32⟩
  | .hbm, ⟨61, _⟩ => ⟨S8x4096, .f32⟩
  | .hbm, ⟨62, _⟩ => ⟨S8x4096, .f32⟩
  | .hbm, ⟨63, _⟩ => ⟨S8x4096x1, .f32⟩
  | .hbm, ⟨64, _⟩ => ⟨S8x4096x4096, .f32⟩
  | .hbm, ⟨65, _⟩ => ⟨S8x4096x4096, .f32⟩
  | .hbm, ⟨66, _⟩ => ⟨S8x4096x4096, .f32⟩
  | .hbm, ⟨67, _⟩ => ⟨S_, .f32⟩
  | .hbm, ⟨68, _⟩ => ⟨S8x4096, .f32⟩
  | .hbm, ⟨69, _⟩ => ⟨S8x4096x1, .f32⟩
  | .hbm, ⟨70, _⟩ => ⟨S8x4096x4096, .f32⟩
  | .hbm, ⟨71, _⟩ => ⟨S8x4096x4096, .f32⟩
  | .hbm, ⟨72, _⟩ => ⟨S8x4096x1, .f32⟩
  | .hbm, ⟨73, _⟩ => ⟨S_, .f32⟩
  | .hbm, ⟨74, _⟩ => ⟨S8x4096x1, .f32⟩
  | .hbm, ⟨75, _⟩ => ⟨S8x4096x1, .f32⟩
  | .hbm, ⟨76, _⟩ => ⟨S4096x8x128, .f32⟩
  | .hbm, ⟨77, _⟩ => ⟨S8x128x4096, .f32⟩
  | .hbm, ⟨78, _⟩ => ⟨S4096x8x128, .f32⟩
  | .hbm, ⟨79, _⟩ => ⟨S4096x1024, .f32⟩
  | .hbm, ⟨80, _⟩ => ⟨S4096x8x128, .f32⟩
  | .hbm, ⟨81, _⟩ => ⟨S8x128x4096, .f32⟩
  | .hbm, ⟨82, _⟩ => ⟨S8x4096x4096, .f32⟩
  | .hbm, ⟨83, _⟩ => ⟨S8x128x4096, .f32⟩
  | .hbm, ⟨84, _⟩ => ⟨S4096x8x128, .f32⟩
  | .hbm, ⟨85, _⟩ => ⟨S4096x1024, .f32⟩
  | .hbm, ⟨86, _⟩ => ⟨S8x4096x4096, .f32⟩
  | .hbm, ⟨87, _⟩ => ⟨S8x4096x4096, .f32⟩
  | .hbm, ⟨88, _⟩ => ⟨S8x4096x4096, .f32⟩
  | .hbm, ⟨89, _⟩ => ⟨S_, .f32⟩
  | .hbm, ⟨90, _⟩ => ⟨S8x4096, .f32⟩
  | .hbm, ⟨91, _⟩ => ⟨S8x4096x1, .f32⟩
  | .hbm, ⟨92, _⟩ => ⟨S8x4096x1, .f32⟩
  | .hbm, ⟨93, _⟩ => ⟨S8x4096x4096, .f32⟩
  | .hbm, ⟨94, _⟩ => ⟨S8x4096x4096, .f32⟩
  | .hbm, ⟨95, _⟩ => ⟨S_, .f32⟩
  | .hbm, ⟨96, _⟩ => ⟨S8x4096, .f32⟩
  | .hbm, ⟨97, _⟩ => ⟨S8x4096x4096, .f32⟩
  | .hbm, ⟨98, _⟩ => ⟨S8x4096x4096, .f32⟩
  | .hbm, ⟨99, _⟩ => ⟨S8x4096x4096, .f32⟩
  | .hbm, ⟨100, _⟩ => ⟨S_, .f32⟩
  | .hbm, ⟨101, _⟩ => ⟨S8x4096x4096, .f32⟩
  | .hbm, ⟨102, _⟩ => ⟨S8x4096x4096, .f32⟩
  | .hbm, ⟨103, _⟩ => ⟨S8x4096x4096, .f32⟩
  | .hbm, ⟨104, _⟩ => ⟨S_, .f32⟩
  | .hbm, ⟨105, _⟩ => ⟨S8x4096, .f32⟩
  | .hbm, ⟨106, _⟩ => ⟨S8x1x4096, .f32⟩
  | .hbm, ⟨107, _⟩ => ⟨S_, .f32⟩
  | .hbm, ⟨108, _⟩ => ⟨S8x4096, .f32⟩
  | .hbm, ⟨109, _⟩ => ⟨S4096x8, .f32⟩
  | .hbm, ⟨110, _⟩ => ⟨S8x4096x4096, .f32⟩
  | .hbm, ⟨111, _⟩ => ⟨S8x4096x4096, .f32⟩
  | .hbm, ⟨112, _⟩ => ⟨S8x4096x128, .f32⟩
  | .hbm, ⟨113, _⟩ => ⟨S4096x8x128, .f32⟩
  | .hbm, ⟨114, _⟩ => ⟨S4096x1024, .f32⟩
  | .hbm, ⟨115, _⟩ => ⟨S4096x1024, .bf16⟩
  | .hbm, ⟨116, _⟩ => ⟨S4096x1024, .bf16⟩
  | .hbm, ⟨117, _⟩ => ⟨S8x4096, .f32⟩
  | .hbm, ⟨118, _⟩ => ⟨S64x1x512, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_cst_0 : Ref sig .tc := ⟨.hbm, 31, rfl⟩
abbrev main_call0_v0 : Ref sig .tc := ⟨.hbm, 32, rfl⟩
abbrev main_v25_1 : Ref sig .tc := ⟨.hbm, 33, rfl⟩
abbrev main_call0_v2 : Ref sig .tc := ⟨.hbm, 34, rfl⟩
abbrev main_v25_0 : Ref sig .tc := ⟨.hbm, 35, rfl⟩
abbrev main_call0_cst : Ref sig .tc := ⟨.hbm, 36, rfl⟩
abbrev main_v25_2 : Ref sig .tc := ⟨.hbm, 37, rfl⟩
abbrev main_cst_1 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_2 : Ref sig .tc := ⟨.hbm, 44, rfl⟩
abbrev main_v31 : Ref sig .tc := ⟨.hbm, 45, rfl⟩
abbrev main_cst_3 : Ref sig .tc := ⟨.hbm, 46, rfl⟩
abbrev main_v32 : Ref sig .tc := ⟨.hbm, 47, rfl⟩
abbrev main_v33 : Ref sig .tc := ⟨.hbm, 48, rfl⟩
abbrev main_cst_4 : Ref sig .tc := ⟨.hbm, 49, rfl⟩
abbrev main_v34 : Ref sig .tc := ⟨.hbm, 50, rfl⟩
abbrev main_v35 : Ref sig .tc := ⟨.hbm, 51, rfl⟩
abbrev main_cst_5 : Ref sig .tc := ⟨.hbm, 52, rfl⟩
abbrev main_v36 : Ref sig .tc := ⟨.hbm, 53, rfl⟩
abbrev main_v37 : Ref sig .tc := ⟨.hbm, 54, rfl⟩
abbrev main_cst_6 : Ref sig .tc := ⟨.hbm, 55, rfl⟩
abbrev main_v38 : Ref sig .tc := ⟨.hbm, 56, rfl⟩
abbrev main_cst_7 : Ref sig .tc := ⟨.hbm, 57, rfl⟩
abbrev main_v39 : Ref sig .tc := ⟨.hbm, 58, rfl⟩
abbrev main_cst_8 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_9 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_10 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_cst_11 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_cst_12 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_call1_cst : Ref sig .tc := ⟨.hbm, 100, rfl⟩
abbrev main_call1_v0 : Ref sig .tc := ⟨.hbm, 101, rfl⟩
abbrev main_v76 : Ref sig .tc := ⟨.hbm, 102, rfl⟩
abbrev main_v77 : Ref sig .tc := ⟨.hbm, 103, rfl⟩
abbrev main_cst_13 : Ref sig .tc := ⟨.hbm, 104, rfl⟩
abbrev main_v78 : Ref sig .tc := ⟨.hbm, 105, rfl⟩
abbrev main_v79 : Ref sig .tc := ⟨.hbm, 106, rfl⟩
abbrev main_cst_14 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩

abbrev nD : Nat := 1
abbrev τ : Topo := Topo.v7x

variable {F : FTy → Type} [FloatOps F]
-- ==== Fwd.lean ====
abbrev S4096x1024 : Shape := ⟨2, ![4096, 1024]⟩
abbrev S4096x8 : Shape := ⟨2, ![4096, 8]⟩
abbrev S_ : Shape := ⟨0, ![]⟩
abbrev S4096x128 : Shape := ⟨2, ![4096, 128]⟩
abbrev S8x4096 : Shape := ⟨2, ![8, 4096]⟩
abbrev S64x1x512 : Shape := ⟨3, ![64, 1, 512]⟩
abbrev S8x4096x128 : Shape := ⟨3, ![8, 4096, 128]⟩
abbrev S512x128 : Shape := ⟨2, ![512, 128]⟩
abbrev S1x512x128 : Shape := ⟨3, ![1, 512, 128]⟩
abbrev S512 : Shape := ⟨1, ![512]⟩
abbrev S512x1 : Shape := ⟨2, ![512, 1]⟩
abbrev S1x1x512 : Shape := ⟨3, ![1, 1, 512]⟩
abbrev S1x512 : Shape := ⟨2, ![1, 512]⟩
abbrev S512x512 : Shape := ⟨2, ![512, 512]⟩

abbrev nBuf : Space → Nat
  | .hbm => 13
  | .vmem => 15
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .bf16⟩
  | .hbm, ⟨3, _⟩ => ⟨S4096x8, .f32⟩
  | .hbm, ⟨4, _⟩ => ⟨S_, .i32⟩
  | .hbm, ⟨5, _⟩ => ⟨S_, .f32⟩
  | .hbm, ⟨6, _⟩ => ⟨S4096x128, .f32⟩
  | .hbm, ⟨7, _⟩ => ⟨S4096x8, .f32⟩
  | .hbm, ⟨8, _⟩ => ⟨S8x4096, .f32⟩
  | .hbm, ⟨9, _⟩ => ⟨S64x1x512, .f32⟩
  | .hbm, ⟨10, _⟩ => ⟨S4096x1024, .bf16⟩
  | .hbm, ⟨11, _⟩ => ⟨S4096x1024, .f32⟩
  | .hbm, ⟨12, _⟩ => ⟨S8x4096x128, .f32⟩
  | .local _ .vmem, ⟨0, _⟩ => ⟨S512x128, .bf16⟩
  | .local _ .vmem, ⟨1, _⟩ => ⟨S512x128, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S512x128, .f32⟩
  | .local _ .vmem, ⟨7, _⟩ => ⟨S512x128, .f32⟩
  | .local _ .vmem, ⟨8, _⟩ => ⟨S64x1x512, .f32⟩
  | .local _ .vmem, ⟨9, _⟩ => ⟨S512x128, .bf16⟩
  | .local _ .vmem, ⟨10, _⟩ => ⟨S512x128, .bf16⟩
  | .local _ .vmem, ⟨11, _⟩ => ⟨S512x128, .f32⟩
  | .local _ .vmem, ⟨12, _⟩ => ⟨S512x128, .f32⟩
  | .local _ .vmem, ⟨13, _⟩ => ⟨S1x512x128, .f32⟩
  | .local _ .vmem, ⟨14, _⟩ => ⟨S1x512x128, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![8, 8], ![false, false]⟩

@[reducible] def k0_t1_loop (i : grid0.Coords) : Scf.Loop 32 :=
  let c0_i32 : BitVec 32 := 0#32
  let arg1 : BitVec 32 := BitVec.ofNat 32 (i 1).val
  let v13 : BitVec 32 := Scalar.subi arg1 c0_i32
  let c1_i32 : BitVec 32 := 1#32
  let v15 : BitVec 32 := Scalar.divsi v13 c1_i32
  let v16 : BitVec 32 := Scalar.muli v15 c1_i32
  let v17 : BitVec 32 := Scalar.addi c0_i32 v16
  let c1_i32_7 : BitVec 32 := 1#32
  ⟨c0_i32, v17, c1_i32_7⟩
def k0_mult1 (i : grid0.Coords) (k0_t1 : Fin (k0_t1_loop i).trips) : BitVec 32 :=
  let c0_i32 : BitVec 32 := 0#32
  let c1_i32_7 : BitVec 32 := 1#32
  let arg10 : BitVec 32 := Scf.iv c0_i32 c1_i32_7 k0_t1
  let c512_i32_26 : BitVec 32 := 512#32
  let v72 : BitVec 32 := Scalar.muli arg10 c512_i32_26
  v72
def k0_off1 (i : grid0.Coords) (k0_t1 : Fin (k0_t1_loop i).trips) : Fin 2 → Nat :=
  let c0_i32 : BitVec 32 := 0#32
  let c1_i32_7 : BitVec 32 := 1#32
  let arg10 : BitVec 32 := Scf.iv c0_i32 c1_i32_7 k0_t1
  let c512_i32_26 : BitVec 32 := 512#32
  let v72 : BitVec 32 := Scalar.muli arg10 c512_i32_26
  let v73 : BitVec 32 := v72
  let v74 : Index := Scalar.indexCast v73
  let c0_27 : Index := 0#32
  ![v74.toNat, 0]
def k0_off2 (i : grid0.Coords) (k0_t1 : Fin (k0_t1_loop i).trips) : Fin 3 → Nat :=
  let arg0 : BitVec 32 := BitVec.ofNat 32 (i 0).val
  let c8_i32_28 : BitVec 32 := 8#32
  let v76 : BitVec 32 := Scalar.muli arg0 c8_i32_28
  let c0_i32 : BitVec 32 := 0#32
  let c1_i32_7 : BitVec 32 := 1#32
  let arg10 : BitVec 32 := Scf.iv c0_i32 c1_i32_7 k0_t1
  let v77 : BitVec 32 := Scalar.addi v76 arg10
  let v78 : Index := Scalar.indexCast v77
  let c0_29 : Index := 0#32
  let c0_30 : Index := 0#32
  ![v78.toNat, 0, 0]
@[reducible] def k0_t2_loop (i : grid0.Coords) : Scf.Loop 32 :=
  let c0_i32 : BitVec 32 := 0#32
  let arg1 : BitVec 32 := BitVec.ofNat 32 (i 1).val
  let v13 : BitVec 32 := Scalar.subi arg1 c0_i32
  let c1_i32 : BitVec 32 := 1#32
  let v15 : BitVec 32 := Scalar.divsi v13 c1_i32
  let v16 : BitVec 32 := Scalar.muli v15 c1_i32
  let v17 : BitVec 32 := Scalar.addi c0_i32 v16
  let v14 : BitVec 32 := Scalar.addi c0_i32 v13
  let c1_i32_8 : BitVec 32 := 1#32
  ⟨v17, v14, c1_i32_8⟩
def k0_mult2 (i : grid0.Coords) (k0_t2 : Fin (k0_t2_loop i).trips) : BitVec 32 :=
  let c0_i32 : BitVec 32 := 0#32
  let arg1 : BitVec 32 := BitVec.ofNat 32 (i 1).val
  let v13 : BitVec 32 := Scalar.subi arg1 c0_i32
  let c1_i32 : BitVec 32 := 1#32
  let v15 : BitVec 32 := Scalar.divsi v13 c1_i32
  let v16 : BitVec 32 := Scalar.muli v15 c1_i32
  let v17 : BitVec 32 := Scalar.addi c0_i32 v16
  let c1_i32_8 : BitVec 32 := 1#32
  let arg10 : BitVec 32 := Scf.iv v17 c1_i32_8 k0_t2
  let c512_i32_26 : BitVec 32 := 512#32
  let v72 : BitVec 32 := Scalar.muli arg10 c512_i32_26
  v72
def k0_off3 (i : grid0.Coords) (k0_t2 : Fin (k0_t2_loop i).trips) : Fin 2 → Nat :=
  let c0_i32 : BitVec 32 := 0#32
  let arg1 : BitVec 32 := BitVec.ofNat 32 (i 1).val
  let v13 : BitVec 32 := Scalar.subi arg1 c0_i32
  let c1_i32 : BitVec 32 := 1#32
  let v15 : BitVec 32 := Scalar.divsi v13 c1_i32
  let v16 : BitVec 32 := Scalar.muli v15 c1_i32
  let v17 : BitVec 32 := Scalar.addi c0_i32 v16
  let c1_i32_8 : BitVec 32 := 1#32
  let arg10 : BitVec 32 := Scf.iv v17 c1_i32_8 k0_t2
  let c512_i32_26 : BitVec 32 := 512#32
  let v72 : BitVec 32 := Scalar.muli arg10 c512_i32_26
  let v73 : BitVec 32 := v72
  let v74 : Index := Scalar.indexCast v73
  let c0_27 : Index := 0#32
  ![v74.toNat, 0]
def k0_off4 (i : grid0.Coords) (k0_t2 : Fin (k0_t2_loop i).trips) : Fin 3 → Nat :=
  let arg0 : BitVec 32 := BitVec.ofNat 32 (i 0).val
  let c8_i32_28 : BitVec 32 := 8#32
  let v76 : BitVec 32 := Scalar.muli arg0 c8_i32_28
  let c0_i32 : BitVec 32 := 0#32
  let arg1 : BitVec 32 := BitVec.ofNat 32 (i 1).val
  let v13 : BitVec 32 := Scalar.subi arg1 c0_i32
  let c1_i32 : BitVec 32 := 1#32
  let v15 : BitVec 32 := Scalar.divsi v13 c1_i32
  let v16 : BitVec 32 := Scalar.muli v15 c1_i32
  let v17 : BitVec 32 := Scalar.addi c0_i32 v16
  let c1_i32_8 : BitVec 32 := 1#32
  let arg10 : BitVec 32 := Scf.iv v17 c1_i32_8 k0_t2
  let v77 : BitVec 32 := Scalar.addi v76 arg10
  let v78 : Index := Scalar.indexCast v77
  let c0_29 : Index := 0#32
  let c0_30 : Index := 0#32
  ![v78.toNat, 0, 0]
def k0_mult3 (i : grid0.Coords) : BitVec 32 :=
  let arg1 : BitVec 32 := BitVec.ofNat 32 (i 1).val
  let c512_i32 : BitVec 32 := 512#32
  let v20 : BitVec 32 := Scalar.muli arg1 c512_i32
  v20
def k0_off5 (i : grid0.Coords) : Fin 2 → Nat :=
  let arg1 : BitVec 32 := BitVec.ofNat 32 (i 1).val
  let c512_i32 : BitVec 32 := 512#32
  let v20 : BitVec 32 := Scalar.muli arg1 c512_i32
  let v21 : BitVec 32 := v20
  let v22 : Index := Scalar.indexCast v21
  let c0_9 : Index := 0#32
  ![v22.toNat, 0]
def k0_off6 (i : grid0.Coords) : Fin 3 → Nat :=
  let arg0 : BitVec 32 := BitVec.ofNat 32 (i 0).val
  let c8_i32 : BitVec 32 := 8#32
  let v24 : BitVec 32 := Scalar.muli arg0 c8_i32
  let arg1 : BitVec 32 := BitVec.ofNat 32 (i 1).val
  let v25 : BitVec 32 := Scalar.addi v24 arg1
  let v26 : Index := Scalar.indexCast v25
  let c0_10 : Index := 0#32
  let c0_11 : Index := 0#32
  ![v26.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S64x1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== FwdIdeal.lean ====
variable {F : FTy → Type} [FloatOps F] [Named F]
def κ : String → Option EReal := fun
  | "mask" => some ⊥
  | "s" => some (((Real.sqrt 128)⁻¹ : ℝ) : EReal)
  | _ => none
-- ==== RefFwdIdeal.lean ====
abbrev S4096x1024 : Shape := ⟨2, ![4096, 1024]⟩
abbrev S4096x8 : Shape := ⟨2, ![4096, 8]⟩
abbrev S4096x8x128 : Shape := ⟨3, ![4096, 8, 128]⟩
abbrev S8x4096x4096 : Shape := ⟨3, ![8, 4096, 4096]⟩
abbrev S_ : Shape := ⟨0, ![]⟩
abbrev S8x4096 : Shape := ⟨2, ![8, 4096]⟩
abbrev S8x4096x1 : Shape := ⟨3, ![8, 4096, 1]⟩
abbrev S8x1x4096 : Shape := ⟨3, ![8, 1, 4096]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S8x128x4096 : Shape := ⟨3, ![8, 128, 4096]⟩
abbrev S8x4096x128 : Shape := ⟨3, ![8, 4096, 128]⟩

abbrev nBuf : Space → Nat
  | .hbm => 92
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .bf16⟩
  | .hbm, ⟨3, _⟩ => ⟨S4096x8, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S4096x8x128, .f32⟩
  | .hbm, ⟨8, _⟩ => ⟨S4096x8x128, .f32⟩
  | .hbm, ⟨9, _⟩ => ⟨S8x4096x4096, .f32⟩
  | .hbm, ⟨10, _⟩ => ⟨S_, .f32⟩
  | .hbm, ⟨11, _⟩ => ⟨S_, .f32⟩
  | .hbm, ⟨12, _⟩ => ⟨S8x4096x4096, .f32⟩
  | .hbm, ⟨13, _⟩ => ⟨S8x4096x4096, .f32⟩
  | .hbm, ⟨14, _⟩ => ⟨S8x4096, .f32⟩
  | .hbm, ⟨15, _⟩ => ⟨S8x4096x1, .f32⟩
  | .hbm, ⟨16, _⟩ => ⟨S8x4096x4096, .f32⟩
  | .hbm, ⟨17, _⟩ => ⟨S8x4096x4096, .f32⟩
  | .hbm, ⟨18, _⟩ => ⟨S8x4096, .f32⟩
  | .hbm, ⟨19, _⟩ => ⟨S8x1x4096, .f32⟩
  | .hbm, ⟨20, _⟩ => ⟨S8x4096x4096, .f32⟩
  | .hbm, ⟨21, _⟩ => ⟨S8x4096x4096, .f32⟩
  | .hbm, ⟨22, _⟩ => ⟨S4096, .i32⟩
  | .hbm, ⟨23, _⟩ => ⟨S4096x1, .i32⟩
  | .hbm, ⟨24, _⟩ => ⟨S4096, .i32⟩
  | .hbm, ⟨25, _⟩ => ⟨S1x4096, .i32⟩
  | .hbm, ⟨26, _⟩ => ⟨S4096x4096, .i32⟩
  | .hbm, ⟨27, _⟩ => ⟨S4096x4096, .i32⟩
  | .hbm, ⟨28, _⟩ => ⟨S4096x4096, .i1⟩
  | .hbm, ⟨29, _⟩ => ⟨S_, .f32⟩
  | .hbm, ⟨30, _⟩ => ⟨S_, .f32⟩
  | .hbm, ⟨31, _⟩ => ⟨S8x4096x4096, .i1⟩
  | .hbm, ⟨32, _⟩ => ⟨S8x4096x4096, .f32⟩
  | .hbm, ⟨33, _⟩ => ⟨S8x4096x4096, .f32⟩
  | .hbm, ⟨34, _⟩ => ⟨S_, .f32⟩
  | .hbm, ⟨35, _⟩ => ⟨S8x4096, .f32⟩
  | .hbm, ⟨36, _⟩ => ⟨S_, .f32⟩
  | .hbm, ⟨37, _⟩ => ⟨S8x4096, .f32⟩
  | .hbm, ⟨38, _⟩ => ⟨S8x4096, .f32⟩
  | .hbm, ⟨39, _⟩ => ⟨S8x4096x1, .f32⟩
  | .hbm, ⟨40, _⟩ => ⟨S8x4096x4096, .f32⟩
  | .hbm, ⟨41, _⟩ => ⟨S8x4096x4096, .f32⟩
  | .hbm, ⟨42, _⟩ => ⟨S8x4096x4096, .f32⟩
  | .hbm, ⟨43, _⟩ => ⟨S_, .f32⟩
  | .hbm, ⟨44, _⟩ => ⟨S8x4096, .f32⟩
  | .hbm, ⟨45, _⟩ => ⟨S8x4096x1, .f32⟩
  | .hbm, ⟨46, _⟩ => ⟨S8x4096x4096, .f32⟩
  | .hbm, ⟨47, _⟩ => ⟨S8x4096x4096, .f32⟩
  | .hbm, ⟨48, _⟩ => ⟨S4096x8x128, .f32⟩
  | .hbm, ⟨49, _⟩ => ⟨S8x128x4096, .f32⟩
  | .hbm, ⟨50, _⟩ => ⟨S4096x8x128, .f32⟩
  | .hbm, ⟨51, _⟩ => ⟨S4096x1024, .f32⟩
  | .hbm, ⟨52, _⟩ => ⟨S4096x1024, .bf16⟩
  | .hbm, ⟨53, _⟩ => ⟨S4096x8x128, .f32⟩
  | .hbm, ⟨54, _⟩ => ⟨S4096x8x128, .f32⟩
  | .hbm, ⟨55, _⟩ => ⟨S8x4096x4096, .f32⟩
  | .hbm, ⟨56, _⟩ => ⟨S_, .f32⟩
  | .hbm, ⟨57, _⟩ => ⟨S_, .f32⟩
  | .hbm, ⟨58, _⟩ => ⟨S8x4096x4096, .f32⟩
  | .hbm, ⟨59, _⟩ => ⟨S8x4096x4096, .f32⟩
  | .hbm, ⟨60, _⟩ => ⟨S8x4096, .f32⟩
  | .hbm, ⟨61, _⟩ => ⟨S8x4096x1, .f32⟩
  | .hbm, ⟨62, _⟩ => ⟨S8x4096x4096, .f32⟩
  | .hbm, ⟨63, _⟩ => ⟨S8x4096x4096, .f32⟩
  | .hbm, ⟨64, _⟩ => ⟨S8x4096, .f32⟩
  | .hbm, ⟨65, _⟩ => ⟨S8x1x4096, .f32⟩
  | .hbm, ⟨66, _⟩ => ⟨S8x4096x4096, .f32⟩
  | .hbm, ⟨67, _⟩ => ⟨S8x4096x4096, .f32⟩
  | .hbm, ⟨68, _⟩ => ⟨S4096, .i32⟩
  | .hbm, ⟨69, _⟩ => ⟨S4096x1, .i32⟩
  | .hbm, ⟨70, _⟩ => ⟨S4096, .i32⟩
  | .hbm, ⟨71, _⟩ => ⟨S1x4096, .i32⟩
  | .hbm, ⟨72, _⟩ => ⟨S4096x4096, .i32⟩
  | .hbm, ⟨73, _⟩ => ⟨S4096x4096, .i32⟩
  | .hbm, ⟨74, _⟩ => ⟨S4096x4096, .i1⟩
  | .hbm, ⟨75, _⟩ => ⟨S_, .f32⟩
  | .hbm, ⟨76, _⟩ => ⟨S_, .f32⟩
  | .hbm, ⟨77, _⟩ => ⟨S8x4096x4096, .i1⟩
  | .hbm, ⟨78, _⟩ => ⟨S8x4096x4096, .f32⟩
  | .hbm, ⟨79, _⟩ => ⟨S8x4096x4096, .f32⟩
  | .hbm, ⟨80, _⟩ => ⟨S_, .f32⟩
  | .hbm, ⟨81, _⟩ => ⟨S8x4096, .f32⟩
  | .hbm, ⟨82, _⟩ => ⟨S8x4096x1, .f32⟩
  | .hbm, ⟨83, _⟩ => ⟨S8x4096x4096, .f32⟩
  | .hbm, ⟨84, _⟩ => ⟨S8x4096x4096, .f32⟩
  | .hbm, ⟨85, _⟩ => ⟨S8x4096x4096, .f32⟩
  | .hbm, ⟨86, _⟩ => ⟨S_, .f32⟩
  | .hbm, ⟨87, _⟩ => ⟨S8x4096, .f32⟩
  | .hbm, ⟨88, _⟩ => ⟨S8x4096, .f32⟩
  | .hbm, ⟨89, _⟩ => ⟨S8x4096, .f32⟩
  | .hbm, ⟨90, _⟩ => ⟨S8x4096x1, .f32⟩
  | .hbm, ⟨91, _⟩ => ⟨S8x4096x128, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_cst_0 : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_v24 : Ref sig .tc := ⟨.hbm, 33, rfl⟩
abbrev main_cst_1 : Ref sig .tc := ⟨.hbm, 34, rfl⟩
abbrev main_v25 : Ref sig .tc := ⟨.hbm, 35, rfl⟩
abbrev main_cst_2 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_3 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_cst_4 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_cst_5 : Ref sig .tc := ⟨.hbm, 75, rfl⟩
abbrev main_call1_v0 : Ref sig .tc := ⟨.hbm, 76, rfl⟩
abbrev main_call1_v1 : Ref sig .tc := ⟨.hbm, 77, rfl⟩
abbrev main_call1_v2 : Ref sig .tc := ⟨.hbm, 78, rfl⟩
abbrev main_v62 : Ref sig .tc := ⟨.hbm, 79, rfl⟩
abbrev main_cst_6 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_cst_7 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩

abbrev nD : Nat := 1
abbrev τ : Topo := Topo.v7x

variable {F : FTy → Type} [FloatOps F]
-- ==== DwDown.lean ====
abbrev S4096x5504 : Shape := ⟨2, ![4096, 5504]⟩
abbrev S4096x2048 : Shape := ⟨2, ![4096, 2048]⟩
abbrev S_ : Shape := ⟨0, ![]⟩
abbrev S4096x5632 : Shape := ⟨2, ![4096, 5632]⟩
abbrev S5632x2048 : Shape := ⟨2, ![5632, 2048]⟩
abbrev S512x512 : Shape := ⟨2, ![512, 512]⟩
abbrev S512x1024 : Shape := ⟨2, ![512, 1024]⟩
abbrev S5504x2048 : Shape := ⟨2, ![5504, 2048]⟩

abbrev nBuf : Space → Nat
  | .hbm => 7
  | .vmem => 7
  | .smem => 0
  | _ => 0

abbrev bufTy : (tb : Table) → Fin (tcTables nBuf tb) → BufTy
  | .hbm, ⟨0, _⟩ => ⟨S4096x5504, .bf16⟩
  | .hbm, ⟨1, _⟩ => ⟨S4096x2048, .bf16⟩
  | .hbm, ⟨2, _⟩ => ⟨S_, .i32⟩
  | .hbm, ⟨3, _⟩ => ⟨S_, .bf16⟩
  | .hbm, ⟨4, _⟩ => ⟨S4096x5632, .bf16⟩
  | .hbm, ⟨5, _⟩ => ⟨S5632x2048, .bf16⟩
  | .hbm, ⟨6, _⟩ => ⟨S5504x2048, .bf16⟩
  | .local _ .vmem, ⟨0, _⟩ => ⟨S512x512, .bf16⟩
  | .local _ .vmem, ⟨1, _⟩ => ⟨S512x512, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | _, _ => ⟨S4096x5504, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 2, 8], ![false, false, false]⟩

def k0_cond2 (i : grid0.Coords) : BitVec 1 :=
  let arg2 : BitVec 32 := BitVec.ofNat 32 (i 2).val
  let c7_i32 : BitVec 32 := 7#32
  let v12 : BitVec 1 := Scalar.cmpi .eq arg2 c7_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefDwDownIdeal.lean ====
abbrev S4096x5504 : Shape := ⟨2, ![4096, 5504]⟩
abbrev S4096x2048 : Shape := ⟨2, ![4096, 2048]⟩
abbrev S_ : Shape := ⟨0, ![]⟩
abbrev S5504x2048 : Shape := ⟨2, ![5504, 2048]⟩
abbrev S2048x5504 : Shape := ⟨2, ![2048, 5504]⟩

abbrev nBuf : Space → Nat
  | .hbm => 10
  | .vmem => 0
  | .smem => 0
  | _ => 0

abbrev bufTy : (tb : Table) → Fin (tcTables nBuf tb) → BufTy
  | .hbm, ⟨0, _⟩ => ⟨S4096x5504, .bf16⟩
  | .hbm, ⟨1, _⟩ => ⟨S4096x2048, .bf16⟩
  | .hbm, ⟨2, _⟩ => ⟨S4096x5504, .f32⟩
  | .hbm, ⟨3, _⟩ => ⟨S4096x2048, .f32⟩
  | .hbm, ⟨4, _⟩ => ⟨S_, .f32⟩
  | .hbm, ⟨5, _⟩ => ⟨S5504x2048, .f32⟩
  | .hbm, ⟨6, _⟩ => ⟨S4096x2048, .f32⟩
  | .hbm, ⟨7, _⟩ => ⟨S2048x5504, .f32⟩
  | .hbm, ⟨8, _⟩ => ⟨S5504x2048, .f32⟩
  | .hbm, ⟨9, _⟩ => ⟨S5504x2048, .bf16⟩
  | _, _ => ⟨S4096x5504, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Dact.lean ====
abbrev S4096x2048 : Shape := ⟨2, ![4096, 2048]⟩
abbrev S5504x2048 : Shape := ⟨2, ![5504, 2048]⟩
abbrev S_ : Shape := ⟨0, ![]⟩
abbrev S5632x2048 : Shape := ⟨2, ![5632, 2048]⟩
abbrev S4096x5632 : Shape := ⟨2, ![4096, 5632]⟩
abbrev S1024x512 : Shape := ⟨2, ![1024, 512]⟩
abbrev S1408x512 : Shape := ⟨2, ![1408, 512]⟩
abbrev S1024x1408 : Shape := ⟨2, ![1024, 1408]⟩
abbrev S4096x5504 : Shape := ⟨2, ![4096, 5504]⟩

abbrev nBuf : Space → Nat
  | .hbm => 7
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S5504x2048, .bf16⟩
  | .hbm, ⟨2, _⟩ => ⟨S_, .i32⟩
  | .hbm, ⟨3, _⟩ => ⟨S_, .bf16⟩
  | .hbm, ⟨4, _⟩ => ⟨S5632x2048, .bf16⟩
  | .hbm, ⟨5, _⟩ => ⟨S4096x5632, .f32⟩
  | .hbm, ⟨6, _⟩ => ⟨S4096x5504, .f32⟩
  | .local _ .vmem, ⟨0, _⟩ => ⟨S1024x512, .bf16⟩
  | .local _ .vmem, ⟨1, _⟩ => ⟨S1024x512, .bf16⟩
  | .local _ .vmem, ⟨2, _⟩ => ⟨S1408x512, .bf16⟩
  | .local _ .vmem, ⟨3, _⟩ => ⟨S1408x512, .bf16⟩
  | .local _ .vmem, ⟨4, _⟩ => ⟨S1024x1408, .f32⟩
  | .local _ .vmem, ⟨5, _⟩ => ⟨S1024x1408, .f32⟩
  | .local _ .vmem, ⟨6, _⟩ => ⟨S1024x1408, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefDactIdeal.lean ====
abbrev S4096x2048 : Shape := ⟨2, ![4096, 2048]⟩
abbrev S5504x2048 : Shape := ⟨2, ![5504, 2048]⟩
abbrev S_ : Shape := ⟨0, ![]⟩
abbrev S4096x5504 : Shape := ⟨2, ![4096, 5504]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S5504x2048, .bf16⟩
  | .hbm, ⟨2, _⟩ => ⟨S4096x2048, .f32⟩
  | .hbm, ⟨3, _⟩ => ⟨S5504x2048, .f32⟩
  | .hbm, ⟨4, _⟩ => ⟨S_, .f32⟩
  | .hbm, ⟨5, _⟩ => ⟨S4096x5504, .f32⟩
  | .hbm, ⟨6, _⟩ => ⟨S4096x2048, .f32⟩
  | .hbm, ⟨7, _⟩ => ⟨S4096x5504, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DwUp.lean ====
abbrev S4096x2048 : Shape := ⟨2, ![4096, 2048]⟩
abbrev S4096x11008 : Shape := ⟨2, ![4096, 11008]⟩
abbrev S4096x5504 : Shape := ⟨2, ![4096, 5504]⟩
abbrev S_ : Shape := ⟨0, ![]⟩
abbrev S4096x5632 : Shape := ⟨2, ![4096, 5632]⟩
abbrev S4096x11264 : Shape := ⟨2, ![4096, 11264]⟩
abbrev S2048x11264 : Shape := ⟨2, ![2048, 11264]⟩
abbrev S512x1024 : Shape := ⟨2, ![512, 1024]⟩
abbrev S512x1408 : Shape := ⟨2, ![512, 1408]⟩
abbrev S1024x1408 : Shape := ⟨2, ![1024, 1408]⟩
abbrev S2048x5504 : Shape := ⟨2, ![2048, 5504]⟩
abbrev S2048x11008 : Shape := ⟨2, ![2048, 11008]⟩

abbrev nBuf : Space → Nat
  | .hbm => 15
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x11008, .bf16⟩
  | .hbm, ⟨2, _⟩ => ⟨S4096x5504, .bf16⟩
  | .hbm, ⟨3, _⟩ => ⟨S_, .i32⟩
  | .hbm, ⟨4, _⟩ => ⟨S_, .bf16⟩
  | .hbm, ⟨5, _⟩ => ⟨S4096x5632, .bf16⟩
  | .hbm, ⟨6, _⟩ => ⟨S4096x5504, .bf16⟩
  | .hbm, ⟨7, _⟩ => ⟨S_, .i32⟩
  | .hbm, ⟨8, _⟩ => ⟨S_, .bf16⟩
  | .hbm, ⟨9, _⟩ => ⟨S4096x5632, .bf16⟩
  | .hbm, ⟨10, _⟩ => ⟨S4096x11264, .bf16⟩
  | .hbm, ⟨11, _⟩ => ⟨S2048x11264, .bf16⟩
  | .hbm, ⟨12, _⟩ => ⟨S2048x5504, .bf16⟩
  | .hbm, ⟨13, _⟩ => ⟨S2048x5504, .bf16⟩
  | .hbm, ⟨14, _⟩ => ⟨S2048x11008, .bf16⟩
  | .local _ .vmem, ⟨0, _⟩ => ⟨S512x1024, .bf16⟩
  | .local _ .vmem, ⟨1, _⟩ => ⟨S512x1024, .bf16⟩
  | .local _ .vmem, ⟨2, _⟩ => ⟨S512x1408, .bf16⟩
  | .local _ .vmem, ⟨3, _⟩ => ⟨S512x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_call1_v0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 8], ![false, false, false]⟩

def k0_cond2 (i : grid0.Coords) : BitVec 1 :=
  let arg2 : BitVec 32 := BitVec.ofNat 32 (i 2).val
  let c7_i32 : BitVec 32 := 7#32
  let v12 : BitVec 1 := Scalar.cmpi .eq arg2 c7_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefDwUpIdeal.lean ====
abbrev S4096x2048 : Shape := ⟨2, ![4096, 2048]⟩
abbrev S4096x11008 : Shape := ⟨2, ![4096, 11008]⟩
abbrev S_ : Shape := ⟨0, ![]⟩
abbrev S2048x11008 : Shape := ⟨2, ![2048, 11008]⟩
abbrev S11008x2048 : Shape := ⟨2, ![11008, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x11008, .bf16⟩
  | .hbm, ⟨2, _⟩ => ⟨S4096x2048, .f32⟩
  | .hbm, ⟨3, _⟩ => ⟨S4096x11008, .f32⟩
  | .hbm, ⟨4, _⟩ => ⟨S_, .f32⟩
  | .hbm, ⟨5, _⟩ => ⟨S2048x11008, .f32⟩
  | .hbm, ⟨6, _⟩ => ⟨S4096x11008, .f32⟩
  | .hbm, ⟨7, _⟩ => ⟨S11008x2048, .f32⟩
  | .hbm, ⟨8, _⟩ => ⟨S2048x11008, .f32⟩
  | .hbm, ⟨9, _⟩ => ⟨S2048x11008, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DxUp.lean ====
abbrev S4096x11008 : Shape := ⟨2, ![4096, 11008]⟩
abbrev S2048x11008 : Shape := ⟨2, ![2048, 11008]⟩
abbrev S4096x2048 : Shape := ⟨2, ![4096, 2048]⟩
abbrev S4096x5504 : Shape := ⟨2, ![4096, 5504]⟩
abbrev S_ : Shape := ⟨0, ![]⟩
abbrev S4096x5632 : Shape := ⟨2, ![4096, 5632]⟩
abbrev S4096x11264 : Shape := ⟨2, ![4096, 11264]⟩
abbrev S2048x5504 : Shape := ⟨2, ![2048, 5504]⟩
abbrev S2048x5632 : Shape := ⟨2, ![2048, 5632]⟩
abbrev S2048x11264 : Shape := ⟨2, ![2048, 11264]⟩
abbrev S1024x512 : Shape := ⟨2, ![1024, 512]⟩
abbrev S1024x1024 : Shape := ⟨2, ![1024, 1024]⟩

abbrev nBuf : Space → Nat
  | .hbm => 22
  | .vmem => 9
  | .smem => 0
  | _ => 0

abbrev bufTy : (tb : Table) → Fin (tcTables nBuf tb) → BufTy
  | .hbm, ⟨0, _⟩ => ⟨S4096x11008, .bf16⟩
  | .hbm, ⟨1, _⟩ => ⟨S2048x11008, .bf16⟩
  | .hbm, ⟨2, _⟩ => ⟨S4096x2048, .f32⟩
  | .hbm, ⟨3, _⟩ => ⟨S4096x5504, .bf16⟩
  | .hbm, ⟨4, _⟩ => ⟨S_, .i32⟩
  | .hbm, ⟨5, _⟩ => ⟨S_, .bf16⟩
  | .hbm, ⟨6, _⟩ => ⟨S4096x5632, .bf16⟩
  | .hbm, ⟨7, _⟩ => ⟨S4096x5504, .bf16⟩
  | .hbm, ⟨8, _⟩ => ⟨S_, .i32⟩
  | .hbm, ⟨9, _⟩ => ⟨S_, .bf16⟩
  | .hbm, ⟨10, _⟩ => ⟨S4096x5632, .bf16⟩
  | .hbm, ⟨11, _⟩ => ⟨S4096x11264, .bf16⟩
  | .hbm, ⟨12, _⟩ => ⟨S2048x5504, .bf16⟩
  | .hbm, ⟨13, _⟩ => ⟨S_, .i32⟩
  | .hbm, ⟨14, _⟩ => ⟨S_, .bf16⟩
  | .hbm, ⟨15, _⟩ => ⟨S2048x5632, .bf16⟩
  | .hbm, ⟨16, _⟩ => ⟨S2048x5504, .bf16⟩
  | .hbm, ⟨17, _⟩ => ⟨S_, .i32⟩
  | .hbm, ⟨18, _⟩ => ⟨S_, .bf16⟩
  | .hbm, ⟨19, _⟩ => ⟨S2048x5632, .bf16⟩
  | .hbm, ⟨20, _⟩ => ⟨S2048x11264, .bf16⟩
  | .hbm, ⟨21, _⟩ => ⟨S4096x2048, .f32⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x11008, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_call1_v0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c_1 : Ref sig .tc := ⟨.hbm, 13, rfl⟩
abbrev main_call2_v0 : Ref sig .tc := ⟨.hbm, 14, rfl⟩
abbrev main_v6 : Ref sig .tc := ⟨.hbm, 15, rfl⟩
abbrev main_v7 : Ref sig .tc := ⟨.hbm, 16, rfl⟩
abbrev main_c_2 : Ref sig .tc := ⟨.hbm, 17, rfl⟩
abbrev main_call3_v0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 22], ![false, false, false]⟩

def k0_cond2 (i : grid0.Coords) : BitVec 1 :=
  let arg2 : BitVec 32 := BitVec.ofNat 32 (i 2).val
  let c21_i32 : BitVec 32 := 21#32
  let v13 : BitVec 1 := Scalar.cmpi .eq arg2 c21_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== RefDxUpIdeal.lean ====
abbrev S4096x11008 : Shape := ⟨2, ![4096, 11008]⟩
abbrev S2048x11008 : Shape := ⟨2, ![2048, 11008]⟩
abbrev S4096x2048 : Shape := ⟨2, ![4096, 2048]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S4096x11008, .bf16⟩
  | .hbm, ⟨1, _⟩ => ⟨S2048x11008, .bf16⟩
  | .hbm, ⟨2, _⟩ => ⟨S4096x2048, .f32⟩
  | .hbm, ⟨3, _⟩ => ⟨S4096x11008, .f32⟩
  | .hbm, ⟨4, _⟩ => ⟨S2048x11008, .f32⟩
  | .hbm, ⟨5, _⟩ => ⟨S_, .f32⟩
  | .hbm, ⟨6, _⟩ => ⟨S4096x2048, .f32⟩
  | .hbm, ⟨7, _⟩ => ⟨S4096x11008, .f32⟩
  | .hbm, ⟨8, _⟩ => ⟨S_, .f32⟩
  | .hbm, ⟨9, _⟩ => ⟨S4096x2048, .f32⟩
  | .hbm, ⟨10, _⟩ => ⟨S4096x2048, .f32⟩
  | .hbm, ⟨11, _⟩ => ⟨S_, .f32⟩
  | .hbm, ⟨12, _⟩ => ⟨S4096x2048, .f32⟩
  | .hbm, ⟨13, _⟩ => ⟨S4096x2048, .f32⟩
  | .hbm, ⟨14, _⟩ => ⟨S4096x2048, .f32⟩
  | .hbm, ⟨15, _⟩ => ⟨S4096x2048, .f32⟩
  | _, _ => ⟨S4096x11008, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩

abbrev nD : Nat := 1
abbrev τ : Topo := Topo.v7x

variable {F : FTy → Type} [FloatOps F]
-- ==== DwOut.lean ====
abbrev S4096x2048 : Shape := ⟨2, ![4096, 2048]⟩
abbrev S2048x2048 : Shape := ⟨2, ![2048, 2048]⟩
abbrev S512x1024 : Shape := ⟨2, ![512, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S2048x2048, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefDwOutIdeal.lean ====
abbrev S4096x2048 : Shape := ⟨2, ![4096, 2048]⟩
abbrev S_ : Shape := ⟨0, ![]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S4096x2048, .f32⟩
  | .hbm, ⟨3, _⟩ => ⟨S4096x2048, .f32⟩
  | .hbm, ⟨4, _⟩ => ⟨S_, .f32⟩
  | .hbm, ⟨5, _⟩ => ⟨S2048x2048, .f32⟩
  | .hbm, ⟨6, _⟩ => ⟨S4096x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Dmerged.lean ====
abbrev S4096x2048 : Shape := ⟨2, ![4096, 2048]⟩
abbrev S2048x2048 : Shape := ⟨2, ![2048, 2048]⟩
abbrev S1024x512 : Shape := ⟨2, ![1024, 512]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefDmergedIdeal.lean ====
abbrev S4096x2048 : Shape := ⟨2, ![4096, 2048]⟩
abbrev S2048x2048 : Shape := ⟨2, ![2048, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S2048x2048, .f32⟩
  | .hbm, ⟨4, _⟩ => ⟨S_, .f32⟩
  | .hbm, ⟨5, _⟩ => ⟨S4096x2048, .f32⟩
  | .hbm, ⟨6, _⟩ => ⟨S4096x2048, .f32⟩
  | .hbm, ⟨7, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DwProj.lean ====
abbrev S4096x1024 : Shape := ⟨2, ![4096, 1024]⟩
abbrev S4096x2048 : Shape := ⟨2, ![4096, 2048]⟩
abbrev S1024x2048 : Shape := ⟨2, ![1024, 2048]⟩
abbrev S512x1024 : Shape := ⟨2, ![512, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x2048, .bf16⟩
  | .hbm, ⟨2, _⟩ => ⟨S1024x2048, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefDwProjIdeal.lean ====
abbrev S4096x1024 : Shape := ⟨2, ![4096, 1024]⟩
abbrev S4096x2048 : Shape := ⟨2, ![4096, 2048]⟩
abbrev S_ : Shape := ⟨0, ![]⟩
abbrev S1024x2048 : Shape := ⟨2, ![1024, 2048]⟩
abbrev S2048x1024 : Shape := ⟨2, ![2048, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x2048, .bf16⟩
  | .hbm, ⟨2, _⟩ => ⟨S4096x1024, .f32⟩
  | .hbm, ⟨3, _⟩ => ⟨S4096x2048, .f32⟩
  | .hbm, ⟨4, _⟩ => ⟨S_, .f32⟩
  | .hbm, ⟨5, _⟩ => ⟨S1024x2048, .f32⟩
  | .hbm, ⟨6, _⟩ => ⟨S4096x2048, .f32⟩
  | .hbm, ⟨7, _⟩ => ⟨S2048x1024, .f32⟩
  | .hbm, ⟨8, _⟩ => ⟨S1024x2048, .f32⟩
  | .hbm, ⟨9, _⟩ => ⟨S1024x2048, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DyProj.lean ====
abbrev S4096x2048 : Shape := ⟨2, ![4096, 2048]⟩
abbrev S1024x2048 : Shape := ⟨2, ![1024, 2048]⟩
abbrev S4096x1024 : Shape := ⟨2, ![4096, 1024]⟩
abbrev S1024x512 : Shape := ⟨2, ![1024, 512]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S1024x2048, .bf16⟩
  | .hbm, ⟨2, _⟩ => ⟨S4096x1024, .f32⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefDyProjIdeal.lean ====
abbrev S4096x2048 : Shape := ⟨2, ![4096, 2048]⟩
abbrev S1024x2048 : Shape := ⟨2, ![1024, 2048]⟩
abbrev S_ : Shape := ⟨0, ![]⟩
abbrev S4096x1024 : Shape := ⟨2, ![4096, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S1024x2048, .bf16⟩
  | .hbm, ⟨2, _⟩ => ⟨S4096x2048, .f32⟩
  | .hbm, ⟨3, _⟩ => ⟨S1024x2048, .f32⟩
  | .hbm, ⟨4, _⟩ => ⟨S_, .f32⟩
  | .hbm, ⟨5, _⟩ => ⟨S4096x1024, .f32⟩
  | .hbm, ⟨6, _⟩ => ⟨S4096x2048, .f32⟩
  | .hbm, ⟨7, _⟩ => ⟨S4096x1024, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DyProjB.lean ====
abbrev S4096x2048 : Shape := ⟨2, ![4096, 2048]⟩
abbrev S1024x2048 : Shape := ⟨2, ![1024, 2048]⟩
abbrev S4096x1024 : Shape := ⟨2, ![4096, 1024]⟩
abbrev S1024x512 : Shape := ⟨2, ![1024, 512]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S1024x2048, .bf16⟩
  | .hbm, ⟨2, _⟩ => ⟨S4096x1024, .bf16⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefDyProjBIdeal.lean ====
abbrev S4096x2048 : Shape := ⟨2, ![4096, 2048]⟩
abbrev S1024x2048 : Shape := ⟨2, ![1024, 2048]⟩
abbrev S_ : Shape := ⟨0, ![]⟩
abbrev S4096x1024 : Shape := ⟨2, ![4096, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S1024x2048, .bf16⟩
  | .hbm, ⟨2, _⟩ => ⟨S4096x2048, .f32⟩
  | .hbm, ⟨3, _⟩ => ⟨S1024x2048, .f32⟩
  | .hbm, ⟨4, _⟩ => ⟨S_, .f32⟩
  | .hbm, ⟨5, _⟩ => ⟨S4096x1024, .f32⟩
  | .hbm, ⟨6, _⟩ => ⟨S4096x2048, .f32⟩
  | .hbm, ⟨7, _⟩ => ⟨S4096x1024, .f32⟩
  | .hbm, ⟨8, _⟩ => ⟨S4096x1024, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DwIn.lean ====
abbrev S4096x2048 : Shape := ⟨2, ![4096, 2048]⟩
abbrev S4096x15384 : Shape := ⟨2, ![4096, 15384]⟩
abbrev S4096x8 : Shape := ⟨2, ![4096, 8]⟩
abbrev S4096x16 : Shape := ⟨2, ![4096, 16]⟩
abbrev S4096x24 : Shape := ⟨2, ![4096, 24]⟩
abbrev S4096x3072 : Shape := ⟨2, ![4096, 3072]⟩
abbrev S4096x5120 : Shape := ⟨2, ![4096, 5120]⟩
abbrev S4096x7168 : Shape := ⟨2, ![4096, 7168]⟩
abbrev S_ : Shape := ⟨0, ![]⟩
abbrev S4096x128 : Shape := ⟨2, ![4096, 128]⟩
abbrev S4096x15488 : Shape := ⟨2, ![4096, 15488]⟩
abbrev S2048x15488 : Shape := ⟨2, ![2048, 15488]⟩
abbrev S512x1024 : Shape := ⟨2, ![512, 1024]⟩
abbrev S512x1408 : Shape := ⟨2, ![512, 1408]⟩
abbrev S1024x1408 : Shape := ⟨2, ![1024, 1408]⟩
abbrev S2048x3072 : Shape := ⟨2, ![2048, 3072]⟩
abbrev S2048x8 : Shape := ⟨2, ![2048, 8]⟩
abbrev S2048x5120 : Shape := ⟨2, ![2048, 5120]⟩
abbrev S2048x16 : Shape := ⟨2, ![2048, 16]⟩
abbrev S2048x7168 : Shape := ⟨2, ![2048, 7168]⟩
abbrev S2048x15384 : Shape := ⟨2, ![2048, 15384]⟩

abbrev nBuf : Space → Nat
  | .hbm => 19
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x15384, .bf16⟩
  | .hbm, ⟨2, _⟩ => ⟨S4096x8, .bf16⟩
  | .hbm, ⟨3, _⟩ => ⟨S4096x16, .bf16⟩
  | .hbm, ⟨4, _⟩ => ⟨S4096x24, .bf16⟩
  | .hbm, ⟨5, _⟩ => ⟨S4096x3072, .bf16⟩
  | .hbm, ⟨6, _⟩ => ⟨S4096x5120, .bf16⟩
  | .hbm, ⟨7, _⟩ => ⟨S4096x7168, .bf16⟩
  | .hbm, ⟨8, _⟩ => ⟨S_, .i32⟩
  | .hbm, ⟨9, _⟩ => ⟨S_, .bf16⟩
  | .hbm, ⟨10, _⟩ => ⟨S4096x128, .bf16⟩
  | .hbm, ⟨11, _⟩ => ⟨S4096x15488, .bf16⟩
  | .hbm, ⟨12, _⟩ => ⟨S2048x15488, .bf16⟩
  | .hbm, ⟨13, _⟩ => ⟨S2048x3072, .bf16⟩
  | .hbm, ⟨14, _⟩ => ⟨S2048x8, .bf16⟩
  | .hbm, ⟨15, _⟩ => ⟨S2048x5120, .bf16⟩
  | .hbm, ⟨16, _⟩ => ⟨S2048x16, .bf16⟩
  | .hbm, ⟨17, _⟩ => ⟨S2048x7168, .bf16⟩
  | .hbm, ⟨18, _⟩ => ⟨S2048x15384, .bf16⟩
  | .local _ .vmem, ⟨0, _⟩ => ⟨S512x1024, .bf16⟩
  | .local _ .vmem, ⟨1, _⟩ => ⟨S512x1024, .bf16⟩
  | .local _ .vmem, ⟨2, _⟩ => ⟨S512x1408, .bf16⟩
  | .local _ .vmem, ⟨3, _⟩ => ⟨S512x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_c : Ref sig .tc := ⟨.hbm, 8, rfl⟩
abbrev main_call0_v0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 11, 8], ![false, false, false]⟩

def k0_cond2 (i : grid0.Coords) : BitVec 1 :=
  let arg2 : BitVec 32 := BitVec.ofNat 32 (i 2).val
  let c7_i32 : BitVec 32 := 7#32
  let v12 : BitVec 1 := Scalar.cmpi .eq arg2 c7_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefDwInIdeal.lean ====
abbrev S4096x2048 : Shape := ⟨2, ![4096, 2048]⟩
abbrev S4096x15384 : Shape := ⟨2, ![4096, 15384]⟩
abbrev S_ : Shape := ⟨0, ![]⟩
abbrev S2048x15384 : Shape := ⟨2, ![2048, 15384]⟩
abbrev S15384x2048 : Shape := ⟨2, ![15384, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x15384, .bf16⟩
  | .hbm, ⟨2, _⟩ => ⟨S4096x2048, .f32⟩
  | .hbm, ⟨3, _⟩ => ⟨S4096x15384, .f32⟩
  | .hbm, ⟨4, _⟩ => ⟨S_, .f32⟩
  | .hbm, ⟨5, _⟩ => ⟨S2048x15384, .f32⟩
  | .hbm, ⟨6, _⟩ => ⟨S4096x15384, .f32⟩
  | .hbm, ⟨7, _⟩ => ⟨S15384x2048, .f32⟩
  | .hbm, ⟨8, _⟩ => ⟨S2048x15384, .f32⟩
  | .hbm, ⟨9, _⟩ => ⟨S2048x15384, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DxIn.lean ====
abbrev S4096x15384 : Shape := ⟨2, ![4096, 15384]⟩
abbrev S2048x15384 : Shape := ⟨2, ![2048, 15384]⟩
abbrev S4096x2048 : Shape := ⟨2, ![4096, 2048]⟩
abbrev S4096x8 : Shape := ⟨2, ![4096, 8]⟩
abbrev S4096x16 : Shape := ⟨2, ![4096, 16]⟩
abbrev S4096x24 : Shape := ⟨2, ![4096, 24]⟩
abbrev S4096x3072 : Shape := ⟨2, ![4096, 3072]⟩
abbrev S4096x5120 : Shape := ⟨2, ![4096, 5120]⟩
abbrev S4096x7168 : Shape := ⟨2, ![4096, 7168]⟩
abbrev S_ : Shape := ⟨0, ![]⟩
abbrev S4096x128 : Shape := ⟨2, ![4096, 128]⟩
abbrev S4096x15488 : Shape := ⟨2, ![4096, 15488]⟩
abbrev S2048x8 : Shape := ⟨2, ![2048, 8]⟩
abbrev S2048x16 : Shape := ⟨2, ![2048, 16]⟩
abbrev S2048x24 : Shape := ⟨2, ![2048, 24]⟩
abbrev S2048x3072 : Shape := ⟨2, ![2048, 3072]⟩
abbrev S2048x5120 : Shape := ⟨2, ![2048, 5120]⟩
abbrev S2048x7168 : Shape := ⟨2, ![2048, 7168]⟩
abbrev S2048x128 : Shape := ⟨2, ![2048, 128]⟩
abbrev S2048x15488 : Shape := ⟨2, ![2048, 15488]⟩
abbrev S1024x1408 : Shape := ⟨2, ![1024, 1408]⟩
abbrev S1024x1024 : Shape := ⟨2, ![1024, 1024]⟩

abbrev nBuf : Space → Nat
  | .hbm => 24
  | .vmem => 9
  | .smem => 0
  | _ => 0

abbrev bufTy : (tb : Table) → Fin (tcTables nBuf tb) → BufTy
  | .hbm, ⟨0, _⟩ => ⟨S4096x15384, .bf16⟩
  | .hbm, ⟨1, _⟩ => ⟨S2048x15384, .bf16⟩
  | .hbm, ⟨2, _⟩ => ⟨S4096x2048, .f32⟩
  | .hbm, ⟨3, _⟩ => ⟨S4096x8, .bf16⟩
  | .hbm, ⟨4, _⟩ => ⟨S4096x16, .bf16⟩
  | .hbm, ⟨5, _⟩ => ⟨S4096x24, .bf16⟩
  | .hbm, ⟨6, _⟩ => ⟨S4096x3072, .bf16⟩
  | .hbm, ⟨7, _⟩ => ⟨S4096x5120, .bf16⟩
  | .hbm, ⟨8, _⟩ => ⟨S4096x7168, .bf16⟩
  | .hbm, ⟨9, _⟩ => ⟨S_, .i32⟩
  | .hbm, ⟨10, _⟩ => ⟨S_, .bf16⟩
  | .hbm, ⟨11, _⟩ => ⟨S4096x128, .bf16⟩
  | .hbm, ⟨12, _⟩ => ⟨S4096x15488, .bf16⟩
  | .hbm, ⟨13, _⟩ => ⟨S2048x8, .bf16⟩
  | .hbm, ⟨14, _⟩ => ⟨S2048x16, .bf16⟩
  | .hbm, ⟨15, _⟩ => ⟨S2048x24, .bf16⟩
  | .hbm, ⟨16, _⟩ => ⟨S2048x3072, .bf16⟩
  | .hbm, ⟨17, _⟩ => ⟨S2048x5120, .bf16⟩
  | .hbm, ⟨18, _⟩ => ⟨S2048x7168, .bf16⟩
  | .hbm, ⟨19, _⟩ => ⟨S_, .i32⟩
  | .hbm, ⟨20, _⟩ => ⟨S_, .bf16⟩
  | .hbm, ⟨21, _⟩ => ⟨S2048x128, .bf16⟩
  | .hbm, ⟨22, _⟩ => ⟨S2048x15488, .bf16⟩
  | .hbm, ⟨23, _⟩ => ⟨S4096x2048, .f32⟩
  | .local _ .vmem, ⟨0, _⟩ => ⟨S1024x1408, .bf16⟩
  | .local _ .vmem, ⟨1, _⟩ => ⟨S1024x1408, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x15384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c : Ref sig .tc := ⟨.hbm, 9, rfl⟩
abbrev main_call0_v0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_c_0 : Ref sig .tc := ⟨.hbm, 19, rfl⟩
abbrev main_call1_v0 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 11], ![false, false, false]⟩

def k0_cond2 (i : grid0.Coords) : BitVec 1 :=
  let arg2 : BitVec 32 := BitVec.ofNat 32 (i 2).val
  let c10_i32 : BitVec 32 := 10#32
  let v13 : BitVec 1 := Scalar.cmpi .eq arg2 c10_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== RefDxInIdeal.lean ====
abbrev S4096x15384 : Shape := ⟨2, ![4096, 15384]⟩
abbrev S2048x15384 : Shape := ⟨2, ![2048, 15384]⟩
abbrev S4096x2048 : Shape := ⟨2, ![4096, 2048]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S4096x15384, .bf16⟩
  | .hbm, ⟨1, _⟩ => ⟨S2048x15384, .bf16⟩
  | .hbm, ⟨2, _⟩ => ⟨S4096x2048, .f32⟩
  | .hbm, ⟨3, _⟩ => ⟨S4096x15384, .f32⟩
  | .hbm, ⟨4, _⟩ => ⟨S2048x15384, .f32⟩
  | .hbm, ⟨5, _⟩ => ⟨S_, .f32⟩
  | .hbm, ⟨6, _⟩ => ⟨S4096x2048, .f32⟩
  | .hbm, ⟨7, _⟩ => ⟨S4096x15384, .f32⟩
  | .hbm, ⟨8, _⟩ => ⟨S_, .f32⟩
  | .hbm, ⟨9, _⟩ => ⟨S4096x2048, .f32⟩
  | .hbm, ⟨10, _⟩ => ⟨S4096x2048, .f32⟩
  | .hbm, ⟨11, _⟩ => ⟨S_, .f32⟩
  | .hbm, ⟨12, _⟩ => ⟨S4096x2048, .f32⟩
  | .hbm, ⟨13, _⟩ => ⟨S4096x2048, .f32⟩
  | .hbm, ⟨14, _⟩ => ⟨S4096x2048, .f32⟩
  | .hbm, ⟨15, _⟩ => ⟨S4096x2048, .f32⟩
  | _, _ => ⟨S4096x15384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩

abbrev nD : Nat := 1
abbrev τ : Topo := Topo.v7x

variable {F : FTy → Type} [FloatOps F]
-- ==== OutProj.lean ====
abbrev S4096x2048 : Shape := ⟨2, ![4096, 2048]⟩
abbrev S2048x2048 : Shape := ⟨2, ![2048, 2048]⟩
abbrev S1024x512 : Shape := ⟨2, ![1024, 512]⟩
abbrev S512x1024 : Shape := ⟨2, ![512, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .local _ .vmem, ⟨0, _⟩ => ⟨S1024x512, .bf16⟩
  | .local _ .vmem, ⟨1, _⟩ => ⟨S1024x512, .bf16⟩
  | .local _ .vmem, ⟨2, _⟩ => ⟨S512x1024, .bf16⟩
  | .local _ .vmem, ⟨3, _⟩ => ⟨S512x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefOutProjIdeal.lean ====
abbrev S4096x2048 : Shape := ⟨2, ![4096, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S2048x2048, .f32⟩
  | .hbm, ⟨4, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== UpGate.lean ====
abbrev S4096x2048 : Shape := ⟨2, ![4096, 2048]⟩
abbrev S2048x11008 : Shape := ⟨2, ![2048, 11008]⟩
abbrev S2048x5504 : Shape := ⟨2, ![2048, 5504]⟩
abbrev S_ : Shape := ⟨0, ![]⟩
abbrev S2048x5632 : Shape := ⟨2, ![2048, 5632]⟩
abbrev S2048x11264 : Shape := ⟨2, ![2048, 11264]⟩
abbrev S4096x5632 : Shape := ⟨2, ![4096, 5632]⟩
abbrev S1024x512 : Shape := ⟨2, ![1024, 512]⟩
abbrev S512x1408 : Shape := ⟨2, ![512, 1408]⟩
abbrev S1024x1408 : Shape := ⟨2, ![1024, 1408]⟩
abbrev S4096x5504 : Shape := ⟨2, ![4096, 5504]⟩

abbrev nBuf : Space → Nat
  | .hbm => 13
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S2048x11008, .bf16⟩
  | .hbm, ⟨2, _⟩ => ⟨S2048x5504, .bf16⟩
  | .hbm, ⟨3, _⟩ => ⟨S_, .i32⟩
  | .hbm, ⟨4, _⟩ => ⟨S_, .bf16⟩
  | .hbm, ⟨5, _⟩ => ⟨S2048x5632, .bf16⟩
  | .hbm, ⟨6, _⟩ => ⟨S2048x5504, .bf16⟩
  | .hbm, ⟨7, _⟩ => ⟨S_, .i32⟩
  | .hbm, ⟨8, _⟩ => ⟨S_, .bf16⟩
  | .hbm, ⟨9, _⟩ => ⟨S2048x5632, .bf16⟩
  | .hbm, ⟨10, _⟩ => ⟨S2048x11264, .bf16⟩
  | .hbm, ⟨11, _⟩ => ⟨S4096x5632, .f32⟩
  | .hbm, ⟨12, _⟩ => ⟨S4096x5504, .f32⟩
  | .local _ .vmem, ⟨0, _⟩ => ⟨S1024x512, .bf16⟩
  | .local _ .vmem, ⟨1, _⟩ => ⟨S1024x512, .bf16⟩
  | .local _ .vmem, ⟨2, _⟩ => ⟨S512x1408, .bf16⟩
  | .local _ .vmem, ⟨3, _⟩ => ⟨S512x1408, .bf16⟩
  | .local _ .vmem, ⟨4, _⟩ => ⟨S1024x1408, .f32⟩
  | .local _ .vmem, ⟨5, _⟩ => ⟨S1024x1408, .f32⟩
  | .local _ .vmem, ⟨6, _⟩ => ⟨S1024x1408, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_call1_v0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefUpGateIdeal.lean ====
abbrev S4096x2048 : Shape := ⟨2, ![4096, 2048]⟩
abbrev S2048x11008 : Shape := ⟨2, ![2048, 11008]⟩
abbrev S4096x11008 : Shape := ⟨2, ![4096, 11008]⟩
abbrev S4096x5504 : Shape := ⟨2, ![4096, 5504]⟩

abbrev nBuf : Space → Nat
  | .hbm => 6
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x11008, .bf16⟩
  | .hbm, ⟨2, _⟩ => ⟨S4096x2048, .f32⟩
  | .hbm, ⟨3, _⟩ => ⟨S2048x11008, .f32⟩
  | .hbm, ⟨4, _⟩ => ⟨S4096x11008, .f32⟩
  | .hbm, ⟨5, _⟩ => ⟨S4096x5504, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== UpVal.lean ====
abbrev S4096x2048 : Shape := ⟨2, ![4096, 2048]⟩
abbrev S2048x11008 : Shape := ⟨2, ![2048, 11008]⟩
abbrev S2048x5504 : Shape := ⟨2, ![2048, 5504]⟩
abbrev S_ : Shape := ⟨0, ![]⟩
abbrev S2048x5632 : Shape := ⟨2, ![2048, 5632]⟩
abbrev S2048x11264 : Shape := ⟨2, ![2048, 11264]⟩
abbrev S4096x5632 : Shape := ⟨2, ![4096, 5632]⟩
abbrev S1024x512 : Shape := ⟨2, ![1024, 512]⟩
abbrev S512x1408 : Shape := ⟨2, ![512, 1408]⟩
abbrev S1024x1408 : Shape := ⟨2, ![1024, 1408]⟩
abbrev S4096x5504 : Shape := ⟨2, ![4096, 5504]⟩

abbrev nBuf : Space → Nat
  | .hbm => 13
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S2048x11008, .bf16⟩
  | .hbm, ⟨2, _⟩ => ⟨S2048x5504, .bf16⟩
  | .hbm, ⟨3, _⟩ => ⟨S_, .i32⟩
  | .hbm, ⟨4, _⟩ => ⟨S_, .bf16⟩
  | .hbm, ⟨5, _⟩ => ⟨S2048x5632, .bf16⟩
  | .hbm, ⟨6, _⟩ => ⟨S2048x5504, .bf16⟩
  | .hbm, ⟨7, _⟩ => ⟨S_, .i32⟩
  | .hbm, ⟨8, _⟩ => ⟨S_, .bf16⟩
  | .hbm, ⟨9, _⟩ => ⟨S2048x5632, .bf16⟩
  | .hbm, ⟨10, _⟩ => ⟨S2048x11264, .bf16⟩
  | .hbm, ⟨11, _⟩ => ⟨S4096x5632, .f32⟩
  | .hbm, ⟨12, _⟩ => ⟨S4096x5504, .f32⟩
  | .local _ .vmem, ⟨0, _⟩ => ⟨S1024x512, .bf16⟩
  | .local _ .vmem, ⟨1, _⟩ => ⟨S1024x512, .bf16⟩
  | .local _ .vmem, ⟨2, _⟩ => ⟨S512x1408, .bf16⟩
  | .local _ .vmem, ⟨3, _⟩ => ⟨S512x1408, .bf16⟩
  | .local _ .vmem, ⟨4, _⟩ => ⟨S1024x1408, .f32⟩
  | .local _ .vmem, ⟨5, _⟩ => ⟨S1024x1408, .f32⟩
  | .local _ .vmem, ⟨6, _⟩ => ⟨S1024x1408, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_call1_v0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi arg1 c4_i32
  let c0_i32 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefUpValIdeal.lean ====
abbrev S4096x2048 : Shape := ⟨2, ![4096, 2048]⟩
abbrev S2048x11008 : Shape := ⟨2, ![2048, 11008]⟩
abbrev S4096x11008 : Shape := ⟨2, ![4096, 11008]⟩
abbrev S4096x5504 : Shape := ⟨2, ![4096, 5504]⟩

abbrev nBuf : Space → Nat
  | .hbm => 6
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x11008, .bf16⟩
  | .hbm, ⟨2, _⟩ => ⟨S4096x2048, .f32⟩
  | .hbm, ⟨3, _⟩ => ⟨S2048x11008, .f32⟩
  | .hbm, ⟨4, _⟩ => ⟨S4096x11008, .f32⟩
  | .hbm, ⟨5, _⟩ => ⟨S4096x5504, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Down.lean ====
abbrev S4096x5504 : Shape := ⟨2, ![4096, 5504]⟩
abbrev S5504x2048 : Shape := ⟨2, ![5504, 2048]⟩
abbrev S_ : Shape := ⟨0, ![]⟩
abbrev S4096x5632 : Shape := ⟨2, ![4096, 5632]⟩
abbrev S5632x2048 : Shape := ⟨2, ![5632, 2048]⟩
abbrev S4096x2048 : Shape := ⟨2, ![4096, 2048]⟩
abbrev S1024x512 : Shape := ⟨2, ![1024, 512]⟩
abbrev S512x1024 : Shape := ⟨2, ![512, 1024]⟩
abbrev S1024x1024 : Shape := ⟨2, ![1024, 1024]⟩

abbrev nBuf : Space → Nat
  | .hbm => 9
  | .vmem => 7
  | .smem => 0
  | _ => 0

abbrev bufTy : (tb : Table) → Fin (tcTables nBuf tb) → BufTy
  | .hbm, ⟨0, _⟩ => ⟨S4096x5504, .bf16⟩
  | .hbm, ⟨1, _⟩ => ⟨S5504x2048, .bf16⟩
  | .hbm, ⟨2, _⟩ => ⟨S_, .i32⟩
  | .hbm, ⟨3, _⟩ => ⟨S_, .bf16⟩
  | .hbm, ⟨4, _⟩ => ⟨S4096x5632, .bf16⟩
  | .hbm, ⟨5, _⟩ => ⟨S_, .i32⟩
  | .hbm, ⟨6, _⟩ => ⟨S_, .bf16⟩
  | .hbm, ⟨7, _⟩ => ⟨S5632x2048, .bf16⟩
  | .hbm, ⟨8, _⟩ => ⟨S4096x2048, .f32⟩
  | .local _ .vmem, ⟨0, _⟩ => ⟨S1024x512, .bf16⟩
  | .local _ .vmem, ⟨1, _⟩ => ⟨S1024x512, .bf16⟩
  | .local _ .vmem, ⟨2, _⟩ => ⟨S512x1024, .bf16⟩
  | .local _ .vmem, ⟨3, _⟩ => ⟨S512x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x5504, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_c_0 : Ref sig .tc := ⟨.hbm, 5, rfl⟩
abbrev main_call1_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 11], ![false, false, false]⟩

def k0_cond2 (i : grid0.Coords) : BitVec 1 :=
  let arg2 : BitVec 32 := BitVec.ofNat 32 (i 2).val
  let c10_i32 : BitVec 32 := 10#32
  let v13 : BitVec 1 := Scalar.cmpi .eq arg2 c10_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefDownIdeal.lean ====
abbrev S4096x5504 : Shape := ⟨2, ![4096, 5504]⟩
abbrev S5504x2048 : Shape := ⟨2, ![5504, 2048]⟩
abbrev S4096x2048 : Shape := ⟨2, ![4096, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4096x5504, .bf16⟩
  | .hbm, ⟨1, _⟩ => ⟨S5504x2048, .bf16⟩
  | .hbm, ⟨2, _⟩ => ⟨S4096x5504, .f32⟩
  | .hbm, ⟨3, _⟩ => ⟨S5504x2048, .f32⟩
  | .hbm, ⟨4, _⟩ => ⟨S4096x2048, .f32⟩
  | _, _ => ⟨S4096x5504, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Proof.Stages.lean ====
/- The steps of the forgetting attention and of its gradients as the host programs write them, each a function of the arrays
   before it, and each read at an index. -/
module

public import Idealize.ShloMosaic.Lib.Pointwise
public import Idealize.ShloMosaic.PureOps
public import Idealize.ShloMosaic.PureOps.Ideal

@[expose] public section

set_option maxRecDepth 16384

noncomputable section

namespace Cert.Attn

open Idealize.ShloMosaic Idealize.ShloMosaic.TcCoe Idealize.SL.Sem

abbrev S_ : Shape := ⟨0, ![]⟩
abbrev R : Shape := ⟨2, ![4096, 1024]⟩
abbrev R3 : Shape := ⟨3, ![4096, 8, 128]⟩
abbrev C : Shape := ⟨2, ![4096, 8]⟩
abbrev CT : Shape := ⟨2, ![8, 4096]⟩
abbrev C1 : Shape := ⟨3, ![8, 4096, 1]⟩
abbrev CR : Shape := ⟨3, ![8, 1, 4096]⟩
abbrev A : Shape := ⟨3, ![8, 4096, 4096]⟩
abbrev I1 : Shape := ⟨1, ![4096]⟩
abbrev IC : Shape := ⟨2, ![4096, 1]⟩
abbrev IR : Shape := ⟨2, ![1, 4096]⟩
abbrev II : Shape := ⟨2, ![4096, 4096]⟩
abbrev D3 : Shape := ⟨3, ![8, 128, 4096]⟩
abbrev Q3 : Shape := ⟨3, ![8, 4096, 128]⟩
abbrev T3 : Shape := ⟨3, ![64, 1, 512]⟩
abbrev P2 : Shape := ⟨2, ![4096, 128]⟩

/-- Heads of queries times heads of keys. -/
def dQK : DotDims R3 R3 A where
  lhsContracting := [2]
  rhsContracting := [2]
  lhsNonContracting := [0]
  rhsNonContracting := [0]
  lhsBatch := [1]
  rhsBatch := [1]
  wf := by decide

/-- Probabilities times values. -/
def dPV : DotDims R3 A D3 where
  lhsContracting := [0]
  rhsContracting := [2]
  lhsNonContracting := [2]
  rhsNonContracting := [1]
  lhsBatch := [1]
  rhsBatch := [0]
  wf := by decide

/-- The gradient of the result times the values. -/
def dGV : DotDims D3 R3 A where
  lhsContracting := [1]
  rhsContracting := [2]
  lhsNonContracting := [2]
  rhsNonContracting := [0]
  lhsBatch := [0]
  rhsBatch := [1]
  wf := by decide

/-- The gradient of the result times the probabilities. -/
def dGP : DotDims D3 A D3 where
  lhsContracting := [2]
  rhsContracting := [1]
  lhsNonContracting := [1]
  rhsNonContracting := [2]
  lhsBatch := [0]
  rhsBatch := [0]
  wf := by decide

/-- The gradient of the scores times the keys. -/
def dSK : DotDims A R3 Q3 where
  lhsContracting := [2]
  rhsContracting := [0]
  lhsNonContracting := [1]
  rhsNonContracting := [2]
  lhsBatch := [0]
  rhsBatch := [1]
  wf := by decide

/-- The transposed gradient of the scores times the queries. -/
def dSQ : DotDims A R3 Q3 where
  lhsContracting := [1]
  rhsContracting := [0]
  lhsNonContracting := [2]
  rhsNonContracting := [2]
  lhsBatch := [0]
  rhsBatch := [1]
  wf := by decide

/-- A matrix of heads, cut into heads. -/
def heads (x : FVec Ideal R .f32) : FVec Ideal R3 .f32 := shapeCast _ x (by decide)

/-- Where a key is not after the query. -/
def causal : IVec II 1 :=
  cmpi .sge (broadcastInDim II ![0, 1] (by decide) (broadcastInDim IC ![0] (by decide) (iotaInDim I1 32 0)))
    (broadcastInDim II ![0, 1] (by decide) (broadcastInDim IR ![1] (by decide) (iotaInDim I1 32 0)))

/-- The same for every head. -/
def causalA : IVec A 1 := broadcastInDim A ![1, 2] (by decide) causal

/-- The root of the depth of a head. -/
def root : FVec Ideal S_ .f32 := Host.sqrt (constant S_ .f32 0x43000000#32)

/-- The root at every score. -/
def rootA : FVec Ideal A .f32 := broadcastInDim A ![] (by decide) root

/-- The scores with the gates' terms. -/
def logits (q k : FVec Ideal R3 .f32) (cq ck : FVec Ideal C .f32) : FVec Ideal A .f32 :=
  subf (addf (Host.divf (Host.dotGeneral dQK none q k) rootA)
      (broadcastInDim A ![0, 1, 2] (by decide) (broadcastInDim C1 ![0, 1] (by decide) (transpose CT [1, 0] cq (by decide)))))
    (broadcastInDim A ![0, 1, 2] (by decide) (broadcastInDim CR ![0, 2] (by decide) (transpose CT [1, 0] ck (by decide))))

/-- The scores, −∞ after the query. -/
def masked (s : FVec Ideal A .f32) : FVec Ideal A .f32 :=
  select causalA s (broadcastInDim A ![] (by decide) (constant S_ .f32 0xFF800000#32))

/-- The largest score of each row. -/
def top (x : FVec Ideal A .f32) : FVec Ideal CT .f32 :=
  Host.reduce FloatOps.maximumf x (constant S_ .f32 0xFF800000#32) (by decide : A.ReducesTo [2] CT) (by decide)

/-- A value of every row, at every score. -/
def rows (x : FVec Ideal CT .f32) : FVec Ideal A .f32 :=
  broadcastInDim A ![0, 1, 2] (by decide) (broadcastInDim C1 ![0, 1] (by decide) x)

/-- The softmax's maximum: never below −∞. -/
def top' (t : FVec Ideal CT .f32) : FVec Ideal CT .f32 :=
  maximumf (broadcastInDim CT ![] (by decide) (constant S_ .f32 0xFF800000#32)) t

/-- Exponentials of the scores less a value of the row. -/
def expo (x : FVec Ideal A .f32) (t : FVec Ideal CT .f32) : FVec Ideal A .f32 := Host.exp (subf x (rows t))

/-- Sums of rows. -/
def total (x : FVec Ideal A .f32) : FVec Ideal CT .f32 :=
  Host.reduceAdd x (constant S_ .f32 0x00000000#32) (by decide : A.ReducesTo [2] CT) (by decide)

/-- Rows divided by their sums. -/
def quot (x : FVec Ideal A .f32) (l : FVec Ideal CT .f32) : FVec Ideal A .f32 := Host.divf x (rows l)

/-- The attention of probabilities to values. -/
def attend (v : FVec Ideal R3 .f32) (p : FVec Ideal A .f32) : FVec Ideal R .f32 :=
  shapeCast _ (transpose R3 [2, 0, 1] (Host.dotGeneral dPV none v p) (by decide)) (by decide : R3.ShapeCasts R)

/-- The rows' logarithms of sums of exponentials. -/
def lse (t l : FVec Ideal CT .f32) : FVec Ideal CT .f32 := addf t (Host.log l)

/-- The same in 128 lanes. -/
def lanes (x : FVec Ideal CT .f32) : FVec Ideal Q3 .f32 :=
  broadcastInDim Q3 ![0, 1, 2] (by decide) (broadcastInDim C1 ![0, 1] (by decide) x)

/-- The gradient of the result, heads first. -/
def gT (g : FVec Ideal R3 .f32) : FVec Ideal D3 .f32 := transpose D3 [1, 2, 0] g (by decide)

/-- The gradient of the probabilities. -/
def dprob (g v : FVec Ideal R3 .f32) : FVec Ideal A .f32 := Host.dotGeneral dGV none (gT g) v

/-- What the normalisation subtracts in each row, negated. -/
def dsum (dp e : FVec Ideal A .f32) (l : FVec Ideal CT .f32) : FVec Ideal CT .f32 :=
  Host.reduceAdd (Host.negf (shapeCast C1 (total (mulf (mulf dp (broadcastInDim A ![0, 1, 2] (by decide)
      (Host.divf (broadcastInDim C1 ![] (by decide) (constant S_ .f32 0x3F800000#32))
        (mulf (broadcastInDim C1 ![0, 1] (by decide) l) (broadcastInDim C1 ![0, 1] (by decide) l))))) e)) (by decide)))
    (constant S_ .f32 0x00000000#32) (by decide : C1.ReducesTo [2] CT) (by decide)

/-- The gradient of the scores. -/
def dscore (dp e : FVec Ideal A .f32) (l d : FVec Ideal CT .f32) : FVec Ideal A .f32 :=
  select causalA (mulf (addf (quot dp l) (broadcastInDim A ![0, 1] (by decide) d)) e)
    (broadcastInDim A ![] (by decide) (constant S_ .f32 0x00000000#32))

/-- The gradient of the queries' gates, in 128 lanes. -/
def dgateQ (s : FVec Ideal A .f32) : FVec Ideal Q3 .f32 :=
  lanes (transpose CT [1, 0] (transpose C [1, 0] (Host.reduceAdd (shapeCast C1 (total s) (by decide))
    (constant S_ .f32 0x00000000#32) (by decide : C1.ReducesTo [2] CT) (by decide)) (by decide)) (by decide))

/-- Scores divided by the root. -/
def scaled (s : FVec Ideal A .f32) : FVec Ideal A .f32 := Host.divf s rootA

/-- The gradient of the queries. -/
def dquery (s : FVec Ideal A .f32) (k : FVec Ideal R3 .f32) : FVec Ideal R .f32 :=
  shapeCast _ (transpose R3 [1, 0, 2] (Host.dotGeneral dSK none s k) (by decide)) (by decide : R3.ShapeCasts R)

/-- The gradient of the keys. -/
def dkey (s : FVec Ideal A .f32) (q : FVec Ideal R3 .f32) : FVec Ideal R .f32 :=
  shapeCast _ (transpose R3 [1, 0, 2] (Host.dotGeneral dSQ none s q) (by decide)) (by decide : R3.ShapeCasts R)

/-- The gradient of the values. -/
def dvalue (g : FVec Ideal R3 .f32) (p : FVec Ideal A .f32) : FVec Ideal R .f32 :=
  shapeCast _ (transpose R3 [2, 0, 1] (Host.dotGeneral dGP none (gT g) p) (by decide)) (by decide : R3.ShapeCasts R)

/-- The gradient of the keys' gates, in tiles of 512. -/
def dgateK (s : FVec Ideal A .f32) : FVec Ideal T3 .f32 :=
  shapeCast _ (transpose CT [1, 0] (transpose C [1, 0] (Host.reduceAdd (shapeCast CR
    (Host.reduceAdd (Host.negf s) (constant S_ .f32 0x00000000#32) (by decide : A.ReducesTo [1] CT) (by decide)) (by decide))
    (constant S_ .f32 0x00000000#32) (by decide : CR.ReducesTo [1] CT) (by decide)) (by decide)) (by decide)) (by decide : CT.ShapeCasts T3)

/-- The gates padded to 128 lanes. -/
def padded (c : FVec Ideal C .f32) : FVec Ideal P2 .f32 :=
  pad P2 ![0, 0] ![0, 120] ![0, 0] c (sitofp .f32 (constantI S_ 32 0#32)) (by decide) (by decide)

/-- The gates in rows of tiles. -/
def tiled (p : FVec Ideal P2 .f32) : FVec Ideal T3 .f32 :=
  shapeCast _ (transpose CT [1, 0] (extractStridedSlice C ![0, 0] p (by decide)) (by decide)) (by decide : CT.ShapeCasts T3)

/-! ## The steps read at an index -/

theorem heads_at (q : FVec Ideal R .f32) (i : Fin 4096) (h : Fin 8) (d : Fin 128) :
    heads q (ix3 i h d) = q (ix2 i ⟨h.val * 128 + d.val, by omega⟩) := by
  pointwise [heads]

theorem masked_at (s : FVec Ideal A .f32) (h : Fin 8) (i j : Fin 4096) : masked s (ix3 h i j) =
    Scalar.select (IntOp.cmpi .sge (BitVec.ofNat 32 i.val) (BitVec.ofNat 32 j.val)) (s (ix3 h i j)) (Ideal.ofBits .f32 0xFF800000#32) := by
  pointwise [masked, causalA, causal]

theorem logits_at (q k : FVec Ideal R3 .f32) (cq ck : FVec Ideal C .f32) (h : Fin 8) (i j : Fin 4096) :
    logits q k cq ck (ix3 h i j) = Ideal.div (∑ x, q (ix3 i h x) * k (ix3 j h x)) (Ideal.sqrt (Ideal.ofBits .f32 0x43000000#32))
      + cq (ix2 i h) - ck (ix2 j h) := by
  pointwise [logits, rootA, root]

theorem top_at (x : FVec Ideal A .f32) (h : Fin 8) (i : Fin 4096) :
    top x (ix2 h i) = Finset.univ.fold max (Ideal.ofBits .f32 0xFF800000#32) fun j => x (ix3 h i j) := by
  pointwise [top]

theorem top'_at (t : FVec Ideal CT .f32) (h : Fin 8) (i : Fin 4096) :
    top' t (ix2 h i) = max (Ideal.ofBits .f32 0xFF800000#32) (t (ix2 h i)) := by
  pointwise [top']

theorem expo_at (x : FVec Ideal A .f32) (t : FVec Ideal CT .f32) (h : Fin 8) (i j : Fin 4096) :
    expo x t (ix3 h i j) = Ideal.exp (x (ix3 h i j) - t (ix2 h i)) := by
  pointwise [expo, rows]

theorem total_at (x : FVec Ideal A .f32) (h : Fin 8) (i : Fin 4096) : total x (ix2 h i) = ∑ j, x (ix3 h i j) := by
  pointwise [total]

theorem quot_at (x : FVec Ideal A .f32) (t : FVec Ideal CT .f32) (h : Fin 8) (i j : Fin 4096) :
    quot x t (ix3 h i j) = Ideal.div (x (ix3 h i j)) (t (ix2 h i)) := by
  pointwise [quot, rows]

theorem attend_at (v : FVec Ideal R3 .f32) (p : FVec Ideal A .f32) (i : Fin 4096) (l : Fin 1024) :
    attend v p (ix2 i l) = ∑ j, v (ix3 j ⟨l.val / 128, by omega⟩ ⟨l.val % 128, by omega⟩) * p (ix3 ⟨l.val / 128, by omega⟩ i j) := by
  pointwise [attend]

theorem lse_at (t l : FVec Ideal CT .f32) (h : Fin 8) (i : Fin 4096) :
    lse t l (ix2 h i) = t (ix2 h i) + Ideal.log (l (ix2 h i)) := by
  pointwise [lse]

theorem lanes_at (t : FVec Ideal CT .f32) (h : Fin 8) (i : Fin 4096) (l : Fin 128) :
    lanes t (ix3 h i l) = t (ix2 h i) := by
  pointwise [lanes]

theorem dprob_at (g v : FVec Ideal R3 .f32) (h : Fin 8) (i j : Fin 4096) :
    dprob g v (ix3 h i j) = ∑ d, g (ix3 i h d) * v (ix3 j h d) := by
  pointwise [dprob, gT]

theorem dsum_at (g e : FVec Ideal A .f32) (l : FVec Ideal CT .f32) (h : Fin 8) (i : Fin 4096) :
    dsum g e l (ix2 h i) = ∑ _x : Fin 1, -∑ j, g (ix3 h i j) * Ideal.div 1 (l (ix2 h i) * l (ix2 h i)) * e (ix3 h i j) := by
  pointwise [dsum, total]

theorem dscore_at (g e : FVec Ideal A .f32) (l d : FVec Ideal CT .f32) (h : Fin 8) (i j : Fin 4096) :
    dscore g e l d (ix3 h i j) = Scalar.select (IntOp.cmpi .sge (BitVec.ofNat 32 i.val) (BitVec.ofNat 32 j.val))
      ((Ideal.div (g (ix3 h i j)) (l (ix2 h i)) + d (ix2 h i)) * e (ix3 h i j)) 0 := by
  pointwise [dscore, causalA, causal, quot, rows]

theorem dgateQ_at (s : FVec Ideal A .f32) (h : Fin 8) (i : Fin 4096) (l : Fin 128) :
    dgateQ s (ix3 h i l) = ∑ _x : Fin 1, ∑ j, s (ix3 h i j) := by
  pointwise [dgateQ, lanes, total]

theorem scaled_at (s : FVec Ideal A .f32) (h : Fin 8) (i j : Fin 4096) :
    scaled s (ix3 h i j) = Ideal.div (s (ix3 h i j)) (Ideal.sqrt (Ideal.ofBits .f32 0x43000000#32)) := by
  pointwise [scaled, rootA, root]

theorem dquery_at (s : FVec Ideal A .f32) (k : FVec Ideal R3 .f32) (i : Fin 4096) (l : Fin 1024) :
    dquery s k (ix2 i l) = ∑ j, s (ix3 ⟨l.val / 128, by omega⟩ i j) * k (ix3 j ⟨l.val / 128, by omega⟩ ⟨l.val % 128, by omega⟩) := by
  pointwise [dquery]

theorem dkey_at (s : FVec Ideal A .f32) (q : FVec Ideal R3 .f32) (j : Fin 4096) (l : Fin 1024) :
    dkey s q (ix2 j l) = ∑ i, s (ix3 ⟨l.val / 128, by omega⟩ i j) * q (ix3 i ⟨l.val / 128, by omega⟩ ⟨l.val % 128, by omega⟩) := by
  pointwise [dkey]

theorem dvalue_at (g : FVec Ideal R3 .f32) (p : FVec Ideal A .f32) (j : Fin 4096) (l : Fin 1024) :
    dvalue g p (ix2 j l) = ∑ i, g (ix3 i ⟨l.val / 128, by omega⟩ ⟨l.val % 128, by omega⟩) * p (ix3 ⟨l.val / 128, by omega⟩ i j) := by
  pointwise [dvalue, gT]

theorem dgateK_at (s : FVec Ideal A .f32) (b : Fin 64) (l : Fin 512) :
    dgateK s (ix3 b 0 l) = ∑ _x : Fin 1, ∑ i, -s (ix3 ⟨b.val / 8, by omega⟩ i ⟨b.val % 8 * 512 + l.val, by omega⟩) := by
  pointwise [dgateK]

theorem padded_at (c : FVec Ideal C .f32) (i : Fin 4096) (l : Fin 128) :
    padded c (ix2 i l) = if h : l.val < 8 then c (ix2 i ⟨l.val, h⟩) else FloatOps.sitofp .f32 0#32 := by
  pointwise [padded]

theorem tiled_at (p : FVec Ideal P2 .f32) (b : Fin 64) (l : Fin 512) :
    tiled p (ix3 b 0 l) = p (ix2 ⟨b.val % 8 * 512 + l.val, by omega⟩ ⟨b.val / 8, by omega⟩) := by
  pointwise [tiled]

end Cert.Attn

end
-- ==== Proof.Math.lean ====
/- The forgetting attention and its gradients over the reals: the masked softmax of rows of scores, sums cut into tiles, and
   the running maximum and sums of a softmax taken tile by tile. -/
module

public import Idealize.ShloMosaic.Lib.Pointwise
public import Idealize.ShloMosaic.PureOps.Ideal

@[expose] public section

noncomputable section

namespace Cert.Attn

open Idealize.ShloMosaic

/-! ## One head's masked softmax -/

section Softmax

variable {n : ℕ} (S : Fin n → Fin n → ℝ)

/-- The largest score of row `i` among the keys not after it. -/
def mx (i : Fin n) : ℝ := (Finset.univ.filter (· ≤ i)).sup' ⟨i, by simp⟩ (S i)

/-- The exponential of a score less its row's largest. -/
def ex (i j : Fin n) : ℝ := if j ≤ i then Real.exp (S i j - mx S i) else 0

/-- A row's sum of exponentials. -/
def ls (i : Fin n) : ℝ := ∑ j, ex S i j

/-- The logarithm of a row's sum of exponentials. -/
def lg (i : Fin n) : ℝ := mx S i + Real.log (ls S i)

/-- The probabilities. -/
def pr (i j : Fin n) : ℝ := if j ≤ i then Real.exp (S i j - lg S i) else 0

theorem ex_nonneg (i j : Fin n) : 0 ≤ ex S i j := by
  unfold ex; split
  · exact (Real.exp_pos _).le
  · exact le_rfl

/-- The sum of exponentials is positive: the query's own key is in it. -/
theorem ls_pos (i : Fin n) : 0 < ls S i :=
  lt_of_lt_of_le (by simp [ex, Real.exp_pos] : 0 < ex S i i)
    (Finset.single_le_sum (fun j _ => ex_nonneg S i j) (Finset.mem_univ i))

/-- An exponential over its row's sum is a probability. -/
theorem ex_div (i j : Fin n) : ex S i j / ls S i = pr S i j := by
  unfold ex pr
  split
  · rw [lg, ← sub_sub, Real.exp_sub _ (Real.log _), Real.exp_log (ls_pos S i)]
  · exact zero_div _

/-- The maximum of a masked row of extended reals. -/
theorem fold_mx (i : Fin n) :
    (Finset.univ.fold max ⊥ fun j : Fin n => if j ≤ i then ((S i j : ℝ) : EReal) else ⊥) = ((mx S i : ℝ) : EReal) := by
  change Finset.univ.sup _ = _
  refine le_antisymm (Finset.sup_le fun j _ => ?_) ?_
  · split
    · rename_i h
      exact EReal.coe_le_coe_iff.2 (Finset.le_sup' (S i) (by simp [h]))
    · exact bot_le
  · obtain ⟨j, hj, he⟩ := Finset.exists_mem_eq_sup' (s := Finset.univ.filter (· ≤ i)) ⟨i, by simp⟩ (S i)
    unfold mx
    rw [he]
    have hj' : j ≤ i := by simpa using hj
    refine le_trans ?_ (Finset.le_sup (f := fun j : Fin n => if j ≤ i then ((S i j : ℝ) : EReal) else ⊥) (Finset.mem_univ j))
    simp [hj']

/-- The gradient of a row's scores, from the gradient `d` of its probabilities: what the quotient rule gives is the
    probabilities times `d` less its mean. -/
theorem softmax_grad (d : Fin n → ℝ) (i j : Fin n) :
    (d j / ls S i + -∑ x, d x * (1 / (ls S i * ls S i)) * ex S i x) * ex S i j
      = pr S i j * (d j - ∑ x, d x * pr S i x) := by
  have hl := (ls_pos S i).ne'
  have h1 : ∑ x, d x * (1 / (ls S i * ls S i)) * ex S i x = (∑ x, d x * pr S i x) / ls S i := by
    rw [Finset.sum_div]
    refine Finset.sum_congr rfl fun x _ => ?_
    rw [← ex_div]; field_simp
  rw [h1, ← ex_div S i j]
  field_simp
  ring

/-- For any `m`, it plus the logarithm of the sum of exponentials of the scores less it is the same number. -/
theorem lg_of (m : ℝ) (i : Fin n) :
    m + Real.log (∑ j, if j ≤ i then Real.exp (S i j - m) else 0) = lg S i := by
  have h : (∑ j, if j ≤ i then Real.exp (S i j - m) else 0) = Real.exp (mx S i - m) * ls S i := by
    rw [ls, Finset.mul_sum]
    refine Finset.sum_congr rfl fun j _ => ?_
    unfold ex
    split
    · rw [← Real.exp_add]; congr 1; ring
    · simp
  rw [h, Real.log_mul (Real.exp_pos _).ne' (ls_pos S i).ne', Real.log_exp, lg]; ring

/-- For any `m`, an exponential of a score less it over the sum of them is the probability. -/
theorem pr_of (m : ℝ) (i j : Fin n) :
    (if j ≤ i then Real.exp (S i j - m) else 0) / (∑ j, if j ≤ i then Real.exp (S i j - m) else 0) = pr S i j := by
  have h0 : (0 : ℝ) < ∑ j, if j ≤ i then Real.exp (S i j - m) else 0 :=
    lt_of_lt_of_le (by simp [Real.exp_pos] : (0 : ℝ) < if i ≤ i then Real.exp (S i i - m) else 0)
      (Finset.single_le_sum (f := fun j => if j ≤ i then Real.exp (S i j - m) else 0)
        (fun j _ => by split; exacts [(Real.exp_pos _).le, le_rfl]) (Finset.mem_univ i))
  unfold pr
  split
  · rw [← lg_of S m i, ← sub_sub, Real.exp_sub _ (Real.log _), Real.exp_log h0]
  · exact zero_div _

end Softmax

/-! ## Sums by tiles -/

/-- The sum of the first `m` values of `f`. -/
def pre {n : ℕ} (f : Fin n → ℝ) (m : ℕ) : ℝ := ∑ x ∈ Finset.range m, if h : x < n then f ⟨x, h⟩ else 0

theorem pre_zero {n : ℕ} (f : Fin n → ℝ) : pre f 0 = 0 := by simp [pre]

/-- One tile more. -/
theorem pre_add {n : ℕ} (f : Fin n → ℝ) (m t : ℕ) (h : m + t ≤ n) :
    pre f (m + t) = pre f m + ∑ x : Fin t, f ⟨m + x.val, by omega⟩ := by
  unfold pre
  rw [Finset.sum_range_add, Finset.sum_range (fun x => if h : m + x < n then f ⟨m + x, h⟩ else 0)]
  congr 1
  exact Finset.sum_congr rfl fun x _ => dif_pos (by omega)

/-- All of them. -/
theorem pre_all {n : ℕ} (f : Fin n → ℝ) : pre f n = ∑ x, f x := by
  unfold pre
  rw [Finset.sum_range]
  exact Finset.sum_congr rfl fun x _ => dif_pos x.2

/-- As many of them as are not zero. -/
theorem pre_eq {n : ℕ} (f : Fin n → ℝ) (m : ℕ) (hm : m ≤ n) (h : ∀ x : Fin n, m ≤ x.val → f x = 0) : pre f m = ∑ x, f x := by
  rw [← pre_all]
  unfold pre
  refine Finset.sum_subset (Finset.range_mono hm) fun x h1 h2 => ?_
  simp only [Finset.mem_range] at h1 h2
  rw [dif_pos h1, h _ (by simpa using h2)]

/-- Where the first `m` are zero. -/
theorem pre_none {n : ℕ} (f : Fin n → ℝ) (m : ℕ) (h : ∀ x : Fin n, x.val < m → f x = 0) : pre f m = 0 :=
  Finset.sum_eq_zero fun x hx => by
    split
    · rename_i h'; exact h ⟨x, h'⟩ (Finset.mem_range.1 hx)
    · rfl

/-- Functions equal on the first `m`. -/
theorem pre_congr {n : ℕ} (f g : Fin n → ℝ) (m : ℕ) (h : ∀ x : Fin n, x.val < m → f x = g x) : pre f m = pre g m :=
  Finset.sum_congr rfl fun x hx => by
    split
    · rename_i h'; exact h ⟨x, h'⟩ (Finset.mem_range.1 hx)
    · rfl

theorem pre_mul {n : ℕ} (a : ℝ) (f : Fin n → ℝ) (m : ℕ) : a * pre f m = pre (fun x => a * f x) m := by
  unfold pre
  rw [Finset.mul_sum]
  exact Finset.sum_congr rfl fun x _ => by split <;> simp

/-! ## Coercions -/

theorem coe_sum {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem coe_div {a b : ℝ} (h : b ≠ 0) : Ideal.div (a : EReal) (b : EReal) = ((a / b : ℝ) : EReal) := by
  rw [Ideal.div_coe h, ← EReal.coe_mul, mul_one_div]

/-! ## The attention of a layer -/

/-- Column `d` of head `h`. -/
def col (h : Fin 8) (d : Fin 128) : Fin 1024 := ⟨h.val * 128 + d.val, by omega⟩

/-- The head of a column. -/
def hd (l : Fin 1024) : Fin 8 := ⟨l.val / 128, by omega⟩

/-- A column's place in its head. -/
def ln (l : Fin 1024) : Fin 128 := ⟨l.val % 128, by omega⟩

theorem col_hd (l : Fin 1024) : col (hd l) (ln l) = l := by
  apply Fin.ext; simp only [col, hd, ln]; omega

section Layer

variable (q k v g : Fin 4096 → Fin 1024 → ℝ) (c : Fin 4096 → Fin 8 → ℝ)

/-- The scores of head `h`. -/
def sc (h : Fin 8) (i j : Fin 4096) : ℝ :=
  (∑ d : Fin 128, q i (col h d) * k j (col h d)) * (Real.sqrt 128)⁻¹ + c i h - c j h

/-- The attention's result. -/
def ou (i : Fin 4096) (l : Fin 1024) : ℝ := ∑ j, v j l * pr (sc q k c (hd l)) i j

/-- The gradient of head `h`'s probabilities. -/
def dp (h : Fin 8) (i j : Fin 4096) : ℝ := ∑ d : Fin 128, g i (col h d) * v j (col h d)

/-- The mean of a row's gradient. -/
def dd (h : Fin 8) (i : Fin 4096) : ℝ := ∑ j, dp v g h i j * pr (sc q k c h) i j

/-- The gradient of head `h`'s scores. -/
def ds (h : Fin 8) (i j : Fin 4096) : ℝ := pr (sc q k c h) i j * (dp v g h i j - dd q k v g c h i)

/-- The mean of a row's gradient is the product of the result and its gradient. -/
theorem dd_eq (h : Fin 8) (i : Fin 4096) :
    ∑ d : Fin 128, g i (col h d) * ou q k v c i (col h d) = dd q k v g c h i := by
  have e : ∀ d : Fin 128, hd (col h d) = h := fun d => by
    apply Fin.ext; simp only [col, hd]; omega
  simp only [ou, e, dd, dp, Finset.mul_sum, Finset.sum_mul]
  rw [Finset.sum_comm]
  exact Finset.sum_congr rfl fun j _ => Finset.sum_congr rfl fun d _ => by ring

/-- No gradient after the query. -/
theorem ds_after (h : Fin 8) (i j : Fin 4096) (hj : ¬ j ≤ i) : ds q k v g c h i j = 0 := by
  simp [ds, pr, hj]

end Layer

end Cert.Attn

end
-- ==== Proof.Consts.lean ====
/- The values of the constants the programs write, comparisons of positions, and what the preconditions say: every number of
   every array is a real number. -/
module

public import proofs.«01_k».proof.Proof.Gen.Pre_finite
public import Idealize.ShloMosaic.Lib.Pointwise
public import Idealize.ShloMosaic.Lib.WordCmp
public import Idealize.ShloMosaic.PureOps.Ideal

@[expose] public section

set_option maxRecDepth 16384

namespace Cert.Attn

open Idealize.ShloMosaic Idealize.ShloMosaic.TcCoe Idealize.SL.Sem

theorem ofBits_128 : Ideal.ofBits .f32 0x43000000#32 = ((128 : ℝ) : EReal) := by
  simp [Ideal.ofBits, Ideal.ieee, -EReal.coe_mul]; norm_num

theorem ofBits_bot : Ideal.ofBits .f32 0xFF800000#32 = ⊥ := by simp [Ideal.ofBits, Ideal.ieee]

theorem ofBits_top : Ideal.ofBits .f32 0x7F800000#32 = ⊤ := by simp [Ideal.ofBits, Ideal.ieee]

theorem sitofp_zero : FloatOps.sitofp (F := Ideal) .f32 (0#32) = (0 : EReal) :=
  (Ideal.scalar_sitofp_def (φ := .f32) (0#32)).trans (by simp)

/-- The root of 128 as the host computes it. -/
theorem root_128 : Ideal.sqrt (Ideal.ofBits .f32 0x43000000#32) = ((Real.sqrt 128 : ℝ) : EReal) := by
  rw [ofBits_128, Ideal.sqrt_coe, if_neg (by norm_num)]

theorem root_ne : Real.sqrt 128 ≠ 0 := (Real.sqrt_pos.2 (by norm_num)).ne'

/-- A choice by a comparison of two positions. -/
theorem sge {a b : ℕ} (ha : a < 4096) (hb : b < 4096) {α : Type} (x y : α) :
    Scalar.select (IntOp.cmpi .sge (BitVec.ofNat 32 a) (BitVec.ofNat 32 b)) x y = if b ≤ a then x else y := by
  rw [WordCmp.cmpi_sge_ofNat (by omega) (by omega), Scalar.select_ofBool]
  simp

/-- All of a conjunction that came out 1. -/
theorem fold_andi {ι : Type} [DecidableEq ι] (s : Finset ι) (f : ι → BitVec 1) (h : Finset.fold IntOp.andi (1#1) f s = 1#1) : ∀ i ∈ s, f i = 1#1 := by
  induction s using Finset.induction_on with
  | empty => simp
  | insert a s ha ih =>
    rw [Finset.fold_insert ha] at h
    obtain ⟨h1, h2⟩ := IntOp.andi_eq_one.1 h
    intro i hi
    rcases Finset.mem_insert.1 hi with rfl | hi
    exacts [h1, ih h2 i hi]

/-- A number below +∞ in absolute value is real. -/
theorem real_of (φ : FTy) (y : EReal) (h : BitVec.ofBool (decide (FloatOps.absf (F := Ideal) (φ := φ) y < Ideal.ofBits .f32 0x7F800000#32)) = 1#1) :
    ∃ r : ℝ, y = ↑r := by
  rw [ofBits_top] at h
  induction y using EReal.rec with
  | coe r => exact ⟨r, rfl⟩
  | bot => exfalso; revert h; simp [FloatOps.absf]
  | top => exfalso; revert h; simp [FloatOps.absf]

/-- An array all of whose absolute values are below +∞ is an array of reals. -/
theorem reals {a b : ℕ} (φ : FTy) (x : FVec Ideal ⟨2, ![a, b]⟩ φ)
    (h : Finset.fold IntOp.andi (1#1) (fun k : Fin a × Fin b =>
      BitVec.ofBool (decide (FloatOps.absf (F := Ideal) (φ := φ) (x (ix2 k.1 k.2)) < Ideal.ofBits .f32 0x7F800000#32))) Finset.univ = 1#1) :
    ∃ f : Fin a → Fin b → ℝ, ∀ i l, x (ix2 i l) = ((f i l : ℝ) : EReal) := by
  have h' : ∀ i l, ∃ r : ℝ, x (ix2 i l) = ↑r := fun i l => real_of φ _ (fold_andi _ _ h (i, l) (Finset.mem_univ _))
  choose f hf using h'
  exact ⟨f, hf⟩

/-- The backward calls' precondition gives reals for every array. -/
theorem finite {a0 a1 a2 a4 : FVec Ideal ⟨2, ![4096, 1024]⟩ .bf16} {a3 : FVec Ideal ⟨2, ![4096, 8]⟩ .f32}
    (h : Cert.Pre_finite.fn (F := Ideal) a0 a1 a2 a3 a4 = fun _ => 1#1) :
    ∃ (q k v : Fin 4096 → Fin 1024 → ℝ) (c : Fin 4096 → Fin 8 → ℝ) (g : Fin 4096 → Fin 1024 → ℝ),
      (∀ i l, a0 (ix2 i l) = ↑(q i l)) ∧ (∀ i l, a1 (ix2 i l) = ↑(k i l)) ∧ (∀ i l, a2 (ix2 i l) = ↑(v i l))
      ∧ (∀ i l, a3 (ix2 i l) = ↑(c i l)) ∧ (∀ i l, a4 (ix2 i l) = ↑(g i l)) := by
  have h0 := congrFun h (ix1 0)
  have h1 := congrFun h (ix1 1)
  have h2 := congrFun h (ix1 2)
  have h3 := congrFun h (ix1 3)
  have h4 := congrFun h (ix1 4)
  unfold Cert.Pre_finite.fn Cert.Pre_finite.fn_part1 at h0 h1 h2 h3 h4
  pointwise at h0
  pointwise at h1
  pointwise at h2
  pointwise at h3
  pointwise at h4
  obtain ⟨q, hq⟩ := reals .bf16 a0 h0
  obtain ⟨k, hk⟩ := reals .bf16 a1 h1
  obtain ⟨v, hv⟩ := reals .bf16 a2 h2
  obtain ⟨c, hc⟩ := reals .f32 a3 h3
  obtain ⟨g, hg⟩ := reals .bf16 a4 h4
  exact ⟨q, k, v, c, g, hq, hk, hv, hc, hg⟩

end Cert.Attn

end
-- ==== Proof.Reals.lean ====
/- The steps of the host programs on arrays of real numbers: each holds the number the mathematics gives. -/
module

public import proofs.«01_k».proof.Proof.Stages
public import proofs.«01_k».proof.Proof.Math
public import proofs.«01_k».proof.Proof.Consts

@[expose] public section

set_option maxRecDepth 16384

noncomputable section

namespace Cert.Attn

open Idealize.ShloMosaic Idealize.ShloMosaic.TcCoe Idealize.SL.Sem

/-- An array of heads holds a matrix of reals. -/
def IsH (x : FVec Ideal R3 .f32) (f : Fin 4096 → Fin 1024 → ℝ) : Prop := ∀ i h d, x (ix3 i h d) = ((f i (col h d) : ℝ) : EReal)

/-- A matrix holds reals. -/
def IsM {a b : ℕ} {φ : FTy} (x : FVec Ideal ⟨2, ![a, b]⟩ φ) (f : Fin a → Fin b → ℝ) : Prop := ∀ i l, x (ix2 i l) = ((f i l : ℝ) : EReal)

/-- An array of three axes holds reals. -/
def IsA {a b d : ℕ} {φ : FTy} (x : FVec Ideal ⟨3, ![a, b, d]⟩ φ) (f : Fin a → Fin b → Fin d → ℝ) : Prop :=
  ∀ h i l, x (ix3 h i l) = ((f h i l : ℝ) : EReal)

/-- Masked scores: real up to the query, −∞ after it. -/
def IsX (x : FVec Ideal A .f32) (S : Fin 8 → Fin 4096 → Fin 4096 → ℝ) : Prop :=
  ∀ h i j, x (ix3 h i j) = if j ≤ i then ((S h i j : ℝ) : EReal) else ⊥

theorem heads_is {x : FVec Ideal R .bf16} {f : Fin 4096 → Fin 1024 → ℝ} (hx : IsM x f) (hw) : IsH (heads (extf (F := Ideal) (φ := .bf16) .f32 x hw)) f := by
  intro i h d
  rw [heads_at]
  exact hx _ _

theorem masked_is {q k : FVec Ideal R3 .f32} {c : FVec Ideal C .f32} {fq fk : Fin 4096 → Fin 1024 → ℝ} {fc : Fin 4096 → Fin 8 → ℝ}
    (hq : IsH q fq) (hk : IsH k fk) (hc : IsM c fc) : IsX (masked (logits q k c c)) (sc fq fk fc) := by
  intro h i j
  rw [masked_at, sge i.2 j.2, ofBits_bot]
  refine if_congr Iff.rfl ?_ rfl
  rw [logits_at, root_128, hc, hc, Finset.sum_congr rfl fun d _ => by rw [hq i h d, hk j h d, ← EReal.coe_mul], coe_sum, coe_div root_ne,
    ← EReal.coe_add, ← EReal.coe_sub, sc, div_eq_mul_inv]

variable {x e p : FVec Ideal A .f32} {t l d : FVec Ideal CT .f32} {S : Fin 8 → Fin 4096 → Fin 4096 → ℝ}

theorem top_is (hx : IsX x S) : IsM (top x) fun h i => mx (S h) i := by
  intro h i
  rw [top_at, ofBits_bot, ← fold_mx]
  congr 1
  funext j
  exact hx h i j

theorem top'_is {f : Fin 8 → Fin 4096 → ℝ} (ht : IsM t f) : IsM (top' t) f := by
  intro h i
  rw [top'_at, ofBits_bot, ht, max_eq_right bot_le]

theorem expo_is (hx : IsX x S) (ht : IsM t fun h i => mx (S h) i) : IsA (expo x t) fun h i j => ex (S h) i j := by
  intro h i j
  simp only [expo_at, hx h i j, ht h i, ex]
  split
  · rw [← EReal.coe_sub, Ideal.exp_coe]
  · rw [EReal.bot_sub, Ideal.exp_bot, EReal.coe_zero]

theorem total_is {f : Fin 8 → Fin 4096 → Fin 4096 → ℝ} (he : IsA e f) : IsM (total e) fun h i => ∑ j, f h i j := by
  intro h i
  rw [total_at, ← coe_sum]
  exact Finset.sum_congr rfl fun j _ => he h i j

theorem sums_is (he : IsA e fun h i j => ex (S h) i j) : IsM (total e) fun h i => ls (S h) i := total_is he

theorem lse_is (ht : IsM t fun h i => mx (S h) i) (hl : IsM l fun h i => ls (S h) i) : IsM (lse t l) fun h i => lg (S h) i := by
  intro h i
  rw [lse_at, ht, hl, Ideal.log_coe, if_neg (not_le.2 (ls_pos _ _)), ← EReal.coe_add]
  rfl

theorem lanes_is {f : Fin 8 → Fin 4096 → ℝ} (ht : IsM t f) : IsA (lanes t) fun h i _ => f h i := by
  intro h i y
  rw [lanes_at, ht]

theorem quot_is (he : IsA e fun h i j => ex (S h) i j) (hl : IsM l fun h i => ls (S h) i) : IsA (quot e l) fun h i j => pr (S h) i j := by
  intro h i j
  rw [quot_at, he, hl, coe_div (ls_pos _ _).ne', ex_div]

theorem attend_is {v : FVec Ideal R3 .f32} {q k w : Fin 4096 → Fin 1024 → ℝ} {c : Fin 4096 → Fin 8 → ℝ} (hv : IsH v w)
    (hp : IsA p fun h i j => pr (sc q k c h) i j) : IsM (attend v p) fun i l => ou q k w c i l := by
  intro i l
  show _ = ((∑ j, w j l * pr (sc q k c (hd l)) i j : ℝ) : EReal)
  rw [attend_at, ← coe_sum]
  refine Finset.sum_congr rfl fun j _ => ?_
  rw [hv, hp, ← EReal.coe_mul]
  exact congrArg (fun z => ((w j z * _ : ℝ) : EReal)) (col_hd l)

theorem dprob_is {g v : FVec Ideal R3 .f32} {fg fv : Fin 4096 → Fin 1024 → ℝ} (hg : IsH g fg) (hv : IsH v fv) :
    IsA (dprob g v) fun h i j => dp fv fg h i j := by
  intro h i j
  show _ = ((∑ y, fg i (col h y) * fv j (col h y) : ℝ) : EReal)
  rw [dprob_at, ← coe_sum]
  refine Finset.sum_congr rfl fun y _ => ?_
  rw [hg, hv, ← EReal.coe_mul]

theorem dsum_is {f : Fin 8 → Fin 4096 → Fin 4096 → ℝ} (hp : IsA p f) (he : IsA e fun h i j => ex (S h) i j) (hl : IsM l fun h i => ls (S h) i) :
    IsM (dsum p e l) fun h i => -∑ j, f h i j * (1 / (ls (S h) i * ls (S h) i)) * ex (S h) i j := by
  intro h i
  have hs := (ls_pos (S h) i).ne'
  show _ = ((-∑ j, f h i j * (1 / (ls (S h) i * ls (S h) i)) * ex (S h) i j : ℝ) : EReal)
  rw [dsum_at, Fin.sum_univ_one, ← EReal.coe_one, hl, ← EReal.coe_mul, coe_div (mul_ne_zero hs hs), EReal.coe_neg, ← coe_sum]
  refine congrArg Neg.neg (Finset.sum_congr rfl fun j _ => ?_)
  rw [hp, he, ← EReal.coe_mul, ← EReal.coe_mul]

theorem dscore_is {q k v g : Fin 4096 → Fin 1024 → ℝ} {c : Fin 4096 → Fin 8 → ℝ} (hp : IsA p fun h i j => dp v g h i j)
    (he : IsA e fun h i j => ex (sc q k c h) i j) (hl : IsM l fun h i => ls (sc q k c h) i)
    (hd : IsM d fun h i => -∑ j, dp v g h i j * (1 / (ls (sc q k c h) i * ls (sc q k c h) i)) * ex (sc q k c h) i j) :
    IsA (dscore p e l d) fun h i j => ds q k v g c h i j := by
  intro h i j
  rw [dscore_at, sge i.2 j.2]
  by_cases hj : j ≤ i
  · rw [if_pos (by exact hj), hp, he, hl, hd, coe_div (ls_pos _ _).ne', ← EReal.coe_add, ← EReal.coe_mul, softmax_grad]
    rfl
  · show _ = ((ds q k v g c h i j : ℝ) : EReal)
    rw [if_neg (by exact hj), ds_after _ _ _ _ _ _ _ _ hj, EReal.coe_zero]

variable {s : FVec Ideal A .f32} {f : Fin 8 → Fin 4096 → Fin 4096 → ℝ}

theorem scaled_is (hs : IsA s f) : IsA (scaled s) fun h i j => f h i j / Real.sqrt 128 := by
  intro h i j
  rw [scaled_at, root_128, hs, coe_div root_ne]

theorem dgateQ_is (hs : IsA s f) : IsA (dgateQ s) fun h i _ => ∑ j, f h i j := by
  intro h i y
  rw [dgateQ_at, Fin.sum_univ_one, ← coe_sum]
  exact Finset.sum_congr rfl fun j _ => hs h i j

theorem dquery_is {k : FVec Ideal R3 .f32} {fk : Fin 4096 → Fin 1024 → ℝ} (hs : IsA s f) (hk : IsH k fk) :
    IsM (dquery s k) fun i l => ∑ j, f (hd l) i j * fk j l := by
  intro i l
  rw [dquery_at, ← coe_sum]
  refine Finset.sum_congr rfl fun j _ => ?_
  rw [hs, hk, ← EReal.coe_mul]
  exact congrArg (fun z => ((_ * fk j z : ℝ) : EReal)) (col_hd l)

theorem dkey_is {q : FVec Ideal R3 .f32} {fq : Fin 4096 → Fin 1024 → ℝ} (hs : IsA s f) (hq : IsH q fq) :
    IsM (dkey s q) fun j l => ∑ i, f (hd l) i j * fq i l := by
  intro j l
  rw [dkey_at, ← coe_sum]
  refine Finset.sum_congr rfl fun i _ => ?_
  rw [hs, hq, ← EReal.coe_mul]
  exact congrArg (fun z => ((_ * fq i z : ℝ) : EReal)) (col_hd l)

theorem dvalue_is {g : FVec Ideal R3 .f32} {fg : Fin 4096 → Fin 1024 → ℝ} (hg : IsH g fg) (hp : IsA p f) :
    IsM (dvalue g p) fun j l => ∑ i, fg i l * f (hd l) i j := by
  intro j l
  rw [dvalue_at, ← coe_sum]
  refine Finset.sum_congr rfl fun i _ => ?_
  rw [hg, hp, ← EReal.coe_mul]
  exact congrArg (fun z => ((fg i z * _ : ℝ) : EReal)) (col_hd l)

/-- The head of a row of tiles. -/
def bh (b : Fin 64) : Fin 8 := ⟨b.val / 8, by omega⟩

/-- The position of a column of a row of tiles. -/
def bp (b : Fin 64) (l : Fin 512) : Fin 4096 := ⟨b.val % 8 * 512 + l.val, by omega⟩

theorem dgateK_is (hs : IsA s f) (b : Fin 64) (l : Fin 512) :
    dgateK s (ix3 b 0 l) = ((-∑ i, f (bh b) i (bp b l) : ℝ) : EReal) := by
  rw [dgateK_at, Fin.sum_univ_one, ← Finset.sum_neg_distrib, ← coe_sum]
  refine Finset.sum_congr rfl fun i _ => ?_
  rw [hs, EReal.coe_neg]
  rfl

theorem padded_is {c : FVec Ideal C .f32} {fc : Fin 4096 → Fin 8 → ℝ} (hc : IsM c fc) :
    IsM (padded c) fun i l => if h : l.val < 8 then fc i ⟨l.val, h⟩ else 0 := by
  intro i l
  show _ = ((if h : l.val < 8 then fc i ⟨l.val, h⟩ else 0 : ℝ) : EReal)
  rw [padded_at]
  split
  · rw [hc]
  · rw [sitofp_zero, EReal.coe_zero]

theorem tiled_is {c : FVec Ideal C .f32} {fc : Fin 4096 → Fin 8 → ℝ} (hc : IsM c fc) (b : Fin 64) (l : Fin 512) :
    tiled (padded c) (ix3 b 0 l) = ((fc (bp b l) (bh b) : ℝ) : EReal) := by
  rw [tiled_at, padded_is hc]
  exact congrArg _ (dif_pos (by omega : b.val / 8 < 8))

end Cert.Attn

end
-- ==== Proof.Tile.lean ====
/- One tile of scores of the forgetting attention, over the reals. -/
module

public import proofs.«01_k».proof.Proof.Reals

@[expose] public section

noncomputable section

namespace Cert.Attn

open Idealize.ShloMosaic Idealize.ShloMosaic.TcCoe Idealize.SL.Sem

/-- Position `r` of tile `I`. -/
def pos (I : Fin 8) (r : Fin 512) : Fin 4096 := ⟨I.val * 512 + r.val, by omega⟩

theorem pos_le {I J : Fin 8} (h : J < I) (r x : Fin 512) : pos J x ≤ pos I r := by
  have := Fin.lt_def.1 h
  refine Fin.le_def.2 ?_
  simp only [pos]; omega

theorem pos_le_same (I : Fin 8) (r x : Fin 512) : pos I x ≤ pos I r ↔ x.val ≤ r.val := by
  rw [Fin.le_def]; simp only [pos]; omega

/-- One tile more of a sum. -/
theorem pre_tile (f : Fin 4096 → ℝ) (J : Fin 8) : pre f ((J.val + 1) * 512) = pre f (J.val * 512) + ∑ x, f (pos J x) := by
  rw [add_mul, one_mul, pre_add f _ 512 (by omega)]
  rfl

section Scalars

variable (q k v g : Fin 4096 → Fin 1024 → ℝ) (c : Fin 4096 → Fin 8 → ℝ) (h : Fin 8) (i j : Fin 4096)

theorem sc_scalar : (∑ x : Fin 128, ((q i (col h x) : ℝ) : EReal) * ((k j (col h x) : ℝ) : EReal)) * (((Real.sqrt 128)⁻¹ : ℝ) : EReal)
    + ((c i h : ℝ) : EReal) - ((c j h : ℝ) : EReal) = ((sc q k c h i j : ℝ) : EReal) := by
  rw [Finset.sum_congr rfl fun x _ => (EReal.coe_mul _ _).symm, coe_sum, ← EReal.coe_mul, ← EReal.coe_add, ← EReal.coe_sub]
  rfl

theorem dp_scalar (z : ℝ) : (∑ x : Fin 128, ((g i (col h x) : ℝ) : EReal) * ((v j (col h x) : ℝ) : EReal)) - ((z : ℝ) : EReal) = ((dp v g h i j : ℝ) : EReal) - ((z : ℝ) : EReal) := by
  rw [Finset.sum_congr rfl fun x _ => (EReal.coe_mul _ _).symm, coe_sum]
  rfl

theorem dd_scalar : (∑ x : Fin 128, ((g i (col h x) : ℝ) : EReal) * ((ou q k v c i (col h x) : ℝ) : EReal)) = ((dd q k v g c h i : ℝ) : EReal) := by
  rw [Finset.sum_congr rfl fun x _ => (EReal.coe_mul _ _).symm, coe_sum, dd_eq]

/-- A probability before the mask. -/
def pf (S : Fin 4096 → Fin 4096 → ℝ) (i j : Fin 4096) : ℝ := Real.exp (S i j - lg S i)

theorem pf_scalar (S : Fin 4096 → Fin 4096 → ℝ) : Ideal.exp (((S i j : ℝ) : EReal) - ((lg S i : ℝ) : EReal)) = ((pf S i j : ℝ) : EReal) := by
  rw [← EReal.coe_sub, Ideal.exp_coe]
  rfl

theorem pf_eq {i j : Fin 4096} (S : Fin 4096 → Fin 4096 → ℝ) (hj : j ≤ i) : pf S i j = pr S i j := (if_pos hj).symm

theorem ds_scalar {i j : Fin 4096} (hj : j ≤ i) : ((pf (sc q k c h) i j : ℝ) : EReal) * (((dp v g h i j : ℝ) : EReal) - ((dd q k v g c h i : ℝ) : EReal))
    = ((ds q k v g c h i j : ℝ) : EReal) := by
  rw [← EReal.coe_sub, ← EReal.coe_mul, pf_eq _ hj]
  rfl

/-- A probability under the mask. -/
theorem pm_scalar {p : Prop} [Decidable p] {i j : Fin 4096} (S : Fin 4096 → Fin 4096 → ℝ) (hp : j ≤ i ↔ p) :
    (if p then ((pf S i j : ℝ) : EReal) else 0) = ((pr S i j : ℝ) : EReal) := by
  unfold pr
  by_cases h : j ≤ i
  · rw [if_pos h, if_pos (hp.1 h)]
    rfl
  · rw [if_neg h, if_neg (fun w => h (hp.2 w)), EReal.coe_zero]

theorem dm_scalar : ((pr (sc q k c h) i j : ℝ) : EReal) * (((dp v g h i j : ℝ) : EReal) - ((dd q k v g c h i : ℝ) : EReal))
    = ((ds q k v g c h i j : ℝ) : EReal) := by
  rw [← EReal.coe_sub, ← EReal.coe_mul]
  rfl

/-- A score gradient under the mask. -/
theorem ds_mask {p : Prop} [Decidable p] {i j : Fin 4096} (hp : j ≤ i ↔ p) :
    (if p then ((pf (sc q k c h) i j : ℝ) : EReal) * (((dp v g h i j : ℝ) : EReal) - ((dd q k v g c h i : ℝ) : EReal)) else 0)
      = ((ds q k v g c h i j : ℝ) : EReal) := by
  by_cases w : j ≤ i
  · rw [if_pos (hp.1 w), ds_scalar _ _ _ _ _ _ w]
  · rw [if_neg (fun z => w (hp.2 z)), ds_after _ _ _ _ _ _ _ _ w, EReal.coe_zero]

/-- A score gradient times a key under the mask. -/
theorem dk_mask {p : Prop} [Decidable p] {i j : Fin 4096} (hp : j ≤ i ↔ p) (z : EReal) :
    (if p then ((pf (sc q k c h) i j : ℝ) : EReal) * (((dp v g h i j : ℝ) : EReal) - ((dd q k v g c h i : ℝ) : EReal)) * z else 0)
      = ((ds q k v g c h i j : ℝ) : EReal) * z := by
  rw [← ds_mask q k v g c h hp]
  split
  · rfl
  · rw [zero_mul]

end Scalars

/-- The maximum of a row of equal numbers. -/
theorem fold_const {n : ℕ} (hn : 0 < n) (a : ℝ) : (Finset.univ.fold max ⊥ fun _ : Fin n => ((a : ℝ) : EReal)) = (a : EReal) := by
  change Finset.univ.sup (fun _ : Fin n => ((a : ℝ) : EReal)) = _
  exact Finset.sup_const ⟨⟨0, hn⟩, Finset.mem_univ _⟩ _

/-- The value of one lane, picked by a sum. -/
theorem pick (f : Fin 128 → ℝ) (h : Fin 8) :
    (∑ x : Fin 128, Scalar.select (IntOp.cmpi .eq (BitVec.ofNat 32 x.val) (BitVec.ofNat 32 h.val)) ((f x : ℝ) : EReal) 0)
      = ((f ⟨h.val, by omega⟩ : ℝ) : EReal) := by
  have e : ∀ x : Fin 128, Scalar.select (IntOp.cmpi .eq (BitVec.ofNat 32 x.val) (BitVec.ofNat 32 h.val)) ((f x : ℝ) : EReal) 0
      = if x = ⟨h.val, by omega⟩ then ((f x : ℝ) : EReal) else 0 := fun x => by
    rw [WordCmp.cmpi_eq_ofNat (by omega) (by omega), Scalar.select_ofBool]
    simp [Fin.ext_iff]
  rw [Finset.sum_congr rfl fun x _ => e x, Finset.sum_ite_eq' Finset.univ]
  simp

end Cert.Attn

end
-- ==== Proof.QPay.lean ====
/- What one tile step of the query gradient kernel computes. -/
module

public import proofs.«01_k».proof.Proof.Gen.BwdQIdeal.Value
public import proofs.«01_k».proof.Proof.Tile
public import proofs.«01_k».proof.Proof.Consts
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.BwdQIdeal.Final

open Cert.BwdQIdeal Cert.BwdQIdeal.Gen Cert.Attn

theorem scale_at : Named.named (F := Ideal) Cert.BwdQIdeal.κ "s" (φ := .f32) 0x3DB504F3#32 = (((Real.sqrt 128)⁻¹ : ℝ) : EReal) :=
  IdealRules.named_const.ideal_named_scalar _ _ _ _ rfl

section

variable {q k v g : Fin 4096 → Fin 1024 → ℝ} {c : Fin 4096 → Fin 8 → ℝ} {h I J : Fin 8} {i : grid0.Coords}
  {v0 v1 : Vec Ideal S512x128 .bf16} {v2 : Vec Ideal S512x128 .f32} {v11 : Vec Ideal S1x512x128 .f32} {v16 : Vec Ideal S512x128 .f32}
  {f e : Vec Ideal S512x128 .bf16} {y : Vec Ideal S1x1x512 .f32}
  (hq : ∀ r l, v0 (ix2 r l) = ((q (pos I r) (col h l) : ℝ) : EReal)) (hg : ∀ r l, v1 (ix2 r l) = ((g (pos I r) (col h l) : ℝ) : EReal))
  (hc : ∀ r, k0_pay4 i v2 (ix2 r 0) = ((c (pos I r) h : ℝ) : EReal)) (hl : ∀ r, k0_pay5 v11 (ix2 r 0) = ((lg (sc q k c h) (pos I r) : ℝ) : EReal))
  (hd : ∀ r, k0_pay6 v1 v16 (ix2 r 0) = ((dd q k v g c h (pos I r) : ℝ) : EReal))
  (hk : ∀ x l, f (ix2 x l) = ((k (pos J x) (col h l) : ℝ) : EReal)) (hy : ∀ x, y (ix3 0 0 x) = ((c (pos J x) h : ℝ) : EReal))
  (hv : ∀ x l, e (ix2 x l) = ((v (pos J x) (col h l) : ℝ) : EReal))

include hq hg hc hl hd hk hy hv

/-- One tile left of the diagonal: the sum of the score gradients times the keys. -/
theorem tile_q (hJ : J < I) (b : Vec Ideal S512x128 .f32) (r : Fin 512) (l : Fin 128) : k0_pay10 (F := Ideal) i v0 v1 v2 v11 v16 b f y e (ix2 r l)
    = b (ix2 r l) + ((∑ x, ds q k v g c h (pos I r) (pos J x) * k (pos J x) (col h l) : ℝ) : EReal) := by
  pointwise [k0_pay10, k0_pay9]
  simp only [hq, hg, hc, hl, hd, hk, hy, hv, scale_at, sc_scalar, dp_scalar, pf_scalar]
  rw [← coe_sum]
  refine congrArg (b (ix2 r l) + ·) (Finset.sum_congr rfl fun x _ => ?_)
  rw [ds_scalar _ _ _ _ _ _ (pos_le hJ r x), ← EReal.coe_mul]

/-- One tile left of the diagonal: the sum of the score gradients. -/
theorem tile_c (hJ : J < I) (b : Vec Ideal S512x1 .f32) (r : Fin 512) : k0_pay11 (F := Ideal) i v0 v1 v2 v11 v16 b f y e (ix2 r 0)
    = b (ix2 r 0) + ((∑ x, ds q k v g c h (pos I r) (pos J x) : ℝ) : EReal) := by
  pointwise [k0_pay11, k0_pay9]
  simp only [hq, hg, hc, hl, hd, hk, hy, hv, scale_at, sc_scalar, dp_scalar, pf_scalar]
  rw [← coe_sum]
  refine congrArg (b (ix2 r 0) + ·) (Finset.sum_congr rfl fun x _ => ?_)
  rw [ds_scalar _ _ _ _ _ _ (pos_le hJ r x)]

end

section

variable {q k v g : Fin 4096 → Fin 1024 → ℝ} {c : Fin 4096 → Fin 8 → ℝ} {h I : Fin 8}
  {v0 v1 : Vec Ideal S512x128 .bf16} {v10 v14 v20 : Vec Ideal S512x1 .f32}
  {f e : Vec Ideal S512x128 .bf16} {y : Vec Ideal S1x1x512 .f32}
  (hq : ∀ r l, v0 (ix2 r l) = ((q (pos I r) (col h l) : ℝ) : EReal)) (hg : ∀ r l, v1 (ix2 r l) = ((g (pos I r) (col h l) : ℝ) : EReal))
  (hc : ∀ r, v10 (ix2 r 0) = ((c (pos I r) h : ℝ) : EReal)) (hl : ∀ r, v14 (ix2 r 0) = ((lg (sc q k c h) (pos I r) : ℝ) : EReal))
  (hd : ∀ r, v20 (ix2 r 0) = ((dd q k v g c h (pos I r) : ℝ) : EReal))
  (hk : ∀ x l, f (ix2 x l) = ((k (pos I x) (col h l) : ℝ) : EReal)) (hy : ∀ x, y (ix3 0 0 x) = ((c (pos I x) h : ℝ) : EReal))
  (hv : ∀ x l, e (ix2 x l) = ((v (pos I x) (col h l) : ℝ) : EReal))

include hq hg hc hl hd hk hy hv

/-- The diagonal tile: what is written of the queries' gradient. -/
theorem diag_q (b : Vec Ideal S512x128 .f32) (r : Fin 512) (l : Fin 128) : k0_pay2 (F := Ideal) v0 v1 v10 v14 v20 b f y e (ix2 r l)
    = (b (ix2 r l) + ((∑ x, ds q k v g c h (pos I r) (pos I x) * k (pos I x) (col h l) : ℝ) : EReal)) * (((Real.sqrt 128)⁻¹ : ℝ) : EReal) := by
  pointwise [k0_pay2, k0_pay1]
  simp only [hq, hg, hc, hl, hd, hk, hy, hv, scale_at, sc_scalar, dp_scalar, pf_scalar]
  rw [← coe_sum]
  refine congrArg (fun z => (b (ix2 r l) + z) * _) (Finset.sum_congr rfl fun x _ => ?_)
  rw [sge (by omega) (by omega), EReal.coe_mul, dk_mask _ _ _ _ _ _ (pos_le_same I r x)]

/-- The diagonal tile: what is written of the gate's gradient. -/
theorem diag_c (b : Vec Ideal S512x1 .f32) (r : Fin 512) (l : Fin 128) : k0_pay3 (F := Ideal) v0 v1 v10 v14 v20 b f y e (ix3 0 r l)
    = b (ix2 r 0) + ((∑ x, ds q k v g c h (pos I r) (pos I x) : ℝ) : EReal) := by
  pointwise [k0_pay3, k0_pay1]
  simp only [hq, hg, hc, hl, hd, hk, hy, hv, scale_at, sc_scalar, dp_scalar, pf_scalar]
  rw [← coe_sum]
  refine congrArg (fun z => b (ix2 r 0) + z) (Finset.sum_congr rfl fun x _ => ?_)
  rw [sge (by omega) (by omega), ds_mask _ _ _ _ _ _ (pos_le_same I r x)]

end

end Cert.BwdQIdeal.Final

end
-- ==== Proof.QEntry.lean ====
/- What the query gradient kernel is started on: the buffers its host code fills. -/
module

public import proofs.«01_k».proof.Proof.Gen.BwdQIdeal.Value
public import proofs.«01_k».proof.Proof.Reals
public import proofs.«01_k».proof.Proof.Consts
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.BwdQIdeal.Final

open Cert.BwdQIdeal Cert.BwdQIdeal.Gen Cert.Attn

section

variable (m : (ℓ : Loc nD τ sig) → Buf (Elt Ideal) ℓ) (c : Dev nD)

abbrev A0 : FVec Ideal R .bf16 := m ((c.tc : Thread nD τ).loc main_arg0)
abbrev A1 : FVec Ideal R .bf16 := m ((c.tc : Thread nD τ).loc main_arg1)
abbrev A2 : FVec Ideal R .bf16 := m ((c.tc : Thread nD τ).loc main_arg2)
abbrev A3 : FVec Ideal C .f32 := m ((c.tc : Thread nD τ).loc main_arg3)
abbrev A4 : FVec Ideal R .bf16 := m ((c.tc : Thread nD τ).loc main_arg4)
abbrev Q3 : FVec Ideal R3 .f32 := heads (extf (F := Ideal) (φ := .bf16) .f32 (A0 m c) (by decide))
abbrev K3 : FVec Ideal R3 .f32 := heads (extf (F := Ideal) (φ := .bf16) .f32 (A1 m c) (by decide))
abbrev V3 : FVec Ideal R3 .f32 := heads (extf (F := Ideal) (φ := .bf16) .f32 (A2 m c) (by decide))
abbrev X3 : FVec Ideal A .f32 := masked (logits (Q3 m c) (K3 m c) (A3 m c) (A3 m c))

theorem V_arg0 : V m c main_arg0 = A0 m c := rfl
theorem V_arg1 : V m c main_arg1 = A1 m c := rfl
theorem V_arg2 : V m c main_arg2 = A2 m c := rfl
theorem V_arg4 : V m c main_arg4 = A4 m c := rfl

/-- The gate's running sums transposed, a row per head and tile. -/
theorem V_row : V m c main_v75 = tiled (padded (A3 m c)) := by
  entry_read
  rfl

/-- The gate's running sums, padded to the lanes. -/
theorem V_col : V m c main_v72 = padded (A3 m c) := by
  entry_read
  rfl

set_option maxRecDepth 100000 in
/-- The attention's result. -/
theorem V_out : V m c main_v39 =
    let x := X3 m c
    let e := expo x (top' (top x))
    attend (V3 m c) (quot e (total e)) := by
  unfold V
  simp only [List.flatten_cons, List.flatten_nil, List.cons_append, List.nil_append, List.append_nil, hostOps0, hostOps0_1, hostOps0_2, hostOps0_3,
    hostOps0_4, hostOps0_5, hostOps0_6]
  after_results
  dsimp only [attend, quot, total, rows, expo, top, top', masked, logits, heads, causalA, causal, rootA, root, dQK, dPV, lse, lanes]
  rfl

set_option maxRecDepth 100000 in
/-- The logarithms of the rows' sums. -/
theorem V_lse : V m c main_v71 =
    let x := X3 m c
    lanes (lse (top x) (total (expo x (top x)))) := by
  unfold V
  simp only [List.flatten_cons, List.flatten_nil, List.cons_append, List.nil_append, List.append_nil, hostOps0, hostOps0_1, hostOps0_2, hostOps0_3,
    hostOps0_4, hostOps0_5, hostOps0_6]
  after_results
  dsimp only [attend, quot, total, rows, expo, top, top', masked, logits, heads, causalA, causal, rootA, root, dQK, dPV, lse, lanes]
  rfl

variable {m c} {q k v g : Fin 4096 → Fin 1024 → ℝ} {w : Fin 4096 → Fin 8 → ℝ}
  (hq : ∀ i l, A0 m c (ix2 i l) = ((q i l : ℝ) : EReal)) (hk : ∀ i l, A1 m c (ix2 i l) = ((k i l : ℝ) : EReal))
  (hv : ∀ i l, A2 m c (ix2 i l) = ((v i l : ℝ) : EReal)) (hw : ∀ i h, A3 m c (ix2 i h) = ((w i h : ℝ) : EReal))

include hq hk hv hw in
/-- What the kernel reads as the attention's result, in reals. -/
theorem out_at : IsM (a := 4096) (b := 1024) (φ := .f32) (V m c main_v39) fun i l => ou q k v w i l := by
  rw [V_out]
  have hx := masked_is (heads_is hq (by decide)) (heads_is hk (by decide)) hw
  have he := expo_is hx (top'_is (top_is hx))
  exact attend_is (heads_is hv (by decide)) (quot_is he (sums_is he))

include hq hk hw in
/-- What the kernel reads as the logarithms of the rows' sums, in reals. -/
theorem lse_at' : IsA (a := 8) (b := 4096) (d := 128) (φ := .f32) (V m c main_v71) fun h i _ => lg (sc q k w h) i := by
  rw [V_lse]
  have hx := masked_is (heads_is hq (by decide)) (heads_is hk (by decide)) hw
  exact lanes_is (lse_is (top_is hx) (sums_is (expo_is hx (top_is hx))))

include hw in
/-- What the kernel reads as the gate's running sums, in reals. -/
theorem col_at : IsM (a := 4096) (b := 128) (φ := .f32) (V m c main_v72) fun i l => if h : l.val < 8 then w i ⟨l.val, h⟩ else 0 := by
  rw [V_col]
  exact padded_is hw

include hw in
/-- The same by tiles. -/
theorem row_at (b : Fin 64) (l : Fin 512) : V m c main_v75 (ix3 b 0 l) = ((w (bp b l) (bh b) : ℝ) : EReal) := by
  rw [V_row]
  exact tiled_is hw b l

end

end Cert.BwdQIdeal.Final

end
-- ==== Proof.QLoop.lean ====
/- The query gradient kernel's loop over the tiles left of the diagonal. -/
module

public import proofs.«01_k».proof.Proof.QPay
public import proofs.«01_k».proof.Proof.QEntry

@[expose] public section

set_option maxRecDepth 16384

noncomputable section

open Idealize.ShloMosaic Idealize.ShloMosaic.TcCoe Idealize.SL.Sem
open Idealize.ShloMosaic.Pipeline (Dat)

namespace Cert.BwdQIdeal.Final

open Cert.BwdQIdeal Cert.BwdQIdeal.Gen Cert.Attn

/-- The loop runs once per tile left of the diagonal. -/
theorem trips_eq : ∀ i : grid0.Coords, (k0_t1_loop i).trips = (i 1).val := by decide +kernel

/-- The second loop runs no trip. -/
theorem trips_zero : ∀ i : grid0.Coords, (k0_t2_loop i).trips = 0 := by decide +kernel

/-- One trip: a tile's payload on the tile's keys, gates and values. -/
theorem trip_eq (𝒱 : Variants) (c : Dev nD) (bd : Option 𝒱.V) (i : grid0.Coords) (arg2 : Memref sig .tc .vmem S512x128 .bf16) (harg2 : arg2.IsWhole) (arg3 : Memref sig .tc .vmem S4096x128 .bf16) (harg3 : arg3.IsWhole) (arg4 : Memref sig .tc .vmem S4096x128 .bf16) (harg4 : arg4.IsWhole)
    (arg5 : Memref sig .tc .vmem S512x128 .f32) (harg5 : arg5.IsWhole) (arg6 : Memref sig .tc .vmem S512x128 .bf16) (harg6 : arg6.IsWhole) (arg7 : Memref sig .tc .vmem S1x512x128 .f32) (harg7 : arg7.IsWhole) (arg8 : Memref sig .tc .vmem S512x128 .f32) (harg8 : arg8.IsWhole)
    (arg9 : Memref sig .tc .vmem S64x1x512 .f32) (harg9 : arg9.IsWhole) (arg10 : Memref sig .tc .vmem S512x128 .bf16) (harg10 : arg10.IsWhole) (arg11 : Memref sig .tc .vmem S1x512x128 .f32) (harg11 : arg11.IsWhole)
    (v0 v1 : Vec Ideal S512x128 .bf16) (v2 : Vec Ideal S512x128 .f32) (v11 : Vec Ideal S1x512x128 .f32) (v16 : Vec Ideal S512x128 .f32) (x1 x2 : Vec Ideal S4096x128 .bf16) (x7 : Vec Ideal S64x1x512 .f32) (k : Fin (k0_t1_loop i).trips) (acc) :
    tripR_k0_t1 (F := Ideal) 𝒱 c bd i arg2 harg2 arg3 harg3 arg4 harg4 arg5 harg5 arg6 harg6 arg7 harg7 arg8 harg8 arg9 harg9 arg10 harg10 arg11 harg11 v0 v1 v2 v11 v16 (harg3.unread x1) (harg4.unread x2) (harg9.unread x7) k acc
      = (k0_pay10 i v0 v1 v2 v11 v16 acc.1 (View.ld x1 (Rect.unit (k0_off1 i k) ![512, 128] (k0_off1_inb i k))) (View.ld x7 (Rect.unit (k0_off2 i k) ![1, 1, 512] (k0_off2_inb i k)))
          (View.ld x2 (Rect.unit (k0_off1 i k) ![512, 128] (k0_off1_inb i k))),
        k0_pay11 i v0 v1 v2 v11 v16 acc.2 (View.ld x1 (Rect.unit (k0_off1 i k) ![512, 128] (k0_off1_inb i k))) (View.ld x7 (Rect.unit (k0_off2 i k) ![1, 1, 512] (k0_off2_inb i k)))
          (View.ld x2 (Rect.unit (k0_off1 i k) ![512, 128] (k0_off1_inb i k)))) := by
  unfold tripR_k0_t1 trip_k0_t1
  frame_out

section

variable {i : grid0.Coords} {x : Vec Ideal S4096x128 .bf16} {f : Fin 4096 → Fin 1024 → ℝ} {h I : Fin 8}

/-- A tile of keys or values. -/
theorem ld_tile (hx : ∀ p l, x (ix2 p l) = ((f p (col h l) : ℝ) : EReal)) (J : Fin 8) {off : Fin 2 → ℕ} (ho : off = ![512 * J.val, 0]) (inb) (r : Fin 512) (l : Fin 128) :
    View.ld (S := S4096x128) x (Rect.unit off ![512, 128] inb) (ix2 r l) = ((f (pos J r) (col h l) : ℝ) : EReal) := by
  rw [← hx]
  refine View.ld_unit_apply_of _ _ _ _ _ (ix2 (pos J r) l) fun a => ?_
  subst ho
  fin_cases a
  · show J.val * 512 + r.val = 512 * J.val + r.val
    omega
  · show l.val = 0 + l.val
    omega

/-- A tile of the gate's running sums. -/
theorem ld_row {y : Vec Ideal S64x1x512 .f32} {w : Fin 4096 → Fin 8 → ℝ} (hy : ∀ b x, y (ix3 b 0 x) = ((w (bp b x) (bh b) : ℝ) : EReal)) (h J : Fin 8) {off : Fin 3 → ℕ}
    (ho : off = ![8 * h.val + J.val, 0, 0]) (inb) (r : Fin 512) :
    View.ld (S := S64x1x512) y (Rect.unit off ![1, 1, 512] inb) (ix3 0 0 r) = ((w (pos J r) h : ℝ) : EReal) := by
  have e := hy (⟨8 * h.val + J.val, by omega⟩ : Fin 64) r
  have e1 : bp (⟨8 * h.val + J.val, by omega⟩ : Fin 64) r = pos J r := Fin.ext (by simp only [bp, pos]; omega)
  have e2 : bh (⟨8 * h.val + J.val, by omega⟩ : Fin 64) = h := Fin.ext (by simp only [bh]; omega)
  rw [e1, e2] at e
  rw [← e]
  refine View.ld_unit_apply_of _ _ _ _ _ (ix3 (⟨8 * h.val + J.val, by omega⟩ : Fin 64) 0 r) fun a => ?_
  subst ho
  fin_cases a
  · show 8 * h.val + J.val = 8 * h.val + J.val + 0
    omega
  · rfl
  · show r.val = 0 + r.val
    omega

end

section

variable {q k v g : Fin 4096 → Fin 1024 → ℝ} {w : Fin 4096 → Fin 8 → ℝ} {h I : Fin 8} {i : grid0.Coords}
  {v0 v1 : Vec Ideal S512x128 .bf16} {v2 : Vec Ideal S512x128 .f32} {v11 : Vec Ideal S1x512x128 .f32} {v16 : Vec Ideal S512x128 .f32}
  {x1 x2 : Vec Ideal S4096x128 .bf16} {x7 : Vec Ideal S64x1x512 .f32}

/-- After `n` tiles the loop carries the sums over the keys of those tiles. -/
theorem loop_inv (𝒱 : Variants) (c : Dev nD) (bd : Option 𝒱.V) (i : grid0.Coords) (arg2 : Memref sig .tc .vmem S512x128 .bf16) (harg2 : arg2.IsWhole) (arg3 : Memref sig .tc .vmem S4096x128 .bf16) (harg3 : arg3.IsWhole) (arg4 : Memref sig .tc .vmem S4096x128 .bf16) (harg4 : arg4.IsWhole)
    (arg5 : Memref sig .tc .vmem S512x128 .f32) (harg5 : arg5.IsWhole) (arg6 : Memref sig .tc .vmem S512x128 .bf16) (harg6 : arg6.IsWhole) (arg7 : Memref sig .tc .vmem S1x512x128 .f32) (harg7 : arg7.IsWhole) (arg8 : Memref sig .tc .vmem S512x128 .f32) (harg8 : arg8.IsWhole)
    (arg9 : Memref sig .tc .vmem S64x1x512 .f32) (harg9 : arg9.IsWhole) (arg10 : Memref sig .tc .vmem S512x128 .bf16) (harg10 : arg10.IsWhole) (arg11 : Memref sig .tc .vmem S1x512x128 .f32) (harg11 : arg11.IsWhole) (hi0 : (i 0).val = h.val) (hi1 : (i 1).val = I.val)
    (hq : ∀ r l, v0 (ix2 r l) = ((q (pos I r) (col h l) : ℝ) : EReal)) (hg : ∀ r l, v1 (ix2 r l) = ((g (pos I r) (col h l) : ℝ) : EReal))
    (hc : ∀ r, k0_pay4 i v2 (ix2 r 0) = ((w (pos I r) h : ℝ) : EReal)) (hl : ∀ r, k0_pay5 v11 (ix2 r 0) = ((lg (sc q k w h) (pos I r) : ℝ) : EReal))
    (hd : ∀ r, k0_pay6 v1 v16 (ix2 r 0) = ((dd q k v g w h (pos I r) : ℝ) : EReal))
    (hk : ∀ p l, x1 (ix2 p l) = ((k p (col h l) : ℝ) : EReal)) (hv : ∀ p l, x2 (ix2 p l) = ((v p (col h l) : ℝ) : EReal))
    (hy : ∀ b x, x7 (ix3 b 0 x) = ((w (bp b x) (bh b) : ℝ) : EReal)) (n : ℕ) (hn : n ≤ I.val) :
    (∀ r l, (st_k0_t1 (F := Ideal) 𝒱 c bd i arg2 harg2 arg3 harg3 arg4 harg4 arg5 harg5 arg6 harg6 arg7 harg7 arg8 harg8 arg9 harg9 arg10 harg10 arg11 harg11 v0 v1 v2 v11 v16 (harg3.unread x1) (harg4.unread x2) (harg9.unread x7) (k0_pay7, k0_pay8) n).1 (ix2 r l)
        = ((pre (fun j => ds q k v g w h (pos I r) j * k j (col h l)) (n * 512) : ℝ) : EReal))
      ∧ ∀ r, (st_k0_t1 (F := Ideal) 𝒱 c bd i arg2 harg2 arg3 harg3 arg4 harg4 arg5 harg5 arg6 harg6 arg7 harg7 arg8 harg8 arg9 harg9 arg10 harg10 arg11 harg11 v0 v1 v2 v11 v16 (harg3.unread x1) (harg4.unread x2) (harg9.unread x7) (k0_pay7, k0_pay8) n).2 (ix2 r 0)
        = ((pre (fun j => ds q k v g w h (pos I r) j) (n * 512) : ℝ) : EReal) := by
  induction n with
  | zero =>
    rw [zero_mul]
    simp only [pre_zero, EReal.coe_zero]
    rw [st_k0_t1_zero]
    refine ⟨fun r l => ?_, fun r => ?_⟩
    · pointwise [k0_pay7]
    · pointwise [k0_pay8]
  | succ n ih =>
    obtain ⟨e1, e2⟩ := ih (by omega)
    have hJ : n < 8 := by omega
    have ht : n < (k0_t1_loop i).trips := by rw [trips_eq, hi1]; omega
    have hlt : (⟨n, hJ⟩ : Fin 8) < I := Fin.lt_def.2 (by show n < I.val; omega)
    have o1 := k0_off1_eq i ⟨n, ht⟩
    have o2 := k0_off2_eq i ⟨n, ht⟩
    rw [hi0] at o2
    have s := st_k0_t1_succ (F := Ideal) 𝒱 c bd i arg2 harg2 arg3 harg3 arg4 harg4 arg5 harg5 arg6 harg6 arg7 harg7 arg8 harg8 arg9 harg9 arg10 harg10 arg11 harg11 v0 v1 v2 v11 v16 (harg3.unread x1) (harg4.unread x2) (harg9.unread x7) (k0_pay7, k0_pay8) ⟨n, ht⟩
    dsimp only at s
    rw [s, trip_eq]
    have tk := ld_tile hk ⟨n, hJ⟩ o1 (k0_off1_inb i ⟨n, ht⟩)
    have tv := ld_tile hv ⟨n, hJ⟩ o1 (k0_off1_inb i ⟨n, ht⟩)
    have ty := ld_row hy h ⟨n, hJ⟩ o2 (k0_off2_inb i ⟨n, ht⟩)
    refine ⟨fun r l => ?_, fun r => ?_⟩
    · refine (tile_q hq hg hc hl hd tk ty tv hlt _ r l).trans ?_
      rw [e1, ← EReal.coe_add]
      exact congrArg _ (pre_tile (fun j => ds q k v g w h (pos I r) j * k j (col h l)) ⟨n, hJ⟩).symm
    · refine (tile_c hq hg hc hl hd tk ty tv hlt _ r).trans ?_
      rw [e2, ← EReal.coe_add]
      exact congrArg _ (pre_tile (fun j => ds q k v g w h (pos I r) j) ⟨n, hJ⟩).symm

end

end Cert.BwdQIdeal.Final

end
-- ==== Proof.QBlk.lean ====
/- The query gradient kernel's blocks, and what a grid point makes of them. -/
module

public import proofs.«01_k».proof.Proof.QLoop

@[expose] public section

set_option maxRecDepth 16384

noncomputable section

open Idealize.ShloMosaic Idealize.ShloMosaic.TcCoe Idealize.SL.Sem
open Idealize.ShloMosaic.Pipeline (Dat)

namespace Cert.BwdQIdeal.Final

open Cert.BwdQIdeal Cert.BwdQIdeal.Gen Cert.Attn

/-- The head of a grid point. -/
def th (t : Fin cfg0.N) : Fin 8 := ⟨t.val / 8, by have : t.val < 64 := lt_of_lt_of_eq t.isLt (by decide); omega⟩

/-- The tile of a grid point. -/
def ti (t : Fin cfg0.N) : Fin 8 := ⟨t.val % 8, by omega⟩

theorem coords : ∀ t : Fin cfg0.N, (grid0.coords t 0).val = (th t).val ∧ (grid0.coords t 1).val = (ti t).val := (by decide +kernel : ∀ t : Fin grid0.N, (grid0.coords t 0).val = t.val / 8 ∧ (grid0.coords t 1).val = t.val % 8)

theorem idx : ∀ t : Fin cfg0.N, win0_0.index t = ![t.val % 8, t.val / 8] ∧ win0_1.index t = ![0, t.val / 8] ∧ win0_2.index t = ![0, t.val / 8]
    ∧ win0_3.index t = ![t.val % 8, t.val / 8] ∧ win0_4.index t = ![t.val % 8, t.val / 8] ∧ win0_5.index t = ![t.val / 8, t.val % 8, 0]
    ∧ win0_6.index t = ![t.val % 8, 0] ∧ win0_7.index t = ![0, 0, 0] ∧ win0_8.index t = ![t.val % 8, t.val / 8] ∧ win0_9.index t = ![t.val / 8, t.val % 8, 0] :=
  (by decide +kernel : ∀ t : Fin grid0.N, _)

theorem hd_col (h : Fin 8) (l : Fin 128) : hd (col h l) = h := Fin.ext (by simp only [hd, col]; omega)

theorem after {I : Fin 8} {r : Fin 512} {x : Fin 4096} (hx : (I.val + 1) * 512 ≤ x.val) : ¬ x ≤ pos I r := by
  rw [Fin.le_def]
  simp only [pos]
  omega

theorem emb3 (t : Fin cfg0.N) (X : Vec Ideal S4096x1024 .f32) (r : Fin 512) (l : Fin 128) : X ((win0_3.blk t).view.emb (ix2 r l)) = X (ix2 (pos (ti t) r) (col (th t) l)) := by
  blk_ext [idx t, pos, col, ti, th]

theorem rd3 (c : Dev nD) (t : Fin cfg0.N) (W : (b : Ref sig .tc) → Buf (Elt Ideal) ((c.tc : Thread nD τ).loc b)) (r : Fin 512) (l : Fin 128) :
    (((cfg0.win 3).blk t).view.read (Elt Ideal) (W (Pipeline.arrRef spec0 3)) : Vec Ideal S512x128 .f32) (ix2 r l) = W main_v39 (ix2 (pos (ti t) r) (col (th t) l)) := by
  blk_simp
  exact emb3 t _ r l

theorem emb5 (t : Fin cfg0.N) (X : Vec Ideal S8x4096x128 .f32) (r : Fin 512) (l : Fin 128) : X ((win0_5.blk t).view.emb (ix3 0 r l)) = X (ix3 (th t) (pos (ti t) r) l) := by
  blk_ext [idx t, pos, col, ti, th]

theorem rd5 (c : Dev nD) (t : Fin cfg0.N) (W : (b : Ref sig .tc) → Buf (Elt Ideal) ((c.tc : Thread nD τ).loc b)) (r : Fin 512) (l : Fin 128) :
    (((cfg0.win 5).blk t).view.read (Elt Ideal) (W (Pipeline.arrRef spec0 5)) : Vec Ideal S1x512x128 .f32) (ix3 0 r l) = W main_v71 (ix3 (th t) (pos (ti t) r) l) := by
  blk_simp
  exact emb5 t _ r l

theorem emb6 (t : Fin cfg0.N) (X : Vec Ideal S4096x128 .f32) (r : Fin 512) (l : Fin 128) : X ((win0_6.blk t).view.emb (ix2 r l)) = X (ix2 (pos (ti t) r) l) := by
  blk_ext [idx t, pos, col, ti, th]

theorem rd6 (c : Dev nD) (t : Fin cfg0.N) (W : (b : Ref sig .tc) → Buf (Elt Ideal) ((c.tc : Thread nD τ).loc b)) (r : Fin 512) (l : Fin 128) :
    (((cfg0.win 6).blk t).view.read (Elt Ideal) (W (Pipeline.arrRef spec0 6)) : Vec Ideal S512x128 .f32) (ix2 r l) = W main_v72 (ix2 (pos (ti t) r) l) := by
  blk_simp
  exact emb6 t _ r l

theorem emb7 (t : Fin cfg0.N) (X : Vec Ideal S64x1x512 .f32) (b : Fin 64) (l : Fin 512) : X ((win0_7.blk t).view.emb (ix3 b 0 l)) = X (ix3 b 0 l) := by
  blk_ext [idx t, pos, col, ti, th]

theorem rd7 (c : Dev nD) (t : Fin cfg0.N) (W : (b : Ref sig .tc) → Buf (Elt Ideal) ((c.tc : Thread nD τ).loc b)) (b : Fin 64) (l : Fin 512) :
    (((cfg0.win 7).blk t).view.read (Elt Ideal) (W (Pipeline.arrRef spec0 7)) : Vec Ideal S64x1x512 .f32) (ix3 b 0 l) = W main_v75 (ix3 b 0 l) := by
  blk_simp
  exact emb7 t _ b l

section

variable (m : (ℓ : Loc nD τ sig) → Buf (Elt Ideal) ℓ) (c : Dev nD) (t : Fin cfg0.N)

theorem blk0 (r : Fin 512) (l : Fin 128) : (iblk m c 0 t : Vec Ideal S512x128 .bf16) (ix2 r l) = A0 m c (ix2 (pos (ti t) r) (col (th t) l)) := by
  rw [← V_arg0]
  blk_ext [iblk, idx t, pos, col, ti, th]

theorem blk1 (r : Fin 4096) (l : Fin 128) : (iblk m c 1 t : Vec Ideal S4096x128 .bf16) (ix2 r l) = A1 m c (ix2 r (col (th t) l)) := by
  rw [← V_arg1]
  blk_ext [iblk, idx t, pos, col, ti, th]

theorem blk2 (r : Fin 4096) (l : Fin 128) : (iblk m c 2 t : Vec Ideal S4096x128 .bf16) (ix2 r l) = A2 m c (ix2 r (col (th t) l)) := by
  rw [← V_arg2]
  blk_ext [iblk, idx t, pos, col, ti, th]

theorem blk3 (r : Fin 512) (l : Fin 128) : (iblk m c 3 t : Vec Ideal S512x128 .f32) (ix2 r l) = V m c main_v39 (ix2 (pos (ti t) r) (col (th t) l)) :=
  rd3 c t (V m c) r l

theorem blk4 (r : Fin 512) (l : Fin 128) : (iblk m c 4 t : Vec Ideal S512x128 .bf16) (ix2 r l) = A4 m c (ix2 (pos (ti t) r) (col (th t) l)) := by
  rw [← V_arg4]
  blk_ext [iblk, idx t, pos, col, ti, th]

theorem blk5 (r : Fin 512) (l : Fin 128) : (iblk m c 5 t : Vec Ideal S1x512x128 .f32) (ix3 0 r l) = V m c main_v71 (ix3 (th t) (pos (ti t) r) l) :=
  rd5 c t (V m c) r l

theorem blk6 (r : Fin 512) (l : Fin 128) : (iblk m c 6 t : Vec Ideal S512x128 .f32) (ix2 r l) = V m c main_v72 (ix2 (pos (ti t) r) l) :=
  rd6 c t (V m c) r l

theorem blk7 (b : Fin 64) (l : Fin 512) : (iblk m c 7 t : Vec Ideal S64x1x512 .f32) (ix3 b 0 l) = V m c main_v75 (ix3 b 0 l) :=
  rd7 c t (V m c) b l

end

theorem emb8 (t : Fin cfg0.N) (X : Vec Ideal S4096x1024 .bf16) (r : Fin 512) (l : Fin 128) : X ((win0_8.blk t).view.emb (ix2 r l)) = X (ix2 (pos (ti t) r) (col (th t) l)) := by
  blk_ext [idx t, pos, col, ti, th]

theorem emb9 (t : Fin cfg0.N) (X : Vec Ideal S8x4096x128 .f32) (r : Fin 512) (l : Fin 128) : X ((win0_9.blk t).view.emb (ix3 0 r l)) = X (ix3 (th t) (pos (ti t) r) l) := by
  blk_ext [idx t, pos, col, ti, th]

section

variable (m : (ℓ : Loc nD τ sig) → Buf (Elt Ideal) ℓ) (c : Dev nD) (t : Fin cfg0.N)

/-- What the loop carries after `n` trips at a grid point. -/
abbrev car (n : ℕ) := st_k0_t1 (F := Ideal) Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t)
  (iblk m c 0 t) (iblk m c 4 t) (iblk m c 6 t) (iblk m c 5 t) (iblk m c 3 t) ((hs0_1 t).unread (iblk m c 1 t)) ((hs0_2 t).unread (iblk m c 2 t)) ((hs0_7 t).unread (iblk m c 7 t)) (k0_pay7, k0_pay8) n

/-- The second loop. -/
abbrev car' (a) (n : ℕ) := st_k0_t2 (F := Ideal) Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t)
  (iblk m c 0 t) (iblk m c 4 t) (iblk m c 6 t) (iblk m c 5 t) (iblk m c 3 t) ((hs0_1 t).unread (iblk m c 1 t)) ((hs0_2 t).unread (iblk m c 2 t)) ((hs0_7 t).unread (iblk m c 7 t)) a n

theorem outs1 (y) : (outsAt0 m c t).1 y = k0_pay2 (iblk m c 0 t) (iblk m c 4 t) (k0_pay4 (grid0.coords t) (iblk m c 6 t)) (k0_pay5 (iblk m c 5 t)) (k0_pay6 (iblk m c 4 t) (iblk m c 3 t))
    (car' m c t (car m c t (k0_t1_loop (grid0.coords t)).trips) (k0_t2_loop (grid0.coords t)).trips).1
    (View.ld (iblk m c 1 t) (Rect.unit (k0_off5 (grid0.coords t)) ![512, 128] (k0_off5_inb _))) (View.ld (iblk m c 7 t) (Rect.unit (k0_off6 (grid0.coords t)) ![1, 1, 512] (k0_off6_inb _)))
    (View.ld (iblk m c 2 t) (Rect.unit (k0_off5 (grid0.coords t)) ![512, 128] (k0_off5_inb _))) y := by
  unfold outsAt0
  frame_out
  rfl

theorem outs2 (y) : (outsAt0 m c t).2 y = k0_pay3 (iblk m c 0 t) (iblk m c 4 t) (k0_pay4 (grid0.coords t) (iblk m c 6 t)) (k0_pay5 (iblk m c 5 t)) (k0_pay6 (iblk m c 4 t) (iblk m c 3 t))
    (car' m c t (car m c t (k0_t1_loop (grid0.coords t)).trips) (k0_t2_loop (grid0.coords t)).trips).2
    (View.ld (iblk m c 1 t) (Rect.unit (k0_off5 (grid0.coords t)) ![512, 128] (k0_off5_inb _))) (View.ld (iblk m c 7 t) (Rect.unit (k0_off6 (grid0.coords t)) ![1, 1, 512] (k0_off6_inb _)))
    (View.ld (iblk m c 2 t) (Rect.unit (k0_off5 (grid0.coords t)) ![512, 128] (k0_off5_inb _))) y := by
  unfold outsAt0
  frame_out
  rfl

theorem car_end : car' m c t (car m c t (k0_t1_loop (grid0.coords t)).trips) (k0_t2_loop (grid0.coords t)).trips = car m c t (ti t).val := by
  rw [trips_zero, trips_eq, (coords t).2]
  exact st_k0_t2_zero ..

end

end Cert.BwdQIdeal.Final

end
-- ==== Proof.QFinal.lean ====
/- What the query gradient kernel leaves in its two results. -/
module

public import proofs.«01_k».proof.Proof.QBlk

@[expose] public section

set_option maxRecDepth 16384

noncomputable section

open Idealize.ShloMosaic Idealize.ShloMosaic.TcCoe Idealize.SL.Sem
open Idealize.ShloMosaic.Pipeline (Dat)

namespace Cert.BwdQIdeal.Final

open Cert.BwdQIdeal Cert.BwdQIdeal.Gen Cert.Attn

/-- A matrix of reals as an array. -/
def M2 (f : Fin 4096 → Fin 1024 → ℝ) : Vec Ideal S4096x1024 .bf16 := fun y => ((f (y 0) (y 1) : ℝ) : EReal)

/-- A matrix of reals over lanes as an array. -/
def M3 (f : Fin 8 → Fin 4096 → ℝ) : Vec Ideal S8x4096x128 .f32 := fun y => ((f (y 0) (y 1) : ℝ) : EReal)

theorem ix3_one {a b : ℕ} (x : Fin 1) (r : Fin a) (l : Fin b) : ix3 x r l = ix3 0 r l := by rw [Subsingleton.elim x 0]

section

variable {m : (ℓ : Loc nD τ sig) → Buf (Elt Ideal) ℓ} {c : Dev nD} {q k v g : Fin 4096 → Fin 1024 → ℝ} {w : Fin 4096 → Fin 8 → ℝ}
  (hq : IsM (A0 m c) q) (hk : IsM (A1 m c) k) (hv : IsM (A2 m c) v) (hw : IsM (A3 m c) w) (hg : IsM (A4 m c) g)

include hq hk hv hw hg

/-- What a grid point leaves in its two output blocks. -/
theorem point (t : Fin cfg0.N) :
    (∀ r l, (outsAt0 m c t).1 (ix2 r l) = (((∑ j, ds q k v g w (th t) (pos (ti t) r) j * k j (col (th t) l)) * (Real.sqrt 128)⁻¹ : ℝ) : EReal))
      ∧ ∀ r l, (outsAt0 m c t).2 (ix3 0 r l) = ((∑ j, ds q k v g w (th t) (pos (ti t) r) j : ℝ) : EReal) := by
  have c0 := (coords t).1
  have c1 := (coords t).2
  have bq : ∀ r l, (iblk m c 0 t : Vec Ideal S512x128 .bf16) (ix2 r l) = ((q (pos (ti t) r) (col (th t) l) : ℝ) : EReal) := fun r l => (blk0 m c t r l).trans (hq _ _)
  have bg : ∀ r l, (iblk m c 4 t : Vec Ideal S512x128 .bf16) (ix2 r l) = ((g (pos (ti t) r) (col (th t) l) : ℝ) : EReal) := fun r l => (blk4 m c t r l).trans (hg _ _)
  have bo : ∀ r l, (iblk m c 3 t : Vec Ideal S512x128 .f32) (ix2 r l) = ((ou q k v w (pos (ti t) r) (col (th t) l) : ℝ) : EReal) :=
    fun r l => (blk3 m c t r l).trans (out_at hq hk hv hw _ _)
  have bc : ∀ r, k0_pay4 (grid0.coords t) (iblk m c 6 t : Vec Ideal S512x128 .f32) (ix2 r 0) = ((w (pos (ti t) r) (th t) : ℝ) : EReal) := fun r => by
    pointwise [k0_pay4]
    simp only [blk6]
    rw [c0, Finset.sum_congr rfl fun x _ => by rw [col_at hw], pick (fun x => if h : x.val < 8 then w (pos (ti t) r) ⟨x.val, h⟩ else 0) (th t)]
    exact congrArg _ (dif_pos (th t).2)
  have bl : ∀ r, k0_pay5 (iblk m c 5 t : Vec Ideal S1x512x128 .f32) (ix2 r 0) = ((lg (sc q k w (th t)) (pos (ti t) r) : ℝ) : EReal) := fun r => by
    pointwise [k0_pay5]
    simp only [blk5]
    rw [ofBits_bot]
    exact (Finset.fold_congr fun x _ => lse_at' hq hk hw _ _ _).trans (fold_const (by omega) _)
  have bd : ∀ r, k0_pay6 (iblk m c 4 t : Vec Ideal S512x128 .bf16) (iblk m c 3 t : Vec Ideal S512x128 .f32) (ix2 r 0) = ((dd q k v g w (th t) (pos (ti t) r) : ℝ) : EReal) := fun r => by
    pointwise [k0_pay6]
    rw [Finset.sum_congr rfl fun x _ => by rw [bg, bo], dd_scalar]
  have bk : ∀ p l, (iblk m c 1 t : Vec Ideal S4096x128 .bf16) (ix2 p l) = ((k p (col (th t) l) : ℝ) : EReal) := fun r l => (blk1 m c t r l).trans (hk _ _)
  have bv : ∀ p l, (iblk m c 2 t : Vec Ideal S4096x128 .bf16) (ix2 p l) = ((v p (col (th t) l) : ℝ) : EReal) := fun r l => (blk2 m c t r l).trans (hv _ _)
  have by' : ∀ b x, (iblk m c 7 t : Vec Ideal S64x1x512 .f32) (ix3 b 0 x) = ((w (bp b x) (bh b) : ℝ) : EReal) := fun b x => (blk7 m c t b x).trans (row_at hw b x)
  have o5 := k0_off5_eq (grid0.coords t)
  have o6 := k0_off6_eq (grid0.coords t)
  rw [c1] at o5
  rw [c0, c1] at o6
  have tk := ld_tile bk (ti t) o5 (k0_off5_inb _)
  have tv := ld_tile bv (ti t) o5 (k0_off5_inb _)
  have ty := ld_row by' (th t) (ti t) o6 (k0_off6_inb _)
  have I := loop_inv Variants.none c none (grid0.coords t) (ms0_0 t) (hs0_0 t) (ms0_1 t) (hs0_1 t) (ms0_2 t) (hs0_2 t) (ms0_3 t) (hs0_3 t) (ms0_4 t) (hs0_4 t)
    (ms0_5 t) (hs0_5 t) (ms0_6 t) (hs0_6 t) (ms0_7 t) (hs0_7 t) (ms0_8 t) (hs0_8 t) (ms0_9 t) (hs0_9 t) c0 c1 bq bg bc bl bd bk bv by' (ti t).val le_rfl
  obtain ⟨I1, I2⟩ := I
  refine ⟨fun r l => ?_, fun r l => ?_⟩
  · rw [outs1, car_end]
    refine (diag_q bq bg bc bl bd tk ty tv _ r l).trans ?_
    rw [I1 r l, ← EReal.coe_add, ← EReal.coe_mul,
      ← pre_tile (fun j => ds q k v g w (th t) (pos (ti t) r) j * k j (col (th t) l)) (ti t), pre_eq _ _ (by omega)]
    exact fun x hx => by rw [ds_after _ _ _ _ _ _ _ _ (after hx), zero_mul]
  · rw [outs2, car_end]
    refine (diag_c bq bg bc bl bd tk ty tv _ r l).trans ?_
    rw [I2 r, ← EReal.coe_add,
      ← pre_tile (fun j => ds q k v g w (th t) (pos (ti t) r) j) (ti t), pre_eq _ _ (by omega)]
    exact fun x hx => ds_after _ _ _ _ _ _ _ _ (after hx)

/-- The first result: the gradient of the queries. -/
theorem res8 : IsM (a := 4096) (b := 1024) (φ := .bf16) ((dats m 0 c).arrAt 8 cfg0.N) fun i l => ∑ j, ds q k v g w (hd l) i j / Real.sqrt 128 * k j l := by
  have e : (dats m 0 c).arrAt 8 cfg0.N = M2 fun i l => (∑ j, ds q k v g w (hd l) i j * k j l) * (Real.sqrt 128)⁻¹ := by
    refine (dats m 0 c).arrAt_eq_of_covers 8 _ (by decide +kernel) fun t _ y => ?_
    blk_simp [idx t]
    rw [after0_8]
    obtain ⟨r, l, rfl⟩ : ∃ (r : Fin 512) (l : Fin 128), y = ix2 r l := ⟨y 0, y 1, by idx_vars y⟩
    refine ((point hq hk hv hw hg t).1 r l).trans ?_
    refine Eq.trans ?_ (emb8 t _ r l).symm
    show _ = (((∑ j, ds q k v g w (hd (col (th t) l)) (pos (ti t) r) j * k j (col (th t) l)) * (Real.sqrt 128)⁻¹ : ℝ) : EReal)
    rw [hd_col]
  intro i l
  rw [e]
  show (((∑ j, ds q k v g w (hd l) i j * k j l) * (Real.sqrt 128)⁻¹ : ℝ) : EReal) = ((∑ j, ds q k v g w (hd l) i j / Real.sqrt 128 * k j l : ℝ) : EReal)
  rw [Finset.sum_mul]
  exact congrArg _ (Finset.sum_congr rfl fun j _ => by ring)

/-- The second result: the queries' part of the gradient of the gate's running sums. -/
theorem res9 : IsA (a := 8) (b := 4096) (d := 128) (φ := .f32) ((dats m 0 c).arrAt 9 cfg0.N) fun h i _ => ∑ j, ds q k v g w h i j := by
  have e : (dats m 0 c).arrAt 9 cfg0.N = M3 fun h i => ∑ j, ds q k v g w h i j := by
    refine (dats m 0 c).arrAt_eq_of_covers 9 _ (by decide +kernel) fun t _ y => ?_
    blk_simp [idx t]
    rw [after0_9]
    obtain ⟨r, l, rfl⟩ : ∃ (r : Fin 512) (l : Fin 128), y = ix3 0 r l := ⟨y 1, y 2, by idx_vars y; exact ix3_one _ _ _⟩
    refine ((point hq hk hv hw hg t).2 r l).trans ?_
    exact (emb9 t (M3 fun h i => ∑ j, ds q k v g w h i j) r l).symm
  intro h i x
  rw [e]
  rfl

end

end Cert.BwdQIdeal.Final

end
-- ==== Proof.RunQ.lean ====
/- The host program `RefQIdeal` as the list of its operations, and its run: each result at the steps of the attention
   (`Proof.Stages`) applied to the arguments, the arguments unchanged. -/
module

public import proofs.«01_k».proof.Proof.Gen.RefQIdeal
public import proofs.«01_k».proof.Proof.Stages
public import Idealize.ShloMosaic.Lib.StableHlo.Run

@[expose] public section

noncomputable section

namespace Cert.RefQIdeal.Steps

open Cert.RefQIdeal Cert.RefQIdeal.Gen Idealize.ShloMosaic Idealize.ShloMosaic.TcCoe Idealize.SL.Sem Idealize.ShloMosaic.StableHlo

variable {F : FTy → Type} [FloatOps F]

/-- The operations in order. -/
abbrev ops : List (HloOp τ sig (Elt F)) :=
  [ unary main_arg0 main_v0 ((extf .f32 · bitsLt_bf16_f32) : (⟨S4096x1024, .bf16⟩ : BufTy).Contents (Elt F) → (⟨S4096x1024, .f32⟩ : BufTy).Contents (Elt F)),
    unary main_arg1 main_v1 ((extf .f32 · bitsLt_bf16_f32) : (⟨S4096x1024, .bf16⟩ : BufTy).Contents (Elt F) → (⟨S4096x1024, .f32⟩ : BufTy).Contents (Elt F)),
    unary main_arg2 main_v2 ((extf .f32 · bitsLt_bf16_f32) : (⟨S4096x1024, .bf16⟩ : BufTy).Contents (Elt F) → (⟨S4096x1024, .f32⟩ : BufTy).Contents (Elt F)),
    unary main_arg4 main_v3 ((extf .f32 · bitsLt_bf16_f32) : (⟨S4096x1024, .bf16⟩ : BufTy).Contents (Elt F) → (⟨S4096x1024, .f32⟩ : BufTy).Contents (Elt F)),
    reshape main_v0 main_v4 (rfl : (.f32 : EltTy) = .f32) shapeCasts_S4096x1024_S4096x8x128,
    reshape main_v1 main_v5 (rfl : (.f32 : EltTy) = .f32) shapeCasts_S4096x1024_S4096x8x128,
    binary main_v4 main_v5 main_v6 ((fun l r => Host.dotGeneral dot_S4096x8x128_S4096x8x128_S8x4096x4096_2_2_0_0_1_1 none l r) : (⟨S4096x8x128, .f32⟩ : BufTy).Contents (Elt F) → (⟨S4096x8x128, .f32⟩ : BufTy).Contents (Elt F) → (⟨S8x4096x4096, .f32⟩ : BufTy).Contents (Elt F)),
    nullary main_cst (constant S_ .f32 0x43000000#32),
    unary main_cst main_v7 (Host.sqrt : (⟨S_, .f32⟩ : BufTy).Contents (Elt F) → (⟨S_, .f32⟩ : BufTy).Contents (Elt F)),
    unary main_v7 main_v8 (broadcastInDim S8x4096x4096 ![] bcast_S_S8x4096x4096 : (⟨S_, .f32⟩ : BufTy).Contents (Elt F) → (⟨S8x4096x4096, .f32⟩ : BufTy).Contents (Elt F)),
    binary main_v6 main_v8 main_v9 (Host.divf : (⟨S8x4096x4096, .f32⟩ : BufTy).Contents (Elt F) → (⟨S8x4096x4096, .f32⟩ : BufTy).Contents (Elt F) → (⟨S8x4096x4096, .f32⟩ : BufTy).Contents (Elt F)),
    unary main_arg3 main_v10 ((transpose S8x4096 [1, 0] · transposes_S4096x8_S8x4096_1_0) : (⟨S4096x8, .f32⟩ : BufTy).Contents (Elt F) → (⟨S8x4096, .f32⟩ : BufTy).Contents (Elt F)),
    unary main_v10 main_v11 (broadcastInDim S8x4096x1 ![0, 1] bcast_S8x4096_S8x4096x1_0_1 : (⟨S8x4096, .f32⟩ : BufTy).Contents (Elt F) → (⟨S8x4096x1, .f32⟩ : BufTy).Contents (Elt F)),
    unary main_v11 main_v12 (broadcastInDim S8x4096x4096 ![0, 1, 2] bcast_S8x4096x1_S8x4096x4096_0_1_2 : (⟨S8x4096x1, .f32⟩ : BufTy).Contents (Elt F) → (⟨S8x4096x4096, .f32⟩ : BufTy).Contents (Elt F)),
    binary main_v9 main_v12 main_v13 (addf : (⟨S8x4096x4096, .f32⟩ : BufTy).Contents (Elt F) → (⟨S8x4096x4096, .f32⟩ : BufTy).Contents (Elt F) → (⟨S8x4096x4096, .f32⟩ : BufTy).Contents (Elt F)),
    unary main_arg3 main_v14 ((transpose S8x4096 [1, 0] · transposes_S4096x8_S8x4096_1_0) : (⟨S4096x8, .f32⟩ : BufTy).Contents (Elt F) → (⟨S8x4096, .f32⟩ : BufTy).Contents (Elt F)),
    unary main_v14 main_v15 (broadcastInDim S8x1x4096 ![0, 2] bcast_S8x4096_S8x1x4096_0_2 : (⟨S8x4096, .f32⟩ : BufTy).Contents (Elt F) → (⟨S8x1x4096, .f32⟩ : BufTy).Contents (Elt F)),
    unary main_v15 main_v16 (broadcastInDim S8x4096x4096 ![0, 1, 2] bcast_S8x1x4096_S8x4096x4096_0_1_2 : (⟨S8x1x4096, .f32⟩ : BufTy).Contents (Elt F) → (⟨S8x4096x4096, .f32⟩ : BufTy).Contents (Elt F)),
    binary main_v13 main_v16 main_v17 (subf : (⟨S8x4096x4096, .f32⟩ : BufTy).Contents (Elt F) → (⟨S8x4096x4096, .f32⟩ : BufTy).Contents (Elt F) → (⟨S8x4096x4096, .f32⟩ : BufTy).Contents (Elt F)),
    nullary main_v18 (iotaInDim S4096 32 0),
    unary main_v18 main_v19 (broadcastInDim S4096x1 ![0] bcast_S4096_S4096x1_0 : (⟨S4096, .i32⟩ : BufTy).Contents (Elt F) → (⟨S4096x1, .i32⟩ : BufTy).Contents (Elt F)),
    nullary main_v20 (iotaInDim S4096 32 0),
    unary main_v20 main_v21 (broadcastInDim S1x4096 ![1] bcast_S4096_S1x4096_1 : (⟨S4096, .i32⟩ : BufTy).Contents (Elt F) → (⟨S1x4096, .i32⟩ : BufTy).Contents (Elt F)),
    unary main_v19 main_v22 (broadcastInDim S4096x4096 ![0, 1] bcast_S4096x1_S4096x4096_0_1 : (⟨S4096x1, .i32⟩ : BufTy).Contents (Elt F) → (⟨S4096x4096, .i32⟩ : BufTy).Contents (Elt F)),
    unary main_v21 main_v23 (broadcastInDim S4096x4096 ![0, 1] bcast_S1x4096_S4096x4096_0_1 : (⟨S1x4096, .i32⟩ : BufTy).Contents (Elt F) → (⟨S4096x4096, .i32⟩ : BufTy).Contents (Elt F)),
    binary main_v22 main_v23 main_v24 (cmpi .sge : (⟨S4096x4096, .i32⟩ : BufTy).Contents (Elt F) → (⟨S4096x4096, .i32⟩ : BufTy).Contents (Elt F) → (⟨S4096x4096, .i1⟩ : BufTy).Contents (Elt F)),
    nullary main_cst_0 (constant S_ .f32 0xFF800000#32),
    TRef.unary (TRef.of (T := ⟨S_, .f32⟩) main_cst_0) (TRef.of (T := ⟨S_, .f32⟩) main_call0_v0) id,
    TRef.unary (TRef.of (T := ⟨S4096x4096, .i1⟩) main_v24) (TRef.of (T := ⟨S8x4096x4096, .i1⟩) main_v25_1) (broadcastInDim S8x4096x4096 ![1, 2] bcast_S4096x4096_S8x4096x4096_1_2),
    TRef.unary (TRef.of (T := ⟨S_, .f32⟩) main_call0_v0) (TRef.of (T := ⟨S8x4096x4096, .f32⟩) main_call0_v2) (broadcastInDim S8x4096x4096 ![] bcast_S_S8x4096x4096),
    TRef.ternary (TRef.of (T := ⟨S8x4096x4096, .i1⟩) main_v25_1) (TRef.of (T := ⟨S8x4096x4096, .f32⟩) main_v17) (TRef.of (T := ⟨S8x4096x4096, .f32⟩) main_call0_v2) (TRef.of (T := ⟨S8x4096x4096, .f32⟩) main_v25_0) select,
    TRef.nullary (TRef.of (T := ⟨S_, .f32⟩) main_call0_cst) (constant S_ .f32 0x00000000#32),
    TRef.unary (TRef.of (T := ⟨S_, .f32⟩) main_call0_cst) (TRef.of (T := ⟨S8x4096x4096, .f32⟩) main_v25_2) (broadcastInDim S8x4096x4096 ![] bcast_S_S8x4096x4096),
    nullary main_cst_1 (constant S_ .f32 0xFF800000#32),
    binary main_v25_0 main_cst_1 main_v26 ((fun x v => Host.reduce FloatOps.maximumf x v reducesTo_S8x4096x4096_S8x4096_d2 h_S_) : (⟨S8x4096x4096, .f32⟩ : BufTy).Contents (Elt F) → (⟨S_, .f32⟩ : BufTy).Contents (Elt F) → (⟨S8x4096, .f32⟩ : BufTy).Contents (Elt F)),
    reshape main_v26 main_v27 (rfl : (.f32 : EltTy) = .f32) shapeCasts_S8x4096_S8x4096x1,
    unary main_v27 main_v28 (broadcastInDim S8x4096x4096 ![0, 1, 2] bcast_S8x4096x1_S8x4096x4096_0_1_2 : (⟨S8x4096x1, .f32⟩ : BufTy).Contents (Elt F) → (⟨S8x4096x4096, .f32⟩ : BufTy).Contents (Elt F)),
    binary main_v25_0 main_v28 main_v29 (cmpf .oeq : (⟨S8x4096x4096, .f32⟩ : BufTy).Contents (Elt F) → (⟨S8x4096x4096, .f32⟩ : BufTy).Contents (Elt F) → (⟨S8x4096x4096, .i1⟩ : BufTy).Contents (Elt F)),
    unary main_v29 main_v30 (uitofp .f32 : (⟨S8x4096x4096, .i1⟩ : BufTy).Contents (Elt F) → (⟨S8x4096x4096, .f32⟩ : BufTy).Contents (Elt F)),
    nullary main_cst_2 (constant S_ .f32 0x00000000#32),
    binary main_v30 main_cst_2 main_v31 ((fun x v => Host.reduceAdd x v reducesTo_S8x4096x4096_S8x4096_d2 h_S_) : (⟨S8x4096x4096, .f32⟩ : BufTy).Contents (Elt F) → (⟨S_, .f32⟩ : BufTy).Contents (Elt F) → (⟨S8x4096, .f32⟩ : BufTy).Contents (Elt F)),
    nullary main_cst_3 (constant S_ .f32 0xFF800000#32),
    unary main_cst_3 main_v32 (broadcastInDim S8x4096 ![] bcast_S_S8x4096 : (⟨S_, .f32⟩ : BufTy).Contents (Elt F) → (⟨S8x4096, .f32⟩ : BufTy).Contents (Elt F)),
    binary main_v32 main_v26 main_v33 (maximumf : (⟨S8x4096, .f32⟩ : BufTy).Contents (Elt F) → (⟨S8x4096, .f32⟩ : BufTy).Contents (Elt F) → (⟨S8x4096, .f32⟩ : BufTy).Contents (Elt F)),
    nullary main_cst_4 (constant S_ .f32 0xFF800000#32),
    unary main_cst_4 main_v34 (broadcastInDim S8x4096 ![] bcast_S_S8x4096 : (⟨S_, .f32⟩ : BufTy).Contents (Elt F) → (⟨S8x4096, .f32⟩ : BufTy).Contents (Elt F)),
    binary main_v26 main_v34 main_v35 (cmpf .ogt : (⟨S8x4096, .f32⟩ : BufTy).Contents (Elt F) → (⟨S8x4096, .f32⟩ : BufTy).Contents (Elt F) → (⟨S8x4096, .i1⟩ : BufTy).Contents (Elt F)),
    nullary main_cst_5 (constant S_ .f32 0xFF800000#32),
    unary main_cst_5 main_v36 (broadcastInDim S8x4096 ![] bcast_S_S8x4096 : (⟨S_, .f32⟩ : BufTy).Contents (Elt F) → (⟨S8x4096, .f32⟩ : BufTy).Contents (Elt F)),
    binary main_v26 main_v36 main_v37 (cmpf .oeq : (⟨S8x4096, .f32⟩ : BufTy).Contents (Elt F) → (⟨S8x4096, .f32⟩ : BufTy).Contents (Elt F) → (⟨S8x4096, .i1⟩ : BufTy).Contents (Elt F)),
    nullary main_cst_6 (constant S_ .f32 0x3F800000#32),
    unary main_cst_6 main_v38 (broadcastInDim S8x4096 ![] bcast_S_S8x4096 : (⟨S_, .f32⟩ : BufTy).Contents (Elt F) → (⟨S8x4096, .f32⟩ : BufTy).Contents (Elt F)),
    nullary main_cst_7 (constant S_ .f32 0x00000000#32),
    unary main_cst_7 main_v39 (broadcastInDim S8x4096 ![] bcast_S_S8x4096 : (⟨S_, .f32⟩ : BufTy).Contents (Elt F) → (⟨S8x4096, .f32⟩ : BufTy).Contents (Elt F)),
    nullary main_cst_8 (constant S_ .f32 0x3F000000#32),
    unary main_cst_8 main_v40 (broadcastInDim S8x4096 ![] bcast_S_S8x4096 : (⟨S_, .f32⟩ : BufTy).Contents (Elt F) → (⟨S8x4096, .f32⟩ : BufTy).Contents (Elt F)),
    ternary main_v37 main_v40 main_v39 main_v41 (select : (⟨S8x4096, .i1⟩ : BufTy).Contents (Elt F) → (⟨S8x4096, .f32⟩ : BufTy).Contents (Elt F) → (⟨S8x4096, .f32⟩ : BufTy).Contents (Elt F) → (⟨S8x4096, .f32⟩ : BufTy).Contents (Elt F)),
    ternary main_v35 main_v38 main_v41 main_v42 (select : (⟨S8x4096, .i1⟩ : BufTy).Contents (Elt F) → (⟨S8x4096, .f32⟩ : BufTy).Contents (Elt F) → (⟨S8x4096, .f32⟩ : BufTy).Contents (Elt F) → (⟨S8x4096, .f32⟩ : BufTy).Contents (Elt F)),
    unary main_v33 main_v43 (broadcastInDim S8x4096x1 ![0, 1] bcast_S8x4096_S8x4096x1_0_1 : (⟨S8x4096, .f32⟩ : BufTy).Contents (Elt F) → (⟨S8x4096x1, .f32⟩ : BufTy).Contents (Elt F)),
    unary main_v43 main_v44 (broadcastInDim S8x4096x4096 ![0, 1, 2] bcast_S8x4096x1_S8x4096x4096_0_1_2 : (⟨S8x4096x1, .f32⟩ : BufTy).Contents (Elt F) → (⟨S8x4096x4096, .f32⟩ : BufTy).Contents (Elt F)),
    binary main_v25_0 main_v44 main_v45 (subf : (⟨S8x4096x4096, .f32⟩ : BufTy).Contents (Elt F) → (⟨S8x4096x4096, .f32⟩ : BufTy).Contents (Elt F) → (⟨S8x4096x4096, .f32⟩ : BufTy).Contents (Elt F)),
    unary main_v45 main_v46 (Host.exp : (⟨S8x4096x4096, .f32⟩ : BufTy).Contents (Elt F) → (⟨S8x4096x4096, .f32⟩ : BufTy).Contents (Elt F)),
    nullary main_cst_9 (constant S_ .f32 0x00000000#32),
    binary main_v46 main_cst_9 main_v47 ((fun x v => Host.reduceAdd x v reducesTo_S8x4096x4096_S8x4096_d2 h_S_) : (⟨S8x4096x4096, .f32⟩ : BufTy).Contents (Elt F) → (⟨S_, .f32⟩ : BufTy).Contents (Elt F) → (⟨S8x4096, .f32⟩ : BufTy).Contents (Elt F)),
    unary main_v47 main_v48 (broadcastInDim S8x4096x1 ![0, 1] bcast_S8x4096_S8x4096x1_0_1 : (⟨S8x4096, .f32⟩ : BufTy).Contents (Elt F) → (⟨S8x4096x1, .f32⟩ : BufTy).Contents (Elt F)),
    unary main_v48 main_v49 (broadcastInDim S8x4096x4096 ![0, 1, 2] bcast_S8x4096x1_S8x4096x4096_0_1_2 : (⟨S8x4096x1, .f32⟩ : BufTy).Contents (Elt F) → (⟨S8x4096x4096, .f32⟩ : BufTy).Contents (Elt F)),
    binary main_v46 main_v49 main_v50 (Host.divf : (⟨S8x4096x4096, .f32⟩ : BufTy).Contents (Elt F) → (⟨S8x4096x4096, .f32⟩ : BufTy).Contents (Elt F) → (⟨S8x4096x4096, .f32⟩ : BufTy).Contents (Elt F)),
    binary main_v48 main_v48 main_v51 (mulf : (⟨S8x4096x1, .f32⟩ : BufTy).Contents (Elt F) → (⟨S8x4096x1, .f32⟩ : BufTy).Contents (Elt F) → (⟨S8x4096x1, .f32⟩ : BufTy).Contents (Elt F)),
    nullary main_cst_10 (constant S_ .f32 0x3F800000#32),
    unary main_cst_10 main_v52 (broadcastInDim S8x4096x1 ![] bcast_S_S8x4096x1 : (⟨S_, .f32⟩ : BufTy).Contents (Elt F) → (⟨S8x4096x1, .f32⟩ : BufTy).Contents (Elt F)),
    binary main_v52 main_v51 main_v53 (Host.divf : (⟨S8x4096x1, .f32⟩ : BufTy).Contents (Elt F) → (⟨S8x4096x1, .f32⟩ : BufTy).Contents (Elt F) → (⟨S8x4096x1, .f32⟩ : BufTy).Contents (Elt F)),
    reshape main_v2 main_v54 (rfl : (.f32 : EltTy) = .f32) shapeCasts_S4096x1024_S4096x8x128,
    binary main_v54 main_v50 main_v55 ((fun l r => Host.dotGeneral dot_S4096x8x128_S8x4096x4096_S8x128x4096_0_2_2_1_1_0 none l r) : (⟨S4096x8x128, .f32⟩ : BufTy).Contents (Elt F) → (⟨S8x4096x4096, .f32⟩ : BufTy).Contents (Elt F) → (⟨S8x128x4096, .f32⟩ : BufTy).Contents (Elt F)),
    unary main_v55 main_v56 ((transpose S4096x8x128 [2, 0, 1] · transposes_S8x128x4096_S4096x8x128_2_0_1) : (⟨S8x128x4096, .f32⟩ : BufTy).Contents (Elt F) → (⟨S4096x8x128, .f32⟩ : BufTy).Contents (Elt F)),
    reshape main_v56 main_v57 (rfl : (.f32 : EltTy) = .f32) shapeCasts_S4096x8x128_S4096x1024,
    reshape main_v3 main_v58 (rfl : (.f32 : EltTy) = .f32) shapeCasts_S4096x1024_S4096x8x128,
    unary main_v58 main_v59 ((transpose S8x128x4096 [1, 2, 0] · transposes_S4096x8x128_S8x128x4096_1_2_0) : (⟨S4096x8x128, .f32⟩ : BufTy).Contents (Elt F) → (⟨S8x128x4096, .f32⟩ : BufTy).Contents (Elt F)),
    binary main_v59 main_v54 main_v60 ((fun l r => Host.dotGeneral dot_S8x128x4096_S4096x8x128_S8x4096x4096_1_2_2_0_0_1 none l r) : (⟨S8x128x4096, .f32⟩ : BufTy).Contents (Elt F) → (⟨S4096x8x128, .f32⟩ : BufTy).Contents (Elt F) → (⟨S8x4096x4096, .f32⟩ : BufTy).Contents (Elt F)),
    unary main_v53 main_v61 (broadcastInDim S8x4096x4096 ![0, 1, 2] bcast_S8x4096x1_S8x4096x4096_0_1_2 : (⟨S8x4096x1, .f32⟩ : BufTy).Contents (Elt F) → (⟨S8x4096x4096, .f32⟩ : BufTy).Contents (Elt F)),
    binary main_v60 main_v61 main_v62 (mulf : (⟨S8x4096x4096, .f32⟩ : BufTy).Contents (Elt F) → (⟨S8x4096x4096, .f32⟩ : BufTy).Contents (Elt F) → (⟨S8x4096x4096, .f32⟩ : BufTy).Contents (Elt F)),
    binary main_v62 main_v46 main_v63 (mulf : (⟨S8x4096x4096, .f32⟩ : BufTy).Contents (Elt F) → (⟨S8x4096x4096, .f32⟩ : BufTy).Contents (Elt F) → (⟨S8x4096x4096, .f32⟩ : BufTy).Contents (Elt F)),
    nullary main_cst_11 (constant S_ .f32 0x00000000#32),
    binary main_v63 main_cst_11 main_v64 ((fun x v => Host.reduceAdd x v reducesTo_S8x4096x4096_S8x4096_d2 h_S_) : (⟨S8x4096x4096, .f32⟩ : BufTy).Contents (Elt F) → (⟨S_, .f32⟩ : BufTy).Contents (Elt F) → (⟨S8x4096, .f32⟩ : BufTy).Contents (Elt F)),
    reshape main_v64 main_v65 (rfl : (.f32 : EltTy) = .f32) shapeCasts_S8x4096_S8x4096x1,
    unary main_v65 main_v66 (Host.negf : (⟨S8x4096x1, .f32⟩ : BufTy).Contents (Elt F) → (⟨S8x4096x1, .f32⟩ : BufTy).Contents (Elt F)),
    unary main_v48 main_v67 (broadcastInDim S8x4096x4096 ![0, 1, 2] bcast_S8x4096x1_S8x4096x4096_0_1_2 : (⟨S8x4096x1, .f32⟩ : BufTy).Contents (Elt F) → (⟨S8x4096x4096, .f32⟩ : BufTy).Contents (Elt F)),
    binary main_v60 main_v67 main_v68 (Host.divf : (⟨S8x4096x4096, .f32⟩ : BufTy).Contents (Elt F) → (⟨S8x4096x4096, .f32⟩ : BufTy).Contents (Elt F) → (⟨S8x4096x4096, .f32⟩ : BufTy).Contents (Elt F)),
    nullary main_cst_12 (constant S_ .f32 0x00000000#32),
    binary main_v66 main_cst_12 main_v69 ((fun x v => Host.reduceAdd x v reducesTo_S8x4096x1_S8x4096_d2 h_S_) : (⟨S8x4096x1, .f32⟩ : BufTy).Contents (Elt F) → (⟨S_, .f32⟩ : BufTy).Contents (Elt F) → (⟨S8x4096, .f32⟩ : BufTy).Contents (Elt F)),
    unary main_v69 main_v70 (broadcastInDim S8x4096x4096 ![0, 1] bcast_S8x4096_S8x4096x4096_0_1 : (⟨S8x4096, .f32⟩ : BufTy).Contents (Elt F) → (⟨S8x4096x4096, .f32⟩ : BufTy).Contents (Elt F)),
    binary main_v68 main_v70 main_v71 (addf : (⟨S8x4096x4096, .f32⟩ : BufTy).Contents (Elt F) → (⟨S8x4096x4096, .f32⟩ : BufTy).Contents (Elt F) → (⟨S8x4096x4096, .f32⟩ : BufTy).Contents (Elt F)),
    binary main_v71 main_v46 main_v72 (mulf : (⟨S8x4096x4096, .f32⟩ : BufTy).Contents (Elt F) → (⟨S8x4096x4096, .f32⟩ : BufTy).Contents (Elt F) → (⟨S8x4096x4096, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S8x4096x4096, .f32⟩) main_call1_v0) (broadcastInDim S8x4096x4096 ![] bcast_S_S8x4096x4096),
    TRef.ternary (TRef.of (T := ⟨S8x4096x4096, .i1⟩) main_v25_1) (TRef.of (T := ⟨S8x4096x4096, .f32⟩) main_v72) (TRef.of (T := ⟨S8x4096x4096, .f32⟩) main_call1_v0) (TRef.of (T := ⟨S8x4096x4096, .f32⟩) main_v73) select,
    nullary main_cst_13 (constant S_ .f32 0x00000000#32),
    binary main_v73 main_cst_13 main_v74 ((fun x v => Host.reduceAdd x v reducesTo_S8x4096x4096_S8x4096_d2 h_S_) : (⟨S8x4096x4096, .f32⟩ : BufTy).Contents (Elt F) → (⟨S_, .f32⟩ : BufTy).Contents (Elt F) → (⟨S8x4096, .f32⟩ : BufTy).Contents (Elt F)),
    reshape main_v74 main_v75 (rfl : (.f32 : EltTy) = .f32) shapeCasts_S8x4096_S8x4096x1,
    nullary main_cst_14 (constant S_ .f32 0x00000000#32),
    binary main_v75 main_cst_14 main_v76 ((fun x v => Host.reduceAdd x v reducesTo_S8x4096x1_S8x4096_d2 h_S_) : (⟨S8x4096x1, .f32⟩ : BufTy).Contents (Elt F) → (⟨S_, .f32⟩ : BufTy).Contents (Elt F) → (⟨S8x4096, .f32⟩ : BufTy).Contents (Elt F)),
    unary main_v76 main_v77 ((transpose S4096x8 [1, 0] · transposes_S8x4096_S4096x8_1_0) : (⟨S8x4096, .f32⟩ : BufTy).Contents (Elt F) → (⟨S4096x8, .f32⟩ : BufTy).Contents (Elt F)),
    unary main_v7 main_v78 (broadcastInDim S8x4096x4096 ![] bcast_S_S8x4096x4096 : (⟨S_, .f32⟩ : BufTy).Contents (Elt F) → (⟨S8x4096x4096, .f32⟩ : BufTy).Contents (Elt F)),
    binary main_v73 main_v78 main_v79 (Host.divf : (⟨S8x4096x4096, .f32⟩ : BufTy).Contents (Elt F) → (⟨S8x4096x4096, .f32⟩ : BufTy).Contents (Elt F) → (⟨S8x4096x4096, .f32⟩ : BufTy).Contents (Elt F)),
    binary main_v79 main_v5 main_v80 ((fun l r => Host.dotGeneral dot_S8x4096x4096_S4096x8x128_S8x4096x128_2_0_1_2_0_1 none l r) : (⟨S8x4096x4096, .f32⟩ : BufTy).Contents (Elt F) → (⟨S4096x8x128, .f32⟩ : BufTy).Contents (Elt F) → (⟨S8x4096x128, .f32⟩ : BufTy).Contents (Elt F)),
    unary main_v80 main_v81 ((transpose S4096x8x128 [1, 0, 2] · transposes_S8x4096x128_S4096x8x128_1_0_2) : (⟨S8x4096x128, .f32⟩ : BufTy).Contents (Elt F) → (⟨S4096x8x128, .f32⟩ : BufTy).Contents (Elt F)),
    reshape main_v81 main_v82 (rfl : (.f32 : EltTy) = .f32) shapeCasts_S4096x8x128_S4096x1024,
    unary main_v82 main_v83 ((truncf .bf16 · bitsLt_bf16_f32) : (⟨S4096x1024, .f32⟩ : BufTy).Contents (Elt F) → (⟨S4096x1024, .bf16⟩ : BufTy).Contents (Elt F)),
    unary main_v77 main_v84 ((transpose S8x4096 [1, 0] · transposes_S4096x8_S8x4096_1_0) : (⟨S4096x8, .f32⟩ : BufTy).Contents (Elt F) → (⟨S8x4096, .f32⟩ : BufTy).Contents (Elt F)),
    unary main_v84 main_v85 (broadcastInDim S8x4096x1 ![0, 1] bcast_S8x4096_S8x4096x1_0_1 : (⟨S8x4096, .f32⟩ : BufTy).Contents (Elt F) → (⟨S8x4096x1, .f32⟩ : BufTy).Contents (Elt F)),
    unary main_v85 main_v86 (broadcastInDim S8x4096x128 ![0, 1, 2] bcast_S8x4096x1_S8x4096x128_0_1_2 : (⟨S8x4096x1, .f32⟩ : BufTy).Contents (Elt F) → (⟨S8x4096x128, .f32⟩ : BufTy).Contents (Elt F)) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨unary_bufs_sub .., unary_bufs_sub .., unary_bufs_sub .., unary_bufs_sub .., reshape_bufs_sub .., reshape_bufs_sub .., binary_bufs_sub .., nullary_bufs_sub .., unary_bufs_sub .., unary_bufs_sub .., binary_bufs_sub .., unary_bufs_sub .., unary_bufs_sub .., unary_bufs_sub .., binary_bufs_sub .., unary_bufs_sub .., unary_bufs_sub .., unary_bufs_sub .., binary_bufs_sub .., nullary_bufs_sub .., unary_bufs_sub .., nullary_bufs_sub .., unary_bufs_sub .., unary_bufs_sub .., unary_bufs_sub .., binary_bufs_sub .., nullary_bufs_sub .., unary_bufs_sub .., unary_bufs_sub .., unary_bufs_sub .., ternary_bufs_sub .., nullary_bufs_sub .., unary_bufs_sub .., nullary_bufs_sub .., binary_bufs_sub .., reshape_bufs_sub .., unary_bufs_sub .., binary_bufs_sub .., unary_bufs_sub .., nullary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., nullary_bufs_sub .., unary_bufs_sub .., nullary_bufs_sub .., unary_bufs_sub .., ternary_bufs_sub .., ternary_bufs_sub .., unary_bufs_sub .., unary_bufs_sub .., binary_bufs_sub .., unary_bufs_sub .., nullary_bufs_sub .., binary_bufs_sub .., unary_bufs_sub .., unary_bufs_sub .., binary_bufs_sub .., binary_bufs_sub .., nullary_bufs_sub .., unary_bufs_sub .., binary_bufs_sub .., reshape_bufs_sub .., binary_bufs_sub .., unary_bufs_sub .., reshape_bufs_sub .., reshape_bufs_sub .., unary_bufs_sub .., binary_bufs_sub .., unary_bufs_sub .., binary_bufs_sub .., binary_bufs_sub .., nullary_bufs_sub .., binary_bufs_sub .., reshape_bufs_sub .., unary_bufs_sub .., unary_bufs_sub .., binary_bufs_sub .., nullary_bufs_sub .., binary_bufs_sub .., unary_bufs_sub .., binary_bufs_sub .., binary_bufs_sub .., nullary_bufs_sub .., unary_bufs_sub .., ternary_bufs_sub .., nullary_bufs_sub .., binary_bufs_sub .., reshape_bufs_sub .., nullary_bufs_sub .., binary_bufs_sub .., unary_bufs_sub .., unary_bufs_sub .., binary_bufs_sub .., binary_bufs_sub .., unary_bufs_sub .., reshape_bufs_sub .., unary_bufs_sub .., unary_bufs_sub .., unary_bufs_sub .., unary_bufs_sub ..⟩

/-! ## The steps of the arguments -/

/-- The queries, in heads. -/
abbrev Q (m : (ℓ : Loc nD τ sig) → Buf (Elt Ideal) ℓ) (c : Dev nD) : FVec Ideal Attn.R3 .f32 := Attn.heads (extf (F := Ideal) (φ := .bf16) .f32 (m ((c.tc : Thread nD τ).loc main_arg0) : FVec Ideal Attn.R .bf16) (by decide))

/-- The keys, in heads. -/
abbrev K (m : (ℓ : Loc nD τ sig) → Buf (Elt Ideal) ℓ) (c : Dev nD) : FVec Ideal Attn.R3 .f32 := Attn.heads (extf (F := Ideal) (φ := .bf16) .f32 (m ((c.tc : Thread nD τ).loc main_arg1) : FVec Ideal Attn.R .bf16) (by decide))

/-- The values, in heads. -/
abbrev W (m : (ℓ : Loc nD τ sig) → Buf (Elt Ideal) ℓ) (c : Dev nD) : FVec Ideal Attn.R3 .f32 := Attn.heads (extf (F := Ideal) (φ := .bf16) .f32 (m ((c.tc : Thread nD τ).loc main_arg2) : FVec Ideal Attn.R .bf16) (by decide))

/-- The gates. -/
abbrev C (m : (ℓ : Loc nD τ sig) → Buf (Elt Ideal) ℓ) (c : Dev nD) : FVec Ideal Attn.C .f32 := (m ((c.tc : Thread nD τ).loc main_arg3) : FVec Ideal Attn.C .f32)

/-- The masked scores. -/
abbrev X (m : (ℓ : Loc nD τ sig) → Buf (Elt Ideal) ℓ) (c : Dev nD) : FVec Ideal Attn.A .f32 := Attn.masked (Attn.logits (Q m c) (K m c) (C m c) (C m c))

/-- The exponentials. -/
abbrev E (m : (ℓ : Loc nD τ sig) → Buf (Elt Ideal) ℓ) (c : Dev nD) : FVec Ideal Attn.A .f32 := Attn.expo (X m c) (Attn.top' (Attn.top (X m c)))

/-- Their sums. -/
abbrev L (m : (ℓ : Loc nD τ sig) → Buf (Elt Ideal) ℓ) (c : Dev nD) : FVec Ideal Attn.CT .f32 := Attn.total (E m c)

/-- The gradient of the result, in heads. -/
abbrev G (m : (ℓ : Loc nD τ sig) → Buf (Elt Ideal) ℓ) (c : Dev nD) : FVec Ideal Attn.R3 .f32 := Attn.heads (extf (F := Ideal) (φ := .bf16) .f32 (m ((c.tc : Thread nD τ).loc main_arg4) : FVec Ideal Attn.R .bf16) (by decide))

/-- The gradient of the probabilities. -/
abbrev P (m : (ℓ : Loc nD τ sig) → Buf (Elt Ideal) ℓ) (c : Dev nD) : FVec Ideal Attn.A .f32 := Attn.dprob (G m c) (W m c)

/-- The gradient of the scores. -/
abbrev S (m : (ℓ : Loc nD τ sig) → Buf (Elt Ideal) ℓ) (c : Dev nD) : FVec Ideal Attn.A .f32 := Attn.dscore (P m c) (E m c) (L m c) (Attn.dsum (P m c) (E m c) (L m c))

/-- The result `dq`. -/
abbrev dq (m : (ℓ : Loc nD τ sig) → Buf (Elt Ideal) ℓ) (c : Dev nD) : FVec Ideal Attn.R .bf16 := truncf .bf16 (Attn.dquery (Attn.scaled (S m c)) (K m c)) (by decide)

/-- The result `dcq`. -/
abbrev dcq (m : (ℓ : Loc nD τ sig) → Buf (Elt Ideal) ℓ) (c : Dev nD) : FVec Ideal Attn.Q3 .f32 := Attn.dgateQ (S m c)

set_option maxRecDepth 100000 in
theorem after_dq (m : (ℓ : Loc nD τ sig) → Buf (Elt Ideal) ℓ) (c : Dev nD) : after ops (launchContents m c) main_v83 = dq m c := by
  simp only [ops, TRef.nullary, TRef.ternary, TRef.unary, TRef.toBuf, TRef.ofBuf, cast_eq]
  after_results_simp
  dsimp only [dq, S, P, G, L, E, X, Q, K, W, C, Attn.heads, Attn.causalA, Attn.causal, Attn.rootA, Attn.root, Attn.logits, Attn.masked, Attn.top, Attn.rows, Attn.top', Attn.expo, Attn.total, Attn.quot, Attn.attend, Attn.lse, Attn.lanes, Attn.gT, Attn.dprob, Attn.dsum, Attn.dscore, Attn.dgateQ, Attn.scaled, Attn.dquery, Attn.dkey, Attn.dvalue, Attn.dgateK, Attn.padded, Attn.tiled]
  rfl

set_option maxRecDepth 100000 in
theorem after_dcq (m : (ℓ : Loc nD τ sig) → Buf (Elt Ideal) ℓ) (c : Dev nD) : after ops (launchContents m c) main_v86 = dcq m c := by
  simp only [ops, TRef.nullary, TRef.ternary, TRef.unary, TRef.toBuf, TRef.ofBuf, cast_eq]
  after_results_simp
  dsimp only [dcq, S, P, G, L, E, X, Q, K, W, C, Attn.heads, Attn.causalA, Attn.causal, Attn.rootA, Attn.root, Attn.logits, Attn.masked, Attn.top, Attn.rows, Attn.top', Attn.expo, Attn.total, Attn.quot, Attn.attend, Attn.lse, Attn.lanes, Attn.gT, Attn.dprob, Attn.dsum, Attn.dscore, Attn.dgateQ, Attn.scaled, Attn.dquery, Attn.dkey, Attn.dvalue, Attn.dgateK, Attn.padded, Attn.tiled]
  rfl

theorem after_arg0 (m : (ℓ : Loc nD τ sig) → Buf (Elt Ideal) ℓ) (c : Dev nD) : after ops (launchContents m c) main_arg0 = m ((c.tc : Thread nD τ).loc main_arg0) := by
  simp only [ops, TRef.nullary, TRef.ternary, TRef.unary, TRef.toBuf, TRef.ofBuf, cast_eq]
  after_results_simp <;> rfl

theorem after_arg1 (m : (ℓ : Loc nD τ sig) → Buf (Elt Ideal) ℓ) (c : Dev nD) : after ops (launchContents m c) main_arg1 = m ((c.tc : Thread nD τ).loc main_arg1) := by
  simp only [ops, TRef.nullary, TRef.ternary, TRef.unary, TRef.toBuf, TRef.ofBuf, cast_eq]
  after_results_simp <;> rfl

theorem after_arg2 (m : (ℓ : Loc nD τ sig) → Buf (Elt Ideal) ℓ) (c : Dev nD) : after ops (launchContents m c) main_arg2 = m ((c.tc : Thread nD τ).loc main_arg2) := by
  simp only [ops, TRef.nullary, TRef.ternary, TRef.unary, TRef.toBuf, TRef.ofBuf, cast_eq]
  after_results_simp <;> rfl

theorem after_arg3 (m : (ℓ : Loc nD τ sig) → Buf (Elt Ideal) ℓ) (c : Dev nD) : after ops (launchContents m c) main_arg3 = m ((c.tc : Thread nD τ).loc main_arg3) := by
  simp only [ops, TRef.nullary, TRef.ternary, TRef.unary, TRef.toBuf, TRef.ofBuf, cast_eq]
  after_results_simp <;> rfl

theorem after_arg4 (m : (ℓ : Loc nD τ sig) → Buf (Elt Ideal) ℓ) (c : Dev nD) : after ops (launchContents m c) main_arg4 = m ((c.tc : Thread nD τ).loc main_arg4) := by
  simp only [ops, TRef.nullary, TRef.ternary, TRef.unary, TRef.toBuf, TRef.ofBuf, cast_eq]
  after_results_simp <;> rfl

/-- Every execution from a memory with zero counters ends with each result at its steps and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v83) = dq m c ∧ r.2.mem ((c.tc : Thread nD τ).loc main_v86) = dcq m c ∧ r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) :=
  (θ_run defs _ _).mono (fun _ h c => ⟨(h c main_v83).trans (after_dq m c), (h c main_v86).trans (after_dcq m c), (h c main_arg0).trans (after_arg0 m c), (h c main_arg1).trans (after_arg1 m c), (h c main_arg2).trans (after_arg2 m c), (h c main_arg3).trans (after_arg3 m c), (h c main_arg4).trans (after_arg4 m c)⟩)
    (run_seq scopedRefs_eq scopedSems_eq defs main (fun _ => ops) main_eq (fun _ => ops_sub) m ρ)

end Cert.RefQIdeal.Steps

end
-- ==== Proof.ClaimQ.lean ====
/- The queries' gradient: kernel and reference agree on finite arguments. -/
module

public import proofs.«01_k».proof.Defs
public import proofs.«01_k».proof.Proof.QFinal
public import proofs.«01_k».proof.Proof.RunQ

@[expose] public section

set_option maxRecDepth 16384

noncomputable section

open Idealize.ShloMosaic Idealize.ShloMosaic.TcCoe Idealize.SL.Sem
open Idealize.ShloMosaic.Pipeline (Dat)

namespace Cert.RefQIdeal.Steps

open Cert.RefQIdeal Cert.Attn

variable {m : (ℓ : Loc nD τ sig) → Buf (Elt Ideal) ℓ} {c : Dev nD} {q k v g : Fin 4096 → Fin 1024 → ℝ} {w : Fin 4096 → Fin 8 → ℝ}
  (hq : IsM (a := 4096) (b := 1024) (φ := .bf16) (m ((c.tc : Thread nD τ).loc main_arg0)) q) (hk : IsM (a := 4096) (b := 1024) (φ := .bf16) (m ((c.tc : Thread nD τ).loc main_arg1)) k)
  (hv : IsM (a := 4096) (b := 1024) (φ := .bf16) (m ((c.tc : Thread nD τ).loc main_arg2)) v) (hw : IsM (a := 4096) (b := 8) (φ := .f32) (m ((c.tc : Thread nD τ).loc main_arg3)) w)
  (hg : IsM (a := 4096) (b := 1024) (φ := .bf16) (m ((c.tc : Thread nD τ).loc main_arg4)) g)

include hq hk hv hw hg

/-- The reference's score gradients in reals. -/
theorem S_is : IsA (S m c) fun h i j => ds q k v g w h i j := by
  have hx := masked_is (heads_is hq (by decide)) (heads_is hk (by decide)) hw
  have he := expo_is hx (top'_is (top_is hx))
  have hl := sums_is he
  have hp := dprob_is (heads_is hg (by decide)) (heads_is hv (by decide))
  exact dscore_is hp he hl (dsum_is hp he hl)

/-- The reference's gradient of the queries in reals. -/
theorem dq_is : IsM (dq m c) fun i l => ∑ j, ds q k v g w (hd l) i j / Real.sqrt 128 * k j l :=
  dquery_is (scaled_is (S_is hq hk hv hw hg)) (heads_is hk (by decide))

/-- The reference's gradient of the gate's running sums in reals. -/
theorem dcq_is : IsA (dcq m c) fun h i _ => ∑ j, ds q k v g w h i j :=
  dgateQ_is (S_is hq hk hv hw hg)

end Cert.RefQIdeal.Steps

namespace Cert.Proof

open Cert.Attn

/-- Arrays with the same reals are equal. -/
theorem ext2 {φ : FTy} {x y : FVec Ideal ⟨2, ![4096, 1024]⟩ φ} {f : Fin 4096 → Fin 1024 → ℝ} (hx : IsM x f) (hy : IsM y f) : x = y := by
  funext j
  idx_vars j
  exact (hx _ _).trans (hy _ _).symm

/-- Arrays over lanes with the same reals are equal. -/
theorem ext3 {φ : FTy} {x y : FVec Ideal ⟨3, ![8, 4096, 128]⟩ φ} {f : Fin 8 → Fin 4096 → Fin 128 → ℝ} (hx : IsA x f) (hy : IsA y f) : x = y := by
  funext j
  idx_vars j
  exact (hx _ _ _).trans (hy _ _ _).symm

/-- The kernel for the queries' gradient and the reference, both idealized, end with equal results on finite arguments. -/
theorem algebraicQ : Cert.algebraic_BwdQIdeal_RefQIdeal_pre_finite (hBwdQIdeal := Cert.BwdQIdeal.Gen.facts) (hRefQIdeal := Cert.RefQIdeal.Gen.facts) (hPre_finite := Cert.Pre_finite.Gen.facts) := by
  intro m ρ m' ρ' hp ha
  refine ⟨_, _, Cert.BwdQIdeal.Value.run_blocks m ρ, ?_⟩
  refine (θ_run Cert.RefQIdeal.defs _ _).mono (fun r h c => ?_) (Cert.RefQIdeal.Steps.run m' ρ')
  obtain ⟨q, k, v, w, g, hq, hk, hv, hw, hg⟩ := Cert.Attn.finite (hp c)
  obtain ⟨a0, a1, a2, a3, a4⟩ := ha c
  obtain ⟨r1, r2, hr⟩ := h c
  have hq' : IsM (a := 4096) (b := 1024) (φ := .bf16) (m' ((c.tc : Thread Cert.RefQIdeal.nD Cert.RefQIdeal.τ).loc Cert.RefQIdeal.main_arg0)) q := fun i l => (congrFun a0 _).trans (hq i l)
  have hk' : IsM (a := 4096) (b := 1024) (φ := .bf16) (m' ((c.tc : Thread Cert.RefQIdeal.nD Cert.RefQIdeal.τ).loc Cert.RefQIdeal.main_arg1)) k := fun i l => (congrFun a1 _).trans (hk i l)
  have hv' : IsM (a := 4096) (b := 1024) (φ := .bf16) (m' ((c.tc : Thread Cert.RefQIdeal.nD Cert.RefQIdeal.τ).loc Cert.RefQIdeal.main_arg2)) v := fun i l => (congrFun a2 _).trans (hv i l)
  have hw' : IsM (a := 4096) (b := 8) (φ := .f32) (m' ((c.tc : Thread Cert.RefQIdeal.nD Cert.RefQIdeal.τ).loc Cert.RefQIdeal.main_arg3)) w := fun i l => (congrFun a3 _).trans (hw i l)
  have hg' : IsM (a := 4096) (b := 1024) (φ := .bf16) (m' ((c.tc : Thread Cert.RefQIdeal.nD Cert.RefQIdeal.τ).loc Cert.RefQIdeal.main_arg4)) g := fun i l => (congrFun a4 _).trans (hg i l)
  refine ⟨r1.trans ?_, r2.trans ?_, hr⟩
  · exact ext2 (Cert.RefQIdeal.Steps.dq_is hq' hk' hv' hw' hg') (Cert.BwdQIdeal.Final.res8 hq hk hv hw hg)
  · exact ext3 (Cert.RefQIdeal.Steps.dcq_is hq' hk' hv' hw' hg') (Cert.BwdQIdeal.Final.res9 hq hk hv hw hg)

end Cert.Proof

end
-- ==== Proof.KvPay.lean ====
/- What one tile step of the key and value gradient kernel computes. -/
module

public import proofs.«01_k».proof.Proof.Gen.BwdKvIdeal.Value
public import proofs.«01_k».proof.Proof.Tile
public import proofs.«01_k».proof.Proof.Consts
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.BwdKvIdeal.Final

open Cert.BwdKvIdeal Cert.BwdKvIdeal.Gen Cert.Attn

theorem scale_at : Named.named (F := Ideal) Cert.BwdKvIdeal.κ "s" (φ := .f32) 0x3DB504F3#32 = (((Real.sqrt 128)⁻¹ : ℝ) : EReal) :=
  IdealRules.named_const.ideal_named_scalar _ _ _ _ rfl

/-- A row of the gate's running sums over the lanes: the heads', then zeros. -/
def cv (c : Fin 4096 → Fin 8 → ℝ) (p : Fin 4096) (x : Fin 128) : ℝ := if h : x.val < 8 then c p ⟨x.val, h⟩ else 0

theorem pick_cv (c : Fin 4096 → Fin 8 → ℝ) (p : Fin 4096) (h : Fin 8) :
    (∑ x : Fin 128, Scalar.select (IntOp.cmpi .eq (BitVec.ofNat 32 x.val) (BitVec.ofNat 32 h.val)) ((cv c p x : ℝ) : EReal) 0) = ((c p h : ℝ) : EReal) :=
  (pick (cv c p) h).trans (congrArg _ (dif_pos h.2))

theorem fold_lane (a : ℝ) : (Finset.univ.fold max ⊥ fun _ : Fin 128 => ((a : ℝ) : EReal)) = (a : EReal) := fold_const (by omega) a

section

variable {q k v g : Fin 4096 → Fin 1024 → ℝ} {c : Fin 4096 → Fin 8 → ℝ} {h I J : Fin 8}
  {v0 v1 : Vec Ideal S512x128 .bf16} {v6 : Vec Ideal S1x512 .f32} {a e : Vec Ideal S512x128 .bf16} {w o : Vec Ideal S512x128 .f32} {l' : Vec Ideal S1x512x128 .f32}
  (hk : ∀ x l, v0 (ix2 x l) = ((k (pos J x) (col h l) : ℝ) : EReal)) (hv : ∀ x l, v1 (ix2 x l) = ((v (pos J x) (col h l) : ℝ) : EReal))
  (hy : ∀ x, v6 (ix2 0 x) = ((c (pos J x) h : ℝ) : EReal))
  (hq : ∀ r l, a (ix2 r l) = ((q (pos I r) (col h l) : ℝ) : EReal)) (hg : ∀ r l, e (ix2 r l) = ((g (pos I r) (col h l) : ℝ) : EReal))
  (hc : ∀ r l, w (ix2 r l) = ((cv c (pos I r) l : ℝ) : EReal)) (hl : ∀ r l, l' (ix3 0 r l) = ((lg (sc q k c h) (pos I r) : ℝ) : EReal))
  (ho : ∀ r l, o (ix2 r l) = ((ou q k v c (pos I r) (col h l) : ℝ) : EReal))

include hk hy hq hc hl in
/-- A tile's probabilities. -/
theorem prob_at (hJ : J < I) (r x : Fin 512) : k0_pay2 (F := Ideal) (BitVec.ofNat 32 h.val) v0 v6 a w l' (ix2 r x) = ((pr (sc q k c h) (pos I r) (pos J x) : ℝ) : EReal) := by
  pointwise [k0_pay2]
  simp only [hq, hk, hy, hc, hl, scale_at, ofBits_bot, pick_cv, fold_lane, sc_scalar, pf_scalar]
  rw [pf_eq _ (pos_le hJ r x)]

include hk hv hy hq hg hc hl ho in
/-- A tile's score gradients. -/
theorem grad_at (hJ : J < I) (r x : Fin 512) : k0_pay3 (F := Ideal) (BitVec.ofNat 32 h.val) v0 v1 v6 a e w l' o (ix2 r x) = ((ds q k v g c h (pos I r) (pos J x) : ℝ) : EReal) := by
  pointwise [k0_pay3]
  rw [prob_at hk hy hq hc hl hJ]
  simp only [hv, hg, ho, dd_scalar, dp_scalar, dm_scalar]

include hk hv hy hq hg hc hl ho in
/-- One tile below the diagonal: the sum of the score gradients times the queries. -/
theorem tile_k (hJ : J < I) (b : Vec Ideal S512x128 .f32) (x : Fin 512) (l : Fin 128) :
    k0_pay20 b (k0_pay4 (F := Ideal) (BitVec.ofNat 32 h.val) v0 v1 v6 a e w l' o) (ix2 x l)
    = b (ix2 x l) + ((∑ r, ds q k v g c h (pos I r) (pos J x) * q (pos I r) (col h l) : ℝ) : EReal) := by
  pointwise [k0_pay20, k0_pay4]
  simp only [grad_at hk hv hy hq hg hc hl ho hJ, hq]
  rw [← coe_sum]
  exact congrArg (b (ix2 x l) + ·) (Finset.sum_congr rfl fun x _ => (EReal.coe_mul _ _).symm)

include hk hy hq hg hc hl in
/-- One tile below the diagonal: the sum of the probabilities times the results' gradients. -/
theorem tile_v (hJ : J < I) (b : Vec Ideal S512x128 .f32) (x : Fin 512) (l : Fin 128) :
    k0_pay21 b e (k0_pay2 (F := Ideal) (BitVec.ofNat 32 h.val) v0 v6 a w l') (ix2 x l)
    = b (ix2 x l) + ((∑ r, pr (sc q k c h) (pos I r) (pos J x) * g (pos I r) (col h l) : ℝ) : EReal) := by
  pointwise [k0_pay21]
  simp only [prob_at hk hy hq hc hl hJ, hg]
  rw [← coe_sum]
  exact congrArg (b (ix2 x l) + ·) (Finset.sum_congr rfl fun x _ => (EReal.coe_mul _ _).symm)

include hk hv hy hq hg hc hl ho in
/-- One tile below the diagonal: less the sum of the score gradients. -/
theorem tile_c (hJ : J < I) (b : Vec Ideal S1x512 .f32) (x : Fin 512) :
    k0_pay22 b (k0_pay3 (F := Ideal) (BitVec.ofNat 32 h.val) v0 v1 v6 a e w l' o) (ix2 0 x)
    = b (ix2 0 x) - ((∑ r, ds q k v g c h (pos I r) (pos J x) : ℝ) : EReal) := by
  pointwise [k0_pay22]
  simp only [grad_at hk hv hy hq hg hc hl ho hJ]
  rw [← coe_sum]

end

section

variable {q k v g : Fin 4096 → Fin 1024 → ℝ} {c : Fin 4096 → Fin 8 → ℝ} {h I : Fin 8} {i : grid0.Coords}
  {v0 v1 : Vec Ideal S512x128 .bf16} {v5 : Vec Ideal S1x1x512 .f32} {a e : Vec Ideal S512x128 .bf16} {w o : Vec Ideal S512x128 .f32} {l' : Vec Ideal S1x512x128 .f32}
  (hi : (i 0).val = h.val)
  (hk : ∀ x l, v0 (ix2 x l) = ((k (pos I x) (col h l) : ℝ) : EReal)) (hv : ∀ x l, v1 (ix2 x l) = ((v (pos I x) (col h l) : ℝ) : EReal))
  (hy : ∀ x, v5 (ix3 0 0 x) = ((c (pos I x) h : ℝ) : EReal))
  (hq : ∀ r l, a (ix2 r l) = ((q (pos I r) (col h l) : ℝ) : EReal)) (hg : ∀ r l, e (ix2 r l) = ((g (pos I r) (col h l) : ℝ) : EReal))
  (hc : ∀ r l, w (ix2 r l) = ((cv c (pos I r) l : ℝ) : EReal)) (hl : ∀ r l, l' (ix3 0 r l) = ((lg (sc q k c h) (pos I r) : ℝ) : EReal))
  (ho : ∀ r l, o (ix2 r l) = ((ou q k v c (pos I r) (col h l) : ℝ) : EReal))

include hy in
theorem row_tile (x : Fin 512) : k0_pay8 v5 (ix2 0 x) = ((c (pos I x) h : ℝ) : EReal) := by
  pointwise [k0_pay8]
  exact hy x

include hi hc in
theorem gate_at (r : Fin 512) : k0_pay12 i w (ix2 r 0) = ((c (pos I r) h : ℝ) : EReal) := by
  pointwise [k0_pay12]
  rw [hi]
  simp only [hc, pick_cv]

include hl in
theorem lse_at'' (r : Fin 512) : k0_pay13 l' (ix2 r 0) = ((lg (sc q k c h) (pos I r) : ℝ) : EReal) := by
  pointwise [k0_pay13]
  simp only [hl, ofBits_bot, fold_lane]

include hi hk hy hq hc hl in
/-- The diagonal tile's probabilities. -/
theorem dprob_at (r x : Fin 512) : k0_pay15 (F := Ideal) v0 (k0_pay8 v5) a (k0_pay12 i w) (k0_pay13 l') (ix2 r x) = ((pr (sc q k c h) (pos I r) (pos I x) : ℝ) : EReal) := by
  pointwise [k0_pay15]
  rw [row_tile hy, gate_at hi hc, lse_at'' hl, sge (by omega) (by omega)]
  simp only [hq, hk, scale_at, sc_scalar, pf_scalar]
  exact pm_scalar _ (pos_le_same I r x)

include hi hk hv hy hq hg hc hl ho in
/-- The diagonal tile's score gradients. -/
theorem dgrad_at (r x : Fin 512) : k0_pay16 (F := Ideal) v0 v1 (k0_pay8 v5) a e (k0_pay12 i w) (k0_pay13 l') (k0_pay14 e o) (ix2 r x)
    = ((ds q k v g c h (pos I r) (pos I x) : ℝ) : EReal) := by
  pointwise [k0_pay16, k0_pay14]
  rw [dprob_at hi hk hy hq hc hl]
  simp only [hv, hg, ho, dd_scalar, dp_scalar, dm_scalar]

include hi hk hv hy hq hg hc hl ho in
/-- The diagonal tile: the sum of the score gradients times the queries. -/
theorem diag_k (x : Fin 512) (l : Fin 128) :
    k0_pay17 (F := Ideal) v0 v1 (k0_pay8 v5) k0_pay9 a e (k0_pay12 i w) (k0_pay13 l') (k0_pay14 e o) (ix2 x l)
    = ((∑ r, ds q k v g c h (pos I r) (pos I x) * q (pos I r) (col h l) : ℝ) : EReal) := by
  pointwise [k0_pay17, k0_pay9]
  simp only [dgrad_at hi hk hv hy hq hg hc hl ho, hq]
  rw [← coe_sum]
  exact Finset.sum_congr rfl fun x _ => (EReal.coe_mul _ _).symm

include hi hk hy hq hg hc hl in
/-- The diagonal tile: the sum of the probabilities times the results' gradients. -/
theorem diag_v (x : Fin 512) (l : Fin 128) :
    k0_pay18 (F := Ideal) v0 (k0_pay8 v5) k0_pay10 a e (k0_pay12 i w) (k0_pay13 l') (ix2 x l)
    = ((∑ r, pr (sc q k c h) (pos I r) (pos I x) * g (pos I r) (col h l) : ℝ) : EReal) := by
  pointwise [k0_pay18, k0_pay10]
  simp only [dprob_at hi hk hy hq hc hl, hg]
  rw [← coe_sum]
  exact Finset.sum_congr rfl fun x _ => (EReal.coe_mul _ _).symm

include hi hk hv hy hq hg hc hl ho in
/-- The diagonal tile: less the sum of the score gradients. -/
theorem diag_c (x : Fin 512) :
    k0_pay19 (F := Ideal) v0 v1 (k0_pay8 v5) k0_pay11 a e (k0_pay12 i w) (k0_pay13 l') (k0_pay14 e o) (ix2 0 x)
    = ((-∑ r, ds q k v g c h (pos I r) (pos I x) : ℝ) : EReal) := by
  pointwise [k0_pay19, k0_pay11]
  simp only [dgrad_at hi hk hv hy hq hg hc hl ho]
  rw [coe_sum, zero_sub, EReal.coe_neg]

end

end Cert.BwdKvIdeal.Final

end
-- ==== Proof.KvEntry.lean ====
/- What the key and value gradient kernel is started on: the buffers its host code fills. -/
module

public import proofs.«01_k».proof.Proof.Gen.BwdKvIdeal.Value
public import proofs.«01_k».proof.Proof.Reals
public import proofs.«01_k».proof.Proof.Consts
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.BwdKvIdeal.Final

open Cert.BwdKvIdeal Cert.BwdKvIdeal.Gen Cert.Attn

section

variable (m : (ℓ : Loc nD τ sig) → Buf (Elt Ideal) ℓ) (c : Dev nD)

abbrev A0 : FVec Ideal R .bf16 := m ((c.tc : Thread nD τ).loc main_arg0)
abbrev A1 : FVec Ideal R .bf16 := m ((c.tc : Thread nD τ).loc main_arg1)
abbrev A2 : FVec Ideal R .bf16 := m ((c.tc : Thread nD τ).loc main_arg2)
abbrev A3 : FVec Ideal C .f32 := m ((c.tc : Thread nD τ).loc main_arg3)
abbrev A4 : FVec Ideal R .bf16 := m ((c.tc : Thread nD τ).loc main_arg4)
abbrev Q3 : FVec Ideal R3 .f32 := heads (extf (F := Ideal) (φ := .bf16) .f32 (A0 m c) (by decide))
abbrev K3 : FVec Ideal R3 .f32 := heads (extf (F := Ideal) (φ := .bf16) .f32 (A1 m c) (by decide))
abbrev V3 : FVec Ideal R3 .f32 := heads (extf (F := Ideal) (φ := .bf16) .f32 (A2 m c) (by decide))
abbrev X3 : FVec Ideal A .f32 := masked (logits (Q3 m c) (K3 m c) (A3 m c) (A3 m c))

theorem V_arg0 : V m c main_arg0 = A0 m c := rfl
theorem V_arg1 : V m c main_arg1 = A1 m c := rfl
theorem V_arg2 : V m c main_arg2 = A2 m c := rfl
theorem V_arg4 : V m c main_arg4 = A4 m c := rfl

/-- The gate's running sums transposed, a row per head and tile. -/
theorem V_row : V m c main_v75 = tiled (padded (A3 m c)) := by
  entry_read
  rfl

/-- The gate's running sums, padded to the lanes. -/
theorem V_col : V m c main_v72 = padded (A3 m c) := by
  entry_read
  rfl

set_option maxRecDepth 100000 in
/-- The attention's result. -/
theorem V_out : V m c main_v39 =
    let x := X3 m c
    let e := expo x (top' (top x))
    attend (V3 m c) (quot e (total e)) := by
  unfold V
  simp only [List.flatten_cons, List.flatten_nil, List.cons_append, List.nil_append, List.append_nil, hostOps0, hostOps0_1, hostOps0_2, hostOps0_3,
    hostOps0_4, hostOps0_5, hostOps0_6]
  after_results
  dsimp only [attend, quot, total, rows, expo, top, top', masked, logits, heads, causalA, causal, rootA, root, dQK, dPV, lse, lanes]
  rfl

set_option maxRecDepth 100000 in
/-- The logarithms of the rows' sums. -/
theorem V_lse : V m c main_v71 =
    let x := X3 m c
    lanes (lse (top x) (total (expo x (top x)))) := by
  unfold V
  simp only [List.flatten_cons, List.flatten_nil, List.cons_append, List.nil_append, List.append_nil, hostOps0, hostOps0_1, hostOps0_2, hostOps0_3,
    hostOps0_4, hostOps0_5, hostOps0_6]
  after_results
  dsimp only [attend, quot, total, rows, expo, top, top', masked, logits, heads, causalA, causal, rootA, root, dQK, dPV, lse, lanes]
  rfl

variable {m c} {q k v g : Fin 4096 → Fin 1024 → ℝ} {w : Fin 4096 → Fin 8 → ℝ}
  (hq : ∀ i l, A0 m c (ix2 i l) = ((q i l : ℝ) : EReal)) (hk : ∀ i l, A1 m c (ix2 i l) = ((k i l : ℝ) : EReal))
  (hv : ∀ i l, A2 m c (ix2 i l) = ((v i l : ℝ) : EReal)) (hw : ∀ i h, A3 m c (ix2 i h) = ((w i h : ℝ) : EReal))

include hq hk hv hw in
/-- What the kernel reads as the attention's result, in reals. -/
theorem out_at : IsM (a := 4096) (b := 1024) (φ := .f32) (V m c main_v39) fun i l => ou q k v w i l := by
  rw [V_out]
  have hx := masked_is (heads_is hq (by decide)) (heads_is hk (by decide)) hw
  have he := expo_is hx (top'_is (top_is hx))
  exact attend_is (heads_is hv (by decide)) (quot_is he (sums_is he))

include hq hk hw in
/-- What the kernel reads as the logarithms of the rows' sums, in reals. -/
theorem lse_at' : IsA (a := 8) (b := 4096) (d := 128) (φ := .f32) (V m c main_v71) fun h i _ => lg (sc q k w h) i := by
  rw [V_lse]
  have hx := masked_is (heads_is hq (by decide)) (heads_is hk (by decide)) hw
  exact lanes_is (lse_is (top_is hx) (sums_is (expo_is hx (top_is hx))))

include hw in
/-- What the kernel reads as the gate's running sums, in reals. -/
theorem col_at : IsM (a := 4096) (b := 128) (φ := .f32) (V m c main_v72) fun i l => if h : l.val < 8 then w i ⟨l.val, h⟩ else 0 := by
  rw [V_col]
  exact padded_is hw

include hw in
/-- The same by tiles. -/
theorem row_at (b : Fin 64) (l : Fin 512) : V m c main_v75 (ix3 b 0 l) = ((w (bp b l) (bh b) : ℝ) : EReal) := by
  rw [V_row]
  exact tiled_is hw b l

end

end Cert.BwdKvIdeal.Final

end
-- ==== Proof.KvLoop.lean ====
/- The key and value gradient kernel's loop over the tiles below the diagonal. -/
module

public import proofs.«01_k».proof.Proof.KvPay
public import proofs.«01_k».proof.Proof.KvEntry

@[expose] public section

set_option maxRecDepth 16384

noncomputable section

open Idealize.ShloMosaic Idealize.ShloMosaic.TcCoe Idealize.SL.Sem
open Idealize.ShloMosaic.Pipeline (Dat)

namespace Cert.BwdKvIdeal.Final

open Cert.BwdKvIdeal Cert.BwdKvIdeal.Gen Cert.Attn

/-- The loop runs once per tile below the diagonal. -/
theorem trips_eq : ∀ i : grid0.Coords, (k0_t1_loop i).trips = 7 - (i 1).val := by decide +kernel

/-- The second loop runs no trip. -/
theorem trips_zero : ∀ i : grid0.Coords, (k0_t2_loop i).trips = 0 := by decide +kernel

/-- One trip: a tile's payload on the tile's queries and their gradients. -/
theorem trip_eq (𝒱 : Variants) (c : Dev nD) (bd : Option 𝒱.V) (i : grid0.Coords) (arg2 : Memref sig .tc .vmem S4096x128 .bf16) (harg2 : arg2.IsWhole)
    (arg3 : Memref sig .tc .vmem S512x128 .bf16) (harg3 : arg3.IsWhole)
    (arg4 : Memref sig .tc .vmem S512x128 .bf16) (harg4 : arg4.IsWhole)
    (arg5 : Memref sig .tc .vmem S4096x128 .f32) (harg5 : arg5.IsWhole)
    (arg6 : Memref sig .tc .vmem S4096x128 .bf16) (harg6 : arg6.IsWhole)
    (arg7 : Memref sig .tc .vmem S1x4096x128 .f32) (harg7 : arg7.IsWhole)
    (arg8 : Memref sig .tc .vmem S4096x128 .f32) (harg8 : arg8.IsWhole)
    (arg9 : Memref sig .tc .vmem S64x1x512 .f32) (harg9 : arg9.IsWhole)
    (arg10 : Memref sig .tc .vmem S512x128 .bf16) (harg10 : arg10.IsWhole)
    (arg11 : Memref sig .tc .vmem S512x128 .bf16) (harg11 : arg11.IsWhole)
    (arg12 : Memref sig .tc .vmem S1x1x512 .f32) (harg12 : arg12.IsWhole)
    (v0 v1 : Vec Ideal S512x128 .bf16) (v6 : Vec Ideal S1x512 .f32) (v7 v8 : Vec Ideal S512x128 .f32) (v9 : Vec Ideal S1x512 .f32) (v10 : BitVec 32) (v14 v16 : Vec Ideal S512x128 .bf16) (v26 v31 : Vec Ideal S512x1 .f32) (v36 : Vec Ideal S512x128 .f32)
    (x0 : Vec Ideal S4096x128 .bf16) (x3 : Vec Ideal S4096x128 .f32) (x4 : Vec Ideal S4096x128 .bf16) (x5 : Vec Ideal S1x4096x128 .f32) (x6 : Vec Ideal S4096x128 .f32) (k : Fin (k0_t1_loop i).trips) (acc) (a0 : BitVec 32) :
    tripR_k0_t1 (F := Ideal) 𝒱 c bd i arg2 harg2 arg3 harg3 arg4 harg4 arg5 harg5 arg6 harg6 arg7 harg7 arg8 harg8 arg9 harg9 arg10 harg10 arg11 harg11 arg12 harg12 a0 v0 v1 v6 v7 v8 v9 v10 v14 v16 v26 v31 v36 (harg2.unread x0) (harg5.unread x3) (harg6.unread x4) (harg7.unread x5) (harg8.unread x6) k acc
      = (k0_pay20 acc.1 (k0_pay4 a0 v0 v1 v6 (View.ld x0 (Rect.unit (k0_off4 i k) ![512, 128] (k0_off4_inb i k))) (View.ld x4 (Rect.unit (k0_off4 i k) ![512, 128] (k0_off4_inb i k))) (View.ld x6 (Rect.unit (k0_off4 i k) ![512, 128] (k0_off4_inb i k))) (View.ld x5 (Rect.unit (k0_off5 i k) ![1, 512, 128] (k0_off5_inb i k))) (View.ld x3 (Rect.unit (k0_off4 i k) ![512, 128] (k0_off4_inb i k)))),
        k0_pay21 acc.2.1 (View.ld x4 (Rect.unit (k0_off4 i k) ![512, 128] (k0_off4_inb i k))) (k0_pay2 a0 v0 v6 (View.ld x0 (Rect.unit (k0_off4 i k) ![512, 128] (k0_off4_inb i k))) (View.ld x6 (Rect.unit (k0_off4 i k) ![512, 128] (k0_off4_inb i k))) (View.ld x5 (Rect.unit (k0_off5 i k) ![1, 512, 128] (k0_off5_inb i k)))),
        k0_pay22 acc.2.2 (k0_pay3 a0 v0 v1 v6 (View.ld x0 (Rect.unit (k0_off4 i k) ![512, 128] (k0_off4_inb i k))) (View.ld x4 (Rect.unit (k0_off4 i k) ![512, 128] (k0_off4_inb i k))) (View.ld x6 (Rect.unit (k0_off4 i k) ![512, 128] (k0_off4_inb i k))) (View.ld x5 (Rect.unit (k0_off5 i k) ![1, 512, 128] (k0_off5_inb i k))) (View.ld x3 (Rect.unit (k0_off4 i k) ![512, 128] (k0_off4_inb i k))))) := by
  unfold tripR_k0_t1 trip_k0_t1
  frame_out

/-- A tile of queries or gradients. -/
theorem ld_tile {x : Vec Ideal S4096x128 .bf16} {f : Fin 4096 → Fin 128 → ℝ} (hx : ∀ p l, x (ix2 p l) = ((f p l : ℝ) : EReal)) (J : Fin 8) {off : Fin 2 → ℕ} (ho : off = ![512 * J.val, 0]) (inb) (r : Fin 512) (l : Fin 128) :
    View.ld (S := S4096x128) x (Rect.unit off ![512, 128] inb) (ix2 r l) = ((f (pos J r) l : ℝ) : EReal) := by
  rw [← hx]
  refine View.ld_unit_apply_of _ _ _ _ _ (ix2 (pos J r) l) fun a => ?_
  subst ho
  fin_cases a
  · show J.val * 512 + r.val = 512 * J.val + r.val
    omega
  · show l.val = 0 + l.val
    omega

/-- The same of a wide array. -/
theorem ld_tile32 {x : Vec Ideal S4096x128 .f32} {f : Fin 4096 → Fin 128 → ℝ} (hx : ∀ p l, x (ix2 p l) = ((f p l : ℝ) : EReal)) (J : Fin 8) {off : Fin 2 → ℕ} (ho : off = ![512 * J.val, 0]) (inb) (r : Fin 512) (l : Fin 128) :
    View.ld (S := S4096x128) x (Rect.unit off ![512, 128] inb) (ix2 r l) = ((f (pos J r) l : ℝ) : EReal) := by
  rw [← hx]
  refine View.ld_unit_apply_of _ _ _ _ _ (ix2 (pos J r) l) fun a => ?_
  subst ho
  fin_cases a
  · show J.val * 512 + r.val = 512 * J.val + r.val
    omega
  · show l.val = 0 + l.val
    omega

/-- A tile of the logarithms of the sums. -/
theorem ld_lse {x : Vec Ideal S1x4096x128 .f32} {f : Fin 4096 → Fin 128 → ℝ} (hx : ∀ p l, x (ix3 0 p l) = ((f p l : ℝ) : EReal)) (J : Fin 8) {off : Fin 3 → ℕ} (ho : off = ![0, 512 * J.val, 0]) (inb) (r : Fin 512) (l : Fin 128) :
    View.ld (S := S1x4096x128) x (Rect.unit off ![1, 512, 128] inb) (ix3 0 r l) = ((f (pos J r) l : ℝ) : EReal) := by
  rw [← hx]
  refine View.ld_unit_apply_of _ _ _ _ _ (ix3 0 (pos J r) l) fun a => ?_
  subst ho
  fin_cases a
  · rfl
  · show J.val * 512 + r.val = 512 * J.val + r.val
    omega
  · show l.val = 0 + l.val
    omega

/-- A tile of the gate's running sums. -/
theorem ld_row {y : Vec Ideal S64x1x512 .f32} {w : Fin 4096 → Fin 8 → ℝ} (hy : ∀ b x, y (ix3 b 0 x) = ((w (bp b x) (bh b) : ℝ) : EReal)) (h J : Fin 8) {off : Fin 3 → ℕ}
    (ho : off = ![8 * h.val + J.val, 0, 0]) (inb) (r : Fin 512) :
    View.ld (S := S64x1x512) y (Rect.unit off ![1, 1, 512] inb) (ix3 0 0 r) = ((w (pos J r) h : ℝ) : EReal) := by
  have e := hy (⟨8 * h.val + J.val, by omega⟩ : Fin 64) r
  have e1 : bp (⟨8 * h.val + J.val, by omega⟩ : Fin 64) r = pos J r := Fin.ext (by simp only [bp, pos]; omega)
  have e2 : bh (⟨8 * h.val + J.val, by omega⟩ : Fin 64) = h := Fin.ext (by simp only [bh]; omega)
  rw [e1, e2] at e
  rw [← e]
  refine View.ld_unit_apply_of _ _ _ _ _ (ix3 (⟨8 * h.val + J.val, by omega⟩ : Fin 64) 0 r) fun a => ?_
  subst ho
  fin_cases a
  · show 8 * h.val + J.val = 8 * h.val + J.val + 0
    omega
  · rfl
  · show r.val = 0 + r.val
    omega

section

variable {q k v g : Fin 4096 → Fin 1024 → ℝ} {w : Fin 4096 → Fin 8 → ℝ} {h J : Fin 8}

/-- After `n` tiles the loop carries the sums over the queries up to the last of those tiles. -/
theorem loop_inv (𝒱 : Variants) (c : Dev nD) (bd : Option 𝒱.V) (i : grid0.Coords) (arg2 : Memref sig .tc .vmem S4096x128 .bf16) (harg2 : arg2.IsWhole)
    (arg3 : Memref sig .tc .vmem S512x128 .bf16) (harg3 : arg3.IsWhole)
    (arg4 : Memref sig .tc .vmem S512x128 .bf16) (harg4 : arg4.IsWhole)
    (arg5 : Memref sig .tc .vmem S4096x128 .f32) (harg5 : arg5.IsWhole)
    (arg6 : Memref sig .tc .vmem S4096x128 .bf16) (harg6 : arg6.IsWhole)
    (arg7 : Memref sig .tc .vmem S1x4096x128 .f32) (harg7 : arg7.IsWhole)
    (arg8 : Memref sig .tc .vmem S4096x128 .f32) (harg8 : arg8.IsWhole)
    (arg9 : Memref sig .tc .vmem S64x1x512 .f32) (harg9 : arg9.IsWhole)
    (arg10 : Memref sig .tc .vmem S512x128 .bf16) (harg10 : arg10.IsWhole)
    (arg11 : Memref sig .tc .vmem S512x128 .bf16) (harg11 : arg11.IsWhole)
    (arg12 : Memref sig .tc .vmem S1x1x512 .f32) (harg12 : arg12.IsWhole)
    (v0 v1 : Vec Ideal S512x128 .bf16) (v6 : Vec Ideal S1x512 .f32) (v7 v8 : Vec Ideal S512x128 .f32) (v9 : Vec Ideal S1x512 .f32) (v10 : BitVec 32) (v14 v16 : Vec Ideal S512x128 .bf16) (v26 v31 : Vec Ideal S512x1 .f32) (v36 : Vec Ideal S512x128 .f32)
    (x0 : Vec Ideal S4096x128 .bf16) (x3 : Vec Ideal S4096x128 .f32) (x4 : Vec Ideal S4096x128 .bf16) (x5 : Vec Ideal S1x4096x128 .f32) (x6 : Vec Ideal S4096x128 .f32) (hi0 : (i 0).val = h.val) (hi1 : (i 1).val = J.val)
    (hk : ∀ x l, v0 (ix2 x l) = ((k (pos J x) (col h l) : ℝ) : EReal)) (hv : ∀ x l, v1 (ix2 x l) = ((v (pos J x) (col h l) : ℝ) : EReal))
    (hy : ∀ x, v6 (ix2 0 x) = ((w (pos J x) h : ℝ) : EReal))
    (hq : ∀ p l, x0 (ix2 p l) = ((q p (col h l) : ℝ) : EReal)) (hg : ∀ p l, x4 (ix2 p l) = ((g p (col h l) : ℝ) : EReal))
    (hc : ∀ p l, x6 (ix2 p l) = ((cv w p l : ℝ) : EReal)) (hl : ∀ p l, x5 (ix3 0 p l) = ((lg (sc q k w h) p : ℝ) : EReal))
    (ho : ∀ p l, x3 (ix2 p l) = ((ou q k v w p (col h l) : ℝ) : EReal))
    (ini : FVec Ideal S512x128 .f32 × FVec Ideal S512x128 .f32 × FVec Ideal S1x512 .f32)
    (h1 : ∀ x l, ini.1 (ix2 x l) = ((pre (fun i => ds q k v g w h i (pos J x) * q i (col h l)) ((J.val + 1) * 512) : ℝ) : EReal))
    (h2 : ∀ x l, ini.2.1 (ix2 x l) = ((pre (fun i => pr (sc q k w h) i (pos J x) * g i (col h l)) ((J.val + 1) * 512) : ℝ) : EReal))
    (h3 : ∀ x, ini.2.2 (ix2 0 x) = ((-pre (fun i => ds q k v g w h i (pos J x)) ((J.val + 1) * 512) : ℝ) : EReal))
    (n : ℕ) (hn : J.val + n ≤ 7) :
    (∀ x l, (st_k0_t1 (F := Ideal) 𝒱 c bd i arg2 harg2 arg3 harg3 arg4 harg4 arg5 harg5 arg6 harg6 arg7 harg7 arg8 harg8 arg9 harg9 arg10 harg10 arg11 harg11 arg12 harg12 (BitVec.ofNat 32 (i 0).val) v0 v1 v6 v7 v8 v9 v10 v14 v16 v26 v31 v36 (harg2.unread x0) (harg5.unread x3) (harg6.unread x4) (harg7.unread x5) (harg8.unread x6) ini n).1 (ix2 x l)
        = ((pre (fun i => ds q k v g w h i (pos J x) * q i (col h l)) ((J.val + 1 + n) * 512) : ℝ) : EReal))
      ∧ (∀ x l, (st_k0_t1 (F := Ideal) 𝒱 c bd i arg2 harg2 arg3 harg3 arg4 harg4 arg5 harg5 arg6 harg6 arg7 harg7 arg8 harg8 arg9 harg9 arg10 harg10 arg11 harg11 arg12 harg12 (BitVec.ofNat 32 (i 0).val) v0 v1 v6 v7 v8 v9 v10 v14 v16 v26 v31 v36 (harg2.unread x0) (harg5.unread x3) (harg6.unread x4) (harg7.unread x5) (harg8.unread x6) ini n).2.1 (ix2 x l)
        = ((pre (fun i => pr (sc q k w h) i (pos J x) * g i (col h l)) ((J.val + 1 + n) * 512) : ℝ) : EReal))
      ∧ ∀ x, (st_k0_t1 (F := Ideal) 𝒱 c bd i arg2 harg2 arg3 harg3 arg4 harg4 arg5 harg5 arg6 harg6 arg7 harg7 arg8 harg8 arg9 harg9 arg10 harg10 arg11 harg11 arg12 harg12 (BitVec.ofNat 32 (i 0).val) v0 v1 v6 v7 v8 v9 v10 v14 v16 v26 v31 v36 (harg2.unread x0) (harg5.unread x3) (harg6.unread x4) (harg7.unread x5) (harg8.unread x6) ini n).2.2 (ix2 0 x)
        = ((-pre (fun i => ds q k v g w h i (pos J x)) ((J.val + 1 + n) * 512) : ℝ) : EReal) := by
  induction n with
  | zero =>
    rw [st_k0_t1_zero]
    exact ⟨h1, h2, h3⟩
  | succ n ih =>
    obtain ⟨e1, e2, e3⟩ := ih (by omega)
    have hI : J.val + 1 + n < 8 := by omega
    have ht : n < (k0_t1_loop i).trips := by rw [trips_eq, hi1]; omega
    have hlt : J < (⟨J.val + 1 + n, hI⟩ : Fin 8) := Fin.lt_def.2 (by show J.val < J.val + 1 + n; omega)
    have o4 : k0_off4 i ⟨n, ht⟩ = ![512 * (⟨J.val + 1 + n, hI⟩ : Fin 8).val, 0] := by
      rw [k0_off4_eq i ⟨n, ht⟩, hi1]
      exact congrArg (fun z => ![z, 0]) (show 512 * J.val + 512 * n + 512 = 512 * (J.val + 1 + n) by omega)
    have o5 : k0_off5 i ⟨n, ht⟩ = ![0, 512 * (⟨J.val + 1 + n, hI⟩ : Fin 8).val, 0] := by
      rw [k0_off5_eq i ⟨n, ht⟩, hi1]
      exact congrArg (fun z => ![0, z, 0]) (show 512 * J.val + 512 * n + 512 = 512 * (J.val + 1 + n) by omega)
    have s := st_k0_t1_succ (F := Ideal) 𝒱 c bd i arg2 harg2 arg3 harg3 arg4 harg4 arg5 harg5 arg6 harg6 arg7 harg7 arg8 harg8 arg9 harg9 arg10 harg10 arg11 harg11 arg12 harg12 (BitVec.ofNat 32 (i 0).val) v0 v1 v6 v7 v8 v9 v10 v14 v16 v26 v31 v36 (harg2.unread x0) (harg5.unread x3) (harg6.unread x4) (harg7.unread x5) (harg8.unread x6) ini ⟨n, ht⟩
    dsimp only at s
    rw [s, trip_eq, hi0]
    rw [hi0] at e1 e2 e3
    have tq := ld_tile hq ⟨J.val + 1 + n, hI⟩ o4 (k0_off4_inb i ⟨n, ht⟩)
    have tg := ld_tile hg ⟨J.val + 1 + n, hI⟩ o4 (k0_off4_inb i ⟨n, ht⟩)
    have tc := ld_tile32 hc ⟨J.val + 1 + n, hI⟩ o4 (k0_off4_inb i ⟨n, ht⟩)
    have tl := ld_lse hl ⟨J.val + 1 + n, hI⟩ o5 (k0_off5_inb i ⟨n, ht⟩)
    have tz := ld_tile32 ho ⟨J.val + 1 + n, hI⟩ o4 (k0_off4_inb i ⟨n, ht⟩)
    refine ⟨fun x l => ?_, fun x l => ?_, fun x => ?_⟩
    · refine (tile_k hk hv hy tq tg tc tl tz hlt _ x l).trans ?_
      rw [e1, ← EReal.coe_add]
      exact congrArg _ (pre_tile (fun i => ds q k v g w h i (pos J x) * q i (col h l)) ⟨J.val + 1 + n, hI⟩).symm
    · refine (tile_v hk hy tq tg tc tl hlt _ x l).trans ?_
      rw [e2, ← EReal.coe_add]
      exact congrArg _ (pre_tile (fun i => pr (sc q k w h) i (pos J x) * g i (col h l)) ⟨J.val + 1 + n, hI⟩).symm
    · refine (tile_c hk hv hy tq tg tc tl tz hlt _ x).trans ?_
      rw [e3, ← EReal.coe_sub]
      refine congrArg _ ?_
      have := pre_tile (fun i => ds q k v g w h i (pos J x)) ⟨J.val + 1 + n, hI⟩
      refine Eq.trans ?_ (congrArg Neg.neg this).symm
      ring

end

end Cert.BwdKvIdeal.Final

end
-- ==== Proof.KvBlk.lean ====
/- The key and value gradient kernel's blocks, and what a grid point makes of them. -/
module

public import proofs.«01_k».proof.Proof.KvLoop

@[expose] public section

set_option maxRecDepth 16384

noncomputable section

open Idealize.ShloMosaic Idealize.ShloMosaic.TcCoe Idealize.SL.Sem
open Idealize.ShloMosaic.Pipeline (Dat)

namespace Cert.BwdKvIdeal.Final

open Cert.BwdKvIdeal Cert.BwdKvIdeal.Gen Cert.Attn

/-- The head of a grid point. -/
def th (t : Fin cfg0.N) : Fin 8 := ⟨t.val / 8, by have : t.val < 64 := lt_of_lt_of_eq t.isLt (by decide); omega⟩

/-- The tile of a grid point. -/
def ti (t : Fin cfg0.N) : Fin 8 := ⟨t.val % 8, by omega⟩

/-- The grid point's number. -/
def tt (t : Fin cfg0.N) : Fin 64 := ⟨t.val, lt_of_lt_of_eq t.isLt (by decide)⟩

theorem coords : ∀ t : Fin cfg0.N, (grid0.coords t 0).val = (th t).val ∧ (grid0.coords t 1).val = (ti t).val := (by decide +kernel : ∀ t : Fin grid0.N, (grid0.coords t 0).val = t.val / 8 ∧ (grid0.coords t 1).val = t.val % 8)

theorem idx : ∀ t : Fin cfg0.N, win0_0.index t = ![0, t.val / 8] ∧ win0_1.index t = ![t.val % 8, t.val / 8] ∧ win0_2.index t = ![t.val % 8, t.val / 8]
    ∧ win0_3.index t = ![0, t.val / 8] ∧ win0_4.index t = ![0, t.val / 8] ∧ win0_5.index t = ![t.val / 8, 0, 0]
    ∧ win0_6.index t = ![0, 0] ∧ win0_7.index t = ![0, 0, 0] ∧ win0_8.index t = ![t.val % 8, t.val / 8] ∧ win0_9.index t = ![t.val % 8, t.val / 8]
    ∧ win0_10.index t = ![t.val, 0, 0] :=
  (by decide +kernel : ∀ t : Fin grid0.N, _)

theorem hd_col (h : Fin 8) (l : Fin 128) : hd (col h l) = h := Fin.ext (by simp only [hd, col]; omega)

theorem emb3 (t : Fin cfg0.N) (X : Vec Ideal S4096x1024 .f32) (r : Fin 4096) (l : Fin 128) : X ((win0_3.blk t).view.emb (ix2 r l)) = X (ix2 r (col (th t) l)) := by
  blk_ext [idx t, pos, col, ti, th]

theorem rd3 (c : Dev nD) (t : Fin cfg0.N) (W : (b : Ref sig .tc) → Buf (Elt Ideal) ((c.tc : Thread nD τ).loc b)) (r : Fin 4096) (l : Fin 128) :
    (((cfg0.win 3).blk t).view.read (Elt Ideal) (W (Pipeline.arrRef spec0 3)) : Vec Ideal S4096x128 .f32) (ix2 r l) = W main_v39 (ix2 r (col (th t) l)) := by
  blk_simp
  exact emb3 t _ r l

theorem emb5 (t : Fin cfg0.N) (X : Vec Ideal S8x4096x128 .f32) (r : Fin 4096) (l : Fin 128) : X ((win0_5.blk t).view.emb (ix3 0 r l)) = X (ix3 (th t) r l) := by
  blk_ext [idx t, pos, col, ti, th]

theorem rd5 (c : Dev nD) (t : Fin cfg0.N) (W : (b : Ref sig .tc) → Buf (Elt Ideal) ((c.tc : Thread nD τ).loc b)) (r : Fin 4096) (l : Fin 128) :
    (((cfg0.win 5).blk t).view.read (Elt Ideal) (W (Pipeline.arrRef spec0 5)) : Vec Ideal S1x4096x128 .f32) (ix3 0 r l) = W main_v71 (ix3 (th t) r l) := by
  blk_simp
  exact emb5 t _ r l

theorem emb6 (t : Fin cfg0.N) (X : Vec Ideal S4096x128 .f32) (r : Fin 4096) (l : Fin 128) : X ((win0_6.blk t).view.emb (ix2 r l)) = X (ix2 r l) := by
  blk_ext [idx t, pos, col, ti, th]

theorem rd6 (c : Dev nD) (t : Fin cfg0.N) (W : (b : Ref sig .tc) → Buf (Elt Ideal) ((c.tc : Thread nD τ).loc b)) (r : Fin 4096) (l : Fin 128) :
    (((cfg0.win 6).blk t).view.read (Elt Ideal) (W (Pipeline.arrRef spec0 6)) : Vec Ideal S4096x128 .f32) (ix2 r l) = W main_v72 (ix2 r l) := by
  blk_simp
  exact emb6 t _ r l

theorem emb7 (t : Fin cfg0.N) (X : Vec Ideal S64x1x512 .f32) (b : Fin 64) (l : Fin 512) : X ((win0_7.blk t).view.emb (ix3 b 0 l)) = X (ix3 b 0 l) := by
  blk_ext [idx t, pos, col, ti, th]

theorem rd7 (c : Dev nD) (t : Fin cfg0.N) (W : (b : Ref sig .tc) → Buf (Elt Ideal) ((c.tc : Thread nD τ).loc b)) (b : Fin 64) (l : Fin 512) :
    (((cfg0.win 7).blk t).view.read (Elt Ideal) (W (Pipeline.arrRef spec0 7)) : Vec Ideal S64x1x512 .f32) (ix3 b 0 l) = W main_v75 (ix3 b 0 l) := by
  blk_simp
  exact emb7 t _ b l

theorem emb8 (t : Fin cfg0.N) (X : Vec Ideal S4096x1024 .bf16) (r : Fin 512) (l : Fin 128) : X ((win0_8.blk t).view.emb (ix2 r l)) = X (ix2 (pos (ti t) r) (col (th t) l)) := by
  blk_ext [idx t, pos, col, ti, th]

theorem emb9 (t : Fin cfg0.N) (X : Vec Ideal S4096x1024 .bf16) (r : Fin 512) (l : Fin 128) : X ((win0_9.blk t).view.emb (ix2 r l)) = X (ix2 (pos (ti t) r) (col (th t) l)) := by
  blk_ext [idx t, pos, col, ti, th]

theorem emb10 (t : Fin cfg0.N) (X : Vec Ideal S64x1x512 .f32) (l : Fin 512) : X ((win0_10.blk t).view.emb (ix3 0 0 l)) = X (ix3 (tt t) 0 l) := by
  blk_ext [idx t, pos, col, ti, th, tt]

section

variable (m : (ℓ : Loc nD τ sig) → Buf (Elt Ideal) ℓ) (c : Dev nD) (t : Fin cfg0.N)

theorem blk0 (r : Fin 4096) (l : Fin 128) : (iblk m c 0 t : Vec Ideal S4096x128 .bf16) (ix2 r l) = A0 m c (ix2 r (col (th t) l)) := by
  rw [← V_arg0]
  blk_ext [iblk, idx t, pos, col, ti, th]

theorem blk1 (r : Fin 512) (l : Fin 128) : (iblk m c 1 t : Vec Ideal S512x128 .bf16) (ix2 r l) = A1 m c (ix2 (pos (ti t) r) (col (th t) l)) := by
  rw [← V_arg1]
  blk_ext [iblk, idx t, pos, col, ti, th]

theorem blk2 (r : Fin 512) (l : Fin 128) : (iblk m c 2 t : Vec Ideal S512x128 .bf16) (ix2 r l) = A2 m c (ix2 (pos (ti t) r) (col (th t) l)) := by
  rw [← V_arg2]
  blk_ext [iblk, idx t, pos, col, ti, th]

theorem blk4 (r : Fin 4096) (l : Fin 128) : (iblk m c 4 t : Vec Ideal S4096x128 .bf16) (ix2 r l) = A4 m c (ix2 r (col (th t) l)) := by
  rw [← V_arg4]
  blk_ext [iblk, idx t, pos, col, ti, th]

theorem blk3 (r : Fin 4096) (l : Fin 128) : (iblk m c 3 t : Vec Ideal S4096x128 .f32) (ix2 r l) = V m c main_v39 (ix2 r (col (th t) l)) :=
  rd3 c t (V m c) r l

theorem blk5 (r : Fin 4096) (l : Fin 128) : (iblk m c 5 t : Vec Ideal S1x4096x128 .f32) (ix3 0 r l) = V m c main_v71 (ix3 (th t) r l) :=
  rd5 c t (V m c) r l

theorem blk6 (r : Fin 4096) (l : Fin 128) : (iblk m c 6 t : Vec Ideal S4096x128 .f32) (ix2 r l) = V m c main_v72 (ix2 r l) :=
  rd6 c t (V m c) r l

theorem blk7 (b : Fin 64) (l : Fin 512) : (iblk m c 7 t : Vec Ideal S64x1x512 .f32) (ix3 b 0 l) = V m c main_v75 (ix3 b 0 l) :=
  rd7 c t (V m c) b l

/-- What the loop starts from: the diagonal tile's sums. -/
abbrev ini : FVec Ideal S512x128 .f32 × FVec Ideal S512x128 .f32 × FVec Ideal S1x512 .f32 :=
  (k0_pay17 (iblk m c 1 t) (iblk m c 2 t) (k0_pay8 (View.ld (iblk m c 7 t) (Rect.unit (k0_off1 (grid0.coords t)) ![1, 1, 512] (k0_off1_inb _)))) k0_pay9 (View.ld (iblk m c 0 t) (Rect.unit (k0_off2 (grid0.coords t)) ![512, 128] (k0_off2_inb _))) (View.ld (iblk m c 4 t) (Rect.unit (k0_off2 (grid0.coords t)) ![512, 128] (k0_off2_inb _))) (k0_pay12 (grid0.coords t) (View.ld (iblk m c 6 t) (Rect.unit (k0_off2 (grid0.coords t)) ![512, 128] (k0_off2_inb _)))) (k0_pay13 (View.ld (iblk m c 5 t) (Rect.unit (k0_off3 (grid0.coords t)) ![1, 512, 128] (k0_off3_inb _)))) (k0_pay14 (View.ld (iblk m c 4 t) (Rect.unit (k0_off2 (grid0.coords t)) ![512, 128] (k0_off2_inb _))) (View.ld (iblk m c 3 t) (Rect.unit (k0_off2 (grid0.coords t)) ![512, 128] (k0_off2_inb _)))),
    k0_pay18 (iblk m c 1 t) (k0_pay8 (View.ld (iblk m c 7 t) (Rect.unit (k0_off1 (grid0.coords t)) ![1, 1, 512] (k0_off1_inb _)))) k0_pay10 (View.ld (iblk m c 0 t) (Rect.unit (k0_off2 (grid0.coords t)) ![512, 128] (k0_off2_inb _))) (View.ld (iblk m c 4 t) (Rect.unit (k0_off2 (grid0.coords t)) ![512, 128] (k0_off2_inb _))) (k0_pay12 (grid0.coords t) (View.ld (iblk m c 6 t) (Rect.unit (k0_off2 (grid0.coords t)) ![512, 128] (k0_off2_inb _)))) (k0_pay13 (View.ld (iblk m c 5 t) (Rect.unit (k0_off3 (grid0.coords t)) ![1, 512, 128] (k0_off3_inb _)))),
    k0_pay19 (iblk m c 1 t) (iblk m c 2 t) (k0_pay8 (View.ld (iblk m c 7 t) (Rect.unit (k0_off1 (grid0.coords t)) ![1, 1, 512] (k0_off1_inb _)))) k0_pay11 (View.ld (iblk m c 0 t) (Rect.unit (k0_off2 (grid0.coords t)) ![512, 128] (k0_off2_inb _))) (View.ld (iblk m c 4 t) (Rect.unit (k0_off2 (grid0.coords t)) ![512, 128] (k0_off2_inb _))) (k0_pay12 (grid0.coords t) (View.ld (iblk m c 6 t) (Rect.unit (k0_off2 (grid0.coords t)) ![512, 128] (k0_off2_inb _)))) (k0_pay13 (View.ld (iblk m c 5 t) (Rect.unit (k0_off3 (grid0.coords t)) ![1, 512, 128] (k0_off3_inb _)))) (k0_pay14 (View.ld (iblk m c 4 t) (Rect.unit (k0_off2 (grid0.coords t)) ![512, 128] (k0_off2_inb _))) (View.ld (iblk m c 3 t) (Rect.unit (k0_off2 (grid0.coords t)) ![512, 128] (k0_off2_inb _)))))

/-- What the loop carries after `n` trips at a grid point. -/
abbrev car (n : ℕ) := st_k0_t1 (F := Ideal) Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t)
  (BitVec.ofNat 32 (grid0.coords t 0).val) (iblk m c 1 t) (iblk m c 2 t) (k0_pay8 (View.ld (iblk m c 7 t) (Rect.unit (k0_off1 (grid0.coords t)) ![1, 1, 512] (k0_off1_inb _)))) k0_pay9 k0_pay10 k0_pay11 (Scalar.addi (BitVec.ofNat 32 (grid0.coords t 1).val) 1#32) (View.ld (iblk m c 0 t) (Rect.unit (k0_off2 (grid0.coords t)) ![512, 128] (k0_off2_inb _))) (View.ld (iblk m c 4 t) (Rect.unit (k0_off2 (grid0.coords t)) ![512, 128] (k0_off2_inb _))) (k0_pay12 (grid0.coords t) (View.ld (iblk m c 6 t) (Rect.unit (k0_off2 (grid0.coords t)) ![512, 128] (k0_off2_inb _)))) (k0_pay13 (View.ld (iblk m c 5 t) (Rect.unit (k0_off3 (grid0.coords t)) ![1, 512, 128] (k0_off3_inb _)))) (k0_pay14 (View.ld (iblk m c 4 t) (Rect.unit (k0_off2 (grid0.coords t)) ![512, 128] (k0_off2_inb _))) (View.ld (iblk m c 3 t) (Rect.unit (k0_off2 (grid0.coords t)) ![512, 128] (k0_off2_inb _)))) ((hs0_0 t).unread (iblk m c 0 t)) ((hs0_3 t).unread (iblk m c 3 t)) ((hs0_4 t).unread (iblk m c 4 t)) ((hs0_5 t).unread (iblk m c 5 t)) ((hs0_6 t).unread (iblk m c 6 t)) (ini m c t) n

/-- The second loop. -/
abbrev car' (a) (n : ℕ) := st_k0_t2 (F := Ideal) Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t)
  (BitVec.ofNat 32 (grid0.coords t 0).val) (iblk m c 1 t) (iblk m c 2 t) (k0_pay8 (View.ld (iblk m c 7 t) (Rect.unit (k0_off1 (grid0.coords t)) ![1, 1, 512] (k0_off1_inb _)))) k0_pay9 k0_pay10 k0_pay11 (Scalar.addi (BitVec.ofNat 32 (grid0.coords t 1).val) 1#32) (View.ld (iblk m c 0 t) (Rect.unit (k0_off2 (grid0.coords t)) ![512, 128] (k0_off2_inb _))) (View.ld (iblk m c 4 t) (Rect.unit (k0_off2 (grid0.coords t)) ![512, 128] (k0_off2_inb _))) (k0_pay12 (grid0.coords t) (View.ld (iblk m c 6 t) (Rect.unit (k0_off2 (grid0.coords t)) ![512, 128] (k0_off2_inb _)))) (k0_pay13 (View.ld (iblk m c 5 t) (Rect.unit (k0_off3 (grid0.coords t)) ![1, 512, 128] (k0_off3_inb _)))) (k0_pay14 (View.ld (iblk m c 4 t) (Rect.unit (k0_off2 (grid0.coords t)) ![512, 128] (k0_off2_inb _))) (View.ld (iblk m c 3 t) (Rect.unit (k0_off2 (grid0.coords t)) ![512, 128] (k0_off2_inb _)))) (Scalar.addi (Scalar.addi (BitVec.ofNat 32 (grid0.coords t 1).val) 1#32) (Scalar.muli (Scalar.divsi (Scalar.subi 8#32 (Scalar.addi (BitVec.ofNat 32 (grid0.coords t 1).val) 1#32)) 1#32) 1#32)) ((hs0_0 t).unread (iblk m c 0 t)) ((hs0_3 t).unread (iblk m c 3 t)) ((hs0_4 t).unread (iblk m c 4 t)) ((hs0_5 t).unread (iblk m c 5 t)) ((hs0_6 t).unread (iblk m c 6 t)) a n

theorem outs1 (y) : (outsAt0 m c t).1 y = k0_pay26 (car' m c t (car m c t (k0_t1_loop (grid0.coords t)).trips) (k0_t2_loop (grid0.coords t)).trips).1 y := by
  unfold outsAt0
  frame_out
  rfl

theorem outs2 (y) : (outsAt0 m c t).2.1 y = k0_pay27 (car' m c t (car m c t (k0_t1_loop (grid0.coords t)).trips) (k0_t2_loop (grid0.coords t)).trips).2.1 y := by
  unfold outsAt0
  frame_out
  rfl

theorem outs3 (y) : (outsAt0 m c t).2.2 y = k0_pay1 (car' m c t (car m c t (k0_t1_loop (grid0.coords t)).trips) (k0_t2_loop (grid0.coords t)).trips).2.2 y := by
  unfold outsAt0
  frame_out
  rfl

theorem car_end : (car' m c t (car m c t (k0_t1_loop (grid0.coords t)).trips) (k0_t2_loop (grid0.coords t)).trips) = car m c t (7 - (ti t).val) := by
  rw [trips_zero, trips_eq, (coords t).2]
  exact st_k0_t2_zero ..

end

end Cert.BwdKvIdeal.Final

end
-- ==== Proof.KvFinal.lean ====
/- What the key and value gradient kernel leaves in its three results. -/
module

public import proofs.«01_k».proof.Proof.KvBlk

@[expose] public section

set_option maxRecDepth 16384

noncomputable section

open Idealize.ShloMosaic Idealize.ShloMosaic.TcCoe Idealize.SL.Sem
open Idealize.ShloMosaic.Pipeline (Dat)

namespace Cert.BwdKvIdeal.Final

open Cert.BwdKvIdeal Cert.BwdKvIdeal.Gen Cert.Attn

/-- A matrix of reals as an array. -/
def M2 (f : Fin 4096 → Fin 1024 → ℝ) : Vec Ideal S4096x1024 .bf16 := fun y => ((f (y 0) (y 1) : ℝ) : EReal)

/-- A matrix of reals by tiles as an array. -/
def MR (f : Fin 64 → Fin 512 → ℝ) : Vec Ideal S64x1x512 .f32 := fun y => ((f (y 0) (y 2) : ℝ) : EReal)

theorem scaled_at (b : Vec Ideal S512x128 .f32) (y) : k0_pay26 (F := Ideal) b y = b y * (((Real.sqrt 128)⁻¹ : ℝ) : EReal) := by
  pointwise [k0_pay26]
  rw [scale_at]

theorem cast_at (b : Vec Ideal S512x128 .f32) (y) : k0_pay27 (F := Ideal) b y = b y := by
  pointwise [k0_pay27]

theorem row_cast (b : Vec Ideal S1x512 .f32) (x : Fin 512) : k0_pay1 (F := Ideal) b (ix3 0 0 x) = b (ix2 0 x) := by
  pointwise [k0_pay1]

theorem before {J : Fin 8} {x : Fin 512} {i : Fin 4096} (hi : i.val < J.val * 512) : ¬ pos J x ≤ i := by
  rw [Fin.le_def]
  simp only [pos]
  omega

/-- The first tile of a sum over the queries from the key's tile on. -/
theorem pre_first (f : Fin 4096 → ℝ) (J : Fin 8) (hf : ∀ i : Fin 4096, i.val < J.val * 512 → f i = 0) : pre f ((J.val + 1) * 512) = ∑ r, f (pos J r) := by
  rw [pre_tile, pre_none f _ hf, zero_add]

section

variable {m : (ℓ : Loc nD τ sig) → Buf (Elt Ideal) ℓ} {c : Dev nD} {q k v g : Fin 4096 → Fin 1024 → ℝ} {w : Fin 4096 → Fin 8 → ℝ}
  (hq : IsM (A0 m c) q) (hk : IsM (A1 m c) k) (hv : IsM (A2 m c) v) (hw : IsM (A3 m c) w) (hg : IsM (A4 m c) g)

include hq hk hv hw hg

/-- What a grid point leaves in its three output blocks. -/
theorem point (t : Fin cfg0.N) :
    (∀ x l, (outsAt0 m c t).1 (ix2 x l) = (((∑ i, ds q k v g w (th t) i (pos (ti t) x) * q i (col (th t) l)) * (Real.sqrt 128)⁻¹ : ℝ) : EReal))
      ∧ (∀ x l, (outsAt0 m c t).2.1 (ix2 x l) = ((∑ i, pr (sc q k w (th t)) i (pos (ti t) x) * g i (col (th t) l) : ℝ) : EReal))
      ∧ ∀ x, (outsAt0 m c t).2.2 (ix3 0 0 x) = ((-∑ i, ds q k v g w (th t) i (pos (ti t) x) : ℝ) : EReal) := by
  have c0 := (coords t).1
  have c1 := (coords t).2
  have bk : ∀ r l, (iblk m c 1 t : Vec Ideal S512x128 .bf16) (ix2 r l) = ((k (pos (ti t) r) (col (th t) l) : ℝ) : EReal) := fun r l => (blk1 m c t r l).trans (hk _ _)
  have bv : ∀ r l, (iblk m c 2 t : Vec Ideal S512x128 .bf16) (ix2 r l) = ((v (pos (ti t) r) (col (th t) l) : ℝ) : EReal) := fun r l => (blk2 m c t r l).trans (hv _ _)
  have bq : ∀ p l, (iblk m c 0 t : Vec Ideal S4096x128 .bf16) (ix2 p l) = ((q p (col (th t) l) : ℝ) : EReal) := fun r l => (blk0 m c t r l).trans (hq _ _)
  have bg : ∀ p l, (iblk m c 4 t : Vec Ideal S4096x128 .bf16) (ix2 p l) = ((g p (col (th t) l) : ℝ) : EReal) := fun r l => (blk4 m c t r l).trans (hg _ _)
  have bo : ∀ p l, (iblk m c 3 t : Vec Ideal S4096x128 .f32) (ix2 p l) = ((ou q k v w p (col (th t) l) : ℝ) : EReal) :=
    fun r l => (blk3 m c t r l).trans (out_at hq hk hv hw _ _)
  have bl : ∀ p l, (iblk m c 5 t : Vec Ideal S1x4096x128 .f32) (ix3 0 p l) = ((lg (sc q k w (th t)) p : ℝ) : EReal) :=
    fun r l => (blk5 m c t r l).trans (lse_at' hq hk hw _ _ _)
  have bc : ∀ p l, (iblk m c 6 t : Vec Ideal S4096x128 .f32) (ix2 p l) = ((cv w p l : ℝ) : EReal) := fun r l => (blk6 m c t r l).trans (col_at hw _ _)
  have by' : ∀ b x, (iblk m c 7 t : Vec Ideal S64x1x512 .f32) (ix3 b 0 x) = ((w (bp b x) (bh b) : ℝ) : EReal) := fun b x => (blk7 m c t b x).trans (row_at hw b x)
  have o1 := k0_off1_eq (grid0.coords t)
  have o2 := k0_off2_eq (grid0.coords t)
  have o3 := k0_off3_eq (grid0.coords t)
  rw [c0, c1] at o1
  rw [c1] at o2 o3
  have tq := ld_tile bq (ti t) o2 (k0_off2_inb _)
  have tg := ld_tile bg (ti t) o2 (k0_off2_inb _)
  have tc := ld_tile32 bc (ti t) o2 (k0_off2_inb _)
  have tl := ld_lse bl (ti t) o3 (k0_off3_inb _)
  have tz := ld_tile32 bo (ti t) o2 (k0_off2_inb _)
  have ty := ld_row by' (th t) (ti t) o1 (k0_off1_inb _)
  have z : ∀ (x : Fin 512) (i : Fin 4096), i.val < (ti t).val * 512 → ds q k v g w (th t) i (pos (ti t) x) = 0 := fun x i hi => ds_after _ _ _ _ _ _ _ _ (before hi)
  have z' : ∀ (x : Fin 512) (i : Fin 4096), i.val < (ti t).val * 512 → pr (sc q k w (th t)) i (pos (ti t) x) = 0 := fun x i hi => if_neg (before hi)
  have I := loop_inv Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (iblk m c 1 t) (iblk m c 2 t) (k0_pay8 (View.ld (iblk m c 7 t) (Rect.unit (k0_off1 (grid0.coords t)) ![1, 1, 512] (k0_off1_inb _)))) (k0_pay9 (F := Ideal)) (k0_pay10 (F := Ideal)) (k0_pay11 (F := Ideal)) (Scalar.addi (BitVec.ofNat 32 (grid0.coords t 1).val) 1#32) (View.ld (iblk m c 0 t) (Rect.unit (k0_off2 (grid0.coords t)) ![512, 128] (k0_off2_inb _))) (View.ld (iblk m c 4 t) (Rect.unit (k0_off2 (grid0.coords t)) ![512, 128] (k0_off2_inb _))) (k0_pay12 (grid0.coords t) (View.ld (iblk m c 6 t) (Rect.unit (k0_off2 (grid0.coords t)) ![512, 128] (k0_off2_inb _)))) (k0_pay13 (View.ld (iblk m c 5 t) (Rect.unit (k0_off3 (grid0.coords t)) ![1, 512, 128] (k0_off3_inb _)))) (k0_pay14 (View.ld (iblk m c 4 t) (Rect.unit (k0_off2 (grid0.coords t)) ![512, 128] (k0_off2_inb _))) (View.ld (iblk m c 3 t) (Rect.unit (k0_off2 (grid0.coords t)) ![512, 128] (k0_off2_inb _)))) (iblk m c 0 t) (iblk m c 3 t) (iblk m c 4 t) (iblk m c 5 t) (iblk m c 6 t)
    c0 c1 bk bv (row_tile ty) bq bg bc bl bo (ini m c t)
    (fun x l => (diag_k c0 bk bv ty tq tg tc tl tz x l).trans (congrArg _ (pre_first (fun i => ds q k v g w (th t) i (pos (ti t) x) * q i (col (th t) l)) (ti t) fun i hi => by rw [z x i hi, zero_mul]).symm))
    (fun x l => (diag_v c0 bk ty tq tg tc tl x l).trans (congrArg _ (pre_first (fun i => pr (sc q k w (th t)) i (pos (ti t) x) * g i (col (th t) l)) (ti t) fun i hi => by rw [z' x i hi, zero_mul]).symm))
    (fun x => (diag_c c0 bk bv ty tq tg tc tl tz x).trans (congrArg _ (congrArg Neg.neg (pre_first (fun i => ds q k v g w (th t) i (pos (ti t) x)) (ti t) fun i hi => z x i hi).symm)))
    (7 - (ti t).val) (by omega)
  rw [show ((ti t).val + 1 + (7 - (ti t).val)) * 512 = 4096 by omega] at I
  simp only [pre_all] at I
  obtain ⟨I1, I2, I3⟩ := I
  refine ⟨fun x l => ?_, fun x l => ?_, fun x => ?_⟩
  · rw [outs1, scaled_at, car_end, EReal.coe_mul]
    exact congrArg (· * _) (I1 x l)
  · rw [outs2, cast_at, car_end]
    exact I2 x l
  · rw [outs3, row_cast, car_end]
    exact I3 x

/-- The first result: the gradient of the keys. -/
theorem res8 : IsM (a := 4096) (b := 1024) (φ := .bf16) ((dats m 0 c).arrAt 8 cfg0.N) fun j l => ∑ i, ds q k v g w (hd l) i j / Real.sqrt 128 * q i l := by
  have e : (dats m 0 c).arrAt 8 cfg0.N = M2 fun j l => (∑ i, ds q k v g w (hd l) i j * q i l) * (Real.sqrt 128)⁻¹ := by
    refine (dats m 0 c).arrAt_eq_of_covers 8 _ (by decide +kernel) fun t _ y => ?_
    blk_simp [idx t]
    rw [after0_8]
    obtain ⟨r, l, rfl⟩ : ∃ (r : Fin 512) (l : Fin 128), y = ix2 r l := ⟨y 0, y 1, by idx_vars y⟩
    refine ((point hq hk hv hw hg t).1 r l).trans ?_
    refine Eq.trans ?_ (emb8 t (M2 fun j l => (∑ i, ds q k v g w (hd l) i j * q i l) * (Real.sqrt 128)⁻¹) r l).symm
    show _ = (((∑ i, ds q k v g w (hd (col (th t) l)) i (pos (ti t) r) * q i (col (th t) l)) * (Real.sqrt 128)⁻¹ : ℝ) : EReal)
    rw [hd_col]
  intro j l
  rw [e]
  show (((∑ i, ds q k v g w (hd l) i j * q i l) * (Real.sqrt 128)⁻¹ : ℝ) : EReal) = ((∑ i, ds q k v g w (hd l) i j / Real.sqrt 128 * q i l : ℝ) : EReal)
  rw [Finset.sum_mul]
  exact congrArg _ (Finset.sum_congr rfl fun j _ => by ring)

/-- The second result: the gradient of the values. -/
theorem res9 : IsM (a := 4096) (b := 1024) (φ := .bf16) ((dats m 0 c).arrAt 9 cfg0.N) fun j l => ∑ i, g i l * pr (sc q k w (hd l)) i j := by
  have e : (dats m 0 c).arrAt 9 cfg0.N = M2 fun j l => ∑ i, pr (sc q k w (hd l)) i j * g i l := by
    refine (dats m 0 c).arrAt_eq_of_covers 9 _ (by decide +kernel) fun t _ y => ?_
    blk_simp [idx t]
    rw [after0_9]
    obtain ⟨r, l, rfl⟩ : ∃ (r : Fin 512) (l : Fin 128), y = ix2 r l := ⟨y 0, y 1, by idx_vars y⟩
    refine ((point hq hk hv hw hg t).2.1 r l).trans ?_
    refine Eq.trans ?_ (emb9 t (M2 fun j l => ∑ i, pr (sc q k w (hd l)) i j * g i l) r l).symm
    show _ = ((∑ i, pr (sc q k w (hd (col (th t) l))) i (pos (ti t) r) * g i (col (th t) l) : ℝ) : EReal)
    rw [hd_col]
  intro j l
  rw [e]
  show ((∑ i, pr (sc q k w (hd l)) i j * g i l : ℝ) : EReal) = ((∑ i, g i l * pr (sc q k w (hd l)) i j : ℝ) : EReal)
  exact congrArg _ (Finset.sum_congr rfl fun j _ => mul_comm _ _)

/-- The third result: the keys' part of the gradient of the gate's running sums, by tiles. -/
theorem res10 (b : Fin 64) (x : Fin 512) : ((dats m 0 c).arrAt 10 cfg0.N : Vec Ideal S64x1x512 .f32) (ix3 b 0 x) = ((-∑ i, ds q k v g w (bh b) i (bp b x) : ℝ) : EReal) := by
  have e : (dats m 0 c).arrAt 10 cfg0.N = MR fun b x => -∑ i, ds q k v g w (bh b) i (bp b x) := by
    refine (dats m 0 c).arrAt_eq_of_covers 10 _ (by decide +kernel) fun t _ y => ?_
    blk_simp [idx t]
    rw [after0_10]
    obtain ⟨l, rfl⟩ : ∃ l : Fin 512, y = ix3 0 0 l := ⟨y 2, by
      idx_vars y
      rw [Subsingleton.elim y0 0, Subsingleton.elim y1 0]⟩
    refine ((point hq hk hv hw hg t).2.2 l).trans ?_
    exact (emb10 t (MR fun b x => -∑ i, ds q k v g w (bh b) i (bp b x)) l).symm
  rw [e]
  rfl

end

end Cert.BwdKvIdeal.Final

end
-- ==== Proof.RunKv.lean ====
/- The host program `RefKvIdeal` as the list of its operations, and its run: each result at the steps of the attention
   (`Proof.Stages`) applied to the arguments, the arguments unchanged. -/
module

public import proofs.«01_k».proof.Proof.Gen.RefKvIdeal
public import proofs.«01_k».proof.Proof.Stages
public import Idealize.ShloMosaic.Lib.StableHlo.Run

@[expose] public section

noncomputable section

namespace Cert.RefKvIdeal.Steps

open Cert.RefKvIdeal Cert.RefKvIdeal.Gen Idealize.ShloMosaic Idealize.ShloMosaic.TcCoe Idealize.SL.Sem Idealize.ShloMosaic.StableHlo

variable {F : FTy → Type} [FloatOps F]

/-- Operations 1 to 33. -/
abbrev opsA : List (HloOp τ sig (Elt F)) :=
  [ unary main_arg0 main_v0 ((extf .f32 · bitsLt_bf16_f32) : (⟨S4096x1024, .bf16⟩ : BufTy).Contents (Elt F) → (⟨S4096x1024, .f32⟩ : BufTy).Contents (Elt F)),
    unary main_arg1 main_v1 ((extf .f32 · bitsLt_bf16_f32) : (⟨S4096x1024, .bf16⟩ : BufTy).Contents (Elt F) → (⟨S4096x1024, .f32⟩ : BufTy).Contents (Elt F)),
    unary main_arg2 main_v2 ((extf .f32 · bitsLt_bf16_f32) : (⟨S4096x1024, .bf16⟩ : BufTy).Contents (Elt F) → (⟨S4096x1024, .f32⟩ : BufTy).Contents (Elt F)),
    unary main_arg4 main_v3 ((extf .f32 · bitsLt_bf16_f32) : (⟨S4096x1024, .bf16⟩ : BufTy).Contents (Elt F) → (⟨S4096x1024, .f32⟩ : BufTy).Contents (Elt F)),
    reshape main_v0 main_v4 (rfl : (.f32 : EltTy) = .f32) shapeCasts_S4096x1024_S4096x8x128,
    reshape main_v1 main_v5 (rfl : (.f32 : EltTy) = .f32) shapeCasts_S4096x1024_S4096x8x128,
    binary main_v4 main_v5 main_v6 ((fun l r => Host.dotGeneral dot_S4096x8x128_S4096x8x128_S8x4096x4096_2_2_0_0_1_1 none l r) : (⟨S4096x8x128, .f32⟩ : BufTy).Contents (Elt F) → (⟨S4096x8x128, .f32⟩ : BufTy).Contents (Elt F) → (⟨S8x4096x4096, .f32⟩ : BufTy).Contents (Elt F)),
    nullary main_cst (constant S_ .f32 0x43000000#32),
    unary main_cst main_v7 (Host.sqrt : (⟨S_, .f32⟩ : BufTy).Contents (Elt F) → (⟨S_, .f32⟩ : BufTy).Contents (Elt F)),
    unary main_v7 main_v8 (broadcastInDim S8x4096x4096 ![] bcast_S_S8x4096x4096 : (⟨S_, .f32⟩ : BufTy).Contents (Elt F) → (⟨S8x4096x4096, .f32⟩ : BufTy).Contents (Elt F)),
    binary main_v6 main_v8 main_v9 (Host.divf : (⟨S8x4096x4096, .f32⟩ : BufTy).Contents (Elt F) → (⟨S8x4096x4096, .f32⟩ : BufTy).Contents (Elt F) → (⟨S8x4096x4096, .f32⟩ : BufTy).Contents (Elt F)),
    unary main_arg3 main_v10 ((transpose S8x4096 [1, 0] · transposes_S4096x8_S8x4096_1_0) : (⟨S4096x8, .f32⟩ : BufTy).Contents (Elt F) → (⟨S8x4096, .f32⟩ : BufTy).Contents (Elt F)),
    unary main_v10 main_v11 (broadcastInDim S8x4096x1 ![0, 1] bcast_S8x4096_S8x4096x1_0_1 : (⟨S8x4096, .f32⟩ : BufTy).Contents (Elt F) → (⟨S8x4096x1, .f32⟩ : BufTy).Contents (Elt F)),
    unary main_v11 main_v12 (broadcastInDim S8x4096x4096 ![0, 1, 2] bcast_S8x4096x1_S8x4096x4096_0_1_2 : (⟨S8x4096x1, .f32⟩ : BufTy).Contents (Elt F) → (⟨S8x4096x4096, .f32⟩ : BufTy).Contents (Elt F)),
    binary main_v9 main_v12 main_v13 (addf : (⟨S8x4096x4096, .f32⟩ : BufTy).Contents (Elt F) → (⟨S8x4096x4096, .f32⟩ : BufTy).Contents (Elt F) → (⟨S8x4096x4096, .f32⟩ : BufTy).Contents (Elt F)),
    unary main_arg3 main_v14 ((transpose S8x4096 [1, 0] · transposes_S4096x8_S8x4096_1_0) : (⟨S4096x8, .f32⟩ : BufTy).Contents (Elt F) → (⟨S8x4096, .f32⟩ : BufTy).Contents (Elt F)),
    unary main_v14 main_v15 (broadcastInDim S8x1x4096 ![0, 2] bcast_S8x4096_S8x1x4096_0_2 : (⟨S8x4096, .f32⟩ : BufTy).Contents (Elt F) → (⟨S8x1x4096, .f32⟩ : BufTy).Contents (Elt F)),
    unary main_v15 main_v16 (broadcastInDim S8x4096x4096 ![0, 1, 2] bcast_S8x1x4096_S8x4096x4096_0_1_2 : (⟨S8x1x4096, .f32⟩ : BufTy).Contents (Elt F) → (⟨S8x4096x4096, .f32⟩ : BufTy).Contents (Elt F)),
    binary main_v13 main_v16 main_v17 (subf : (⟨S8x4096x4096, .f32⟩ : BufTy).Contents (Elt F) → (⟨S8x4096x4096, .f32⟩ : BufTy).Contents (Elt F) → (⟨S8x4096x4096, .f32⟩ : BufTy).Contents (Elt F)),
    nullary main_v18 (iotaInDim S4096 32 0),
    unary main_v18 main_v19 (broadcastInDim S4096x1 ![0] bcast_S4096_S4096x1_0 : (⟨S4096, .i32⟩ : BufTy).Contents (Elt F) → (⟨S4096x1, .i32⟩ : BufTy).Contents (Elt F)),
    nullary main_v20 (iotaInDim S4096 32 0),
    unary main_v20 main_v21 (broadcastInDim S1x4096 ![1] bcast_S4096_S1x4096_1 : (⟨S4096, .i32⟩ : BufTy).Contents (Elt F) → (⟨S1x4096, .i32⟩ : BufTy).Contents (Elt F)),
    unary main_v19 main_v22 (broadcastInDim S4096x4096 ![0, 1] bcast_S4096x1_S4096x4096_0_1 : (⟨S4096x1, .i32⟩ : BufTy).Contents (Elt F) → (⟨S4096x4096, .i32⟩ : BufTy).Contents (Elt F)),
    unary main_v21 main_v23 (broadcastInDim S4096x4096 ![0, 1] bcast_S1x4096_S4096x4096_0_1 : (⟨S1x4096, .i32⟩ : BufTy).Contents (Elt F) → (⟨S4096x4096, .i32⟩ : BufTy).Contents (Elt F)),
    binary main_v22 main_v23 main_v24 (cmpi .sge : (⟨S4096x4096, .i32⟩ : BufTy).Contents (Elt F) → (⟨S4096x4096, .i32⟩ : BufTy).Contents (Elt F) → (⟨S4096x4096, .i1⟩ : BufTy).Contents (Elt F)),
    nullary main_cst_0 (constant S_ .f32 0xFF800000#32),
    TRef.unary (TRef.of (T := ⟨S_, .f32⟩) main_cst_0) (TRef.of (T := ⟨S_, .f32⟩) main_call0_v0) id,
    TRef.unary (TRef.of (T := ⟨S4096x4096, .i1⟩) main_v24) (TRef.of (T := ⟨S8x4096x4096, .i1⟩) main_v25_1) (broadcastInDim S8x4096x4096 ![1, 2] bcast_S4096x4096_S8x4096x4096_1_2),
    TRef.unary (TRef.of (T := ⟨S_, .f32⟩) main_call0_v0) (TRef.of (T := ⟨S8x4096x4096, .f32⟩) main_call0_v2) (broadcastInDim S8x4096x4096 ![] bcast_S_S8x4096x4096),
    TRef.ternary (TRef.of (T := ⟨S8x4096x4096, .i1⟩) main_v25_1) (TRef.of (T := ⟨S8x4096x4096, .f32⟩) main_v17) (TRef.of (T := ⟨S8x4096x4096, .f32⟩) main_call0_v2) (TRef.of (T := ⟨S8x4096x4096, .f32⟩) main_v25_0) select,
    TRef.nullary (TRef.of (T := ⟨S_, .f32⟩) main_call0_cst) (constant S_ .f32 0x00000000#32),
    TRef.unary (TRef.of (T := ⟨S_, .f32⟩) main_call0_cst) (TRef.of (T := ⟨S8x4096x4096, .f32⟩) main_v25_2) (broadcastInDim S8x4096x4096 ![] bcast_S_S8x4096x4096) ]

/-- Operations 34 to 65. -/
abbrev opsB : List (HloOp τ sig (Elt F)) :=
  [ nullary main_cst_1 (constant S_ .f32 0xFF800000#32),
    binary main_v25_0 main_cst_1 main_v26 ((fun x v => Host.reduce FloatOps.maximumf x v reducesTo_S8x4096x4096_S8x4096_d2 h_S_) : (⟨S8x4096x4096, .f32⟩ : BufTy).Contents (Elt F) → (⟨S_, .f32⟩ : BufTy).Contents (Elt F) → (⟨S8x4096, .f32⟩ : BufTy).Contents (Elt F)),
    reshape main_v26 main_v27 (rfl : (.f32 : EltTy) = .f32) shapeCasts_S8x4096_S8x4096x1,
    unary main_v27 main_v28 (broadcastInDim S8x4096x4096 ![0, 1, 2] bcast_S8x4096x1_S8x4096x4096_0_1_2 : (⟨S8x4096x1, .f32⟩ : BufTy).Contents (Elt F) → (⟨S8x4096x4096, .f32⟩ : BufTy).Contents (Elt F)),
    binary main_v25_0 main_v28 main_v29 (cmpf .oeq : (⟨S8x4096x4096, .f32⟩ : BufTy).Contents (Elt F) → (⟨S8x4096x4096, .f32⟩ : BufTy).Contents (Elt F) → (⟨S8x4096x4096, .i1⟩ : BufTy).Contents (Elt F)),
    unary main_v29 main_v30 (uitofp .f32 : (⟨S8x4096x4096, .i1⟩ : BufTy).Contents (Elt F) → (⟨S8x4096x4096, .f32⟩ : BufTy).Contents (Elt F)),
    nullary main_cst_2 (constant S_ .f32 0x00000000#32),
    binary main_v30 main_cst_2 main_v31 ((fun x v => Host.reduceAdd x v reducesTo_S8x4096x4096_S8x4096_d2 h_S_) : (⟨S8x4096x4096, .f32⟩ : BufTy).Contents (Elt F) → (⟨S_, .f32⟩ : BufTy).Contents (Elt F) → (⟨S8x4096, .f32⟩ : BufTy).Contents (Elt F)),
    nullary main_cst_3 (constant S_ .f32 0xFF800000#32),
    unary main_cst_3 main_v32 (broadcastInDim S8x4096 ![] bcast_S_S8x4096 : (⟨S_, .f32⟩ : BufTy).Contents (Elt F) → (⟨S8x4096, .f32⟩ : BufTy).Contents (Elt F)),
    binary main_v32 main_v26 main_v33 (maximumf : (⟨S8x4096, .f32⟩ : BufTy).Contents (Elt F) → (⟨S8x4096, .f32⟩ : BufTy).Contents (Elt F) → (⟨S8x4096, .f32⟩ : BufTy).Contents (Elt F)),
    nullary main_cst_4 (constant S_ .f32 0xFF800000#32),
    unary main_cst_4 main_v34 (broadcastInDim S8x4096 ![] bcast_S_S8x4096 : (⟨S_, .f32⟩ : BufTy).Contents (Elt F) → (⟨S8x4096, .f32⟩ : BufTy).Contents (Elt F)),
    binary main_v26 main_v34 main_v35 (cmpf .ogt : (⟨S8x4096, .f32⟩ : BufTy).Contents (Elt F) → (⟨S8x4096, .f32⟩ : BufTy).Contents (Elt F) → (⟨S8x4096, .i1⟩ : BufTy).Contents (Elt F)),
    nullary main_cst_5 (constant S_ .f32 0xFF800000#32),
    unary main_cst_5 main_v36 (broadcastInDim S8x4096 ![] bcast_S_S8x4096 : (⟨S_, .f32⟩ : BufTy).Contents (Elt F) → (⟨S8x4096, .f32⟩ : BufTy).Contents (Elt F)),
    binary main_v26 main_v36 main_v37 (cmpf .oeq : (⟨S8x4096, .f32⟩ : BufTy).Contents (Elt F) → (⟨S8x4096, .f32⟩ : BufTy).Contents (Elt F) → (⟨S8x4096, .i1⟩ : BufTy).Contents (Elt F)),
    nullary main_cst_6 (constant S_ .f32 0x3F800000#32),
    unary main_cst_6 main_v38 (broadcastInDim S8x4096 ![] bcast_S_S8x4096 : (⟨S_, .f32⟩ : BufTy).Contents (Elt F) → (⟨S8x4096, .f32⟩ : BufTy).Contents (Elt F)),
    nullary main_cst_7 (constant S_ .f32 0x00000000#32),
    unary main_cst_7 main_v39 (broadcastInDim S8x4096 ![] bcast_S_S8x4096 : (⟨S_, .f32⟩ : BufTy).Contents (Elt F) → (⟨S8x4096, .f32⟩ : BufTy).Contents (Elt F)),
    nullary main_cst_8 (constant S_ .f32 0x3F000000#32),
    unary main_cst_8 main_v40 (broadcastInDim S8x4096 ![] bcast_S_S8x4096 : (⟨S_, .f32⟩ : BufTy).Contents (Elt F) → (⟨S8x4096, .f32⟩ : BufTy).Contents (Elt F)),
    ternary main_v37 main_v40 main_v39 main_v41 (select : (⟨S8x4096, .i1⟩ : BufTy).Contents (Elt F) → (⟨S8x4096, .f32⟩ : BufTy).Contents (Elt F) → (⟨S8x4096, .f32⟩ : BufTy).Contents (Elt F) → (⟨S8x4096, .f32⟩ : BufTy).Contents (Elt F)),
    ternary main_v35 main_v38 main_v41 main_v42 (select : (⟨S8x4096, .i1⟩ : BufTy).Contents (Elt F) → (⟨S8x4096, .f32⟩ : BufTy).Contents (Elt F) → (⟨S8x4096, .f32⟩ : BufTy).Contents (Elt F) → (⟨S8x4096, .f32⟩ : BufTy).Contents (Elt F)),
    unary main_v33 main_v43 (broadcastInDim S8x4096x1 ![0, 1] bcast_S8x4096_S8x4096x1_0_1 : (⟨S8x4096, .f32⟩ : BufTy).Contents (Elt F) → (⟨S8x4096x1, .f32⟩ : BufTy).Contents (Elt F)),
    unary main_v43 main_v44 (broadcastInDim S8x4096x4096 ![0, 1, 2] bcast_S8x4096x1_S8x4096x4096_0_1_2 : (⟨S8x4096x1, .f32⟩ : BufTy).Contents (Elt F) → (⟨S8x4096x4096, .f32⟩ : BufTy).Contents (Elt F)),
    binary main_v25_0 main_v44 main_v45 (subf : (⟨S8x4096x4096, .f32⟩ : BufTy).Contents (Elt F) → (⟨S8x4096x4096, .f32⟩ : BufTy).Contents (Elt F) → (⟨S8x4096x4096, .f32⟩ : BufTy).Contents (Elt F)),
    unary main_v45 main_v46 (Host.exp : (⟨S8x4096x4096, .f32⟩ : BufTy).Contents (Elt F) → (⟨S8x4096x4096, .f32⟩ : BufTy).Contents (Elt F)),
    nullary main_cst_9 (constant S_ .f32 0x00000000#32),
    binary main_v46 main_cst_9 main_v47 ((fun x v => Host.reduceAdd x v reducesTo_S8x4096x4096_S8x4096_d2 h_S_) : (⟨S8x4096x4096, .f32⟩ : BufTy).Contents (Elt F) → (⟨S_, .f32⟩ : BufTy).Contents (Elt F) → (⟨S8x4096, .f32⟩ : BufTy).Contents (Elt F)),
    unary main_v47 main_v48 (broadcastInDim S8x4096x1 ![0, 1] bcast_S8x4096_S8x4096x1_0_1 : (⟨S8x4096, .f32⟩ : BufTy).Contents (Elt F) → (⟨S8x4096x1, .f32⟩ : BufTy).Contents (Elt F)) ]

/-- Operations 66 to 98. -/
abbrev opsC : List (HloOp τ sig (Elt F)) :=
  [ unary main_v48 main_v49 (broadcastInDim S8x4096x4096 ![0, 1, 2] bcast_S8x4096x1_S8x4096x4096_0_1_2 : (⟨S8x4096x1, .f32⟩ : BufTy).Contents (Elt F) → (⟨S8x4096x4096, .f32⟩ : BufTy).Contents (Elt F)),
    binary main_v46 main_v49 main_v50 (Host.divf : (⟨S8x4096x4096, .f32⟩ : BufTy).Contents (Elt F) → (⟨S8x4096x4096, .f32⟩ : BufTy).Contents (Elt F) → (⟨S8x4096x4096, .f32⟩ : BufTy).Contents (Elt F)),
    binary main_v48 main_v48 main_v51 (mulf : (⟨S8x4096x1, .f32⟩ : BufTy).Contents (Elt F) → (⟨S8x4096x1, .f32⟩ : BufTy).Contents (Elt F) → (⟨S8x4096x1, .f32⟩ : BufTy).Contents (Elt F)),
    nullary main_cst_10 (constant S_ .f32 0x3F800000#32),
    unary main_cst_10 main_v52 (broadcastInDim S8x4096x1 ![] bcast_S_S8x4096x1 : (⟨S_, .f32⟩ : BufTy).Contents (Elt F) → (⟨S8x4096x1, .f32⟩ : BufTy).Contents (Elt F)),
    binary main_v52 main_v51 main_v53 (Host.divf : (⟨S8x4096x1, .f32⟩ : BufTy).Contents (Elt F) → (⟨S8x4096x1, .f32⟩ : BufTy).Contents (Elt F) → (⟨S8x4096x1, .f32⟩ : BufTy).Contents (Elt F)),
    reshape main_v2 main_v54 (rfl : (.f32 : EltTy) = .f32) shapeCasts_S4096x1024_S4096x8x128,
    binary main_v54 main_v50 main_v55 ((fun l r => Host.dotGeneral dot_S4096x8x128_S8x4096x4096_S8x128x4096_0_2_2_1_1_0 none l r) : (⟨S4096x8x128, .f32⟩ : BufTy).Contents (Elt F) → (⟨S8x4096x4096, .f32⟩ : BufTy).Contents (Elt F) → (⟨S8x128x4096, .f32⟩ : BufTy).Contents (Elt F)),
    unary main_v55 main_v56 ((transpose S4096x8x128 [2, 0, 1] · transposes_S8x128x4096_S4096x8x128_2_0_1) : (⟨S8x128x4096, .f32⟩ : BufTy).Contents (Elt F) → (⟨S4096x8x128, .f32⟩ : BufTy).Contents (Elt F)),
    reshape main_v56 main_v57 (rfl : (.f32 : EltTy) = .f32) shapeCasts_S4096x8x128_S4096x1024,
    reshape main_v3 main_v58 (rfl : (.f32 : EltTy) = .f32) shapeCasts_S4096x1024_S4096x8x128,
    unary main_v58 main_v59 ((transpose S8x128x4096 [1, 2, 0] · transposes_S4096x8x128_S8x128x4096_1_2_0) : (⟨S4096x8x128, .f32⟩ : BufTy).Contents (Elt F) → (⟨S8x128x4096, .f32⟩ : BufTy).Contents (Elt F)),
    binary main_v59 main_v54 main_v60 ((fun l r => Host.dotGeneral dot_S8x128x4096_S4096x8x128_S8x4096x4096_1_2_2_0_0_1 none l r) : (⟨S8x128x4096, .f32⟩ : BufTy).Contents (Elt F) → (⟨S4096x8x128, .f32⟩ : BufTy).Contents (Elt F) → (⟨S8x4096x4096, .f32⟩ : BufTy).Contents (Elt F)),
    binary main_v59 main_v50 main_v61 ((fun l r => Host.dotGeneral dot_S8x128x4096_S8x4096x4096_S8x128x4096_2_1_1_2_0_0 none l r) : (⟨S8x128x4096, .f32⟩ : BufTy).Contents (Elt F) → (⟨S8x4096x4096, .f32⟩ : BufTy).Contents (Elt F) → (⟨S8x128x4096, .f32⟩ : BufTy).Contents (Elt F)),
    unary main_v61 main_v62 ((transpose S4096x8x128 [2, 0, 1] · transposes_S8x128x4096_S4096x8x128_2_0_1) : (⟨S8x128x4096, .f32⟩ : BufTy).Contents (Elt F) → (⟨S4096x8x128, .f32⟩ : BufTy).Contents (Elt F)),
    reshape main_v62 main_v63 (rfl : (.f32 : EltTy) = .f32) shapeCasts_S4096x8x128_S4096x1024,
    unary main_v53 main_v64 (broadcastInDim S8x4096x4096 ![0, 1, 2] bcast_S8x4096x1_S8x4096x4096_0_1_2 : (⟨S8x4096x1, .f32⟩ : BufTy).Contents (Elt F) → (⟨S8x4096x4096, .f32⟩ : BufTy).Contents (Elt F)),
    binary main_v60 main_v64 main_v65 (mulf : (⟨S8x4096x4096, .f32⟩ : BufTy).Contents (Elt F) → (⟨S8x4096x4096, .f32⟩ : BufTy).Contents (Elt F) → (⟨S8x4096x4096, .f32⟩ : BufTy).Contents (Elt F)),
    binary main_v65 main_v46 main_v66 (mulf : (⟨S8x4096x4096, .f32⟩ : BufTy).Contents (Elt F) → (⟨S8x4096x4096, .f32⟩ : BufTy).Contents (Elt F) → (⟨S8x4096x4096, .f32⟩ : BufTy).Contents (Elt F)),
    nullary main_cst_11 (constant S_ .f32 0x00000000#32),
    binary main_v66 main_cst_11 main_v67 ((fun x v => Host.reduceAdd x v reducesTo_S8x4096x4096_S8x4096_d2 h_S_) : (⟨S8x4096x4096, .f32⟩ : BufTy).Contents (Elt F) → (⟨S_, .f32⟩ : BufTy).Contents (Elt F) → (⟨S8x4096, .f32⟩ : BufTy).Contents (Elt F)),
    reshape main_v67 main_v68 (rfl : (.f32 : EltTy) = .f32) shapeCasts_S8x4096_S8x4096x1,
    unary main_v68 main_v69 (Host.negf : (⟨S8x4096x1, .f32⟩ : BufTy).Contents (Elt F) → (⟨S8x4096x1, .f32⟩ : BufTy).Contents (Elt F)),
    unary main_v48 main_v70 (broadcastInDim S8x4096x4096 ![0, 1, 2] bcast_S8x4096x1_S8x4096x4096_0_1_2 : (⟨S8x4096x1, .f32⟩ : BufTy).Contents (Elt F) → (⟨S8x4096x4096, .f32⟩ : BufTy).Contents (Elt F)),
    binary main_v60 main_v70 main_v71 (Host.divf : (⟨S8x4096x4096, .f32⟩ : BufTy).Contents (Elt F) → (⟨S8x4096x4096, .f32⟩ : BufTy).Contents (Elt F) → (⟨S8x4096x4096, .f32⟩ : BufTy).Contents (Elt F)),
    nullary main_cst_12 (constant S_ .f32 0x00000000#32),
    binary main_v69 main_cst_12 main_v72 ((fun x v => Host.reduceAdd x v reducesTo_S8x4096x1_S8x4096_d2 h_S_) : (⟨S8x4096x1, .f32⟩ : BufTy).Contents (Elt F) → (⟨S_, .f32⟩ : BufTy).Contents (Elt F) → (⟨S8x4096, .f32⟩ : BufTy).Contents (Elt F)),
    unary main_v72 main_v73 (broadcastInDim S8x4096x4096 ![0, 1] bcast_S8x4096_S8x4096x4096_0_1 : (⟨S8x4096, .f32⟩ : BufTy).Contents (Elt F) → (⟨S8x4096x4096, .f32⟩ : BufTy).Contents (Elt F)),
    binary main_v71 main_v73 main_v74 (addf : (⟨S8x4096x4096, .f32⟩ : BufTy).Contents (Elt F) → (⟨S8x4096x4096, .f32⟩ : BufTy).Contents (Elt F) → (⟨S8x4096x4096, .f32⟩ : BufTy).Contents (Elt F)),
    binary main_v74 main_v46 main_v75 (mulf : (⟨S8x4096x4096, .f32⟩ : BufTy).Contents (Elt F) → (⟨S8x4096x4096, .f32⟩ : BufTy).Contents (Elt F) → (⟨S8x4096x4096, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S8x4096x4096, .f32⟩) main_call1_v0) (broadcastInDim S8x4096x4096 ![] bcast_S_S8x4096x4096),
    TRef.ternary (TRef.of (T := ⟨S8x4096x4096, .i1⟩) main_v25_1) (TRef.of (T := ⟨S8x4096x4096, .f32⟩) main_v75) (TRef.of (T := ⟨S8x4096x4096, .f32⟩) main_call1_v0) (TRef.of (T := ⟨S8x4096x4096, .f32⟩) main_v76) select ]

/-- Operations 99 to 114. -/
abbrev opsD : List (HloOp τ sig (Elt F)) :=
  [ unary main_v76 main_v77 (Host.negf : (⟨S8x4096x4096, .f32⟩ : BufTy).Contents (Elt F) → (⟨S8x4096x4096, .f32⟩ : BufTy).Contents (Elt F)),
    nullary main_cst_13 (constant S_ .f32 0x00000000#32),
    binary main_v77 main_cst_13 main_v78 ((fun x v => Host.reduceAdd x v reducesTo_S8x4096x4096_S8x4096_d1 h_S_) : (⟨S8x4096x4096, .f32⟩ : BufTy).Contents (Elt F) → (⟨S_, .f32⟩ : BufTy).Contents (Elt F) → (⟨S8x4096, .f32⟩ : BufTy).Contents (Elt F)),
    reshape main_v78 main_v79 (rfl : (.f32 : EltTy) = .f32) shapeCasts_S8x4096_S8x1x4096,
    nullary main_cst_14 (constant S_ .f32 0x00000000#32),
    binary main_v79 main_cst_14 main_v80 ((fun x v => Host.reduceAdd x v reducesTo_S8x1x4096_S8x4096_d1 h_S_) : (⟨S8x1x4096, .f32⟩ : BufTy).Contents (Elt F) → (⟨S_, .f32⟩ : BufTy).Contents (Elt F) → (⟨S8x4096, .f32⟩ : BufTy).Contents (Elt F)),
    unary main_v80 main_v81 ((transpose S4096x8 [1, 0] · transposes_S8x4096_S4096x8_1_0) : (⟨S8x4096, .f32⟩ : BufTy).Contents (Elt F) → (⟨S4096x8, .f32⟩ : BufTy).Contents (Elt F)),
    unary main_v7 main_v82 (broadcastInDim S8x4096x4096 ![] bcast_S_S8x4096x4096 : (⟨S_, .f32⟩ : BufTy).Contents (Elt F) → (⟨S8x4096x4096, .f32⟩ : BufTy).Contents (Elt F)),
    binary main_v76 main_v82 main_v83 (Host.divf : (⟨S8x4096x4096, .f32⟩ : BufTy).Contents (Elt F) → (⟨S8x4096x4096, .f32⟩ : BufTy).Contents (Elt F) → (⟨S8x4096x4096, .f32⟩ : BufTy).Contents (Elt F)),
    binary main_v83 main_v4 main_v84 ((fun l r => Host.dotGeneral dot_S8x4096x4096_S4096x8x128_S8x4096x128_1_0_2_2_0_1 none l r) : (⟨S8x4096x4096, .f32⟩ : BufTy).Contents (Elt F) → (⟨S4096x8x128, .f32⟩ : BufTy).Contents (Elt F) → (⟨S8x4096x128, .f32⟩ : BufTy).Contents (Elt F)),
    unary main_v84 main_v85 ((transpose S4096x8x128 [1, 0, 2] · transposes_S8x4096x128_S4096x8x128_1_0_2) : (⟨S8x4096x128, .f32⟩ : BufTy).Contents (Elt F) → (⟨S4096x8x128, .f32⟩ : BufTy).Contents (Elt F)),
    reshape main_v85 main_v86 (rfl : (.f32 : EltTy) = .f32) shapeCasts_S4096x8x128_S4096x1024,
    unary main_v86 main_v87 ((truncf .bf16 · bitsLt_bf16_f32) : (⟨S4096x1024, .f32⟩ : BufTy).Contents (Elt F) → (⟨S4096x1024, .bf16⟩ : BufTy).Contents (Elt F)),
    unary main_v63 main_v88 ((truncf .bf16 · bitsLt_bf16_f32) : (⟨S4096x1024, .f32⟩ : BufTy).Contents (Elt F) → (⟨S4096x1024, .bf16⟩ : BufTy).Contents (Elt F)),
    unary main_v81 main_v89 ((transpose S8x4096 [1, 0] · transposes_S4096x8_S8x4096_1_0) : (⟨S4096x8, .f32⟩ : BufTy).Contents (Elt F) → (⟨S8x4096, .f32⟩ : BufTy).Contents (Elt F)),
    reshape main_v89 main_v90 (rfl : (.f32 : EltTy) = .f32) shapeCasts_S8x4096_S64x1x512 ]

/-- The operations in order. -/
abbrev ops : List (HloOp τ sig (Elt F)) := (opsA ++ opsB) ++ (opsC ++ opsD)

set_option maxRecDepth 8192 in
theorem main_eq0 (c : Dev nD) : main_part0 (F := F) c = seq (opsA ++ opsB) := by
  simp only [opsA, opsB, List.cons_append, List.nil_append]
  rfl

set_option maxRecDepth 8192 in
theorem main_eq1 (c : Dev nD) : main_part1 (F := F) c = seq (opsC ++ opsD) := by
  simp only [opsC, opsD, List.cons_append, List.nil_append]
  rfl

theorem main_eq (c : Dev nD) : main (F := F) c = seq ops := by
  rw [ops, seq_append, ← main_eq0 c, ← main_eq1 c]
  rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem subA : (opsA : List (HloOp τ sig (Elt F))).Forall fun op => op.bufs ⊆ tcRefs τ sig :=
  ⟨unary_bufs_sub .., unary_bufs_sub .., unary_bufs_sub .., unary_bufs_sub .., reshape_bufs_sub .., reshape_bufs_sub .., binary_bufs_sub .., nullary_bufs_sub .., unary_bufs_sub .., unary_bufs_sub .., binary_bufs_sub .., unary_bufs_sub .., unary_bufs_sub .., unary_bufs_sub .., binary_bufs_sub .., unary_bufs_sub .., unary_bufs_sub .., unary_bufs_sub .., binary_bufs_sub .., nullary_bufs_sub .., unary_bufs_sub .., nullary_bufs_sub .., unary_bufs_sub .., unary_bufs_sub .., unary_bufs_sub .., binary_bufs_sub .., nullary_bufs_sub .., unary_bufs_sub .., unary_bufs_sub .., unary_bufs_sub .., ternary_bufs_sub .., nullary_bufs_sub .., unary_bufs_sub ..⟩

set_option maxRecDepth 8192 in
theorem subB : (opsB : List (HloOp τ sig (Elt F))).Forall fun op => op.bufs ⊆ tcRefs τ sig :=
  ⟨nullary_bufs_sub .., binary_bufs_sub .., reshape_bufs_sub .., unary_bufs_sub .., binary_bufs_sub .., unary_bufs_sub .., nullary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., nullary_bufs_sub .., unary_bufs_sub .., nullary_bufs_sub .., unary_bufs_sub .., ternary_bufs_sub .., ternary_bufs_sub .., unary_bufs_sub .., unary_bufs_sub .., binary_bufs_sub .., unary_bufs_sub .., nullary_bufs_sub .., binary_bufs_sub .., unary_bufs_sub ..⟩

set_option maxRecDepth 8192 in
theorem subC : (opsC : List (HloOp τ sig (Elt F))).Forall fun op => op.bufs ⊆ tcRefs τ sig :=
  ⟨unary_bufs_sub .., binary_bufs_sub .., binary_bufs_sub .., nullary_bufs_sub .., unary_bufs_sub .., binary_bufs_sub .., reshape_bufs_sub .., binary_bufs_sub .., unary_bufs_sub .., reshape_bufs_sub .., reshape_bufs_sub .., unary_bufs_sub .., binary_bufs_sub .., binary_bufs_sub .., unary_bufs_sub .., reshape_bufs_sub .., unary_bufs_sub .., binary_bufs_sub .., binary_bufs_sub .., nullary_bufs_sub .., binary_bufs_sub .., reshape_bufs_sub .., unary_bufs_sub .., unary_bufs_sub .., binary_bufs_sub .., nullary_bufs_sub .., binary_bufs_sub .., unary_bufs_sub .., binary_bufs_sub .., binary_bufs_sub .., nullary_bufs_sub .., unary_bufs_sub .., ternary_bufs_sub ..⟩

set_option maxRecDepth 8192 in
theorem subD : (opsD : List (HloOp τ sig (Elt F))).Forall fun op => op.bufs ⊆ tcRefs τ sig :=
  ⟨unary_bufs_sub .., nullary_bufs_sub .., binary_bufs_sub .., reshape_bufs_sub .., nullary_bufs_sub .., binary_bufs_sub .., unary_bufs_sub .., unary_bufs_sub .., binary_bufs_sub .., binary_bufs_sub .., unary_bufs_sub .., reshape_bufs_sub .., unary_bufs_sub .., unary_bufs_sub .., unary_bufs_sub .., reshape_bufs_sub ..⟩

theorem ops_sub : (ops : List (HloOp τ sig (Elt F))).Forall fun op => op.bufs ⊆ tcRefs τ sig := by
  simp only [ops, List.forall_append]
  exact ⟨⟨subA, subB⟩, subC, subD⟩

theorem after_cat (l₁ l₂ : List (HloOp τ sig (Elt F))) (V : Valuation τ sig (Elt F)) : after (l₁ ++ l₂) V = after l₂ (after l₁ V) := by
  induction l₁ generalizing V with
  | nil => rfl
  | cons op l ih => exact ih _

theorem keepA_arg0 (V : Valuation τ sig (Elt Ideal)) : after opsA V main_arg0 = V main_arg0 := by
  simp only [opsA, TRef.nullary, TRef.ternary, TRef.unary, TRef.toBuf, TRef.ofBuf, cast_eq]
  after_results_simp <;> rfl

theorem keepA_arg1 (V : Valuation τ sig (Elt Ideal)) : after opsA V main_arg1 = V main_arg1 := by
  simp only [opsA, TRef.nullary, TRef.ternary, TRef.unary, TRef.toBuf, TRef.ofBuf, cast_eq]
  after_results_simp <;> rfl

theorem keepA_arg2 (V : Valuation τ sig (Elt Ideal)) : after opsA V main_arg2 = V main_arg2 := by
  simp only [opsA, TRef.nullary, TRef.ternary, TRef.unary, TRef.toBuf, TRef.ofBuf, cast_eq]
  after_results_simp <;> rfl

theorem keepA_arg3 (V : Valuation τ sig (Elt Ideal)) : after opsA V main_arg3 = V main_arg3 := by
  simp only [opsA, TRef.nullary, TRef.ternary, TRef.unary, TRef.toBuf, TRef.ofBuf, cast_eq]
  after_results_simp <;> rfl

theorem keepA_arg4 (V : Valuation τ sig (Elt Ideal)) : after opsA V main_arg4 = V main_arg4 := by
  simp only [opsA, TRef.nullary, TRef.ternary, TRef.unary, TRef.toBuf, TRef.ofBuf, cast_eq]
  after_results_simp <;> rfl

theorem A_v4 (V : Valuation τ sig (Elt Ideal)) : (after opsA V main_v4 : FVec Ideal Attn.R3 .f32) = Attn.heads (extf (F := Ideal) (φ := .bf16) .f32 (V main_arg0 : FVec Ideal Attn.R .bf16) (by decide)) := by
  simp only [opsA, TRef.nullary, TRef.ternary, TRef.unary, TRef.toBuf, TRef.ofBuf, cast_eq]
  after_results_simp
  all_goals dsimp only [Attn.heads, Attn.causalA, Attn.causal, Attn.rootA, Attn.root, Attn.logits, Attn.masked, Attn.top, Attn.rows, Attn.top', Attn.expo, Attn.total, Attn.quot, Attn.attend, Attn.lse, Attn.lanes, Attn.gT, Attn.dprob, Attn.dsum, Attn.dscore, Attn.dgateQ, Attn.scaled, Attn.dquery, Attn.dkey, Attn.dvalue, Attn.dgateK, Attn.padded, Attn.tiled]
  all_goals rfl

theorem A_v5 (V : Valuation τ sig (Elt Ideal)) : (after opsA V main_v5 : FVec Ideal Attn.R3 .f32) = Attn.heads (extf (F := Ideal) (φ := .bf16) .f32 (V main_arg1 : FVec Ideal Attn.R .bf16) (by decide)) := by
  simp only [opsA, TRef.nullary, TRef.ternary, TRef.unary, TRef.toBuf, TRef.ofBuf, cast_eq]
  after_results_simp
  all_goals dsimp only [Attn.heads, Attn.causalA, Attn.causal, Attn.rootA, Attn.root, Attn.logits, Attn.masked, Attn.top, Attn.rows, Attn.top', Attn.expo, Attn.total, Attn.quot, Attn.attend, Attn.lse, Attn.lanes, Attn.gT, Attn.dprob, Attn.dsum, Attn.dscore, Attn.dgateQ, Attn.scaled, Attn.dquery, Attn.dkey, Attn.dvalue, Attn.dgateK, Attn.padded, Attn.tiled]
  all_goals rfl

theorem A_v2 (V : Valuation τ sig (Elt Ideal)) : (after opsA V main_v2 : FVec Ideal Attn.R .f32) = extf (F := Ideal) (φ := .bf16) .f32 (V main_arg2 : FVec Ideal Attn.R .bf16) (by decide) := by
  simp only [opsA, TRef.nullary, TRef.ternary, TRef.unary, TRef.toBuf, TRef.ofBuf, cast_eq]
  after_results_simp
  all_goals dsimp only [Attn.heads, Attn.causalA, Attn.causal, Attn.rootA, Attn.root, Attn.logits, Attn.masked, Attn.top, Attn.rows, Attn.top', Attn.expo, Attn.total, Attn.quot, Attn.attend, Attn.lse, Attn.lanes, Attn.gT, Attn.dprob, Attn.dsum, Attn.dscore, Attn.dgateQ, Attn.scaled, Attn.dquery, Attn.dkey, Attn.dvalue, Attn.dgateK, Attn.padded, Attn.tiled]
  all_goals rfl

theorem A_v3 (V : Valuation τ sig (Elt Ideal)) : (after opsA V main_v3 : FVec Ideal Attn.R .f32) = extf (F := Ideal) (φ := .bf16) .f32 (V main_arg4 : FVec Ideal Attn.R .bf16) (by decide) := by
  simp only [opsA, TRef.nullary, TRef.ternary, TRef.unary, TRef.toBuf, TRef.ofBuf, cast_eq]
  after_results_simp
  all_goals dsimp only [Attn.heads, Attn.causalA, Attn.causal, Attn.rootA, Attn.root, Attn.logits, Attn.masked, Attn.top, Attn.rows, Attn.top', Attn.expo, Attn.total, Attn.quot, Attn.attend, Attn.lse, Attn.lanes, Attn.gT, Attn.dprob, Attn.dsum, Attn.dscore, Attn.dgateQ, Attn.scaled, Attn.dquery, Attn.dkey, Attn.dvalue, Attn.dgateK, Attn.padded, Attn.tiled]
  all_goals rfl

theorem A_v7 (V : Valuation τ sig (Elt Ideal)) : (after opsA V main_v7 : FVec Ideal Attn.S_ .f32) = Attn.root := by
  simp only [opsA, TRef.nullary, TRef.ternary, TRef.unary, TRef.toBuf, TRef.ofBuf, cast_eq]
  after_results_simp
  all_goals dsimp only [Attn.heads, Attn.causalA, Attn.causal, Attn.rootA, Attn.root, Attn.logits, Attn.masked, Attn.top, Attn.rows, Attn.top', Attn.expo, Attn.total, Attn.quot, Attn.attend, Attn.lse, Attn.lanes, Attn.gT, Attn.dprob, Attn.dsum, Attn.dscore, Attn.dgateQ, Attn.scaled, Attn.dquery, Attn.dkey, Attn.dvalue, Attn.dgateK, Attn.padded, Attn.tiled]
  all_goals rfl

theorem A_v25_1 (V : Valuation τ sig (Elt Ideal)) : (after opsA V main_v25_1 : IVec Attn.A 1) = Attn.causalA := by
  simp only [opsA, TRef.nullary, TRef.ternary, TRef.unary, TRef.toBuf, TRef.ofBuf, cast_eq]
  after_results_simp
  all_goals dsimp only [Attn.heads, Attn.causalA, Attn.causal, Attn.rootA, Attn.root, Attn.logits, Attn.masked, Attn.top, Attn.rows, Attn.top', Attn.expo, Attn.total, Attn.quot, Attn.attend, Attn.lse, Attn.lanes, Attn.gT, Attn.dprob, Attn.dsum, Attn.dscore, Attn.dgateQ, Attn.scaled, Attn.dquery, Attn.dkey, Attn.dvalue, Attn.dgateK, Attn.padded, Attn.tiled]
  all_goals rfl

theorem A_v25_0 (V : Valuation τ sig (Elt Ideal)) : (after opsA V main_v25_0 : FVec Ideal Attn.A .f32) = Attn.masked (Attn.logits (Attn.heads (extf (F := Ideal) (φ := .bf16) .f32 (V main_arg0 : FVec Ideal Attn.R .bf16) (by decide))) (Attn.heads (extf (F := Ideal) (φ := .bf16) .f32 (V main_arg1 : FVec Ideal Attn.R .bf16) (by decide))) (V main_arg3 : FVec Ideal Attn.C .f32) (V main_arg3 : FVec Ideal Attn.C .f32)) := by
  simp only [opsA, TRef.nullary, TRef.ternary, TRef.unary, TRef.toBuf, TRef.ofBuf, cast_eq]
  after_results_simp
  all_goals dsimp only [Attn.heads, Attn.causalA, Attn.causal, Attn.rootA, Attn.root, Attn.logits, Attn.masked, Attn.top, Attn.rows, Attn.top', Attn.expo, Attn.total, Attn.quot, Attn.attend, Attn.lse, Attn.lanes, Attn.gT, Attn.dprob, Attn.dsum, Attn.dscore, Attn.dgateQ, Attn.scaled, Attn.dquery, Attn.dkey, Attn.dvalue, Attn.dgateK, Attn.padded, Attn.tiled]
  all_goals rfl

theorem keepB_arg0 (V : Valuation τ sig (Elt Ideal)) : after opsB V main_arg0 = V main_arg0 := by
  simp only [opsB, TRef.nullary, TRef.ternary, TRef.unary, TRef.toBuf, TRef.ofBuf, cast_eq]
  after_results_simp <;> rfl

theorem keepB_arg1 (V : Valuation τ sig (Elt Ideal)) : after opsB V main_arg1 = V main_arg1 := by
  simp only [opsB, TRef.nullary, TRef.ternary, TRef.unary, TRef.toBuf, TRef.ofBuf, cast_eq]
  after_results_simp <;> rfl

theorem keepB_arg2 (V : Valuation τ sig (Elt Ideal)) : after opsB V main_arg2 = V main_arg2 := by
  simp only [opsB, TRef.nullary, TRef.ternary, TRef.unary, TRef.toBuf, TRef.ofBuf, cast_eq]
  after_results_simp <;> rfl

theorem keepB_arg3 (V : Valuation τ sig (Elt Ideal)) : after opsB V main_arg3 = V main_arg3 := by
  simp only [opsB, TRef.nullary, TRef.ternary, TRef.unary, TRef.toBuf, TRef.ofBuf, cast_eq]
  after_results_simp <;> rfl

theorem keepB_arg4 (V : Valuation τ sig (Elt Ideal)) : after opsB V main_arg4 = V main_arg4 := by
  simp only [opsB, TRef.nullary, TRef.ternary, TRef.unary, TRef.toBuf, TRef.ofBuf, cast_eq]
  after_results_simp <;> rfl

theorem keepB_v4 (V : Valuation τ sig (Elt Ideal)) : after opsB V main_v4 = V main_v4 := by
  simp only [opsB, TRef.nullary, TRef.ternary, TRef.unary, TRef.toBuf, TRef.ofBuf, cast_eq]
  after_results_simp <;> rfl

theorem keepB_v2 (V : Valuation τ sig (Elt Ideal)) : after opsB V main_v2 = V main_v2 := by
  simp only [opsB, TRef.nullary, TRef.ternary, TRef.unary, TRef.toBuf, TRef.ofBuf, cast_eq]
  after_results_simp <;> rfl

theorem keepB_v3 (V : Valuation τ sig (Elt Ideal)) : after opsB V main_v3 = V main_v3 := by
  simp only [opsB, TRef.nullary, TRef.ternary, TRef.unary, TRef.toBuf, TRef.ofBuf, cast_eq]
  after_results_simp <;> rfl

theorem keepB_v7 (V : Valuation τ sig (Elt Ideal)) : after opsB V main_v7 = V main_v7 := by
  simp only [opsB, TRef.nullary, TRef.ternary, TRef.unary, TRef.toBuf, TRef.ofBuf, cast_eq]
  after_results_simp <;> rfl

theorem keepB_v25_1 (V : Valuation τ sig (Elt Ideal)) : after opsB V main_v25_1 = V main_v25_1 := by
  simp only [opsB, TRef.nullary, TRef.ternary, TRef.unary, TRef.toBuf, TRef.ofBuf, cast_eq]
  after_results_simp <;> rfl

theorem B_v46 (V : Valuation τ sig (Elt Ideal)) : (after opsB V main_v46 : FVec Ideal Attn.A .f32) = Attn.expo (V main_v25_0 : FVec Ideal Attn.A .f32) (Attn.top' (Attn.top (V main_v25_0 : FVec Ideal Attn.A .f32))) := by
  simp only [opsB, TRef.nullary, TRef.ternary, TRef.unary, TRef.toBuf, TRef.ofBuf, cast_eq]
  after_results_simp
  all_goals dsimp only [Attn.heads, Attn.causalA, Attn.causal, Attn.rootA, Attn.root, Attn.logits, Attn.masked, Attn.top, Attn.rows, Attn.top', Attn.expo, Attn.total, Attn.quot, Attn.attend, Attn.lse, Attn.lanes, Attn.gT, Attn.dprob, Attn.dsum, Attn.dscore, Attn.dgateQ, Attn.scaled, Attn.dquery, Attn.dkey, Attn.dvalue, Attn.dgateK, Attn.padded, Attn.tiled]
  all_goals rfl

theorem B_v47 (V : Valuation τ sig (Elt Ideal)) : (after opsB V main_v47 : FVec Ideal Attn.CT .f32) = Attn.total (Attn.expo (V main_v25_0 : FVec Ideal Attn.A .f32) (Attn.top' (Attn.top (V main_v25_0 : FVec Ideal Attn.A .f32)))) := by
  simp only [opsB, TRef.nullary, TRef.ternary, TRef.unary, TRef.toBuf, TRef.ofBuf, cast_eq]
  after_results_simp
  all_goals dsimp only [Attn.heads, Attn.causalA, Attn.causal, Attn.rootA, Attn.root, Attn.logits, Attn.masked, Attn.top, Attn.rows, Attn.top', Attn.expo, Attn.total, Attn.quot, Attn.attend, Attn.lse, Attn.lanes, Attn.gT, Attn.dprob, Attn.dsum, Attn.dscore, Attn.dgateQ, Attn.scaled, Attn.dquery, Attn.dkey, Attn.dvalue, Attn.dgateK, Attn.padded, Attn.tiled]
  all_goals rfl

theorem B_v48 (V : Valuation τ sig (Elt Ideal)) : (after opsB V main_v48 : FVec Ideal Attn.C1 .f32) = broadcastInDim Attn.C1 ![0, 1] (by decide : Attn.CT.BroadcastsInDim Attn.C1 ![0, 1]) (Attn.total (Attn.expo (V main_v25_0 : FVec Ideal Attn.A .f32) (Attn.top' (Attn.top (V main_v25_0 : FVec Ideal Attn.A .f32))))) := by
  simp only [opsB, TRef.nullary, TRef.ternary, TRef.unary, TRef.toBuf, TRef.ofBuf, cast_eq]
  after_results_simp
  all_goals dsimp only [Attn.heads, Attn.causalA, Attn.causal, Attn.rootA, Attn.root, Attn.logits, Attn.masked, Attn.top, Attn.rows, Attn.top', Attn.expo, Attn.total, Attn.quot, Attn.attend, Attn.lse, Attn.lanes, Attn.gT, Attn.dprob, Attn.dsum, Attn.dscore, Attn.dgateQ, Attn.scaled, Attn.dquery, Attn.dkey, Attn.dvalue, Attn.dgateK, Attn.padded, Attn.tiled]
  all_goals rfl

theorem keepC_arg0 (V : Valuation τ sig (Elt Ideal)) : after opsC V main_arg0 = V main_arg0 := by
  simp only [opsC, TRef.nullary, TRef.ternary, TRef.unary, TRef.toBuf, TRef.ofBuf, cast_eq]
  after_results_simp <;> rfl

theorem keepC_arg1 (V : Valuation τ sig (Elt Ideal)) : after opsC V main_arg1 = V main_arg1 := by
  simp only [opsC, TRef.nullary, TRef.ternary, TRef.unary, TRef.toBuf, TRef.ofBuf, cast_eq]
  after_results_simp <;> rfl

theorem keepC_arg2 (V : Valuation τ sig (Elt Ideal)) : after opsC V main_arg2 = V main_arg2 := by
  simp only [opsC, TRef.nullary, TRef.ternary, TRef.unary, TRef.toBuf, TRef.ofBuf, cast_eq]
  after_results_simp <;> rfl

theorem keepC_arg3 (V : Valuation τ sig (Elt Ideal)) : after opsC V main_arg3 = V main_arg3 := by
  simp only [opsC, TRef.nullary, TRef.ternary, TRef.unary, TRef.toBuf, TRef.ofBuf, cast_eq]
  after_results_simp <;> rfl

theorem keepC_arg4 (V : Valuation τ sig (Elt Ideal)) : after opsC V main_arg4 = V main_arg4 := by
  simp only [opsC, TRef.nullary, TRef.ternary, TRef.unary, TRef.toBuf, TRef.ofBuf, cast_eq]
  after_results_simp <;> rfl

theorem keepC_v4 (V : Valuation τ sig (Elt Ideal)) : after opsC V main_v4 = V main_v4 := by
  simp only [opsC, TRef.nullary, TRef.ternary, TRef.unary, TRef.toBuf, TRef.ofBuf, cast_eq]
  after_results_simp <;> rfl

theorem keepC_v7 (V : Valuation τ sig (Elt Ideal)) : after opsC V main_v7 = V main_v7 := by
  simp only [opsC, TRef.nullary, TRef.ternary, TRef.unary, TRef.toBuf, TRef.ofBuf, cast_eq]
  after_results_simp <;> rfl

theorem C_v63 (V : Valuation τ sig (Elt Ideal)) (hl : (V main_v48 : FVec Ideal Attn.C1 .f32) = broadcastInDim Attn.C1 ![0, 1] (by decide : Attn.CT.BroadcastsInDim Attn.C1 ![0, 1]) ((V main_v47 : FVec Ideal Attn.CT .f32))) : (after opsC V main_v63 : FVec Ideal Attn.R .f32) = Attn.dvalue (Attn.heads (V main_v3 : FVec Ideal Attn.R .f32)) (Attn.quot (V main_v46 : FVec Ideal Attn.A .f32) (V main_v47 : FVec Ideal Attn.CT .f32)) := by
  simp only [opsC, TRef.nullary, TRef.ternary, TRef.unary, TRef.toBuf, TRef.ofBuf, cast_eq]
  after_results_simp
  all_goals simp only [hl]
  all_goals dsimp only [Attn.heads, Attn.causalA, Attn.causal, Attn.rootA, Attn.root, Attn.logits, Attn.masked, Attn.top, Attn.rows, Attn.top', Attn.expo, Attn.total, Attn.quot, Attn.attend, Attn.lse, Attn.lanes, Attn.gT, Attn.dprob, Attn.dsum, Attn.dscore, Attn.dgateQ, Attn.scaled, Attn.dquery, Attn.dkey, Attn.dvalue, Attn.dgateK, Attn.padded, Attn.tiled]
  all_goals rfl

theorem C_v76 (V : Valuation τ sig (Elt Ideal)) (hc : (V main_v25_1 : IVec Attn.A 1) = Attn.causalA) (hl : (V main_v48 : FVec Ideal Attn.C1 .f32) = broadcastInDim Attn.C1 ![0, 1] (by decide : Attn.CT.BroadcastsInDim Attn.C1 ![0, 1]) ((V main_v47 : FVec Ideal Attn.CT .f32))) : (after opsC V main_v76 : FVec Ideal Attn.A .f32) = Attn.dscore (Attn.dprob (Attn.heads (V main_v3 : FVec Ideal Attn.R .f32)) (Attn.heads (V main_v2 : FVec Ideal Attn.R .f32))) (V main_v46 : FVec Ideal Attn.A .f32) (V main_v47 : FVec Ideal Attn.CT .f32) (Attn.dsum (Attn.dprob (Attn.heads (V main_v3 : FVec Ideal Attn.R .f32)) (Attn.heads (V main_v2 : FVec Ideal Attn.R .f32))) (V main_v46 : FVec Ideal Attn.A .f32) (V main_v47 : FVec Ideal Attn.CT .f32)) := by
  simp only [opsC, TRef.nullary, TRef.ternary, TRef.unary, TRef.toBuf, TRef.ofBuf, cast_eq]
  after_results_simp
  all_goals simp only [hc, hl]
  all_goals dsimp only [Attn.heads, Attn.causalA, Attn.causal, Attn.rootA, Attn.root, Attn.logits, Attn.masked, Attn.top, Attn.rows, Attn.top', Attn.expo, Attn.total, Attn.quot, Attn.attend, Attn.lse, Attn.lanes, Attn.gT, Attn.dprob, Attn.dsum, Attn.dscore, Attn.dgateQ, Attn.scaled, Attn.dquery, Attn.dkey, Attn.dvalue, Attn.dgateK, Attn.padded, Attn.tiled]
  all_goals rfl

theorem keepD_arg0 (V : Valuation τ sig (Elt Ideal)) : after opsD V main_arg0 = V main_arg0 := by
  simp only [opsD, TRef.nullary, TRef.ternary, TRef.unary, TRef.toBuf, TRef.ofBuf, cast_eq]
  after_results_simp <;> rfl

theorem keepD_arg1 (V : Valuation τ sig (Elt Ideal)) : after opsD V main_arg1 = V main_arg1 := by
  simp only [opsD, TRef.nullary, TRef.ternary, TRef.unary, TRef.toBuf, TRef.ofBuf, cast_eq]
  after_results_simp <;> rfl

theorem keepD_arg2 (V : Valuation τ sig (Elt Ideal)) : after opsD V main_arg2 = V main_arg2 := by
  simp only [opsD, TRef.nullary, TRef.ternary, TRef.unary, TRef.toBuf, TRef.ofBuf, cast_eq]
  after_results_simp <;> rfl

theorem keepD_arg3 (V : Valuation τ sig (Elt Ideal)) : after opsD V main_arg3 = V main_arg3 := by
  simp only [opsD, TRef.nullary, TRef.ternary, TRef.unary, TRef.toBuf, TRef.ofBuf, cast_eq]
  after_results_simp <;> rfl

theorem keepD_arg4 (V : Valuation τ sig (Elt Ideal)) : after opsD V main_arg4 = V main_arg4 := by
  simp only [opsD, TRef.nullary, TRef.ternary, TRef.unary, TRef.toBuf, TRef.ofBuf, cast_eq]
  after_results_simp <;> rfl

theorem D_v87 (V : Valuation τ sig (Elt Ideal)) (hc : (V main_v7 : FVec Ideal Attn.S_ .f32) = Attn.root) : (after opsD V main_v87 : FVec Ideal Attn.R .bf16) = truncf (F := Ideal) (φ := .f32) .bf16 (Attn.dkey (Attn.scaled (V main_v76 : FVec Ideal Attn.A .f32)) (V main_v4 : FVec Ideal Attn.R3 .f32)) (by decide) := by
  simp only [opsD, TRef.nullary, TRef.ternary, TRef.unary, TRef.toBuf, TRef.ofBuf, cast_eq]
  after_results_simp
  all_goals simp only [hc]
  all_goals dsimp only [Attn.heads, Attn.causalA, Attn.causal, Attn.rootA, Attn.root, Attn.logits, Attn.masked, Attn.top, Attn.rows, Attn.top', Attn.expo, Attn.total, Attn.quot, Attn.attend, Attn.lse, Attn.lanes, Attn.gT, Attn.dprob, Attn.dsum, Attn.dscore, Attn.dgateQ, Attn.scaled, Attn.dquery, Attn.dkey, Attn.dvalue, Attn.dgateK, Attn.padded, Attn.tiled]
  all_goals rfl

theorem D_v88 (V : Valuation τ sig (Elt Ideal)) : (after opsD V main_v88 : FVec Ideal Attn.R .bf16) = truncf (F := Ideal) (φ := .f32) .bf16 (V main_v63 : FVec Ideal Attn.R .f32) (by decide) := by
  simp only [opsD, TRef.nullary, TRef.ternary, TRef.unary, TRef.toBuf, TRef.ofBuf, cast_eq]
  after_results_simp
  all_goals dsimp only [Attn.heads, Attn.causalA, Attn.causal, Attn.rootA, Attn.root, Attn.logits, Attn.masked, Attn.top, Attn.rows, Attn.top', Attn.expo, Attn.total, Attn.quot, Attn.attend, Attn.lse, Attn.lanes, Attn.gT, Attn.dprob, Attn.dsum, Attn.dscore, Attn.dgateQ, Attn.scaled, Attn.dquery, Attn.dkey, Attn.dvalue, Attn.dgateK, Attn.padded, Attn.tiled]
  all_goals rfl

theorem D_v90 (V : Valuation τ sig (Elt Ideal)) : (after opsD V main_v90 : FVec Ideal Attn.T3 .f32) = Attn.dgateK (V main_v76 : FVec Ideal Attn.A .f32) := by
  simp only [opsD, TRef.nullary, TRef.ternary, TRef.unary, TRef.toBuf, TRef.ofBuf, cast_eq]
  after_results_simp
  all_goals dsimp only [Attn.heads, Attn.causalA, Attn.causal, Attn.rootA, Attn.root, Attn.logits, Attn.masked, Attn.top, Attn.rows, Attn.top', Attn.expo, Attn.total, Attn.quot, Attn.attend, Attn.lse, Attn.lanes, Attn.gT, Attn.dprob, Attn.dsum, Attn.dscore, Attn.dgateQ, Attn.scaled, Attn.dquery, Attn.dkey, Attn.dvalue, Attn.dgateK, Attn.padded, Attn.tiled]
  all_goals rfl

/-! ## The steps of the arguments -/

/-- The queries, in heads. -/
abbrev Q (m : (ℓ : Loc nD τ sig) → Buf (Elt Ideal) ℓ) (c : Dev nD) : FVec Ideal Attn.R3 .f32 := Attn.heads (extf (F := Ideal) (φ := .bf16) .f32 (m ((c.tc : Thread nD τ).loc main_arg0) : FVec Ideal Attn.R .bf16) (by decide))

/-- The keys, in heads. -/
abbrev K (m : (ℓ : Loc nD τ sig) → Buf (Elt Ideal) ℓ) (c : Dev nD) : FVec Ideal Attn.R3 .f32 := Attn.heads (extf (F := Ideal) (φ := .bf16) .f32 (m ((c.tc : Thread nD τ).loc main_arg1) : FVec Ideal Attn.R .bf16) (by decide))

/-- The values, in heads. -/
abbrev W (m : (ℓ : Loc nD τ sig) → Buf (Elt Ideal) ℓ) (c : Dev nD) : FVec Ideal Attn.R3 .f32 := Attn.heads (extf (F := Ideal) (φ := .bf16) .f32 (m ((c.tc : Thread nD τ).loc main_arg2) : FVec Ideal Attn.R .bf16) (by decide))

/-- The gates. -/
abbrev C (m : (ℓ : Loc nD τ sig) → Buf (Elt Ideal) ℓ) (c : Dev nD) : FVec Ideal Attn.C .f32 := (m ((c.tc : Thread nD τ).loc main_arg3) : FVec Ideal Attn.C .f32)

/-- The masked scores. -/
abbrev X (m : (ℓ : Loc nD τ sig) → Buf (Elt Ideal) ℓ) (c : Dev nD) : FVec Ideal Attn.A .f32 := Attn.masked (Attn.logits (Q m c) (K m c) (C m c) (C m c))

/-- The exponentials. -/
abbrev E (m : (ℓ : Loc nD τ sig) → Buf (Elt Ideal) ℓ) (c : Dev nD) : FVec Ideal Attn.A .f32 := Attn.expo (X m c) (Attn.top' (Attn.top (X m c)))

/-- Their sums. -/
abbrev L (m : (ℓ : Loc nD τ sig) → Buf (Elt Ideal) ℓ) (c : Dev nD) : FVec Ideal Attn.CT .f32 := Attn.total (E m c)

/-- The gradient of the result, in heads. -/
abbrev G (m : (ℓ : Loc nD τ sig) → Buf (Elt Ideal) ℓ) (c : Dev nD) : FVec Ideal Attn.R3 .f32 := Attn.heads (extf (F := Ideal) (φ := .bf16) .f32 (m ((c.tc : Thread nD τ).loc main_arg4) : FVec Ideal Attn.R .bf16) (by decide))

/-- The gradient of the probabilities. -/
abbrev P (m : (ℓ : Loc nD τ sig) → Buf (Elt Ideal) ℓ) (c : Dev nD) : FVec Ideal Attn.A .f32 := Attn.dprob (G m c) (W m c)

/-- The gradient of the scores. -/
abbrev S (m : (ℓ : Loc nD τ sig) → Buf (Elt Ideal) ℓ) (c : Dev nD) : FVec Ideal Attn.A .f32 := Attn.dscore (P m c) (E m c) (L m c) (Attn.dsum (P m c) (E m c) (L m c))

/-- The result `dk`. -/
abbrev dk (m : (ℓ : Loc nD τ sig) → Buf (Elt Ideal) ℓ) (c : Dev nD) : FVec Ideal Attn.R .bf16 := truncf .bf16 (Attn.dkey (Attn.scaled (S m c)) (Q m c)) (by decide)

/-- The result `dv`. -/
abbrev dv (m : (ℓ : Loc nD τ sig) → Buf (Elt Ideal) ℓ) (c : Dev nD) : FVec Ideal Attn.R .bf16 := truncf .bf16 (Attn.dvalue (G m c) (Attn.quot (E m c) (L m c))) (by decide)

/-- The result `dck`. -/
abbrev dck (m : (ℓ : Loc nD τ sig) → Buf (Elt Ideal) ℓ) (c : Dev nD) : FVec Ideal Attn.T3 .f32 := Attn.dgateK (S m c)

theorem split (m : (ℓ : Loc nD τ sig) → Buf (Elt Ideal) ℓ) (c : Dev nD) (b : DevRef τ sig) : after ops (launchContents m c) b = after opsD (after opsC (after opsB (after opsA (launchContents m c)))) b := by
  rw [ops, after_cat, after_cat, after_cat]

theorem at_v46 (m : (ℓ : Loc nD τ sig) → Buf (Elt Ideal) ℓ) (c : Dev nD) : ((after opsB (after opsA (launchContents m c))) main_v46 : FVec Ideal Attn.A .f32) = E m c := by
  rw [B_v46, A_v25_0]

theorem at_v47 (m : (ℓ : Loc nD τ sig) → Buf (Elt Ideal) ℓ) (c : Dev nD) : ((after opsB (after opsA (launchContents m c))) main_v47 : FVec Ideal Attn.CT .f32) = L m c := by
  rw [B_v47, A_v25_0]

theorem at_v48 (m : (ℓ : Loc nD τ sig) → Buf (Elt Ideal) ℓ) (c : Dev nD) : ((after opsB (after opsA (launchContents m c))) main_v48 : FVec Ideal Attn.C1 .f32) = broadcastInDim Attn.C1 ![0, 1] (by decide : Attn.CT.BroadcastsInDim Attn.C1 ![0, 1]) ((after opsB (after opsA (launchContents m c))) main_v47) := by
  rw [B_v48, B_v47]

theorem at_v76 (m : (ℓ : Loc nD τ sig) → Buf (Elt Ideal) ℓ) (c : Dev nD) : ((after opsC (after opsB (after opsA (launchContents m c)))) main_v76 : FVec Ideal Attn.A .f32) = S m c := by
  rw [C_v76 _ ((keepB_v25_1 _).trans (A_v25_1 _)) (at_v48 m c), at_v46, at_v47, keepB_v2, keepB_v3, A_v2, A_v3]

theorem after_dk (m : (ℓ : Loc nD τ sig) → Buf (Elt Ideal) ℓ) (c : Dev nD) : (after ops (launchContents m c) main_v87 : FVec Ideal Attn.R .bf16) = dk m c := by
  rw [split, D_v87 _ ((keepC_v7 _).trans ((keepB_v7 _).trans (A_v7 _))), at_v76, keepC_v4, keepB_v4, A_v4]

theorem after_dv (m : (ℓ : Loc nD τ sig) → Buf (Elt Ideal) ℓ) (c : Dev nD) : (after ops (launchContents m c) main_v88 : FVec Ideal Attn.R .bf16) = dv m c := by
  rw [split, D_v88, C_v63 _ (at_v48 m c), at_v46, at_v47, keepB_v3, A_v3]

theorem after_dck (m : (ℓ : Loc nD τ sig) → Buf (Elt Ideal) ℓ) (c : Dev nD) : (after ops (launchContents m c) main_v90 : FVec Ideal Attn.T3 .f32) = dck m c := by
  rw [split, D_v90, at_v76]

theorem after_arg0 (m : (ℓ : Loc nD τ sig) → Buf (Elt Ideal) ℓ) (c : Dev nD) : after ops (launchContents m c) main_arg0 = m ((c.tc : Thread nD τ).loc main_arg0) := by
  rw [split, keepD_arg0, keepC_arg0, keepB_arg0, keepA_arg0]

theorem after_arg1 (m : (ℓ : Loc nD τ sig) → Buf (Elt Ideal) ℓ) (c : Dev nD) : after ops (launchContents m c) main_arg1 = m ((c.tc : Thread nD τ).loc main_arg1) := by
  rw [split, keepD_arg1, keepC_arg1, keepB_arg1, keepA_arg1]

theorem after_arg2 (m : (ℓ : Loc nD τ sig) → Buf (Elt Ideal) ℓ) (c : Dev nD) : after ops (launchContents m c) main_arg2 = m ((c.tc : Thread nD τ).loc main_arg2) := by
  rw [split, keepD_arg2, keepC_arg2, keepB_arg2, keepA_arg2]

theorem after_arg3 (m : (ℓ : Loc nD τ sig) → Buf (Elt Ideal) ℓ) (c : Dev nD) : after ops (launchContents m c) main_arg3 = m ((c.tc : Thread nD τ).loc main_arg3) := by
  rw [split, keepD_arg3, keepC_arg3, keepB_arg3, keepA_arg3]

theorem after_arg4 (m : (ℓ : Loc nD τ sig) → Buf (Elt Ideal) ℓ) (c : Dev nD) : after ops (launchContents m c) main_arg4 = m ((c.tc : Thread nD τ).loc main_arg4) := by
  rw [split, keepD_arg4, keepC_arg4, keepB_arg4, keepA_arg4]

/-- Every execution from a memory with zero counters ends with each result at its steps and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v87) = dk m c ∧ r.2.mem ((c.tc : Thread nD τ).loc main_v88) = dv m c ∧ r.2.mem ((c.tc : Thread nD τ).loc main_v90) = dck m c ∧ r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) :=
  (θ_run defs _ _).mono (fun _ h c => ⟨(h c main_v87).trans (after_dk m c), (h c main_v88).trans (after_dv m c), (h c main_v90).trans (after_dck m c), (h c main_arg0).trans (after_arg0 m c), (h c main_arg1).trans (after_arg1 m c), (h c main_arg2).trans (after_arg2 m c), (h c main_arg3).trans (after_arg3 m c), (h c main_arg4).trans (after_arg4 m c)⟩)
    (run_seq scopedRefs_eq scopedSems_eq defs main (fun _ => ops) main_eq (fun _ => ops_sub) m ρ)

end Cert.RefKvIdeal.Steps

end
-- ==== Proof.ClaimKv.lean ====
/- The keys' and values' gradients: kernel and reference agree on finite arguments. -/
module

public import proofs.«01_k».proof.Defs
public import proofs.«01_k».proof.Proof.KvFinal
public import proofs.«01_k».proof.Proof.RunKv

@[expose] public section

set_option maxRecDepth 16384

noncomputable section

open Idealize.ShloMosaic Idealize.ShloMosaic.TcCoe Idealize.SL.Sem
open Idealize.ShloMosaic.Pipeline (Dat)

namespace Cert.RefKvIdeal.Steps

open Cert.RefKvIdeal Cert.Attn

variable {m : (ℓ : Loc nD τ sig) → Buf (Elt Ideal) ℓ} {c : Dev nD} {q k v g : Fin 4096 → Fin 1024 → ℝ} {w : Fin 4096 → Fin 8 → ℝ}
  (hq : IsM (a := 4096) (b := 1024) (φ := .bf16) (m ((c.tc : Thread nD τ).loc main_arg0)) q) (hk : IsM (a := 4096) (b := 1024) (φ := .bf16) (m ((c.tc : Thread nD τ).loc main_arg1)) k)
  (hv : IsM (a := 4096) (b := 1024) (φ := .bf16) (m ((c.tc : Thread nD τ).loc main_arg2)) v) (hw : IsM (a := 4096) (b := 8) (φ := .f32) (m ((c.tc : Thread nD τ).loc main_arg3)) w)
  (hg : IsM (a := 4096) (b := 1024) (φ := .bf16) (m ((c.tc : Thread nD τ).loc main_arg4)) g)

include hq hk hv hw hg

/-- The reference's score gradients in reals. -/
theorem S_is : IsA (S m c) fun h i j => ds q k v g w h i j := by
  have hx := masked_is (heads_is hq (by decide)) (heads_is hk (by decide)) hw
  have he := expo_is hx (top'_is (top_is hx))
  have hl := sums_is he
  have hp := dprob_is (heads_is hg (by decide)) (heads_is hv (by decide))
  exact dscore_is hp he hl (dsum_is hp he hl)

/-- The reference's gradient of the keys in reals. -/
theorem dk_is : IsM (dk m c) fun j l => ∑ i, ds q k v g w (hd l) i j / Real.sqrt 128 * q i l :=
  dkey_is (scaled_is (S_is hq hk hv hw hg)) (heads_is hq (by decide))

omit hv in
/-- The reference's gradient of the values in reals. -/
theorem dv_is : IsM (dv m c) fun j l => ∑ i, g i l * pr (sc q k w (hd l)) i j := by
  have hx := masked_is (heads_is hq (by decide)) (heads_is hk (by decide)) hw
  have he := expo_is hx (top'_is (top_is hx))
  exact dvalue_is (heads_is hg (by decide)) (quot_is he (sums_is he))

/-- The reference's gradient of the gate's running sums in reals. -/
theorem dck_is (b : Fin 64) (x : Fin 512) : dck m c (ix3 b 0 x) = ((-∑ i, ds q k v g w (bh b) i (bp b x) : ℝ) : EReal) :=
  dgateK_is (S_is hq hk hv hw hg) b x

end Cert.RefKvIdeal.Steps

namespace Cert.ProofKv

open Cert.Attn

/-- Arrays with the same reals are equal. -/
theorem ext2 {φ : FTy} {x y : FVec Ideal ⟨2, ![4096, 1024]⟩ φ} {f : Fin 4096 → Fin 1024 → ℝ} (hx : IsM x f) (hy : IsM y f) : x = y := by
  funext j
  idx_vars j
  exact (hx _ _).trans (hy _ _).symm

/-- Rows by tiles with the same reals are equal. -/
theorem ext3 {x y : FVec Ideal ⟨3, ![64, 1, 512]⟩ .f32} {f : Fin 64 → Fin 512 → ℝ} (hx : ∀ b l, x (ix3 b 0 l) = ((f b l : ℝ) : EReal)) (hy : ∀ b l, y (ix3 b 0 l) = ((f b l : ℝ) : EReal)) : x = y := by
  funext j
  idx_vars j
  rw [Subsingleton.elim j1 0]
  exact (hx _ _).trans (hy _ _).symm

/-- The kernel for the keys' and values' gradients and the reference, both idealized, end with equal results on finite arguments. -/
theorem algebraicKv : Cert.algebraic_BwdKvIdeal_RefKvIdeal_pre_finite (hBwdKvIdeal := Cert.BwdKvIdeal.Gen.facts) (hRefKvIdeal := Cert.RefKvIdeal.Gen.facts) (hPre_finite := Cert.Pre_finite.Gen.facts) := by
  intro m ρ m' ρ' hp ha
  refine ⟨_, _, _, Cert.BwdKvIdeal.Value.run_blocks m ρ, ?_⟩
  refine (θ_run Cert.RefKvIdeal.defs _ _).mono (fun r h c => ?_) (Cert.RefKvIdeal.Steps.run m' ρ')
  obtain ⟨q, k, v, w, g, hq, hk, hv, hw, hg⟩ := Cert.Attn.finite (hp c)
  obtain ⟨a0, a1, a2, a3, a4⟩ := ha c
  obtain ⟨r1, r2, r3, hr⟩ := h c
  have hq' : IsM (a := 4096) (b := 1024) (φ := .bf16) (m' ((c.tc : Thread Cert.RefKvIdeal.nD Cert.RefKvIdeal.τ).loc Cert.RefKvIdeal.main_arg0)) q := fun i l => (congrFun a0 _).trans (hq i l)
  have hk' : IsM (a := 4096) (b := 1024) (φ := .bf16) (m' ((c.tc : Thread Cert.RefKvIdeal.nD Cert.RefKvIdeal.τ).loc Cert.RefKvIdeal.main_arg1)) k := fun i l => (congrFun a1 _).trans (hk i l)
  have hv' : IsM (a := 4096) (b := 1024) (φ := .bf16) (m' ((c.tc : Thread Cert.RefKvIdeal.nD Cert.RefKvIdeal.τ).loc Cert.RefKvIdeal.main_arg2)) v := fun i l => (congrFun a2 _).trans (hv i l)
  have hw' : IsM (a := 4096) (b := 8) (φ := .f32) (m' ((c.tc : Thread Cert.RefKvIdeal.nD Cert.RefKvIdeal.τ).loc Cert.RefKvIdeal.main_arg3)) w := fun i l => (congrFun a3 _).trans (hw i l)
  have hg' : IsM (a := 4096) (b := 1024) (φ := .bf16) (m' ((c.tc : Thread Cert.RefKvIdeal.nD Cert.RefKvIdeal.τ).loc Cert.RefKvIdeal.main_arg4)) g := fun i l => (congrFun a4 _).trans (hg i l)
  refine ⟨r1.trans ?_, r2.trans ?_, r3.trans ?_, hr⟩
  · exact ext2 (Cert.RefKvIdeal.Steps.dk_is hq' hk' hv' hw' hg') (Cert.BwdKvIdeal.Final.res8 hq hk hv hw hg)
  · exact ext2 (Cert.RefKvIdeal.Steps.dv_is hq' hk' hw' hg') (Cert.BwdKvIdeal.Final.res9 hq hk hv hw hg)
  · exact ext3 (Cert.RefKvIdeal.Steps.dck_is hq' hk' hv' hw' hg') (Cert.BwdKvIdeal.Final.res10 hq hk hv hw hg)

end Cert.ProofKv

end
-- ==== Proof.RunFwd.lean ====
/- The host program `RefFwdIdeal` as the list of its operations, and its run: each result at the steps of the attention
   (`Proof.Stages`) applied to the arguments, the arguments unchanged. -/
module

public import proofs.«01_k».proof.Proof.Gen.RefFwdIdeal
public import proofs.«01_k».proof.Proof.Stages
public import Idealize.ShloMosaic.Lib.StableHlo.Run

@[expose] public section

noncomputable section

namespace Cert.RefFwdIdeal.Steps

open Cert.RefFwdIdeal Cert.RefFwdIdeal.Gen Idealize.ShloMosaic Idealize.ShloMosaic.TcCoe Idealize.SL.Sem Idealize.ShloMosaic.StableHlo

variable {F : FTy → Type} [FloatOps F]

/-- The operations in order. -/
abbrev ops : List (HloOp τ sig (Elt F)) :=
  [ unary main_arg0 main_v0 ((extf .f32 · bitsLt_bf16_f32) : (⟨S4096x1024, .bf16⟩ : BufTy).Contents (Elt F) → (⟨S4096x1024, .f32⟩ : BufTy).Contents (Elt F)),
    unary main_arg1 main_v1 ((extf .f32 · bitsLt_bf16_f32) : (⟨S4096x1024, .bf16⟩ : BufTy).Contents (Elt F) → (⟨S4096x1024, .f32⟩ : BufTy).Contents (Elt F)),
    unary main_arg2 main_v2 ((extf .f32 · bitsLt_bf16_f32) : (⟨S4096x1024, .bf16⟩ : BufTy).Contents (Elt F) → (⟨S4096x1024, .f32⟩ : BufTy).Contents (Elt F)),
    reshape main_v0 main_v3 (rfl : (.f32 : EltTy) = .f32) shapeCasts_S4096x1024_S4096x8x128,
    reshape main_v1 main_v4 (rfl : (.f32 : EltTy) = .f32) shapeCasts_S4096x1024_S4096x8x128,
    binary main_v3 main_v4 main_v5 ((fun l r => Host.dotGeneral dot_S4096x8x128_S4096x8x128_S8x4096x4096_2_2_0_0_1_1 none l r) : (⟨S4096x8x128, .f32⟩ : BufTy).Contents (Elt F) → (⟨S4096x8x128, .f32⟩ : BufTy).Contents (Elt F) → (⟨S8x4096x4096, .f32⟩ : BufTy).Contents (Elt F)),
    nullary main_cst (constant S_ .f32 0x43000000#32),
    unary main_cst main_v6 (Host.sqrt : (⟨S_, .f32⟩ : BufTy).Contents (Elt F) → (⟨S_, .f32⟩ : BufTy).Contents (Elt F)),
    unary main_v6 main_v7 (broadcastInDim S8x4096x4096 ![] bcast_S_S8x4096x4096 : (⟨S_, .f32⟩ : BufTy).Contents (Elt F) → (⟨S8x4096x4096, .f32⟩ : BufTy).Contents (Elt F)),
    binary main_v5 main_v7 main_v8 (Host.divf : (⟨S8x4096x4096, .f32⟩ : BufTy).Contents (Elt F) → (⟨S8x4096x4096, .f32⟩ : BufTy).Contents (Elt F) → (⟨S8x4096x4096, .f32⟩ : BufTy).Contents (Elt F)),
    unary main_arg3 main_v9 ((transpose S8x4096 [1, 0] · transposes_S4096x8_S8x4096_1_0) : (⟨S4096x8, .f32⟩ : BufTy).Contents (Elt F) → (⟨S8x4096, .f32⟩ : BufTy).Contents (Elt F)),
    unary main_v9 main_v10 (broadcastInDim S8x4096x1 ![0, 1] bcast_S8x4096_S8x4096x1_0_1 : (⟨S8x4096, .f32⟩ : BufTy).Contents (Elt F) → (⟨S8x4096x1, .f32⟩ : BufTy).Contents (Elt F)),
    unary main_v10 main_v11 (broadcastInDim S8x4096x4096 ![0, 1, 2] bcast_S8x4096x1_S8x4096x4096_0_1_2 : (⟨S8x4096x1, .f32⟩ : BufTy).Contents (Elt F) → (⟨S8x4096x4096, .f32⟩ : BufTy).Contents (Elt F)),
    binary main_v8 main_v11 main_v12 (addf : (⟨S8x4096x4096, .f32⟩ : BufTy).Contents (Elt F) → (⟨S8x4096x4096, .f32⟩ : BufTy).Contents (Elt F) → (⟨S8x4096x4096, .f32⟩ : BufTy).Contents (Elt F)),
    unary main_arg3 main_v13 ((transpose S8x4096 [1, 0] · transposes_S4096x8_S8x4096_1_0) : (⟨S4096x8, .f32⟩ : BufTy).Contents (Elt F) → (⟨S8x4096, .f32⟩ : BufTy).Contents (Elt F)),
    unary main_v13 main_v14 (broadcastInDim S8x1x4096 ![0, 2] bcast_S8x4096_S8x1x4096_0_2 : (⟨S8x4096, .f32⟩ : BufTy).Contents (Elt F) → (⟨S8x1x4096, .f32⟩ : BufTy).Contents (Elt F)),
    unary main_v14 main_v15 (broadcastInDim S8x4096x4096 ![0, 1, 2] bcast_S8x1x4096_S8x4096x4096_0_1_2 : (⟨S8x1x4096, .f32⟩ : BufTy).Contents (Elt F) → (⟨S8x4096x4096, .f32⟩ : BufTy).Contents (Elt F)),
    binary main_v12 main_v15 main_v16 (subf : (⟨S8x4096x4096, .f32⟩ : BufTy).Contents (Elt F) → (⟨S8x4096x4096, .f32⟩ : BufTy).Contents (Elt F) → (⟨S8x4096x4096, .f32⟩ : BufTy).Contents (Elt F)),
    nullary main_v17 (iotaInDim S4096 32 0),
    unary main_v17 main_v18 (broadcastInDim S4096x1 ![0] bcast_S4096_S4096x1_0 : (⟨S4096, .i32⟩ : BufTy).Contents (Elt F) → (⟨S4096x1, .i32⟩ : BufTy).Contents (Elt F)),
    nullary main_v19 (iotaInDim S4096 32 0),
    unary main_v19 main_v20 (broadcastInDim S1x4096 ![1] bcast_S4096_S1x4096_1 : (⟨S4096, .i32⟩ : BufTy).Contents (Elt F) → (⟨S1x4096, .i32⟩ : BufTy).Contents (Elt F)),
    unary main_v18 main_v21 (broadcastInDim S4096x4096 ![0, 1] bcast_S4096x1_S4096x4096_0_1 : (⟨S4096x1, .i32⟩ : BufTy).Contents (Elt F) → (⟨S4096x4096, .i32⟩ : BufTy).Contents (Elt F)),
    unary main_v20 main_v22 (broadcastInDim S4096x4096 ![0, 1] bcast_S1x4096_S4096x4096_0_1 : (⟨S1x4096, .i32⟩ : BufTy).Contents (Elt F) → (⟨S4096x4096, .i32⟩ : BufTy).Contents (Elt F)),
    binary main_v21 main_v22 main_v23 (cmpi .sge : (⟨S4096x4096, .i32⟩ : BufTy).Contents (Elt F) → (⟨S4096x4096, .i32⟩ : BufTy).Contents (Elt F) → (⟨S4096x4096, .i1⟩ : BufTy).Contents (Elt F)),
    nullary main_cst_0 (constant S_ .f32 0xFF800000#32),
    TRef.unary (TRef.of (T := ⟨S_, .f32⟩) main_cst_0) (TRef.of (T := ⟨S_, .f32⟩) main_call0_v0) id,
    TRef.unary (TRef.of (T := ⟨S4096x4096, .i1⟩) main_v23) (TRef.of (T := ⟨S8x4096x4096, .i1⟩) main_call0_v1) (broadcastInDim S8x4096x4096 ![1, 2] bcast_S4096x4096_S8x4096x4096_1_2),
    TRef.unary (TRef.of (T := ⟨S_, .f32⟩) main_call0_v0) (TRef.of (T := ⟨S8x4096x4096, .f32⟩) main_call0_v2) (broadcastInDim S8x4096x4096 ![] bcast_S_S8x4096x4096),
    TRef.ternary (TRef.of (T := ⟨S8x4096x4096, .i1⟩) main_call0_v1) (TRef.of (T := ⟨S8x4096x4096, .f32⟩) main_v16) (TRef.of (T := ⟨S8x4096x4096, .f32⟩) main_call0_v2) (TRef.of (T := ⟨S8x4096x4096, .f32⟩) main_v24) select,
    nullary main_cst_1 (constant S_ .f32 0xFF800000#32),
    binary main_v24 main_cst_1 main_v25 ((fun x v => Host.reduce FloatOps.maximumf x v reducesTo_S8x4096x4096_S8x4096_d2 h_S_) : (⟨S8x4096x4096, .f32⟩ : BufTy).Contents (Elt F) → (⟨S_, .f32⟩ : BufTy).Contents (Elt F) → (⟨S8x4096, .f32⟩ : BufTy).Contents (Elt F)),
    nullary main_cst_2 (constant S_ .f32 0xFF800000#32),
    unary main_cst_2 main_v26 (broadcastInDim S8x4096 ![] bcast_S_S8x4096 : (⟨S_, .f32⟩ : BufTy).Contents (Elt F) → (⟨S8x4096, .f32⟩ : BufTy).Contents (Elt F)),
    binary main_v26 main_v25 main_v27 (maximumf : (⟨S8x4096, .f32⟩ : BufTy).Contents (Elt F) → (⟨S8x4096, .f32⟩ : BufTy).Contents (Elt F) → (⟨S8x4096, .f32⟩ : BufTy).Contents (Elt F)),
    unary main_v27 main_v28 (broadcastInDim S8x4096x1 ![0, 1] bcast_S8x4096_S8x4096x1_0_1 : (⟨S8x4096, .f32⟩ : BufTy).Contents (Elt F) → (⟨S8x4096x1, .f32⟩ : BufTy).Contents (Elt F)),
    unary main_v28 main_v29 (broadcastInDim S8x4096x4096 ![0, 1, 2] bcast_S8x4096x1_S8x4096x4096_0_1_2 : (⟨S8x4096x1, .f32⟩ : BufTy).Contents (Elt F) → (⟨S8x4096x4096, .f32⟩ : BufTy).Contents (Elt F)),
    binary main_v24 main_v29 main_v30 (subf : (⟨S8x4096x4096, .f32⟩ : BufTy).Contents (Elt F) → (⟨S8x4096x4096, .f32⟩ : BufTy).Contents (Elt F) → (⟨S8x4096x4096, .f32⟩ : BufTy).Contents (Elt F)),
    unary main_v30 main_v31 (Host.exp : (⟨S8x4096x4096, .f32⟩ : BufTy).Contents (Elt F) → (⟨S8x4096x4096, .f32⟩ : BufTy).Contents (Elt F)),
    nullary main_cst_3 (constant S_ .f32 0x00000000#32),
    binary main_v31 main_cst_3 main_v32 ((fun x v => Host.reduceAdd x v reducesTo_S8x4096x4096_S8x4096_d2 h_S_) : (⟨S8x4096x4096, .f32⟩ : BufTy).Contents (Elt F) → (⟨S_, .f32⟩ : BufTy).Contents (Elt F) → (⟨S8x4096, .f32⟩ : BufTy).Contents (Elt F)),
    unary main_v32 main_v33 (broadcastInDim S8x4096x1 ![0, 1] bcast_S8x4096_S8x4096x1_0_1 : (⟨S8x4096, .f32⟩ : BufTy).Contents (Elt F) → (⟨S8x4096x1, .f32⟩ : BufTy).Contents (Elt F)),
    unary main_v33 main_v34 (broadcastInDim S8x4096x4096 ![0, 1, 2] bcast_S8x4096x1_S8x4096x4096_0_1_2 : (⟨S8x4096x1, .f32⟩ : BufTy).Contents (Elt F) → (⟨S8x4096x4096, .f32⟩ : BufTy).Contents (Elt F)),
    binary main_v31 main_v34 main_v35 (Host.divf : (⟨S8x4096x4096, .f32⟩ : BufTy).Contents (Elt F) → (⟨S8x4096x4096, .f32⟩ : BufTy).Contents (Elt F) → (⟨S8x4096x4096, .f32⟩ : BufTy).Contents (Elt F)),
    reshape main_v2 main_v36 (rfl : (.f32 : EltTy) = .f32) shapeCasts_S4096x1024_S4096x8x128,
    binary main_v36 main_v35 main_v37 ((fun l r => Host.dotGeneral dot_S4096x8x128_S8x4096x4096_S8x128x4096_0_2_2_1_1_0 none l r) : (⟨S4096x8x128, .f32⟩ : BufTy).Contents (Elt F) → (⟨S8x4096x4096, .f32⟩ : BufTy).Contents (Elt F) → (⟨S8x128x4096, .f32⟩ : BufTy).Contents (Elt F)),
    unary main_v37 main_v38 ((transpose S4096x8x128 [2, 0, 1] · transposes_S8x128x4096_S4096x8x128_2_0_1) : (⟨S8x128x4096, .f32⟩ : BufTy).Contents (Elt F) → (⟨S4096x8x128, .f32⟩ : BufTy).Contents (Elt F)),
    reshape main_v38 main_v39 (rfl : (.f32 : EltTy) = .f32) shapeCasts_S4096x8x128_S4096x1024,
    unary main_v39 main_v40 ((truncf .bf16 · bitsLt_bf16_f32) : (⟨S4096x1024, .f32⟩ : BufTy).Contents (Elt F) → (⟨S4096x1024, .bf16⟩ : BufTy).Contents (Elt F)),
    reshape main_v0 main_v41 (rfl : (.f32 : EltTy) = .f32) shapeCasts_S4096x1024_S4096x8x128,
    reshape main_v1 main_v42 (rfl : (.f32 : EltTy) = .f32) shapeCasts_S4096x1024_S4096x8x128,
    binary main_v41 main_v42 main_v43 ((fun l r => Host.dotGeneral dot_S4096x8x128_S4096x8x128_S8x4096x4096_2_2_0_0_1_1 none l r) : (⟨S4096x8x128, .f32⟩ : BufTy).Contents (Elt F) → (⟨S4096x8x128, .f32⟩ : BufTy).Contents (Elt F) → (⟨S8x4096x4096, .f32⟩ : BufTy).Contents (Elt F)),
    nullary main_cst_4 (constant S_ .f32 0x43000000#32),
    unary main_cst_4 main_v44 (Host.sqrt : (⟨S_, .f32⟩ : BufTy).Contents (Elt F) → (⟨S_, .f32⟩ : BufTy).Contents (Elt F)),
    unary main_v44 main_v45 (broadcastInDim S8x4096x4096 ![] bcast_S_S8x4096x4096 : (⟨S_, .f32⟩ : BufTy).Contents (Elt F) → (⟨S8x4096x4096, .f32⟩ : BufTy).Contents (Elt F)),
    binary main_v43 main_v45 main_v46 (Host.divf : (⟨S8x4096x4096, .f32⟩ : BufTy).Contents (Elt F) → (⟨S8x4096x4096, .f32⟩ : BufTy).Contents (Elt F) → (⟨S8x4096x4096, .f32⟩ : BufTy).Contents (Elt F)),
    unary main_arg3 main_v47 ((transpose S8x4096 [1, 0] · transposes_S4096x8_S8x4096_1_0) : (⟨S4096x8, .f32⟩ : BufTy).Contents (Elt F) → (⟨S8x4096, .f32⟩ : BufTy).Contents (Elt F)),
    unary main_v47 main_v48 (broadcastInDim S8x4096x1 ![0, 1] bcast_S8x4096_S8x4096x1_0_1 : (⟨S8x4096, .f32⟩ : BufTy).Contents (Elt F) → (⟨S8x4096x1, .f32⟩ : BufTy).Contents (Elt F)),
    unary main_v48 main_v49 (broadcastInDim S8x4096x4096 ![0, 1, 2] bcast_S8x4096x1_S8x4096x4096_0_1_2 : (⟨S8x4096x1, .f32⟩ : BufTy).Contents (Elt F) → (⟨S8x4096x4096, .f32⟩ : BufTy).Contents (Elt F)),
    binary main_v46 main_v49 main_v50 (addf : (⟨S8x4096x4096, .f32⟩ : BufTy).Contents (Elt F) → (⟨S8x4096x4096, .f32⟩ : BufTy).Contents (Elt F) → (⟨S8x4096x4096, .f32⟩ : BufTy).Contents (Elt F)),
    unary main_arg3 main_v51 ((transpose S8x4096 [1, 0] · transposes_S4096x8_S8x4096_1_0) : (⟨S4096x8, .f32⟩ : BufTy).Contents (Elt F) → (⟨S8x4096, .f32⟩ : BufTy).Contents (Elt F)),
    unary main_v51 main_v52 (broadcastInDim S8x1x4096 ![0, 2] bcast_S8x4096_S8x1x4096_0_2 : (⟨S8x4096, .f32⟩ : BufTy).Contents (Elt F) → (⟨S8x1x4096, .f32⟩ : BufTy).Contents (Elt F)),
    unary main_v52 main_v53 (broadcastInDim S8x4096x4096 ![0, 1, 2] bcast_S8x1x4096_S8x4096x4096_0_1_2 : (⟨S8x1x4096, .f32⟩ : BufTy).Contents (Elt F) → (⟨S8x4096x4096, .f32⟩ : BufTy).Contents (Elt F)),
    binary main_v50 main_v53 main_v54 (subf : (⟨S8x4096x4096, .f32⟩ : BufTy).Contents (Elt F) → (⟨S8x4096x4096, .f32⟩ : BufTy).Contents (Elt F) → (⟨S8x4096x4096, .f32⟩ : BufTy).Contents (Elt F)),
    nullary main_v55 (iotaInDim S4096 32 0),
    unary main_v55 main_v56 (broadcastInDim S4096x1 ![0] bcast_S4096_S4096x1_0 : (⟨S4096, .i32⟩ : BufTy).Contents (Elt F) → (⟨S4096x1, .i32⟩ : BufTy).Contents (Elt F)),
    nullary main_v57 (iotaInDim S4096 32 0),
    unary main_v57 main_v58 (broadcastInDim S1x4096 ![1] bcast_S4096_S1x4096_1 : (⟨S4096, .i32⟩ : BufTy).Contents (Elt F) → (⟨S1x4096, .i32⟩ : BufTy).Contents (Elt F)),
    unary main_v56 main_v59 (broadcastInDim S4096x4096 ![0, 1] bcast_S4096x1_S4096x4096_0_1 : (⟨S4096x1, .i32⟩ : BufTy).Contents (Elt F) → (⟨S4096x4096, .i32⟩ : BufTy).Contents (Elt F)),
    unary main_v58 main_v60 (broadcastInDim S4096x4096 ![0, 1] bcast_S1x4096_S4096x4096_0_1 : (⟨S1x4096, .i32⟩ : BufTy).Contents (Elt F) → (⟨S4096x4096, .i32⟩ : BufTy).Contents (Elt F)),
    binary main_v59 main_v60 main_v61 (cmpi .sge : (⟨S4096x4096, .i32⟩ : BufTy).Contents (Elt F) → (⟨S4096x4096, .i32⟩ : BufTy).Contents (Elt F) → (⟨S4096x4096, .i1⟩ : BufTy).Contents (Elt F)),
    nullary main_cst_5 (constant S_ .f32 0xFF800000#32),
    TRef.unary (TRef.of (T := ⟨S_, .f32⟩) main_cst_5) (TRef.of (T := ⟨S_, .f32⟩) main_call1_v0) id,
    TRef.unary (TRef.of (T := ⟨S4096x4096, .i1⟩) main_v61) (TRef.of (T := ⟨S8x4096x4096, .i1⟩) main_call1_v1) (broadcastInDim S8x4096x4096 ![1, 2] bcast_S4096x4096_S8x4096x4096_1_2),
    TRef.unary (TRef.of (T := ⟨S_, .f32⟩) main_call1_v0) (TRef.of (T := ⟨S8x4096x4096, .f32⟩) main_call1_v2) (broadcastInDim S8x4096x4096 ![] bcast_S_S8x4096x4096),
    TRef.ternary (TRef.of (T := ⟨S8x4096x4096, .i1⟩) main_call1_v1) (TRef.of (T := ⟨S8x4096x4096, .f32⟩) main_v54) (TRef.of (T := ⟨S8x4096x4096, .f32⟩) main_call1_v2) (TRef.of (T := ⟨S8x4096x4096, .f32⟩) main_v62) select,
    nullary main_cst_6 (constant S_ .f32 0xFF800000#32),
    binary main_v62 main_cst_6 main_v63 ((fun x v => Host.reduce FloatOps.maximumf x v reducesTo_S8x4096x4096_S8x4096_d2 h_S_) : (⟨S8x4096x4096, .f32⟩ : BufTy).Contents (Elt F) → (⟨S_, .f32⟩ : BufTy).Contents (Elt F) → (⟨S8x4096, .f32⟩ : BufTy).Contents (Elt F)),
    unary main_v63 main_v64 (broadcastInDim S8x4096x1 ![0, 1] bcast_S8x4096_S8x4096x1_0_1 : (⟨S8x4096, .f32⟩ : BufTy).Contents (Elt F) → (⟨S8x4096x1, .f32⟩ : BufTy).Contents (Elt F)),
    unary main_v64 main_v65 (broadcastInDim S8x4096x4096 ![0, 1, 2] bcast_S8x4096x1_S8x4096x4096_0_1_2 : (⟨S8x4096x1, .f32⟩ : BufTy).Contents (Elt F) → (⟨S8x4096x4096, .f32⟩ : BufTy).Contents (Elt F)),
    binary main_v62 main_v65 main_v66 (subf : (⟨S8x4096x4096, .f32⟩ : BufTy).Contents (Elt F) → (⟨S8x4096x4096, .f32⟩ : BufTy).Contents (Elt F) → (⟨S8x4096x4096, .f32⟩ : BufTy).Contents (Elt F)),
    unary main_v66 main_v67 (Host.exp : (⟨S8x4096x4096, .f32⟩ : BufTy).Contents (Elt F) → (⟨S8x4096x4096, .f32⟩ : BufTy).Contents (Elt F)),
    nullary main_cst_7 (constant S_ .f32 0x00000000#32),
    binary main_v67 main_cst_7 main_v68 ((fun x v => Host.reduceAdd x v reducesTo_S8x4096x4096_S8x4096_d2 h_S_) : (⟨S8x4096x4096, .f32⟩ : BufTy).Contents (Elt F) → (⟨S_, .f32⟩ : BufTy).Contents (Elt F) → (⟨S8x4096, .f32⟩ : BufTy).Contents (Elt F)),
    unary main_v68 main_v69 (Host.log : (⟨S8x4096, .f32⟩ : BufTy).Contents (Elt F) → (⟨S8x4096, .f32⟩ : BufTy).Contents (Elt F)),
    binary main_v63 main_v69 main_v70 (addf : (⟨S8x4096, .f32⟩ : BufTy).Contents (Elt F) → (⟨S8x4096, .f32⟩ : BufTy).Contents (Elt F) → (⟨S8x4096, .f32⟩ : BufTy).Contents (Elt F)),
    unary main_v70 main_v71 (broadcastInDim S8x4096x1 ![0, 1] bcast_S8x4096_S8x4096x1_0_1 : (⟨S8x4096, .f32⟩ : BufTy).Contents (Elt F) → (⟨S8x4096x1, .f32⟩ : BufTy).Contents (Elt F)),
    unary main_v71 main_v72 (broadcastInDim S8x4096x128 ![0, 1, 2] bcast_S8x4096x1_S8x4096x128_0_1_2 : (⟨S8x4096x1, .f32⟩ : BufTy).Contents (Elt F) → (⟨S8x4096x128, .f32⟩ : BufTy).Contents (Elt F)) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨unary_bufs_sub .., unary_bufs_sub .., unary_bufs_sub .., reshape_bufs_sub .., reshape_bufs_sub .., binary_bufs_sub .., nullary_bufs_sub .., unary_bufs_sub .., unary_bufs_sub .., binary_bufs_sub .., unary_bufs_sub .., unary_bufs_sub .., unary_bufs_sub .., binary_bufs_sub .., unary_bufs_sub .., unary_bufs_sub .., unary_bufs_sub .., binary_bufs_sub .., nullary_bufs_sub .., unary_bufs_sub .., nullary_bufs_sub .., unary_bufs_sub .., unary_bufs_sub .., unary_bufs_sub .., binary_bufs_sub .., nullary_bufs_sub .., unary_bufs_sub .., unary_bufs_sub .., unary_bufs_sub .., ternary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., reshape_bufs_sub .., binary_bufs_sub .., unary_bufs_sub .., reshape_bufs_sub .., unary_bufs_sub .., reshape_bufs_sub .., reshape_bufs_sub .., binary_bufs_sub .., nullary_bufs_sub .., unary_bufs_sub .., unary_bufs_sub .., binary_bufs_sub .., unary_bufs_sub .., unary_bufs_sub .., unary_bufs_sub .., binary_bufs_sub .., unary_bufs_sub .., unary_bufs_sub .., unary_bufs_sub .., binary_bufs_sub .., nullary_bufs_sub .., unary_bufs_sub .., nullary_bufs_sub .., unary_bufs_sub .., unary_bufs_sub .., unary_bufs_sub .., binary_bufs_sub .., nullary_bufs_sub .., unary_bufs_sub .., unary_bufs_sub .., unary_bufs_sub .., ternary_bufs_sub .., nullary_bufs_sub .., binary_bufs_sub .., unary_bufs_sub .., unary_bufs_sub .., binary_bufs_sub .., unary_bufs_sub .., nullary_bufs_sub .., binary_bufs_sub .., unary_bufs_sub .., binary_bufs_sub .., unary_bufs_sub .., unary_bufs_sub ..⟩

/-! ## The steps of the arguments -/

/-- The queries, in heads. -/
abbrev Q (m : (ℓ : Loc nD τ sig) → Buf (Elt Ideal) ℓ) (c : Dev nD) : FVec Ideal Attn.R3 .f32 := Attn.heads (extf (F := Ideal) (φ := .bf16) .f32 (m ((c.tc : Thread nD τ).loc main_arg0) : FVec Ideal Attn.R .bf16) (by decide))

/-- The keys, in heads. -/
abbrev K (m : (ℓ : Loc nD τ sig) → Buf (Elt Ideal) ℓ) (c : Dev nD) : FVec Ideal Attn.R3 .f32 := Attn.heads (extf (F := Ideal) (φ := .bf16) .f32 (m ((c.tc : Thread nD τ).loc main_arg1) : FVec Ideal Attn.R .bf16) (by decide))

/-- The values, in heads. -/
abbrev W (m : (ℓ : Loc nD τ sig) → Buf (Elt Ideal) ℓ) (c : Dev nD) : FVec Ideal Attn.R3 .f32 := Attn.heads (extf (F := Ideal) (φ := .bf16) .f32 (m ((c.tc : Thread nD τ).loc main_arg2) : FVec Ideal Attn.R .bf16) (by decide))

/-- The gates. -/
abbrev C (m : (ℓ : Loc nD τ sig) → Buf (Elt Ideal) ℓ) (c : Dev nD) : FVec Ideal Attn.C .f32 := (m ((c.tc : Thread nD τ).loc main_arg3) : FVec Ideal Attn.C .f32)

/-- The masked scores. -/
abbrev X (m : (ℓ : Loc nD τ sig) → Buf (Elt Ideal) ℓ) (c : Dev nD) : FVec Ideal Attn.A .f32 := Attn.masked (Attn.logits (Q m c) (K m c) (C m c) (C m c))

/-- The exponentials. -/
abbrev E (m : (ℓ : Loc nD τ sig) → Buf (Elt Ideal) ℓ) (c : Dev nD) : FVec Ideal Attn.A .f32 := Attn.expo (X m c) (Attn.top' (Attn.top (X m c)))

/-- Their sums. -/
abbrev L (m : (ℓ : Loc nD τ sig) → Buf (Elt Ideal) ℓ) (c : Dev nD) : FVec Ideal Attn.CT .f32 := Attn.total (E m c)

/-- The result `ob`. -/
abbrev ob (m : (ℓ : Loc nD τ sig) → Buf (Elt Ideal) ℓ) (c : Dev nD) : FVec Ideal Attn.R .bf16 := truncf .bf16 (Attn.attend (W m c) (Attn.quot (E m c) (L m c))) (by decide)

/-- The result `o`. -/
abbrev o (m : (ℓ : Loc nD τ sig) → Buf (Elt Ideal) ℓ) (c : Dev nD) : FVec Ideal Attn.R .f32 := Attn.attend (W m c) (Attn.quot (E m c) (L m c))

/-- The result `le`. -/
abbrev le (m : (ℓ : Loc nD τ sig) → Buf (Elt Ideal) ℓ) (c : Dev nD) : FVec Ideal Attn.Q3 .f32 := Attn.lanes (Attn.lse (Attn.top (X m c)) (Attn.total (Attn.expo (X m c) (Attn.top (X m c)))))

set_option maxRecDepth 100000 in
theorem after_ob (m : (ℓ : Loc nD τ sig) → Buf (Elt Ideal) ℓ) (c : Dev nD) : after ops (launchContents m c) main_v40 = ob m c := by
  simp only [ops, TRef.nullary, TRef.ternary, TRef.unary, TRef.toBuf, TRef.ofBuf, cast_eq]
  after_results_simp
  dsimp only [ob, L, E, X, Q, K, W, C, Attn.heads, Attn.causalA, Attn.causal, Attn.rootA, Attn.root, Attn.logits, Attn.masked, Attn.top, Attn.rows, Attn.top', Attn.expo, Attn.total, Attn.quot, Attn.attend, Attn.lse, Attn.lanes, Attn.gT, Attn.dprob, Attn.dsum, Attn.dscore, Attn.dgateQ, Attn.scaled, Attn.dquery, Attn.dkey, Attn.dvalue, Attn.dgateK, Attn.padded, Attn.tiled]
  rfl

set_option maxRecDepth 100000 in
theorem after_o (m : (ℓ : Loc nD τ sig) → Buf (Elt Ideal) ℓ) (c : Dev nD) : after ops (launchContents m c) main_v39 = o m c := by
  simp only [ops, TRef.nullary, TRef.ternary, TRef.unary, TRef.toBuf, TRef.ofBuf, cast_eq]
  after_results_simp
  dsimp only [o, L, E, X, Q, K, W, C, Attn.heads, Attn.causalA, Attn.causal, Attn.rootA, Attn.root, Attn.logits, Attn.masked, Attn.top, Attn.rows, Attn.top', Attn.expo, Attn.total, Attn.quot, Attn.attend, Attn.lse, Attn.lanes, Attn.gT, Attn.dprob, Attn.dsum, Attn.dscore, Attn.dgateQ, Attn.scaled, Attn.dquery, Attn.dkey, Attn.dvalue, Attn.dgateK, Attn.padded, Attn.tiled]
  rfl

set_option maxRecDepth 100000 in
theorem after_le (m : (ℓ : Loc nD τ sig) → Buf (Elt Ideal) ℓ) (c : Dev nD) : after ops (launchContents m c) main_v72 = le m c := by
  simp only [ops, TRef.nullary, TRef.ternary, TRef.unary, TRef.toBuf, TRef.ofBuf, cast_eq]
  after_results_simp
  dsimp only [le, L, E, X, Q, K, W, C, Attn.heads, Attn.causalA, Attn.causal, Attn.rootA, Attn.root, Attn.logits, Attn.masked, Attn.top, Attn.rows, Attn.top', Attn.expo, Attn.total, Attn.quot, Attn.attend, Attn.lse, Attn.lanes, Attn.gT, Attn.dprob, Attn.dsum, Attn.dscore, Attn.dgateQ, Attn.scaled, Attn.dquery, Attn.dkey, Attn.dvalue, Attn.dgateK, Attn.padded, Attn.tiled]
  rfl

theorem after_arg0 (m : (ℓ : Loc nD τ sig) → Buf (Elt Ideal) ℓ) (c : Dev nD) : after ops (launchContents m c) main_arg0 = m ((c.tc : Thread nD τ).loc main_arg0) := by
  simp only [ops, TRef.nullary, TRef.ternary, TRef.unary, TRef.toBuf, TRef.ofBuf, cast_eq]
  after_results_simp <;> rfl

theorem after_arg1 (m : (ℓ : Loc nD τ sig) → Buf (Elt Ideal) ℓ) (c : Dev nD) : after ops (launchContents m c) main_arg1 = m ((c.tc : Thread nD τ).loc main_arg1) := by
  simp only [ops, TRef.nullary, TRef.ternary, TRef.unary, TRef.toBuf, TRef.ofBuf, cast_eq]
  after_results_simp <;> rfl

theorem after_arg2 (m : (ℓ : Loc nD τ sig) → Buf (Elt Ideal) ℓ) (c : Dev nD) : after ops (launchContents m c) main_arg2 = m ((c.tc : Thread nD τ).loc main_arg2) := by
  simp only [ops, TRef.nullary, TRef.ternary, TRef.unary, TRef.toBuf, TRef.ofBuf, cast_eq]
  after_results_simp <;> rfl

theorem after_arg3 (m : (ℓ : Loc nD τ sig) → Buf (Elt Ideal) ℓ) (c : Dev nD) : after ops (launchContents m c) main_arg3 = m ((c.tc : Thread nD τ).loc main_arg3) := by
  simp only [ops, TRef.nullary, TRef.ternary, TRef.unary, TRef.toBuf, TRef.ofBuf, cast_eq]
  after_results_simp <;> rfl

/-- Every execution from a memory with zero counters ends with each result at its steps and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v40) = ob m c ∧ r.2.mem ((c.tc : Thread nD τ).loc main_v39) = o m c ∧ r.2.mem ((c.tc : Thread nD τ).loc main_v72) = le m c ∧ r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) :=
  (θ_run defs _ _).mono (fun _ h c => ⟨(h c main_v40).trans (after_ob m c), (h c main_v39).trans (after_o m c), (h c main_v72).trans (after_le m c), (h c main_arg0).trans (after_arg0 m c), (h c main_arg1).trans (after_arg1 m c), (h c main_arg2).trans (after_arg2 m c), (h c main_arg3).trans (after_arg3 m c)⟩)
    (run_seq scopedRefs_eq scopedSems_eq defs main (fun _ => ops) main_eq (fun _ => ops_sub) m ρ)

end Cert.RefFwdIdeal.Steps

end
-- ==== Proof.Soft.lean ====
/- One row's softmax taken tile by tile: the running maximum, the sum of exponentials and the weighted sum of the values. -/
module

public import proofs.«01_k».proof.Proof.Tile
public import proofs.«01_k».proof.Proof.Consts

@[expose] public section

set_option maxRecDepth 16384

noncomputable section

open Idealize.ShloMosaic Idealize.ShloMosaic.TcCoe Idealize.SL.Sem
open Idealize.ShloMosaic.Pipeline (Dat)

namespace Cert.Attn

variable (S : Fin 4096 → Fin 4096 → ℝ) (i : Fin 4096)

/-- The exponential of a score less `m`, for the keys not after the query. -/
def ew (m : ℝ) (j : Fin 4096) : ℝ := if j ≤ i then Real.exp (S i j - m) else 0

theorem ew_shift (m M : ℝ) (j : Fin 4096) : Real.exp (m - M) * ew S i m j = ew S i M j := by
  unfold ew
  split
  · rw [← Real.exp_add]; congr 1; ring
  · exact mul_zero _

theorem ew_sum_pos (m : ℝ) : 0 < ∑ j, ew S i m j :=
  lt_of_lt_of_le (by simp [ew, Real.exp_pos] : 0 < ew S i m i)
    (Finset.single_le_sum (fun j _ => by unfold ew; split; exacts [(Real.exp_pos _).le, le_rfl]) (Finset.mem_univ i))

theorem ew_after (m : ℝ) {j : Fin 4096} (h : ¬ j ≤ i) : ew S i m j = 0 := if_neg h

/-- What a row carries before key `n`: nothing yet, or a maximum, the sum of exponentials less it and the values' weighted sum. -/
def Carried (v : Fin 4096 → Fin 128 → ℝ) (n : ℕ) (a b : EReal) (d : Fin 128 → EReal) : Prop :=
  (n = 0 ∧ a = ⊥ ∧ b = 0 ∧ ∀ l, d l = 0) ∨
    ∃ m : ℝ, a = (m : EReal) ∧ b = ((pre (ew S i m) n : ℝ) : EReal) ∧ ∀ l, d l = ((pre (fun j => ew S i m j * v j l) n : ℝ) : EReal)

/-- The largest score of a tile that has a key not after the query is a real number. -/
theorem fold_real {J : Fin 8} (hJ : pos J 0 ≤ i) {t : Fin 512 → EReal} (ht : ∀ x, t x = if pos J x ≤ i then ((S i (pos J x) : ℝ) : EReal) else ⊥) :
    ∃ T : ℝ, Finset.univ.fold max ⊥ t = (T : EReal) := by
  change ∃ T : ℝ, Finset.univ.sup t = (T : EReal)
  obtain ⟨x, -, hx⟩ := Finset.exists_mem_eq_sup Finset.univ ⟨0, Finset.mem_univ _⟩ t
  rw [hx, ht]
  by_cases h : pos J x ≤ i
  · exact ⟨_, if_pos h⟩
  · exfalso
    have h0 := Finset.le_sup (f := t) (Finset.mem_univ (0 : Fin 512))
    rw [hx, ht x, if_neg h, ht 0, if_pos hJ] at h0
    exact absurd (le_bot_iff.1 h0) (EReal.coe_ne_bot _)

/-- One tile more. -/
theorem carried_step {v : Fin 4096 → Fin 128 → ℝ} {J : Fin 8} (hJ : pos J 0 ≤ i) {a b : EReal} {d : Fin 128 → EReal} (hc : Carried S i v (J.val * 512) a b d)
    {t : Fin 512 → EReal} (ht : ∀ x, t x = if pos J x ≤ i then ((S i (pos J x) : ℝ) : EReal) else ⊥) :
    ∃ M : ℝ, max a (Finset.univ.fold max ⊥ t) = (M : EReal)
      ∧ Ideal.exp (a - (M : EReal)) * b + (∑ x, Ideal.exp (t x - (M : EReal))) = ((pre (ew S i M) ((J.val + 1) * 512) : ℝ) : EReal)
      ∧ ∀ l, Ideal.exp (a - (M : EReal)) * d l + (∑ x, Ideal.exp (t x - (M : EReal)) * ((v (pos J x) l : ℝ) : EReal)) = ((pre (fun j => ew S i M j * v j l) ((J.val + 1) * 512) : ℝ) : EReal) := by
  obtain ⟨T, hT⟩ := fold_real S i hJ ht
  have hp : ∀ (M : ℝ) x, Ideal.exp (t x - (M : EReal)) = ((ew S i M (pos J x) : ℝ) : EReal) := fun M x => by
    rw [ht, ew]
    split
    · rw [← EReal.coe_sub, Ideal.exp_coe]
    · rw [EReal.bot_sub, Ideal.exp_bot, EReal.coe_zero]
  rw [hT]
  rcases hc with ⟨h0, rfl, rfl, hd⟩ | ⟨m, rfl, rfl, hd⟩
  · refine ⟨T, max_eq_right bot_le, ?_, fun l => ?_⟩
    · rw [mul_zero, zero_add, Finset.sum_congr rfl fun x _ => hp T x, coe_sum, pre_tile, h0, pre_zero, zero_add]
    · rw [hd, mul_zero, zero_add, Finset.sum_congr rfl fun x _ => by rw [hp T x, ← EReal.coe_mul], coe_sum, pre_tile, h0, pre_zero, zero_add]
  · refine ⟨max m T, (EReal.coe_strictMono.monotone.map_max (a := m) (b := T)).symm, ?_, fun l => ?_⟩
    · rw [Finset.sum_congr rfl fun x _ => hp (max m T) x, coe_sum, ← EReal.coe_sub, Ideal.exp_coe, ← EReal.coe_mul, ← EReal.coe_add, pre_mul, pre_tile]
      simp only [ew_shift]
    · rw [hd, Finset.sum_congr rfl fun x _ => by rw [hp (max m T) x, ← EReal.coe_mul], coe_sum, ← EReal.coe_sub, Ideal.exp_coe, ← EReal.coe_mul, ← EReal.coe_add, pre_mul, pre_tile]
      simp only [← mul_assoc, ew_shift]

theorem carried_of {v : Fin 4096 → Fin 128 → ℝ} {n : ℕ} {a b : EReal} {d : Fin 128 → EReal} (M : ℝ) (ha : a = (M : EReal)) (hb : b = ((pre (ew S i M) n : ℝ) : EReal))
    (hd : ∀ l, d l = ((pre (fun j => ew S i M j * v j l) n : ℝ) : EReal)) : Carried S i v n a b d := .inr ⟨M, ha, hb, hd⟩

/-- After the query's own tile the weighted sum over the sum is the attention's result. -/
theorem end_out {v : Fin 4096 → Fin 128 → ℝ} (M : ℝ) {n : ℕ} (hn : n ≤ 4096) (hi : i.val < n) (l : Fin 128) :
    Ideal.div ((pre (fun j => ew S i M j * v j l) n : ℝ) : EReal) ((pre (ew S i M) n : ℝ) : EReal) = ((∑ j, v j l * pr S i j : ℝ) : EReal) := by
  have hx : ∀ x : Fin 4096, n ≤ x.val → ew S i M x = 0 := fun x hx => ew_after S i M (by rw [Fin.le_def]; omega)
  rw [pre_eq _ n hn hx, pre_eq _ n hn fun x h => by rw [hx x h, zero_mul], coe_div (ew_sum_pos S i M).ne', Finset.sum_div]
  refine congrArg _ (Finset.sum_congr rfl fun j _ => ?_)
  rw [← pr_of S M i j]
  show ew S i M j * v j l / (∑ j, ew S i M j) = v j l * (ew S i M j / ∑ j, ew S i M j)
  ring

/-- And the maximum plus the logarithm of the sum is the row's logarithm of the sum of exponentials. -/
theorem end_lse (M : ℝ) {n : ℕ} (hn : n ≤ 4096) (hi : i.val < n) : (M : EReal) + Ideal.log ((pre (ew S i M) n : ℝ) : EReal) = ((lg S i : ℝ) : EReal) := by
  have hx : ∀ x : Fin 4096, n ≤ x.val → ew S i M x = 0 := fun x hx => ew_after S i M (by rw [Fin.le_def]; omega)
  rw [pre_eq _ n hn hx, Ideal.log_coe, if_neg (not_le.2 (ew_sum_pos S i M)), ← EReal.coe_add]
  exact congrArg _ (lg_of S M i)

end Cert.Attn

end
-- ==== Proof.FwdPay.lean ====
/- What one tile step of the forward kernel computes. -/
module

public import proofs.«01_k».proof.Proof.Gen.FwdIdeal.Value
public import proofs.«01_k».proof.Proof.Soft
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.FwdIdeal.Final

open Cert.FwdIdeal Cert.FwdIdeal.Gen Cert.Attn

theorem scale_at : Named.named (F := Ideal) Cert.FwdIdeal.κ "s" (φ := .f32) 0x3DB504F3#32 = (((Real.sqrt 128)⁻¹ : ℝ) : EReal) :=
  IdealRules.named_const.ideal_named_scalar _ _ _ _ rfl

theorem mask_at : Named.named (F := Ideal) Cert.FwdIdeal.κ "mask" (φ := .f32) 0xF149F2CA#32 = (⊥ : EReal) :=
  IdealRules.named_const.ideal_named_scalar _ _ _ _ rfl

section

variable {q k v : Fin 4096 → Fin 1024 → ℝ} {c : Fin 4096 → Fin 8 → ℝ} {h I J : Fin 8} {i : grid0.Coords}
  {v0 : Vec Ideal S512x128 .bf16} {v1 : Vec Ideal S512x128 .f32} {f e : Vec Ideal S512x128 .bf16} {y : Vec Ideal S1x1x512 .f32}
  (hq : ∀ r l, v0 (ix2 r l) = ((q (pos I r) (col h l) : ℝ) : EReal)) (hc : ∀ r, k0_pay9 i v1 (ix2 r 0) = ((c (pos I r) h : ℝ) : EReal))
  (hk : ∀ x l, f (ix2 x l) = ((k (pos J x) (col h l) : ℝ) : EReal)) (hy : ∀ x, y (ix3 0 0 x) = ((c (pos J x) h : ℝ) : EReal))
  (hv : ∀ x l, e (ix2 x l) = ((v (pos J x) (col h l) : ℝ) : EReal))

include hq hc hk hy

/-- A tile's scores. -/
theorem score_at (r x : Fin 512) : k0_pay13 (F := Ideal) i v0 v1 f y (ix2 r x) = ((sc q k c h (pos I r) (pos J x) : ℝ) : EReal) := by
  pointwise [k0_pay13]
  rw [hc]
  simp only [hq, hk, hy, scale_at, sc_scalar]

/-- The diagonal tile's scores before the mask. -/
theorem dscore_at (r x : Fin 512) : k0_pay25 (F := Ideal) i v0 v1 f y (ix2 r x) = ((sc q k c h (pos I r) (pos J x) : ℝ) : EReal) := by
  pointwise [k0_pay25]
  rw [hc]
  simp only [hq, hk, hy, scale_at, sc_scalar]

include hv

/-- One tile left of the diagonal. -/
theorem tile_step (hJ : J < I) (a b : Vec Ideal S512x1 .f32) (d : Vec Ideal S512x128 .f32) (r : Fin 512)
    (hs : Carried (sc q k c h) (pos I r) (fun j l => v j (col h l)) (J.val * 512) (a (ix2 r 0)) (b (ix2 r 0)) (fun l => d (ix2 r l))) :
    Carried (sc q k c h) (pos I r) (fun j l => v j (col h l)) ((J.val + 1) * 512) (k0_pay14 (F := Ideal) i v0 v1 a f y (ix2 r 0))
      (k0_pay17 (F := Ideal) i v0 v1 a b f y (ix2 r 0)) (fun l => k0_pay18 (F := Ideal) i v0 v1 a d f y e (ix2 r l)) := by
  obtain ⟨M, h1, h2, h3⟩ := carried_step (t := fun x => k0_pay13 (F := Ideal) i v0 v1 f y (ix2 r x)) (sc q k c h) (pos I r) (pos_le hJ r 0) hs
    (fun x => (score_at hq hc hk hy r x).trans (if_pos (pos_le hJ r x)).symm)
  have hm : k0_pay14 (F := Ideal) i v0 v1 a f y (ix2 r 0) = (M : EReal) := by
    pointwise [k0_pay14]
    rw [ofBits_bot]
    exact h1
  refine carried_of _ _ M hm ?_ fun l => ?_
  · pointwise [k0_pay17, k0_pay16, k0_pay15]
    rw [hm]
    exact h2
  · pointwise [k0_pay18, k0_pay16, k0_pay15]
    rw [hm]
    simp only [hv]
    exact h3 l

end

section

variable {q k v : Fin 4096 → Fin 1024 → ℝ} {c : Fin 4096 → Fin 8 → ℝ} {h I : Fin 8}
  {v35 : FVec Ideal S512x512 .f32} {v36 v37 : IVec S512x512 32} {e : Vec Ideal S512x128 .bf16}
  (hs : ∀ r x, v35 (ix2 r x) = ((sc q k c h (pos I r) (pos I x) : ℝ) : EReal))
  (h36 : ∀ r x : Fin 512, v36 (ix2 r x) = BitVec.ofNat 32 r.val) (h37 : ∀ r x : Fin 512, v37 (ix2 r x) = BitVec.ofNat 32 x.val)
  (hv : ∀ x l, e (ix2 x l) = ((v (pos I x) (col h l) : ℝ) : EReal))

include hs h36 h37 in
/-- The diagonal tile's scores. -/
theorem masked_at (r x : Fin 512) : k0_pay1 (F := Ideal) v35 v36 v37 (ix2 r x) = if pos I x ≤ pos I r then ((sc q k c h (pos I r) (pos I x) : ℝ) : EReal) else ⊥ := by
  pointwise [k0_pay1]
  rw [hs, h36, h37, mask_at, sge (by omega) (by omega)]
  exact if_congr (pos_le_same I r x).symm rfl rfl

include hs h36 h37 hv

/-- The diagonal tile: what is written. -/
theorem diag_step (a b : Vec Ideal S512x1 .f32) (d : Vec Ideal S512x128 .f32) (r : Fin 512)
    (hc : Carried (sc q k c h) (pos I r) (fun j l => v j (col h l)) (I.val * 512) (a (ix2 r 0)) (b (ix2 r 0)) (fun l => d (ix2 r l))) :
    (∀ l, k0_pay6 (F := Ideal) a b d v35 v36 v37 e (ix2 r l) = ((∑ j, v j (col h l) * pr (sc q k c h) (pos I r) j : ℝ) : EReal))
      ∧ ∀ l, k0_pay8 (F := Ideal) a b v35 v36 v37 (ix3 0 r l) = ((lg (sc q k c h) (pos I r) : ℝ) : EReal) := by
  obtain ⟨M, h1, h2, h3⟩ := carried_step (t := fun x => k0_pay1 (F := Ideal) v35 v36 v37 (ix2 r x)) (sc q k c h) (pos I r)
    ((pos_le_same I r 0).2 (Nat.zero_le _)) hc (masked_at hs h36 h37 r)
  have hm : k0_pay2 (F := Ideal) a v35 v36 v37 (ix2 r 0) = (M : EReal) := by
    pointwise [k0_pay2]
    rw [ofBits_bot]
    exact h1
  have hl : k0_pay5 (F := Ideal) a b v35 v36 v37 (ix2 r 0) = ((pre (ew (sc q k c h) (pos I r) M) ((I.val + 1) * 512) : ℝ) : EReal) := by
    pointwise [k0_pay5, k0_pay4, k0_pay3]
    rw [hm]
    exact h2
  have hi : (pos I r).val < (I.val + 1) * 512 := by simp only [pos]; omega
  refine ⟨fun l => ?_, fun l => ?_⟩
  · pointwise [k0_pay6, k0_pay4, k0_pay3]
    rw [hm, hl]
    simp only [hv]
    rw [h3 l]
    exact end_out (v := fun j l => v j (col h l)) _ _ M (by omega) hi l
  · pointwise [k0_pay8]
    rw [hm, hl]
    exact end_lse _ _ M (by omega) hi

end

end Cert.FwdIdeal.Final

end
-- ==== Proof.FwdEntry.lean ====
/- What the forward kernel is started on: the buffers its host code fills. -/
module

public import proofs.«01_k».proof.Proof.Gen.FwdIdeal.Value
public import proofs.«01_k».proof.Proof.Reals
public import proofs.«01_k».proof.Proof.Consts
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.FwdIdeal.Final

open Cert.FwdIdeal Cert.FwdIdeal.Gen Cert.Attn

section

variable (m : (ℓ : Loc nD τ sig) → Buf (Elt Ideal) ℓ) (c : Dev nD)

abbrev A0 : FVec Ideal R .bf16 := m ((c.tc : Thread nD τ).loc main_arg0)
abbrev A1 : FVec Ideal R .bf16 := m ((c.tc : Thread nD τ).loc main_arg1)
abbrev A2 : FVec Ideal R .bf16 := m ((c.tc : Thread nD τ).loc main_arg2)
abbrev A3 : FVec Ideal C .f32 := m ((c.tc : Thread nD τ).loc main_arg3)

theorem V_arg0 : V m c main_arg0 = A0 m c := rfl
theorem V_arg1 : V m c main_arg1 = A1 m c := rfl
theorem V_arg2 : V m c main_arg2 = A2 m c := rfl

/-- The gate's running sums transposed, a row per head and tile. -/
theorem V_row : V m c main_v3 = tiled (padded (A3 m c)) := by
  entry_read
  rfl

/-- The gate's running sums, padded to the lanes. -/
theorem V_col : V m c main_v0 = padded (A3 m c) := by
  entry_read
  rfl

variable {m c} {w : Fin 4096 → Fin 8 → ℝ} (hw : ∀ i h, A3 m c (ix2 i h) = ((w i h : ℝ) : EReal))

include hw in
/-- What the kernel reads as the gate's running sums, in reals. -/
theorem col_at : IsM (a := 4096) (b := 128) (φ := .f32) (V m c main_v0) fun i l => if h : l.val < 8 then w i ⟨l.val, h⟩ else 0 := by
  rw [V_col]
  exact padded_is hw

include hw in
/-- The same by tiles. -/
theorem row_at (b : Fin 64) (l : Fin 512) : V m c main_v3 (ix3 b 0 l) = ((w (bp b l) (bh b) : ℝ) : EReal) := by
  rw [V_row]
  exact tiled_is hw b l

end

end Cert.FwdIdeal.Final

end
-- ==== Proof.FwdLoop.lean ====
/- The forward kernel's loop over the tiles left of the diagonal. -/
module

public import proofs.«01_k».proof.Proof.FwdPay
public import proofs.«01_k».proof.Proof.FwdEntry

@[expose] public section

set_option maxRecDepth 16384

noncomputable section

open Idealize.ShloMosaic Idealize.ShloMosaic.TcCoe Idealize.SL.Sem
open Idealize.ShloMosaic.Pipeline (Dat)

namespace Cert.FwdIdeal.Final

open Cert.FwdIdeal Cert.FwdIdeal.Gen Cert.Attn

/-- The loop runs once per tile left of the diagonal. -/
theorem trips_eq : ∀ i : grid0.Coords, (k0_t1_loop i).trips = (i 1).val := by decide +kernel

/-- The second loop runs no trip. -/
theorem trips_zero : ∀ i : grid0.Coords, (k0_t2_loop i).trips = 0 := by decide +kernel

/-- One trip: a tile's payload on the tile's keys, gates and values. -/
theorem trip_eq (𝒱 : Variants) (c : Dev nD) (bd : Option 𝒱.V) (i : grid0.Coords) (arg2 : Memref sig .tc .vmem S512x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S512x128 .f32) (harg5 : arg5.IsWhole) (arg6 : Memref sig .tc .vmem S64x1x512 .f32) (harg6 : arg6.IsWhole) (arg7 : Memref sig .tc .vmem S512x128 .bf16) (harg7 : arg7.IsWhole) (arg8 : Memref sig .tc .vmem S512x128 .f32) (harg8 : arg8.IsWhole) (arg9 : Memref sig .tc .vmem S1x512x128 .f32) (harg9 : arg9.IsWhole)
    (v0 : Vec Ideal S512x128 .bf16) (v1 : Vec Ideal S512x128 .f32) (x1 x2 : Vec Ideal S4096x128 .bf16) (x4 : Vec Ideal S64x1x512 .f32) (k : Fin (k0_t1_loop i).trips) (acc) :
    tripR_k0_t1 (F := Ideal) 𝒱 c bd i arg2 harg2 arg3 harg3 arg4 harg4 arg5 harg5 arg6 harg6 arg7 harg7 arg8 harg8 arg9 harg9 v0 v1 (harg3.unread x1) (harg4.unread x2) (harg6.unread x4) k acc
      = (k0_pay14 i v0 v1 acc.1 (View.ld x1 (Rect.unit (k0_off1 i k) ![512, 128] (k0_off1_inb i k))) (View.ld x4 (Rect.unit (k0_off2 i k) ![1, 1, 512] (k0_off2_inb i k))), k0_pay17 i v0 v1 acc.1 acc.2.1 (View.ld x1 (Rect.unit (k0_off1 i k) ![512, 128] (k0_off1_inb i k))) (View.ld x4 (Rect.unit (k0_off2 i k) ![1, 1, 512] (k0_off2_inb i k))),
        k0_pay18 i v0 v1 acc.1 acc.2.2 (View.ld x1 (Rect.unit (k0_off1 i k) ![512, 128] (k0_off1_inb i k))) (View.ld x4 (Rect.unit (k0_off2 i k) ![1, 1, 512] (k0_off2_inb i k))) (View.ld x2 (Rect.unit (k0_off1 i k) ![512, 128] (k0_off1_inb i k)))) := by
  unfold tripR_k0_t1 trip_k0_t1
  frame_out

section

variable {i : grid0.Coords} {x : Vec Ideal S4096x128 .bf16} {f : Fin 4096 → Fin 1024 → ℝ} {h I : Fin 8}

/-- A tile of keys or values. -/
theorem ld_tile (hx : ∀ p l, x (ix2 p l) = ((f p (col h l) : ℝ) : EReal)) (J : Fin 8) {off : Fin 2 → ℕ} (ho : off = ![512 * J.val, 0]) (inb) (r : Fin 512) (l : Fin 128) :
    View.ld (S := S4096x128) x (Rect.unit off ![512, 128] inb) (ix2 r l) = ((f (pos J r) (col h l) : ℝ) : EReal) := by
  rw [← hx]
  refine View.ld_unit_apply_of _ _ _ _ _ (ix2 (pos J r) l) fun a => ?_
  subst ho
  fin_cases a
  · show J.val * 512 + r.val = 512 * J.val + r.val
    omega
  · show l.val = 0 + l.val
    omega

/-- A tile of the gate's running sums. -/
theorem ld_row {y : Vec Ideal S64x1x512 .f32} {w : Fin 4096 → Fin 8 → ℝ} (hy : ∀ b x, y (ix3 b 0 x) = ((w (bp b x) (bh b) : ℝ) : EReal)) (h J : Fin 8) {off : Fin 3 → ℕ}
    (ho : off = ![8 * h.val + J.val, 0, 0]) (inb) (r : Fin 512) :
    View.ld (S := S64x1x512) y (Rect.unit off ![1, 1, 512] inb) (ix3 0 0 r) = ((w (pos J r) h : ℝ) : EReal) := by
  have e := hy (⟨8 * h.val + J.val, by omega⟩ : Fin 64) r
  have e1 : bp (⟨8 * h.val + J.val, by omega⟩ : Fin 64) r = pos J r := Fin.ext (by simp only [bp, pos]; omega)
  have e2 : bh (⟨8 * h.val + J.val, by omega⟩ : Fin 64) = h := Fin.ext (by simp only [bh]; omega)
  rw [e1, e2] at e
  rw [← e]
  refine View.ld_unit_apply_of _ _ _ _ _ (ix3 (⟨8 * h.val + J.val, by omega⟩ : Fin 64) 0 r) fun a => ?_
  subst ho
  fin_cases a
  · show 8 * h.val + J.val = 8 * h.val + J.val + 0
    omega
  · rfl
  · show r.val = 0 + r.val
    omega

end

section

variable {q k v : Fin 4096 → Fin 1024 → ℝ} {w : Fin 4096 → Fin 8 → ℝ} {h I : Fin 8}
  {v0 : Vec Ideal S512x128 .bf16} {v1 : Vec Ideal S512x128 .f32} {x1 x2 : Vec Ideal S4096x128 .bf16} {x4 : Vec Ideal S64x1x512 .f32}

/-- What the loop carries after `n` tiles. -/
theorem loop_inv (𝒱 : Variants) (c : Dev nD) (bd : Option 𝒱.V) (i : grid0.Coords) (arg2 : Memref sig .tc .vmem S512x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S512x128 .f32) (harg5 : arg5.IsWhole) (arg6 : Memref sig .tc .vmem S64x1x512 .f32) (harg6 : arg6.IsWhole) (arg7 : Memref sig .tc .vmem S512x128 .bf16) (harg7 : arg7.IsWhole) (arg8 : Memref sig .tc .vmem S512x128 .f32) (harg8 : arg8.IsWhole) (arg9 : Memref sig .tc .vmem S1x512x128 .f32) (harg9 : arg9.IsWhole) (hi0 : (i 0).val = h.val) (hi1 : (i 1).val = I.val)
    (hq : ∀ r l, v0 (ix2 r l) = ((q (pos I r) (col h l) : ℝ) : EReal)) (hc : ∀ r, k0_pay9 i v1 (ix2 r 0) = ((w (pos I r) h : ℝ) : EReal))
    (hk : ∀ p l, x1 (ix2 p l) = ((k p (col h l) : ℝ) : EReal)) (hv : ∀ p l, x2 (ix2 p l) = ((v p (col h l) : ℝ) : EReal))
    (hy : ∀ b x, x4 (ix3 b 0 x) = ((w (bp b x) (bh b) : ℝ) : EReal)) (n : ℕ) (hn : n ≤ I.val) (r : Fin 512) :
    Carried (sc q k w h) (pos I r) (fun j l => v j (col h l)) (n * 512)
      ((st_k0_t1 (F := Ideal) 𝒱 c bd i arg2 harg2 arg3 harg3 arg4 harg4 arg5 harg5 arg6 harg6 arg7 harg7 arg8 harg8 arg9 harg9 v0 v1 (harg3.unread x1) (harg4.unread x2) (harg6.unread x4) (k0_pay10, k0_pay11, k0_pay12) n).1 (ix2 r 0))
      ((st_k0_t1 (F := Ideal) 𝒱 c bd i arg2 harg2 arg3 harg3 arg4 harg4 arg5 harg5 arg6 harg6 arg7 harg7 arg8 harg8 arg9 harg9 v0 v1 (harg3.unread x1) (harg4.unread x2) (harg6.unread x4) (k0_pay10, k0_pay11, k0_pay12) n).2.1 (ix2 r 0))
      (fun l => (st_k0_t1 (F := Ideal) 𝒱 c bd i arg2 harg2 arg3 harg3 arg4 harg4 arg5 harg5 arg6 harg6 arg7 harg7 arg8 harg8 arg9 harg9 v0 v1 (harg3.unread x1) (harg4.unread x2) (harg6.unread x4) (k0_pay10, k0_pay11, k0_pay12) n).2.2 (ix2 r l)) := by
  induction n with
  | zero =>
    rw [st_k0_t1_zero]
    refine .inl ⟨zero_mul _, ?_, ?_, fun l => ?_⟩
    · pointwise [k0_pay10]
      exact mask_at
    · pointwise [k0_pay11]
    · pointwise [k0_pay12]
  | succ n ih =>
    have e := ih (by omega)
    have hJ : n < 8 := by omega
    have ht : n < (k0_t1_loop i).trips := by rw [trips_eq, hi1]; omega
    have hlt : (⟨n, hJ⟩ : Fin 8) < I := Fin.lt_def.2 (by show n < I.val; omega)
    have o1 := k0_off1_eq i ⟨n, ht⟩
    have o2 := k0_off2_eq i ⟨n, ht⟩
    rw [hi0] at o2
    have s := st_k0_t1_succ (F := Ideal) 𝒱 c bd i arg2 harg2 arg3 harg3 arg4 harg4 arg5 harg5 arg6 harg6 arg7 harg7 arg8 harg8 arg9 harg9 v0 v1 (harg3.unread x1) (harg4.unread x2) (harg6.unread x4) (k0_pay10, k0_pay11, k0_pay12) ⟨n, ht⟩
    dsimp only at s
    rw [s, trip_eq]
    have tk := ld_tile hk ⟨n, hJ⟩ o1 (k0_off1_inb i ⟨n, ht⟩)
    have tv := ld_tile hv ⟨n, hJ⟩ o1 (k0_off1_inb i ⟨n, ht⟩)
    have ty := ld_row hy h ⟨n, hJ⟩ o2 (k0_off2_inb i ⟨n, ht⟩)
    exact tile_step hq hc tk ty tv hlt _ _ _ r e

end

end Cert.FwdIdeal.Final

end
-- ==== Proof.FwdBlk.lean ====
/- The forward kernel's blocks, and what a grid point makes of them. -/
module

public import proofs.«01_k».proof.Proof.FwdLoop

@[expose] public section

set_option maxRecDepth 16384

noncomputable section

open Idealize.ShloMosaic Idealize.ShloMosaic.TcCoe Idealize.SL.Sem
open Idealize.ShloMosaic.Pipeline (Dat)

namespace Cert.FwdIdeal.Final

open Cert.FwdIdeal Cert.FwdIdeal.Gen Cert.Attn

/-- The head of a grid point. -/
def th (t : Fin cfg0.N) : Fin 8 := ⟨t.val / 8, by have : t.val < 64 := lt_of_lt_of_eq t.isLt (by decide); omega⟩

/-- The tile of a grid point. -/
def ti (t : Fin cfg0.N) : Fin 8 := ⟨t.val % 8, by omega⟩

theorem coords : ∀ t : Fin cfg0.N, (grid0.coords t 0).val = (th t).val ∧ (grid0.coords t 1).val = (ti t).val := (by decide +kernel : ∀ t : Fin grid0.N, (grid0.coords t 0).val = t.val / 8 ∧ (grid0.coords t 1).val = t.val % 8)

theorem idx : ∀ t : Fin cfg0.N, win0_0.index t = ![t.val % 8, t.val / 8] ∧ win0_1.index t = ![0, t.val / 8] ∧ win0_2.index t = ![0, t.val / 8]
    ∧ win0_3.index t = ![t.val % 8, 0] ∧ win0_4.index t = ![0, 0, 0] ∧ win0_5.index t = ![t.val % 8, t.val / 8]
    ∧ win0_6.index t = ![t.val % 8, t.val / 8] ∧ win0_7.index t = ![t.val / 8, t.val % 8, 0] :=
  (by decide +kernel : ∀ t : Fin grid0.N, _)

theorem hd_col (h : Fin 8) (l : Fin 128) : hd (col h l) = h := Fin.ext (by simp only [hd, col]; omega)

theorem emb3 (t : Fin cfg0.N) (X : Vec Ideal S4096x128 .f32) (r : Fin 512) (l : Fin 128) : X ((win0_3.blk t).view.emb (ix2 r l)) = X (ix2 (pos (ti t) r) l) := by
  blk_ext [idx t, pos, col, ti, th]

theorem rd3 (c : Dev nD) (t : Fin cfg0.N) (W : (b : Ref sig .tc) → Buf (Elt Ideal) ((c.tc : Thread nD τ).loc b)) (r : Fin 512) (l : Fin 128) :
    (((cfg0.win 3).blk t).view.read (Elt Ideal) (W (Pipeline.arrRef spec0 3)) : Vec Ideal S512x128 .f32) (ix2 r l) = W main_v0 (ix2 (pos (ti t) r) l) := by
  blk_simp
  exact emb3 t _ r l

theorem emb4 (t : Fin cfg0.N) (X : Vec Ideal S64x1x512 .f32) (b : Fin 64) (l : Fin 512) : X ((win0_4.blk t).view.emb (ix3 b 0 l)) = X (ix3 b 0 l) := by
  blk_ext [idx t, pos, col, ti, th]

theorem rd4 (c : Dev nD) (t : Fin cfg0.N) (W : (b : Ref sig .tc) → Buf (Elt Ideal) ((c.tc : Thread nD τ).loc b)) (b : Fin 64) (l : Fin 512) :
    (((cfg0.win 4).blk t).view.read (Elt Ideal) (W (Pipeline.arrRef spec0 4)) : Vec Ideal S64x1x512 .f32) (ix3 b 0 l) = W main_v3 (ix3 b 0 l) := by
  blk_simp
  exact emb4 t _ b l

theorem emb5 (t : Fin cfg0.N) (X : Vec Ideal S4096x1024 .bf16) (r : Fin 512) (l : Fin 128) : X ((win0_5.blk t).view.emb (ix2 r l)) = X (ix2 (pos (ti t) r) (col (th t) l)) := by
  blk_ext [idx t, pos, col, ti, th]

theorem emb6 (t : Fin cfg0.N) (X : Vec Ideal S4096x1024 .f32) (r : Fin 512) (l : Fin 128) : X ((win0_6.blk t).view.emb (ix2 r l)) = X (ix2 (pos (ti t) r) (col (th t) l)) := by
  blk_ext [idx t, pos, col, ti, th]

theorem emb7 (t : Fin cfg0.N) (X : Vec Ideal S8x4096x128 .f32) (r : Fin 512) (l : Fin 128) : X ((win0_7.blk t).view.emb (ix3 0 r l)) = X (ix3 (th t) (pos (ti t) r) l) := by
  blk_ext [idx t, pos, col, ti, th]

section

variable (m : (ℓ : Loc nD τ sig) → Buf (Elt Ideal) ℓ) (c : Dev nD) (t : Fin cfg0.N)

theorem blk0 (r : Fin 512) (l : Fin 128) : (iblk m c 0 t : Vec Ideal S512x128 .bf16) (ix2 r l) = A0 m c (ix2 (pos (ti t) r) (col (th t) l)) := by
  rw [← V_arg0]
  blk_ext [iblk, idx t, pos, col, ti, th]

theorem blk1 (r : Fin 4096) (l : Fin 128) : (iblk m c 1 t : Vec Ideal S4096x128 .bf16) (ix2 r l) = A1 m c (ix2 r (col (th t) l)) := by
  rw [← V_arg1]
  blk_ext [iblk, idx t, pos, col, ti, th]

theorem blk2 (r : Fin 4096) (l : Fin 128) : (iblk m c 2 t : Vec Ideal S4096x128 .bf16) (ix2 r l) = A2 m c (ix2 r (col (th t) l)) := by
  rw [← V_arg2]
  blk_ext [iblk, idx t, pos, col, ti, th]

theorem blk3 (r : Fin 512) (l : Fin 128) : (iblk m c 3 t : Vec Ideal S512x128 .f32) (ix2 r l) = V m c main_v0 (ix2 (pos (ti t) r) l) :=
  rd3 c t (V m c) r l

theorem blk4 (b : Fin 64) (l : Fin 512) : (iblk m c 4 t : Vec Ideal S64x1x512 .f32) (ix3 b 0 l) = V m c main_v3 (ix3 b 0 l) :=
  rd4 c t (V m c) b l

/-- What the loop carries after `n` trips at a grid point. -/
abbrev car (n : ℕ) := st_k0_t1 (F := Ideal) Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t)
  (iblk m c 0 t) (iblk m c 3 t) ((hs0_1 t).unread (iblk m c 1 t)) ((hs0_2 t).unread (iblk m c 2 t)) ((hs0_4 t).unread (iblk m c 4 t)) (k0_pay10, k0_pay11, k0_pay12) n

/-- The second loop. -/
abbrev car' (a) (n : ℕ) := st_k0_t2 (F := Ideal) Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t)
  (iblk m c 0 t) (iblk m c 3 t) ((hs0_1 t).unread (iblk m c 1 t)) ((hs0_2 t).unread (iblk m c 2 t)) ((hs0_4 t).unread (iblk m c 4 t)) a n

theorem outs1 (y) : (outsAt0 m c t).1 y = k0_pay7 (car' m c t (car m c t (k0_t1_loop (grid0.coords t)).trips) (k0_t2_loop (grid0.coords t)).trips).1 (car' m c t (car m c t (k0_t1_loop (grid0.coords t)).trips) (k0_t2_loop (grid0.coords t)).trips).2.1 (car' m c t (car m c t (k0_t1_loop (grid0.coords t)).trips) (k0_t2_loop (grid0.coords t)).trips).2.2
    (k0_pay25 (grid0.coords t) (iblk m c 0 t) (iblk m c 3 t) (View.ld (iblk m c 1 t) (Rect.unit (k0_off5 (grid0.coords t)) ![512, 128] (k0_off5_inb _))) (View.ld (iblk m c 4 t) (Rect.unit (k0_off6 (grid0.coords t)) ![1, 1, 512] (k0_off6_inb _)))) (iota .tc S512x512 32 [0] iota_S512x512_d0_w32) (iota .tc S512x512 32 [1] iota_S512x512_d1_w32) (View.ld (iblk m c 2 t) (Rect.unit (k0_off5 (grid0.coords t)) ![512, 128] (k0_off5_inb _))) y := by
  unfold outsAt0
  frame_out
  rfl

theorem outs2 (y) : (outsAt0 m c t).2.1 y = k0_pay6 (car' m c t (car m c t (k0_t1_loop (grid0.coords t)).trips) (k0_t2_loop (grid0.coords t)).trips).1 (car' m c t (car m c t (k0_t1_loop (grid0.coords t)).trips) (k0_t2_loop (grid0.coords t)).trips).2.1 (car' m c t (car m c t (k0_t1_loop (grid0.coords t)).trips) (k0_t2_loop (grid0.coords t)).trips).2.2
    (k0_pay25 (grid0.coords t) (iblk m c 0 t) (iblk m c 3 t) (View.ld (iblk m c 1 t) (Rect.unit (k0_off5 (grid0.coords t)) ![512, 128] (k0_off5_inb _))) (View.ld (iblk m c 4 t) (Rect.unit (k0_off6 (grid0.coords t)) ![1, 1, 512] (k0_off6_inb _)))) (iota .tc S512x512 32 [0] iota_S512x512_d0_w32) (iota .tc S512x512 32 [1] iota_S512x512_d1_w32) (View.ld (iblk m c 2 t) (Rect.unit (k0_off5 (grid0.coords t)) ![512, 128] (k0_off5_inb _))) y := by
  unfold outsAt0
  frame_out
  rfl

theorem outs3 (y) : (outsAt0 m c t).2.2 y = k0_pay8 (car' m c t (car m c t (k0_t1_loop (grid0.coords t)).trips) (k0_t2_loop (grid0.coords t)).trips).1 (car' m c t (car m c t (k0_t1_loop (grid0.coords t)).trips) (k0_t2_loop (grid0.coords t)).trips).2.1
    (k0_pay25 (grid0.coords t) (iblk m c 0 t) (iblk m c 3 t) (View.ld (iblk m c 1 t) (Rect.unit (k0_off5 (grid0.coords t)) ![512, 128] (k0_off5_inb _))) (View.ld (iblk m c 4 t) (Rect.unit (k0_off6 (grid0.coords t)) ![1, 1, 512] (k0_off6_inb _)))) (iota .tc S512x512 32 [0] iota_S512x512_d0_w32) (iota .tc S512x512 32 [1] iota_S512x512_d1_w32) y := by
  unfold outsAt0
  frame_out
  rfl

theorem car_end : car' m c t (car m c t (k0_t1_loop (grid0.coords t)).trips) (k0_t2_loop (grid0.coords t)).trips = car m c t (ti t).val := by
  rw [trips_zero, trips_eq, (coords t).2]
  exact st_k0_t2_zero ..

end

end Cert.FwdIdeal.Final

end
-- ==== Proof.FwdFinal.lean ====
/- What the forward kernel leaves in its three results. -/
module

public import proofs.«01_k».proof.Proof.FwdBlk

@[expose] public section

set_option maxRecDepth 16384

noncomputable section

open Idealize.ShloMosaic Idealize.ShloMosaic.TcCoe Idealize.SL.Sem
open Idealize.ShloMosaic.Pipeline (Dat)

namespace Cert.FwdIdeal.Final

open Cert.FwdIdeal Cert.FwdIdeal.Gen Cert.Attn

/-- A matrix of reals as an array. -/
def M2 (φ : FTy) (f : Fin 4096 → Fin 1024 → ℝ) : FVec Ideal S4096x1024 φ := fun y => ((f (y 0) (y 1) : ℝ) : EReal)

/-- A matrix of reals over lanes as an array. -/
def M3 (f : Fin 8 → Fin 4096 → ℝ) : Vec Ideal S8x4096x128 .f32 := fun y => ((f (y 0) (y 1) : ℝ) : EReal)

theorem ix3_one {a b : ℕ} (x : Fin 1) (r : Fin a) (l : Fin b) : ix3 x r l = ix3 0 r l := by rw [Subsingleton.elim x 0]

theorem rows_at (r x : Fin 512) : iota .tc S512x512 32 [0] iota_S512x512_d0_w32 (ix2 r x) = BitVec.ofNat 32 r.val := by
  pointwise

theorem cols_at (r x : Fin 512) : iota .tc S512x512 32 [1] iota_S512x512_d1_w32 (ix2 r x) = BitVec.ofNat 32 x.val := by
  pointwise

section

variable {m : (ℓ : Loc nD τ sig) → Buf (Elt Ideal) ℓ} {c : Dev nD} {q k v : Fin 4096 → Fin 1024 → ℝ} {w : Fin 4096 → Fin 8 → ℝ}
  (hq : IsM (A0 m c) q) (hk : IsM (A1 m c) k) (hv : IsM (A2 m c) v) (hw : IsM (A3 m c) w)

include hq hk hv hw

/-- What a grid point leaves in its three output blocks. -/
theorem point (t : Fin cfg0.N) (r : Fin 512) (l : Fin 128) :
    (outsAt0 m c t).1 (ix2 r l) = ((ou q k v w (pos (ti t) r) (col (th t) l) : ℝ) : EReal)
      ∧ (outsAt0 m c t).2.1 (ix2 r l) = ((ou q k v w (pos (ti t) r) (col (th t) l) : ℝ) : EReal)
      ∧ (outsAt0 m c t).2.2 (ix3 0 r l) = ((lg (sc q k w (th t)) (pos (ti t) r) : ℝ) : EReal) := by
  have c0 := (coords t).1
  have c1 := (coords t).2
  have bq : ∀ r l, (iblk m c 0 t : Vec Ideal S512x128 .bf16) (ix2 r l) = ((q (pos (ti t) r) (col (th t) l) : ℝ) : EReal) := fun r l => (blk0 m c t r l).trans (hq _ _)
  have bc : ∀ r, k0_pay9 (grid0.coords t) (iblk m c 3 t : Vec Ideal S512x128 .f32) (ix2 r 0) = ((w (pos (ti t) r) (th t) : ℝ) : EReal) := fun r => by
    pointwise [k0_pay9]
    simp only [blk3]
    rw [c0, Finset.sum_congr rfl fun x _ => by rw [col_at hw], pick (fun x => if h : x.val < 8 then w (pos (ti t) r) ⟨x.val, h⟩ else 0) (th t)]
    exact congrArg _ (dif_pos (th t).2)
  have bk : ∀ p l, (iblk m c 1 t : Vec Ideal S4096x128 .bf16) (ix2 p l) = ((k p (col (th t) l) : ℝ) : EReal) := fun r l => (blk1 m c t r l).trans (hk _ _)
  have bv : ∀ p l, (iblk m c 2 t : Vec Ideal S4096x128 .bf16) (ix2 p l) = ((v p (col (th t) l) : ℝ) : EReal) := fun r l => (blk2 m c t r l).trans (hv _ _)
  have by' : ∀ b x, (iblk m c 4 t : Vec Ideal S64x1x512 .f32) (ix3 b 0 x) = ((w (bp b x) (bh b) : ℝ) : EReal) := fun b x => (blk4 m c t b x).trans (row_at hw b x)
  have o5 := k0_off5_eq (grid0.coords t)
  have o6 := k0_off6_eq (grid0.coords t)
  rw [c1] at o5
  rw [c0, c1] at o6
  have tk := ld_tile bk (ti t) o5 (k0_off5_inb _)
  have tv := ld_tile bv (ti t) o5 (k0_off5_inb _)
  have ty := ld_row by' (th t) (ti t) o6 (k0_off6_inb _)
  have I := loop_inv Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) c0 c1 bq bc bk bv by' (ti t).val le_rfl r
  obtain ⟨d1, d2⟩ := diag_step (dscore_at bq bc tk ty) rows_at cols_at tv _ _ _ r I
  have e : ((∑ j, v j (col (th t) l) * pr (sc q k w (th t)) (pos (ti t) r) j : ℝ) : EReal) = ((ou q k v w (pos (ti t) r) (col (th t) l) : ℝ) : EReal) := by
    rw [ou, hd_col]
  refine ⟨?_, ?_, ?_⟩
  · rw [outs1, car_end]
    pointwise [k0_pay7]
    exact (d1 l).trans e
  · rw [outs2, car_end]
    exact (d1 l).trans e
  · rw [outs3, car_end]
    exact d2 l

/-- The first result: the attention rounded. -/
theorem res5 : IsM (a := 4096) (b := 1024) (φ := .bf16) ((dats m 0 c).arrAt 5 cfg0.N) fun i l => ou q k v w i l := by
  have e : (dats m 0 c).arrAt 5 cfg0.N = M2 .bf16 fun i l => ou q k v w i l := by
    refine (dats m 0 c).arrAt_eq_of_covers 5 _ (by decide +kernel) fun t _ y => ?_
    blk_simp [idx t]
    rw [after0_5]
    obtain ⟨r, l, rfl⟩ : ∃ (r : Fin 512) (l : Fin 128), y = ix2 r l := ⟨y 0, y 1, by idx_vars y⟩
    refine ((point hq hk hv hw t r l).1).trans ?_
    exact (emb5 t (M2 .bf16 fun i l => ou q k v w i l) r l).symm
  intro i l
  rw [e]
  rfl

/-- The second result: the attention. -/
theorem res6 : IsM (a := 4096) (b := 1024) (φ := .f32) ((dats m 0 c).arrAt 6 cfg0.N) fun i l => ou q k v w i l := by
  have e : (dats m 0 c).arrAt 6 cfg0.N = M2 .f32 fun i l => ou q k v w i l := by
    refine (dats m 0 c).arrAt_eq_of_covers 6 _ (by decide +kernel) fun t _ y => ?_
    blk_simp [idx t]
    rw [after0_6]
    obtain ⟨r, l, rfl⟩ : ∃ (r : Fin 512) (l : Fin 128), y = ix2 r l := ⟨y 0, y 1, by idx_vars y⟩
    refine ((point hq hk hv hw t r l).2.1).trans ?_
    exact (emb6 t (M2 .f32 fun i l => ou q k v w i l) r l).symm
  intro i l
  rw [e]
  rfl

/-- The third result: the logarithms of the sums of exponentials. -/
theorem res7 : IsA (a := 8) (b := 4096) (d := 128) (φ := .f32) ((dats m 0 c).arrAt 7 cfg0.N) fun h i _ => lg (sc q k w h) i := by
  have e : (dats m 0 c).arrAt 7 cfg0.N = M3 fun h i => lg (sc q k w h) i := by
    refine (dats m 0 c).arrAt_eq_of_covers 7 _ (by decide +kernel) fun t _ y => ?_
    blk_simp [idx t]
    rw [after0_7]
    obtain ⟨r, l, rfl⟩ : ∃ (r : Fin 512) (l : Fin 128), y = ix3 0 r l := ⟨y 1, y 2, by idx_vars y; exact ix3_one _ _ _⟩
    refine ((point hq hk hv hw t r l).2.2).trans ?_
    exact (emb7 t (M3 fun h i => lg (sc q k w h) i) r l).symm
  intro h i x
  rw [e]
  rfl

end

end Cert.FwdIdeal.Final

end
-- ==== Proof.FwdFinite.lean ====
/- What the forward call's precondition says: every number of every array is a real number. -/
module

public import proofs.«01_k».proof.Proof.Gen.Pre_finite_fwd
public import proofs.«01_k».proof.Proof.Consts

@[expose] public section

set_option maxRecDepth 16384

namespace Cert.Attn

open Idealize.ShloMosaic Idealize.ShloMosaic.TcCoe Idealize.SL.Sem

/-- The forward call's precondition gives reals for every array. -/
theorem finite_fwd {a0 a1 a2 : FVec Ideal ⟨2, ![4096, 1024]⟩ .bf16} {a3 : FVec Ideal ⟨2, ![4096, 8]⟩ .f32}
    (h : Cert.Pre_finite_fwd.fn (F := Ideal) a0 a1 a2 a3 = fun _ => 1#1) :
    ∃ (q k v : Fin 4096 → Fin 1024 → ℝ) (c : Fin 4096 → Fin 8 → ℝ),
      (∀ i l, a0 (ix2 i l) = ↑(q i l)) ∧ (∀ i l, a1 (ix2 i l) = ↑(k i l)) ∧ (∀ i l, a2 (ix2 i l) = ↑(v i l))
      ∧ (∀ i l, a3 (ix2 i l) = ↑(c i l)) := by
  have h0 := congrFun h (ix1 0)
  have h1 := congrFun h (ix1 1)
  have h2 := congrFun h (ix1 2)
  have h3 := congrFun h (ix1 3)
  unfold Cert.Pre_finite_fwd.fn Cert.Pre_finite_fwd.fn_part1 at h0 h1 h2 h3
  pointwise at h0
  pointwise at h1
  pointwise at h2
  pointwise at h3
  obtain ⟨q, hq⟩ := reals .bf16 a0 h0
  obtain ⟨k, hk⟩ := reals .bf16 a1 h1
  obtain ⟨v, hv⟩ := reals .bf16 a2 h2
  obtain ⟨c, hc⟩ := reals .f32 a3 h3
  exact ⟨q, k, v, c, hq, hk, hv, hc⟩

end Cert.Attn

end
-- ==== Proof.ClaimFwd.lean ====
/- The forward attention: kernel and reference agree on finite arguments. -/
module

public import proofs.«01_k».proof.Defs
public import proofs.«01_k».proof.Proof.FwdFinal
public import proofs.«01_k».proof.Proof.RunFwd
public import proofs.«01_k».proof.Proof.FwdFinite

@[expose] public section

set_option maxRecDepth 16384

noncomputable section

open Idealize.ShloMosaic Idealize.ShloMosaic.TcCoe Idealize.SL.Sem
open Idealize.ShloMosaic.Pipeline (Dat)

namespace Cert.RefFwdIdeal.Steps

open Cert.RefFwdIdeal Cert.Attn

variable {m : (ℓ : Loc nD τ sig) → Buf (Elt Ideal) ℓ} {c : Dev nD} {q k v : Fin 4096 → Fin 1024 → ℝ} {w : Fin 4096 → Fin 8 → ℝ}
  (hq : IsM (a := 4096) (b := 1024) (φ := .bf16) (m ((c.tc : Thread nD τ).loc main_arg0)) q) (hk : IsM (a := 4096) (b := 1024) (φ := .bf16) (m ((c.tc : Thread nD τ).loc main_arg1)) k)
  (hv : IsM (a := 4096) (b := 1024) (φ := .bf16) (m ((c.tc : Thread nD τ).loc main_arg2)) v) (hw : IsM (a := 4096) (b := 8) (φ := .f32) (m ((c.tc : Thread nD τ).loc main_arg3)) w)

include hq hk hw

/-- The reference's logarithms of the sums of exponentials in reals. -/
theorem le_is : IsA (le m c) fun h i _ => lg (sc q k w h) i := by
  have hx := masked_is (heads_is hq (by decide)) (heads_is hk (by decide)) hw
  exact lanes_is (lse_is (top_is hx) (sums_is (expo_is hx (top_is hx))))

include hv

/-- The reference's attention in reals. -/
theorem o_is : IsM (o m c) fun i l => ou q k v w i l := by
  have hx := masked_is (heads_is hq (by decide)) (heads_is hk (by decide)) hw
  have he := expo_is hx (top'_is (top_is hx))
  exact attend_is (heads_is hv (by decide)) (quot_is he (sums_is he))

/-- The same rounded: the reals are unchanged. -/
theorem ob_is : IsM (φ := .bf16) (ob m c) fun i l => ou q k v w i l := fun i l => o_is hq hk hv hw i l

end Cert.RefFwdIdeal.Steps

namespace Cert.ProofFwd

open Cert.Attn

/-- Arrays with the same reals are equal. -/
theorem ext2 {φ : FTy} {x y : FVec Ideal ⟨2, ![4096, 1024]⟩ φ} {f : Fin 4096 → Fin 1024 → ℝ} (hx : IsM x f) (hy : IsM y f) : x = y := by
  funext j
  idx_vars j
  exact (hx _ _).trans (hy _ _).symm

/-- Arrays over lanes with the same reals are equal. -/
theorem ext3 {φ : FTy} {x y : FVec Ideal ⟨3, ![8, 4096, 128]⟩ φ} {f : Fin 8 → Fin 4096 → Fin 128 → ℝ} (hx : IsA x f) (hy : IsA y f) : x = y := by
  funext j
  idx_vars j
  exact (hx _ _ _).trans (hy _ _ _).symm

/-- The forward kernel and the reference, both idealized, end with equal results on finite arguments. -/
theorem algebraicFwd : Cert.algebraic_FwdIdeal_RefFwdIdeal_pre_finite_fwd (hFwdIdeal := Cert.FwdIdeal.Gen.facts) (hRefFwdIdeal := Cert.RefFwdIdeal.Gen.facts) (hPre_finite_fwd := Cert.Pre_finite_fwd.Gen.facts) := by
  intro m ρ m' ρ' hp ha
  refine ⟨_, _, _, Cert.FwdIdeal.Value.run_blocks m ρ, ?_⟩
  refine (θ_run Cert.RefFwdIdeal.defs _ _).mono (fun r h c => ?_) (Cert.RefFwdIdeal.Steps.run m' ρ')
  obtain ⟨q, k, v, w, hq, hk, hv, hw⟩ := Cert.Attn.finite_fwd (hp c)
  obtain ⟨a0, a1, a2, a3⟩ := ha c
  obtain ⟨r1, r2, r3, hr⟩ := h c
  have hq' : IsM (a := 4096) (b := 1024) (φ := .bf16) (m' ((c.tc : Thread Cert.RefFwdIdeal.nD Cert.RefFwdIdeal.τ).loc Cert.RefFwdIdeal.main_arg0)) q := fun i l => (congrFun a0 _).trans (hq i l)
  have hk' : IsM (a := 4096) (b := 1024) (φ := .bf16) (m' ((c.tc : Thread Cert.RefFwdIdeal.nD Cert.RefFwdIdeal.τ).loc Cert.RefFwdIdeal.main_arg1)) k := fun i l => (congrFun a1 _).trans (hk i l)
  have hv' : IsM (a := 4096) (b := 1024) (φ := .bf16) (m' ((c.tc : Thread Cert.RefFwdIdeal.nD Cert.RefFwdIdeal.τ).loc Cert.RefFwdIdeal.main_arg2)) v := fun i l => (congrFun a2 _).trans (hv i l)
  have hw' : IsM (a := 4096) (b := 8) (φ := .f32) (m' ((c.tc : Thread Cert.RefFwdIdeal.nD Cert.RefFwdIdeal.τ).loc Cert.RefFwdIdeal.main_arg3)) w := fun i l => (congrFun a3 _).trans (hw i l)
  refine ⟨r1.trans ?_, r2.trans ?_, r3.trans ?_, hr⟩
  · exact ext2 (Cert.RefFwdIdeal.Steps.ob_is hq' hk' hv' hw') (Cert.FwdIdeal.Final.res5 hq hk hv hw)
  · exact ext2 (Cert.RefFwdIdeal.Steps.o_is hq' hk' hv' hw') (Cert.FwdIdeal.Final.res6 hq hk hv hw)
  · exact ext3 (Cert.RefFwdIdeal.Steps.le_is hq' hk' hw') (Cert.FwdIdeal.Final.res7 hq hk hv hw)

end Cert.ProofFwd

end
-- ==== Proof.Mm.lean ====
/- Matrix products summed in tiles. -/
module

public import Idealize.ShloMosaic.Lib.Pointwise
public import Idealize.ShloMosaic.PureOps.Ideal

@[expose] public section

set_option maxRecDepth 16384

noncomputable section

open Idealize.ShloMosaic Idealize.ShloMosaic.TcCoe Idealize.SL.Sem
open Idealize.ShloMosaic.Pipeline (Dat)

namespace Cert.Mm

/-! ## Products -/

section

variable {a b K : ℕ} (φ : FTy)

/-- The product of one matrix with another transposed. -/
def nt (X : FVec Ideal ⟨2, ![a, K]⟩ .bf16) (W : FVec Ideal ⟨2, ![b, K]⟩ .bf16) : FVec Ideal ⟨2, ![a, b]⟩ φ :=
  fun y => ∑ k, X (ix2 (y 0) k) * W (ix2 (y 1) k)

/-- The product of one matrix transposed with another. -/
def tn (X : FVec Ideal ⟨2, ![K, a]⟩ .bf16) (W : FVec Ideal ⟨2, ![K, b]⟩ .bf16) : FVec Ideal ⟨2, ![a, b]⟩ φ :=
  fun y => ∑ k, X (ix2 k (y 0)) * W (ix2 k (y 1))

/-- The product of two matrices. -/
def nn (X : FVec Ideal ⟨2, ![a, K]⟩ .bf16) (W : FVec Ideal ⟨2, ![K, b]⟩ .bf16) : FVec Ideal ⟨2, ![a, b]⟩ φ :=
  fun y => ∑ k, X (ix2 (y 0) k) * W (ix2 k (y 1))

end

/-! ## Sums cut into tiles -/

/-- The sum of the first `n` terms. -/
def part {K : ℕ} (f : Fin K → EReal) (n : ℕ) : EReal := ∑ k ∈ Finset.range n, if h : k < K then f ⟨k, h⟩ else 0

/-- No terms sum to zero. -/
theorem part_zero {K : ℕ} (f : Fin K → EReal) : part f 0 = 0 := Finset.sum_range_zero _

/-- A tile of terms more. -/
theorem part_step {K d : ℕ} (f : Fin K → EReal) (n : ℕ) (h : ∀ x : Fin d, n + x.val < K) :
    part f n + ∑ x : Fin d, f ⟨n + x.val, h x⟩ = part f (n + d) := by
  unfold part
  rw [Finset.sum_range_add, Finset.sum_range fun x => if h : n + x < K then f ⟨n + x, h⟩ else 0]
  exact congrArg _ (Finset.sum_congr rfl fun x _ => by rw [dif_pos (h x)])

/-- All the terms. -/
theorem part_all {K : ℕ} (f : Fin K → EReal) : part f K = ∑ k, f k := by
  unfold part
  rw [Finset.sum_range]
  exact Finset.sum_congr rfl fun x _ => by rw [dif_pos x.2]

/-- Sums carried over a grid whose last axis cuts the terms into `q` tiles of `d`: a point with tile 0 starts the sum, any
    other adds its tile to what the point before left; so after the last tile the sum is whole. -/
theorem tiled {N q d K : ℕ} (S : Fin N → EReal) (f : Fin N → Fin K → EReal) (hd : ∀ (t : Fin N) (x : Fin d), d * (t.val % q) + x.val < K)
    (first : ∀ t : Fin N, t.val % q = 0 → S t = 0 + ∑ x : Fin d, f t ⟨d * (t.val % q) + x.val, hd t x⟩)
    (next : ∀ t : Fin N, ¬ t.val % q = 0 → S t = S ⟨t.val - 1, by omega⟩ + ∑ x : Fin d, f t ⟨d * (t.val % q) + x.val, hd t x⟩)
    (same : ∀ t : Fin N, ¬ t.val % q = 0 → f ⟨t.val - 1, by omega⟩ = f t) (n : ℕ) :
    ∀ t : Fin N, t.val = n → S t = part (f t) (d * (t.val % q) + d) := by
  induction n with
  | zero =>
    intro t h
    have e : t.val % q = 0 := by rw [h]; exact Nat.zero_mod _
    have z : d * (t.val % q) = 0 := by rw [e]; exact Nat.mul_zero _
    rw [first t e, ← part_step (f t) _ (hd t)]
    congr 1
    rw [z, part_zero]
  | succ n ih =>
    intro t h
    by_cases e : t.val % q = 0
    · have z : d * (t.val % q) = 0 := by rw [e]; exact Nat.mul_zero _
      rw [first t e, ← part_step (f t) _ (hd t)]
      congr 1
      rw [z, part_zero]
    · rw [next t e, ← part_step (f t) _ (hd t), ih ⟨t.val - 1, lt_of_le_of_lt (Nat.sub_le _ _) t.isLt⟩ (show t.val - 1 = n by omega), same t e]
      have e' : (t.val - 1) % q + 1 = t.val % q := by
        rcases q.eq_zero_or_pos with rfl | hq
        · simp only [Nat.mod_zero] at e ⊢; omega
        have h1 := Nat.div_add_mod t.val q
        have h2 : t.val - 1 = q * (t.val / q) + (t.val % q - 1) := by omega
        rw [h2, Nat.mul_add_mod, Nat.mod_eq_of_lt (lt_of_le_of_lt (Nat.sub_le _ _) (Nat.mod_lt _ hq))]
        omega
      have e2 : d * ((t.val - 1) % q) + d = d * (t.val % q) := by rw [← e', Nat.mul_succ]
      rw [e2]

/-- The same at a last tile. -/
theorem tiled_last {N q d K : ℕ} (S : Fin N → EReal) (f : Fin N → Fin K → EReal) (hd : ∀ (t : Fin N) (x : Fin d), d * (t.val % q) + x.val < K)
    (first : ∀ t : Fin N, t.val % q = 0 → S t = 0 + ∑ x : Fin d, f t ⟨d * (t.val % q) + x.val, hd t x⟩)
    (next : ∀ t : Fin N, ¬ t.val % q = 0 → S t = S ⟨t.val - 1, by omega⟩ + ∑ x : Fin d, f t ⟨d * (t.val % q) + x.val, hd t x⟩)
    (same : ∀ t : Fin N, ¬ t.val % q = 0 → f ⟨t.val - 1, by omega⟩ = f t) (t : Fin N) (h : d * (t.val % q) + d = K) : S t = ∑ k, f t k := by
  rw [tiled S f hd first next same t.val t rfl, h, part_all]

end Cert.Mm

end
-- ==== Proof.DwOutVal.lean ====
/- The product for the output projection's weight gradient. -/
module

public import proofs.«01_k».proof.Proof.Gen.DwOutIdeal.Value
public import proofs.«01_k».proof.Proof.Mm
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.DwOutIdeal.Final

open Cert.DwOutIdeal Cert.DwOutIdeal.Gen Cert.Mm

/-! ## What a grid point computes -/

theorem zero_at (r : Fin 1024) (l : Fin 1024) : k0_pay1 (F := Ideal) (ix2 r l) = 0 := by
  pointwise [k0_pay1]

theorem step_at (v : Vec Ideal S1024x1024 .f32) (x : Vec Ideal S512x1024 .bf16) (w : Vec Ideal S512x1024 .bf16) (r : Fin 1024) (l : Fin 1024) :
    k0_pay2 v x w (ix2 r l) = v (ix2 r l) + ∑ k, x (ix2 k r) * w (ix2 k l) := by
  pointwise [k0_pay2]

/-! ## The blocks of a grid point -/

theorem idx : ∀ t : Fin cfg0.N, win0_0.index t = ![t.val % 8, t.val / 16] ∧ win0_1.index t = ![t.val % 8, t.val / 8 % 2] ∧ win0_2.index t = ![t.val / 16, t.val / 8 % 2] :=
  (by decide +kernel : ∀ t : Fin grid0.N, _)

theorem lt (t : Fin cfg0.N) : t.val < 32 := lt_of_lt_of_eq t.isLt (by decide)

def row (t : Fin cfg0.N) (r : Fin 1024) : Fin 2048 := ⟨t.val / 16 * 1024 + r.val, by have := lt t; omega⟩
def col (t : Fin cfg0.N) (l : Fin 1024) : Fin 2048 := ⟨t.val / 8 % 2 * 1024 + l.val, by omega⟩
def dep (t : Fin cfg0.N) (k : Fin 512) : Fin 4096 := ⟨512 * (t.val % 8) + k.val, by omega⟩

theorem emb0 (t : Fin cfg0.N) (X : Vec Ideal S4096x2048 .bf16) (r : Fin 1024) (k : Fin 512) : X ((win0_0.blk t).view.emb (ix2 k r)) = X (ix2 (dep t k) (row t r)) := by
  blk_ext [idx t, row, col, dep]

theorem emb1 (t : Fin cfg0.N) (X : Vec Ideal S4096x2048 .bf16) (l : Fin 1024) (k : Fin 512) : X ((win0_1.blk t).view.emb (ix2 k l)) = X (ix2 (dep t k) (col t l)) := by
  blk_ext [idx t, row, col, dep]

theorem emb2 (t : Fin cfg0.N) (X : Vec Ideal S2048x2048 .bf16) (r : Fin 1024) (l : Fin 1024) : X ((win0_2.blk t).view.emb (ix2 r l)) = X (ix2 (row t r) (col t l)) := by
  blk_ext [idx t, row, col, dep]

theorem rd0 (c : Dev nD) (t : Fin cfg0.N) (W : (b : Ref sig .tc) → Buf (Elt Ideal) ((c.tc : Thread nD τ).loc b)) (r : Fin 1024) (k : Fin 512) :
    (((cfg0.win 0).blk t).view.read (Elt Ideal) (W (Pipeline.arrRef spec0 0)) : Vec Ideal S512x1024 .bf16) (ix2 k r) = (W (Pipeline.arrRef spec0 0) : FVec Ideal S4096x2048 .bf16) (ix2 (dep t k) (row t r)) := by
  blk_simp
  exact emb0 t _ r k

theorem rd1 (c : Dev nD) (t : Fin cfg0.N) (W : (b : Ref sig .tc) → Buf (Elt Ideal) ((c.tc : Thread nD τ).loc b)) (l : Fin 1024) (k : Fin 512) :
    (((cfg0.win 1).blk t).view.read (Elt Ideal) (W (Pipeline.arrRef spec0 1)) : Vec Ideal S512x1024 .bf16) (ix2 k l) = (W (Pipeline.arrRef spec0 1) : FVec Ideal S4096x2048 .bf16) (ix2 (dep t k) (col t l)) := by
  blk_simp
  exact emb1 t _ l k

section

variable (m : (ℓ : Loc nD τ sig) → Buf (Elt Ideal) ℓ) (c : Dev nD)

/-- The product's first array. -/
abbrev X : FVec Ideal S4096x2048 .bf16 := V m c (Pipeline.arrRef spec0 0)

/-- The product's second array. -/
abbrev W : FVec Ideal S4096x2048 .bf16 := V m c (Pipeline.arrRef spec0 1)

/-- A grid point's block of the first array. -/
abbrev B0 (t : Fin cfg0.N) : FVec Ideal S512x1024 .bf16 := iblk m c 0 t

/-- A grid point's block of the second array. -/
abbrev B1 (t : Fin cfg0.N) : FVec Ideal S512x1024 .bf16 := iblk m c 1 t

theorem blk0 (t : Fin cfg0.N) (r : Fin 1024) (k : Fin 512) : B0 m c t (ix2 k r) = X m c (ix2 (dep t k) (row t r)) := rd0 c t (V m c) r k

theorem blk1 (t : Fin cfg0.N) (l : Fin 1024) (k : Fin 512) : B1 m c t (ix2 k l) = W m c (ix2 (dep t k) (col t l)) := rd1 c t (V m c) l k

/-! ## The sums a grid point carries on -/

theorem first (t : Fin cfg0.N) (h0 : t.val % 8 = 0) (y : S1024x1024.Idx) :
    (outsAt0 m c t.val t.isLt).2 y = k0_pay2 (k0_pay1 (F := Ideal)) (iblk m c 0 t) (iblk m c 1 t) y := by
  rw [outsAt0_A m c t h0 (by omega)]
  dsimp only
  unfold sout0_A_0
  frame_out

theorem next (t : Fin cfg0.N) (h0 : ¬ t.val % 8 = 0) (y : S1024x1024.Idx) :
    (outsAt0 m c t.val t.isLt).2 y = k0_pay2 (outsAt0 m c (t.val - 1) (Nat.lt_of_le_of_lt (Nat.sub_le _ _) t.isLt)).2 (iblk m c 0 t) (iblk m c 1 t) y := by
  by_cases h1 : t.val % 8 = 7
  · rw [outsAt0_C m c t h0 h1]
    dsimp only
    unfold sout0_C_0
    frame_out
    erw [Memref.IsWhole.read_unread]
  · rw [outsAt0_B m c t h0 h1]
    dsimp only
    unfold sout0_B_0
    frame_out
    erw [Memref.IsWhole.read_unread]

theorem last (t : Fin cfg0.N) (h1 : t.val % 8 = 7) (y : S1024x1024.Idx) :
    (outsAt0 m c t.val t.isLt).1 y = k0_pay3 (outsAt0 m c t.val t.isLt).2 y := by
  rw [outsAt0_C m c t (by omega) h1]
  dsimp only
  unfold out0_C_2 sout0_C_0
  frame_out

/-- After the last tile a grid point's sums are the product's entries. -/
theorem whole (t : Fin cfg0.N) (h1 : t.val % 8 = 7) (r : Fin 1024) (l : Fin 1024) :
    (outsAt0 m c t.val t.isLt).2 (ix2 r l) = tn .f32 (X m c) (W m c) (ix2 (row t r) (col t l)) := by
  have tile : ∀ s : Fin cfg0.N, ∑ k, B0 m c s (ix2 k r) * B1 m c s (ix2 k l)
      = ∑ k : Fin 512, X m c (ix2 (dep s k) (row s r)) * W m c (ix2 (dep s k) (col s l)) := fun s =>
    Finset.sum_congr rfl fun k _ => by rw [blk0, blk1]
  refine tiled_last (q := 8) (d := 512) (fun s : Fin cfg0.N => (outsAt0 m c s.val s.isLt).2 (ix2 r l))
    (fun s k => X m c (ix2 k (row s r)) * W m c (ix2 k (col s l))) (fun s x => by omega) (fun s h => ?_) (fun s h => ?_) (fun s h => ?_) t (by omega)
  · refine (first m c s h _).trans ((step_at _ _ _ r l).trans ?_)
    rw [zero_at, tile s]
    rfl
  · refine (next m c s h _).trans ((step_at _ _ _ r l).trans ?_)
    rw [tile s]
    rfl
  · have e1 : row ⟨s.val - 1, by omega⟩ r = row s r := Fin.ext (by simp only [row]; omega)
    have e2 : col ⟨s.val - 1, by omega⟩ l = col s l := Fin.ext (by simp only [col]; omega)
    simp only [e1, e2]

/-- The call leaves the product. -/
theorem res : (dats m 0 c).arrAt 2 cfg0.N = tn .bf16 (X m c) (W m c) := by
  refine (dats m 0 c).arrAt_eq_of_covers 2 _ (by decide +kernel) fun t ht y => ?_
  have h1 := (flush0_2 t).mp ht
  blk_simp [idx t]
  rw [after0_2]
  obtain ⟨r, l, rfl⟩ : ∃ (r : Fin 1024) (l : Fin 1024), y = ix2 r l := ⟨y 0, y 1, by idx_vars y⟩
  refine (last m c t h1 _).trans ?_
  refine Eq.trans ?_ (emb2 t (tn .bf16 (X m c) (W m c)) r l).symm
  exact whole m c t h1 r l

end

end Cert.DwOutIdeal.Final

end
-- ==== Proof.DmergedVal.lean ====
/- The product for the merged branches' gradient. -/
module

public import proofs.«01_k».proof.Proof.Gen.DmergedIdeal.Value
public import proofs.«01_k».proof.Proof.Mm
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.DmergedIdeal.Final

open Cert.DmergedIdeal Cert.DmergedIdeal.Gen Cert.Mm

/-! ## What a grid point computes -/

theorem zero_at (r : Fin 1024) (l : Fin 1024) : k0_pay1 (F := Ideal) (ix2 r l) = 0 := by
  pointwise [k0_pay1]

theorem step_at (v : Vec Ideal S1024x1024 .f32) (x : Vec Ideal S1024x512 .bf16) (w : Vec Ideal S1024x512 .bf16) (r : Fin 1024) (l : Fin 1024) :
    k0_pay2 v x w (ix2 r l) = v (ix2 r l) + ∑ k, x (ix2 r k) * w (ix2 l k) := by
  pointwise [k0_pay2]

/-! ## The blocks of a grid point -/

theorem idx : ∀ t : Fin cfg0.N, win0_0.index t = ![t.val / 8, t.val % 4] ∧ win0_1.index t = ![t.val / 4 % 2, t.val % 4] ∧ win0_2.index t = ![t.val / 8, t.val / 4 % 2] :=
  (by decide +kernel : ∀ t : Fin grid0.N, _)

theorem lt (t : Fin cfg0.N) : t.val < 32 := lt_of_lt_of_eq t.isLt (by decide)

def row (t : Fin cfg0.N) (r : Fin 1024) : Fin 4096 := ⟨t.val / 8 * 1024 + r.val, by have := lt t; omega⟩
def col (t : Fin cfg0.N) (l : Fin 1024) : Fin 2048 := ⟨t.val / 4 % 2 * 1024 + l.val, by omega⟩
def dep (t : Fin cfg0.N) (k : Fin 512) : Fin 2048 := ⟨512 * (t.val % 4) + k.val, by omega⟩

theorem emb0 (t : Fin cfg0.N) (X : Vec Ideal S4096x2048 .bf16) (r : Fin 1024) (k : Fin 512) : X ((win0_0.blk t).view.emb (ix2 r k)) = X (ix2 (row t r) (dep t k)) := by
  blk_ext [idx t, row, col, dep]

theorem emb1 (t : Fin cfg0.N) (X : Vec Ideal S2048x2048 .bf16) (l : Fin 1024) (k : Fin 512) : X ((win0_1.blk t).view.emb (ix2 l k)) = X (ix2 (col t l) (dep t k)) := by
  blk_ext [idx t, row, col, dep]

theorem emb2 (t : Fin cfg0.N) (X : Vec Ideal S4096x2048 .f32) (r : Fin 1024) (l : Fin 1024) : X ((win0_2.blk t).view.emb (ix2 r l)) = X (ix2 (row t r) (col t l)) := by
  blk_ext [idx t, row, col, dep]

theorem rd0 (c : Dev nD) (t : Fin cfg0.N) (W : (b : Ref sig .tc) → Buf (Elt Ideal) ((c.tc : Thread nD τ).loc b)) (r : Fin 1024) (k : Fin 512) :
    (((cfg0.win 0).blk t).view.read (Elt Ideal) (W (Pipeline.arrRef spec0 0)) : Vec Ideal S1024x512 .bf16) (ix2 r k) = (W (Pipeline.arrRef spec0 0) : FVec Ideal S4096x2048 .bf16) (ix2 (row t r) (dep t k)) := by
  blk_simp
  exact emb0 t _ r k

theorem rd1 (c : Dev nD) (t : Fin cfg0.N) (W : (b : Ref sig .tc) → Buf (Elt Ideal) ((c.tc : Thread nD τ).loc b)) (l : Fin 1024) (k : Fin 512) :
    (((cfg0.win 1).blk t).view.read (Elt Ideal) (W (Pipeline.arrRef spec0 1)) : Vec Ideal S1024x512 .bf16) (ix2 l k) = (W (Pipeline.arrRef spec0 1) : FVec Ideal S2048x2048 .bf16) (ix2 (col t l) (dep t k)) := by
  blk_simp
  exact emb1 t _ l k

section

variable (m : (ℓ : Loc nD τ sig) → Buf (Elt Ideal) ℓ) (c : Dev nD)

/-- The product's first array. -/
abbrev X : FVec Ideal S4096x2048 .bf16 := V m c (Pipeline.arrRef spec0 0)

/-- The product's second array. -/
abbrev W : FVec Ideal S2048x2048 .bf16 := V m c (Pipeline.arrRef spec0 1)

/-- A grid point's block of the first array. -/
abbrev B0 (t : Fin cfg0.N) : FVec Ideal S1024x512 .bf16 := iblk m c 0 t

/-- A grid point's block of the second array. -/
abbrev B1 (t : Fin cfg0.N) : FVec Ideal S1024x512 .bf16 := iblk m c 1 t

theorem blk0 (t : Fin cfg0.N) (r : Fin 1024) (k : Fin 512) : B0 m c t (ix2 r k) = X m c (ix2 (row t r) (dep t k)) := rd0 c t (V m c) r k

theorem blk1 (t : Fin cfg0.N) (l : Fin 1024) (k : Fin 512) : B1 m c t (ix2 l k) = W m c (ix2 (col t l) (dep t k)) := rd1 c t (V m c) l k

/-! ## The sums a grid point carries on -/

theorem first (t : Fin cfg0.N) (h0 : t.val % 4 = 0) (y : S1024x1024.Idx) :
    (outsAt0 m c t.val t.isLt).2 y = k0_pay2 (k0_pay1 (F := Ideal)) (iblk m c 0 t) (iblk m c 1 t) y := by
  rw [outsAt0_A m c t h0 (by omega)]
  dsimp only
  unfold sout0_A_0
  frame_out

theorem next (t : Fin cfg0.N) (h0 : ¬ t.val % 4 = 0) (y : S1024x1024.Idx) :
    (outsAt0 m c t.val t.isLt).2 y = k0_pay2 (outsAt0 m c (t.val - 1) (Nat.lt_of_le_of_lt (Nat.sub_le _ _) t.isLt)).2 (iblk m c 0 t) (iblk m c 1 t) y := by
  by_cases h1 : t.val % 4 = 3
  · rw [outsAt0_C m c t h0 h1]
    dsimp only
    unfold sout0_C_0
    frame_out
    erw [Memref.IsWhole.read_unread]
  · rw [outsAt0_B m c t h0 h1]
    dsimp only
    unfold sout0_B_0
    frame_out
    erw [Memref.IsWhole.read_unread]

theorem last (t : Fin cfg0.N) (h1 : t.val % 4 = 3) (y : S1024x1024.Idx) :
    (outsAt0 m c t.val t.isLt).1 y = (outsAt0 m c t.val t.isLt).2 y := by
  rw [outsAt0_C m c t (by omega) h1]
  dsimp only
  unfold out0_C_2 sout0_C_0
  frame_out

/-- After the last tile a grid point's sums are the product's entries. -/
theorem whole (t : Fin cfg0.N) (h1 : t.val % 4 = 3) (r : Fin 1024) (l : Fin 1024) :
    (outsAt0 m c t.val t.isLt).2 (ix2 r l) = nt .f32 (X m c) (W m c) (ix2 (row t r) (col t l)) := by
  have tile : ∀ s : Fin cfg0.N, ∑ k, B0 m c s (ix2 r k) * B1 m c s (ix2 l k)
      = ∑ k : Fin 512, X m c (ix2 (row s r) (dep s k)) * W m c (ix2 (col s l) (dep s k)) := fun s =>
    Finset.sum_congr rfl fun k _ => by rw [blk0, blk1]
  refine tiled_last (q := 4) (d := 512) (fun s : Fin cfg0.N => (outsAt0 m c s.val s.isLt).2 (ix2 r l))
    (fun s k => X m c (ix2 (row s r) k) * W m c (ix2 (col s l) k)) (fun s x => by omega) (fun s h => ?_) (fun s h => ?_) (fun s h => ?_) t (by omega)
  · refine (first m c s h _).trans ((step_at _ _ _ r l).trans ?_)
    rw [zero_at, tile s]
    rfl
  · refine (next m c s h _).trans ((step_at _ _ _ r l).trans ?_)
    rw [tile s]
    rfl
  · have e1 : row ⟨s.val - 1, by omega⟩ r = row s r := Fin.ext (by simp only [row]; omega)
    have e2 : col ⟨s.val - 1, by omega⟩ l = col s l := Fin.ext (by simp only [col]; omega)
    simp only [e1, e2]

/-- The call leaves the product. -/
theorem res : (dats m 0 c).arrAt 2 cfg0.N = nt .f32 (X m c) (W m c) := by
  refine (dats m 0 c).arrAt_eq_of_covers 2 _ (by decide +kernel) fun t ht y => ?_
  have h1 := (flush0_2 t).mp ht
  blk_simp [idx t]
  rw [after0_2]
  obtain ⟨r, l, rfl⟩ : ∃ (r : Fin 1024) (l : Fin 1024), y = ix2 r l := ⟨y 0, y 1, by idx_vars y⟩
  refine (last m c t h1 _).trans ?_
  refine Eq.trans ?_ (emb2 t (nt .f32 (X m c) (W m c)) r l).symm
  exact whole m c t h1 r l

end

end Cert.DmergedIdeal.Final

end
-- ==== Proof.DwProjVal.lean ====
/- The product for a branch projection's weight gradient. -/
module

public import proofs.«01_k».proof.Proof.Gen.DwProjIdeal.Value
public import proofs.«01_k».proof.Proof.Mm
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.DwProjIdeal.Final

open Cert.DwProjIdeal Cert.DwProjIdeal.Gen Cert.Mm

/-! ## What a grid point computes -/

theorem zero_at (r : Fin 1024) (l : Fin 1024) : k0_pay1 (F := Ideal) (ix2 r l) = 0 := by
  pointwise [k0_pay1]

theorem step_at (v : Vec Ideal S1024x1024 .f32) (x : Vec Ideal S512x1024 .bf16) (w : Vec Ideal S512x1024 .bf16) (r : Fin 1024) (l : Fin 1024) :
    k0_pay2 v x w (ix2 r l) = v (ix2 r l) + ∑ k, x (ix2 k r) * w (ix2 k l) := by
  pointwise [k0_pay2]

/-! ## The blocks of a grid point -/

theorem idx : ∀ t : Fin cfg0.N, win0_0.index t = ![t.val % 8, t.val / 16] ∧ win0_1.index t = ![t.val % 8, t.val / 8 % 2] ∧ win0_2.index t = ![t.val / 16, t.val / 8 % 2] :=
  (by decide +kernel : ∀ t : Fin grid0.N, _)

theorem lt (t : Fin cfg0.N) : t.val < 16 := lt_of_lt_of_eq t.isLt (by decide)

def row (t : Fin cfg0.N) (r : Fin 1024) : Fin 1024 := ⟨t.val / 16 * 1024 + r.val, by have := lt t; omega⟩
def col (t : Fin cfg0.N) (l : Fin 1024) : Fin 2048 := ⟨t.val / 8 % 2 * 1024 + l.val, by omega⟩
def dep (t : Fin cfg0.N) (k : Fin 512) : Fin 4096 := ⟨512 * (t.val % 8) + k.val, by omega⟩

theorem emb0 (t : Fin cfg0.N) (X : Vec Ideal S4096x1024 .bf16) (r : Fin 1024) (k : Fin 512) : X ((win0_0.blk t).view.emb (ix2 k r)) = X (ix2 (dep t k) (row t r)) := by
  blk_ext [idx t, row, col, dep]

theorem emb1 (t : Fin cfg0.N) (X : Vec Ideal S4096x2048 .bf16) (l : Fin 1024) (k : Fin 512) : X ((win0_1.blk t).view.emb (ix2 k l)) = X (ix2 (dep t k) (col t l)) := by
  blk_ext [idx t, row, col, dep]

theorem emb2 (t : Fin cfg0.N) (X : Vec Ideal S1024x2048 .bf16) (r : Fin 1024) (l : Fin 1024) : X ((win0_2.blk t).view.emb (ix2 r l)) = X (ix2 (row t r) (col t l)) := by
  blk_ext [idx t, row, col, dep]

theorem rd0 (c : Dev nD) (t : Fin cfg0.N) (W : (b : Ref sig .tc) → Buf (Elt Ideal) ((c.tc : Thread nD τ).loc b)) (r : Fin 1024) (k : Fin 512) :
    (((cfg0.win 0).blk t).view.read (Elt Ideal) (W (Pipeline.arrRef spec0 0)) : Vec Ideal S512x1024 .bf16) (ix2 k r) = (W (Pipeline.arrRef spec0 0) : FVec Ideal S4096x1024 .bf16) (ix2 (dep t k) (row t r)) := by
  blk_simp
  exact emb0 t _ r k

theorem rd1 (c : Dev nD) (t : Fin cfg0.N) (W : (b : Ref sig .tc) → Buf (Elt Ideal) ((c.tc : Thread nD τ).loc b)) (l : Fin 1024) (k : Fin 512) :
    (((cfg0.win 1).blk t).view.read (Elt Ideal) (W (Pipeline.arrRef spec0 1)) : Vec Ideal S512x1024 .bf16) (ix2 k l) = (W (Pipeline.arrRef spec0 1) : FVec Ideal S4096x2048 .bf16) (ix2 (dep t k) (col t l)) := by
  blk_simp
  exact emb1 t _ l k

section

variable (m : (ℓ : Loc nD τ sig) → Buf (Elt Ideal) ℓ) (c : Dev nD)

/-- The product's first array. -/
abbrev X : FVec Ideal S4096x1024 .bf16 := V m c (Pipeline.arrRef spec0 0)

/-- The product's second array. -/
abbrev W : FVec Ideal S4096x2048 .bf16 := V m c (Pipeline.arrRef spec0 1)

/-- A grid point's block of the first array. -/
abbrev B0 (t : Fin cfg0.N) : FVec Ideal S512x1024 .bf16 := iblk m c 0 t

/-- A grid point's block of the second array. -/
abbrev B1 (t : Fin cfg0.N) : FVec Ideal S512x1024 .bf16 := iblk m c 1 t

theorem blk0 (t : Fin cfg0.N) (r : Fin 1024) (k : Fin 512) : B0 m c t (ix2 k r) = X m c (ix2 (dep t k) (row t r)) := rd0 c t (V m c) r k

theorem blk1 (t : Fin cfg0.N) (l : Fin 1024) (k : Fin 512) : B1 m c t (ix2 k l) = W m c (ix2 (dep t k) (col t l)) := rd1 c t (V m c) l k

/-! ## The sums a grid point carries on -/

theorem first (t : Fin cfg0.N) (h0 : t.val % 8 = 0) (y : S1024x1024.Idx) :
    (outsAt0 m c t.val t.isLt).2 y = k0_pay2 (k0_pay1 (F := Ideal)) (iblk m c 0 t) (iblk m c 1 t) y := by
  rw [outsAt0_A m c t h0 (by omega)]
  dsimp only
  unfold sout0_A_0
  frame_out

theorem next (t : Fin cfg0.N) (h0 : ¬ t.val % 8 = 0) (y : S1024x1024.Idx) :
    (outsAt0 m c t.val t.isLt).2 y = k0_pay2 (outsAt0 m c (t.val - 1) (Nat.lt_of_le_of_lt (Nat.sub_le _ _) t.isLt)).2 (iblk m c 0 t) (iblk m c 1 t) y := by
  by_cases h1 : t.val % 8 = 7
  · rw [outsAt0_C m c t h0 h1]
    dsimp only
    unfold sout0_C_0
    frame_out
    erw [Memref.IsWhole.read_unread]
  · rw [outsAt0_B m c t h0 h1]
    dsimp only
    unfold sout0_B_0
    frame_out
    erw [Memref.IsWhole.read_unread]

theorem last (t : Fin cfg0.N) (h1 : t.val % 8 = 7) (y : S1024x1024.Idx) :
    (outsAt0 m c t.val t.isLt).1 y = k0_pay3 (outsAt0 m c t.val t.isLt).2 y := by
  rw [outsAt0_C m c t (by omega) h1]
  dsimp only
  unfold out0_C_2 sout0_C_0
  frame_out

/-- After the last tile a grid point's sums are the product's entries. -/
theorem whole (t : Fin cfg0.N) (h1 : t.val % 8 = 7) (r : Fin 1024) (l : Fin 1024) :
    (outsAt0 m c t.val t.isLt).2 (ix2 r l) = tn .f32 (X m c) (W m c) (ix2 (row t r) (col t l)) := by
  have tile : ∀ s : Fin cfg0.N, ∑ k, B0 m c s (ix2 k r) * B1 m c s (ix2 k l)
      = ∑ k : Fin 512, X m c (ix2 (dep s k) (row s r)) * W m c (ix2 (dep s k) (col s l)) := fun s =>
    Finset.sum_congr rfl fun k _ => by rw [blk0, blk1]
  refine tiled_last (q := 8) (d := 512) (fun s : Fin cfg0.N => (outsAt0 m c s.val s.isLt).2 (ix2 r l))
    (fun s k => X m c (ix2 k (row s r)) * W m c (ix2 k (col s l))) (fun s x => by omega) (fun s h => ?_) (fun s h => ?_) (fun s h => ?_) t (by omega)
  · refine (first m c s h _).trans ((step_at _ _ _ r l).trans ?_)
    rw [zero_at, tile s]
    rfl
  · refine (next m c s h _).trans ((step_at _ _ _ r l).trans ?_)
    rw [tile s]
    rfl
  · have e1 : row ⟨s.val - 1, by omega⟩ r = row s r := Fin.ext (by simp only [row]; omega)
    have e2 : col ⟨s.val - 1, by omega⟩ l = col s l := Fin.ext (by simp only [col]; omega)
    simp only [e1, e2]

/-- The call leaves the product. -/
theorem res : (dats m 0 c).arrAt 2 cfg0.N = tn .bf16 (X m c) (W m c) := by
  refine (dats m 0 c).arrAt_eq_of_covers 2 _ (by decide +kernel) fun t ht y => ?_
  have h1 := (flush0_2 t).mp ht
  blk_simp [idx t]
  rw [after0_2]
  obtain ⟨r, l, rfl⟩ : ∃ (r : Fin 1024) (l : Fin 1024), y = ix2 r l := ⟨y 0, y 1, by idx_vars y⟩
  refine (last m c t h1 _).trans ?_
  refine Eq.trans ?_ (emb2 t (tn .bf16 (X m c) (W m c)) r l).symm
  exact whole m c t h1 r l

end

end Cert.DwProjIdeal.Final

end
-- ==== Proof.DyProjVal.lean ====
/- The product for a branch's gradient. -/
module

public import proofs.«01_k».proof.Proof.Gen.DyProjIdeal.Value
public import proofs.«01_k».proof.Proof.Mm
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.DyProjIdeal.Final

open Cert.DyProjIdeal Cert.DyProjIdeal.Gen Cert.Mm

/-! ## What a grid point computes -/

theorem zero_at (r : Fin 1024) (l : Fin 1024) : k0_pay1 (F := Ideal) (ix2 r l) = 0 := by
  pointwise [k0_pay1]

theorem step_at (v : Vec Ideal S1024x1024 .f32) (x : Vec Ideal S1024x512 .bf16) (w : Vec Ideal S1024x512 .bf16) (r : Fin 1024) (l : Fin 1024) :
    k0_pay2 v x w (ix2 r l) = v (ix2 r l) + ∑ k, x (ix2 r k) * w (ix2 l k) := by
  pointwise [k0_pay2]

/-! ## The blocks of a grid point -/

theorem idx : ∀ t : Fin cfg0.N, win0_0.index t = ![t.val / 4, t.val % 4] ∧ win0_1.index t = ![t.val / 4 % 1, t.val % 4] ∧ win0_2.index t = ![t.val / 4, t.val / 4 % 1] :=
  (by decide +kernel : ∀ t : Fin grid0.N, _)

theorem lt (t : Fin cfg0.N) : t.val < 16 := lt_of_lt_of_eq t.isLt (by decide)

def row (t : Fin cfg0.N) (r : Fin 1024) : Fin 4096 := ⟨t.val / 4 * 1024 + r.val, by have := lt t; omega⟩
def col (t : Fin cfg0.N) (l : Fin 1024) : Fin 1024 := ⟨t.val / 4 % 1 * 1024 + l.val, by omega⟩
def dep (t : Fin cfg0.N) (k : Fin 512) : Fin 2048 := ⟨512 * (t.val % 4) + k.val, by omega⟩

theorem emb0 (t : Fin cfg0.N) (X : Vec Ideal S4096x2048 .bf16) (r : Fin 1024) (k : Fin 512) : X ((win0_0.blk t).view.emb (ix2 r k)) = X (ix2 (row t r) (dep t k)) := by
  blk_ext [idx t, row, col, dep]

theorem emb1 (t : Fin cfg0.N) (X : Vec Ideal S1024x2048 .bf16) (l : Fin 1024) (k : Fin 512) : X ((win0_1.blk t).view.emb (ix2 l k)) = X (ix2 (col t l) (dep t k)) := by
  blk_ext [idx t, row, col, dep]

theorem emb2 (t : Fin cfg0.N) (X : Vec Ideal S4096x1024 .f32) (r : Fin 1024) (l : Fin 1024) : X ((win0_2.blk t).view.emb (ix2 r l)) = X (ix2 (row t r) (col t l)) := by
  blk_ext [idx t, row, col, dep]

theorem rd0 (c : Dev nD) (t : Fin cfg0.N) (W : (b : Ref sig .tc) → Buf (Elt Ideal) ((c.tc : Thread nD τ).loc b)) (r : Fin 1024) (k : Fin 512) :
    (((cfg0.win 0).blk t).view.read (Elt Ideal) (W (Pipeline.arrRef spec0 0)) : Vec Ideal S1024x512 .bf16) (ix2 r k) = (W (Pipeline.arrRef spec0 0) : FVec Ideal S4096x2048 .bf16) (ix2 (row t r) (dep t k)) := by
  blk_simp
  exact emb0 t _ r k

theorem rd1 (c : Dev nD) (t : Fin cfg0.N) (W : (b : Ref sig .tc) → Buf (Elt Ideal) ((c.tc : Thread nD τ).loc b)) (l : Fin 1024) (k : Fin 512) :
    (((cfg0.win 1).blk t).view.read (Elt Ideal) (W (Pipeline.arrRef spec0 1)) : Vec Ideal S1024x512 .bf16) (ix2 l k) = (W (Pipeline.arrRef spec0 1) : FVec Ideal S1024x2048 .bf16) (ix2 (col t l) (dep t k)) := by
  blk_simp
  exact emb1 t _ l k

section

variable (m : (ℓ : Loc nD τ sig) → Buf (Elt Ideal) ℓ) (c : Dev nD)

/-- The product's first array. -/
abbrev X : FVec Ideal S4096x2048 .bf16 := V m c (Pipeline.arrRef spec0 0)

/-- The product's second array. -/
abbrev W : FVec Ideal S1024x2048 .bf16 := V m c (Pipeline.arrRef spec0 1)

/-- A grid point's block of the first array. -/
abbrev B0 (t : Fin cfg0.N) : FVec Ideal S1024x512 .bf16 := iblk m c 0 t

/-- A grid point's block of the second array. -/
abbrev B1 (t : Fin cfg0.N) : FVec Ideal S1024x512 .bf16 := iblk m c 1 t

theorem blk0 (t : Fin cfg0.N) (r : Fin 1024) (k : Fin 512) : B0 m c t (ix2 r k) = X m c (ix2 (row t r) (dep t k)) := rd0 c t (V m c) r k

theorem blk1 (t : Fin cfg0.N) (l : Fin 1024) (k : Fin 512) : B1 m c t (ix2 l k) = W m c (ix2 (col t l) (dep t k)) := rd1 c t (V m c) l k

/-! ## The sums a grid point carries on -/

theorem first (t : Fin cfg0.N) (h0 : t.val % 4 = 0) (y : S1024x1024.Idx) :
    (outsAt0 m c t.val t.isLt).2 y = k0_pay2 (k0_pay1 (F := Ideal)) (iblk m c 0 t) (iblk m c 1 t) y := by
  rw [outsAt0_A m c t h0 (by omega)]
  dsimp only
  unfold sout0_A_0
  frame_out

theorem next (t : Fin cfg0.N) (h0 : ¬ t.val % 4 = 0) (y : S1024x1024.Idx) :
    (outsAt0 m c t.val t.isLt).2 y = k0_pay2 (outsAt0 m c (t.val - 1) (Nat.lt_of_le_of_lt (Nat.sub_le _ _) t.isLt)).2 (iblk m c 0 t) (iblk m c 1 t) y := by
  by_cases h1 : t.val % 4 = 3
  · rw [outsAt0_C m c t h0 h1]
    dsimp only
    unfold sout0_C_0
    frame_out
    erw [Memref.IsWhole.read_unread]
  · rw [outsAt0_B m c t h0 h1]
    dsimp only
    unfold sout0_B_0
    frame_out
    erw [Memref.IsWhole.read_unread]

theorem last (t : Fin cfg0.N) (h1 : t.val % 4 = 3) (y : S1024x1024.Idx) :
    (outsAt0 m c t.val t.isLt).1 y = (outsAt0 m c t.val t.isLt).2 y := by
  rw [outsAt0_C m c t (by omega) h1]
  dsimp only
  unfold out0_C_2 sout0_C_0
  frame_out

/-- After the last tile a grid point's sums are the product's entries. -/
theorem whole (t : Fin cfg0.N) (h1 : t.val % 4 = 3) (r : Fin 1024) (l : Fin 1024) :
    (outsAt0 m c t.val t.isLt).2 (ix2 r l) = nt .f32 (X m c) (W m c) (ix2 (row t r) (col t l)) := by
  have tile : ∀ s : Fin cfg0.N, ∑ k, B0 m c s (ix2 r k) * B1 m c s (ix2 l k)
      = ∑ k : Fin 512, X m c (ix2 (row s r) (dep s k)) * W m c (ix2 (col s l) (dep s k)) := fun s =>
    Finset.sum_congr rfl fun k _ => by rw [blk0, blk1]
  refine tiled_last (q := 4) (d := 512) (fun s : Fin cfg0.N => (outsAt0 m c s.val s.isLt).2 (ix2 r l))
    (fun s k => X m c (ix2 (row s r) k) * W m c (ix2 (col s l) k)) (fun s x => by omega) (fun s h => ?_) (fun s h => ?_) (fun s h => ?_) t (by omega)
  · refine (first m c s h _).trans ((step_at _ _ _ r l).trans ?_)
    rw [zero_at, tile s]
    rfl
  · refine (next m c s h _).trans ((step_at _ _ _ r l).trans ?_)
    rw [tile s]
    rfl
  · have e1 : row ⟨s.val - 1, by omega⟩ r = row s r := Fin.ext (by simp only [row]; omega)
    have e2 : col ⟨s.val - 1, by omega⟩ l = col s l := Fin.ext (by simp only [col]; omega)
    simp only [e1, e2]

/-- The call leaves the product. -/
theorem res : (dats m 0 c).arrAt 2 cfg0.N = nt .f32 (X m c) (W m c) := by
  refine (dats m 0 c).arrAt_eq_of_covers 2 _ (by decide +kernel) fun t ht y => ?_
  have h1 := (flush0_2 t).mp ht
  blk_simp [idx t]
  rw [after0_2]
  obtain ⟨r, l, rfl⟩ : ∃ (r : Fin 1024) (l : Fin 1024), y = ix2 r l := ⟨y 0, y 1, by idx_vars y⟩
  refine (last m c t h1 _).trans ?_
  refine Eq.trans ?_ (emb2 t (nt .f32 (X m c) (W m c)) r l).symm
  exact whole m c t h1 r l

end

end Cert.DyProjIdeal.Final

end
-- ==== Proof.DyProjBVal.lean ====
/- The product for the attention branch's gradient. -/
module

public import proofs.«01_k».proof.Proof.Gen.DyProjBIdeal.Value
public import proofs.«01_k».proof.Proof.Mm
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.DyProjBIdeal.Final

open Cert.DyProjBIdeal Cert.DyProjBIdeal.Gen Cert.Mm

/-! ## What a grid point computes -/

theorem zero_at (r : Fin 1024) (l : Fin 1024) : k0_pay1 (F := Ideal) (ix2 r l) = 0 := by
  pointwise [k0_pay1]

theorem step_at (v : Vec Ideal S1024x1024 .f32) (x : Vec Ideal S1024x512 .bf16) (w : Vec Ideal S1024x512 .bf16) (r : Fin 1024) (l : Fin 1024) :
    k0_pay2 v x w (ix2 r l) = v (ix2 r l) + ∑ k, x (ix2 r k) * w (ix2 l k) := by
  pointwise [k0_pay2]

/-! ## The blocks of a grid point -/

theorem idx : ∀ t : Fin cfg0.N, win0_0.index t = ![t.val / 4, t.val % 4] ∧ win0_1.index t = ![t.val / 4 % 1, t.val % 4] ∧ win0_2.index t = ![t.val / 4, t.val / 4 % 1] :=
  (by decide +kernel : ∀ t : Fin grid0.N, _)

theorem lt (t : Fin cfg0.N) : t.val < 16 := lt_of_lt_of_eq t.isLt (by decide)

def row (t : Fin cfg0.N) (r : Fin 1024) : Fin 4096 := ⟨t.val / 4 * 1024 + r.val, by have := lt t; omega⟩
def col (t : Fin cfg0.N) (l : Fin 1024) : Fin 1024 := ⟨t.val / 4 % 1 * 1024 + l.val, by omega⟩
def dep (t : Fin cfg0.N) (k : Fin 512) : Fin 2048 := ⟨512 * (t.val % 4) + k.val, by omega⟩

theorem emb0 (t : Fin cfg0.N) (X : Vec Ideal S4096x2048 .bf16) (r : Fin 1024) (k : Fin 512) : X ((win0_0.blk t).view.emb (ix2 r k)) = X (ix2 (row t r) (dep t k)) := by
  blk_ext [idx t, row, col, dep]

theorem emb1 (t : Fin cfg0.N) (X : Vec Ideal S1024x2048 .bf16) (l : Fin 1024) (k : Fin 512) : X ((win0_1.blk t).view.emb (ix2 l k)) = X (ix2 (col t l) (dep t k)) := by
  blk_ext [idx t, row, col, dep]

theorem emb2 (t : Fin cfg0.N) (X : Vec Ideal S4096x1024 .bf16) (r : Fin 1024) (l : Fin 1024) : X ((win0_2.blk t).view.emb (ix2 r l)) = X (ix2 (row t r) (col t l)) := by
  blk_ext [idx t, row, col, dep]

theorem rd0 (c : Dev nD) (t : Fin cfg0.N) (W : (b : Ref sig .tc) → Buf (Elt Ideal) ((c.tc : Thread nD τ).loc b)) (r : Fin 1024) (k : Fin 512) :
    (((cfg0.win 0).blk t).view.read (Elt Ideal) (W (Pipeline.arrRef spec0 0)) : Vec Ideal S1024x512 .bf16) (ix2 r k) = (W (Pipeline.arrRef spec0 0) : FVec Ideal S4096x2048 .bf16) (ix2 (row t r) (dep t k)) := by
  blk_simp
  exact emb0 t _ r k

theorem rd1 (c : Dev nD) (t : Fin cfg0.N) (W : (b : Ref sig .tc) → Buf (Elt Ideal) ((c.tc : Thread nD τ).loc b)) (l : Fin 1024) (k : Fin 512) :
    (((cfg0.win 1).blk t).view.read (Elt Ideal) (W (Pipeline.arrRef spec0 1)) : Vec Ideal S1024x512 .bf16) (ix2 l k) = (W (Pipeline.arrRef spec0 1) : FVec Ideal S1024x2048 .bf16) (ix2 (col t l) (dep t k)) := by
  blk_simp
  exact emb1 t _ l k

section

variable (m : (ℓ : Loc nD τ sig) → Buf (Elt Ideal) ℓ) (c : Dev nD)

/-- The product's first array. -/
abbrev X : FVec Ideal S4096x2048 .bf16 := V m c (Pipeline.arrRef spec0 0)

/-- The product's second array. -/
abbrev W : FVec Ideal S1024x2048 .bf16 := V m c (Pipeline.arrRef spec0 1)

/-- A grid point's block of the first array. -/
abbrev B0 (t : Fin cfg0.N) : FVec Ideal S1024x512 .bf16 := iblk m c 0 t

/-- A grid point's block of the second array. -/
abbrev B1 (t : Fin cfg0.N) : FVec Ideal S1024x512 .bf16 := iblk m c 1 t

theorem blk0 (t : Fin cfg0.N) (r : Fin 1024) (k : Fin 512) : B0 m c t (ix2 r k) = X m c (ix2 (row t r) (dep t k)) := rd0 c t (V m c) r k

theorem blk1 (t : Fin cfg0.N) (l : Fin 1024) (k : Fin 512) : B1 m c t (ix2 l k) = W m c (ix2 (col t l) (dep t k)) := rd1 c t (V m c) l k

/-! ## The sums a grid point carries on -/

theorem first (t : Fin cfg0.N) (h0 : t.val % 4 = 0) (y : S1024x1024.Idx) :
    (outsAt0 m c t.val t.isLt).2 y = k0_pay2 (k0_pay1 (F := Ideal)) (iblk m c 0 t) (iblk m c 1 t) y := by
  rw [outsAt0_A m c t h0 (by omega)]
  dsimp only
  unfold sout0_A_0
  frame_out

theorem next (t : Fin cfg0.N) (h0 : ¬ t.val % 4 = 0) (y : S1024x1024.Idx) :
    (outsAt0 m c t.val t.isLt).2 y = k0_pay2 (outsAt0 m c (t.val - 1) (Nat.lt_of_le_of_lt (Nat.sub_le _ _) t.isLt)).2 (iblk m c 0 t) (iblk m c 1 t) y := by
  by_cases h1 : t.val % 4 = 3
  · rw [outsAt0_C m c t h0 h1]
    dsimp only
    unfold sout0_C_0
    frame_out
    erw [Memref.IsWhole.read_unread]
  · rw [outsAt0_B m c t h0 h1]
    dsimp only
    unfold sout0_B_0
    frame_out
    erw [Memref.IsWhole.read_unread]

theorem last (t : Fin cfg0.N) (h1 : t.val % 4 = 3) (y : S1024x1024.Idx) :
    (outsAt0 m c t.val t.isLt).1 y = k0_pay3 (outsAt0 m c t.val t.isLt).2 y := by
  rw [outsAt0_C m c t (by omega) h1]
  dsimp only
  unfold out0_C_2 sout0_C_0
  frame_out

/-- After the last tile a grid point's sums are the product's entries. -/
theorem whole (t : Fin cfg0.N) (h1 : t.val % 4 = 3) (r : Fin 1024) (l : Fin 1024) :
    (outsAt0 m c t.val t.isLt).2 (ix2 r l) = nt .f32 (X m c) (W m c) (ix2 (row t r) (col t l)) := by
  have tile : ∀ s : Fin cfg0.N, ∑ k, B0 m c s (ix2 r k) * B1 m c s (ix2 l k)
      = ∑ k : Fin 512, X m c (ix2 (row s r) (dep s k)) * W m c (ix2 (col s l) (dep s k)) := fun s =>
    Finset.sum_congr rfl fun k _ => by rw [blk0, blk1]
  refine tiled_last (q := 4) (d := 512) (fun s : Fin cfg0.N => (outsAt0 m c s.val s.isLt).2 (ix2 r l))
    (fun s k => X m c (ix2 (row s r) k) * W m c (ix2 (col s l) k)) (fun s x => by omega) (fun s h => ?_) (fun s h => ?_) (fun s h => ?_) t (by omega)
  · refine (first m c s h _).trans ((step_at _ _ _ r l).trans ?_)
    rw [zero_at, tile s]
    rfl
  · refine (next m c s h _).trans ((step_at _ _ _ r l).trans ?_)
    rw [tile s]
    rfl
  · have e1 : row ⟨s.val - 1, by omega⟩ r = row s r := Fin.ext (by simp only [row]; omega)
    have e2 : col ⟨s.val - 1, by omega⟩ l = col s l := Fin.ext (by simp only [col]; omega)
    simp only [e1, e2]

/-- The call leaves the product. -/
theorem res : (dats m 0 c).arrAt 2 cfg0.N = nt .bf16 (X m c) (W m c) := by
  refine (dats m 0 c).arrAt_eq_of_covers 2 _ (by decide +kernel) fun t ht y => ?_
  have h1 := (flush0_2 t).mp ht
  blk_simp [idx t]
  rw [after0_2]
  obtain ⟨r, l, rfl⟩ : ∃ (r : Fin 1024) (l : Fin 1024), y = ix2 r l := ⟨y 0, y 1, by idx_vars y⟩
  refine (last m c t h1 _).trans ?_
  refine Eq.trans ?_ (emb2 t (nt .bf16 (X m c) (W m c)) r l).symm
  exact whole m c t h1 r l

end

end Cert.DyProjBIdeal.Final

end
-- ==== Proof.RunDwOut.lean ====
/- The host program `RefDwOutIdeal` as the list of its operations, and its run: the result is the product of the arguments, the
   arguments unchanged. -/
module

public import proofs.«01_k».proof.Proof.Gen.RefDwOutIdeal
public import proofs.«01_k».proof.Proof.Mm
public import Idealize.ShloMosaic.Lib.StableHlo.Run

@[expose] public section

set_option maxRecDepth 16384

noncomputable section

namespace Cert.RefDwOutIdeal.Steps

open Cert.RefDwOutIdeal Cert.RefDwOutIdeal.Gen Cert.Mm Idealize.ShloMosaic Idealize.ShloMosaic.TcCoe Idealize.SL.Sem Idealize.ShloMosaic.StableHlo

variable {F : FTy → Type} [FloatOps F]

/-- The operations in order. -/
abbrev ops : List (HloOp τ sig (Elt F)) :=
  [ unary main_arg0 main_v0 ((extf .f32 · bitsLt_bf16_f32) : (⟨S4096x2048, .bf16⟩ : BufTy).Contents (Elt F) → (⟨S4096x2048, .f32⟩ : BufTy).Contents (Elt F)),
    unary main_arg1 main_v1 ((extf .f32 · bitsLt_bf16_f32) : (⟨S4096x2048, .bf16⟩ : BufTy).Contents (Elt F) → (⟨S4096x2048, .f32⟩ : BufTy).Contents (Elt F)),
    nullary main_cst (constant S_ .f32 0x00000000#32),
    unary main_cst main_v2 (broadcastInDim S2048x2048 ![] bcast_S_S2048x2048 : (⟨S_, .f32⟩ : BufTy).Contents (Elt F) → (⟨S2048x2048, .f32⟩ : BufTy).Contents (Elt F)),
    binary main_v0 main_v2 main_v3 ((fun l r => Host.dotGeneral dot_S4096x2048_S2048x2048_S4096x2048_1_0_0_1_n_n none l r) : (⟨S4096x2048, .f32⟩ : BufTy).Contents (Elt F) → (⟨S2048x2048, .f32⟩ : BufTy).Contents (Elt F) → (⟨S4096x2048, .f32⟩ : BufTy).Contents (Elt F)),
    binary main_v1 main_v0 main_v4 ((fun l r => Host.dotGeneral dot_S4096x2048_S4096x2048_S2048x2048_0_0_1_1_n_n none l r) : (⟨S4096x2048, .f32⟩ : BufTy).Contents (Elt F) → (⟨S4096x2048, .f32⟩ : BufTy).Contents (Elt F) → (⟨S2048x2048, .f32⟩ : BufTy).Contents (Elt F)),
    unary main_v4 main_v5 ((transpose S2048x2048 [1, 0] · transposes_S2048x2048_S2048x2048_1_0) : (⟨S2048x2048, .f32⟩ : BufTy).Contents (Elt F) → (⟨S2048x2048, .f32⟩ : BufTy).Contents (Elt F)),
    unary main_v5 main_v6 ((truncf .bf16 · bitsLt_bf16_f32) : (⟨S2048x2048, .f32⟩ : BufTy).Contents (Elt F) → (⟨S2048x2048, .bf16⟩ : BufTy).Contents (Elt F)) ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨unary_bufs_sub .., unary_bufs_sub .., nullary_bufs_sub .., unary_bufs_sub .., binary_bufs_sub .., binary_bufs_sub .., unary_bufs_sub .., unary_bufs_sub ..⟩

/-- The product as the program computes it. -/
theorem product (x : FVec Ideal S4096x2048 .bf16) (dy : FVec Ideal S4096x2048 .bf16) :
    truncf (F := Ideal) .bf16 (transpose S2048x2048 [1, 0] (Host.dotGeneral dot_S4096x2048_S4096x2048_S2048x2048_0_0_1_1_n_n none (extf (F := Ideal) (φ := .bf16) .f32 dy bitsLt_bf16_f32) (extf (F := Ideal) (φ := .bf16) .f32 x bitsLt_bf16_f32)) transposes_S2048x2048_S2048x2048_1_0) bitsLt_bf16_f32
      = tn .bf16 x dy := by
  funext y
  obtain ⟨i, j, rfl⟩ : ∃ (i : Fin 2048) (j : Fin 2048), y = ix2 i j := ⟨y 0, y 1, by idx_vars y⟩
  refine Eq.trans (b := ∑ k : Fin 4096, dy (ix2 k j) * x (ix2 k i)) (by pointwise [dot_S4096x2048_S4096x2048_S2048x2048_0_0_1_1_n_n]) ?_
  exact Finset.sum_congr rfl fun k _ => mul_comm _ _

/-- The result: the product of the arguments. -/
def val (m : (ℓ : Loc nD τ sig) → Buf (Elt Ideal) ℓ) (c : Dev nD) : FVec Ideal S2048x2048 .bf16 := tn .bf16 (m ((c.tc : Thread nD τ).loc main_arg0)) (m ((c.tc : Thread nD τ).loc main_arg1))

set_option maxRecDepth 100000 in
theorem after_val (m : (ℓ : Loc nD τ sig) → Buf (Elt Ideal) ℓ) (c : Dev nD) : after ops (launchContents m c) main_v6 = val m c := by
  simp only [ops, TRef.nullary, TRef.ternary, TRef.unary, TRef.toBuf, TRef.ofBuf, cast_eq]
  after_results_simp
  exact product _ _

theorem after_arg0 (m : (ℓ : Loc nD τ sig) → Buf (Elt Ideal) ℓ) (c : Dev nD) : after ops (launchContents m c) main_arg0 = m ((c.tc : Thread nD τ).loc main_arg0) := by
  simp only [ops, TRef.nullary, TRef.ternary, TRef.unary, TRef.toBuf, TRef.ofBuf, cast_eq]
  after_results_simp <;> rfl

theorem after_arg1 (m : (ℓ : Loc nD τ sig) → Buf (Elt Ideal) ℓ) (c : Dev nD) : after ops (launchContents m c) main_arg1 = m ((c.tc : Thread nD τ).loc main_arg1) := by
  simp only [ops, TRef.nullary, TRef.ternary, TRef.unary, TRef.toBuf, TRef.ofBuf, cast_eq]
  after_results_simp <;> rfl

/-- Every execution from a memory with zero counters ends with the product as the result and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v6) = val m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v6).trans (after_val m c), (h c main_arg0).trans (after_arg0 m c), (h c main_arg1).trans (after_arg1 m c)⟩)
    (run_seq scopedRefs_eq scopedSems_eq defs main (fun _ => ops) main_eq (fun _ => ops_sub) m ρ)

end Cert.RefDwOutIdeal.Steps

end
-- ==== Proof.RunDmerged.lean ====
/- The host program `RefDmergedIdeal` as the list of its operations, and its run: the result is the product of the arguments, the
   arguments unchanged. -/
module

public import proofs.«01_k».proof.Proof.Gen.RefDmergedIdeal
public import proofs.«01_k».proof.Proof.Mm
public import Idealize.ShloMosaic.Lib.StableHlo.Run

@[expose] public section

set_option maxRecDepth 16384

noncomputable section

namespace Cert.RefDmergedIdeal.Steps

open Cert.RefDmergedIdeal Cert.RefDmergedIdeal.Gen Cert.Mm Idealize.ShloMosaic Idealize.ShloMosaic.TcCoe Idealize.SL.Sem Idealize.ShloMosaic.StableHlo

variable {F : FTy → Type} [FloatOps F]

/-- The operations in order. -/
abbrev ops : List (HloOp τ sig (Elt F)) :=
  [ unary main_arg0 main_v0 ((extf .f32 · bitsLt_bf16_f32) : (⟨S4096x2048, .bf16⟩ : BufTy).Contents (Elt F) → (⟨S4096x2048, .f32⟩ : BufTy).Contents (Elt F)),
    unary main_arg1 main_v1 ((extf .f32 · bitsLt_bf16_f32) : (⟨S2048x2048, .bf16⟩ : BufTy).Contents (Elt F) → (⟨S2048x2048, .f32⟩ : BufTy).Contents (Elt F)),
    nullary main_cst (constant S_ .f32 0x00000000#32),
    unary main_cst main_v2 (broadcastInDim S4096x2048 ![] bcast_S_S4096x2048 : (⟨S_, .f32⟩ : BufTy).Contents (Elt F) → (⟨S4096x2048, .f32⟩ : BufTy).Contents (Elt F)),
    binary main_v2 main_v1 main_v3 ((fun l r => Host.dotGeneral dot_S4096x2048_S2048x2048_S4096x2048_1_0_0_1_n_n none l r) : (⟨S4096x2048, .f32⟩ : BufTy).Contents (Elt F) → (⟨S2048x2048, .f32⟩ : BufTy).Contents (Elt F) → (⟨S4096x2048, .f32⟩ : BufTy).Contents (Elt F)),
    binary main_v0 main_v1 main_v4 ((fun l r => Host.dotGeneral dot_S4096x2048_S2048x2048_S4096x2048_1_1_0_0_n_n none l r) : (⟨S4096x2048, .f32⟩ : BufTy).Contents (Elt F) → (⟨S2048x2048, .f32⟩ : BufTy).Contents (Elt F) → (⟨S4096x2048, .f32⟩ : BufTy).Contents (Elt F)) ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨unary_bufs_sub .., unary_bufs_sub .., nullary_bufs_sub .., unary_bufs_sub .., binary_bufs_sub .., binary_bufs_sub ..⟩

/-- The product as the program computes it. -/
theorem product (x : FVec Ideal S4096x2048 .bf16) (w : FVec Ideal S2048x2048 .bf16) :
    Host.dotGeneral dot_S4096x2048_S2048x2048_S4096x2048_1_1_0_0_n_n none (extf (F := Ideal) (φ := .bf16) .f32 x bitsLt_bf16_f32) (extf (F := Ideal) (φ := .bf16) .f32 w bitsLt_bf16_f32)
      = nt .f32 x w := by
  funext y
  obtain ⟨i, j, rfl⟩ : ∃ (i : Fin 4096) (j : Fin 2048), y = ix2 i j := ⟨y 0, y 1, by idx_vars y⟩
  refine Eq.trans (b := ∑ k : Fin 2048, x (ix2 i k) * w (ix2 j k)) (by pointwise [dot_S4096x2048_S2048x2048_S4096x2048_1_1_0_0_n_n]) ?_
  rfl

/-- The result: the product of the arguments. -/
def val (m : (ℓ : Loc nD τ sig) → Buf (Elt Ideal) ℓ) (c : Dev nD) : FVec Ideal S4096x2048 .f32 := nt .f32 (m ((c.tc : Thread nD τ).loc main_arg0)) (m ((c.tc : Thread nD τ).loc main_arg1))

set_option maxRecDepth 100000 in
theorem after_val (m : (ℓ : Loc nD τ sig) → Buf (Elt Ideal) ℓ) (c : Dev nD) : after ops (launchContents m c) main_v4 = val m c := by
  simp only [ops, TRef.nullary, TRef.ternary, TRef.unary, TRef.toBuf, TRef.ofBuf, cast_eq]
  after_results_simp
  exact product _ _

theorem after_arg0 (m : (ℓ : Loc nD τ sig) → Buf (Elt Ideal) ℓ) (c : Dev nD) : after ops (launchContents m c) main_arg0 = m ((c.tc : Thread nD τ).loc main_arg0) := by
  simp only [ops, TRef.nullary, TRef.ternary, TRef.unary, TRef.toBuf, TRef.ofBuf, cast_eq]
  after_results_simp <;> rfl

theorem after_arg1 (m : (ℓ : Loc nD τ sig) → Buf (Elt Ideal) ℓ) (c : Dev nD) : after ops (launchContents m c) main_arg1 = m ((c.tc : Thread nD τ).loc main_arg1) := by
  simp only [ops, TRef.nullary, TRef.ternary, TRef.unary, TRef.toBuf, TRef.ofBuf, cast_eq]
  after_results_simp <;> rfl

/-- Every execution from a memory with zero counters ends with the product as the result and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v4) = val m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v4).trans (after_val m c), (h c main_arg0).trans (after_arg0 m c), (h c main_arg1).trans (after_arg1 m c)⟩)
    (run_seq scopedRefs_eq scopedSems_eq defs main (fun _ => ops) main_eq (fun _ => ops_sub) m ρ)

end Cert.RefDmergedIdeal.Steps

end
-- ==== Proof.RunDwProj.lean ====
/- The host program `RefDwProjIdeal` as the list of its operations, and its run: the result is the product of the arguments, the
   arguments unchanged. -/
module

public import proofs.«01_k».proof.Proof.Gen.RefDwProjIdeal
public import proofs.«01_k».proof.Proof.Mm
public import Idealize.ShloMosaic.Lib.StableHlo.Run

@[expose] public section

set_option maxRecDepth 16384

noncomputable section

namespace Cert.RefDwProjIdeal.Steps

open Cert.RefDwProjIdeal Cert.RefDwProjIdeal.Gen Cert.Mm Idealize.ShloMosaic Idealize.ShloMosaic.TcCoe Idealize.SL.Sem Idealize.ShloMosaic.StableHlo

variable {F : FTy → Type} [FloatOps F]

/-- The operations in order. -/
abbrev ops : List (HloOp τ sig (Elt F)) :=
  [ unary main_arg0 main_v0 ((extf .f32 · bitsLt_bf16_f32) : (⟨S4096x1024, .bf16⟩ : BufTy).Contents (Elt F) → (⟨S4096x1024, .f32⟩ : BufTy).Contents (Elt F)),
    unary main_arg1 main_v1 ((extf .f32 · bitsLt_bf16_f32) : (⟨S4096x2048, .bf16⟩ : BufTy).Contents (Elt F) → (⟨S4096x2048, .f32⟩ : BufTy).Contents (Elt F)),
    nullary main_cst (constant S_ .f32 0x00000000#32),
    unary main_cst main_v2 (broadcastInDim S1024x2048 ![] bcast_S_S1024x2048 : (⟨S_, .f32⟩ : BufTy).Contents (Elt F) → (⟨S1024x2048, .f32⟩ : BufTy).Contents (Elt F)),
    binary main_v0 main_v2 main_v3 ((fun l r => Host.dotGeneral dot_S4096x1024_S1024x2048_S4096x2048_1_0_0_1_n_n none l r) : (⟨S4096x1024, .f32⟩ : BufTy).Contents (Elt F) → (⟨S1024x2048, .f32⟩ : BufTy).Contents (Elt F) → (⟨S4096x2048, .f32⟩ : BufTy).Contents (Elt F)),
    binary main_v1 main_v0 main_v4 ((fun l r => Host.dotGeneral dot_S4096x2048_S4096x1024_S2048x1024_0_0_1_1_n_n none l r) : (⟨S4096x2048, .f32⟩ : BufTy).Contents (Elt F) → (⟨S4096x1024, .f32⟩ : BufTy).Contents (Elt F) → (⟨S2048x1024, .f32⟩ : BufTy).Contents (Elt F)),
    unary main_v4 main_v5 ((transpose S1024x2048 [1, 0] · transposes_S2048x1024_S1024x2048_1_0) : (⟨S2048x1024, .f32⟩ : BufTy).Contents (Elt F) → (⟨S1024x2048, .f32⟩ : BufTy).Contents (Elt F)),
    unary main_v5 main_v6 ((truncf .bf16 · bitsLt_bf16_f32) : (⟨S1024x2048, .f32⟩ : BufTy).Contents (Elt F) → (⟨S1024x2048, .bf16⟩ : BufTy).Contents (Elt F)) ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨unary_bufs_sub .., unary_bufs_sub .., nullary_bufs_sub .., unary_bufs_sub .., binary_bufs_sub .., binary_bufs_sub .., unary_bufs_sub .., unary_bufs_sub ..⟩

/-- The product as the program computes it. -/
theorem product (x : FVec Ideal S4096x1024 .bf16) (dy : FVec Ideal S4096x2048 .bf16) :
    truncf (F := Ideal) .bf16 (transpose S1024x2048 [1, 0] (Host.dotGeneral dot_S4096x2048_S4096x1024_S2048x1024_0_0_1_1_n_n none (extf (F := Ideal) (φ := .bf16) .f32 dy bitsLt_bf16_f32) (extf (F := Ideal) (φ := .bf16) .f32 x bitsLt_bf16_f32)) transposes_S2048x1024_S1024x2048_1_0) bitsLt_bf16_f32
      = tn .bf16 x dy := by
  funext y
  obtain ⟨i, j, rfl⟩ : ∃ (i : Fin 1024) (j : Fin 2048), y = ix2 i j := ⟨y 0, y 1, by idx_vars y⟩
  refine Eq.trans (b := ∑ k : Fin 4096, dy (ix2 k j) * x (ix2 k i)) (by pointwise [dot_S4096x2048_S4096x1024_S2048x1024_0_0_1_1_n_n]) ?_
  exact Finset.sum_congr rfl fun k _ => mul_comm _ _

/-- The result: the product of the arguments. -/
def val (m : (ℓ : Loc nD τ sig) → Buf (Elt Ideal) ℓ) (c : Dev nD) : FVec Ideal S1024x2048 .bf16 := tn .bf16 (m ((c.tc : Thread nD τ).loc main_arg0)) (m ((c.tc : Thread nD τ).loc main_arg1))

set_option maxRecDepth 100000 in
theorem after_val (m : (ℓ : Loc nD τ sig) → Buf (Elt Ideal) ℓ) (c : Dev nD) : after ops (launchContents m c) main_v6 = val m c := by
  simp only [ops, TRef.nullary, TRef.ternary, TRef.unary, TRef.toBuf, TRef.ofBuf, cast_eq]
  after_results_simp
  exact product _ _

theorem after_arg0 (m : (ℓ : Loc nD τ sig) → Buf (Elt Ideal) ℓ) (c : Dev nD) : after ops (launchContents m c) main_arg0 = m ((c.tc : Thread nD τ).loc main_arg0) := by
  simp only [ops, TRef.nullary, TRef.ternary, TRef.unary, TRef.toBuf, TRef.ofBuf, cast_eq]
  after_results_simp <;> rfl

theorem after_arg1 (m : (ℓ : Loc nD τ sig) → Buf (Elt Ideal) ℓ) (c : Dev nD) : after ops (launchContents m c) main_arg1 = m ((c.tc : Thread nD τ).loc main_arg1) := by
  simp only [ops, TRef.nullary, TRef.ternary, TRef.unary, TRef.toBuf, TRef.ofBuf, cast_eq]
  after_results_simp <;> rfl

/-- Every execution from a memory with zero counters ends with the product as the result and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v6) = val m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v6).trans (after_val m c), (h c main_arg0).trans (after_arg0 m c), (h c main_arg1).trans (after_arg1 m c)⟩)
    (run_seq scopedRefs_eq scopedSems_eq defs main (fun _ => ops) main_eq (fun _ => ops_sub) m ρ)

end Cert.RefDwProjIdeal.Steps

end
-- ==== Proof.RunDyProj.lean ====
/- The host program `RefDyProjIdeal` as the list of its operations, and its run: the result is the product of the arguments, the
   arguments unchanged. -/
module

public import proofs.«01_k».proof.Proof.Gen.RefDyProjIdeal
public import proofs.«01_k».proof.Proof.Mm
public import Idealize.ShloMosaic.Lib.StableHlo.Run

@[expose] public section

set_option maxRecDepth 16384

noncomputable section

namespace Cert.RefDyProjIdeal.Steps

open Cert.RefDyProjIdeal Cert.RefDyProjIdeal.Gen Cert.Mm Idealize.ShloMosaic Idealize.ShloMosaic.TcCoe Idealize.SL.Sem Idealize.ShloMosaic.StableHlo

variable {F : FTy → Type} [FloatOps F]

/-- The operations in order. -/
abbrev ops : List (HloOp τ sig (Elt F)) :=
  [ unary main_arg0 main_v0 ((extf .f32 · bitsLt_bf16_f32) : (⟨S4096x2048, .bf16⟩ : BufTy).Contents (Elt F) → (⟨S4096x2048, .f32⟩ : BufTy).Contents (Elt F)),
    unary main_arg1 main_v1 ((extf .f32 · bitsLt_bf16_f32) : (⟨S1024x2048, .bf16⟩ : BufTy).Contents (Elt F) → (⟨S1024x2048, .f32⟩ : BufTy).Contents (Elt F)),
    nullary main_cst (constant S_ .f32 0x00000000#32),
    unary main_cst main_v2 (broadcastInDim S4096x1024 ![] bcast_S_S4096x1024 : (⟨S_, .f32⟩ : BufTy).Contents (Elt F) → (⟨S4096x1024, .f32⟩ : BufTy).Contents (Elt F)),
    binary main_v2 main_v1 main_v3 ((fun l r => Host.dotGeneral dot_S4096x1024_S1024x2048_S4096x2048_1_0_0_1_n_n none l r) : (⟨S4096x1024, .f32⟩ : BufTy).Contents (Elt F) → (⟨S1024x2048, .f32⟩ : BufTy).Contents (Elt F) → (⟨S4096x2048, .f32⟩ : BufTy).Contents (Elt F)),
    binary main_v0 main_v1 main_v4 ((fun l r => Host.dotGeneral dot_S4096x2048_S1024x2048_S4096x1024_1_1_0_0_n_n none l r) : (⟨S4096x2048, .f32⟩ : BufTy).Contents (Elt F) → (⟨S1024x2048, .f32⟩ : BufTy).Contents (Elt F) → (⟨S4096x1024, .f32⟩ : BufTy).Contents (Elt F)) ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨unary_bufs_sub .., unary_bufs_sub .., nullary_bufs_sub .., unary_bufs_sub .., binary_bufs_sub .., binary_bufs_sub ..⟩

/-- The product as the program computes it. -/
theorem product (x : FVec Ideal S4096x2048 .bf16) (w : FVec Ideal S1024x2048 .bf16) :
    Host.dotGeneral dot_S4096x2048_S1024x2048_S4096x1024_1_1_0_0_n_n none (extf (F := Ideal) (φ := .bf16) .f32 x bitsLt_bf16_f32) (extf (F := Ideal) (φ := .bf16) .f32 w bitsLt_bf16_f32)
      = nt .f32 x w := by
  funext y
  obtain ⟨i, j, rfl⟩ : ∃ (i : Fin 4096) (j : Fin 1024), y = ix2 i j := ⟨y 0, y 1, by idx_vars y⟩
  refine Eq.trans (b := ∑ k : Fin 2048, x (ix2 i k) * w (ix2 j k)) (by pointwise [dot_S4096x2048_S1024x2048_S4096x1024_1_1_0_0_n_n]) ?_
  rfl

/-- The result: the product of the arguments. -/
def val (m : (ℓ : Loc nD τ sig) → Buf (Elt Ideal) ℓ) (c : Dev nD) : FVec Ideal S4096x1024 .f32 := nt .f32 (m ((c.tc : Thread nD τ).loc main_arg0)) (m ((c.tc : Thread nD τ).loc main_arg1))

set_option maxRecDepth 100000 in
theorem after_val (m : (ℓ : Loc nD τ sig) → Buf (Elt Ideal) ℓ) (c : Dev nD) : after ops (launchContents m c) main_v4 = val m c := by
  simp only [ops, TRef.nullary, TRef.ternary, TRef.unary, TRef.toBuf, TRef.ofBuf, cast_eq]
  after_results_simp
  exact product _ _

theorem after_arg0 (m : (ℓ : Loc nD τ sig) → Buf (Elt Ideal) ℓ) (c : Dev nD) : after ops (launchContents m c) main_arg0 = m ((c.tc : Thread nD τ).loc main_arg0) := by
  simp only [ops, TRef.nullary, TRef.ternary, TRef.unary, TRef.toBuf, TRef.ofBuf, cast_eq]
  after_results_simp <;> rfl

theorem after_arg1 (m : (ℓ : Loc nD τ sig) → Buf (Elt Ideal) ℓ) (c : Dev nD) : after ops (launchContents m c) main_arg1 = m ((c.tc : Thread nD τ).loc main_arg1) := by
  simp only [ops, TRef.nullary, TRef.ternary, TRef.unary, TRef.toBuf, TRef.ofBuf, cast_eq]
  after_results_simp <;> rfl

/-- Every execution from a memory with zero counters ends with the product as the result and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v4) = val m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v4).trans (after_val m c), (h c main_arg0).trans (after_arg0 m c), (h c main_arg1).trans (after_arg1 m c)⟩)
    (run_seq scopedRefs_eq scopedSems_eq defs main (fun _ => ops) main_eq (fun _ => ops_sub) m ρ)

end Cert.RefDyProjIdeal.Steps

end
-- ==== Proof.RunDyProjB.lean ====
/- The host program `RefDyProjBIdeal` as the list of its operations, and its run: the result is the product of the arguments, the
   arguments unchanged. -/
module

public import proofs.«01_k».proof.Proof.Gen.RefDyProjBIdeal
public import proofs.«01_k».proof.Proof.Mm
public import Idealize.ShloMosaic.Lib.StableHlo.Run

@[expose] public section

set_option maxRecDepth 16384

noncomputable section

namespace Cert.RefDyProjBIdeal.Steps

open Cert.RefDyProjBIdeal Cert.RefDyProjBIdeal.Gen Cert.Mm Idealize.ShloMosaic Idealize.ShloMosaic.TcCoe Idealize.SL.Sem Idealize.ShloMosaic.StableHlo

variable {F : FTy → Type} [FloatOps F]

/-- The operations in order. -/
abbrev ops : List (HloOp τ sig (Elt F)) :=
  [ unary main_arg0 main_v0 ((extf .f32 · bitsLt_bf16_f32) : (⟨S4096x2048, .bf16⟩ : BufTy).Contents (Elt F) → (⟨S4096x2048, .f32⟩ : BufTy).Contents (Elt F)),
    unary main_arg1 main_v1 ((extf .f32 · bitsLt_bf16_f32) : (⟨S1024x2048, .bf16⟩ : BufTy).Contents (Elt F) → (⟨S1024x2048, .f32⟩ : BufTy).Contents (Elt F)),
    nullary main_cst (constant S_ .f32 0x00000000#32),
    unary main_cst main_v2 (broadcastInDim S4096x1024 ![] bcast_S_S4096x1024 : (⟨S_, .f32⟩ : BufTy).Contents (Elt F) → (⟨S4096x1024, .f32⟩ : BufTy).Contents (Elt F)),
    binary main_v2 main_v1 main_v3 ((fun l r => Host.dotGeneral dot_S4096x1024_S1024x2048_S4096x2048_1_0_0_1_n_n none l r) : (⟨S4096x1024, .f32⟩ : BufTy).Contents (Elt F) → (⟨S1024x2048, .f32⟩ : BufTy).Contents (Elt F) → (⟨S4096x2048, .f32⟩ : BufTy).Contents (Elt F)),
    binary main_v0 main_v1 main_v4 ((fun l r => Host.dotGeneral dot_S4096x2048_S1024x2048_S4096x1024_1_1_0_0_n_n none l r) : (⟨S4096x2048, .f32⟩ : BufTy).Contents (Elt F) → (⟨S1024x2048, .f32⟩ : BufTy).Contents (Elt F) → (⟨S4096x1024, .f32⟩ : BufTy).Contents (Elt F)),
    unary main_v4 main_v5 ((truncf .bf16 · bitsLt_bf16_f32) : (⟨S4096x1024, .f32⟩ : BufTy).Contents (Elt F) → (⟨S4096x1024, .bf16⟩ : BufTy).Contents (Elt F)) ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨unary_bufs_sub .., unary_bufs_sub .., nullary_bufs_sub .., unary_bufs_sub .., binary_bufs_sub .., binary_bufs_sub .., unary_bufs_sub ..⟩

/-- The product as the program computes it. -/
theorem product (x : FVec Ideal S4096x2048 .bf16) (w : FVec Ideal S1024x2048 .bf16) :
    truncf (F := Ideal) .bf16 (Host.dotGeneral dot_S4096x2048_S1024x2048_S4096x1024_1_1_0_0_n_n none (extf (F := Ideal) (φ := .bf16) .f32 x bitsLt_bf16_f32) (extf (F := Ideal) (φ := .bf16) .f32 w bitsLt_bf16_f32)) bitsLt_bf16_f32
      = nt .bf16 x w := by
  funext y
  obtain ⟨i, j, rfl⟩ : ∃ (i : Fin 4096) (j : Fin 1024), y = ix2 i j := ⟨y 0, y 1, by idx_vars y⟩
  refine Eq.trans (b := ∑ k : Fin 2048, x (ix2 i k) * w (ix2 j k)) (by pointwise [dot_S4096x2048_S1024x2048_S4096x1024_1_1_0_0_n_n]) ?_
  rfl

/-- The result: the product of the arguments. -/
def val (m : (ℓ : Loc nD τ sig) → Buf (Elt Ideal) ℓ) (c : Dev nD) : FVec Ideal S4096x1024 .bf16 := nt .bf16 (m ((c.tc : Thread nD τ).loc main_arg0)) (m ((c.tc : Thread nD τ).loc main_arg1))

set_option maxRecDepth 100000 in
theorem after_val (m : (ℓ : Loc nD τ sig) → Buf (Elt Ideal) ℓ) (c : Dev nD) : after ops (launchContents m c) main_v5 = val m c := by
  simp only [ops, TRef.nullary, TRef.ternary, TRef.unary, TRef.toBuf, TRef.ofBuf, cast_eq]
  after_results_simp
  exact product _ _

theorem after_arg0 (m : (ℓ : Loc nD τ sig) → Buf (Elt Ideal) ℓ) (c : Dev nD) : after ops (launchContents m c) main_arg0 = m ((c.tc : Thread nD τ).loc main_arg0) := by
  simp only [ops, TRef.nullary, TRef.ternary, TRef.unary, TRef.toBuf, TRef.ofBuf, cast_eq]
  after_results_simp <;> rfl

theorem after_arg1 (m : (ℓ : Loc nD τ sig) → Buf (Elt Ideal) ℓ) (c : Dev nD) : after ops (launchContents m c) main_arg1 = m ((c.tc : Thread nD τ).loc main_arg1) := by
  simp only [ops, TRef.nullary, TRef.ternary, TRef.unary, TRef.toBuf, TRef.ofBuf, cast_eq]
  after_results_simp <;> rfl

/-- Every execution from a memory with zero counters ends with the product as the result and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v5) = val m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v5).trans (after_val m c), (h c main_arg0).trans (after_arg0 m c), (h c main_arg1).trans (after_arg1 m c)⟩)
    (run_seq scopedRefs_eq scopedSems_eq defs main (fun _ => ops) main_eq (fun _ => ops_sub) m ρ)

end Cert.RefDyProjBIdeal.Steps

end
-- ==== Proof.ClaimPlain.lean ====
/- The products started on the arguments as they are: kernel and reference end with equal results. -/
module

public import proofs.«01_k».proof.Defs
public import proofs.«01_k».proof.Proof.DwOutVal
public import proofs.«01_k».proof.Proof.DmergedVal
public import proofs.«01_k».proof.Proof.DwProjVal
public import proofs.«01_k».proof.Proof.DyProjVal
public import proofs.«01_k».proof.Proof.DyProjBVal
public import proofs.«01_k».proof.Proof.RunDwOut
public import proofs.«01_k».proof.Proof.RunDmerged
public import proofs.«01_k».proof.Proof.RunDwProj
public import proofs.«01_k».proof.Proof.RunDyProj
public import proofs.«01_k».proof.Proof.RunDyProjB

@[expose] public section

set_option maxRecDepth 16384

noncomputable section

open Idealize.ShloMosaic Idealize.ShloMosaic.TcCoe Idealize.SL.Sem
open Idealize.ShloMosaic.Pipeline (Dat)

namespace Cert.ProofMm

/-- The kernel for the gradient of the output projection's weight and the reference, both idealized, end with equal results. -/
theorem algebraicDwOut : Cert.algebraic_DwOutIdeal_RefDwOutIdeal (hDwOutIdeal := Cert.DwOutIdeal.Gen.facts) (hRefDwOutIdeal := Cert.RefDwOutIdeal.Gen.facts) := by
  intro m ρ m' ρ' _ ha
  refine ⟨_, Cert.DwOutIdeal.Value.run_blocks m ρ, ?_⟩
  refine (θ_run Cert.RefDwOutIdeal.defs _ _).mono (fun r h c => ⟨(h c).1.trans ?_, (h c).2⟩) (Cert.RefDwOutIdeal.Steps.run m' ρ')
  refine Eq.trans ?_ (Cert.DwOutIdeal.Final.res m c).symm
  exact congrArg₂ (Mm.tn .bf16) (ha c).1 (ha c).2

/-- The kernel for the gradient of the merged heads and the reference, both idealized, end with equal results. -/
theorem algebraicDmerged : Cert.algebraic_DmergedIdeal_RefDmergedIdeal (hDmergedIdeal := Cert.DmergedIdeal.Gen.facts) (hRefDmergedIdeal := Cert.RefDmergedIdeal.Gen.facts) := by
  intro m ρ m' ρ' _ ha
  refine ⟨_, Cert.DmergedIdeal.Value.run_blocks m ρ, ?_⟩
  refine (θ_run Cert.RefDmergedIdeal.defs _ _).mono (fun r h c => ⟨(h c).1.trans ?_, (h c).2⟩) (Cert.RefDmergedIdeal.Steps.run m' ρ')
  refine Eq.trans ?_ (Cert.DmergedIdeal.Final.res m c).symm
  exact congrArg₂ (Mm.nt .f32) (ha c).1 (ha c).2

/-- The kernel for the gradient of a projection's weight and the reference, both idealized, end with equal results. -/
theorem algebraicDwProj : Cert.algebraic_DwProjIdeal_RefDwProjIdeal (hDwProjIdeal := Cert.DwProjIdeal.Gen.facts) (hRefDwProjIdeal := Cert.RefDwProjIdeal.Gen.facts) := by
  intro m ρ m' ρ' _ ha
  refine ⟨_, Cert.DwProjIdeal.Value.run_blocks m ρ, ?_⟩
  refine (θ_run Cert.RefDwProjIdeal.defs _ _).mono (fun r h c => ⟨(h c).1.trans ?_, (h c).2⟩) (Cert.RefDwProjIdeal.Steps.run m' ρ')
  refine Eq.trans ?_ (Cert.DwProjIdeal.Final.res m c).symm
  exact congrArg₂ (Mm.tn .bf16) (ha c).1 (ha c).2

/-- The kernel for the gradient of a projection's input and the reference, both idealized, end with equal results. -/
theorem algebraicDyProj : Cert.algebraic_DyProjIdeal_RefDyProjIdeal (hDyProjIdeal := Cert.DyProjIdeal.Gen.facts) (hRefDyProjIdeal := Cert.RefDyProjIdeal.Gen.facts) := by
  intro m ρ m' ρ' _ ha
  refine ⟨_, Cert.DyProjIdeal.Value.run_blocks m ρ, ?_⟩
  refine (θ_run Cert.RefDyProjIdeal.defs _ _).mono (fun r h c => ⟨(h c).1.trans ?_, (h c).2⟩) (Cert.RefDyProjIdeal.Steps.run m' ρ')
  refine Eq.trans ?_ (Cert.DyProjIdeal.Final.res m c).symm
  exact congrArg₂ (Mm.nt .f32) (ha c).1 (ha c).2

/-- The kernel for the gradient of a projection's input, rounded and the reference, both idealized, end with equal results. -/
theorem algebraicDyProjB : Cert.algebraic_DyProjBIdeal_RefDyProjBIdeal (hDyProjBIdeal := Cert.DyProjBIdeal.Gen.facts) (hRefDyProjBIdeal := Cert.RefDyProjBIdeal.Gen.facts) := by
  intro m ρ m' ρ' _ ha
  refine ⟨_, Cert.DyProjBIdeal.Value.run_blocks m ρ, ?_⟩
  refine (θ_run Cert.RefDyProjBIdeal.defs _ _).mono (fun r h c => ⟨(h c).1.trans ?_, (h c).2⟩) (Cert.RefDyProjBIdeal.Steps.run m' ρ')
  refine Eq.trans ?_ (Cert.DyProjBIdeal.Final.res m c).symm
  exact congrArg₂ (Mm.nt .bf16) (ha c).1 (ha c).2

end Cert.ProofMm

end
-- ==== Proof.DwDownVal.lean ====
/- The product for the down projection's weight gradient. -/
module

public import proofs.«01_k».proof.Proof.Gen.DwDownIdeal.Frame
public import proofs.«01_k».proof.Proof.Mm
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.DwDownIdeal.Final

open Cert.DwDownIdeal Cert.DwDownIdeal.Gen Cert.Mm

/-! ## What a grid point computes -/

theorem zero_at (r : Fin 512) (l : Fin 1024) : k0_pay1 (F := Ideal) (ix2 r l) = 0 := by
  pointwise [k0_pay1]

theorem step_at (v : Vec Ideal S512x1024 .f32) (x : Vec Ideal S512x512 .bf16) (w : Vec Ideal S512x1024 .bf16) (r : Fin 512) (l : Fin 1024) :
    k0_pay2 v x w (ix2 r l) = v (ix2 r l) + ∑ k, x (ix2 k r) * w (ix2 k l) := by
  pointwise [k0_pay2]

/-! ## The blocks of a grid point -/

theorem idx : ∀ t : Fin cfg0.N, win0_0.index t = ![t.val % 8, t.val / 16] ∧ win0_1.index t = ![t.val % 8, t.val / 8 % 2] ∧ win0_2.index t = ![t.val / 16, t.val / 8 % 2] :=
  (by decide +kernel : ∀ t : Fin grid0.N, _)

theorem lt (t : Fin cfg0.N) : t.val < 176 := lt_of_lt_of_eq t.isLt (by decide)

def row (t : Fin cfg0.N) (r : Fin 512) : Fin 5632 := ⟨t.val / 16 * 512 + r.val, by have := lt t; omega⟩
def col (t : Fin cfg0.N) (l : Fin 1024) : Fin 2048 := ⟨t.val / 8 % 2 * 1024 + l.val, by omega⟩
def dep (t : Fin cfg0.N) (k : Fin 512) : Fin 4096 := ⟨512 * (t.val % 8) + k.val, by omega⟩

theorem emb0 (t : Fin cfg0.N) (X : Vec Ideal S4096x5632 .bf16) (r : Fin 512) (k : Fin 512) : X ((win0_0.blk t).view.emb (ix2 k r)) = X (ix2 (dep t k) (row t r)) := by
  blk_ext [idx t, row, col, dep]

theorem emb1 (t : Fin cfg0.N) (X : Vec Ideal S4096x2048 .bf16) (l : Fin 1024) (k : Fin 512) : X ((win0_1.blk t).view.emb (ix2 k l)) = X (ix2 (dep t k) (col t l)) := by
  blk_ext [idx t, row, col, dep]

theorem emb2 (t : Fin cfg0.N) (X : Vec Ideal S5632x2048 .bf16) (r : Fin 512) (l : Fin 1024) : X ((win0_2.blk t).view.emb (ix2 r l)) = X (ix2 (row t r) (col t l)) := by
  blk_ext [idx t, row, col, dep]

theorem rd0 (c : Dev nD) (t : Fin cfg0.N) (W : (b : Ref sig .tc) → Buf (Elt Ideal) ((c.tc : Thread nD τ).loc b)) (r : Fin 512) (k : Fin 512) :
    (((cfg0.win 0).blk t).view.read (Elt Ideal) (W (Pipeline.arrRef spec0 0)) : Vec Ideal S512x512 .bf16) (ix2 k r) = (W (Pipeline.arrRef spec0 0) : FVec Ideal S4096x5632 .bf16) (ix2 (dep t k) (row t r)) := by
  blk_simp
  exact emb0 t _ r k

theorem rd1 (c : Dev nD) (t : Fin cfg0.N) (W : (b : Ref sig .tc) → Buf (Elt Ideal) ((c.tc : Thread nD τ).loc b)) (l : Fin 1024) (k : Fin 512) :
    (((cfg0.win 1).blk t).view.read (Elt Ideal) (W (Pipeline.arrRef spec0 1)) : Vec Ideal S512x1024 .bf16) (ix2 k l) = (W (Pipeline.arrRef spec0 1) : FVec Ideal S4096x2048 .bf16) (ix2 (dep t k) (col t l)) := by
  blk_simp
  exact emb1 t _ l k

section

variable (m : (ℓ : Loc nD τ sig) → Buf (Elt Ideal) ℓ) (c : Dev nD)

/-- The product's first array. -/
abbrev X : FVec Ideal S4096x5632 .bf16 := V m c (Pipeline.arrRef spec0 0)

/-- The product's second array. -/
abbrev W : FVec Ideal S4096x2048 .bf16 := V m c (Pipeline.arrRef spec0 1)

/-- A grid point's block of the first array. -/
abbrev B0 (t : Fin cfg0.N) : FVec Ideal S512x512 .bf16 := iblk m c 0 t

/-- A grid point's block of the second array. -/
abbrev B1 (t : Fin cfg0.N) : FVec Ideal S512x1024 .bf16 := iblk m c 1 t

theorem blk0 (t : Fin cfg0.N) (r : Fin 512) (k : Fin 512) : B0 m c t (ix2 k r) = X m c (ix2 (dep t k) (row t r)) := rd0 c t (V m c) r k

theorem blk1 (t : Fin cfg0.N) (l : Fin 1024) (k : Fin 512) : B1 m c t (ix2 k l) = W m c (ix2 (dep t k) (col t l)) := rd1 c t (V m c) l k

/-! ## The sums a grid point carries on -/

theorem first (t : Fin cfg0.N) (h0 : t.val % 8 = 0) (y : S512x1024.Idx) :
    (outsAt0 m c t.val t.isLt).2 y = k0_pay2 (k0_pay1 (F := Ideal)) (iblk m c 0 t) (iblk m c 1 t) y := by
  rw [outsAt0_A m c t h0 (by omega)]
  dsimp only
  unfold sout0_A_0
  frame_out

theorem next (t : Fin cfg0.N) (h0 : ¬ t.val % 8 = 0) (y : S512x1024.Idx) :
    (outsAt0 m c t.val t.isLt).2 y = k0_pay2 (outsAt0 m c (t.val - 1) (Nat.lt_of_le_of_lt (Nat.sub_le _ _) t.isLt)).2 (iblk m c 0 t) (iblk m c 1 t) y := by
  by_cases h1 : t.val % 8 = 7
  · rw [outsAt0_C m c t h0 h1]
    dsimp only
    unfold sout0_C_0
    frame_out
    erw [Memref.IsWhole.read_unread]
  · rw [outsAt0_B m c t h0 h1]
    dsimp only
    unfold sout0_B_0
    frame_out
    erw [Memref.IsWhole.read_unread]

theorem last (t : Fin cfg0.N) (h1 : t.val % 8 = 7) (y : S512x1024.Idx) :
    (outsAt0 m c t.val t.isLt).1 y = k0_pay3 (outsAt0 m c t.val t.isLt).2 y := by
  rw [outsAt0_C m c t (by omega) h1]
  dsimp only
  unfold out0_C_2 sout0_C_0
  frame_out

/-- After the last tile a grid point's sums are the product's entries. -/
theorem whole (t : Fin cfg0.N) (h1 : t.val % 8 = 7) (r : Fin 512) (l : Fin 1024) :
    (outsAt0 m c t.val t.isLt).2 (ix2 r l) = tn .f32 (X m c) (W m c) (ix2 (row t r) (col t l)) := by
  have tile : ∀ s : Fin cfg0.N, ∑ k, B0 m c s (ix2 k r) * B1 m c s (ix2 k l)
      = ∑ k : Fin 512, X m c (ix2 (dep s k) (row s r)) * W m c (ix2 (dep s k) (col s l)) := fun s =>
    Finset.sum_congr rfl fun k _ => by rw [blk0, blk1]
  refine tiled_last (q := 8) (d := 512) (fun s : Fin cfg0.N => (outsAt0 m c s.val s.isLt).2 (ix2 r l))
    (fun s k => X m c (ix2 k (row s r)) * W m c (ix2 k (col s l))) (fun s x => by omega) (fun s h => ?_) (fun s h => ?_) (fun s h => ?_) t (by omega)
  · refine (first m c s h _).trans ((step_at _ _ _ r l).trans ?_)
    rw [zero_at, tile s]
    rfl
  · refine (next m c s h _).trans ((step_at _ _ _ r l).trans ?_)
    rw [tile s]
    rfl
  · have e1 : row ⟨s.val - 1, by omega⟩ r = row s r := Fin.ext (by simp only [row]; omega)
    have e2 : col ⟨s.val - 1, by omega⟩ l = col s l := Fin.ext (by simp only [col]; omega)
    simp only [e1, e2]

/-- The call leaves the product. -/
theorem res : (dats m 0 c).arrAt 2 cfg0.N = tn .bf16 (X m c) (W m c) := by
  refine (dats m 0 c).arrAt_eq_of_covers 2 _ (by decide +kernel) fun t ht y => ?_
  have h1 := (flush0_2 t).mp ht
  blk_simp [idx t]
  rw [after0_2]
  obtain ⟨r, l, rfl⟩ : ∃ (r : Fin 512) (l : Fin 1024), y = ix2 r l := ⟨y 0, y 1, by idx_vars y⟩
  refine (last m c t h1 _).trans ?_
  refine Eq.trans ?_ (emb2 t (tn .bf16 (X m c) (W m c)) r l).symm
  exact whole m c t h1 r l

end

end Cert.DwDownIdeal.Final

end
-- ==== Proof.Layout.lean ====
/- Arrays laid out for a product: columns moved apart with zeros between them, what the product of such arrays is, and the
   columns taken back out of it. -/
module

public import proofs.«01_k».proof.Proof.Mm
public import Idealize.ShloMosaic.Lib.KernelVsHost
public import Idealize.ShloMosaic.Lib.Pipeline.Value

@[expose] public section

set_option maxRecDepth 16384

noncomputable section

open Idealize.ShloMosaic Idealize.ShloMosaic.TcCoe Idealize.SL.Sem

namespace Cert.Mm

/-! ## Laid out columns -/

section

variable {a b n N : ℕ}

/-- `y` holds column `j` of `x` in column `e j` and zeros in every other column. -/
structure Lays (x : FVec Ideal ⟨2, ![a, n]⟩ .bf16) (y : FVec Ideal ⟨2, ![a, N]⟩ .bf16) (e : Fin n → Fin N) : Prop where
  put : ∀ i j, y (ix2 i (e j)) = x (ix2 i j)
  free : ∀ i k, k ∉ Set.range e → y (ix2 i k) = 0

/-- The same of an array equal to `y`. -/
theorem Lays.of_eq {x : FVec Ideal ⟨2, ![a, n]⟩ .bf16} {y z : FVec Ideal ⟨2, ![a, N]⟩ .bf16} {e : Fin n → Fin N} (h : Lays x y e) (hz : z = y) :
    Lays x z e := hz ▸ h

/-- Laying out both factors alike changes no sum of products. -/
theorem nt_lays (φ : FTy) {x : FVec Ideal ⟨2, ![a, n]⟩ .bf16} {x' : FVec Ideal ⟨2, ![a, N]⟩ .bf16} {w : FVec Ideal ⟨2, ![b, n]⟩ .bf16}
    {w' : FVec Ideal ⟨2, ![b, N]⟩ .bf16} {e : Fin n → Fin N} (he : Function.Injective e) (hx : Lays x x' e) (hw : Lays w w' e) :
    nt φ x' w' = nt φ x w := by
  funext y
  refine (Fintype.sum_of_injective e he _ _ (fun k hk => ?_) (fun k => ?_)).symm
  · exact mul_eq_zero_of_left (hx.free (y 0) k hk) _
  · exact (congrArg₂ (· * ·) (hx.put (y 0) k) (hw.put (y 1) k)).symm

/-- A laid out right factor puts the product's columns where its own are. -/
theorem tn_lays (φ : FTy) {K : ℕ} (x : FVec Ideal ⟨2, ![K, a]⟩ .bf16) {w : FVec Ideal ⟨2, ![K, n]⟩ .bf16} {w' : FVec Ideal ⟨2, ![K, N]⟩ .bf16}
    {e : Fin n → Fin N} (hw : Lays w w' e) (i : Fin a) (j : Fin n) : tn φ x w' (ix2 i (e j)) = tn φ x w (ix2 i j) := by
  show (∑ k, x (ix2 k i) * w' (ix2 k (e j)) : EReal) = ∑ k, x (ix2 k i) * w (ix2 k j)
  simp only [hw.put]

end

/-! ## The host's operations on columns -/

section

variable {a n N : ℕ}

/-- Columns `o` on, at an index. -/
theorem cols_at {φ : FTy} (x : FVec Ideal ⟨2, ![a, N]⟩ φ) (o : ℕ) (h : Shape.Slices (⟨2, ![a, N]⟩ : Shape) ![0, o] ⟨2, ![a, n]⟩)
    (i : Fin a) (j : Fin n) (k : Fin N) (hk : k.val = o + j.val) : extractStridedSlice ⟨2, ![a, n]⟩ ![0, o] x h (ix2 i j) = x (ix2 i k) := by
  refine congrArg x (funext fun d => ?_)
  match d with
  | 0 => exact Fin.ext (Nat.zero_add _)
  | 1 => exact Fin.ext hk.symm

/-- The first rows, at an index. -/
theorem rows_at {φ : FTy} {A : ℕ} (x : FVec Ideal ⟨2, ![A, n]⟩ φ) (h : Shape.Slices (⟨2, ![A, n]⟩ : Shape) ![0, 0] ⟨2, ![a, n]⟩)
    (i : Fin a) (j : Fin n) (k : Fin A) (hk : k.val = i.val) : extractStridedSlice ⟨2, ![a, n]⟩ ![0, 0] x h (ix2 i j) = x (ix2 k j) := by
  refine congrArg x (funext fun d => ?_)
  match d with
  | 0 => exact Fin.ext ((Nat.zero_add _).trans hk.symm)
  | 1 => exact Fin.ext (Nat.zero_add _)

/-- The padding value. -/
def zpad : FVec Ideal ⟨0, ![]⟩ .bf16 := sitofp (F := Ideal) .bf16 (constantI ⟨0, ![]⟩ 32 0#32)

/-- It is zero. -/
theorem zpad_at (i : Shape.Idx ⟨0, ![]⟩) : zpad i = 0 := by
  show ((((0#32 : BitVec 32).toInt : ℤ) : ℝ) : EReal) = 0
  norm_num

/-- Padded columns at a column of the operand. -/
theorem padCols_in {φ : FTy} {p : ℕ} {u : Shape} (x : FVec Ideal ⟨2, ![a, n]⟩ φ) (v : FVec Ideal u φ)
    (h : Shape.Pads (⟨2, ![a, n]⟩ : Shape) ![0, 0] ![0, p] ![0, 0] ⟨2, ![a, N]⟩) (hu : 0 < u.numel) (i : Fin a) (j : Fin N) (k : Fin n)
    (hk : j.val = k.val) : pad ⟨2, ![a, N]⟩ ![0, 0] ![0, p] ![0, 0] x v h hu (ix2 i j) = x (ix2 i k) := by
  refine pad_apply_of_inside _ _ _ x v h hu _ _ fun d => ?_
  match d with
  | 0 => exact ((Nat.zero_add _).trans (Nat.mul_one _)).symm
  | 1 => exact (hk.trans ((Nat.zero_add _).trans (Nat.mul_one _)).symm)

/-- Padded columns at a column added. -/
theorem padCols_out {φ : FTy} {p : ℕ} {u : Shape} (x : FVec Ideal ⟨2, ![a, n]⟩ φ) (v : FVec Ideal u φ)
    (h : Shape.Pads (⟨2, ![a, n]⟩ : Shape) ![0, 0] ![0, p] ![0, 0] ⟨2, ![a, N]⟩) (hu : 0 < u.numel) (i : Fin a) (j : Fin N) (hj : n ≤ j.val) :
    pad ⟨2, ![a, N]⟩ ![0, 0] ![0, p] ![0, 0] x v h hu (ix2 i j) = v (Shape.Idx.first hu) := by
  refine pad_apply_of_not_inside _ _ _ x v h hu _ 1 fun hh => ?_
  have := hh.2.2
  have e : (j.val - 0) / (0 + 1) < n := this
  simp at e
  omega

/-- Padded rows at a row of the operand. -/
theorem padRows_in {φ : FTy} {A p : ℕ} {u : Shape} (x : FVec Ideal ⟨2, ![a, n]⟩ φ) (v : FVec Ideal u φ)
    (h : Shape.Pads (⟨2, ![a, n]⟩ : Shape) ![0, 0] ![p, 0] ![0, 0] ⟨2, ![A, n]⟩) (hu : 0 < u.numel) (i : Fin A) (k : Fin n) (l : Fin a)
    (hl : i.val = l.val) : pad ⟨2, ![A, n]⟩ ![0, 0] ![p, 0] ![0, 0] x v h hu (ix2 i k) = x (ix2 l k) := by
  refine pad_apply_of_inside _ _ _ x v h hu _ _ fun d => ?_
  match d with
  | 0 => exact (hl.trans ((Nat.zero_add _).trans (Nat.mul_one _)).symm)
  | 1 => exact ((Nat.zero_add _).trans (Nat.mul_one _)).symm

/-- A row of arrays side by side at a column of its piece `q`. -/
theorem piece_at {φ : FTy} (xs : List ((s : Shape) × (FVec Ideal s φ))) (h : Shape.Concatenates (xs.map (·.1)) ⟨2, ![a, N]⟩ 1) (q : ℕ)
    (hq : q < xs.length) (x : FVec Ideal ⟨2, ![a, n]⟩ φ) (hx : xs[q] = ⟨⟨2, ![a, n]⟩, x⟩) (pre : ℕ)
    (hpre : (((xs.take q).map (·.1)).map fun s => if h : s.rank = 2 then s.size (Fin.cast h.symm 1) else 0).sum = pre)
    (i : Fin a) (j : Fin N) (k : Fin n) (hk : j.val = pre + k.val) : concatenate ⟨2, ![a, N]⟩ 1 xs h (ix2 i j) = x (ix2 i k) := by
  refine concatenate_apply_piece 1 xs h (ix2 i j) q hq _ x hx rfl pre hpre (ix2 i k) (fun d hd => ?_) hk.symm
  match d with
  | 0 => rfl
  | 1 => exact absurd rfl hd

end

/-! ## The gate's and the value's columns -/

section

variable {a : ℕ}

/-- Where a column of the gate's and the value's weights lies: each half padded to a multiple of 512 columns. -/
def upP (j : Fin 11008) : Fin 11264 := ⟨if j.val < 5504 then j.val else j.val + 128, by split <;> omega⟩

theorem upP_inj : Function.Injective upP := fun i j h => by
  have e := congrArg Fin.val h
  simp only [upP] at e
  refine Fin.ext ?_
  split at e <;> split at e <;> omega

theorem upP_left (j : Fin 11008) (h : j.val < 5504) : (upP j).val = j.val := if_pos h
theorem upP_right (j : Fin 11008) (h : ¬ j.val < 5504) : (upP j).val = j.val + 128 := if_neg h

/-- The two halves of an array, each padded, side by side. -/
theorem up_lays (x : FVec Ideal ⟨2, ![a, 11008]⟩ .bf16) (s0 : Shape.Slices (⟨2, ![a, 11008]⟩ : Shape) ![0, 0] ⟨2, ![a, 5504]⟩)
    (s1 : Shape.Slices (⟨2, ![a, 11008]⟩ : Shape) ![0, 5504] ⟨2, ![a, 5504]⟩)
    (p : Shape.Pads (⟨2, ![a, 5504]⟩ : Shape) ![0, 0] ![0, 128] ![0, 0] ⟨2, ![a, 5632]⟩) (u : 0 < Shape.numel ⟨0, ![]⟩)
    (h : Shape.Concatenates [(⟨2, ![a, 5632]⟩ : Shape), ⟨2, ![a, 5632]⟩] ⟨2, ![a, 11264]⟩ 1) :
    Lays x (concatenate ⟨2, ![a, 11264]⟩ 1
      [⟨⟨2, ![a, 5632]⟩, pad ⟨2, ![a, 5632]⟩ ![0, 0] ![0, 128] ![0, 0] (extractStridedSlice ⟨2, ![a, 5504]⟩ ![0, 0] x s0) zpad p u⟩,
       ⟨⟨2, ![a, 5632]⟩, pad ⟨2, ![a, 5632]⟩ ![0, 0] ![0, 128] ![0, 0] (extractStridedSlice ⟨2, ![a, 5504]⟩ ![0, 5504] x s1) zpad p u⟩] h) upP where
  put i j := by
    by_cases hj : j.val < 5504
    · refine Eq.trans (piece_at (φ := .bf16) _ _ 0 (by simp) _ rfl 0 rfl i (upP j) ⟨j.val, by omega⟩ (by rw [upP_left j hj]; exact (Nat.zero_add _).symm)) (Eq.trans (padCols_in _ _ p u i _ ⟨j.val, hj⟩ rfl) ?_)
      exact cols_at x 0 s0 i _ j (Nat.zero_add _).symm
    · refine Eq.trans (piece_at (φ := .bf16) _ _ 1 (by simp) _ rfl 5632 rfl i (upP j) ⟨j.val - 5504, by omega⟩ (by rw [upP_right j hj]; show _ = 5632 + (j.val - 5504); omega)) (Eq.trans (padCols_in _ _ p u i _ ⟨j.val - 5504, by omega⟩ rfl) ?_)
      exact cols_at x 5504 s1 i _ j (by show j.val = 5504 + (j.val - 5504); omega)
  free i k hk := by
    have n1 : ¬ k.val < 5504 := fun h => hk ⟨⟨k.val, by omega⟩, Fin.ext (upP_left _ h)⟩
    have n2 : ¬ (5632 ≤ k.val ∧ k.val < 11136) := fun h => hk ⟨⟨k.val - 128, by omega⟩, Fin.ext ((upP_right _ (by show ¬ k.val - 128 < 5504; omega)).trans (by show k.val - 128 + 128 = k.val; omega))⟩
    by_cases hk : k.val < 5632
    · refine Eq.trans (piece_at (φ := .bf16) _ _ 0 (by simp) _ rfl 0 rfl i k ⟨k.val, hk⟩ (Nat.zero_add _).symm) (Eq.trans (padCols_out _ _ p u i _ (by show 5504 ≤ k.val; omega)) ?_)
      exact zpad_at _
    · refine Eq.trans (piece_at (φ := .bf16) _ _ 1 (by simp) _ rfl 5632 rfl i k ⟨k.val - 5632, by omega⟩ (by show k.val = 5632 + (k.val - 5632); omega)) (Eq.trans (padCols_out _ _ p u i _ (by show 5504 ≤ k.val - 5632; omega)) ?_)
      exact zpad_at _

/-- The columns of both halves taken back. -/
theorem up_back {φ : FTy} (x : FVec Ideal ⟨2, ![a, 11264]⟩ φ) (s0 : Shape.Slices (⟨2, ![a, 11264]⟩ : Shape) ![0, 0] ⟨2, ![a, 5504]⟩)
    (s1 : Shape.Slices (⟨2, ![a, 11264]⟩ : Shape) ![0, 5632] ⟨2, ![a, 5504]⟩)
    (h : Shape.Concatenates [(⟨2, ![a, 5504]⟩ : Shape), ⟨2, ![a, 5504]⟩] ⟨2, ![a, 11008]⟩ 1) (i : Fin a) (j : Fin 11008) :
    concatenate ⟨2, ![a, 11008]⟩ 1 [⟨⟨2, ![a, 5504]⟩, extractStridedSlice ⟨2, ![a, 5504]⟩ ![0, 0] x s0⟩,
      ⟨⟨2, ![a, 5504]⟩, extractStridedSlice ⟨2, ![a, 5504]⟩ ![0, 5632] x s1⟩] h (ix2 i j) = x (ix2 i (upP j)) := by
  by_cases hj : j.val < 5504
  · refine Eq.trans (piece_at (φ := φ) _ _ 0 (by simp) _ rfl 0 rfl i j ⟨j.val, hj⟩ (Nat.zero_add _).symm) ?_
    exact cols_at x 0 s0 i _ _ ((upP_left j hj).trans (Nat.zero_add _).symm)
  · refine Eq.trans (piece_at (φ := φ) _ _ 1 (by simp) _ rfl 5504 rfl i j ⟨j.val - 5504, by omega⟩ (by show j.val = 5504 + (j.val - 5504); omega)) ?_
    exact cols_at x 5632 s1 i _ _ ((upP_right j hj).trans (by show j.val + 128 = 5632 + (j.val - 5504); omega))

end

/-! ## The input projections' columns -/

section

variable {a : ℕ}

/-- Where a column of the input projections' weights lies: the narrow ones behind the wide ones. -/
def inP (j : Fin 15384) : Fin 15488 :=
  ⟨if j.val < 3072 then j.val else if j.val < 3080 then j.val + 12288 else if j.val < 8200 then j.val - 8
    else if j.val < 8216 then j.val + 7168 else j.val - 24, by have := j.2; split_ifs <;> omega⟩

theorem inP_inj : Function.Injective inP := fun i j h => by
  have e := congrArg Fin.val h
  simp only [inP] at e
  refine Fin.ext ?_
  repeat' split at e
  all_goals omega

theorem inP_A (j : Fin 15384) (h : j.val < 3072) : (inP j).val = j.val := if_pos h
theorem inP_B (j : Fin 15384) (h : 3072 ≤ j.val) (h' : j.val < 3080) : (inP j).val = j.val + 12288 := by
  simp only [inP]; repeat' split
  all_goals omega
theorem inP_C (j : Fin 15384) (h : 3080 ≤ j.val) (h' : j.val < 8200) : (inP j).val = j.val - 8 := by
  simp only [inP]; repeat' split
  all_goals omega
theorem inP_D (j : Fin 15384) (h : 8200 ≤ j.val) (h' : j.val < 8216) : (inP j).val = j.val + 7168 := by
  simp only [inP]; repeat' split
  all_goals omega
theorem inP_E (j : Fin 15384) (h : 8216 ≤ j.val) : (inP j).val = j.val - 24 := by
  simp only [inP]; repeat' split
  all_goals omega

/-- The wide columns side by side, then the narrow ones padded. -/
theorem in_lays (x : FVec Ideal ⟨2, ![a, 15384]⟩ .bf16) (sA : Shape.Slices (⟨2, ![a, 15384]⟩ : Shape) ![0, 0] ⟨2, ![a, 3072]⟩) (sB : Shape.Slices (⟨2, ![a, 15384]⟩ : Shape) ![0, 3072] ⟨2, ![a, 8]⟩)
    (sC : Shape.Slices (⟨2, ![a, 15384]⟩ : Shape) ![0, 3080] ⟨2, ![a, 5120]⟩) (sD : Shape.Slices (⟨2, ![a, 15384]⟩ : Shape) ![0, 8200] ⟨2, ![a, 16]⟩) (sE : Shape.Slices (⟨2, ![a, 15384]⟩ : Shape) ![0, 8216] ⟨2, ![a, 7168]⟩)
    (hn : Shape.Concatenates [(⟨2, ![a, 8]⟩ : Shape), ⟨2, ![a, 16]⟩] ⟨2, ![a, 24]⟩ 1)
    (p : Shape.Pads (⟨2, ![a, 24]⟩ : Shape) ![0, 0] ![0, 104] ![0, 0] ⟨2, ![a, 128]⟩) (u : 0 < Shape.numel ⟨0, ![]⟩)
    (h : Shape.Concatenates [(⟨2, ![a, 3072]⟩ : Shape), ⟨2, ![a, 5120]⟩, ⟨2, ![a, 7168]⟩, ⟨2, ![a, 128]⟩] ⟨2, ![a, 15488]⟩ 1) :
    Lays x (concatenate ⟨2, ![a, 15488]⟩ 1
      [⟨⟨2, ![a, 3072]⟩, extractStridedSlice ⟨2, ![a, 3072]⟩ ![0, 0] x sA⟩, ⟨⟨2, ![a, 5120]⟩, extractStridedSlice ⟨2, ![a, 5120]⟩ ![0, 3080] x sC⟩, ⟨⟨2, ![a, 7168]⟩, extractStridedSlice ⟨2, ![a, 7168]⟩ ![0, 8216] x sE⟩,
       ⟨⟨2, ![a, 128]⟩, pad ⟨2, ![a, 128]⟩ ![0, 0] ![0, 104] ![0, 0] (concatenate ⟨2, ![a, 24]⟩ 1
          [⟨⟨2, ![a, 8]⟩, extractStridedSlice ⟨2, ![a, 8]⟩ ![0, 3072] x sB⟩, ⟨⟨2, ![a, 16]⟩, extractStridedSlice ⟨2, ![a, 16]⟩ ![0, 8200] x sD⟩] hn) zpad p u⟩] h) inP where
  put i j := by
    by_cases hA : j.val < 3072
    · refine Eq.trans (piece_at (φ := .bf16) _ _ 0 (by simp) _ rfl 0 rfl i (inP j) ⟨j.val, hA⟩ ((inP_A j hA).trans (Nat.zero_add _).symm)) ?_
      exact cols_at x 0 sA i _ j (Nat.zero_add _).symm
    by_cases hB : j.val < 3080
    · have e := inP_B j (by omega) hB
      refine Eq.trans (piece_at (φ := .bf16) _ _ 3 (by simp) _ rfl 15360 rfl i (inP j) ⟨j.val - 3072, by omega⟩ (by rw [e]; show _ = 15360 + (j.val - 3072); omega)) ?_
      refine Eq.trans (padCols_in _ _ p u i _ ⟨j.val - 3072, by omega⟩ rfl) ?_
      refine Eq.trans (piece_at (φ := .bf16) (n := 8) _ _ 0 (by simp) _ rfl 0 rfl i _ ⟨j.val - 3072, by omega⟩ (Nat.zero_add _).symm) ?_
      exact cols_at x 3072 sB i _ j (by show j.val = 3072 + (j.val - 3072); omega)
    by_cases hC : j.val < 8200
    · have e := inP_C j (by omega) hC
      refine Eq.trans (piece_at (φ := .bf16) _ _ 1 (by simp) _ rfl 3072 rfl i (inP j) ⟨j.val - 3080, by omega⟩ (by rw [e]; show _ = 3072 + (j.val - 3080); omega)) ?_
      exact cols_at x 3080 sC i _ j (by show j.val = 3080 + (j.val - 3080); omega)
    by_cases hD : j.val < 8216
    · have e := inP_D j (by omega) hD
      refine Eq.trans (piece_at (φ := .bf16) _ _ 3 (by simp) _ rfl 15360 rfl i (inP j) ⟨j.val - 8192, by omega⟩ (by rw [e]; show _ = 15360 + (j.val - 8192); omega)) ?_
      refine Eq.trans (padCols_in _ _ p u i _ ⟨j.val - 8192, by omega⟩ rfl) ?_
      refine Eq.trans (piece_at (φ := .bf16) (n := 16) _ _ 1 (by simp) _ rfl 8 rfl i _ ⟨j.val - 8200, by omega⟩ (by show j.val - 8192 = 8 + (j.val - 8200); omega)) ?_
      exact cols_at x 8200 sD i _ j (by show j.val = 8200 + (j.val - 8200); omega)
    · have e := inP_E j (by omega)
      refine Eq.trans (piece_at (φ := .bf16) _ _ 2 (by simp) _ rfl 8192 rfl i (inP j) ⟨j.val - 8216, by omega⟩ (by rw [e]; show _ = 8192 + (j.val - 8216); omega)) ?_
      exact cols_at x 8216 sE i _ j (by show j.val = 8216 + (j.val - 8216); omega)
  free i k hk := by
    have hr : ∀ j : Fin 15384, (inP j).val ≠ k.val := fun j h => hk ⟨j, Fin.ext h⟩
    have n : 15384 ≤ k.val := by
      by_contra hc
      by_cases hA : k.val < 3072
      · exact hr ⟨k.val, by omega⟩ (inP_A _ hA)
      by_cases hC : k.val < 8192
      · exact hr ⟨k.val + 8, by omega⟩ ((inP_C _ (by show 3080 ≤ k.val + 8; omega) (by show k.val + 8 < 8200; omega)).trans (by show k.val + 8 - 8 = k.val; omega))
      by_cases hE : k.val < 15360
      · exact hr ⟨k.val + 24, by omega⟩ ((inP_E _ (by show 8216 ≤ k.val + 24; omega)).trans (by show k.val + 24 - 24 = k.val; omega))
      by_cases hB : k.val < 15368
      · exact hr ⟨k.val - 12288, by omega⟩ ((inP_B _ (by show 3072 ≤ k.val - 12288; omega) (by show k.val - 12288 < 3080; omega)).trans (by show k.val - 12288 + 12288 = k.val; omega))
      · exact hr ⟨k.val - 7168, by omega⟩ ((inP_D _ (by show 8200 ≤ k.val - 7168; omega) (by show k.val - 7168 < 8216; omega)).trans (by show k.val - 7168 + 7168 = k.val; omega))
    refine Eq.trans (piece_at (φ := .bf16) _ _ 3 (by simp) _ rfl 15360 rfl i k ⟨k.val - 15360, by omega⟩ (by show k.val = 15360 + (k.val - 15360); omega)) ?_
    refine Eq.trans (padCols_out _ _ p u i _ (by show 24 ≤ k.val - 15360; omega)) ?_
    exact zpad_at _

/-- The columns taken back to their order. -/
theorem in_back {φ : FTy} (x : FVec Ideal ⟨2, ![a, 15488]⟩ φ) (sA : Shape.Slices (⟨2, ![a, 15488]⟩ : Shape) ![0, 0] ⟨2, ![a, 3072]⟩) (sB : Shape.Slices (⟨2, ![a, 15488]⟩ : Shape) ![0, 15360] ⟨2, ![a, 8]⟩)
    (sC : Shape.Slices (⟨2, ![a, 15488]⟩ : Shape) ![0, 3072] ⟨2, ![a, 5120]⟩) (sD : Shape.Slices (⟨2, ![a, 15488]⟩ : Shape) ![0, 15368] ⟨2, ![a, 16]⟩) (sE : Shape.Slices (⟨2, ![a, 15488]⟩ : Shape) ![0, 8192] ⟨2, ![a, 7168]⟩)
    (h : Shape.Concatenates [(⟨2, ![a, 3072]⟩ : Shape), ⟨2, ![a, 8]⟩, ⟨2, ![a, 5120]⟩, ⟨2, ![a, 16]⟩, ⟨2, ![a, 7168]⟩] ⟨2, ![a, 15384]⟩ 1)
    (i : Fin a) (j : Fin 15384) :
    concatenate ⟨2, ![a, 15384]⟩ 1 [⟨⟨2, ![a, 3072]⟩, extractStridedSlice ⟨2, ![a, 3072]⟩ ![0, 0] x sA⟩, ⟨⟨2, ![a, 8]⟩, extractStridedSlice ⟨2, ![a, 8]⟩ ![0, 15360] x sB⟩,
      ⟨⟨2, ![a, 5120]⟩, extractStridedSlice ⟨2, ![a, 5120]⟩ ![0, 3072] x sC⟩, ⟨⟨2, ![a, 16]⟩, extractStridedSlice ⟨2, ![a, 16]⟩ ![0, 15368] x sD⟩, ⟨⟨2, ![a, 7168]⟩, extractStridedSlice ⟨2, ![a, 7168]⟩ ![0, 8192] x sE⟩] h (ix2 i j)
      = x (ix2 i (inP j)) := by
  by_cases hA : j.val < 3072
  · refine Eq.trans (piece_at (φ := φ) _ _ 0 (by simp) _ rfl 0 rfl i j ⟨j.val, hA⟩ (Nat.zero_add _).symm) ?_
    exact cols_at x 0 sA i _ _ ((inP_A j hA).trans (Nat.zero_add _).symm)
  by_cases hB : j.val < 3080
  · refine Eq.trans (piece_at (φ := φ) _ _ 1 (by simp) _ rfl 3072 rfl i j ⟨j.val - 3072, by omega⟩ (by show j.val = 3072 + (j.val - 3072); omega)) ?_
    exact cols_at x 15360 sB i _ _ ((inP_B j (by omega) hB).trans (by show j.val + 12288 = 15360 + (j.val - 3072); omega))
  by_cases hC : j.val < 8200
  · refine Eq.trans (piece_at (φ := φ) _ _ 2 (by simp) _ rfl 3080 rfl i j ⟨j.val - 3080, by omega⟩ (by show j.val = 3080 + (j.val - 3080); omega)) ?_
    exact cols_at x 3072 sC i _ _ ((inP_C j (by omega) hC).trans (by show j.val - 8 = 3072 + (j.val - 3080); omega))
  by_cases hD : j.val < 8216
  · refine Eq.trans (piece_at (φ := φ) _ _ 3 (by simp) _ rfl 8200 rfl i j ⟨j.val - 8200, by omega⟩ (by show j.val = 8200 + (j.val - 8200); omega)) ?_
    exact cols_at x 15368 sD i _ _ ((inP_D j (by omega) hD).trans (by show j.val + 7168 = 15368 + (j.val - 8200); omega))
  · refine Eq.trans (piece_at (φ := φ) _ _ 4 (by simp) _ rfl 8216 rfl i j ⟨j.val - 8216, by omega⟩ (by show j.val = 8216 + (j.val - 8216); omega)) ?_
    exact cols_at x 8192 sE i _ _ ((inP_E j (by omega)).trans (by show j.val - 24 = 8192 + (j.val - 8216); omega))

end

end Cert.Mm

end
-- ==== Proof.DwDownEnd.lean ====
/- The gradient of the down projection's weight: the call's result from the arguments. -/
module

public import proofs.«01_k».proof.Proof.DwDownVal
public import proofs.«01_k».proof.Proof.Layout

@[expose] public section

set_option maxRecDepth 16384

noncomputable section

open Idealize.ShloMosaic Idealize.ShloMosaic.TcCoe Idealize.SL.Sem
open Idealize.ShloMosaic.Pipeline (Dat)

namespace Cert.DwDownIdeal.Final

open Cert.DwDownIdeal Cert.DwDownIdeal.Gen Cert.Mm

section

variable (m : (ℓ : Loc nD τ sig) → Buf (Elt Ideal) ℓ) (c : Dev nD)

/-- Argument 0. -/
abbrev A0 : FVec Ideal S4096x5504 .bf16 := m ((c.tc : Thread nD τ).loc main_arg0)
/-- Argument 1. -/
abbrev A1 : FVec Ideal S4096x2048 .bf16 := m ((c.tc : Thread nD τ).loc main_arg1)

/-- Argument 0 with columns added. -/
theorem cols (i : Fin 5632) (l : Fin 5504) (hl : i.val = l.val) (k : Fin 4096) : X m c (ix2 k i) = A0 m c (ix2 k l) := by
  have h : V m c main_v0 = pad S4096x5632 ![0, 0] ![0, 128] ![0, 0] (A0 m c) zpad pads_S4096x5504_S4096x5632_000_01280 h_S_ := by
    entry_read
    rfl
  refine (congrFun h (ix2 k i)).trans ?_
  exact padCols_in (A0 m c) zpad pads_S4096x5504_S4096x5632_000_01280 h_S_ k i l hl

/-- The result from what the call leaves. -/
theorem tail : Pipeline.afterTail₀ cfgs (dats m) 0 (V0 m) [hostOps1] c main_v2 = tn .bf16 (A0 m c) (A1 m c) := by
  unfold Pipeline.afterTail₀
  simp only [hostOps1, List.flatten_cons, List.flatten_nil, List.append_nil]
  after_results
  have e : Pipeline.withArrays spec0 c (V0 m c) (fun w => (dats m 0 c).arrAt w cfg0.N) (Proc.tc.devRef main_v1) = _ :=
    (Pipeline.withArrays_arr spec0 launch0.win.arr_inj c (V0 m c) (fun w => (dats m 0 c).arrAt w cfg0.N) 2).trans (res m c)
  rw [e]
  funext y
  obtain ⟨i, j, rfl⟩ : ∃ (i : Fin 5504) (j : Fin 2048), y = ix2 i j := ⟨y 0, y 1, by idx_vars y⟩
  refine (rows_at _ slices_S5632x2048_S5504x2048_0_0 i j ⟨i.val, by omega⟩ rfl).trans ?_
  exact Finset.sum_congr rfl fun k _ => congrArg (· * A1 m c (ix2 k j)) (cols m c ⟨i.val, by omega⟩ i rfl k)

/-- Every execution from a memory with zero counters ends with the product of the arguments as the result and the
    arguments unchanged. -/
theorem run (ρ : Dev nD → PrngReg) : θ_run defs (onTc (τ := τ) (main (F := Ideal))) ⟨m, fun _ => 0, ρ⟩ fun r => ∀ c : Dev nD,
    r.2.mem ((c.tc : Thread nD τ).loc main_v2) = tn .bf16 (A0 m c) (A1 m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨((h.1 c).2 main_v2 (Pipeline.mem_restRefs_of main_v2 (by decide) (by decide))).trans (tail m c), h.2 c⟩)
    (θ_run_and (run_main m ρ) (unchanged m ρ))

end

end Cert.DwDownIdeal.Final

end
-- ==== Proof.DactVal.lean ====
/- The product for the activations' gradient. -/
module

public import proofs.«01_k».proof.Proof.Gen.DactIdeal.Frame
public import proofs.«01_k».proof.Proof.Mm
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.DactIdeal.Final

open Cert.DactIdeal Cert.DactIdeal.Gen Cert.Mm

/-! ## What a grid point computes -/

theorem zero_at (r : Fin 1024) (l : Fin 1408) : k0_pay1 (F := Ideal) (ix2 r l) = 0 := by
  pointwise [k0_pay1]

theorem step_at (v : Vec Ideal S1024x1408 .f32) (x : Vec Ideal S1024x512 .bf16) (w : Vec Ideal S1408x512 .bf16) (r : Fin 1024) (l : Fin 1408) :
    k0_pay2 v x w (ix2 r l) = v (ix2 r l) + ∑ k, x (ix2 r k) * w (ix2 l k) := by
  pointwise [k0_pay2]

/-! ## The blocks of a grid point -/

theorem idx : ∀ t : Fin cfg0.N, win0_0.index t = ![t.val / 16, t.val % 4] ∧ win0_1.index t = ![t.val / 4 % 4, t.val % 4] ∧ win0_2.index t = ![t.val / 16, t.val / 4 % 4] :=
  (by decide +kernel : ∀ t : Fin grid0.N, _)

theorem lt (t : Fin cfg0.N) : t.val < 64 := lt_of_lt_of_eq t.isLt (by decide)

def row (t : Fin cfg0.N) (r : Fin 1024) : Fin 4096 := ⟨t.val / 16 * 1024 + r.val, by have := lt t; omega⟩
def col (t : Fin cfg0.N) (l : Fin 1408) : Fin 5632 := ⟨t.val / 4 % 4 * 1408 + l.val, by omega⟩
def dep (t : Fin cfg0.N) (k : Fin 512) : Fin 2048 := ⟨512 * (t.val % 4) + k.val, by omega⟩

theorem emb0 (t : Fin cfg0.N) (X : Vec Ideal S4096x2048 .bf16) (r : Fin 1024) (k : Fin 512) : X ((win0_0.blk t).view.emb (ix2 r k)) = X (ix2 (row t r) (dep t k)) := by
  blk_ext [idx t, row, col, dep]

theorem emb1 (t : Fin cfg0.N) (X : Vec Ideal S5632x2048 .bf16) (l : Fin 1408) (k : Fin 512) : X ((win0_1.blk t).view.emb (ix2 l k)) = X (ix2 (col t l) (dep t k)) := by
  blk_ext [idx t, row, col, dep]

theorem emb2 (t : Fin cfg0.N) (X : Vec Ideal S4096x5632 .f32) (r : Fin 1024) (l : Fin 1408) : X ((win0_2.blk t).view.emb (ix2 r l)) = X (ix2 (row t r) (col t l)) := by
  blk_ext [idx t, row, col, dep]

theorem rd0 (c : Dev nD) (t : Fin cfg0.N) (W : (b : Ref sig .tc) → Buf (Elt Ideal) ((c.tc : Thread nD τ).loc b)) (r : Fin 1024) (k : Fin 512) :
    (((cfg0.win 0).blk t).view.read (Elt Ideal) (W (Pipeline.arrRef spec0 0)) : Vec Ideal S1024x512 .bf16) (ix2 r k) = (W (Pipeline.arrRef spec0 0) : FVec Ideal S4096x2048 .bf16) (ix2 (row t r) (dep t k)) := by
  blk_simp
  exact emb0 t _ r k

theorem rd1 (c : Dev nD) (t : Fin cfg0.N) (W : (b : Ref sig .tc) → Buf (Elt Ideal) ((c.tc : Thread nD τ).loc b)) (l : Fin 1408) (k : Fin 512) :
    (((cfg0.win 1).blk t).view.read (Elt Ideal) (W (Pipeline.arrRef spec0 1)) : Vec Ideal S1408x512 .bf16) (ix2 l k) = (W (Pipeline.arrRef spec0 1) : FVec Ideal S5632x2048 .bf16) (ix2 (col t l) (dep t k)) := by
  blk_simp
  exact emb1 t _ l k

section

variable (m : (ℓ : Loc nD τ sig) → Buf (Elt Ideal) ℓ) (c : Dev nD)

/-- The product's first array. -/
abbrev X : FVec Ideal S4096x2048 .bf16 := V m c (Pipeline.arrRef spec0 0)

/-- The product's second array. -/
abbrev W : FVec Ideal S5632x2048 .bf16 := V m c (Pipeline.arrRef spec0 1)

/-- A grid point's block of the first array. -/
abbrev B0 (t : Fin cfg0.N) : FVec Ideal S1024x512 .bf16 := iblk m c 0 t

/-- A grid point's block of the second array. -/
abbrev B1 (t : Fin cfg0.N) : FVec Ideal S1408x512 .bf16 := iblk m c 1 t

theorem blk0 (t : Fin cfg0.N) (r : Fin 1024) (k : Fin 512) : B0 m c t (ix2 r k) = X m c (ix2 (row t r) (dep t k)) := rd0 c t (V m c) r k

theorem blk1 (t : Fin cfg0.N) (l : Fin 1408) (k : Fin 512) : B1 m c t (ix2 l k) = W m c (ix2 (col t l) (dep t k)) := rd1 c t (V m c) l k

/-! ## The sums a grid point carries on -/

theorem first (t : Fin cfg0.N) (h0 : t.val % 4 = 0) (y : S1024x1408.Idx) :
    (outsAt0 m c t.val t.isLt).2 y = k0_pay2 (k0_pay1 (F := Ideal)) (iblk m c 0 t) (iblk m c 1 t) y := by
  rw [outsAt0_A m c t h0 (by omega)]
  dsimp only
  unfold sout0_A_0
  frame_out

theorem next (t : Fin cfg0.N) (h0 : ¬ t.val % 4 = 0) (y : S1024x1408.Idx) :
    (outsAt0 m c t.val t.isLt).2 y = k0_pay2 (outsAt0 m c (t.val - 1) (Nat.lt_of_le_of_lt (Nat.sub_le _ _) t.isLt)).2 (iblk m c 0 t) (iblk m c 1 t) y := by
  by_cases h1 : t.val % 4 = 3
  · rw [outsAt0_C m c t h0 h1]
    dsimp only
    unfold sout0_C_0
    frame_out
    erw [Memref.IsWhole.read_unread]
  · rw [outsAt0_B m c t h0 h1]
    dsimp only
    unfold sout0_B_0
    frame_out
    erw [Memref.IsWhole.read_unread]

theorem last (t : Fin cfg0.N) (h1 : t.val % 4 = 3) (y : S1024x1408.Idx) :
    (outsAt0 m c t.val t.isLt).1 y = (outsAt0 m c t.val t.isLt).2 y := by
  rw [outsAt0_C m c t (by omega) h1]
  dsimp only
  unfold out0_C_2 sout0_C_0
  frame_out

/-- After the last tile a grid point's sums are the product's entries. -/
theorem whole (t : Fin cfg0.N) (h1 : t.val % 4 = 3) (r : Fin 1024) (l : Fin 1408) :
    (outsAt0 m c t.val t.isLt).2 (ix2 r l) = nt .f32 (X m c) (W m c) (ix2 (row t r) (col t l)) := by
  have tile : ∀ s : Fin cfg0.N, ∑ k, B0 m c s (ix2 r k) * B1 m c s (ix2 l k)
      = ∑ k : Fin 512, X m c (ix2 (row s r) (dep s k)) * W m c (ix2 (col s l) (dep s k)) := fun s =>
    Finset.sum_congr rfl fun k _ => by rw [blk0, blk1]
  refine tiled_last (q := 4) (d := 512) (fun s : Fin cfg0.N => (outsAt0 m c s.val s.isLt).2 (ix2 r l))
    (fun s k => X m c (ix2 (row s r) k) * W m c (ix2 (col s l) k)) (fun s x => by omega) (fun s h => ?_) (fun s h => ?_) (fun s h => ?_) t (by omega)
  · refine (first m c s h _).trans ((step_at _ _ _ r l).trans ?_)
    rw [zero_at, tile s]
    rfl
  · refine (next m c s h _).trans ((step_at _ _ _ r l).trans ?_)
    rw [tile s]
    rfl
  · have e1 : row ⟨s.val - 1, by omega⟩ r = row s r := Fin.ext (by simp only [row]; omega)
    have e2 : col ⟨s.val - 1, by omega⟩ l = col s l := Fin.ext (by simp only [col]; omega)
    simp only [e1, e2]

/-- The call leaves the product. -/
theorem res : (dats m 0 c).arrAt 2 cfg0.N = nt .f32 (X m c) (W m c) := by
  refine (dats m 0 c).arrAt_eq_of_covers 2 _ (by decide +kernel) fun t ht y => ?_
  have h1 := (flush0_2 t).mp ht
  blk_simp [idx t]
  rw [after0_2]
  obtain ⟨r, l, rfl⟩ : ∃ (r : Fin 1024) (l : Fin 1408), y = ix2 r l := ⟨y 0, y 1, by idx_vars y⟩
  refine (last m c t h1 _).trans ?_
  refine Eq.trans ?_ (emb2 t (nt .f32 (X m c) (W m c)) r l).symm
  exact whole m c t h1 r l

end

end Cert.DactIdeal.Final

end
-- ==== Proof.DactEnd.lean ====
/- The gradient of the feed-forward layer's inner activations: the call's result from the arguments. -/
module

public import proofs.«01_k».proof.Proof.DactVal
public import proofs.«01_k».proof.Proof.Layout

@[expose] public section

set_option maxRecDepth 16384

noncomputable section

open Idealize.ShloMosaic Idealize.ShloMosaic.TcCoe Idealize.SL.Sem
open Idealize.ShloMosaic.Pipeline (Dat)

namespace Cert.DactIdeal.Final

open Cert.DactIdeal Cert.DactIdeal.Gen Cert.Mm

section

variable (m : (ℓ : Loc nD τ sig) → Buf (Elt Ideal) ℓ) (c : Dev nD)

/-- Argument 0. -/
abbrev A0 : FVec Ideal S4096x2048 .bf16 := m ((c.tc : Thread nD τ).loc main_arg0)
/-- Argument 1. -/
abbrev A1 : FVec Ideal S5504x2048 .bf16 := m ((c.tc : Thread nD τ).loc main_arg1)

/-- Argument 1 with rows added below. -/
theorem rows (i : Fin 5632) (l : Fin 5504) (hl : i.val = l.val) (k : Fin 2048) : W m c (ix2 i k) = A1 m c (ix2 l k) := by
  have h : V m c main_v0 = pad S5632x2048 ![0, 0] ![128, 0] ![0, 0] (A1 m c) zpad pads_S5504x2048_S5632x2048_01280_000 h_S_ := by
    entry_read
    rfl
  refine (congrFun h (ix2 i k)).trans ?_
  exact padRows_in (A1 m c) zpad pads_S5504x2048_S5632x2048_01280_000 h_S_ i k l hl

/-- The result from what the call leaves. -/
theorem tail : Pipeline.afterTail₀ cfgs (dats m) 0 (V0 m) [hostOps1] c main_v2 = nt .f32 (A0 m c) (A1 m c) := by
  unfold Pipeline.afterTail₀
  simp only [hostOps1, List.flatten_cons, List.flatten_nil, List.append_nil]
  after_results
  have e : Pipeline.withArrays spec0 c (V0 m c) (fun w => (dats m 0 c).arrAt w cfg0.N) (Proc.tc.devRef main_v1) = _ :=
    (Pipeline.withArrays_arr spec0 launch0.win.arr_inj c (V0 m c) (fun w => (dats m 0 c).arrAt w cfg0.N) 2).trans (res m c)
  rw [e]
  funext y
  obtain ⟨i, j, rfl⟩ : ∃ (i : Fin 4096) (j : Fin 5504), y = ix2 i j := ⟨y 0, y 1, by idx_vars y⟩
  refine (cols_at _ 0 slices_S4096x5632_S4096x5504_0_0 i j ⟨j.val, by omega⟩ (Nat.zero_add _).symm).trans ?_
  exact Finset.sum_congr rfl fun k _ => congrArg (A0 m c (ix2 i k) * ·) (rows m c ⟨j.val, by omega⟩ j rfl k)

/-- Every execution from a memory with zero counters ends with the product of the arguments as the result and the
    arguments unchanged. -/
theorem run (ρ : Dev nD → PrngReg) : θ_run defs (onTc (τ := τ) (main (F := Ideal))) ⟨m, fun _ => 0, ρ⟩ fun r => ∀ c : Dev nD,
    r.2.mem ((c.tc : Thread nD τ).loc main_v2) = nt .f32 (A0 m c) (A1 m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨((h.1 c).2 main_v2 (Pipeline.mem_restRefs_of main_v2 (by decide) (by decide))).trans (tail m c), h.2 c⟩)
    (θ_run_and (run_main m ρ) (unchanged m ρ))

end

end Cert.DactIdeal.Final

end
-- ==== Proof.DwUpVal.lean ====
/- The product for the up projection's weight gradient. -/
module

public import proofs.«01_k».proof.Proof.Gen.DwUpIdeal.Frame
public import proofs.«01_k».proof.Proof.Mm
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.DwUpIdeal.Final

open Cert.DwUpIdeal Cert.DwUpIdeal.Gen Cert.Mm

/-! ## What a grid point computes -/

theorem zero_at (r : Fin 1024) (l : Fin 1408) : k0_pay1 (F := Ideal) (ix2 r l) = 0 := by
  pointwise [k0_pay1]

theorem step_at (v : Vec Ideal S1024x1408 .f32) (x : Vec Ideal S512x1024 .bf16) (w : Vec Ideal S512x1408 .bf16) (r : Fin 1024) (l : Fin 1408) :
    k0_pay2 v x w (ix2 r l) = v (ix2 r l) + ∑ k, x (ix2 k r) * w (ix2 k l) := by
  pointwise [k0_pay2]

/-! ## The blocks of a grid point -/

theorem idx : ∀ t : Fin cfg0.N, win0_0.index t = ![t.val % 8, t.val / 64] ∧ win0_1.index t = ![t.val % 8, t.val / 8 % 8] ∧ win0_2.index t = ![t.val / 64, t.val / 8 % 8] :=
  (by decide +kernel : ∀ t : Fin grid0.N, _)

theorem lt (t : Fin cfg0.N) : t.val < 128 := lt_of_lt_of_eq t.isLt (by decide)

def row (t : Fin cfg0.N) (r : Fin 1024) : Fin 2048 := ⟨t.val / 64 * 1024 + r.val, by have := lt t; omega⟩
def col (t : Fin cfg0.N) (l : Fin 1408) : Fin 11264 := ⟨t.val / 8 % 8 * 1408 + l.val, by omega⟩
def dep (t : Fin cfg0.N) (k : Fin 512) : Fin 4096 := ⟨512 * (t.val % 8) + k.val, by omega⟩

theorem emb0 (t : Fin cfg0.N) (X : Vec Ideal S4096x2048 .bf16) (r : Fin 1024) (k : Fin 512) : X ((win0_0.blk t).view.emb (ix2 k r)) = X (ix2 (dep t k) (row t r)) := by
  blk_ext [idx t, row, col, dep]

theorem emb1 (t : Fin cfg0.N) (X : Vec Ideal S4096x11264 .bf16) (l : Fin 1408) (k : Fin 512) : X ((win0_1.blk t).view.emb (ix2 k l)) = X (ix2 (dep t k) (col t l)) := by
  blk_ext [idx t, row, col, dep]

theorem emb2 (t : Fin cfg0.N) (X : Vec Ideal S2048x11264 .bf16) (r : Fin 1024) (l : Fin 1408) : X ((win0_2.blk t).view.emb (ix2 r l)) = X (ix2 (row t r) (col t l)) := by
  blk_ext [idx t, row, col, dep]

theorem rd0 (c : Dev nD) (t : Fin cfg0.N) (W : (b : Ref sig .tc) → Buf (Elt Ideal) ((c.tc : Thread nD τ).loc b)) (r : Fin 1024) (k : Fin 512) :
    (((cfg0.win 0).blk t).view.read (Elt Ideal) (W (Pipeline.arrRef spec0 0)) : Vec Ideal S512x1024 .bf16) (ix2 k r) = (W (Pipeline.arrRef spec0 0) : FVec Ideal S4096x2048 .bf16) (ix2 (dep t k) (row t r)) := by
  blk_simp
  exact emb0 t _ r k

theorem rd1 (c : Dev nD) (t : Fin cfg0.N) (W : (b : Ref sig .tc) → Buf (Elt Ideal) ((c.tc : Thread nD τ).loc b)) (l : Fin 1408) (k : Fin 512) :
    (((cfg0.win 1).blk t).view.read (Elt Ideal) (W (Pipeline.arrRef spec0 1)) : Vec Ideal S512x1408 .bf16) (ix2 k l) = (W (Pipeline.arrRef spec0 1) : FVec Ideal S4096x11264 .bf16) (ix2 (dep t k) (col t l)) := by
  blk_simp
  exact emb1 t _ l k

section

variable (m : (ℓ : Loc nD τ sig) → Buf (Elt Ideal) ℓ) (c : Dev nD)

/-- The product's first array. -/
abbrev X : FVec Ideal S4096x2048 .bf16 := V m c (Pipeline.arrRef spec0 0)

/-- The product's second array. -/
abbrev W : FVec Ideal S4096x11264 .bf16 := V m c (Pipeline.arrRef spec0 1)

/-- A grid point's block of the first array. -/
abbrev B0 (t : Fin cfg0.N) : FVec Ideal S512x1024 .bf16 := iblk m c 0 t

/-- A grid point's block of the second array. -/
abbrev B1 (t : Fin cfg0.N) : FVec Ideal S512x1408 .bf16 := iblk m c 1 t

theorem blk0 (t : Fin cfg0.N) (r : Fin 1024) (k : Fin 512) : B0 m c t (ix2 k r) = X m c (ix2 (dep t k) (row t r)) := rd0 c t (V m c) r k

theorem blk1 (t : Fin cfg0.N) (l : Fin 1408) (k : Fin 512) : B1 m c t (ix2 k l) = W m c (ix2 (dep t k) (col t l)) := rd1 c t (V m c) l k

/-! ## The sums a grid point carries on -/

theorem first (t : Fin cfg0.N) (h0 : t.val % 8 = 0) (y : S1024x1408.Idx) :
    (outsAt0 m c t.val t.isLt).2 y = k0_pay2 (k0_pay1 (F := Ideal)) (iblk m c 0 t) (iblk m c 1 t) y := by
  rw [outsAt0_A m c t h0 (by omega)]
  dsimp only
  unfold sout0_A_0
  frame_out

theorem next (t : Fin cfg0.N) (h0 : ¬ t.val % 8 = 0) (y : S1024x1408.Idx) :
    (outsAt0 m c t.val t.isLt).2 y = k0_pay2 (outsAt0 m c (t.val - 1) (Nat.lt_of_le_of_lt (Nat.sub_le _ _) t.isLt)).2 (iblk m c 0 t) (iblk m c 1 t) y := by
  by_cases h1 : t.val % 8 = 7
  · rw [outsAt0_C m c t h0 h1]
    dsimp only
    unfold sout0_C_0
    frame_out
    erw [Memref.IsWhole.read_unread]
  · rw [outsAt0_B m c t h0 h1]
    dsimp only
    unfold sout0_B_0
    frame_out
    erw [Memref.IsWhole.read_unread]

theorem last (t : Fin cfg0.N) (h1 : t.val % 8 = 7) (y : S1024x1408.Idx) :
    (outsAt0 m c t.val t.isLt).1 y = k0_pay3 (outsAt0 m c t.val t.isLt).2 y := by
  rw [outsAt0_C m c t (by omega) h1]
  dsimp only
  unfold out0_C_2 sout0_C_0
  frame_out

/-- After the last tile a grid point's sums are the product's entries. -/
theorem whole (t : Fin cfg0.N) (h1 : t.val % 8 = 7) (r : Fin 1024) (l : Fin 1408) :
    (outsAt0 m c t.val t.isLt).2 (ix2 r l) = tn .f32 (X m c) (W m c) (ix2 (row t r) (col t l)) := by
  have tile : ∀ s : Fin cfg0.N, ∑ k, B0 m c s (ix2 k r) * B1 m c s (ix2 k l)
      = ∑ k : Fin 512, X m c (ix2 (dep s k) (row s r)) * W m c (ix2 (dep s k) (col s l)) := fun s =>
    Finset.sum_congr rfl fun k _ => by rw [blk0, blk1]
  refine tiled_last (q := 8) (d := 512) (fun s : Fin cfg0.N => (outsAt0 m c s.val s.isLt).2 (ix2 r l))
    (fun s k => X m c (ix2 k (row s r)) * W m c (ix2 k (col s l))) (fun s x => by omega) (fun s h => ?_) (fun s h => ?_) (fun s h => ?_) t (by omega)
  · refine (first m c s h _).trans ((step_at _ _ _ r l).trans ?_)
    rw [zero_at, tile s]
    rfl
  · refine (next m c s h _).trans ((step_at _ _ _ r l).trans ?_)
    rw [tile s]
    rfl
  · have e1 : row ⟨s.val - 1, by omega⟩ r = row s r := Fin.ext (by simp only [row]; omega)
    have e2 : col ⟨s.val - 1, by omega⟩ l = col s l := Fin.ext (by simp only [col]; omega)
    simp only [e1, e2]

/-- The call leaves the product. -/
theorem res : (dats m 0 c).arrAt 2 cfg0.N = tn .bf16 (X m c) (W m c) := by
  refine (dats m 0 c).arrAt_eq_of_covers 2 _ (by decide +kernel) fun t ht y => ?_
  have h1 := (flush0_2 t).mp ht
  blk_simp [idx t]
  rw [after0_2]
  obtain ⟨r, l, rfl⟩ : ∃ (r : Fin 1024) (l : Fin 1408), y = ix2 r l := ⟨y 0, y 1, by idx_vars y⟩
  refine (last m c t h1 _).trans ?_
  refine Eq.trans ?_ (emb2 t (tn .bf16 (X m c) (W m c)) r l).symm
  exact whole m c t h1 r l

end

end Cert.DwUpIdeal.Final

end
-- ==== Proof.DwUpEnd.lean ====
/- The gradient of the gate's and the value's weights: the call's result from the arguments. -/
module

public import proofs.«01_k».proof.Proof.DwUpVal
public import proofs.«01_k».proof.Proof.Layout

@[expose] public section

set_option maxRecDepth 16384

noncomputable section

open Idealize.ShloMosaic Idealize.ShloMosaic.TcCoe Idealize.SL.Sem
open Idealize.ShloMosaic.Pipeline (Dat)

namespace Cert.DwUpIdeal.Final

open Cert.DwUpIdeal Cert.DwUpIdeal.Gen Cert.Mm

section

variable (m : (ℓ : Loc nD τ sig) → Buf (Elt Ideal) ℓ) (c : Dev nD)

/-- Argument 0. -/
abbrev A0 : FVec Ideal S4096x2048 .bf16 := m ((c.tc : Thread nD τ).loc main_arg0)
/-- Argument 1. -/
abbrev A1 : FVec Ideal S4096x11008 .bf16 := m ((c.tc : Thread nD τ).loc main_arg1)

/-- The two halves of argument 1, padded side by side. -/
theorem lays1 : Lays (A1 m c) (V m c main_v4) upP := by
  refine (up_lays (A1 m c) slices_S4096x11008_S4096x5504_0_0 slices_S4096x11008_S4096x5504_0_5504 pads_S4096x5504_S4096x5632_000_01280 h_S_ concatenates_S4096x5632_S4096x5632_S4096x11264_d1).of_eq ?_
  entry_read
  rfl

/-- The result from what the call leaves. -/
theorem tail : Pipeline.afterTail₀ cfgs (dats m) 0 (V0 m) [hostOps1] c main_v8 = tn .bf16 (A0 m c) (A1 m c) := by
  unfold Pipeline.afterTail₀
  simp only [hostOps1, List.flatten_cons, List.flatten_nil, List.append_nil]
  after_results
  have e : Pipeline.withArrays spec0 c (V0 m c) (fun w => (dats m 0 c).arrAt w cfg0.N) (Proc.tc.devRef main_v5) = _ :=
    (Pipeline.withArrays_arr spec0 launch0.win.arr_inj c (V0 m c) (fun w => (dats m 0 c).arrAt w cfg0.N) 2).trans (res m c)
  rw [e]
  funext y
  obtain ⟨i, j, rfl⟩ : ∃ (i : Fin 2048) (j : Fin 11008), y = ix2 i j := ⟨y 0, y 1, by idx_vars y⟩
  exact (up_back _ slices_S2048x11264_S2048x5504_0_0 slices_S2048x11264_S2048x5504_0_5632 concatenates_S2048x5504_S2048x5504_S2048x11008_d1 i j).trans
    (tn_lays .bf16 (A0 m c) (lays1 m c) i j)

/-- Every execution from a memory with zero counters ends with the product of the arguments as the result and the
    arguments unchanged. -/
theorem run (ρ : Dev nD → PrngReg) : θ_run defs (onTc (τ := τ) (main (F := Ideal))) ⟨m, fun _ => 0, ρ⟩ fun r => ∀ c : Dev nD,
    r.2.mem ((c.tc : Thread nD τ).loc main_v8) = tn .bf16 (A0 m c) (A1 m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨((h.1 c).2 main_v8 (Pipeline.mem_restRefs_of main_v8 (by decide) (by decide))).trans (tail m c), h.2 c⟩)
    (θ_run_and (run_main m ρ) (unchanged m ρ))

end

end Cert.DwUpIdeal.Final

end
-- ==== Proof.DxUpVal.lean ====
/- The product for the gradient into the up projection. -/
module

public import proofs.«01_k».proof.Proof.Gen.DxUpIdeal.Value
public import proofs.«01_k».proof.Proof.Mm
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.DxUpIdeal.Final

open Cert.DxUpIdeal Cert.DxUpIdeal.Gen Cert.Mm

/-! ## What a grid point computes -/

theorem zero_at (r : Fin 1024) (l : Fin 1024) : k0_pay1 (F := Ideal) (ix2 r l) = 0 := by
  pointwise [k0_pay1]

theorem step_at (v : Vec Ideal S1024x1024 .f32) (x : Vec Ideal S1024x512 .bf16) (w : Vec Ideal S1024x512 .bf16) (r : Fin 1024) (l : Fin 1024) :
    k0_pay2 v x w (ix2 r l) = v (ix2 r l) + ∑ k, x (ix2 r k) * w (ix2 l k) := by
  pointwise [k0_pay2]

/-! ## The blocks of a grid point -/

theorem idx : ∀ t : Fin cfg0.N, win0_0.index t = ![t.val / 44, t.val % 22] ∧ win0_1.index t = ![t.val / 22 % 2, t.val % 22] ∧ win0_2.index t = ![t.val / 44, t.val / 22 % 2] ∧ win0_3.index t = ![t.val / 44, t.val / 22 % 2] :=
  (by decide +kernel : ∀ t : Fin grid0.N, _)

theorem lt (t : Fin cfg0.N) : t.val < 176 := lt_of_lt_of_eq t.isLt (by decide)

def row (t : Fin cfg0.N) (r : Fin 1024) : Fin 4096 := ⟨t.val / 44 * 1024 + r.val, by have := lt t; omega⟩
def col (t : Fin cfg0.N) (l : Fin 1024) : Fin 2048 := ⟨t.val / 22 % 2 * 1024 + l.val, by omega⟩
def dep (t : Fin cfg0.N) (k : Fin 512) : Fin 11264 := ⟨512 * (t.val % 22) + k.val, by omega⟩

theorem emb0 (t : Fin cfg0.N) (X : Vec Ideal S4096x11264 .bf16) (r : Fin 1024) (k : Fin 512) : X ((win0_0.blk t).view.emb (ix2 r k)) = X (ix2 (row t r) (dep t k)) := by
  blk_ext [idx t, row, col, dep]

theorem emb1 (t : Fin cfg0.N) (X : Vec Ideal S2048x11264 .bf16) (l : Fin 1024) (k : Fin 512) : X ((win0_1.blk t).view.emb (ix2 l k)) = X (ix2 (col t l) (dep t k)) := by
  blk_ext [idx t, row, col, dep]

theorem emb3 (t : Fin cfg0.N) (X : Vec Ideal S4096x2048 .f32) (r : Fin 1024) (l : Fin 1024) : X ((win0_3.blk t).view.emb (ix2 r l)) = X (ix2 (row t r) (col t l)) := by
  blk_ext [idx t, row, col, dep]

theorem rd0 (c : Dev nD) (t : Fin cfg0.N) (W : (b : Ref sig .tc) → Buf (Elt Ideal) ((c.tc : Thread nD τ).loc b)) (r : Fin 1024) (k : Fin 512) :
    (((cfg0.win 0).blk t).view.read (Elt Ideal) (W (Pipeline.arrRef spec0 0)) : Vec Ideal S1024x512 .bf16) (ix2 r k) = (W (Pipeline.arrRef spec0 0) : FVec Ideal S4096x11264 .bf16) (ix2 (row t r) (dep t k)) := by
  blk_simp
  exact emb0 t _ r k

theorem rd1 (c : Dev nD) (t : Fin cfg0.N) (W : (b : Ref sig .tc) → Buf (Elt Ideal) ((c.tc : Thread nD τ).loc b)) (l : Fin 1024) (k : Fin 512) :
    (((cfg0.win 1).blk t).view.read (Elt Ideal) (W (Pipeline.arrRef spec0 1)) : Vec Ideal S1024x512 .bf16) (ix2 l k) = (W (Pipeline.arrRef spec0 1) : FVec Ideal S2048x11264 .bf16) (ix2 (col t l) (dep t k)) := by
  blk_simp
  exact emb1 t _ l k

theorem emb2 (t : Fin cfg0.N) (X : Vec Ideal S4096x2048 .f32) (r : Fin 1024) (l : Fin 1024) : X ((win0_2.blk t).view.emb (ix2 r l)) = X (ix2 (row t r) (col t l)) := by
  blk_ext [idx t, row, col, dep]

theorem rd2 (c : Dev nD) (t : Fin cfg0.N) (W : (b : Ref sig .tc) → Buf (Elt Ideal) ((c.tc : Thread nD τ).loc b)) (r : Fin 1024) (l : Fin 1024) :
    (((cfg0.win 2).blk t).view.read (Elt Ideal) (W (Pipeline.arrRef spec0 2)) : Vec Ideal S1024x1024 .f32) (ix2 r l) = (W (Pipeline.arrRef spec0 2) : FVec Ideal S4096x2048 .f32) (ix2 (row t r) (col t l)) := by
  blk_simp
  exact emb2 t _ r l

section

variable (m : (ℓ : Loc nD τ sig) → Buf (Elt Ideal) ℓ) (c : Dev nD)

/-- The product's first array. -/
abbrev X : FVec Ideal S4096x11264 .bf16 := V m c (Pipeline.arrRef spec0 0)

/-- The product's second array. -/
abbrev W : FVec Ideal S2048x11264 .bf16 := V m c (Pipeline.arrRef spec0 1)

/-- The array added to the product. -/
abbrev D : FVec Ideal S4096x2048 .f32 := V m c (Pipeline.arrRef spec0 2)

/-- A grid point's block of the first array. -/
abbrev B0 (t : Fin cfg0.N) : FVec Ideal S1024x512 .bf16 := iblk m c 0 t

/-- A grid point's block of the second array. -/
abbrev B1 (t : Fin cfg0.N) : FVec Ideal S1024x512 .bf16 := iblk m c 1 t

theorem blk0 (t : Fin cfg0.N) (r : Fin 1024) (k : Fin 512) : B0 m c t (ix2 r k) = X m c (ix2 (row t r) (dep t k)) := rd0 c t (V m c) r k

theorem blk1 (t : Fin cfg0.N) (l : Fin 1024) (k : Fin 512) : B1 m c t (ix2 l k) = W m c (ix2 (col t l) (dep t k)) := rd1 c t (V m c) l k

/-! ## The sums a grid point carries on -/

theorem first (t : Fin cfg0.N) (h0 : t.val % 22 = 0) (y : S1024x1024.Idx) :
    (outsAt0 m c t.val t.isLt).2 y = k0_pay2 (k0_pay1 (F := Ideal)) (iblk m c 0 t) (iblk m c 1 t) y := by
  rw [outsAt0_A m c t h0 (by omega)]
  dsimp only
  unfold sout0_A_0
  frame_out

theorem next (t : Fin cfg0.N) (h0 : ¬ t.val % 22 = 0) (y : S1024x1024.Idx) :
    (outsAt0 m c t.val t.isLt).2 y = k0_pay2 (outsAt0 m c (t.val - 1) (Nat.lt_of_le_of_lt (Nat.sub_le _ _) t.isLt)).2 (iblk m c 0 t) (iblk m c 1 t) y := by
  by_cases h1 : t.val % 22 = 21
  · rw [outsAt0_C m c t h0 h1]
    dsimp only
    unfold sout0_C_0
    frame_out
    erw [Memref.IsWhole.read_unread]
  · rw [outsAt0_B m c t h0 h1]
    dsimp only
    unfold sout0_B_0
    frame_out
    erw [Memref.IsWhole.read_unread]

theorem last (t : Fin cfg0.N) (h1 : t.val % 22 = 21) (y : S1024x1024.Idx) :
    (outsAt0 m c t.val t.isLt).1 y = k0_pay3 (outsAt0 m c t.val t.isLt).2 (iblk m c 2 t) y := by
  rw [outsAt0_C m c t (by omega) h1]
  dsimp only
  unfold out0_C_3 sout0_C_0
  frame_out

/-- After the last tile a grid point's sums are the product's entries. -/
theorem whole (t : Fin cfg0.N) (h1 : t.val % 22 = 21) (r : Fin 1024) (l : Fin 1024) :
    (outsAt0 m c t.val t.isLt).2 (ix2 r l) = nt .f32 (X m c) (W m c) (ix2 (row t r) (col t l)) := by
  have tile : ∀ s : Fin cfg0.N, ∑ k, B0 m c s (ix2 r k) * B1 m c s (ix2 l k)
      = ∑ k : Fin 512, X m c (ix2 (row s r) (dep s k)) * W m c (ix2 (col s l) (dep s k)) := fun s =>
    Finset.sum_congr rfl fun k _ => by rw [blk0, blk1]
  refine tiled_last (q := 22) (d := 512) (fun s : Fin cfg0.N => (outsAt0 m c s.val s.isLt).2 (ix2 r l))
    (fun s k => X m c (ix2 (row s r) k) * W m c (ix2 (col s l) k)) (fun s x => by omega) (fun s h => ?_) (fun s h => ?_) (fun s h => ?_) t (by omega)
  · refine (first m c s h _).trans ((step_at _ _ _ r l).trans ?_)
    rw [zero_at, tile s]
    rfl
  · refine (next m c s h _).trans ((step_at _ _ _ r l).trans ?_)
    rw [tile s]
    rfl
  · have e1 : row ⟨s.val - 1, by omega⟩ r = row s r := Fin.ext (by simp only [row]; omega)
    have e2 : col ⟨s.val - 1, by omega⟩ l = col s l := Fin.ext (by simp only [col]; omega)
    simp only [e1, e2]

/-- The result of the call. -/
def out : FVec Ideal S4096x2048 .f32 := addf (nt .f32 (X m c) (W m c)) (mulf (broadcast S4096x2048 (Scalar.ofBits (F := Ideal) .f32 0x3FD744FD#32)) (D m c))

theorem end_at (v x : Vec Ideal S1024x1024 .f32) (r : Fin 1024) (l : Fin 1024) :
    k0_pay3 v x (ix2 r l) = v (ix2 r l) + Scalar.ofBits (F := Ideal) .f32 0x3FD744FD#32 * x (ix2 r l) := by
  rfl

/-- The call leaves it. -/
theorem res : (dats m 0 c).arrAt 3 cfg0.N = out m c := by
  refine (dats m 0 c).arrAt_eq_of_covers 3 _ (by decide +kernel) fun t ht y => ?_
  have h1 := (flush0_3 t).mp ht
  blk_simp [idx t]
  rw [after0_3]
  obtain ⟨r, l, rfl⟩ : ∃ (r : Fin 1024) (l : Fin 1024), y = ix2 r l := ⟨y 0, y 1, by idx_vars y⟩
  refine (last m c t h1 _).trans ?_
  rw [end_at, whole m c t h1]
  refine Eq.trans ?_ (emb3 t (out m c) r l).symm
  exact congrArg (fun z => _ + _ * z) (rd2 c t (V m c) r l)

end

end Cert.DxUpIdeal.Final

end
-- ==== Proof.DxUpEnd.lean ====
/- The gradient of the feed-forward layer's input: the call's result from the arguments. -/
module

public import proofs.«01_k».proof.Proof.DxUpVal
public import proofs.«01_k».proof.Proof.Layout

@[expose] public section

set_option maxRecDepth 16384

noncomputable section

open Idealize.ShloMosaic Idealize.ShloMosaic.TcCoe Idealize.SL.Sem
open Idealize.ShloMosaic.Pipeline (Dat)

namespace Cert.DxUpIdeal.Final

open Cert.DxUpIdeal Cert.DxUpIdeal.Gen Cert.Mm

section

variable (m : (ℓ : Loc nD τ sig) → Buf (Elt Ideal) ℓ) (c : Dev nD)

/-- Argument 0. -/
abbrev A0 : FVec Ideal S4096x11008 .bf16 := m ((c.tc : Thread nD τ).loc main_arg0)
/-- Argument 1. -/
abbrev A1 : FVec Ideal S2048x11008 .bf16 := m ((c.tc : Thread nD τ).loc main_arg1)
/-- Argument 2. -/
abbrev A2 : FVec Ideal S4096x2048 .f32 := m ((c.tc : Thread nD τ).loc main_arg2)

/-- The two halves of argument 0, padded side by side. -/
theorem lays0 : Lays (A0 m c) (V m c main_v4) upP := by
  refine (up_lays (A0 m c) slices_S4096x11008_S4096x5504_0_0 slices_S4096x11008_S4096x5504_0_5504 pads_S4096x5504_S4096x5632_000_01280 h_S_ concatenates_S4096x5632_S4096x5632_S4096x11264_d1).of_eq ?_
  entry_read
  rfl

/-- The two halves of argument 1, padded side by side. -/
theorem lays1 : Lays (A1 m c) (V m c main_v9) upP := by
  refine (up_lays (A1 m c) slices_S2048x11008_S2048x5504_0_0 slices_S2048x11008_S2048x5504_0_5504 pads_S2048x5504_S2048x5632_000_01280 h_S_ concatenates_S2048x5632_S2048x5632_S2048x11264_d1).of_eq ?_
  entry_read
  rfl

/-- What the call leaves: the product of the arguments and the scaled third argument. -/
theorem left : (dats m 0 c).arrAt 3 cfg0.N
    = addf (nt .f32 (A0 m c) (A1 m c)) (mulf (broadcast S4096x2048 (Scalar.ofBits (F := Ideal) .f32 0x3FD744FD#32)) (A2 m c)) :=
  (res m c).trans (congrArg (fun z => addf z _) (nt_lays .f32 upP_inj (lays0 m c) (lays1 m c)))

end

end Cert.DxUpIdeal.Final

end
-- ==== Proof.DwInVal.lean ====
/- The product for the input projection's weight gradient. -/
module

public import proofs.«01_k».proof.Proof.Gen.DwInIdeal.Frame
public import proofs.«01_k».proof.Proof.Mm
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.DwInIdeal.Final

open Cert.DwInIdeal Cert.DwInIdeal.Gen Cert.Mm

/-! ## What a grid point computes -/

theorem zero_at (r : Fin 1024) (l : Fin 1408) : k0_pay1 (F := Ideal) (ix2 r l) = 0 := by
  pointwise [k0_pay1]

theorem step_at (v : Vec Ideal S1024x1408 .f32) (x : Vec Ideal S512x1024 .bf16) (w : Vec Ideal S512x1408 .bf16) (r : Fin 1024) (l : Fin 1408) :
    k0_pay2 v x w (ix2 r l) = v (ix2 r l) + ∑ k, x (ix2 k r) * w (ix2 k l) := by
  pointwise [k0_pay2]

/-! ## The blocks of a grid point -/

theorem idx : ∀ t : Fin cfg0.N, win0_0.index t = ![t.val % 8, t.val / 88] ∧ win0_1.index t = ![t.val % 8, t.val / 8 % 11] ∧ win0_2.index t = ![t.val / 88, t.val / 8 % 11] :=
  (by decide +kernel : ∀ t : Fin grid0.N, _)

theorem lt (t : Fin cfg0.N) : t.val < 176 := lt_of_lt_of_eq t.isLt (by decide)

def row (t : Fin cfg0.N) (r : Fin 1024) : Fin 2048 := ⟨t.val / 88 * 1024 + r.val, by have := lt t; omega⟩
def col (t : Fin cfg0.N) (l : Fin 1408) : Fin 15488 := ⟨t.val / 8 % 11 * 1408 + l.val, by omega⟩
def dep (t : Fin cfg0.N) (k : Fin 512) : Fin 4096 := ⟨512 * (t.val % 8) + k.val, by omega⟩

theorem emb0 (t : Fin cfg0.N) (X : Vec Ideal S4096x2048 .bf16) (r : Fin 1024) (k : Fin 512) : X ((win0_0.blk t).view.emb (ix2 k r)) = X (ix2 (dep t k) (row t r)) := by
  blk_ext [idx t, row, col, dep]

theorem emb1 (t : Fin cfg0.N) (X : Vec Ideal S4096x15488 .bf16) (l : Fin 1408) (k : Fin 512) : X ((win0_1.blk t).view.emb (ix2 k l)) = X (ix2 (dep t k) (col t l)) := by
  blk_ext [idx t, row, col, dep]

theorem emb2 (t : Fin cfg0.N) (X : Vec Ideal S2048x15488 .bf16) (r : Fin 1024) (l : Fin 1408) : X ((win0_2.blk t).view.emb (ix2 r l)) = X (ix2 (row t r) (col t l)) := by
  blk_ext [idx t, row, col, dep]

theorem rd0 (c : Dev nD) (t : Fin cfg0.N) (W : (b : Ref sig .tc) → Buf (Elt Ideal) ((c.tc : Thread nD τ).loc b)) (r : Fin 1024) (k : Fin 512) :
    (((cfg0.win 0).blk t).view.read (Elt Ideal) (W (Pipeline.arrRef spec0 0)) : Vec Ideal S512x1024 .bf16) (ix2 k r) = (W (Pipeline.arrRef spec0 0) : FVec Ideal S4096x2048 .bf16) (ix2 (dep t k) (row t r)) := by
  blk_simp
  exact emb0 t _ r k

theorem rd1 (c : Dev nD) (t : Fin cfg0.N) (W : (b : Ref sig .tc) → Buf (Elt Ideal) ((c.tc : Thread nD τ).loc b)) (l : Fin 1408) (k : Fin 512) :
    (((cfg0.win 1).blk t).view.read (Elt Ideal) (W (Pipeline.arrRef spec0 1)) : Vec Ideal S512x1408 .bf16) (ix2 k l) = (W (Pipeline.arrRef spec0 1) : FVec Ideal S4096x15488 .bf16) (ix2 (dep t k) (col t l)) := by
  blk_simp
  exact emb1 t _ l k

section

variable (m : (ℓ : Loc nD τ sig) → Buf (Elt Ideal) ℓ) (c : Dev nD)

/-- The product's first array. -/
abbrev X : FVec Ideal S4096x2048 .bf16 := V m c (Pipeline.arrRef spec0 0)

/-- The product's second array. -/
abbrev W : FVec Ideal S4096x15488 .bf16 := V m c (Pipeline.arrRef spec0 1)

/-- A grid point's block of the first array. -/
abbrev B0 (t : Fin cfg0.N) : FVec Ideal S512x1024 .bf16 := iblk m c 0 t

/-- A grid point's block of the second array. -/
abbrev B1 (t : Fin cfg0.N) : FVec Ideal S512x1408 .bf16 := iblk m c 1 t

theorem blk0 (t : Fin cfg0.N) (r : Fin 1024) (k : Fin 512) : B0 m c t (ix2 k r) = X m c (ix2 (dep t k) (row t r)) := rd0 c t (V m c) r k

theorem blk1 (t : Fin cfg0.N) (l : Fin 1408) (k : Fin 512) : B1 m c t (ix2 k l) = W m c (ix2 (dep t k) (col t l)) := rd1 c t (V m c) l k

/-! ## The sums a grid point carries on -/

theorem first (t : Fin cfg0.N) (h0 : t.val % 8 = 0) (y : S1024x1408.Idx) :
    (outsAt0 m c t.val t.isLt).2 y = k0_pay2 (k0_pay1 (F := Ideal)) (iblk m c 0 t) (iblk m c 1 t) y := by
  rw [outsAt0_A m c t h0 (by omega)]
  dsimp only
  unfold sout0_A_0
  frame_out

theorem next (t : Fin cfg0.N) (h0 : ¬ t.val % 8 = 0) (y : S1024x1408.Idx) :
    (outsAt0 m c t.val t.isLt).2 y = k0_pay2 (outsAt0 m c (t.val - 1) (Nat.lt_of_le_of_lt (Nat.sub_le _ _) t.isLt)).2 (iblk m c 0 t) (iblk m c 1 t) y := by
  by_cases h1 : t.val % 8 = 7
  · rw [outsAt0_C m c t h0 h1]
    dsimp only
    unfold sout0_C_0
    frame_out
    erw [Memref.IsWhole.read_unread]
  · rw [outsAt0_B m c t h0 h1]
    dsimp only
    unfold sout0_B_0
    frame_out
    erw [Memref.IsWhole.read_unread]

theorem last (t : Fin cfg0.N) (h1 : t.val % 8 = 7) (y : S1024x1408.Idx) :
    (outsAt0 m c t.val t.isLt).1 y = k0_pay3 (outsAt0 m c t.val t.isLt).2 y := by
  rw [outsAt0_C m c t (by omega) h1]
  dsimp only
  unfold out0_C_2 sout0_C_0
  frame_out

/-- After the last tile a grid point's sums are the product's entries. -/
theorem whole (t : Fin cfg0.N) (h1 : t.val % 8 = 7) (r : Fin 1024) (l : Fin 1408) :
    (outsAt0 m c t.val t.isLt).2 (ix2 r l) = tn .f32 (X m c) (W m c) (ix2 (row t r) (col t l)) := by
  have tile : ∀ s : Fin cfg0.N, ∑ k, B0 m c s (ix2 k r) * B1 m c s (ix2 k l)
      = ∑ k : Fin 512, X m c (ix2 (dep s k) (row s r)) * W m c (ix2 (dep s k) (col s l)) := fun s =>
    Finset.sum_congr rfl fun k _ => by rw [blk0, blk1]
  refine tiled_last (q := 8) (d := 512) (fun s : Fin cfg0.N => (outsAt0 m c s.val s.isLt).2 (ix2 r l))
    (fun s k => X m c (ix2 k (row s r)) * W m c (ix2 k (col s l))) (fun s x => by omega) (fun s h => ?_) (fun s h => ?_) (fun s h => ?_) t (by omega)
  · refine (first m c s h _).trans ((step_at _ _ _ r l).trans ?_)
    rw [zero_at, tile s]
    rfl
  · refine (next m c s h _).trans ((step_at _ _ _ r l).trans ?_)
    rw [tile s]
    rfl
  · have e1 : row ⟨s.val - 1, by omega⟩ r = row s r := Fin.ext (by simp only [row]; omega)
    have e2 : col ⟨s.val - 1, by omega⟩ l = col s l := Fin.ext (by simp only [col]; omega)
    simp only [e1, e2]

/-- The call leaves the product. -/
theorem res : (dats m 0 c).arrAt 2 cfg0.N = tn .bf16 (X m c) (W m c) := by
  refine (dats m 0 c).arrAt_eq_of_covers 2 _ (by decide +kernel) fun t ht y => ?_
  have h1 := (flush0_2 t).mp ht
  blk_simp [idx t]
  rw [after0_2]
  obtain ⟨r, l, rfl⟩ : ∃ (r : Fin 1024) (l : Fin 1408), y = ix2 r l := ⟨y 0, y 1, by idx_vars y⟩
  refine (last m c t h1 _).trans ?_
  refine Eq.trans ?_ (emb2 t (tn .bf16 (X m c) (W m c)) r l).symm
  exact whole m c t h1 r l

end

end Cert.DwInIdeal.Final

end
-- ==== Proof.DwInEnd.lean ====
/- The gradient of the input projections' weights: the call's result from the arguments. -/
module

public import proofs.«01_k».proof.Proof.DwInVal
public import proofs.«01_k».proof.Proof.Layout

@[expose] public section

set_option maxRecDepth 16384

noncomputable section

open Idealize.ShloMosaic Idealize.ShloMosaic.TcCoe Idealize.SL.Sem
open Idealize.ShloMosaic.Pipeline (Dat)

namespace Cert.DwInIdeal.Final

open Cert.DwInIdeal Cert.DwInIdeal.Gen Cert.Mm

section

variable (m : (ℓ : Loc nD τ sig) → Buf (Elt Ideal) ℓ) (c : Dev nD)

/-- Argument 0. -/
abbrev A0 : FVec Ideal S4096x2048 .bf16 := m ((c.tc : Thread nD τ).loc main_arg0)
/-- Argument 1. -/
abbrev A1 : FVec Ideal S4096x15384 .bf16 := m ((c.tc : Thread nD τ).loc main_arg1)

/-- The wide columns of argument 1 side by side, then its narrow ones padded. -/
theorem lays1 : Lays (A1 m c) (V m c main_v7) inP := by
  refine (in_lays (A1 m c) slices_S4096x15384_S4096x3072_0_0 slices_S4096x15384_S4096x8_0_3072 slices_S4096x15384_S4096x5120_0_3080 slices_S4096x15384_S4096x16_0_8200 slices_S4096x15384_S4096x7168_0_8216
    concatenates_S4096x8_S4096x16_S4096x24_d1 pads_S4096x24_S4096x128_000_01040 h_S_ concatenates_S4096x3072_S4096x5120_S4096x7168_S4096x128_S4096x15488_d1).of_eq ?_
  entry_read
  rfl

/-- What the host code after the call finds. -/
abbrev found : Valuation τ sig (Elt Ideal) := Pipeline.withArrays spec0 c (V0 m c) fun w => (dats m 0 c).arrAt w cfg0.N

theorem found_at : found m c (Proc.tc.devRef main_v8) = tn .bf16 (X m c) (W m c) :=
  (Pipeline.withArrays_arr spec0 launch0.win.arr_inj c (V0 m c) (fun w => (dats m 0 c).arrAt w cfg0.N) 2).trans (res m c)

theorem slice9 : StableHlo.after (hostOps1.take 5) (found m c) (Proc.tc.devRef main_v9) = extractStridedSlice S2048x3072 ![0, 0] (tn .bf16 (X m c) (W m c)) slices_S2048x15488_S2048x3072_0_0 := by
  simp only [hostOps1, List.take]
  after_results
  rw [found_at]

theorem slice10 : StableHlo.after (hostOps1.take 5) (found m c) (Proc.tc.devRef main_v10) = extractStridedSlice S2048x8 ![0, 15360] (tn .bf16 (X m c) (W m c)) slices_S2048x15488_S2048x8_0_15360 := by
  simp only [hostOps1, List.take]
  after_results
  rw [found_at]

theorem slice11 : StableHlo.after (hostOps1.take 5) (found m c) (Proc.tc.devRef main_v11) = extractStridedSlice S2048x5120 ![0, 3072] (tn .bf16 (X m c) (W m c)) slices_S2048x15488_S2048x5120_0_3072 := by
  simp only [hostOps1, List.take]
  after_results
  rw [found_at]

theorem slice12 : StableHlo.after (hostOps1.take 5) (found m c) (Proc.tc.devRef main_v12) = extractStridedSlice S2048x16 ![0, 15368] (tn .bf16 (X m c) (W m c)) slices_S2048x15488_S2048x16_0_15368 := by
  simp only [hostOps1, List.take]
  after_results
  rw [found_at]

theorem slice13 : StableHlo.after (hostOps1.take 5) (found m c) (Proc.tc.devRef main_v13) = extractStridedSlice S2048x7168 ![0, 8192] (tn .bf16 (X m c) (W m c)) slices_S2048x15488_S2048x7168_0_8192 := by
  simp only [hostOps1, List.take]
  after_results
  rw [found_at]

/-- The result from what the call leaves. -/
theorem tail : Pipeline.afterTail₀ cfgs (dats m) 0 (V0 m) [hostOps1] c main_v14 = tn .bf16 (A0 m c) (A1 m c) := by
  have t : Pipeline.afterTail₀ cfgs (dats m) 0 (V0 m) [hostOps1] c main_v14 = concatenate S2048x15384 1
      [⟨S2048x3072, StableHlo.after (hostOps1.take 5) (found m c) (Proc.tc.devRef main_v9)⟩,
       ⟨S2048x8, StableHlo.after (hostOps1.take 5) (found m c) (Proc.tc.devRef main_v10)⟩,
       ⟨S2048x5120, StableHlo.after (hostOps1.take 5) (found m c) (Proc.tc.devRef main_v11)⟩,
       ⟨S2048x16, StableHlo.after (hostOps1.take 5) (found m c) (Proc.tc.devRef main_v12)⟩,
       ⟨S2048x7168, StableHlo.after (hostOps1.take 5) (found m c) (Proc.tc.devRef main_v13)⟩] concatenates_S2048x3072_S2048x8_S2048x5120_S2048x16_S2048x7168_S2048x15384_d1 := by
    unfold Pipeline.afterTail₀
    simp only [hostOps1, List.flatten_cons, List.flatten_nil, List.append_nil]
    after_results_simp
    rfl
  rw [slice9, slice10, slice11, slice12, slice13] at t
  refine t.trans ?_
  funext y
  obtain ⟨i, j, rfl⟩ : ∃ (i : Fin 2048) (j : Fin 15384), y = ix2 i j := ⟨y 0, y 1, by idx_vars y⟩
  exact (in_back _ slices_S2048x15488_S2048x3072_0_0 slices_S2048x15488_S2048x8_0_15360 slices_S2048x15488_S2048x5120_0_3072 slices_S2048x15488_S2048x16_0_15368
    slices_S2048x15488_S2048x7168_0_8192 concatenates_S2048x3072_S2048x8_S2048x5120_S2048x16_S2048x7168_S2048x15384_d1 i j).trans
    (tn_lays .bf16 (A0 m c) (lays1 m c) i j)

/-- Every execution from a memory with zero counters ends with the product of the arguments as the result and the
    arguments unchanged. -/
theorem run (ρ : Dev nD → PrngReg) : θ_run defs (onTc (τ := τ) (main (F := Ideal))) ⟨m, fun _ => 0, ρ⟩ fun r => ∀ c : Dev nD,
    r.2.mem ((c.tc : Thread nD τ).loc main_v14) = tn .bf16 (A0 m c) (A1 m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨((h.1 c).2 main_v14 (Pipeline.mem_restRefs_of main_v14 (by decide) (by decide))).trans (tail m c), h.2 c⟩)
    (θ_run_and (run_main m ρ) (unchanged m ρ))

end

end Cert.DwInIdeal.Final

end
-- ==== Proof.DxInVal.lean ====
/- The product for the gradient into the input projection. -/
module

public import proofs.«01_k».proof.Proof.Gen.DxInIdeal.Value
public import proofs.«01_k».proof.Proof.Mm
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.DxInIdeal.Final

open Cert.DxInIdeal Cert.DxInIdeal.Gen Cert.Mm

/-! ## What a grid point computes -/

theorem zero_at (r : Fin 1024) (l : Fin 1024) : k0_pay1 (F := Ideal) (ix2 r l) = 0 := by
  pointwise [k0_pay1]

theorem step_at (v : Vec Ideal S1024x1024 .f32) (x : Vec Ideal S1024x1408 .bf16) (w : Vec Ideal S1024x1408 .bf16) (r : Fin 1024) (l : Fin 1024) :
    k0_pay2 v x w (ix2 r l) = v (ix2 r l) + ∑ k, x (ix2 r k) * w (ix2 l k) := by
  pointwise [k0_pay2]

/-! ## The blocks of a grid point -/

theorem idx : ∀ t : Fin cfg0.N, win0_0.index t = ![t.val / 22, t.val % 11] ∧ win0_1.index t = ![t.val / 11 % 2, t.val % 11] ∧ win0_2.index t = ![t.val / 22, t.val / 11 % 2] ∧ win0_3.index t = ![t.val / 22, t.val / 11 % 2] :=
  (by decide +kernel : ∀ t : Fin grid0.N, _)

theorem lt (t : Fin cfg0.N) : t.val < 88 := lt_of_lt_of_eq t.isLt (by decide)

def row (t : Fin cfg0.N) (r : Fin 1024) : Fin 4096 := ⟨t.val / 22 * 1024 + r.val, by have := lt t; omega⟩
def col (t : Fin cfg0.N) (l : Fin 1024) : Fin 2048 := ⟨t.val / 11 % 2 * 1024 + l.val, by omega⟩
def dep (t : Fin cfg0.N) (k : Fin 1408) : Fin 15488 := ⟨1408 * (t.val % 11) + k.val, by omega⟩

theorem emb0 (t : Fin cfg0.N) (X : Vec Ideal S4096x15488 .bf16) (r : Fin 1024) (k : Fin 1408) : X ((win0_0.blk t).view.emb (ix2 r k)) = X (ix2 (row t r) (dep t k)) := by
  blk_ext [idx t, row, col, dep]

theorem emb1 (t : Fin cfg0.N) (X : Vec Ideal S2048x15488 .bf16) (l : Fin 1024) (k : Fin 1408) : X ((win0_1.blk t).view.emb (ix2 l k)) = X (ix2 (col t l) (dep t k)) := by
  blk_ext [idx t, row, col, dep]

theorem emb3 (t : Fin cfg0.N) (X : Vec Ideal S4096x2048 .f32) (r : Fin 1024) (l : Fin 1024) : X ((win0_3.blk t).view.emb (ix2 r l)) = X (ix2 (row t r) (col t l)) := by
  blk_ext [idx t, row, col, dep]

theorem rd0 (c : Dev nD) (t : Fin cfg0.N) (W : (b : Ref sig .tc) → Buf (Elt Ideal) ((c.tc : Thread nD τ).loc b)) (r : Fin 1024) (k : Fin 1408) :
    (((cfg0.win 0).blk t).view.read (Elt Ideal) (W (Pipeline.arrRef spec0 0)) : Vec Ideal S1024x1408 .bf16) (ix2 r k) = (W (Pipeline.arrRef spec0 0) : FVec Ideal S4096x15488 .bf16) (ix2 (row t r) (dep t k)) := by
  blk_simp
  exact emb0 t _ r k

theorem rd1 (c : Dev nD) (t : Fin cfg0.N) (W : (b : Ref sig .tc) → Buf (Elt Ideal) ((c.tc : Thread nD τ).loc b)) (l : Fin 1024) (k : Fin 1408) :
    (((cfg0.win 1).blk t).view.read (Elt Ideal) (W (Pipeline.arrRef spec0 1)) : Vec Ideal S1024x1408 .bf16) (ix2 l k) = (W (Pipeline.arrRef spec0 1) : FVec Ideal S2048x15488 .bf16) (ix2 (col t l) (dep t k)) := by
  blk_simp
  exact emb1 t _ l k

theorem emb2 (t : Fin cfg0.N) (X : Vec Ideal S4096x2048 .f32) (r : Fin 1024) (l : Fin 1024) : X ((win0_2.blk t).view.emb (ix2 r l)) = X (ix2 (row t r) (col t l)) := by
  blk_ext [idx t, row, col, dep]

theorem rd2 (c : Dev nD) (t : Fin cfg0.N) (W : (b : Ref sig .tc) → Buf (Elt Ideal) ((c.tc : Thread nD τ).loc b)) (r : Fin 1024) (l : Fin 1024) :
    (((cfg0.win 2).blk t).view.read (Elt Ideal) (W (Pipeline.arrRef spec0 2)) : Vec Ideal S1024x1024 .f32) (ix2 r l) = (W (Pipeline.arrRef spec0 2) : FVec Ideal S4096x2048 .f32) (ix2 (row t r) (col t l)) := by
  blk_simp
  exact emb2 t _ r l

section

variable (m : (ℓ : Loc nD τ sig) → Buf (Elt Ideal) ℓ) (c : Dev nD)

/-- The product's first array. -/
abbrev X : FVec Ideal S4096x15488 .bf16 := V m c (Pipeline.arrRef spec0 0)

/-- The product's second array. -/
abbrev W : FVec Ideal S2048x15488 .bf16 := V m c (Pipeline.arrRef spec0 1)

/-- The array added to the product. -/
abbrev D : FVec Ideal S4096x2048 .f32 := V m c (Pipeline.arrRef spec0 2)

/-- A grid point's block of the first array. -/
abbrev B0 (t : Fin cfg0.N) : FVec Ideal S1024x1408 .bf16 := iblk m c 0 t

/-- A grid point's block of the second array. -/
abbrev B1 (t : Fin cfg0.N) : FVec Ideal S1024x1408 .bf16 := iblk m c 1 t

theorem blk0 (t : Fin cfg0.N) (r : Fin 1024) (k : Fin 1408) : B0 m c t (ix2 r k) = X m c (ix2 (row t r) (dep t k)) := rd0 c t (V m c) r k

theorem blk1 (t : Fin cfg0.N) (l : Fin 1024) (k : Fin 1408) : B1 m c t (ix2 l k) = W m c (ix2 (col t l) (dep t k)) := rd1 c t (V m c) l k

/-! ## The sums a grid point carries on -/

theorem first (t : Fin cfg0.N) (h0 : t.val % 11 = 0) (y : S1024x1024.Idx) :
    (outsAt0 m c t.val t.isLt).2 y = k0_pay2 (k0_pay1 (F := Ideal)) (iblk m c 0 t) (iblk m c 1 t) y := by
  rw [outsAt0_A m c t h0 (by omega)]
  dsimp only
  unfold sout0_A_0
  frame_out

theorem next (t : Fin cfg0.N) (h0 : ¬ t.val % 11 = 0) (y : S1024x1024.Idx) :
    (outsAt0 m c t.val t.isLt).2 y = k0_pay2 (outsAt0 m c (t.val - 1) (Nat.lt_of_le_of_lt (Nat.sub_le _ _) t.isLt)).2 (iblk m c 0 t) (iblk m c 1 t) y := by
  by_cases h1 : t.val % 11 = 10
  · rw [outsAt0_C m c t h0 h1]
    dsimp only
    unfold sout0_C_0
    frame_out
    erw [Memref.IsWhole.read_unread]
  · rw [outsAt0_B m c t h0 h1]
    dsimp only
    unfold sout0_B_0
    frame_out
    erw [Memref.IsWhole.read_unread]

theorem last (t : Fin cfg0.N) (h1 : t.val % 11 = 10) (y : S1024x1024.Idx) :
    (outsAt0 m c t.val t.isLt).1 y = k0_pay3 (outsAt0 m c t.val t.isLt).2 (iblk m c 2 t) y := by
  rw [outsAt0_C m c t (by omega) h1]
  dsimp only
  unfold out0_C_3 sout0_C_0
  frame_out

/-- After the last tile a grid point's sums are the product's entries. -/
theorem whole (t : Fin cfg0.N) (h1 : t.val % 11 = 10) (r : Fin 1024) (l : Fin 1024) :
    (outsAt0 m c t.val t.isLt).2 (ix2 r l) = nt .f32 (X m c) (W m c) (ix2 (row t r) (col t l)) := by
  have tile : ∀ s : Fin cfg0.N, ∑ k, B0 m c s (ix2 r k) * B1 m c s (ix2 l k)
      = ∑ k : Fin 1408, X m c (ix2 (row s r) (dep s k)) * W m c (ix2 (col s l) (dep s k)) := fun s =>
    Finset.sum_congr rfl fun k _ => by rw [blk0, blk1]
  refine tiled_last (q := 11) (d := 1408) (fun s : Fin cfg0.N => (outsAt0 m c s.val s.isLt).2 (ix2 r l))
    (fun s k => X m c (ix2 (row s r) k) * W m c (ix2 (col s l) k)) (fun s x => by omega) (fun s h => ?_) (fun s h => ?_) (fun s h => ?_) t (by omega)
  · refine (first m c s h _).trans ((step_at _ _ _ r l).trans ?_)
    rw [zero_at, tile s]
    rfl
  · refine (next m c s h _).trans ((step_at _ _ _ r l).trans ?_)
    rw [tile s]
    rfl
  · have e1 : row ⟨s.val - 1, by omega⟩ r = row s r := Fin.ext (by simp only [row]; omega)
    have e2 : col ⟨s.val - 1, by omega⟩ l = col s l := Fin.ext (by simp only [col]; omega)
    simp only [e1, e2]

/-- The result of the call. -/
def out : FVec Ideal S4096x2048 .f32 := addf (nt .f32 (X m c) (W m c)) (mulf (broadcast S4096x2048 (Scalar.ofBits (F := Ideal) .f32 0x3FD744FD#32)) (D m c))

theorem end_at (v x : Vec Ideal S1024x1024 .f32) (r : Fin 1024) (l : Fin 1024) :
    k0_pay3 v x (ix2 r l) = v (ix2 r l) + Scalar.ofBits (F := Ideal) .f32 0x3FD744FD#32 * x (ix2 r l) := by
  rfl

/-- The call leaves it. -/
theorem res : (dats m 0 c).arrAt 3 cfg0.N = out m c := by
  refine (dats m 0 c).arrAt_eq_of_covers 3 _ (by decide +kernel) fun t ht y => ?_
  have h1 := (flush0_3 t).mp ht
  blk_simp [idx t]
  rw [after0_3]
  obtain ⟨r, l, rfl⟩ : ∃ (r : Fin 1024) (l : Fin 1024), y = ix2 r l := ⟨y 0, y 1, by idx_vars y⟩
  refine (last m c t h1 _).trans ?_
  rw [end_at, whole m c t h1]
  refine Eq.trans ?_ (emb3 t (out m c) r l).symm
  exact congrArg (fun z => _ + _ * z) (rd2 c t (V m c) r l)

end

end Cert.DxInIdeal.Final

end
-- ==== Proof.DxInEnd.lean ====
/- The gradient of the input projections' input: the call's result from the arguments. -/
module

public import proofs.«01_k».proof.Proof.DxInVal
public import proofs.«01_k».proof.Proof.Layout

@[expose] public section

set_option maxRecDepth 16384

noncomputable section

open Idealize.ShloMosaic Idealize.ShloMosaic.TcCoe Idealize.SL.Sem
open Idealize.ShloMosaic.Pipeline (Dat)

namespace Cert.DxInIdeal.Final

open Cert.DxInIdeal Cert.DxInIdeal.Gen Cert.Mm

section

variable (m : (ℓ : Loc nD τ sig) → Buf (Elt Ideal) ℓ) (c : Dev nD)

/-- Argument 0. -/
abbrev A0 : FVec Ideal S4096x15384 .bf16 := m ((c.tc : Thread nD τ).loc main_arg0)
/-- Argument 1. -/
abbrev A1 : FVec Ideal S2048x15384 .bf16 := m ((c.tc : Thread nD τ).loc main_arg1)
/-- Argument 2. -/
abbrev A2 : FVec Ideal S4096x2048 .f32 := m ((c.tc : Thread nD τ).loc main_arg2)

/-- The wide columns of argument 0 side by side, then its narrow ones padded. -/
theorem lays0 : Lays (A0 m c) (V m c main_v7) inP := by
  refine (in_lays (A0 m c) slices_S4096x15384_S4096x3072_0_0 slices_S4096x15384_S4096x8_0_3072 slices_S4096x15384_S4096x5120_0_3080 slices_S4096x15384_S4096x16_0_8200 slices_S4096x15384_S4096x7168_0_8216
    concatenates_S4096x8_S4096x16_S4096x24_d1 pads_S4096x24_S4096x128_000_01040 h_S_ concatenates_S4096x3072_S4096x5120_S4096x7168_S4096x128_S4096x15488_d1).of_eq ?_
  entry_read
  rfl

/-- The wide columns of argument 1 side by side, then its narrow ones padded. -/
theorem lays1 : Lays (A1 m c) (V m c main_v15) inP := by
  refine (in_lays (A1 m c) slices_S2048x15384_S2048x3072_0_0 slices_S2048x15384_S2048x8_0_3072 slices_S2048x15384_S2048x5120_0_3080 slices_S2048x15384_S2048x16_0_8200 slices_S2048x15384_S2048x7168_0_8216
    concatenates_S2048x8_S2048x16_S2048x24_d1 pads_S2048x24_S2048x128_000_01040 h_S_ concatenates_S2048x3072_S2048x5120_S2048x7168_S2048x128_S2048x15488_d1).of_eq ?_
  entry_read
  rfl

/-- What the call leaves: the product of the arguments and the scaled third argument. -/
theorem left : (dats m 0 c).arrAt 3 cfg0.N
    = addf (nt .f32 (A0 m c) (A1 m c)) (mulf (broadcast S4096x2048 (Scalar.ofBits (F := Ideal) .f32 0x3FD744FD#32)) (A2 m c)) :=
  (res m c).trans (congrArg (fun z => addf z _) (nt_lays .f32 inP_inj (lays0 m c) (lays1 m c)))

end

end Cert.DxInIdeal.Final

end
-- ==== Proof.RunDwDown.lean ====
/- The host program `RefDwDownIdeal` as the list of its operations, and its run: the result is the product of the arguments, the
   arguments unchanged. -/
module

public import proofs.«01_k».proof.Proof.Gen.RefDwDownIdeal
public import proofs.«01_k».proof.Proof.Mm
public import Idealize.ShloMosaic.Lib.StableHlo.Run

@[expose] public section

set_option maxRecDepth 16384

noncomputable section

namespace Cert.RefDwDownIdeal.Steps

open Cert.RefDwDownIdeal Cert.RefDwDownIdeal.Gen Cert.Mm Idealize.ShloMosaic Idealize.ShloMosaic.TcCoe Idealize.SL.Sem Idealize.ShloMosaic.StableHlo

variable {F : FTy → Type} [FloatOps F]

/-- The operations in order. -/
abbrev ops : List (HloOp τ sig (Elt F)) :=
  [ unary main_arg0 main_v0 ((extf .f32 · bitsLt_bf16_f32) : (⟨S4096x5504, .bf16⟩ : BufTy).Contents (Elt F) → (⟨S4096x5504, .f32⟩ : BufTy).Contents (Elt F)),
    unary main_arg1 main_v1 ((extf .f32 · bitsLt_bf16_f32) : (⟨S4096x2048, .bf16⟩ : BufTy).Contents (Elt F) → (⟨S4096x2048, .f32⟩ : BufTy).Contents (Elt F)),
    nullary main_cst (constant S_ .f32 0x00000000#32),
    unary main_cst main_v2 (broadcastInDim S5504x2048 ![] bcast_S_S5504x2048 : (⟨S_, .f32⟩ : BufTy).Contents (Elt F) → (⟨S5504x2048, .f32⟩ : BufTy).Contents (Elt F)),
    binary main_v0 main_v2 main_v3 ((fun l r => Host.dotGeneral dot_S4096x5504_S5504x2048_S4096x2048_1_0_0_1_n_n none l r) : (⟨S4096x5504, .f32⟩ : BufTy).Contents (Elt F) → (⟨S5504x2048, .f32⟩ : BufTy).Contents (Elt F) → (⟨S4096x2048, .f32⟩ : BufTy).Contents (Elt F)),
    binary main_v1 main_v0 main_v4 ((fun l r => Host.dotGeneral dot_S4096x2048_S4096x5504_S2048x5504_0_0_1_1_n_n none l r) : (⟨S4096x2048, .f32⟩ : BufTy).Contents (Elt F) → (⟨S4096x5504, .f32⟩ : BufTy).Contents (Elt F) → (⟨S2048x5504, .f32⟩ : BufTy).Contents (Elt F)),
    unary main_v4 main_v5 ((transpose S5504x2048 [1, 0] · transposes_S2048x5504_S5504x2048_1_0) : (⟨S2048x5504, .f32⟩ : BufTy).Contents (Elt F) → (⟨S5504x2048, .f32⟩ : BufTy).Contents (Elt F)),
    unary main_v5 main_v6 ((truncf .bf16 · bitsLt_bf16_f32) : (⟨S5504x2048, .f32⟩ : BufTy).Contents (Elt F) → (⟨S5504x2048, .bf16⟩ : BufTy).Contents (Elt F)) ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨unary_bufs_sub .., unary_bufs_sub .., nullary_bufs_sub .., unary_bufs_sub .., binary_bufs_sub .., binary_bufs_sub .., unary_bufs_sub .., unary_bufs_sub ..⟩

/-- The product as the program computes it. -/
theorem product (x : FVec Ideal S4096x5504 .bf16) (dy : FVec Ideal S4096x2048 .bf16) :
    truncf (F := Ideal) .bf16 (transpose S5504x2048 [1, 0] (Host.dotGeneral dot_S4096x2048_S4096x5504_S2048x5504_0_0_1_1_n_n none (extf (F := Ideal) (φ := .bf16) .f32 dy bitsLt_bf16_f32) (extf (F := Ideal) (φ := .bf16) .f32 x bitsLt_bf16_f32)) transposes_S2048x5504_S5504x2048_1_0) bitsLt_bf16_f32
      = tn .bf16 x dy := by
  funext y
  obtain ⟨i, j, rfl⟩ : ∃ (i : Fin 5504) (j : Fin 2048), y = ix2 i j := ⟨y 0, y 1, by idx_vars y⟩
  refine Eq.trans (b := ∑ k : Fin 4096, dy (ix2 k j) * x (ix2 k i)) (by pointwise [dot_S4096x2048_S4096x5504_S2048x5504_0_0_1_1_n_n]) ?_
  exact Finset.sum_congr rfl fun k _ => mul_comm _ _

/-- The result: the product of the arguments. -/
def val (m : (ℓ : Loc nD τ sig) → Buf (Elt Ideal) ℓ) (c : Dev nD) : FVec Ideal S5504x2048 .bf16 := tn .bf16 (m ((c.tc : Thread nD τ).loc main_arg0)) (m ((c.tc : Thread nD τ).loc main_arg1))

set_option maxRecDepth 100000 in
theorem after_val (m : (ℓ : Loc nD τ sig) → Buf (Elt Ideal) ℓ) (c : Dev nD) : after ops (launchContents m c) main_v6 = val m c := by
  simp only [ops, TRef.nullary, TRef.ternary, TRef.unary, TRef.toBuf, TRef.ofBuf, cast_eq]
  after_results_simp
  exact product _ _

theorem after_arg0 (m : (ℓ : Loc nD τ sig) → Buf (Elt Ideal) ℓ) (c : Dev nD) : after ops (launchContents m c) main_arg0 = m ((c.tc : Thread nD τ).loc main_arg0) := by
  simp only [ops, TRef.nullary, TRef.ternary, TRef.unary, TRef.toBuf, TRef.ofBuf, cast_eq]
  after_results_simp <;> rfl

theorem after_arg1 (m : (ℓ : Loc nD τ sig) → Buf (Elt Ideal) ℓ) (c : Dev nD) : after ops (launchContents m c) main_arg1 = m ((c.tc : Thread nD τ).loc main_arg1) := by
  simp only [ops, TRef.nullary, TRef.ternary, TRef.unary, TRef.toBuf, TRef.ofBuf, cast_eq]
  after_results_simp <;> rfl

/-- Every execution from a memory with zero counters ends with the product as the result and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v6) = val m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v6).trans (after_val m c), (h c main_arg0).trans (after_arg0 m c), (h c main_arg1).trans (after_arg1 m c)⟩)
    (run_seq scopedRefs_eq scopedSems_eq defs main (fun _ => ops) main_eq (fun _ => ops_sub) m ρ)

end Cert.RefDwDownIdeal.Steps

end
-- ==== Proof.RunDact.lean ====
/- The host program `RefDactIdeal` as the list of its operations, and its run: the result is the product of the arguments, the
   arguments unchanged. -/
module

public import proofs.«01_k».proof.Proof.Gen.RefDactIdeal
public import proofs.«01_k».proof.Proof.Mm
public import Idealize.ShloMosaic.Lib.StableHlo.Run

@[expose] public section

set_option maxRecDepth 16384

noncomputable section

namespace Cert.RefDactIdeal.Steps

open Cert.RefDactIdeal Cert.RefDactIdeal.Gen Cert.Mm Idealize.ShloMosaic Idealize.ShloMosaic.TcCoe Idealize.SL.Sem Idealize.ShloMosaic.StableHlo

variable {F : FTy → Type} [FloatOps F]

/-- The operations in order. -/
abbrev ops : List (HloOp τ sig (Elt F)) :=
  [ unary main_arg0 main_v0 ((extf .f32 · bitsLt_bf16_f32) : (⟨S4096x2048, .bf16⟩ : BufTy).Contents (Elt F) → (⟨S4096x2048, .f32⟩ : BufTy).Contents (Elt F)),
    unary main_arg1 main_v1 ((extf .f32 · bitsLt_bf16_f32) : (⟨S5504x2048, .bf16⟩ : BufTy).Contents (Elt F) → (⟨S5504x2048, .f32⟩ : BufTy).Contents (Elt F)),
    nullary main_cst (constant S_ .f32 0x00000000#32),
    unary main_cst main_v2 (broadcastInDim S4096x5504 ![] bcast_S_S4096x5504 : (⟨S_, .f32⟩ : BufTy).Contents (Elt F) → (⟨S4096x5504, .f32⟩ : BufTy).Contents (Elt F)),
    binary main_v2 main_v1 main_v3 ((fun l r => Host.dotGeneral dot_S4096x5504_S5504x2048_S4096x2048_1_0_0_1_n_n none l r) : (⟨S4096x5504, .f32⟩ : BufTy).Contents (Elt F) → (⟨S5504x2048, .f32⟩ : BufTy).Contents (Elt F) → (⟨S4096x2048, .f32⟩ : BufTy).Contents (Elt F)),
    binary main_v0 main_v1 main_v4 ((fun l r => Host.dotGeneral dot_S4096x2048_S5504x2048_S4096x5504_1_1_0_0_n_n none l r) : (⟨S4096x2048, .f32⟩ : BufTy).Contents (Elt F) → (⟨S5504x2048, .f32⟩ : BufTy).Contents (Elt F) → (⟨S4096x5504, .f32⟩ : BufTy).Contents (Elt F)) ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨unary_bufs_sub .., unary_bufs_sub .., nullary_bufs_sub .., unary_bufs_sub .., binary_bufs_sub .., binary_bufs_sub ..⟩

/-- The product as the program computes it. -/
theorem product (x : FVec Ideal S4096x2048 .bf16) (w : FVec Ideal S5504x2048 .bf16) :
    Host.dotGeneral dot_S4096x2048_S5504x2048_S4096x5504_1_1_0_0_n_n none (extf (F := Ideal) (φ := .bf16) .f32 x bitsLt_bf16_f32) (extf (F := Ideal) (φ := .bf16) .f32 w bitsLt_bf16_f32)
      = nt .f32 x w := by
  funext y
  obtain ⟨i, j, rfl⟩ : ∃ (i : Fin 4096) (j : Fin 5504), y = ix2 i j := ⟨y 0, y 1, by idx_vars y⟩
  refine Eq.trans (b := ∑ k : Fin 2048, x (ix2 i k) * w (ix2 j k)) (by pointwise [dot_S4096x2048_S5504x2048_S4096x5504_1_1_0_0_n_n]) ?_
  rfl

/-- The result: the product of the arguments. -/
def val (m : (ℓ : Loc nD τ sig) → Buf (Elt Ideal) ℓ) (c : Dev nD) : FVec Ideal S4096x5504 .f32 := nt .f32 (m ((c.tc : Thread nD τ).loc main_arg0)) (m ((c.tc : Thread nD τ).loc main_arg1))

set_option maxRecDepth 100000 in
theorem after_val (m : (ℓ : Loc nD τ sig) → Buf (Elt Ideal) ℓ) (c : Dev nD) : after ops (launchContents m c) main_v4 = val m c := by
  simp only [ops, TRef.nullary, TRef.ternary, TRef.unary, TRef.toBuf, TRef.ofBuf, cast_eq]
  after_results_simp
  exact product _ _

theorem after_arg0 (m : (ℓ : Loc nD τ sig) → Buf (Elt Ideal) ℓ) (c : Dev nD) : after ops (launchContents m c) main_arg0 = m ((c.tc : Thread nD τ).loc main_arg0) := by
  simp only [ops, TRef.nullary, TRef.ternary, TRef.unary, TRef.toBuf, TRef.ofBuf, cast_eq]
  after_results_simp <;> rfl

theorem after_arg1 (m : (ℓ : Loc nD τ sig) → Buf (Elt Ideal) ℓ) (c : Dev nD) : after ops (launchContents m c) main_arg1 = m ((c.tc : Thread nD τ).loc main_arg1) := by
  simp only [ops, TRef.nullary, TRef.ternary, TRef.unary, TRef.toBuf, TRef.ofBuf, cast_eq]
  after_results_simp <;> rfl

/-- Every execution from a memory with zero counters ends with the product as the result and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v4) = val m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v4).trans (after_val m c), (h c main_arg0).trans (after_arg0 m c), (h c main_arg1).trans (after_arg1 m c)⟩)
    (run_seq scopedRefs_eq scopedSems_eq defs main (fun _ => ops) main_eq (fun _ => ops_sub) m ρ)

end Cert.RefDactIdeal.Steps

end
-- ==== Proof.RunDwUp.lean ====
/- The host program `RefDwUpIdeal` as the list of its operations, and its run: the result is the product of the arguments, the
   arguments unchanged. -/
module

public import proofs.«01_k».proof.Proof.Gen.RefDwUpIdeal
public import proofs.«01_k».proof.Proof.Mm
public import Idealize.ShloMosaic.Lib.StableHlo.Run

@[expose] public section

set_option maxRecDepth 16384

noncomputable section

namespace Cert.RefDwUpIdeal.Steps

open Cert.RefDwUpIdeal Cert.RefDwUpIdeal.Gen Cert.Mm Idealize.ShloMosaic Idealize.ShloMosaic.TcCoe Idealize.SL.Sem Idealize.ShloMosaic.StableHlo

variable {F : FTy → Type} [FloatOps F]

/-- The operations in order. -/
abbrev ops : List (HloOp τ sig (Elt F)) :=
  [ unary main_arg0 main_v0 ((extf .f32 · bitsLt_bf16_f32) : (⟨S4096x2048, .bf16⟩ : BufTy).Contents (Elt F) → (⟨S4096x2048, .f32⟩ : BufTy).Contents (Elt F)),
    unary main_arg1 main_v1 ((extf .f32 · bitsLt_bf16_f32) : (⟨S4096x11008, .bf16⟩ : BufTy).Contents (Elt F) → (⟨S4096x11008, .f32⟩ : BufTy).Contents (Elt F)),
    nullary main_cst (constant S_ .f32 0x00000000#32),
    unary main_cst main_v2 (broadcastInDim S2048x11008 ![] bcast_S_S2048x11008 : (⟨S_, .f32⟩ : BufTy).Contents (Elt F) → (⟨S2048x11008, .f32⟩ : BufTy).Contents (Elt F)),
    binary main_v0 main_v2 main_v3 ((fun l r => Host.dotGeneral dot_S4096x2048_S2048x11008_S4096x11008_1_0_0_1_n_n none l r) : (⟨S4096x2048, .f32⟩ : BufTy).Contents (Elt F) → (⟨S2048x11008, .f32⟩ : BufTy).Contents (Elt F) → (⟨S4096x11008, .f32⟩ : BufTy).Contents (Elt F)),
    binary main_v1 main_v0 main_v4 ((fun l r => Host.dotGeneral dot_S4096x11008_S4096x2048_S11008x2048_0_0_1_1_n_n none l r) : (⟨S4096x11008, .f32⟩ : BufTy).Contents (Elt F) → (⟨S4096x2048, .f32⟩ : BufTy).Contents (Elt F) → (⟨S11008x2048, .f32⟩ : BufTy).Contents (Elt F)),
    unary main_v4 main_v5 ((transpose S2048x11008 [1, 0] · transposes_S11008x2048_S2048x11008_1_0) : (⟨S11008x2048, .f32⟩ : BufTy).Contents (Elt F) → (⟨S2048x11008, .f32⟩ : BufTy).Contents (Elt F)),
    unary main_v5 main_v6 ((truncf .bf16 · bitsLt_bf16_f32) : (⟨S2048x11008, .f32⟩ : BufTy).Contents (Elt F) → (⟨S2048x11008, .bf16⟩ : BufTy).Contents (Elt F)) ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨unary_bufs_sub .., unary_bufs_sub .., nullary_bufs_sub .., unary_bufs_sub .., binary_bufs_sub .., binary_bufs_sub .., unary_bufs_sub .., unary_bufs_sub ..⟩

/-- The product as the program computes it. -/
theorem product (x : FVec Ideal S4096x2048 .bf16) (dy : FVec Ideal S4096x11008 .bf16) :
    truncf (F := Ideal) .bf16 (transpose S2048x11008 [1, 0] (Host.dotGeneral dot_S4096x11008_S4096x2048_S11008x2048_0_0_1_1_n_n none (extf (F := Ideal) (φ := .bf16) .f32 dy bitsLt_bf16_f32) (extf (F := Ideal) (φ := .bf16) .f32 x bitsLt_bf16_f32)) transposes_S11008x2048_S2048x11008_1_0) bitsLt_bf16_f32
      = tn .bf16 x dy := by
  funext y
  obtain ⟨i, j, rfl⟩ : ∃ (i : Fin 2048) (j : Fin 11008), y = ix2 i j := ⟨y 0, y 1, by idx_vars y⟩
  refine Eq.trans (b := ∑ k : Fin 4096, dy (ix2 k j) * x (ix2 k i)) (by pointwise [dot_S4096x11008_S4096x2048_S11008x2048_0_0_1_1_n_n]) ?_
  exact Finset.sum_congr rfl fun k _ => mul_comm _ _

/-- The result: the product of the arguments. -/
def val (m : (ℓ : Loc nD τ sig) → Buf (Elt Ideal) ℓ) (c : Dev nD) : FVec Ideal S2048x11008 .bf16 := tn .bf16 (m ((c.tc : Thread nD τ).loc main_arg0)) (m ((c.tc : Thread nD τ).loc main_arg1))

set_option maxRecDepth 100000 in
theorem after_val (m : (ℓ : Loc nD τ sig) → Buf (Elt Ideal) ℓ) (c : Dev nD) : after ops (launchContents m c) main_v6 = val m c := by
  simp only [ops, TRef.nullary, TRef.ternary, TRef.unary, TRef.toBuf, TRef.ofBuf, cast_eq]
  after_results_simp
  exact product _ _

theorem after_arg0 (m : (ℓ : Loc nD τ sig) → Buf (Elt Ideal) ℓ) (c : Dev nD) : after ops (launchContents m c) main_arg0 = m ((c.tc : Thread nD τ).loc main_arg0) := by
  simp only [ops, TRef.nullary, TRef.ternary, TRef.unary, TRef.toBuf, TRef.ofBuf, cast_eq]
  after_results_simp <;> rfl

theorem after_arg1 (m : (ℓ : Loc nD τ sig) → Buf (Elt Ideal) ℓ) (c : Dev nD) : after ops (launchContents m c) main_arg1 = m ((c.tc : Thread nD τ).loc main_arg1) := by
  simp only [ops, TRef.nullary, TRef.ternary, TRef.unary, TRef.toBuf, TRef.ofBuf, cast_eq]
  after_results_simp <;> rfl

/-- Every execution from a memory with zero counters ends with the product as the result and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v6) = val m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v6).trans (after_val m c), (h c main_arg0).trans (after_arg0 m c), (h c main_arg1).trans (after_arg1 m c)⟩)
    (run_seq scopedRefs_eq scopedSems_eq defs main (fun _ => ops) main_eq (fun _ => ops_sub) m ρ)

end Cert.RefDwUpIdeal.Steps

end
-- ==== Proof.RunDxUp.lean ====
/- The host program `RefDxUpIdeal` as the list of its operations, and its run: the result is the product of the arguments, the
   arguments unchanged. -/
module

public import proofs.«01_k».proof.Proof.Gen.RefDxUpIdeal
public import proofs.«01_k».proof.Proof.Mm
public import Idealize.ShloMosaic.Lib.StableHlo.Run

@[expose] public section

set_option maxRecDepth 16384

noncomputable section

namespace Cert.RefDxUpIdeal.Steps

open Cert.RefDxUpIdeal Cert.RefDxUpIdeal.Gen Cert.Mm Idealize.ShloMosaic Idealize.ShloMosaic.TcCoe Idealize.SL.Sem Idealize.ShloMosaic.StableHlo

variable {F : FTy → Type} [FloatOps F]

/-- The operations in order. -/
abbrev ops : List (HloOp τ sig (Elt F)) :=
  [ unary main_arg0 main_v0 ((extf .f32 · bitsLt_bf16_f32) : (⟨S4096x11008, .bf16⟩ : BufTy).Contents (Elt F) → (⟨S4096x11008, .f32⟩ : BufTy).Contents (Elt F)),
    unary main_arg1 main_v1 ((extf .f32 · bitsLt_bf16_f32) : (⟨S2048x11008, .bf16⟩ : BufTy).Contents (Elt F) → (⟨S2048x11008, .f32⟩ : BufTy).Contents (Elt F)),
    nullary main_cst (constant S_ .f32 0x00000000#32),
    unary main_cst main_v2 (broadcastInDim S4096x2048 ![] bcast_S_S4096x2048 : (⟨S_, .f32⟩ : BufTy).Contents (Elt F) → (⟨S4096x2048, .f32⟩ : BufTy).Contents (Elt F)),
    binary main_v2 main_v1 main_v3 ((fun l r => Host.dotGeneral dot_S4096x2048_S2048x11008_S4096x11008_1_0_0_1_n_n none l r) : (⟨S4096x2048, .f32⟩ : BufTy).Contents (Elt F) → (⟨S2048x11008, .f32⟩ : BufTy).Contents (Elt F) → (⟨S4096x11008, .f32⟩ : BufTy).Contents (Elt F)),
    nullary main_cst_0 (constant S_ .f32 0x3FD744FD#32),
    unary main_cst_0 main_v4 (broadcastInDim S4096x2048 ![] bcast_S_S4096x2048 : (⟨S_, .f32⟩ : BufTy).Contents (Elt F) → (⟨S4096x2048, .f32⟩ : BufTy).Contents (Elt F)),
    binary main_v4 main_v2 main_v5 (mulf : (⟨S4096x2048, .f32⟩ : BufTy).Contents (Elt F) → (⟨S4096x2048, .f32⟩ : BufTy).Contents (Elt F) → (⟨S4096x2048, .f32⟩ : BufTy).Contents (Elt F)),
    nullary main_cst_1 (constant S_ .f32 0x3FD744FD#32),
    unary main_cst_1 main_v6 (broadcastInDim S4096x2048 ![] bcast_S_S4096x2048 : (⟨S_, .f32⟩ : BufTy).Contents (Elt F) → (⟨S4096x2048, .f32⟩ : BufTy).Contents (Elt F)),
    binary main_v6 main_arg2 main_v7 (mulf : (⟨S4096x2048, .f32⟩ : BufTy).Contents (Elt F) → (⟨S4096x2048, .f32⟩ : BufTy).Contents (Elt F) → (⟨S4096x2048, .f32⟩ : BufTy).Contents (Elt F)),
    binary main_v0 main_v1 main_v8 ((fun l r => Host.dotGeneral dot_S4096x11008_S2048x11008_S4096x2048_1_1_0_0_n_n none l r) : (⟨S4096x11008, .f32⟩ : BufTy).Contents (Elt F) → (⟨S2048x11008, .f32⟩ : BufTy).Contents (Elt F) → (⟨S4096x2048, .f32⟩ : BufTy).Contents (Elt F)),
    binary main_v7 main_v8 main_v9 (addf : (⟨S4096x2048, .f32⟩ : BufTy).Contents (Elt F) → (⟨S4096x2048, .f32⟩ : BufTy).Contents (Elt F) → (⟨S4096x2048, .f32⟩ : BufTy).Contents (Elt F)) ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨unary_bufs_sub .., unary_bufs_sub .., nullary_bufs_sub .., unary_bufs_sub .., binary_bufs_sub .., nullary_bufs_sub .., unary_bufs_sub .., binary_bufs_sub .., nullary_bufs_sub .., unary_bufs_sub .., binary_bufs_sub .., binary_bufs_sub .., binary_bufs_sub ..⟩

/-- The product as the program computes it. -/
theorem product (x : FVec Ideal S4096x11008 .bf16) (w : FVec Ideal S2048x11008 .bf16) :
    Host.dotGeneral dot_S4096x11008_S2048x11008_S4096x2048_1_1_0_0_n_n none (extf (F := Ideal) (φ := .bf16) .f32 x bitsLt_bf16_f32) (extf (F := Ideal) (φ := .bf16) .f32 w bitsLt_bf16_f32)
      = nt .f32 x w := by
  funext y
  obtain ⟨i, j, rfl⟩ : ∃ (i : Fin 4096) (j : Fin 2048), y = ix2 i j := ⟨y 0, y 1, by idx_vars y⟩
  refine Eq.trans (b := ∑ k : Fin 11008, x (ix2 i k) * w (ix2 j k)) (by pointwise [dot_S4096x11008_S2048x11008_S4096x2048_1_1_0_0_n_n]) ?_
  rfl

/-- The result: the product of the arguments. -/
def val (m : (ℓ : Loc nD τ sig) → Buf (Elt Ideal) ℓ) (c : Dev nD) : FVec Ideal S4096x2048 .f32 := addf (nt .f32 (m ((c.tc : Thread nD τ).loc main_arg0)) (m ((c.tc : Thread nD τ).loc main_arg1))) (mulf (broadcast S4096x2048 (Scalar.ofBits (F := Ideal) .f32 0x3FD744FD#32)) (m ((c.tc : Thread nD τ).loc main_arg2)))

set_option maxRecDepth 100000 in
theorem after_val (m : (ℓ : Loc nD τ sig) → Buf (Elt Ideal) ℓ) (c : Dev nD) : after ops (launchContents m c) main_v9 = val m c := by
  simp only [ops, TRef.nullary, TRef.ternary, TRef.unary, TRef.toBuf, TRef.ofBuf, cast_eq]
  after_results_simp
  refine (congrArg (fun z => addf _ z) (product _ _)).trans ?_
  funext y
  exact add_comm _ _

theorem after_arg0 (m : (ℓ : Loc nD τ sig) → Buf (Elt Ideal) ℓ) (c : Dev nD) : after ops (launchContents m c) main_arg0 = m ((c.tc : Thread nD τ).loc main_arg0) := by
  simp only [ops, TRef.nullary, TRef.ternary, TRef.unary, TRef.toBuf, TRef.ofBuf, cast_eq]
  after_results_simp <;> rfl

theorem after_arg1 (m : (ℓ : Loc nD τ sig) → Buf (Elt Ideal) ℓ) (c : Dev nD) : after ops (launchContents m c) main_arg1 = m ((c.tc : Thread nD τ).loc main_arg1) := by
  simp only [ops, TRef.nullary, TRef.ternary, TRef.unary, TRef.toBuf, TRef.ofBuf, cast_eq]
  after_results_simp <;> rfl

theorem after_arg2 (m : (ℓ : Loc nD τ sig) → Buf (Elt Ideal) ℓ) (c : Dev nD) : after ops (launchContents m c) main_arg2 = m ((c.tc : Thread nD τ).loc main_arg2) := by
  simp only [ops, TRef.nullary, TRef.ternary, TRef.unary, TRef.toBuf, TRef.ofBuf, cast_eq]
  after_results_simp <;> rfl

/-- Every execution from a memory with zero counters ends with the product as the result and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v9) = val m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v9).trans (after_val m c), (h c main_arg0).trans (after_arg0 m c), (h c main_arg1).trans (after_arg1 m c), (h c main_arg2).trans (after_arg2 m c)⟩)
    (run_seq scopedRefs_eq scopedSems_eq defs main (fun _ => ops) main_eq (fun _ => ops_sub) m ρ)

end Cert.RefDxUpIdeal.Steps

end
-- ==== Proof.RunDwIn.lean ====
/- The host program `RefDwInIdeal` as the list of its operations, and its run: the result is the product of the arguments, the
   arguments unchanged. -/
module

public import proofs.«01_k».proof.Proof.Gen.RefDwInIdeal
public import proofs.«01_k».proof.Proof.Mm
public import Idealize.ShloMosaic.Lib.StableHlo.Run

@[expose] public section

set_option maxRecDepth 16384

noncomputable section

namespace Cert.RefDwInIdeal.Steps

open Cert.RefDwInIdeal Cert.RefDwInIdeal.Gen Cert.Mm Idealize.ShloMosaic Idealize.ShloMosaic.TcCoe Idealize.SL.Sem Idealize.ShloMosaic.StableHlo

variable {F : FTy → Type} [FloatOps F]

/-- The operations in order. -/
abbrev ops : List (HloOp τ sig (Elt F)) :=
  [ unary main_arg0 main_v0 ((extf .f32 · bitsLt_bf16_f32) : (⟨S4096x2048, .bf16⟩ : BufTy).Contents (Elt F) → (⟨S4096x2048, .f32⟩ : BufTy).Contents (Elt F)),
    unary main_arg1 main_v1 ((extf .f32 · bitsLt_bf16_f32) : (⟨S4096x15384, .bf16⟩ : BufTy).Contents (Elt F) → (⟨S4096x15384, .f32⟩ : BufTy).Contents (Elt F)),
    nullary main_cst (constant S_ .f32 0x00000000#32),
    unary main_cst main_v2 (broadcastInDim S2048x15384 ![] bcast_S_S2048x15384 : (⟨S_, .f32⟩ : BufTy).Contents (Elt F) → (⟨S2048x15384, .f32⟩ : BufTy).Contents (Elt F)),
    binary main_v0 main_v2 main_v3 ((fun l r => Host.dotGeneral dot_S4096x2048_S2048x15384_S4096x15384_1_0_0_1_n_n none l r) : (⟨S4096x2048, .f32⟩ : BufTy).Contents (Elt F) → (⟨S2048x15384, .f32⟩ : BufTy).Contents (Elt F) → (⟨S4096x15384, .f32⟩ : BufTy).Contents (Elt F)),
    binary main_v1 main_v0 main_v4 ((fun l r => Host.dotGeneral dot_S4096x15384_S4096x2048_S15384x2048_0_0_1_1_n_n none l r) : (⟨S4096x15384, .f32⟩ : BufTy).Contents (Elt F) → (⟨S4096x2048, .f32⟩ : BufTy).Contents (Elt F) → (⟨S15384x2048, .f32⟩ : BufTy).Contents (Elt F)),
    unary main_v4 main_v5 ((transpose S2048x15384 [1, 0] · transposes_S15384x2048_S2048x15384_1_0) : (⟨S15384x2048, .f32⟩ : BufTy).Contents (Elt F) → (⟨S2048x15384, .f32⟩ : BufTy).Contents (Elt F)),
    unary main_v5 main_v6 ((truncf .bf16 · bitsLt_bf16_f32) : (⟨S2048x15384, .f32⟩ : BufTy).Contents (Elt F) → (⟨S2048x15384, .bf16⟩ : BufTy).Contents (Elt F)) ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨unary_bufs_sub .., unary_bufs_sub .., nullary_bufs_sub .., unary_bufs_sub .., binary_bufs_sub .., binary_bufs_sub .., unary_bufs_sub .., unary_bufs_sub ..⟩

/-- The product as the program computes it. -/
theorem product (x : FVec Ideal S4096x2048 .bf16) (dy : FVec Ideal S4096x15384 .bf16) :
    truncf (F := Ideal) .bf16 (transpose S2048x15384 [1, 0] (Host.dotGeneral dot_S4096x15384_S4096x2048_S15384x2048_0_0_1_1_n_n none (extf (F := Ideal) (φ := .bf16) .f32 dy bitsLt_bf16_f32) (extf (F := Ideal) (φ := .bf16) .f32 x bitsLt_bf16_f32)) transposes_S15384x2048_S2048x15384_1_0) bitsLt_bf16_f32
      = tn .bf16 x dy := by
  funext y
  obtain ⟨i, j, rfl⟩ : ∃ (i : Fin 2048) (j : Fin 15384), y = ix2 i j := ⟨y 0, y 1, by idx_vars y⟩
  refine Eq.trans (b := ∑ k : Fin 4096, dy (ix2 k j) * x (ix2 k i)) (by pointwise [dot_S4096x15384_S4096x2048_S15384x2048_0_0_1_1_n_n]) ?_
  exact Finset.sum_congr rfl fun k _ => mul_comm _ _

/-- The result: the product of the arguments. -/
def val (m : (ℓ : Loc nD τ sig) → Buf (Elt Ideal) ℓ) (c : Dev nD) : FVec Ideal S2048x15384 .bf16 := tn .bf16 (m ((c.tc : Thread nD τ).loc main_arg0)) (m ((c.tc : Thread nD τ).loc main_arg1))

set_option maxRecDepth 100000 in
theorem after_val (m : (ℓ : Loc nD τ sig) → Buf (Elt Ideal) ℓ) (c : Dev nD) : after ops (launchContents m c) main_v6 = val m c := by
  simp only [ops, TRef.nullary, TRef.ternary, TRef.unary, TRef.toBuf, TRef.ofBuf, cast_eq]
  after_results_simp
  exact product _ _

theorem after_arg0 (m : (ℓ : Loc nD τ sig) → Buf (Elt Ideal) ℓ) (c : Dev nD) : after ops (launchContents m c) main_arg0 = m ((c.tc : Thread nD τ).loc main_arg0) := by
  simp only [ops, TRef.nullary, TRef.ternary, TRef.unary, TRef.toBuf, TRef.ofBuf, cast_eq]
  after_results_simp <;> rfl

theorem after_arg1 (m : (ℓ : Loc nD τ sig) → Buf (Elt Ideal) ℓ) (c : Dev nD) : after ops (launchContents m c) main_arg1 = m ((c.tc : Thread nD τ).loc main_arg1) := by
  simp only [ops, TRef.nullary, TRef.ternary, TRef.unary, TRef.toBuf, TRef.ofBuf, cast_eq]
  after_results_simp <;> rfl

/-- Every execution from a memory with zero counters ends with the product as the result and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v6) = val m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v6).trans (after_val m c), (h c main_arg0).trans (after_arg0 m c), (h c main_arg1).trans (after_arg1 m c)⟩)
    (run_seq scopedRefs_eq scopedSems_eq defs main (fun _ => ops) main_eq (fun _ => ops_sub) m ρ)

end Cert.RefDwInIdeal.Steps

end
-- ==== Proof.RunDxIn.lean ====
/- The host program `RefDxInIdeal` as the list of its operations, and its run: the result is the product of the arguments, the
   arguments unchanged. -/
module

public import proofs.«01_k».proof.Proof.Gen.RefDxInIdeal
public import proofs.«01_k».proof.Proof.Mm
public import Idealize.ShloMosaic.Lib.StableHlo.Run

@[expose] public section

set_option maxRecDepth 16384

noncomputable section

namespace Cert.RefDxInIdeal.Steps

open Cert.RefDxInIdeal Cert.RefDxInIdeal.Gen Cert.Mm Idealize.ShloMosaic Idealize.ShloMosaic.TcCoe Idealize.SL.Sem Idealize.ShloMosaic.StableHlo

variable {F : FTy → Type} [FloatOps F]

/-- The operations in order. -/
abbrev ops : List (HloOp τ sig (Elt F)) :=
  [ unary main_arg0 main_v0 ((extf .f32 · bitsLt_bf16_f32) : (⟨S4096x15384, .bf16⟩ : BufTy).Contents (Elt F) → (⟨S4096x15384, .f32⟩ : BufTy).Contents (Elt F)),
    unary main_arg1 main_v1 ((extf .f32 · bitsLt_bf16_f32) : (⟨S2048x15384, .bf16⟩ : BufTy).Contents (Elt F) → (⟨S2048x15384, .f32⟩ : BufTy).Contents (Elt F)),
    nullary main_cst (constant S_ .f32 0x00000000#32),
    unary main_cst main_v2 (broadcastInDim S4096x2048 ![] bcast_S_S4096x2048 : (⟨S_, .f32⟩ : BufTy).Contents (Elt F) → (⟨S4096x2048, .f32⟩ : BufTy).Contents (Elt F)),
    binary main_v2 main_v1 main_v3 ((fun l r => Host.dotGeneral dot_S4096x2048_S2048x15384_S4096x15384_1_0_0_1_n_n none l r) : (⟨S4096x2048, .f32⟩ : BufTy).Contents (Elt F) → (⟨S2048x15384, .f32⟩ : BufTy).Contents (Elt F) → (⟨S4096x15384, .f32⟩ : BufTy).Contents (Elt F)),
    nullary main_cst_0 (constant S_ .f32 0x3FD744FD#32),
    unary main_cst_0 main_v4 (broadcastInDim S4096x2048 ![] bcast_S_S4096x2048 : (⟨S_, .f32⟩ : BufTy).Contents (Elt F) → (⟨S4096x2048, .f32⟩ : BufTy).Contents (Elt F)),
    binary main_v4 main_v2 main_v5 (mulf : (⟨S4096x2048, .f32⟩ : BufTy).Contents (Elt F) → (⟨S4096x2048, .f32⟩ : BufTy).Contents (Elt F) → (⟨S4096x2048, .f32⟩ : BufTy).Contents (Elt F)),
    nullary main_cst_1 (constant S_ .f32 0x3FD744FD#32),
    unary main_cst_1 main_v6 (broadcastInDim S4096x2048 ![] bcast_S_S4096x2048 : (⟨S_, .f32⟩ : BufTy).Contents (Elt F) → (⟨S4096x2048, .f32⟩ : BufTy).Contents (Elt F)),
    binary main_v6 main_arg2 main_v7 (mulf : (⟨S4096x2048, .f32⟩ : BufTy).Contents (Elt F) → (⟨S4096x2048, .f32⟩ : BufTy).Contents (Elt F) → (⟨S4096x2048, .f32⟩ : BufTy).Contents (Elt F)),
    binary main_v0 main_v1 main_v8 ((fun l r => Host.dotGeneral dot_S4096x15384_S2048x15384_S4096x2048_1_1_0_0_n_n none l r) : (⟨S4096x15384, .f32⟩ : BufTy).Contents (Elt F) → (⟨S2048x15384, .f32⟩ : BufTy).Contents (Elt F) → (⟨S4096x2048, .f32⟩ : BufTy).Contents (Elt F)),
    binary main_v7 main_v8 main_v9 (addf : (⟨S4096x2048, .f32⟩ : BufTy).Contents (Elt F) → (⟨S4096x2048, .f32⟩ : BufTy).Contents (Elt F) → (⟨S4096x2048, .f32⟩ : BufTy).Contents (Elt F)) ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨unary_bufs_sub .., unary_bufs_sub .., nullary_bufs_sub .., unary_bufs_sub .., binary_bufs_sub .., nullary_bufs_sub .., unary_bufs_sub .., binary_bufs_sub .., nullary_bufs_sub .., unary_bufs_sub .., binary_bufs_sub .., binary_bufs_sub .., binary_bufs_sub ..⟩

/-- The product as the program computes it. -/
theorem product (x : FVec Ideal S4096x15384 .bf16) (w : FVec Ideal S2048x15384 .bf16) :
    Host.dotGeneral dot_S4096x15384_S2048x15384_S4096x2048_1_1_0_0_n_n none (extf (F := Ideal) (φ := .bf16) .f32 x bitsLt_bf16_f32) (extf (F := Ideal) (φ := .bf16) .f32 w bitsLt_bf16_f32)
      = nt .f32 x w := by
  funext y
  obtain ⟨i, j, rfl⟩ : ∃ (i : Fin 4096) (j : Fin 2048), y = ix2 i j := ⟨y 0, y 1, by idx_vars y⟩
  refine Eq.trans (b := ∑ k : Fin 15384, x (ix2 i k) * w (ix2 j k)) (by pointwise [dot_S4096x15384_S2048x15384_S4096x2048_1_1_0_0_n_n]) ?_
  rfl

/-- The result: the product of the arguments. -/
def val (m : (ℓ : Loc nD τ sig) → Buf (Elt Ideal) ℓ) (c : Dev nD) : FVec Ideal S4096x2048 .f32 := addf (nt .f32 (m ((c.tc : Thread nD τ).loc main_arg0)) (m ((c.tc : Thread nD τ).loc main_arg1))) (mulf (broadcast S4096x2048 (Scalar.ofBits (F := Ideal) .f32 0x3FD744FD#32)) (m ((c.tc : Thread nD τ).loc main_arg2)))

set_option maxRecDepth 100000 in
theorem after_val (m : (ℓ : Loc nD τ sig) → Buf (Elt Ideal) ℓ) (c : Dev nD) : after ops (launchContents m c) main_v9 = val m c := by
  simp only [ops, TRef.nullary, TRef.ternary, TRef.unary, TRef.toBuf, TRef.ofBuf, cast_eq]
  after_results_simp
  refine (congrArg (fun z => addf _ z) (product _ _)).trans ?_
  funext y
  exact add_comm _ _

theorem after_arg0 (m : (ℓ : Loc nD τ sig) → Buf (Elt Ideal) ℓ) (c : Dev nD) : after ops (launchContents m c) main_arg0 = m ((c.tc : Thread nD τ).loc main_arg0) := by
  simp only [ops, TRef.nullary, TRef.ternary, TRef.unary, TRef.toBuf, TRef.ofBuf, cast_eq]
  after_results_simp <;> rfl

theorem after_arg1 (m : (ℓ : Loc nD τ sig) → Buf (Elt Ideal) ℓ) (c : Dev nD) : after ops (launchContents m c) main_arg1 = m ((c.tc : Thread nD τ).loc main_arg1) := by
  simp only [ops, TRef.nullary, TRef.ternary, TRef.unary, TRef.toBuf, TRef.ofBuf, cast_eq]
  after_results_simp <;> rfl

theorem after_arg2 (m : (ℓ : Loc nD τ sig) → Buf (Elt Ideal) ℓ) (c : Dev nD) : after ops (launchContents m c) main_arg2 = m ((c.tc : Thread nD τ).loc main_arg2) := by
  simp only [ops, TRef.nullary, TRef.ternary, TRef.unary, TRef.toBuf, TRef.ofBuf, cast_eq]
  after_results_simp <;> rfl

/-- Every execution from a memory with zero counters ends with the product as the result and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v9) = val m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v9).trans (after_val m c), (h c main_arg0).trans (after_arg0 m c), (h c main_arg1).trans (after_arg1 m c), (h c main_arg2).trans (after_arg2 m c)⟩)
    (run_seq scopedRefs_eq scopedSems_eq defs main (fun _ => ops) main_eq (fun _ => ops_sub) m ρ)

end Cert.RefDxInIdeal.Steps

end
-- ==== Proof.ClaimLaid.lean ====
/- The products started on arrays the host lays out: kernel and reference end with equal results. -/
module

public import proofs.«01_k».proof.Defs
public import proofs.«01_k».proof.Proof.DwDownEnd
public import proofs.«01_k».proof.Proof.DactEnd
public import proofs.«01_k».proof.Proof.DwUpEnd
public import proofs.«01_k».proof.Proof.DxUpEnd
public import proofs.«01_k».proof.Proof.DwInEnd
public import proofs.«01_k».proof.Proof.DxInEnd
public import proofs.«01_k».proof.Proof.RunDwDown
public import proofs.«01_k».proof.Proof.RunDact
public import proofs.«01_k».proof.Proof.RunDwUp
public import proofs.«01_k».proof.Proof.RunDxUp
public import proofs.«01_k».proof.Proof.RunDwIn
public import proofs.«01_k».proof.Proof.RunDxIn

@[expose] public section

set_option maxRecDepth 16384

noncomputable section

open Idealize.ShloMosaic Idealize.ShloMosaic.TcCoe Idealize.SL.Sem
open Idealize.ShloMosaic.Pipeline (Dat)

namespace Cert.ProofMm

/-- The kernel for the gradient of the down projection's weight and the reference, both idealized, end with equal results. -/
theorem algebraicDwDown : Cert.algebraic_DwDownIdeal_RefDwDownIdeal (hDwDownIdeal := Cert.DwDownIdeal.Gen.facts) (hRefDwDownIdeal := Cert.RefDwDownIdeal.Gen.facts) := by
  intro m ρ m' ρ' _ ha
  refine ⟨_, Cert.DwDownIdeal.Final.run m ρ, ?_⟩
  refine (θ_run Cert.RefDwDownIdeal.defs _ _).mono (fun r h c => ⟨(h c).1.trans ?_, (h c).2⟩) (Cert.RefDwDownIdeal.Steps.run m' ρ')
  exact congrArg₂ (Mm.tn .bf16) (ha c).1 (ha c).2

/-- The kernel for the gradient of the feed-forward layer's inner activations and the reference, both idealized, end with equal results. -/
theorem algebraicDact : Cert.algebraic_DactIdeal_RefDactIdeal (hDactIdeal := Cert.DactIdeal.Gen.facts) (hRefDactIdeal := Cert.RefDactIdeal.Gen.facts) := by
  intro m ρ m' ρ' _ ha
  refine ⟨_, Cert.DactIdeal.Final.run m ρ, ?_⟩
  refine (θ_run Cert.RefDactIdeal.defs _ _).mono (fun r h c => ⟨(h c).1.trans ?_, (h c).2⟩) (Cert.RefDactIdeal.Steps.run m' ρ')
  exact congrArg₂ (Mm.nt .f32) (ha c).1 (ha c).2

/-- The kernel for the gradient of the gate's and the value's weights and the reference, both idealized, end with equal results. -/
theorem algebraicDwUp : Cert.algebraic_DwUpIdeal_RefDwUpIdeal (hDwUpIdeal := Cert.DwUpIdeal.Gen.facts) (hRefDwUpIdeal := Cert.RefDwUpIdeal.Gen.facts) := by
  intro m ρ m' ρ' _ ha
  refine ⟨_, Cert.DwUpIdeal.Final.run m ρ, ?_⟩
  refine (θ_run Cert.RefDwUpIdeal.defs _ _).mono (fun r h c => ⟨(h c).1.trans ?_, (h c).2⟩) (Cert.RefDwUpIdeal.Steps.run m' ρ')
  exact congrArg₂ (Mm.tn .bf16) (ha c).1 (ha c).2

/-- The kernel for the gradient of the feed-forward layer's input and the reference, both idealized, end with equal results. -/
theorem algebraicDxUp : Cert.algebraic_DxUpIdeal_RefDxUpIdeal (hDxUpIdeal := Cert.DxUpIdeal.Gen.facts) (hRefDxUpIdeal := Cert.RefDxUpIdeal.Gen.facts) := by
  intro m ρ m' ρ' _ ha
  refine ⟨_, Cert.DxUpIdeal.Value.run_blocks m ρ, ?_⟩
  refine (θ_run Cert.RefDxUpIdeal.defs _ _).mono (fun r h c => ⟨(h c).1.trans ?_, (h c).2⟩) (Cert.RefDxUpIdeal.Steps.run m' ρ')
  refine Eq.trans ?_ (Cert.DxUpIdeal.Final.left m c).symm
  exact congrArg₂ addf (congrArg₂ (Mm.nt .f32) (ha c).1 (ha c).2.1) (congrArg (mulf _) (ha c).2.2)

/-- The kernel for the gradient of the input projections' weights and the reference, both idealized, end with equal results. -/
theorem algebraicDwIn : Cert.algebraic_DwInIdeal_RefDwInIdeal (hDwInIdeal := Cert.DwInIdeal.Gen.facts) (hRefDwInIdeal := Cert.RefDwInIdeal.Gen.facts) := by
  intro m ρ m' ρ' _ ha
  refine ⟨_, Cert.DwInIdeal.Final.run m ρ, ?_⟩
  refine (θ_run Cert.RefDwInIdeal.defs _ _).mono (fun r h c => ⟨(h c).1.trans ?_, (h c).2⟩) (Cert.RefDwInIdeal.Steps.run m' ρ')
  exact congrArg₂ (Mm.tn .bf16) (ha c).1 (ha c).2

/-- The kernel for the gradient of the input projections' input and the reference, both idealized, end with equal results. -/
theorem algebraicDxIn : Cert.algebraic_DxInIdeal_RefDxInIdeal (hDxInIdeal := Cert.DxInIdeal.Gen.facts) (hRefDxInIdeal := Cert.RefDxInIdeal.Gen.facts) := by
  intro m ρ m' ρ' _ ha
  refine ⟨_, Cert.DxInIdeal.Value.run_blocks m ρ, ?_⟩
  refine (θ_run Cert.RefDxInIdeal.defs _ _).mono (fun r h c => ⟨(h c).1.trans ?_, (h c).2⟩) (Cert.RefDxInIdeal.Steps.run m' ρ')
  refine Eq.trans ?_ (Cert.DxInIdeal.Final.left m c).symm
  exact congrArg₂ addf (congrArg₂ (Mm.nt .f32) (ha c).1 (ha c).2.1) (congrArg (mulf _) (ha c).2.2)

end Cert.ProofMm

end
-- ==== Proof.Tiles.lean ====
/- Products of two matrices computed over a grid of tiles, and what the host's layouts do to them. -/
module

public import proofs.«01_k».proof.Proof.Layout

@[expose] public section

set_option maxRecDepth 16384

noncomputable section

open Idealize.ShloMosaic Idealize.ShloMosaic.TcCoe Idealize.SL.Sem

namespace Cert.Mm

section

variable {N q d K a b A B : ℕ}

/-- Blocks of sums carried over a grid whose last axis cuts the terms into `q` tiles of `d`: at a last tile the block is the
    product's, at the rows and columns of that grid point. -/
theorem nn_tiles (X : FVec Ideal ⟨2, ![A, K]⟩ .bf16) (W : FVec Ideal ⟨2, ![K, B]⟩ .bf16) (row : Fin N → Fin a → Fin A) (col : Fin N → Fin b → Fin B)
    (x : Fin N → FVec Ideal ⟨2, ![a, d]⟩ .bf16) (w : Fin N → FVec Ideal ⟨2, ![d, b]⟩ .bf16) (S : Fin N → FVec Ideal ⟨2, ![a, b]⟩ .f32)
    (hd : ∀ (t : Fin N) (k : Fin d), d * (t.val % q) + k.val < K)
    (hx : ∀ t r k, x t (ix2 r k) = X (ix2 (row t r) ⟨_, hd t k⟩)) (hw : ∀ t k l, w t (ix2 k l) = W (ix2 ⟨_, hd t k⟩ (col t l)))
    (first : ∀ t r l, t.val % q = 0 → S t (ix2 r l) = 0 + ∑ k, x t (ix2 r k) * w t (ix2 k l))
    (next : ∀ t r l, ¬ t.val % q = 0 → S t (ix2 r l) = S ⟨t.val - 1, by omega⟩ (ix2 r l) + ∑ k, x t (ix2 r k) * w t (ix2 k l))
    (hrow : ∀ t r, ¬ t.val % q = 0 → row ⟨t.val - 1, by omega⟩ r = row t r) (hcol : ∀ t l, ¬ t.val % q = 0 → col ⟨t.val - 1, by omega⟩ l = col t l)
    (t : Fin N) (ht : d * (t.val % q) + d = K) (r : Fin a) (l : Fin b) : S t (ix2 r l) = nn .f32 X W (ix2 (row t r) (col t l)) := by
  have tile : ∀ s : Fin N, (∑ k, x s (ix2 r k) * w s (ix2 k l) : EReal)
      = ∑ k : Fin d, X (ix2 (row s r) ⟨_, hd s k⟩) * W (ix2 ⟨_, hd s k⟩ (col s l)) := fun s =>
    Finset.sum_congr rfl fun k _ => by rw [hx, hw]
  refine tiled_last (q := q) (d := d) (fun s : Fin N => S s (ix2 r l)) (fun s k => X (ix2 (row s r) k) * W (ix2 k (col s l))) hd
    (fun s h => ?_) (fun s h => ?_) (fun s h => ?_) t ht
  · exact (first s r l h).trans (congrArg (0 + ·) (tile s))
  · exact (next s r l h).trans (congrArg (_ + ·) (tile s))
  · simp only [hrow s r h, hcol s l h]

/-- Columns `o` on of a matrix. -/
def cut (o : ℕ) {n : ℕ} (h : o + n ≤ B) (W : FVec Ideal ⟨2, ![K, B]⟩ .bf16) : FVec Ideal ⟨2, ![K, n]⟩ .bf16 :=
  fun y => W (ix2 (y 0) ⟨o + (y 1).val, lt_of_lt_of_le (Nat.add_lt_add_left (y 1).isLt o) h⟩)

/-- Columns cut out of a laid out right factor give the product's columns at their places. -/
theorem nn_cut_lays (φ : FTy) {n M p p' : ℕ} (x : FVec Ideal ⟨2, ![a, K]⟩ .bf16) {w : FVec Ideal ⟨2, ![K, n]⟩ .bf16} {w' : FVec Ideal ⟨2, ![K, M]⟩ .bf16}
    {e : Fin n → Fin M} (hw : Lays w w' e) (o o' : ℕ) (h : o + p ≤ n) (h' : o' + p' ≤ M) (i : Fin a) (j : Fin p) (j' : Fin p')
    (he : (e ⟨o + j.val, by omega⟩).val = o' + j'.val) : nn φ x (cut o' h' w') (ix2 i j') = nn φ x (cut o h w) (ix2 i j) := by
  refine Finset.sum_congr rfl fun k _ => congrArg (x (ix2 i k) * ·) ?_
  refine Eq.trans (congrArg (fun z => w' (ix2 k z)) (Fin.ext he.symm)) (hw.put k ⟨o + j.val, by omega⟩)

/-- Columns added to the left factor and rows to the right one change no product, if the columns are zero. -/
theorem nn_pad (φ : FTy) {n M : ℕ} {x : FVec Ideal ⟨2, ![a, n]⟩ .bf16} {x' : FVec Ideal ⟨2, ![a, M]⟩ .bf16} {w : FVec Ideal ⟨2, ![n, b]⟩ .bf16}
    {w' : FVec Ideal ⟨2, ![M, b]⟩ .bf16} (h : n ≤ M) (hx : Lays x x' (Fin.castLE h)) (hw : ∀ k j, w' (ix2 (Fin.castLE h k) j) = w (ix2 k j)) :
    nn φ x' w' = nn φ x w := by
  funext y
  refine (Fintype.sum_of_injective _ (Fin.castLE_injective h) _ _ (fun k hk => ?_) (fun k => ?_)).symm
  · exact mul_eq_zero_of_left (hx.free (y 0) k hk) _
  · exact (congrArg₂ (· * ·) (hx.put (y 0) k) (hw k (y 1))).symm

/-- An array with columns of zeros added. -/
theorem pad_lays {n M p : ℕ} (x : FVec Ideal ⟨2, ![a, n]⟩ .bf16) (h : n ≤ M) (hp : Shape.Pads (⟨2, ![a, n]⟩ : Shape) ![0, 0] ![0, p] ![0, 0] ⟨2, ![a, M]⟩)
    (u : 0 < Shape.numel ⟨0, ![]⟩) : Lays x (pad ⟨2, ![a, M]⟩ ![0, 0] ![0, p] ![0, 0] x zpad hp u) (Fin.castLE h) where
  put i j := padCols_in x zpad hp u i (Fin.castLE h j) j rfl
  free i k hk := (padCols_out x zpad hp u i k (by
    by_contra hn
    exact hk ⟨⟨k.val, by omega⟩, Fin.ext rfl⟩)).trans (zpad_at _)

end

end Cert.Mm

end
-- ==== Proof.OutProjVal.lean ====
/- The product of the output projection. -/
module

public import proofs.«01_k».proof.Proof.Gen.OutProjIdeal.Value
public import proofs.«01_k».proof.Proof.Tiles
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.OutProjIdeal.Final

open Cert.OutProjIdeal Cert.OutProjIdeal.Gen Cert.Mm

/-! ## The blocks of a grid point -/

theorem idx : ∀ t : Fin cfg0.N, win0_0.index t = ![t.val / 8, t.val % 4] ∧ win0_1.index t = ![t.val % 4, t.val / 4 % 2] ∧ win0_2.index t = ![t.val / 8, t.val / 4 % 2] :=
  (by decide +kernel : ∀ t : Fin grid0.N, _)

theorem lt (t : Fin cfg0.N) : t.val < 32 := lt_of_lt_of_eq t.isLt (by decide)

theorem dep (t : Fin cfg0.N) (k : Fin 512) : 512 * (t.val % 4) + k.val < 2048 := by omega
def row (t : Fin cfg0.N) (r : Fin 1024) : Fin 4096 := ⟨t.val / 8 * 1024 + r.val, by have := lt t; omega⟩
def col (t : Fin cfg0.N) (l : Fin 1024) : Fin 2048 := ⟨t.val / 4 % 2 * 1024 + l.val, by omega⟩

theorem emb0 (t : Fin cfg0.N) (X : Vec Ideal S4096x2048 .bf16) (r : Fin 1024) (k : Fin 512) : X ((win0_0.blk t).view.emb (ix2 r k)) = X (ix2 (row t r) ⟨_, dep t k⟩) := by
  blk_ext [idx t, row]

theorem emb1 (t : Fin cfg0.N) (X : Vec Ideal S2048x2048 .bf16) (k : Fin 512) (l : Fin 1024) : X ((win0_1.blk t).view.emb (ix2 k l)) = X (ix2 ⟨_, dep t k⟩ (col t l)) := by
  blk_ext [idx t, col]

theorem emb2 (t : Fin cfg0.N) (X : Vec Ideal S4096x2048 .f32) (r : Fin 1024) (l : Fin 1024) : X ((win0_2.blk t).view.emb (ix2 r l)) = X (ix2 (row t r) (col t l)) := by
  blk_ext [idx t, row, col]

section

variable (m : (ℓ : Loc nD τ sig) → Buf (Elt Ideal) ℓ) (c : Dev nD)

/-- The product's first array. -/
abbrev X : FVec Ideal S4096x2048 .bf16 := V m c (Pipeline.arrRef spec0 0)

/-- The product's second array. -/
abbrev W : FVec Ideal S2048x2048 .bf16 := V m c (Pipeline.arrRef spec0 1)

theorem blk0 (t : Fin cfg0.N) (r : Fin 1024) (k : Fin 512) : (iblk m c 0 t : FVec Ideal S1024x512 .bf16) (ix2 r k) = X m c (ix2 (row t r) ⟨_, dep t k⟩) := by
  show (((cfg0.win 0).blk t).view.read (Elt Ideal) (V m c (Pipeline.arrRef spec0 0)) : Vec Ideal S1024x512 .bf16) (ix2 r k) = _
  blk_simp
  exact emb0 t _ r k

theorem blk1 (t : Fin cfg0.N) (k : Fin 512) (l : Fin 1024) : (iblk m c 1 t : FVec Ideal S512x1024 .bf16) (ix2 k l) = W m c (ix2 ⟨_, dep t k⟩ (col t l)) := by
  show (((cfg0.win 1).blk t).view.read (Elt Ideal) (V m c (Pipeline.arrRef spec0 1)) : Vec Ideal S512x1024 .bf16) (ix2 k l) = _
  blk_simp
  exact emb1 t _ k l

/-! ## The sums a grid point carries on -/

theorem step_at (v : Vec Ideal S1024x1024 .f32) (x : Vec Ideal S1024x512 .bf16) (w : Vec Ideal S512x1024 .bf16) (r : Fin 1024) (l : Fin 1024) :
    k0_pay2 v x w (ix2 r l) = v (ix2 r l) + ∑ k, x (ix2 r k) * w (ix2 k l) := by
  pointwise [k0_pay2]

theorem zero_at (r : Fin 1024) (l : Fin 1024) : k0_pay1 (F := Ideal) (ix2 r l) = 0 := by
  pointwise [k0_pay1]

theorem first (t : Fin cfg0.N) (h0 : t.val % 4 = 0) (y : S1024x1024.Idx) :
    (outsAt0 m c t.val t.isLt).2 y = k0_pay2 (k0_pay1 (F := Ideal)) (iblk m c 0 t) (iblk m c 1 t) y := by
  rw [outsAt0_A m c t h0 (by omega)]
  dsimp only
  unfold sout0_A_0
  frame_out

theorem next (t : Fin cfg0.N) (h0 : ¬ t.val % 4 = 0) (y : S1024x1024.Idx) :
    (outsAt0 m c t.val t.isLt).2 y = k0_pay2 (outsAt0 m c (t.val - 1) (Nat.lt_of_le_of_lt (Nat.sub_le _ _) t.isLt)).2 (iblk m c 0 t) (iblk m c 1 t) y := by
  by_cases h1 : t.val % 4 = 3
  · rw [outsAt0_C m c t h0 h1]
    dsimp only
    unfold sout0_C_0
    frame_out
    erw [Memref.IsWhole.read_unread]
  · rw [outsAt0_B m c t h0 h1]
    dsimp only
    unfold sout0_B_0
    frame_out
    erw [Memref.IsWhole.read_unread]

theorem last (t : Fin cfg0.N) (h1 : t.val % 4 = 3) (y : S1024x1024.Idx) : (outsAt0 m c t.val t.isLt).1 y = (outsAt0 m c t.val t.isLt).2 y := by
  rw [outsAt0_C m c t (by omega) h1]
  dsimp only
  unfold out0_C_2 sout0_C_0
  frame_out

/-- After the last tile a grid point's sums are the product's entries. -/
theorem whole (t : Fin cfg0.N) (h1 : t.val % 4 = 3) (r : Fin 1024) (l : Fin 1024) :
    (outsAt0 m c t.val t.isLt).2 (ix2 r l) = nn .f32 (X m c) (W m c) (ix2 (row t r) (col t l)) :=
  nn_tiles (q := 4) (X m c) (W m c) row col (fun t => iblk m c 0 t) (fun t => iblk m c 1 t) (fun t => (outsAt0 m c t.val t.isLt).2) dep (blk0 m c) (blk1 m c)
    (fun t r l h => ((first m c t h _).trans (step_at _ _ _ r l)).trans (congrArg (· + _) (zero_at r l)))
    (fun t r l h => (next m c t h _).trans (step_at _ _ _ r l))
    (fun t r h => Fin.ext (by simp only [row]; omega)) (fun t l h => Fin.ext (by simp only [col]; omega)) t (by omega) r l

/-- The call leaves the product. -/
theorem res : (dats m 0 c).arrAt 2 cfg0.N = nn .f32 (X m c) (W m c) := by
  refine (dats m 0 c).arrAt_eq_of_covers 2 _ (by decide +kernel) fun t ht y => ?_
  have h1 := (flush0_2 t).mp ht
  blk_simp [idx t]
  rw [after0_2]
  obtain ⟨r, l, rfl⟩ : ∃ (r : Fin 1024) (l : Fin 1024), y = ix2 r l := ⟨y 0, y 1, by idx_vars y⟩
  refine (last m c t h1 _).trans ?_
  exact (whole m c t h1 r l).trans (emb2 t (nn .f32 (X m c) (W m c)) r l).symm

end

end Cert.OutProjIdeal.Final

end
-- ==== Proof.UpGateVal.lean ====
/- The product of the gate's up projection. -/
module

public import proofs.«01_k».proof.Proof.Gen.UpGateIdeal.Frame
public import proofs.«01_k».proof.Proof.Tiles
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.UpGateIdeal.Final

open Cert.UpGateIdeal Cert.UpGateIdeal.Gen Cert.Mm

/-! ## The blocks of a grid point -/

theorem idx : ∀ t : Fin cfg0.N, win0_0.index t = ![t.val / 16, t.val % 4] ∧ win0_1.index t = ![t.val % 4, t.val / 4 % 4] ∧ win0_2.index t = ![t.val / 16, t.val / 4 % 4] :=
  (by decide +kernel : ∀ t : Fin grid0.N, _)

theorem lt (t : Fin cfg0.N) : t.val < 64 := lt_of_lt_of_eq t.isLt (by decide)

theorem dep (t : Fin cfg0.N) (k : Fin 512) : 512 * (t.val % 4) + k.val < 2048 := by omega
def row (t : Fin cfg0.N) (r : Fin 1024) : Fin 4096 := ⟨t.val / 16 * 1024 + r.val, by have := lt t; omega⟩
def col (t : Fin cfg0.N) (l : Fin 1408) : Fin 5632 := ⟨t.val / 4 % 4 * 1408 + l.val, by omega⟩

theorem emb0 (t : Fin cfg0.N) (X : Vec Ideal S4096x2048 .bf16) (r : Fin 1024) (k : Fin 512) : X ((win0_0.blk t).view.emb (ix2 r k)) = X (ix2 (row t r) ⟨_, dep t k⟩) := by
  blk_ext [idx t, row]

theorem emb1 (t : Fin cfg0.N) (X : Vec Ideal S2048x11264 .bf16) (k : Fin 512) (l : Fin 1408) : X ((win0_1.blk t).view.emb (ix2 k l)) = X (ix2 ⟨_, dep t k⟩ (⟨0 + (col t l).val, by have := (col t l).isLt; omega⟩)) := by
  blk_ext [idx t, col]

theorem emb2 (t : Fin cfg0.N) (X : Vec Ideal S4096x5632 .f32) (r : Fin 1024) (l : Fin 1408) : X ((win0_2.blk t).view.emb (ix2 r l)) = X (ix2 (row t r) (col t l)) := by
  blk_ext [idx t, row, col]

section

variable (m : (ℓ : Loc nD τ sig) → Buf (Elt Ideal) ℓ) (c : Dev nD)

/-- The product's first array. -/
abbrev X : FVec Ideal S4096x2048 .bf16 := V m c (Pipeline.arrRef spec0 0)

/-- The product's second array. -/
abbrev W : FVec Ideal S2048x11264 .bf16 := V m c (Pipeline.arrRef spec0 1)

theorem blk0 (t : Fin cfg0.N) (r : Fin 1024) (k : Fin 512) : (iblk m c 0 t : FVec Ideal S1024x512 .bf16) (ix2 r k) = X m c (ix2 (row t r) ⟨_, dep t k⟩) := by
  show (((cfg0.win 0).blk t).view.read (Elt Ideal) (V m c (Pipeline.arrRef spec0 0)) : Vec Ideal S1024x512 .bf16) (ix2 r k) = _
  blk_simp
  exact emb0 t _ r k

theorem blk1 (t : Fin cfg0.N) (k : Fin 512) (l : Fin 1408) : (iblk m c 1 t : FVec Ideal S512x1408 .bf16) (ix2 k l) = W m c (ix2 ⟨_, dep t k⟩ (⟨0 + (col t l).val, by have := (col t l).isLt; omega⟩)) := by
  show (((cfg0.win 1).blk t).view.read (Elt Ideal) (V m c (Pipeline.arrRef spec0 1)) : Vec Ideal S512x1408 .bf16) (ix2 k l) = _
  blk_simp
  exact (emb1 t _ k l).trans (congrArg (fun z => W m c (ix2 _ z)) (Fin.ext (Nat.zero_add _)))

/-! ## The sums a grid point carries on -/

theorem step_at (v : Vec Ideal S1024x1408 .f32) (x : Vec Ideal S1024x512 .bf16) (w : Vec Ideal S512x1408 .bf16) (r : Fin 1024) (l : Fin 1408) :
    k0_pay2 v x w (ix2 r l) = v (ix2 r l) + ∑ k, x (ix2 r k) * w (ix2 k l) := by
  pointwise [k0_pay2]

theorem zero_at (r : Fin 1024) (l : Fin 1408) : k0_pay1 (F := Ideal) (ix2 r l) = 0 := by
  pointwise [k0_pay1]

theorem first (t : Fin cfg0.N) (h0 : t.val % 4 = 0) (y : S1024x1408.Idx) :
    (outsAt0 m c t.val t.isLt).2 y = k0_pay2 (k0_pay1 (F := Ideal)) (iblk m c 0 t) (iblk m c 1 t) y := by
  rw [outsAt0_A m c t h0 (by omega)]
  dsimp only
  unfold sout0_A_0
  frame_out

theorem next (t : Fin cfg0.N) (h0 : ¬ t.val % 4 = 0) (y : S1024x1408.Idx) :
    (outsAt0 m c t.val t.isLt).2 y = k0_pay2 (outsAt0 m c (t.val - 1) (Nat.lt_of_le_of_lt (Nat.sub_le _ _) t.isLt)).2 (iblk m c 0 t) (iblk m c 1 t) y := by
  by_cases h1 : t.val % 4 = 3
  · rw [outsAt0_C m c t h0 h1]
    dsimp only
    unfold sout0_C_0
    frame_out
    erw [Memref.IsWhole.read_unread]
  · rw [outsAt0_B m c t h0 h1]
    dsimp only
    unfold sout0_B_0
    frame_out
    erw [Memref.IsWhole.read_unread]

theorem last (t : Fin cfg0.N) (h1 : t.val % 4 = 3) (y : S1024x1408.Idx) : (outsAt0 m c t.val t.isLt).1 y = (outsAt0 m c t.val t.isLt).2 y := by
  rw [outsAt0_C m c t (by omega) h1]
  dsimp only
  unfold out0_C_2 sout0_C_0
  frame_out

/-- After the last tile a grid point's sums are the product's entries. -/
theorem whole (t : Fin cfg0.N) (h1 : t.val % 4 = 3) (r : Fin 1024) (l : Fin 1408) :
    (outsAt0 m c t.val t.isLt).2 (ix2 r l) = nn .f32 (X m c) (cut 0 (by decide : 0 + 5632 ≤ 11264) (W m c)) (ix2 (row t r) (col t l)) :=
  nn_tiles (q := 4) (X m c) (cut 0 (by decide : 0 + 5632 ≤ 11264) (W m c)) row col (fun t => iblk m c 0 t) (fun t => iblk m c 1 t) (fun t => (outsAt0 m c t.val t.isLt).2) dep (blk0 m c) (blk1 m c)
    (fun t r l h => ((first m c t h _).trans (step_at _ _ _ r l)).trans (congrArg (· + _) (zero_at r l)))
    (fun t r l h => (next m c t h _).trans (step_at _ _ _ r l))
    (fun t r h => Fin.ext (by simp only [row]; omega)) (fun t l h => Fin.ext (by simp only [col]; omega)) t (by omega) r l

/-- The call leaves the product. -/
theorem res : (dats m 0 c).arrAt 2 cfg0.N = nn .f32 (X m c) (cut 0 (by decide : 0 + 5632 ≤ 11264) (W m c)) := by
  refine (dats m 0 c).arrAt_eq_of_covers 2 _ (by decide +kernel) fun t ht y => ?_
  have h1 := (flush0_2 t).mp ht
  blk_simp [idx t]
  rw [after0_2]
  obtain ⟨r, l, rfl⟩ : ∃ (r : Fin 1024) (l : Fin 1408), y = ix2 r l := ⟨y 0, y 1, by idx_vars y⟩
  refine (last m c t h1 _).trans ?_
  exact (whole m c t h1 r l).trans (emb2 t (nn .f32 (X m c) (cut 0 (by decide : 0 + 5632 ≤ 11264) (W m c))) r l).symm

end

end Cert.UpGateIdeal.Final

end
-- ==== Proof.UpGateEnd.lean ====
/- The product of the gate's up projection: the call's result from the arguments. -/
module

public import proofs.«01_k».proof.Proof.UpGateVal
public import proofs.«01_k».proof.Proof.Layout

@[expose] public section

set_option maxRecDepth 16384

noncomputable section

open Idealize.ShloMosaic Idealize.ShloMosaic.TcCoe Idealize.SL.Sem
open Idealize.ShloMosaic.Pipeline (Dat)

namespace Cert.UpGateIdeal.Final

open Cert.UpGateIdeal Cert.UpGateIdeal.Gen Cert.Mm

section

variable (m : (ℓ : Loc nD τ sig) → Buf (Elt Ideal) ℓ) (c : Dev nD)

/-- Argument 0. -/
abbrev A0 : FVec Ideal S4096x2048 .bf16 := m ((c.tc : Thread nD τ).loc main_arg0)
/-- Argument 1. -/
abbrev A1 : FVec Ideal S2048x11008 .bf16 := m ((c.tc : Thread nD τ).loc main_arg1)

/-- The two halves of argument 1, padded side by side. -/
theorem lays : Lays (A1 m c) (V m c main_v4) upP := by
  refine (up_lays (A1 m c) slices_S2048x11008_S2048x5504_0_0 slices_S2048x11008_S2048x5504_0_5504 pads_S2048x5504_S2048x5632_000_01280 h_S_ concatenates_S2048x5632_S2048x5632_S2048x11264_d1).of_eq ?_
  entry_read
  rfl

/-- The result from what the call leaves. -/
theorem tail : Pipeline.afterTail₀ cfgs (dats m) 0 (V0 m) [hostOps1] c main_v6 = nn .f32 (A0 m c) (cut 0 (by decide : 0 + 5504 ≤ 11008) (A1 m c)) := by
  unfold Pipeline.afterTail₀
  simp only [hostOps1, List.flatten_cons, List.flatten_nil, List.append_nil]
  after_results
  have e : Pipeline.withArrays spec0 c (V0 m c) (fun w => (dats m 0 c).arrAt w cfg0.N) (Proc.tc.devRef main_v5) = _ :=
    (Pipeline.withArrays_arr spec0 launch0.win.arr_inj c (V0 m c) (fun w => (dats m 0 c).arrAt w cfg0.N) 2).trans (res m c)
  rw [e]
  funext y
  obtain ⟨i, j, rfl⟩ : ∃ (i : Fin 4096) (j : Fin 5504), y = ix2 i j := ⟨y 0, y 1, by idx_vars y⟩
  refine (cols_at _ 0 slices_S4096x5632_S4096x5504_0_0 i j ⟨j.val, by omega⟩ (Nat.zero_add _).symm).trans ?_
  exact nn_cut_lays .f32 (A0 m c) (lays m c) 0 0 _ _ i j ⟨j.val, by omega⟩ (upP_left _ (by show 0 + j.val < 5504; omega))

/-- Every execution from a memory with zero counters ends with the product of the arguments as the result and the
    arguments unchanged. -/
theorem run (ρ : Dev nD → PrngReg) : θ_run defs (onTc (τ := τ) (main (F := Ideal))) ⟨m, fun _ => 0, ρ⟩ fun r => ∀ c : Dev nD,
    r.2.mem ((c.tc : Thread nD τ).loc main_v6) = nn .f32 (A0 m c) (cut 0 (by decide) (A1 m c))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨((h.1 c).2 main_v6 (Pipeline.mem_restRefs_of main_v6 (by decide) (by decide))).trans (tail m c), h.2 c⟩)
    (θ_run_and (run_main m ρ) (unchanged m ρ))

end

end Cert.UpGateIdeal.Final

end
-- ==== Proof.UpValVal.lean ====
/- The product of the value's up projection. -/
module

public import proofs.«01_k».proof.Proof.Gen.UpValIdeal.Frame
public import proofs.«01_k».proof.Proof.Tiles
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.UpValIdeal.Final

open Cert.UpValIdeal Cert.UpValIdeal.Gen Cert.Mm

/-! ## The blocks of a grid point -/

theorem idx : ∀ t : Fin cfg0.N, win0_0.index t = ![t.val / 16, t.val % 4] ∧ win0_1.index t = ![t.val % 4, t.val / 4 % 4 + 4] ∧ win0_2.index t = ![t.val / 16, t.val / 4 % 4] :=
  (by decide +kernel : ∀ t : Fin grid0.N, _)

theorem lt (t : Fin cfg0.N) : t.val < 64 := lt_of_lt_of_eq t.isLt (by decide)

theorem dep (t : Fin cfg0.N) (k : Fin 512) : 512 * (t.val % 4) + k.val < 2048 := by omega
def row (t : Fin cfg0.N) (r : Fin 1024) : Fin 4096 := ⟨t.val / 16 * 1024 + r.val, by have := lt t; omega⟩
def col (t : Fin cfg0.N) (l : Fin 1408) : Fin 5632 := ⟨t.val / 4 % 4 * 1408 + l.val, by omega⟩

theorem emb0 (t : Fin cfg0.N) (X : Vec Ideal S4096x2048 .bf16) (r : Fin 1024) (k : Fin 512) : X ((win0_0.blk t).view.emb (ix2 r k)) = X (ix2 (row t r) ⟨_, dep t k⟩) := by
  blk_ext [idx t, row]

theorem emb1 (t : Fin cfg0.N) (X : Vec Ideal S2048x11264 .bf16) (k : Fin 512) (l : Fin 1408) : X ((win0_1.blk t).view.emb (ix2 k l)) = X (ix2 ⟨_, dep t k⟩ (⟨5632 + (col t l).val, by have := (col t l).isLt; omega⟩)) := by
  blk_ext [idx t, col]

theorem emb2 (t : Fin cfg0.N) (X : Vec Ideal S4096x5632 .f32) (r : Fin 1024) (l : Fin 1408) : X ((win0_2.blk t).view.emb (ix2 r l)) = X (ix2 (row t r) (col t l)) := by
  blk_ext [idx t, row, col]

section

variable (m : (ℓ : Loc nD τ sig) → Buf (Elt Ideal) ℓ) (c : Dev nD)

/-- The product's first array. -/
abbrev X : FVec Ideal S4096x2048 .bf16 := V m c (Pipeline.arrRef spec0 0)

/-- The product's second array. -/
abbrev W : FVec Ideal S2048x11264 .bf16 := V m c (Pipeline.arrRef spec0 1)

theorem blk0 (t : Fin cfg0.N) (r : Fin 1024) (k : Fin 512) : (iblk m c 0 t : FVec Ideal S1024x512 .bf16) (ix2 r k) = X m c (ix2 (row t r) ⟨_, dep t k⟩) := by
  show (((cfg0.win 0).blk t).view.read (Elt Ideal) (V m c (Pipeline.arrRef spec0 0)) : Vec Ideal S1024x512 .bf16) (ix2 r k) = _
  blk_simp
  exact emb0 t _ r k

theorem blk1 (t : Fin cfg0.N) (k : Fin 512) (l : Fin 1408) : (iblk m c 1 t : FVec Ideal S512x1408 .bf16) (ix2 k l) = W m c (ix2 ⟨_, dep t k⟩ (⟨5632 + (col t l).val, by have := (col t l).isLt; omega⟩)) := by
  show (((cfg0.win 1).blk t).view.read (Elt Ideal) (V m c (Pipeline.arrRef spec0 1)) : Vec Ideal S512x1408 .bf16) (ix2 k l) = _
  blk_simp
  exact emb1 t _ k l

/-! ## The sums a grid point carries on -/

theorem step_at (v : Vec Ideal S1024x1408 .f32) (x : Vec Ideal S1024x512 .bf16) (w : Vec Ideal S512x1408 .bf16) (r : Fin 1024) (l : Fin 1408) :
    k0_pay2 v x w (ix2 r l) = v (ix2 r l) + ∑ k, x (ix2 r k) * w (ix2 k l) := by
  pointwise [k0_pay2]

theorem zero_at (r : Fin 1024) (l : Fin 1408) : k0_pay1 (F := Ideal) (ix2 r l) = 0 := by
  pointwise [k0_pay1]

theorem first (t : Fin cfg0.N) (h0 : t.val % 4 = 0) (y : S1024x1408.Idx) :
    (outsAt0 m c t.val t.isLt).2 y = k0_pay2 (k0_pay1 (F := Ideal)) (iblk m c 0 t) (iblk m c 1 t) y := by
  rw [outsAt0_A m c t h0 (by omega)]
  dsimp only
  unfold sout0_A_0
  frame_out

theorem next (t : Fin cfg0.N) (h0 : ¬ t.val % 4 = 0) (y : S1024x1408.Idx) :
    (outsAt0 m c t.val t.isLt).2 y = k0_pay2 (outsAt0 m c (t.val - 1) (Nat.lt_of_le_of_lt (Nat.sub_le _ _) t.isLt)).2 (iblk m c 0 t) (iblk m c 1 t) y := by
  by_cases h1 : t.val % 4 = 3
  · rw [outsAt0_C m c t h0 h1]
    dsimp only
    unfold sout0_C_0
    frame_out
    erw [Memref.IsWhole.read_unread]
  · rw [outsAt0_B m c t h0 h1]
    dsimp only
    unfold sout0_B_0
    frame_out
    erw [Memref.IsWhole.read_unread]

theorem last (t : Fin cfg0.N) (h1 : t.val % 4 = 3) (y : S1024x1408.Idx) : (outsAt0 m c t.val t.isLt).1 y = (outsAt0 m c t.val t.isLt).2 y := by
  rw [outsAt0_C m c t (by omega) h1]
  dsimp only
  unfold out0_C_2 sout0_C_0
  frame_out

/-- After the last tile a grid point's sums are the product's entries. -/
theorem whole (t : Fin cfg0.N) (h1 : t.val % 4 = 3) (r : Fin 1024) (l : Fin 1408) :
    (outsAt0 m c t.val t.isLt).2 (ix2 r l) = nn .f32 (X m c) (cut 5632 (by decide : 5632 + 5632 ≤ 11264) (W m c)) (ix2 (row t r) (col t l)) :=
  nn_tiles (q := 4) (X m c) (cut 5632 (by decide : 5632 + 5632 ≤ 11264) (W m c)) row col (fun t => iblk m c 0 t) (fun t => iblk m c 1 t) (fun t => (outsAt0 m c t.val t.isLt).2) dep (blk0 m c) (blk1 m c)
    (fun t r l h => ((first m c t h _).trans (step_at _ _ _ r l)).trans (congrArg (· + _) (zero_at r l)))
    (fun t r l h => (next m c t h _).trans (step_at _ _ _ r l))
    (fun t r h => Fin.ext (by simp only [row]; omega)) (fun t l h => Fin.ext (by simp only [col]; omega)) t (by omega) r l

/-- The call leaves the product. -/
theorem res : (dats m 0 c).arrAt 2 cfg0.N = nn .f32 (X m c) (cut 5632 (by decide : 5632 + 5632 ≤ 11264) (W m c)) := by
  refine (dats m 0 c).arrAt_eq_of_covers 2 _ (by decide +kernel) fun t ht y => ?_
  have h1 := (flush0_2 t).mp ht
  blk_simp [idx t]
  rw [after0_2]
  obtain ⟨r, l, rfl⟩ : ∃ (r : Fin 1024) (l : Fin 1408), y = ix2 r l := ⟨y 0, y 1, by idx_vars y⟩
  refine (last m c t h1 _).trans ?_
  exact (whole m c t h1 r l).trans (emb2 t (nn .f32 (X m c) (cut 5632 (by decide : 5632 + 5632 ≤ 11264) (W m c))) r l).symm

end

end Cert.UpValIdeal.Final

end
-- ==== Proof.UpValEnd.lean ====
/- The product of the value's up projection: the call's result from the arguments. -/
module

public import proofs.«01_k».proof.Proof.UpValVal
public import proofs.«01_k».proof.Proof.Layout

@[expose] public section

set_option maxRecDepth 16384

noncomputable section

open Idealize.ShloMosaic Idealize.ShloMosaic.TcCoe Idealize.SL.Sem
open Idealize.ShloMosaic.Pipeline (Dat)

namespace Cert.UpValIdeal.Final

open Cert.UpValIdeal Cert.UpValIdeal.Gen Cert.Mm

section

variable (m : (ℓ : Loc nD τ sig) → Buf (Elt Ideal) ℓ) (c : Dev nD)

/-- Argument 0. -/
abbrev A0 : FVec Ideal S4096x2048 .bf16 := m ((c.tc : Thread nD τ).loc main_arg0)
/-- Argument 1. -/
abbrev A1 : FVec Ideal S2048x11008 .bf16 := m ((c.tc : Thread nD τ).loc main_arg1)

/-- The two halves of argument 1, padded side by side. -/
theorem lays : Lays (A1 m c) (V m c main_v4) upP := by
  refine (up_lays (A1 m c) slices_S2048x11008_S2048x5504_0_0 slices_S2048x11008_S2048x5504_0_5504 pads_S2048x5504_S2048x5632_000_01280 h_S_ concatenates_S2048x5632_S2048x5632_S2048x11264_d1).of_eq ?_
  entry_read
  rfl

/-- The result from what the call leaves. -/
theorem tail : Pipeline.afterTail₀ cfgs (dats m) 0 (V0 m) [hostOps1] c main_v6 = nn .f32 (A0 m c) (cut 5504 (by decide : 5504 + 5504 ≤ 11008) (A1 m c)) := by
  unfold Pipeline.afterTail₀
  simp only [hostOps1, List.flatten_cons, List.flatten_nil, List.append_nil]
  after_results
  have e : Pipeline.withArrays spec0 c (V0 m c) (fun w => (dats m 0 c).arrAt w cfg0.N) (Proc.tc.devRef main_v5) = _ :=
    (Pipeline.withArrays_arr spec0 launch0.win.arr_inj c (V0 m c) (fun w => (dats m 0 c).arrAt w cfg0.N) 2).trans (res m c)
  rw [e]
  funext y
  obtain ⟨i, j, rfl⟩ : ∃ (i : Fin 4096) (j : Fin 5504), y = ix2 i j := ⟨y 0, y 1, by idx_vars y⟩
  refine (cols_at _ 0 slices_S4096x5632_S4096x5504_0_0 i j ⟨j.val, by omega⟩ (Nat.zero_add _).symm).trans ?_
  exact nn_cut_lays .f32 (A0 m c) (lays m c) 5504 5632 _ _ i j ⟨j.val, by omega⟩ ((upP_right _ (by show ¬ 5504 + j.val < 5504; omega)).trans (by show 5504 + j.val + 128 = 5632 + j.val; omega))

/-- Every execution from a memory with zero counters ends with the product of the arguments as the result and the
    arguments unchanged. -/
theorem run (ρ : Dev nD → PrngReg) : θ_run defs (onTc (τ := τ) (main (F := Ideal))) ⟨m, fun _ => 0, ρ⟩ fun r => ∀ c : Dev nD,
    r.2.mem ((c.tc : Thread nD τ).loc main_v6) = nn .f32 (A0 m c) (cut 5504 (by decide) (A1 m c))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨((h.1 c).2 main_v6 (Pipeline.mem_restRefs_of main_v6 (by decide) (by decide))).trans (tail m c), h.2 c⟩)
    (θ_run_and (run_main m ρ) (unchanged m ρ))

end

end Cert.UpValIdeal.Final

end
-- ==== Proof.DownVal.lean ====
/- The product of the down projection. -/
module

public import proofs.«01_k».proof.Proof.Gen.DownIdeal.Value
public import proofs.«01_k».proof.Proof.Tiles
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.DownIdeal.Final

open Cert.DownIdeal Cert.DownIdeal.Gen Cert.Mm

/-! ## The blocks of a grid point -/

theorem idx : ∀ t : Fin cfg0.N, win0_0.index t = ![t.val / 22, t.val % 11] ∧ win0_1.index t = ![t.val % 11, t.val / 11 % 2] ∧ win0_2.index t = ![t.val / 22, t.val / 11 % 2] :=
  (by decide +kernel : ∀ t : Fin grid0.N, _)

theorem lt (t : Fin cfg0.N) : t.val < 88 := lt_of_lt_of_eq t.isLt (by decide)

theorem dep (t : Fin cfg0.N) (k : Fin 512) : 512 * (t.val % 11) + k.val < 5632 := by omega
def row (t : Fin cfg0.N) (r : Fin 1024) : Fin 4096 := ⟨t.val / 22 * 1024 + r.val, by have := lt t; omega⟩
def col (t : Fin cfg0.N) (l : Fin 1024) : Fin 2048 := ⟨t.val / 11 % 2 * 1024 + l.val, by omega⟩

theorem emb0 (t : Fin cfg0.N) (X : Vec Ideal S4096x5632 .bf16) (r : Fin 1024) (k : Fin 512) : X ((win0_0.blk t).view.emb (ix2 r k)) = X (ix2 (row t r) ⟨_, dep t k⟩) := by
  blk_ext [idx t, row]

theorem emb1 (t : Fin cfg0.N) (X : Vec Ideal S5632x2048 .bf16) (k : Fin 512) (l : Fin 1024) : X ((win0_1.blk t).view.emb (ix2 k l)) = X (ix2 ⟨_, dep t k⟩ (col t l)) := by
  blk_ext [idx t, col]

theorem emb2 (t : Fin cfg0.N) (X : Vec Ideal S4096x2048 .f32) (r : Fin 1024) (l : Fin 1024) : X ((win0_2.blk t).view.emb (ix2 r l)) = X (ix2 (row t r) (col t l)) := by
  blk_ext [idx t, row, col]

section

variable (m : (ℓ : Loc nD τ sig) → Buf (Elt Ideal) ℓ) (c : Dev nD)

/-- The product's first array. -/
abbrev X : FVec Ideal S4096x5632 .bf16 := V m c (Pipeline.arrRef spec0 0)

/-- The product's second array. -/
abbrev W : FVec Ideal S5632x2048 .bf16 := V m c (Pipeline.arrRef spec0 1)

theorem blk0 (t : Fin cfg0.N) (r : Fin 1024) (k : Fin 512) : (iblk m c 0 t : FVec Ideal S1024x512 .bf16) (ix2 r k) = X m c (ix2 (row t r) ⟨_, dep t k⟩) := by
  show (((cfg0.win 0).blk t).view.read (Elt Ideal) (V m c (Pipeline.arrRef spec0 0)) : Vec Ideal S1024x512 .bf16) (ix2 r k) = _
  blk_simp
  exact emb0 t _ r k

theorem blk1 (t : Fin cfg0.N) (k : Fin 512) (l : Fin 1024) : (iblk m c 1 t : FVec Ideal S512x1024 .bf16) (ix2 k l) = W m c (ix2 ⟨_, dep t k⟩ (col t l)) := by
  show (((cfg0.win 1).blk t).view.read (Elt Ideal) (V m c (Pipeline.arrRef spec0 1)) : Vec Ideal S512x1024 .bf16) (ix2 k l) = _
  blk_simp
  exact emb1 t _ k l

/-! ## The sums a grid point carries on -/

theorem step_at (v : Vec Ideal S1024x1024 .f32) (x : Vec Ideal S1024x512 .bf16) (w : Vec Ideal S512x1024 .bf16) (r : Fin 1024) (l : Fin 1024) :
    k0_pay2 v x w (ix2 r l) = v (ix2 r l) + ∑ k, x (ix2 r k) * w (ix2 k l) := by
  pointwise [k0_pay2]

theorem zero_at (r : Fin 1024) (l : Fin 1024) : k0_pay1 (F := Ideal) (ix2 r l) = 0 := by
  pointwise [k0_pay1]

theorem first (t : Fin cfg0.N) (h0 : t.val % 11 = 0) (y : S1024x1024.Idx) :
    (outsAt0 m c t.val t.isLt).2 y = k0_pay2 (k0_pay1 (F := Ideal)) (iblk m c 0 t) (iblk m c 1 t) y := by
  rw [outsAt0_A m c t h0 (by omega)]
  dsimp only
  unfold sout0_A_0
  frame_out

theorem next (t : Fin cfg0.N) (h0 : ¬ t.val % 11 = 0) (y : S1024x1024.Idx) :
    (outsAt0 m c t.val t.isLt).2 y = k0_pay2 (outsAt0 m c (t.val - 1) (Nat.lt_of_le_of_lt (Nat.sub_le _ _) t.isLt)).2 (iblk m c 0 t) (iblk m c 1 t) y := by
  by_cases h1 : t.val % 11 = 10
  · rw [outsAt0_C m c t h0 h1]
    dsimp only
    unfold sout0_C_0
    frame_out
    erw [Memref.IsWhole.read_unread]
  · rw [outsAt0_B m c t h0 h1]
    dsimp only
    unfold sout0_B_0
    frame_out
    erw [Memref.IsWhole.read_unread]

theorem last (t : Fin cfg0.N) (h1 : t.val % 11 = 10) (y : S1024x1024.Idx) : (outsAt0 m c t.val t.isLt).1 y = (outsAt0 m c t.val t.isLt).2 y := by
  rw [outsAt0_C m c t (by omega) h1]
  dsimp only
  unfold out0_C_2 sout0_C_0
  frame_out

/-- After the last tile a grid point's sums are the product's entries. -/
theorem whole (t : Fin cfg0.N) (h1 : t.val % 11 = 10) (r : Fin 1024) (l : Fin 1024) :
    (outsAt0 m c t.val t.isLt).2 (ix2 r l) = nn .f32 (X m c) (W m c) (ix2 (row t r) (col t l)) :=
  nn_tiles (q := 11) (X m c) (W m c) row col (fun t => iblk m c 0 t) (fun t => iblk m c 1 t) (fun t => (outsAt0 m c t.val t.isLt).2) dep (blk0 m c) (blk1 m c)
    (fun t r l h => ((first m c t h _).trans (step_at _ _ _ r l)).trans (congrArg (· + _) (zero_at r l)))
    (fun t r l h => (next m c t h _).trans (step_at _ _ _ r l))
    (fun t r h => Fin.ext (by simp only [row]; omega)) (fun t l h => Fin.ext (by simp only [col]; omega)) t (by omega) r l

/-- The call leaves the product. -/
theorem res : (dats m 0 c).arrAt 2 cfg0.N = nn .f32 (X m c) (W m c) := by
  refine (dats m 0 c).arrAt_eq_of_covers 2 _ (by decide +kernel) fun t ht y => ?_
  have h1 := (flush0_2 t).mp ht
  blk_simp [idx t]
  rw [after0_2]
  obtain ⟨r, l, rfl⟩ : ∃ (r : Fin 1024) (l : Fin 1024), y = ix2 r l := ⟨y 0, y 1, by idx_vars y⟩
  refine (last m c t h1 _).trans ?_
  exact (whole m c t h1 r l).trans (emb2 t (nn .f32 (X m c) (W m c)) r l).symm

end

end Cert.DownIdeal.Final

end
-- ==== Proof.DownEnd.lean ====
/- The product of the down projection: the call's result from the arguments. -/
module

public import proofs.«01_k».proof.Proof.DownVal
public import proofs.«01_k».proof.Proof.Layout

@[expose] public section

set_option maxRecDepth 16384

noncomputable section

open Idealize.ShloMosaic Idealize.ShloMosaic.TcCoe Idealize.SL.Sem
open Idealize.ShloMosaic.Pipeline (Dat)

namespace Cert.DownIdeal.Final

open Cert.DownIdeal Cert.DownIdeal.Gen Cert.Mm

section

variable (m : (ℓ : Loc nD τ sig) → Buf (Elt Ideal) ℓ) (c : Dev nD)

/-- Argument 0. -/
abbrev A0 : FVec Ideal S4096x5504 .bf16 := m ((c.tc : Thread nD τ).loc main_arg0)
/-- Argument 1. -/
abbrev A1 : FVec Ideal S5504x2048 .bf16 := m ((c.tc : Thread nD τ).loc main_arg1)

/-- Argument 0 with columns of zeros added. -/
theorem lays : Lays (A0 m c) (V m c main_v0) (Fin.castLE (by decide)) := by
  refine (pad_lays (A0 m c) (by decide) pads_S4096x5504_S4096x5632_000_01280 h_S_).of_eq ?_
  entry_read
  rfl

/-- Argument 1 with rows added below. -/
theorem rows (k : Fin 5504) (j : Fin 2048) : W m c (ix2 (Fin.castLE (by decide) k) j) = A1 m c (ix2 k j) := by
  have h : V m c main_v1 = pad S5632x2048 ![0, 0] ![128, 0] ![0, 0] (A1 m c) zpad pads_S5504x2048_S5632x2048_01280_000 h_S_ := by
    entry_read
    rfl
  refine (congrFun h (ix2 _ j)).trans ?_
  exact padRows_in (A1 m c) zpad pads_S5504x2048_S5632x2048_01280_000 h_S_ _ j k rfl

/-- What the call leaves: the product of the arguments. -/
theorem left : (dats m 0 c).arrAt 2 cfg0.N = nn .f32 (A0 m c) (A1 m c) :=
  (res m c).trans (nn_pad .f32 (by decide) (lays m c) (rows m c))

end

end Cert.DownIdeal.Final

end
-- ==== Proof.RunOutProj.lean ====
/- The host program `RefOutProjIdeal` as the list of its operations, and its run: the result is the product of the arguments, the
   arguments unchanged. -/
module

public import proofs.«01_k».proof.Proof.Gen.RefOutProjIdeal
public import proofs.«01_k».proof.Proof.Tiles
public import Idealize.ShloMosaic.Lib.StableHlo.Run

@[expose] public section

set_option maxRecDepth 16384

noncomputable section

namespace Cert.RefOutProjIdeal.Steps

open Cert.RefOutProjIdeal Cert.RefOutProjIdeal.Gen Cert.Mm Idealize.ShloMosaic Idealize.ShloMosaic.TcCoe Idealize.SL.Sem Idealize.ShloMosaic.StableHlo

variable {F : FTy → Type} [FloatOps F]

/-- The operations in order. -/
abbrev ops : List (HloOp τ sig (Elt F)) :=
  [ unary main_arg0 main_v0 ((extf .f32 · bitsLt_bf16_f32) : (⟨S4096x2048, .bf16⟩ : BufTy).Contents (Elt F) → (⟨S4096x2048, .f32⟩ : BufTy).Contents (Elt F)),
    unary main_arg1 main_v1 ((extf .f32 · bitsLt_bf16_f32) : (⟨S2048x2048, .bf16⟩ : BufTy).Contents (Elt F) → (⟨S2048x2048, .f32⟩ : BufTy).Contents (Elt F)),
    binary main_v0 main_v1 main_v2 ((fun l r => Host.dotGeneral dot_S4096x2048_S2048x2048_S4096x2048_1_0_0_1_n_n none l r) : (⟨S4096x2048, .f32⟩ : BufTy).Contents (Elt F) → (⟨S2048x2048, .f32⟩ : BufTy).Contents (Elt F) → (⟨S4096x2048, .f32⟩ : BufTy).Contents (Elt F)) ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨unary_bufs_sub .., unary_bufs_sub .., binary_bufs_sub ..⟩

/-- The product as the program computes it. -/
theorem product (x : FVec Ideal S4096x2048 .bf16) (w : FVec Ideal S2048x2048 .bf16) :
    Host.dotGeneral dot_S4096x2048_S2048x2048_S4096x2048_1_0_0_1_n_n none (extf (F := Ideal) (φ := .bf16) .f32 x bitsLt_bf16_f32) (extf (F := Ideal) (φ := .bf16) .f32 w bitsLt_bf16_f32) = nn .f32 x w := by
  funext y
  obtain ⟨i, j, rfl⟩ : ∃ (i : Fin 4096) (j : Fin 2048), y = ix2 i j := ⟨y 0, y 1, by idx_vars y⟩
  refine Eq.trans (b := ∑ k : Fin 2048, x (ix2 i k) * w (ix2 k j)) (by pointwise [dot_S4096x2048_S2048x2048_S4096x2048_1_0_0_1_n_n]) ?_
  rfl

/-- The result: the product of the arguments. -/
def val (m : (ℓ : Loc nD τ sig) → Buf (Elt Ideal) ℓ) (c : Dev nD) : FVec Ideal S4096x2048 .f32 := nn .f32 (m ((c.tc : Thread nD τ).loc main_arg0)) (m ((c.tc : Thread nD τ).loc main_arg1))

set_option maxRecDepth 100000 in
theorem after_val (m : (ℓ : Loc nD τ sig) → Buf (Elt Ideal) ℓ) (c : Dev nD) : after ops (launchContents m c) main_v2 = val m c := by
  simp only [ops, TRef.nullary, TRef.ternary, TRef.unary, TRef.toBuf, TRef.ofBuf, cast_eq]
  after_results_simp
  exact product _ _

theorem after_arg0 (m : (ℓ : Loc nD τ sig) → Buf (Elt Ideal) ℓ) (c : Dev nD) : after ops (launchContents m c) main_arg0 = m ((c.tc : Thread nD τ).loc main_arg0) := by
  simp only [ops, TRef.nullary, TRef.ternary, TRef.unary, TRef.toBuf, TRef.ofBuf, cast_eq]
  after_results_simp <;> rfl

theorem after_arg1 (m : (ℓ : Loc nD τ sig) → Buf (Elt Ideal) ℓ) (c : Dev nD) : after ops (launchContents m c) main_arg1 = m ((c.tc : Thread nD τ).loc main_arg1) := by
  simp only [ops, TRef.nullary, TRef.ternary, TRef.unary, TRef.toBuf, TRef.ofBuf, cast_eq]
  after_results_simp <;> rfl

/-- Every execution from a memory with zero counters ends with the product as the result and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v2) = val m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v2).trans (after_val m c), (h c main_arg0).trans (after_arg0 m c), (h c main_arg1).trans (after_arg1 m c)⟩)
    (run_seq scopedRefs_eq scopedSems_eq defs main (fun _ => ops) main_eq (fun _ => ops_sub) m ρ)

end Cert.RefOutProjIdeal.Steps

end
-- ==== Proof.RunUpGate.lean ====
/- The host program `RefUpGateIdeal` as the list of its operations, and its run: the result is the product of the arguments, the
   arguments unchanged. -/
module

public import proofs.«01_k».proof.Proof.Gen.RefUpGateIdeal
public import proofs.«01_k».proof.Proof.Tiles
public import Idealize.ShloMosaic.Lib.StableHlo.Run

@[expose] public section

set_option maxRecDepth 16384

noncomputable section

namespace Cert.RefUpGateIdeal.Steps

open Cert.RefUpGateIdeal Cert.RefUpGateIdeal.Gen Cert.Mm Idealize.ShloMosaic Idealize.ShloMosaic.TcCoe Idealize.SL.Sem Idealize.ShloMosaic.StableHlo

variable {F : FTy → Type} [FloatOps F]

/-- The operations in order. -/
abbrev ops : List (HloOp τ sig (Elt F)) :=
  [ unary main_arg0 main_v0 ((extf .f32 · bitsLt_bf16_f32) : (⟨S4096x2048, .bf16⟩ : BufTy).Contents (Elt F) → (⟨S4096x2048, .f32⟩ : BufTy).Contents (Elt F)),
    unary main_arg1 main_v1 ((extf .f32 · bitsLt_bf16_f32) : (⟨S2048x11008, .bf16⟩ : BufTy).Contents (Elt F) → (⟨S2048x11008, .f32⟩ : BufTy).Contents (Elt F)),
    binary main_v0 main_v1 main_v2 ((fun l r => Host.dotGeneral dot_S4096x2048_S2048x11008_S4096x11008_1_0_0_1_n_n none l r) : (⟨S4096x2048, .f32⟩ : BufTy).Contents (Elt F) → (⟨S2048x11008, .f32⟩ : BufTy).Contents (Elt F) → (⟨S4096x11008, .f32⟩ : BufTy).Contents (Elt F)),
    unary main_v2 main_v3 ((extractStridedSlice S4096x5504 ![0, 0] · slices_S4096x11008_S4096x5504_0_0) : (⟨S4096x11008, .f32⟩ : BufTy).Contents (Elt F) → (⟨S4096x5504, .f32⟩ : BufTy).Contents (Elt F)) ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨unary_bufs_sub .., unary_bufs_sub .., binary_bufs_sub .., unary_bufs_sub ..⟩

/-- The product as the program computes it. -/
theorem product (x : FVec Ideal S4096x2048 .bf16) (w : FVec Ideal S2048x11008 .bf16) :
    Host.dotGeneral dot_S4096x2048_S2048x11008_S4096x11008_1_0_0_1_n_n none (extf (F := Ideal) (φ := .bf16) .f32 x bitsLt_bf16_f32) (extf (F := Ideal) (φ := .bf16) .f32 w bitsLt_bf16_f32) = nn .f32 x w := by
  funext y
  obtain ⟨i, j, rfl⟩ : ∃ (i : Fin 4096) (j : Fin 11008), y = ix2 i j := ⟨y 0, y 1, by idx_vars y⟩
  refine Eq.trans (b := ∑ k : Fin 2048, x (ix2 i k) * w (ix2 k j)) (by pointwise [dot_S4096x2048_S2048x11008_S4096x11008_1_0_0_1_n_n]) ?_
  rfl

/-- The result: the product of the arguments. -/
def val (m : (ℓ : Loc nD τ sig) → Buf (Elt Ideal) ℓ) (c : Dev nD) : FVec Ideal S4096x5504 .f32 := nn .f32 (m ((c.tc : Thread nD τ).loc main_arg0)) (cut 0 (by decide : 0 + 5504 ≤ 11008) (m ((c.tc : Thread nD τ).loc main_arg1)))

set_option maxRecDepth 100000 in
theorem after_val (m : (ℓ : Loc nD τ sig) → Buf (Elt Ideal) ℓ) (c : Dev nD) : after ops (launchContents m c) main_v3 = val m c := by
  simp only [ops, TRef.nullary, TRef.ternary, TRef.unary, TRef.toBuf, TRef.ofBuf, cast_eq]
  after_results_simp
  rw [product]
  funext y
  obtain ⟨i, j, rfl⟩ : ∃ (i : Fin 4096) (j : Fin 5504), y = ix2 i j := ⟨y 0, y 1, by idx_vars y⟩
  exact cols_at _ 0 slices_S4096x11008_S4096x5504_0_0 i j ⟨0 + j.val, by omega⟩ rfl

theorem after_arg0 (m : (ℓ : Loc nD τ sig) → Buf (Elt Ideal) ℓ) (c : Dev nD) : after ops (launchContents m c) main_arg0 = m ((c.tc : Thread nD τ).loc main_arg0) := by
  simp only [ops, TRef.nullary, TRef.ternary, TRef.unary, TRef.toBuf, TRef.ofBuf, cast_eq]
  after_results_simp <;> rfl

theorem after_arg1 (m : (ℓ : Loc nD τ sig) → Buf (Elt Ideal) ℓ) (c : Dev nD) : after ops (launchContents m c) main_arg1 = m ((c.tc : Thread nD τ).loc main_arg1) := by
  simp only [ops, TRef.nullary, TRef.ternary, TRef.unary, TRef.toBuf, TRef.ofBuf, cast_eq]
  after_results_simp <;> rfl

/-- Every execution from a memory with zero counters ends with the product as the result and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v3) = val m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v3).trans (after_val m c), (h c main_arg0).trans (after_arg0 m c), (h c main_arg1).trans (after_arg1 m c)⟩)
    (run_seq scopedRefs_eq scopedSems_eq defs main (fun _ => ops) main_eq (fun _ => ops_sub) m ρ)

end Cert.RefUpGateIdeal.Steps

end
-- ==== Proof.RunUpVal.lean ====
/- The host program `RefUpValIdeal` as the list of its operations, and its run: the result is the product of the arguments, the
   arguments unchanged. -/
module

public import proofs.«01_k».proof.Proof.Gen.RefUpValIdeal
public import proofs.«01_k».proof.Proof.Tiles
public import Idealize.ShloMosaic.Lib.StableHlo.Run

@[expose] public section

set_option maxRecDepth 16384

noncomputable section

namespace Cert.RefUpValIdeal.Steps

open Cert.RefUpValIdeal Cert.RefUpValIdeal.Gen Cert.Mm Idealize.ShloMosaic Idealize.ShloMosaic.TcCoe Idealize.SL.Sem Idealize.ShloMosaic.StableHlo

variable {F : FTy → Type} [FloatOps F]

/-- The operations in order. -/
abbrev ops : List (HloOp τ sig (Elt F)) :=
  [ unary main_arg0 main_v0 ((extf .f32 · bitsLt_bf16_f32) : (⟨S4096x2048, .bf16⟩ : BufTy).Contents (Elt F) → (⟨S4096x2048, .f32⟩ : BufTy).Contents (Elt F)),
    unary main_arg1 main_v1 ((extf .f32 · bitsLt_bf16_f32) : (⟨S2048x11008, .bf16⟩ : BufTy).Contents (Elt F) → (⟨S2048x11008, .f32⟩ : BufTy).Contents (Elt F)),
    binary main_v0 main_v1 main_v2 ((fun l r => Host.dotGeneral dot_S4096x2048_S2048x11008_S4096x11008_1_0_0_1_n_n none l r) : (⟨S4096x2048, .f32⟩ : BufTy).Contents (Elt F) → (⟨S2048x11008, .f32⟩ : BufTy).Contents (Elt F) → (⟨S4096x11008, .f32⟩ : BufTy).Contents (Elt F)),
    unary main_v2 main_v3 ((extractStridedSlice S4096x5504 ![0, 5504] · slices_S4096x11008_S4096x5504_0_5504) : (⟨S4096x11008, .f32⟩ : BufTy).Contents (Elt F) → (⟨S4096x5504, .f32⟩ : BufTy).Contents (Elt F)) ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨unary_bufs_sub .., unary_bufs_sub .., binary_bufs_sub .., unary_bufs_sub ..⟩

/-- The product as the program computes it. -/
theorem product (x : FVec Ideal S4096x2048 .bf16) (w : FVec Ideal S2048x11008 .bf16) :
    Host.dotGeneral dot_S4096x2048_S2048x11008_S4096x11008_1_0_0_1_n_n none (extf (F := Ideal) (φ := .bf16) .f32 x bitsLt_bf16_f32) (extf (F := Ideal) (φ := .bf16) .f32 w bitsLt_bf16_f32) = nn .f32 x w := by
  funext y
  obtain ⟨i, j, rfl⟩ : ∃ (i : Fin 4096) (j : Fin 11008), y = ix2 i j := ⟨y 0, y 1, by idx_vars y⟩
  refine Eq.trans (b := ∑ k : Fin 2048, x (ix2 i k) * w (ix2 k j)) (by pointwise [dot_S4096x2048_S2048x11008_S4096x11008_1_0_0_1_n_n]) ?_
  rfl

/-- The result: the product of the arguments. -/
def val (m : (ℓ : Loc nD τ sig) → Buf (Elt Ideal) ℓ) (c : Dev nD) : FVec Ideal S4096x5504 .f32 := nn .f32 (m ((c.tc : Thread nD τ).loc main_arg0)) (cut 5504 (by decide : 5504 + 5504 ≤ 11008) (m ((c.tc : Thread nD τ).loc main_arg1)))

set_option maxRecDepth 100000 in
theorem after_val (m : (ℓ : Loc nD τ sig) → Buf (Elt Ideal) ℓ) (c : Dev nD) : after ops (launchContents m c) main_v3 = val m c := by
  simp only [ops, TRef.nullary, TRef.ternary, TRef.unary, TRef.toBuf, TRef.ofBuf, cast_eq]
  after_results_simp
  rw [product]
  funext y
  obtain ⟨i, j, rfl⟩ : ∃ (i : Fin 4096) (j : Fin 5504), y = ix2 i j := ⟨y 0, y 1, by idx_vars y⟩
  exact cols_at _ 5504 slices_S4096x11008_S4096x5504_0_5504 i j ⟨5504 + j.val, by omega⟩ rfl

theorem after_arg0 (m : (ℓ : Loc nD τ sig) → Buf (Elt Ideal) ℓ) (c : Dev nD) : after ops (launchContents m c) main_arg0 = m ((c.tc : Thread nD τ).loc main_arg0) := by
  simp only [ops, TRef.nullary, TRef.ternary, TRef.unary, TRef.toBuf, TRef.ofBuf, cast_eq]
  after_results_simp <;> rfl

theorem after_arg1 (m : (ℓ : Loc nD τ sig) → Buf (Elt Ideal) ℓ) (c : Dev nD) : after ops (launchContents m c) main_arg1 = m ((c.tc : Thread nD τ).loc main_arg1) := by
  simp only [ops, TRef.nullary, TRef.ternary, TRef.unary, TRef.toBuf, TRef.ofBuf, cast_eq]
  after_results_simp <;> rfl

/-- Every execution from a memory with zero counters ends with the product as the result and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v3) = val m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v3).trans (after_val m c), (h c main_arg0).trans (after_arg0 m c), (h c main_arg1).trans (after_arg1 m c)⟩)
    (run_seq scopedRefs_eq scopedSems_eq defs main (fun _ => ops) main_eq (fun _ => ops_sub) m ρ)

end Cert.RefUpValIdeal.Steps

end
-- ==== Proof.RunDown.lean ====
/- The host program `RefDownIdeal` as the list of its operations, and its run: the result is the product of the arguments, the
   arguments unchanged. -/
module

public import proofs.«01_k».proof.Proof.Gen.RefDownIdeal
public import proofs.«01_k».proof.Proof.Tiles
public import Idealize.ShloMosaic.Lib.StableHlo.Run

@[expose] public section

set_option maxRecDepth 16384

noncomputable section

namespace Cert.RefDownIdeal.Steps

open Cert.RefDownIdeal Cert.RefDownIdeal.Gen Cert.Mm Idealize.ShloMosaic Idealize.ShloMosaic.TcCoe Idealize.SL.Sem Idealize.ShloMosaic.StableHlo

variable {F : FTy → Type} [FloatOps F]

/-- The operations in order. -/
abbrev ops : List (HloOp τ sig (Elt F)) :=
  [ unary main_arg0 main_v0 ((extf .f32 · bitsLt_bf16_f32) : (⟨S4096x5504, .bf16⟩ : BufTy).Contents (Elt F) → (⟨S4096x5504, .f32⟩ : BufTy).Contents (Elt F)),
    unary main_arg1 main_v1 ((extf .f32 · bitsLt_bf16_f32) : (⟨S5504x2048, .bf16⟩ : BufTy).Contents (Elt F) → (⟨S5504x2048, .f32⟩ : BufTy).Contents (Elt F)),
    binary main_v0 main_v1 main_v2 ((fun l r => Host.dotGeneral dot_S4096x5504_S5504x2048_S4096x2048_1_0_0_1_n_n none l r) : (⟨S4096x5504, .f32⟩ : BufTy).Contents (Elt F) → (⟨S5504x2048, .f32⟩ : BufTy).Contents (Elt F) → (⟨S4096x2048, .f32⟩ : BufTy).Contents (Elt F)) ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨unary_bufs_sub .., unary_bufs_sub .., binary_bufs_sub ..⟩

/-- The product as the program computes it. -/
theorem product (x : FVec Ideal S4096x5504 .bf16) (w : FVec Ideal S5504x2048 .bf16) :
    Host.dotGeneral dot_S4096x5504_S5504x2048_S4096x2048_1_0_0_1_n_n none (extf (F := Ideal) (φ := .bf16) .f32 x bitsLt_bf16_f32) (extf (F := Ideal) (φ := .bf16) .f32 w bitsLt_bf16_f32) = nn .f32 x w := by
  funext y
  obtain ⟨i, j, rfl⟩ : ∃ (i : Fin 4096) (j : Fin 2048), y = ix2 i j := ⟨y 0, y 1, by idx_vars y⟩
  refine Eq.trans (b := ∑ k : Fin 5504, x (ix2 i k) * w (ix2 k j)) (by pointwise [dot_S4096x5504_S5504x2048_S4096x2048_1_0_0_1_n_n]) ?_
  rfl

/-- The result: the product of the arguments. -/
def val (m : (ℓ : Loc nD τ sig) → Buf (Elt Ideal) ℓ) (c : Dev nD) : FVec Ideal S4096x2048 .f32 := nn .f32 (m ((c.tc : Thread nD τ).loc main_arg0)) (m ((c.tc : Thread nD τ).loc main_arg1))

set_option maxRecDepth 100000 in
theorem after_val (m : (ℓ : Loc nD τ sig) → Buf (Elt Ideal) ℓ) (c : Dev nD) : after ops (launchContents m c) main_v2 = val m c := by
  simp only [ops, TRef.nullary, TRef.ternary, TRef.unary, TRef.toBuf, TRef.ofBuf, cast_eq]
  after_results_simp
  exact product _ _

theorem after_arg0 (m : (ℓ : Loc nD τ sig) → Buf (Elt Ideal) ℓ) (c : Dev nD) : after ops (launchContents m c) main_arg0 = m ((c.tc : Thread nD τ).loc main_arg0) := by
  simp only [ops, TRef.nullary, TRef.ternary, TRef.unary, TRef.toBuf, TRef.ofBuf, cast_eq]
  after_results_simp <;> rfl

theorem after_arg1 (m : (ℓ : Loc nD τ sig) → Buf (Elt Ideal) ℓ) (c : Dev nD) : after ops (launchContents m c) main_arg1 = m ((c.tc : Thread nD τ).loc main_arg1) := by
  simp only [ops, TRef.nullary, TRef.ternary, TRef.unary, TRef.toBuf, TRef.ofBuf, cast_eq]
  after_results_simp <;> rfl

/-- Every execution from a memory with zero counters ends with the product as the result and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v2) = val m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v2).trans (after_val m c), (h c main_arg0).trans (after_arg0 m c), (h c main_arg1).trans (after_arg1 m c)⟩)
    (run_seq scopedRefs_eq scopedSems_eq defs main (fun _ => ops) main_eq (fun _ => ops_sub) m ρ)

end Cert.RefDownIdeal.Steps

end
-- ==== Proof.ClaimForward.lean ====
/- The products of the forward pass: kernel and reference end with equal results. -/
module

public import proofs.«01_k».proof.Defs
public import proofs.«01_k».proof.Proof.OutProjVal
public import proofs.«01_k».proof.Proof.UpGateEnd
public import proofs.«01_k».proof.Proof.UpValEnd
public import proofs.«01_k».proof.Proof.DownEnd
public import proofs.«01_k».proof.Proof.RunOutProj
public import proofs.«01_k».proof.Proof.RunUpGate
public import proofs.«01_k».proof.Proof.RunUpVal
public import proofs.«01_k».proof.Proof.RunDown

@[expose] public section

set_option maxRecDepth 16384

noncomputable section

open Idealize.ShloMosaic Idealize.ShloMosaic.TcCoe Idealize.SL.Sem
open Idealize.ShloMosaic.Pipeline (Dat)

namespace Cert.ProofMm

/-- The kernel for the output projection and the reference, both idealized, end with equal results. -/
theorem algebraicOutProj : Cert.algebraic_OutProjIdeal_RefOutProjIdeal (hOutProjIdeal := Cert.OutProjIdeal.Gen.facts) (hRefOutProjIdeal := Cert.RefOutProjIdeal.Gen.facts) := by
  intro m ρ m' ρ' _ ha
  refine ⟨_, Cert.OutProjIdeal.Value.run_blocks m ρ, ?_⟩
  refine (θ_run Cert.RefOutProjIdeal.defs _ _).mono (fun r h c => ⟨(h c).1.trans ?_, (h c).2⟩) (Cert.RefOutProjIdeal.Steps.run m' ρ')
  refine Eq.trans ?_ (Cert.OutProjIdeal.Final.res m c).symm
  exact congrArg₂ (Mm.nn .f32) (ha c).1 (ha c).2

/-- The kernel for the gate's up projection and the reference, both idealized, end with equal results. -/
theorem algebraicUpGate : Cert.algebraic_UpGateIdeal_RefUpGateIdeal (hUpGateIdeal := Cert.UpGateIdeal.Gen.facts) (hRefUpGateIdeal := Cert.RefUpGateIdeal.Gen.facts) := by
  intro m ρ m' ρ' _ ha
  refine ⟨_, Cert.UpGateIdeal.Final.run m ρ, ?_⟩
  refine (θ_run Cert.RefUpGateIdeal.defs _ _).mono (fun r h c => ⟨(h c).1.trans ?_, (h c).2⟩) (Cert.RefUpGateIdeal.Steps.run m' ρ')
  exact congrArg₂ (fun x w => Mm.nn .f32 x (Mm.cut 0 (by decide) w)) (ha c).1 (ha c).2

/-- The kernel for the value's up projection and the reference, both idealized, end with equal results. -/
theorem algebraicUpVal : Cert.algebraic_UpValIdeal_RefUpValIdeal (hUpValIdeal := Cert.UpValIdeal.Gen.facts) (hRefUpValIdeal := Cert.RefUpValIdeal.Gen.facts) := by
  intro m ρ m' ρ' _ ha
  refine ⟨_, Cert.UpValIdeal.Final.run m ρ, ?_⟩
  refine (θ_run Cert.RefUpValIdeal.defs _ _).mono (fun r h c => ⟨(h c).1.trans ?_, (h c).2⟩) (Cert.RefUpValIdeal.Steps.run m' ρ')
  exact congrArg₂ (fun x w => Mm.nn .f32 x (Mm.cut 5504 (by decide) w)) (ha c).1 (ha c).2

/-- The kernel for the down projection and the reference, both idealized, end with equal results. -/
theorem algebraicDown : Cert.algebraic_DownIdeal_RefDownIdeal (hDownIdeal := Cert.DownIdeal.Gen.facts) (hRefDownIdeal := Cert.RefDownIdeal.Gen.facts) := by
  intro m ρ m' ρ' _ ha
  refine ⟨_, Cert.DownIdeal.Value.run_blocks m ρ, ?_⟩
  refine (θ_run Cert.RefDownIdeal.defs _ _).mono (fun r h c => ⟨(h c).1.trans ?_, (h c).2⟩) (Cert.RefDownIdeal.Steps.run m' ρ')
  refine Eq.trans ?_ (Cert.DownIdeal.Final.left m c).symm
  exact congrArg₂ (Mm.nn .f32) (ha c).1 (ha c).2

end Cert.ProofMm

end
-- ==== Proof.lean ====
module

public import proofs.«01_k».proof.Defs
public import proofs.«01_k».proof.Proof.Gen.BwdQ
public import proofs.«01_k».proof.Proof.Gen.BwdQIdeal.Value
public import proofs.«01_k».proof.Proof.Gen.BwdKvIdeal.Value
public import proofs.«01_k».proof.Proof.Gen.FwdIdeal.Value
public import proofs.«01_k».proof.Proof.Gen.BwdQ.Skeleton
public import proofs.«01_k».proof.Proof.Gen.BwdQ.Loops
public import proofs.«01_k».proof.Proof.Gen.BwdQ.Launch
public import proofs.«01_k».proof.Proof.Gen.BwdQ.Points
public import proofs.«01_k».proof.Proof.Gen.BwdQ.Frame
public import proofs.«01_k».proof.Proof.Gen.BwdQIdeal
public import proofs.«01_k».proof.Proof.Gen.BwdQIdeal.Skeleton
public import proofs.«01_k».proof.Proof.Gen.BwdQIdeal.Loops
public import proofs.«01_k».proof.Proof.Gen.BwdQIdeal.Launch
public import proofs.«01_k».proof.Proof.Gen.BwdQIdeal.Points
public import proofs.«01_k».proof.Proof.Gen.BwdQIdeal.Frame
public import proofs.«01_k».proof.Proof.ClaimQ
public import proofs.«01_k».proof.Proof.ClaimKv
public import proofs.«01_k».proof.Proof.RunFwd
public import proofs.«01_k».proof.Proof.ClaimFwd
public import proofs.«01_k».proof.Proof.Gen.RefQIdeal
public import Idealize.ShloMosaic.Lib.Quiescent
public import proofs.«01_k».proof.Proof.Gen.BwdKv
public import proofs.«01_k».proof.Proof.Gen.BwdKv.Skeleton
public import proofs.«01_k».proof.Proof.Gen.BwdKv.Loops
public import proofs.«01_k».proof.Proof.Gen.BwdKv.Launch
public import proofs.«01_k».proof.Proof.Gen.BwdKv.Points
public import proofs.«01_k».proof.Proof.Gen.BwdKv.Frame
public import proofs.«01_k».proof.Proof.Gen.BwdKvIdeal
public import proofs.«01_k».proof.Proof.Gen.BwdKvIdeal.Skeleton
public import proofs.«01_k».proof.Proof.Gen.BwdKvIdeal.Loops
public import proofs.«01_k».proof.Proof.Gen.BwdKvIdeal.Launch
public import proofs.«01_k».proof.Proof.Gen.BwdKvIdeal.Points
public import proofs.«01_k».proof.Proof.Gen.BwdKvIdeal.Frame
public import proofs.«01_k».proof.Proof.Gen.RefKvIdeal
public import proofs.«01_k».proof.Proof.Gen.Fwd
public import proofs.«01_k».proof.Proof.Gen.Fwd.Skeleton
public import proofs.«01_k».proof.Proof.Gen.Fwd.Loops
public import proofs.«01_k».proof.Proof.Gen.Fwd.Launch
public import proofs.«01_k».proof.Proof.Gen.Fwd.Points
public import proofs.«01_k».proof.Proof.Gen.Fwd.Frame
public import proofs.«01_k».proof.Proof.Gen.FwdIdeal
public import proofs.«01_k».proof.Proof.Gen.FwdIdeal.Skeleton
public import proofs.«01_k».proof.Proof.Gen.FwdIdeal.Loops
public import proofs.«01_k».proof.Proof.Gen.FwdIdeal.Launch
public import proofs.«01_k».proof.Proof.Gen.FwdIdeal.Points
public import proofs.«01_k».proof.Proof.Gen.FwdIdeal.Frame
public import proofs.«01_k».proof.Proof.Gen.RefFwdIdeal
public import proofs.«01_k».proof.Proof.Gen.Pre_finite
public import proofs.«01_k».proof.Proof.Gen.Pre_finite_fwd
public import proofs.«01_k».proof.Proof.Gen.DwDownIdeal.Frame
public import proofs.«01_k».proof.Proof.Gen.DwDown
public import proofs.«01_k».proof.Proof.Gen.DwDown.Frame
public import proofs.«01_k».proof.Proof.Gen.RefDwDownIdeal
public import proofs.«01_k».proof.Proof.Gen.DactIdeal.Frame
public import proofs.«01_k».proof.Proof.Gen.Dact
public import proofs.«01_k».proof.Proof.Gen.Dact.Frame
public import proofs.«01_k».proof.Proof.Gen.RefDactIdeal
public import proofs.«01_k».proof.Proof.Gen.DwUpIdeal.Frame
public import proofs.«01_k».proof.Proof.Gen.DwUp
public import proofs.«01_k».proof.Proof.Gen.DwUp.Frame
public import proofs.«01_k».proof.Proof.Gen.RefDwUpIdeal
public import proofs.«01_k».proof.Proof.Gen.DxUpIdeal.Value
public import proofs.«01_k».proof.Proof.Gen.DxUp
public import proofs.«01_k».proof.Proof.Gen.DxUp.Frame
public import proofs.«01_k».proof.Proof.Gen.RefDxUpIdeal
public import proofs.«01_k».proof.Proof.Gen.DwOutIdeal.Value
public import proofs.«01_k».proof.Proof.Gen.DwOut
public import proofs.«01_k».proof.Proof.Gen.DwOut.Frame
public import proofs.«01_k».proof.Proof.Gen.RefDwOutIdeal
public import proofs.«01_k».proof.Proof.Gen.DmergedIdeal.Value
public import proofs.«01_k».proof.Proof.Gen.Dmerged
public import proofs.«01_k».proof.Proof.Gen.Dmerged.Frame
public import proofs.«01_k».proof.Proof.Gen.RefDmergedIdeal
public import proofs.«01_k».proof.Proof.Gen.DwProjIdeal.Value
public import proofs.«01_k».proof.Proof.Gen.DwProj
public import proofs.«01_k».proof.Proof.Gen.DwProj.Frame
public import proofs.«01_k».proof.Proof.Gen.RefDwProjIdeal
public import proofs.«01_k».proof.Proof.Gen.DyProjIdeal.Value
public import proofs.«01_k».proof.Proof.Gen.DyProj
public import proofs.«01_k».proof.Proof.Gen.DyProj.Frame
public import proofs.«01_k».proof.Proof.Gen.RefDyProjIdeal
public import proofs.«01_k».proof.Proof.Gen.DyProjBIdeal.Value
public import proofs.«01_k».proof.Proof.Gen.DyProjB
public import proofs.«01_k».proof.Proof.Gen.DyProjB.Frame
public import proofs.«01_k».proof.Proof.Gen.RefDyProjBIdeal
public import proofs.«01_k».proof.Proof.Gen.DwInIdeal.Frame
public import proofs.«01_k».proof.Proof.Gen.DwIn
public import proofs.«01_k».proof.Proof.Gen.DwIn.Frame
public import proofs.«01_k».proof.Proof.Gen.RefDwInIdeal
public import proofs.«01_k».proof.Proof.Gen.DxInIdeal.Value
public import proofs.«01_k».proof.Proof.Gen.DxIn
public import proofs.«01_k».proof.Proof.Gen.DxIn.Frame
public import proofs.«01_k».proof.Proof.Gen.RefDxInIdeal
public import proofs.«01_k».proof.Proof.ClaimPlain
public import proofs.«01_k».proof.Proof.ClaimLaid
public import proofs.«01_k».proof.Proof.ClaimForward
public import proofs.«01_k».proof.Proof.Gen.OutProjIdeal.Value
public import proofs.«01_k».proof.Proof.Gen.OutProj
public import proofs.«01_k».proof.Proof.Gen.OutProj.Frame
public import proofs.«01_k».proof.Proof.Gen.RefOutProjIdeal
public import proofs.«01_k».proof.Proof.Gen.UpGateIdeal.Frame
public import proofs.«01_k».proof.Proof.Gen.UpGate
public import proofs.«01_k».proof.Proof.Gen.UpGate.Frame
public import proofs.«01_k».proof.Proof.Gen.RefUpGateIdeal
public import proofs.«01_k».proof.Proof.Gen.UpValIdeal.Frame
public import proofs.«01_k».proof.Proof.Gen.UpVal
public import proofs.«01_k».proof.Proof.Gen.UpVal.Frame
public import proofs.«01_k».proof.Proof.Gen.RefUpValIdeal
public import proofs.«01_k».proof.Proof.Gen.DownIdeal.Value
public import proofs.«01_k».proof.Proof.Gen.Down
public import proofs.«01_k».proof.Proof.Gen.Down.Frame
public import proofs.«01_k».proof.Proof.Gen.RefDownIdeal
public import Idealize.ShloMosaic.Adequacy
public import Idealize.ShloMosaic.Init

@[expose] public section

noncomputable section

namespace Cert.Proof

open Idealize.ShloMosaic Idealize.SL.Sem Cert.BwdQ

/-- The reference program for the backward call of the queries ends with its arguments unchanged and every counter at zero. -/
theorem frameQ : Cert.quiescent_RefQIdeal (hRefQIdeal := Cert.RefQIdeal.Gen.facts) := fun m ρ _ =>
  (θ_run Cert.RefQIdeal.defs _ _).mono (fun r h => ⟨fun c => (h c).2.2, sem_eq_zero_of_no_sems (by decide) r.2⟩) (Cert.RefQIdeal.Steps.run m ρ)

/-- The reference program for the backward call of the keys and values ends with its arguments unchanged and every counter at zero. -/
theorem frameKv : Cert.quiescent_RefKvIdeal (hRefKvIdeal := Cert.RefKvIdeal.Gen.facts) := fun m ρ _ =>
  (θ_run Cert.RefKvIdeal.defs _ _).mono (fun r h => ⟨fun c => (h c).2.2.2, sem_eq_zero_of_no_sems (by decide) r.2⟩) (Cert.RefKvIdeal.Steps.run m ρ)

/-- The reference program for the forward call ends with its arguments unchanged and every counter at zero. -/
theorem frameFwd : Cert.quiescent_RefFwdIdeal (hRefFwdIdeal := Cert.RefFwdIdeal.Gen.facts) := fun m ρ _ =>
  (θ_run Cert.RefFwdIdeal.defs _ _).mono (fun r h => ⟨fun c => (h c).2.2.2, sem_eq_zero_of_no_sems (by decide) r.2⟩) (Cert.RefFwdIdeal.Steps.run m ρ)

/-- The reference program for the gradient of the down projection's weight ends with its arguments unchanged and every counter at zero. -/
theorem frameDwDown : Cert.quiescent_RefDwDownIdeal (hRefDwDownIdeal := Cert.RefDwDownIdeal.Gen.facts) := fun m ρ _ =>
  (θ_run Cert.RefDwDownIdeal.defs _ _).mono (fun r h => ⟨fun c => (h c).2, sem_eq_zero_of_no_sems (by decide) r.2⟩) (Cert.RefDwDownIdeal.Steps.run m ρ)

/-- The reference program for the gradient of the feed-forward layer's inner activations ends with its arguments unchanged and every counter at zero. -/
theorem frameDact : Cert.quiescent_RefDactIdeal (hRefDactIdeal := Cert.RefDactIdeal.Gen.facts) := fun m ρ _ =>
  (θ_run Cert.RefDactIdeal.defs _ _).mono (fun r h => ⟨fun c => (h c).2, sem_eq_zero_of_no_sems (by decide) r.2⟩) (Cert.RefDactIdeal.Steps.run m ρ)

/-- The reference program for the gradient of the gate's and the value's weights ends with its arguments unchanged and every counter at zero. -/
theorem frameDwUp : Cert.quiescent_RefDwUpIdeal (hRefDwUpIdeal := Cert.RefDwUpIdeal.Gen.facts) := fun m ρ _ =>
  (θ_run Cert.RefDwUpIdeal.defs _ _).mono (fun r h => ⟨fun c => (h c).2, sem_eq_zero_of_no_sems (by decide) r.2⟩) (Cert.RefDwUpIdeal.Steps.run m ρ)

/-- The reference program for the gradient of the feed-forward layer's input ends with its arguments unchanged and every counter at zero. -/
theorem frameDxUp : Cert.quiescent_RefDxUpIdeal (hRefDxUpIdeal := Cert.RefDxUpIdeal.Gen.facts) := fun m ρ _ =>
  (θ_run Cert.RefDxUpIdeal.defs _ _).mono (fun r h => ⟨fun c => (h c).2, sem_eq_zero_of_no_sems (by decide) r.2⟩) (Cert.RefDxUpIdeal.Steps.run m ρ)

/-- The reference program for the gradient of the output projection's weight ends with its arguments unchanged and every counter at zero. -/
theorem frameDwOut : Cert.quiescent_RefDwOutIdeal (hRefDwOutIdeal := Cert.RefDwOutIdeal.Gen.facts) := fun m ρ _ =>
  (θ_run Cert.RefDwOutIdeal.defs _ _).mono (fun r h => ⟨fun c => (h c).2, sem_eq_zero_of_no_sems (by decide) r.2⟩) (Cert.RefDwOutIdeal.Steps.run m ρ)

/-- The reference program for the gradient of the merged heads ends with its arguments unchanged and every counter at zero. -/
theorem frameDmerged : Cert.quiescent_RefDmergedIdeal (hRefDmergedIdeal := Cert.RefDmergedIdeal.Gen.facts) := fun m ρ _ =>
  (θ_run Cert.RefDmergedIdeal.defs _ _).mono (fun r h => ⟨fun c => (h c).2, sem_eq_zero_of_no_sems (by decide) r.2⟩) (Cert.RefDmergedIdeal.Steps.run m ρ)

/-- The reference program for the gradient of a projection's weight ends with its arguments unchanged and every counter at zero. -/
theorem frameDwProj : Cert.quiescent_RefDwProjIdeal (hRefDwProjIdeal := Cert.RefDwProjIdeal.Gen.facts) := fun m ρ _ =>
  (θ_run Cert.RefDwProjIdeal.defs _ _).mono (fun r h => ⟨fun c => (h c).2, sem_eq_zero_of_no_sems (by decide) r.2⟩) (Cert.RefDwProjIdeal.Steps.run m ρ)

/-- The reference program for the gradient of a projection's input ends with its arguments unchanged and every counter at zero. -/
theorem frameDyProj : Cert.quiescent_RefDyProjIdeal (hRefDyProjIdeal := Cert.RefDyProjIdeal.Gen.facts) := fun m ρ _ =>
  (θ_run Cert.RefDyProjIdeal.defs _ _).mono (fun r h => ⟨fun c => (h c).2, sem_eq_zero_of_no_sems (by decide) r.2⟩) (Cert.RefDyProjIdeal.Steps.run m ρ)

/-- The reference program for the gradient of a projection's input, rounded ends with its arguments unchanged and every counter at zero. -/
theorem frameDyProjB : Cert.quiescent_RefDyProjBIdeal (hRefDyProjBIdeal := Cert.RefDyProjBIdeal.Gen.facts) := fun m ρ _ =>
  (θ_run Cert.RefDyProjBIdeal.defs _ _).mono (fun r h => ⟨fun c => (h c).2, sem_eq_zero_of_no_sems (by decide) r.2⟩) (Cert.RefDyProjBIdeal.Steps.run m ρ)

/-- The reference program for the gradient of the input projections' weights ends with its arguments unchanged and every counter at zero. -/
theorem frameDwIn : Cert.quiescent_RefDwInIdeal (hRefDwInIdeal := Cert.RefDwInIdeal.Gen.facts) := fun m ρ _ =>
  (θ_run Cert.RefDwInIdeal.defs _ _).mono (fun r h => ⟨fun c => (h c).2, sem_eq_zero_of_no_sems (by decide) r.2⟩) (Cert.RefDwInIdeal.Steps.run m ρ)

/-- The reference program for the gradient of the input projections' input ends with its arguments unchanged and every counter at zero. -/
theorem frameDxIn : Cert.quiescent_RefDxInIdeal (hRefDxInIdeal := Cert.RefDxInIdeal.Gen.facts) := fun m ρ _ =>
  (θ_run Cert.RefDxInIdeal.defs _ _).mono (fun r h => ⟨fun c => (h c).2, sem_eq_zero_of_no_sems (by decide) r.2⟩) (Cert.RefDxInIdeal.Steps.run m ρ)

/-- The reference program for the output projection ends with its arguments unchanged and every counter at zero. -/
theorem frameOutProj : Cert.quiescent_RefOutProjIdeal (hRefOutProjIdeal := Cert.RefOutProjIdeal.Gen.facts) := fun m ρ _ =>
  (θ_run Cert.RefOutProjIdeal.defs _ _).mono (fun r h => ⟨fun c => (h c).2, sem_eq_zero_of_no_sems (by decide) r.2⟩) (Cert.RefOutProjIdeal.Steps.run m ρ)

/-- The reference program for the gate's up projection ends with its arguments unchanged and every counter at zero. -/
theorem frameUpGate : Cert.quiescent_RefUpGateIdeal (hRefUpGateIdeal := Cert.RefUpGateIdeal.Gen.facts) := fun m ρ _ =>
  (θ_run Cert.RefUpGateIdeal.defs _ _).mono (fun r h => ⟨fun c => (h c).2, sem_eq_zero_of_no_sems (by decide) r.2⟩) (Cert.RefUpGateIdeal.Steps.run m ρ)

/-- The reference program for the value's up projection ends with its arguments unchanged and every counter at zero. -/
theorem frameUpVal : Cert.quiescent_RefUpValIdeal (hRefUpValIdeal := Cert.RefUpValIdeal.Gen.facts) := fun m ρ _ =>
  (θ_run Cert.RefUpValIdeal.defs _ _).mono (fun r h => ⟨fun c => (h c).2, sem_eq_zero_of_no_sems (by decide) r.2⟩) (Cert.RefUpValIdeal.Steps.run m ρ)

/-- The reference program for the down projection ends with its arguments unchanged and every counter at zero. -/
theorem frameDown : Cert.quiescent_RefDownIdeal (hRefDownIdeal := Cert.RefDownIdeal.Gen.facts) := fun m ρ _ =>
  (θ_run Cert.RefDownIdeal.defs _ _).mono (fun r h => ⟨fun c => (h c).2, sem_eq_zero_of_no_sems (by decide) r.2⟩) (Cert.RefDownIdeal.Steps.run m ρ)

/-- Every claim of this certificate. -/
theorem claim : Cert.Claim := ⟨Cert.BwdQ.Gen.facts, Cert.BwdQIdeal.Gen.facts, Cert.RefQIdeal.Gen.facts, Cert.BwdKv.Gen.facts, Cert.BwdKvIdeal.Gen.facts, Cert.RefKvIdeal.Gen.facts, Cert.Fwd.Gen.facts, Cert.FwdIdeal.Gen.facts, Cert.RefFwdIdeal.Gen.facts, Cert.DwDown.Gen.facts, Cert.DwDownIdeal.Gen.facts, Cert.RefDwDownIdeal.Gen.facts, Cert.Dact.Gen.facts, Cert.DactIdeal.Gen.facts, Cert.RefDactIdeal.Gen.facts, Cert.DwUp.Gen.facts, Cert.DwUpIdeal.Gen.facts, Cert.RefDwUpIdeal.Gen.facts, Cert.DxUp.Gen.facts, Cert.DxUpIdeal.Gen.facts, Cert.RefDxUpIdeal.Gen.facts, Cert.DwOut.Gen.facts, Cert.DwOutIdeal.Gen.facts, Cert.RefDwOutIdeal.Gen.facts, Cert.Dmerged.Gen.facts, Cert.DmergedIdeal.Gen.facts, Cert.RefDmergedIdeal.Gen.facts, Cert.DwProj.Gen.facts, Cert.DwProjIdeal.Gen.facts, Cert.RefDwProjIdeal.Gen.facts, Cert.DyProj.Gen.facts, Cert.DyProjIdeal.Gen.facts, Cert.RefDyProjIdeal.Gen.facts, Cert.DyProjB.Gen.facts, Cert.DyProjBIdeal.Gen.facts, Cert.RefDyProjBIdeal.Gen.facts, Cert.DwIn.Gen.facts, Cert.DwInIdeal.Gen.facts, Cert.RefDwInIdeal.Gen.facts, Cert.DxIn.Gen.facts, Cert.DxInIdeal.Gen.facts, Cert.RefDxInIdeal.Gen.facts, Cert.OutProj.Gen.facts, Cert.OutProjIdeal.Gen.facts, Cert.RefOutProjIdeal.Gen.facts, Cert.UpGate.Gen.facts, Cert.UpGateIdeal.Gen.facts, Cert.RefUpGateIdeal.Gen.facts, Cert.UpVal.Gen.facts, Cert.UpValIdeal.Gen.facts, Cert.RefUpValIdeal.Gen.facts, Cert.Down.Gen.facts, Cert.DownIdeal.Gen.facts, Cert.RefDownIdeal.Gen.facts, Cert.Pre_finite.Gen.facts, Cert.Pre_finite_fwd.Gen.facts,
  fun m ρ _ => Cert.BwdQ.Gen.frame m ρ,
  fun m ρ _ => Cert.BwdQIdeal.Gen.frame m ρ,
  fun m ρ _ => Cert.BwdQIdeal.Gen.frame m ρ,
  frameQ,
  fun m ρ _ => frameQ m ρ trivial,
  fun m ρ _ => Cert.BwdKv.Gen.frame m ρ,
  fun m ρ _ => Cert.BwdKvIdeal.Gen.frame m ρ,
  fun m ρ _ => Cert.BwdKvIdeal.Gen.frame m ρ,
  frameKv,
  fun m ρ _ => frameKv m ρ trivial,
  fun m ρ _ => Cert.Fwd.Gen.frame m ρ,
  fun m ρ _ => Cert.FwdIdeal.Gen.frame m ρ,
  fun m ρ _ => Cert.FwdIdeal.Gen.frame m ρ,
  frameFwd,
  fun m ρ _ => frameFwd m ρ trivial,
  fun m ρ _ => Cert.DwDown.Gen.frame m ρ,
  fun m ρ _ => Cert.DwDownIdeal.Gen.frame m ρ,
  frameDwDown,
  fun m ρ _ => Cert.Dact.Gen.frame m ρ,
  fun m ρ _ => Cert.DactIdeal.Gen.frame m ρ,
  frameDact,
  fun m ρ _ => Cert.DwUp.Gen.frame m ρ,
  fun m ρ _ => Cert.DwUpIdeal.Gen.frame m ρ,
  frameDwUp,
  fun m ρ _ => Cert.DxUp.Gen.frame m ρ,
  fun m ρ _ => Cert.DxUpIdeal.Gen.frame m ρ,
  frameDxUp,
  fun m ρ _ => Cert.DwOut.Gen.frame m ρ,
  fun m ρ _ => Cert.DwOutIdeal.Gen.frame m ρ,
  frameDwOut,
  fun m ρ _ => Cert.Dmerged.Gen.frame m ρ,
  fun m ρ _ => Cert.DmergedIdeal.Gen.frame m ρ,
  frameDmerged,
  fun m ρ _ => Cert.DwProj.Gen.frame m ρ,
  fun m ρ _ => Cert.DwProjIdeal.Gen.frame m ρ,
  frameDwProj,
  fun m ρ _ => Cert.DyProj.Gen.frame m ρ,
  fun m ρ _ => Cert.DyProjIdeal.Gen.frame m ρ,
  frameDyProj,
  fun m ρ _ => Cert.DyProjB.Gen.frame m ρ,
  fun m ρ _ => Cert.DyProjBIdeal.Gen.frame m ρ,
  frameDyProjB,
  fun m ρ _ => Cert.DwIn.Gen.frame m ρ,
  fun m ρ _ => Cert.DwInIdeal.Gen.frame m ρ,
  frameDwIn,
  fun m ρ _ => Cert.DxIn.Gen.frame m ρ,
  fun m ρ _ => Cert.DxInIdeal.Gen.frame m ρ,
  frameDxIn,
  fun m ρ _ => Cert.OutProj.Gen.frame m ρ,
  fun m ρ _ => Cert.OutProjIdeal.Gen.frame m ρ,
  frameOutProj,
  fun m ρ _ => Cert.UpGate.Gen.frame m ρ,
  fun m ρ _ => Cert.UpGateIdeal.Gen.frame m ρ,
  frameUpGate,
  fun m ρ _ => Cert.UpVal.Gen.frame m ρ,
  fun m ρ _ => Cert.UpValIdeal.Gen.frame m ρ,
  frameUpVal,
  fun m ρ _ => Cert.Down.Gen.frame m ρ,
  fun m ρ _ => Cert.DownIdeal.Gen.frame m ρ,
  frameDown,
  IdealRules.named_const.statement Cert.BwdQIdeal.κ "s" .f32 0x3DB504F3#32 (((Real.sqrt 128)⁻¹ : ℝ) : EReal) rfl,
  Cert.Proof.algebraicQ,
  IdealRules.named_const.statement Cert.BwdKvIdeal.κ "s" .f32 0x3DB504F3#32 (((Real.sqrt 128)⁻¹ : ℝ) : EReal) rfl,
  Cert.ProofKv.algebraicKv,
  ⟨IdealRules.named_const.statement Cert.FwdIdeal.κ "mask" .f32 0xF149F2CA#32 ⊥ rfl, IdealRules.named_const.statement Cert.FwdIdeal.κ "s" .f32 0x3DB504F3#32 (((Real.sqrt 128)⁻¹ : ℝ) : EReal) rfl⟩,
  Cert.ProofFwd.algebraicFwd,
  trivial,
  Cert.ProofMm.algebraicDwDown,
  trivial,
  Cert.ProofMm.algebraicDact,
  trivial,
  Cert.ProofMm.algebraicDwUp,
  trivial,
  Cert.ProofMm.algebraicDxUp,
  trivial,
  Cert.ProofMm.algebraicDwOut,
  trivial,
  Cert.ProofMm.algebraicDmerged,
  trivial,
  Cert.ProofMm.algebraicDwProj,
  trivial,
  Cert.ProofMm.algebraicDyProj,
  trivial,
  Cert.ProofMm.algebraicDyProjB,
  trivial,
  Cert.ProofMm.algebraicDwIn,
  trivial,
  Cert.ProofMm.algebraicDxIn,
  trivial,
  Cert.ProofMm.algebraicOutProj,
  trivial,
  Cert.ProofMm.algebraicUpGate,
  trivial,
  Cert.ProofMm.algebraicUpVal,
  trivial,
  Cert.ProofMm.algebraicDown⟩

end Cert.Proof

end
